-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_scores [hPre_finite_scores : Cert.Pre_finite_scores.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_scores.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_scores [hPre_finite_scores : Cert.Pre_finite_scores.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_scores.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_norm [hPre_finite_norm : Cert.Pre_finite_norm.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_norm [hPre_finite_norm : Cert.Pre_finite_norm.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_norm_res [hPre_finite_norm_res : Cert.Pre_finite_norm_res.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_norm_res.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_norm_res [hPre_finite_norm_res : Cert.Pre_finite_norm_res.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_norm_res.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_pool [hPre_finite_pool : Cert.Pre_finite_pool.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_pool.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_pool [hPre_finite_pool : Cert.Pre_finite_pool.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_pool.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Kernel14Ideal_pre_finite_scores [hKernel14Ideal : Cert.Kernel14Ideal.Facts] [hPre_finite_scores : Cert.Pre_finite_scores.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_scores m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Reference14Ideal_pre_finite_scores [hReference14Ideal : Cert.Reference14Ideal.Facts] [hPre_finite_scores : Cert.Pre_finite_scores.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_scores m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite_norm [hKernel18Ideal : Cert.Kernel18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_norm m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite_norm [hReference18Ideal : Cert.Reference18Ideal.Facts] [hPre_finite_norm : Cert.Pre_finite_norm.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_norm m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite_norm_res [hKernel19Ideal : Cert.Kernel19Ideal.Facts] [hPre_finite_norm_res : Cert.Pre_finite_norm_res.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_norm_res m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite_norm_res [hReference19Ideal : Cert.Reference19Ideal.Facts] [hPre_finite_norm_res : Cert.Pre_finite_norm_res.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_norm_res m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite_pool [hKernel22Ideal : Cert.Kernel22Ideal.Facts] [hPre_finite_pool : Cert.Pre_finite_pool.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_pool m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite_pool [hReference22Ideal : Cert.Reference22Ideal.Facts] [hPre_finite_pool : Cert.Pre_finite_pool.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_pool m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)) (v5 : (c : Dev Cert.KernelIdeal.nD) → Buf (Elt Ideal) ((c.tc : Thread Cert.KernelIdeal.nD Cert.KernelIdeal.τ).loc Cert.KernelIdeal.main_v55_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_v55_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_v34) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite_scores [hKernel14Ideal : Cert.Kernel14Ideal.Facts] [hReference14Ideal : Cert.Reference14Ideal.Facts] [hPre_finite_scores : Cert.Pre_finite_scores.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_scores m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v54) = v0 c
          ∧ r.2.mem ((c.tc : Thread Cert.Reference14Ideal.nD Cert.Reference14Ideal.τ).loc Cert.Reference14Ideal.main_v56) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_v37) = v2 c
          ∧ r.2.mem ((c.tc : Thread Cert.Reference15Ideal.nD Cert.Reference15Ideal.τ).loc Cert.Reference15Ideal.main_v47) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v7) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite_norm [hKernel18Ideal : Cert.Kernel18Ideal.Facts] [hReference18Ideal : Cert.Reference18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_norm m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v65) = v0 c
          ∧ r.2.mem ((c.tc : Thread Cert.Reference18Ideal.nD Cert.Reference18Ideal.τ).loc Cert.Reference18Ideal.main_v66) = v1 c
          ∧ r.2.mem ((c.tc : Thread Cert.Reference18Ideal.nD Cert.Reference18Ideal.τ).loc Cert.Reference18Ideal.main_v67) = v2 c
          ∧ r.2.mem ((c.tc : Thread Cert.Reference18Ideal.nD Cert.Reference18Ideal.τ).loc Cert.Reference18Ideal.main_v68) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_pre_finite_norm_res [hKernel19Ideal : Cert.Kernel19Ideal.Facts] [hReference19Ideal : Cert.Reference19Ideal.Facts] [hPre_finite_norm_res : Cert.Pre_finite_norm_res.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_norm_res m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v70) = v0 c
          ∧ r.2.mem ((c.tc : Thread Cert.Reference19Ideal.nD Cert.Reference19Ideal.τ).loc Cert.Reference19Ideal.main_v71) = v1 c
          ∧ r.2.mem ((c.tc : Thread Cert.Reference19Ideal.nD Cert.Reference19Ideal.τ).loc Cert.Reference19Ideal.main_v72) = v2 c
          ∧ r.2.mem ((c.tc : Thread Cert.Reference19Ideal.nD Cert.Reference19Ideal.τ).loc Cert.Reference19Ideal.main_v73) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)) (v2 : (c : Dev Cert.Kernel20Ideal.nD) → Buf (Elt Ideal) ((c.tc : Thread Cert.Kernel20Ideal.nD Cert.Kernel20Ideal.τ).loc Cert.Kernel20Ideal.main_v2_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_v2_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v105) = v0 c
          ∧ r.2.mem ((c.tc : Thread Cert.Reference20Ideal.nD Cert.Reference20Ideal.τ).loc Cert.Reference20Ideal.main_v106) = v1 c
          ∧ r.2.mem ((c.tc : Thread Cert.Reference20Ideal.nD Cert.Reference20Ideal.τ).loc Cert.Reference20Ideal.main_v107) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_v15) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal_pre_finite_pool [hKernel22Ideal : Cert.Kernel22Ideal.Facts] [hReference22Ideal : Cert.Reference22Ideal.Facts] [hPre_finite_pool : Cert.Pre_finite_pool.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_pool m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v93) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_operands : Cert.Pre_finite_operands.Facts) (hPre_finite_scores : Cert.Pre_finite_scores.Facts) (hPre_finite_norm : Cert.Pre_finite_norm.Facts) (hPre_finite_norm_res : Cert.Pre_finite_norm_res.Facts) (hPre_finite_pool : Cert.Pre_finite_pool.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_scores (hKernel14Ideal := hKernel14Ideal) (hPre_finite_scores := hPre_finite_scores)
    ∧ quiescent_Reference14Ideal (hReference14Ideal := hReference14Ideal)
    ∧ quiescent_Reference14Ideal_pre_finite_scores (hReference14Ideal := hReference14Ideal) (hPre_finite_scores := hPre_finite_scores)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_norm (hKernel18Ideal := hKernel18Ideal) (hPre_finite_norm := hPre_finite_norm)
    ∧ quiescent_Reference18Ideal (hReference18Ideal := hReference18Ideal)
    ∧ quiescent_Reference18Ideal_pre_finite_norm (hReference18Ideal := hReference18Ideal) (hPre_finite_norm := hPre_finite_norm)
    ∧ quiescent_Kernel19 (hKernel19 := hKernel19)
    ∧ quiescent_Kernel19Ideal (hKernel19Ideal := hKernel19Ideal)
    ∧ quiescent_Kernel19Ideal_pre_finite_norm_res (hKernel19Ideal := hKernel19Ideal) (hPre_finite_norm_res := hPre_finite_norm_res)
    ∧ quiescent_Reference19Ideal (hReference19Ideal := hReference19Ideal)
    ∧ quiescent_Reference19Ideal_pre_finite_norm_res (hReference19Ideal := hReference19Ideal) (hPre_finite_norm_res := hPre_finite_norm_res)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_pool (hKernel22Ideal := hKernel22Ideal) (hPre_finite_pool := hPre_finite_pool)
    ∧ quiescent_Reference22Ideal (hReference22Ideal := hReference22Ideal)
    ∧ quiescent_Reference22Ideal_pre_finite_pool (hReference22Ideal := hReference22Ideal) (hPre_finite_pool := hPre_finite_pool)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_scores (hKernel14Ideal := hKernel14Ideal) (hReference14Ideal := hReference14Ideal) (hPre_finite_scores := hPre_finite_scores)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_norm (hKernel18Ideal := hKernel18Ideal) (hReference18Ideal := hReference18Ideal) (hPre_finite_norm := hPre_finite_norm)
    ∧ preserves_Kernel19_Kernel19Ideal
    ∧ algebraic_Kernel19Ideal_Reference19Ideal_pre_finite_norm_res (hKernel19Ideal := hKernel19Ideal) (hReference19Ideal := hReference19Ideal) (hPre_finite_norm_res := hPre_finite_norm_res)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_pool (hKernel22Ideal := hKernel22Ideal) (hReference22Ideal := hReference22Ideal) (hPre_finite_pool := hPre_finite_pool)
-- ==== Pre_finite_norm.lean ====
abbrev S2048x1024 : Shape := ⟨2, ![2048, 1024]⟩
abbrev S4x1024 : Shape := ⟨2, ![4, 1024]⟩
abbrev S_ : Shape := ⟨0, ![]⟩
abbrev S1x1024 : Shape := ⟨2, ![1, 1024]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S4x1024_S1x1024_0_0 : S4x1024.Slices ![0, 0] S1x1024
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .f32) (main_arg1 : FVec F S2048x1024 .f32) (main_arg2 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := (extractStridedSlice S1x1024 ![0, 0] · slices_S4x1024_S1x1024_0_0) main_arg2
  let main_v5 : FVec F S1x1024 .f32 := Host.absf main_v4
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v3 main_v8
  main_v9
-- ==== Pre_finite_norm_res.lean ====
abbrev S2048x1024 : Shape := ⟨2, ![2048, 1024]⟩
abbrev S4x1024 : Shape := ⟨2, ![4, 1024]⟩
abbrev S_ : Shape := ⟨0, ![]⟩
abbrev S1x1024 : Shape := ⟨2, ![1, 1024]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S4x1024_S1x1024_0_0 : S4x1024.Slices ![0, 0] S1x1024
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .f32) (main_arg1 : FVec F S2048x1024 .f32) (main_arg2 : FVec F S2048x1024 .f32) (main_arg3 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := (extractStridedSlice S1x1024 ![0, 0] · slices_S4x1024_S1x1024_0_0) main_arg3
  let main_v5 : FVec F S1x1024 .f32 := Host.absf main_v4
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v3 main_v8
  let main_v10 : FVec F S2048x1024 .f32 := Host.absf main_arg1
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  main_v14
-- ==== Pre_finite_operands.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S2048x1024 : Shape := ⟨2, ![2048, 1024]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x32 : S_.BroadcastsInDim S2048x32 (![] : Fin 0 → Fin S2048x32.rank)
  reducesTo_S2048x32_S_d0_1 : S2048x32.ReducesTo [0, 1] S_
  bcast_S_S8x384x192 : S_.BroadcastsInDim S8x384x192 (![] : Fin 0 → Fin S8x384x192.rank)
  reducesTo_S8x384x192_S_d0_1_2 : S8x384x192.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_

variable [Facts]

def fn_part1 {F : FTy → Type} [FloatOps F] (main_arg4 : FVec F S2048x32 .f32) (main_arg5 : FVec F S8x384x192 .bf16) (main_arg6 : FVec F S8x256x256 .bf16) (main_v3 : IVec S_ 1) (main_v7 : IVec S_ 1) (main_v11 : IVec S_ 1) (main_v15 : IVec S_ 1) : IVec S_ 1 :=
  let main_v16 : FVec F S2048x32 .f32 := Host.absf main_arg4
  let main_cst_6 : FVec F S_ .f32 := constant S_ .f32 0x7F800000#32
  let main_v17 : FVec F S2048x32 .f32 := broadcastInDim S2048x32 ![] bcast_S_S2048x32 main_cst_6
  let main_v18 : IVec S2048x32 1 := cmpf .olt main_v16 main_v17
  let main_c_7 : IVec S_ 1 := constantI S_ 1 1#1
  let main_v19 : IVec S_ 1 := (fun x v => Host.reduce IntOp.andi x v reducesTo_S2048x32_S_d0_1 h_S_) main_v18 main_c_7
  let main_v20 : FVec F S8x384x192 .bf16 := Host.absf main_arg5
  let main_cst_8 : FVec F S_ .bf16 := constant S_ .bf16 0x7F80#16
  let main_v21 : FVec F S8x384x192 .bf16 := broadcastInDim S8x384x192 ![] bcast_S_S8x384x192 main_cst_8
  let main_v22 : IVec S8x384x192 1 := cmpf .olt main_v20 main_v21
  let main_c_9 : IVec S_ 1 := constantI S_ 1 1#1
  let main_v23 : IVec S_ 1 := (fun x v => Host.reduce IntOp.andi x v reducesTo_S8x384x192_S_d0_1_2 h_S_) main_v22 main_c_9
  let main_v24 : FVec F S8x256x256 .bf16 := Host.absf main_arg6
  let main_cst_10 : FVec F S_ .bf16 := constant S_ .bf16 0x7F80#16
  let main_v25 : FVec F S8x256x256 .bf16 := broadcastInDim S8x256x256 ![] bcast_S_S8x256x256 main_cst_10
  let main_v26 : IVec S8x256x256 1 := cmpf .olt main_v24 main_v25
  let main_c_11 : IVec S_ 1 := constantI S_ 1 1#1
  let main_v27 : IVec S_ 1 := (fun x v => Host.reduce IntOp.andi x v reducesTo_S8x256x256_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x384 .bf16) (main_arg1 : FVec F S2048x256 .bf16) (main_arg2 : FVec F S2048x64 .f32) (main_arg3 : FVec F S2048x32 .f32) (main_arg4 : FVec F S2048x32 .f32) (main_arg5 : FVec F S8x384x192 .bf16) (main_arg6 : FVec F S8x256x256 .bf16) (main_arg7 : FVec F S8x128x1024 .bf16) (main_arg8 : FVec F S2048x1024 .bf16) : IVec S_ 1 :=
  let main_v0 : FVec F S2048x384 .bf16 := Host.absf main_arg0
  let main_cst : FVec F S_ .bf16 := constant S_ .bf16 0x7F80#16
  let main_v1 : FVec F S2048x384 .bf16 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S2048x256 .bf16 := Host.absf main_arg1
  let main_cst_0 : FVec F S_ .bf16 := constant S_ .bf16 0x7F80#16
  let main_v5 : FVec F S2048x256 .bf16 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : FVec F S2048x64 .f32 := Host.absf main_arg2
  let main_cst_2 : FVec F S_ .f32 := constant S_ .f32 0x7F800000#32
  let main_v9 : FVec F S2048x64 .f32 := broadcastInDim S2048x64 ![] bcast_S_S2048x64 main_cst_2
  let main_v10 : IVec S2048x64 1 := cmpf .olt main_v8 main_v9
  let main_c_3 : IVec S_ 1 := constantI S_ 1 1#1
  let main_v11 : IVec S_ 1 := (fun x v => Host.reduce IntOp.andi x v reducesTo_S2048x64_S_d0_1 h_S_) main_v10 main_c_3
  let main_v12 : FVec F S2048x32 .f32 := Host.absf main_arg3
  let main_cst_4 : FVec F S_ .f32 := constant S_ .f32 0x7F800000#32
  let main_v13 : FVec F S2048x32 .f32 := broadcastInDim S2048x32 ![] bcast_S_S2048x32 main_cst_4
  let main_v14 : IVec S2048x32 1 := cmpf .olt main_v12 main_v13
  let main_c_5 : IVec S_ 1 := constantI S_ 1 1#1
  let main_v15 : IVec S_ 1 := (fun x v => Host.reduce IntOp.andi x v reducesTo_S2048x32_S_d0_1 h_S_) main_v14 main_c_5
  fn_part1 (F := F) main_arg4 main_arg5 main_arg6 main_v3 main_v7 main_v11 main_v15
-- ==== Pre_finite_pool.lean ====
abbrev S2048x2560 : Shape := ⟨2, ![2048, 2560]⟩
abbrev S2x4x128x128 : Shape := ⟨4, ![2, 4, 128, 128]⟩
abbrev S2x512 : Shape := ⟨2, ![2, 512]⟩
abbrev S2048x512 : Shape := ⟨2, ![2048, 512]⟩
abbrev S_ : Shape := ⟨0, ![]⟩

class Facts : Prop where
  slices_S2048x2560_S2048x512_0_0 : S2048x2560.Slices ![0, 0] S2048x512
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x2560 .f32) (main_arg1 : FVec F S2x4x128x128 .f32) (main_arg2 : FVec F S2x512 .f32) : IVec S_ 1 :=
  let main_v0 : FVec F S2048x512 .f32 := (extractStridedSlice S2048x512 ![0, 0] · slices_S2048x2560_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  main_v4
-- ==== Pre_finite_scores.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x32 : S_.BroadcastsInDim S2048x32 (![] : Fin 0 → Fin S2048x32.rank)
  reducesTo_S2048x32_S_d0_1 : S2048x32.ReducesTo [0, 1] S_
  bcast_S_S8x384x192 : S_.BroadcastsInDim S8x384x192 (![] : Fin 0 → Fin S8x384x192.rank)
  reducesTo_S8x384x192_S_d0_1_2 : S8x384x192.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_

variable [Facts]

def fn_part1 {F : FTy → Type} [FloatOps F] (main_arg4 : FVec F S2048x32 .f32) (main_arg5 : FVec F S8x384x192 .bf16) (main_arg6 : FVec F S8x256x256 .bf16) (main_v3 : IVec S_ 1) (main_v7 : IVec S_ 1) (main_v11 : IVec S_ 1) (main_v15 : IVec S_ 1) : IVec S_ 1 :=
  let main_v16 : FVec F S2048x32 .f32 := Host.absf main_arg4
  let main_cst_6 : FVec F S_ .f32 := constant S_ .f32 0x7F800000#32
  let main_v17 : FVec F S2048x32 .f32 := broadcastInDim S2048x32 ![] bcast_S_S2048x32 main_cst_6
  let main_v18 : IVec S2048x32 1 := cmpf .olt main_v16 main_v17
  let main_c_7 : IVec S_ 1 := constantI S_ 1 1#1
  let main_v19 : IVec S_ 1 := (fun x v => Host.reduce IntOp.andi x v reducesTo_S2048x32_S_d0_1 h_S_) main_v18 main_c_7
  let main_v20 : FVec F S8x384x192 .bf16 := Host.absf main_arg5
  let main_cst_8 : FVec F S_ .bf16 := constant S_ .bf16 0x7F80#16
  let main_v21 : FVec F S8x384x192 .bf16 := broadcastInDim S8x384x192 ![] bcast_S_S8x384x192 main_cst_8
  let main_v22 : IVec S8x384x192 1 := cmpf .olt main_v20 main_v21
  let main_c_9 : IVec S_ 1 := constantI S_ 1 1#1
  let main_v23 : IVec S_ 1 := (fun x v => Host.reduce IntOp.andi x v reducesTo_S8x384x192_S_d0_1_2 h_S_) main_v22 main_c_9
  let main_v24 : FVec F S8x256x256 .bf16 := Host.absf main_arg6
  let main_cst_10 : FVec F S_ .bf16 := constant S_ .bf16 0x7F80#16
  let main_v25 : FVec F S8x256x256 .bf16 := broadcastInDim S8x256x256 ![] bcast_S_S8x256x256 main_cst_10
  let main_v26 : IVec S8x256x256 1 := cmpf .olt main_v24 main_v25
  let main_c_11 : IVec S_ 1 := constantI S_ 1 1#1
  let main_v27 : IVec S_ 1 := (fun x v => Host.reduce IntOp.andi x v reducesTo_S8x256x256_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x384 .bf16) (main_arg1 : FVec F S2048x256 .bf16) (main_arg2 : FVec F S2048x64 .f32) (main_arg3 : FVec F S2048x32 .f32) (main_arg4 : FVec F S2048x32 .f32) (main_arg5 : FVec F S8x384x192 .bf16) (main_arg6 : FVec F S8x256x256 .bf16) (main_arg7 : FVec F S8x128x1024 .bf16) : IVec S_ 1 :=
  let main_v0 : FVec F S2048x384 .bf16 := Host.absf main_arg0
  let main_cst : FVec F S_ .bf16 := constant S_ .bf16 0x7F80#16
  let main_v1 : FVec F S2048x384 .bf16 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S2048x256 .bf16 := Host.absf main_arg1
  let main_cst_0 : FVec F S_ .bf16 := constant S_ .bf16 0x7F80#16
  let main_v5 : FVec F S2048x256 .bf16 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : FVec F S2048x64 .f32 := Host.absf main_arg2
  let main_cst_2 : FVec F S_ .f32 := constant S_ .f32 0x7F800000#32
  let main_v9 : FVec F S2048x64 .f32 := broadcastInDim S2048x64 ![] bcast_S_S2048x64 main_cst_2
  let main_v10 : IVec S2048x64 1 := cmpf .olt main_v8 main_v9
  let main_c_3 : IVec S_ 1 := constantI S_ 1 1#1
  let main_v11 : IVec S_ 1 := (fun x v => Host.reduce IntOp.andi x v reducesTo_S2048x64_S_d0_1 h_S_) main_v10 main_c_3
  let main_v12 : FVec F S2048x32 .f32 := Host.absf main_arg3
  let main_cst_4 : FVec F S_ .f32 := constant S_ .f32 0x7F800000#32
  let main_v13 : FVec F S2048x32 .f32 := broadcastInDim S2048x32 ![] bcast_S_S2048x32 main_cst_4
  let main_v14 : IVec S2048x32 1 := cmpf .olt main_v12 main_v13
  let main_c_5 : IVec S_ 1 := constantI S_ 1 1#1
  let main_v15 : IVec S_ 1 := (fun x v => Host.reduce IntOp.andi x v reducesTo_S2048x32_S_d0_1 h_S_) main_v14 main_c_5
  fn_part1 (F := F) main_arg4 main_arg5 main_arg6 main_v3 main_v7 main_v11 main_v15
-- ==== Kernel.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S2048x1024 : Shape := ⟨2, ![2048, 1024]⟩
abbrev S8x192x2048 : Shape := ⟨3, ![8, 192, 2048]⟩
abbrev S8x2048x192 : Shape := ⟨3, ![8, 2048, 192]⟩
abbrev S8x256x2048 : Shape := ⟨3, ![8, 256, 2048]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x32 : Shape := ⟨3, ![8, 2048, 32]⟩
abbrev S1x2048x32 : Shape := ⟨3, ![1, 2048, 32]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S1x384x192 : Shape := ⟨3, ![1, 384, 192]⟩
abbrev S1x256x256 : Shape := ⟨3, ![1, 256, 256]⟩
abbrev S1x128x1024 : Shape := ⟨3, ![1, 128, 1024]⟩
abbrev S1x2048x128 : Shape := ⟨3, ![1, 2048, 128]⟩
abbrev S256x2048 : Shape := ⟨2, ![256, 2048]⟩
abbrev S128x2048 : Shape := ⟨2, ![128, 2048]⟩
abbrev S2048x192 : Shape := ⟨2, ![2048, 192]⟩
abbrev S1x384x128 : Shape := ⟨3, ![1, 384, 128]⟩
abbrev S384x128 : Shape := ⟨2, ![384, 128]⟩
abbrev S2048x128 : Shape := ⟨2, ![2048, 128]⟩
abbrev S1x384x64 : Shape := ⟨3, ![1, 384, 64]⟩
abbrev S384x64 : Shape := ⟨2, ![384, 64]⟩
abbrev S1x256x128 : Shape := ⟨3, ![1, 256, 128]⟩
abbrev S256x128 : Shape := ⟨2, ![256, 128]⟩
abbrev S128x1024 : Shape := ⟨2, ![128, 1024]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S192x512 : Shape := ⟨2, ![192, 512]⟩
abbrev S128x512 : Shape := ⟨2, ![128, 512]⟩
abbrev S1024x192 : Shape := ⟨2, ![1024, 192]⟩
abbrev S512x1024 : Shape := ⟨2, ![512, 1024]⟩
abbrev S1024x128 : Shape := ⟨2, ![1024, 128]⟩
abbrev S192x1024 : Shape := ⟨2, ![192, 1024]⟩
abbrev S1536x192 : Shape := ⟨2, ![1536, 192]⟩
abbrev S512x1536 : Shape := ⟨2, ![512, 1536]⟩
abbrev S1536x128 : Shape := ⟨2, ![1536, 128]⟩
abbrev S192x1536 : Shape := ⟨2, ![192, 1536]⟩
abbrev S128x1536 : Shape := ⟨2, ![128, 1536]⟩
abbrev S512x2048 : Shape := ⟨2, ![512, 2048]⟩
abbrev S192x2048 : Shape := ⟨2, ![192, 2048]⟩

abbrev nBuf : Space → Nat
  | .hbm => 95
  | .vmem => 26
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S8x384x192, .bf16⟩
  | .hbm, ⟨6, _⟩ => ⟨S8x256x256, .bf16⟩
  | .hbm, ⟨7, _⟩ => ⟨S8x128x1024, .bf16⟩
  | .hbm, ⟨8, _⟩ => ⟨S2048x1024, .bf16⟩
  | .hbm, ⟨9, _⟩ => ⟨S2048x384, .f32⟩
  | .hbm, ⟨10, _⟩ => ⟨S2048x256, .f32⟩
  | .hbm, ⟨11, _⟩ => ⟨S8x384x192, .f32⟩
  | .hbm, ⟨12, _⟩ => ⟨S8x256x256, .f32⟩
  | .hbm, ⟨13, _⟩ => ⟨S8x192x2048, .f32⟩
  | .hbm, ⟨14, _⟩ => ⟨S8x2048x192, .f32⟩
  | .hbm, ⟨15, _⟩ => ⟨S8x256x2048, .f32⟩
  | .hbm, ⟨16, _⟩ => ⟨S8x2048x256, .f32⟩
  | .hbm, ⟨17, _⟩ => ⟨S8x2048x128, .f32⟩
  | .hbm, ⟨18, _⟩ => ⟨S8x2048x64, .f32⟩
  | .hbm, ⟨19, _⟩ => ⟨S8x2048x32, .f32⟩
  | .hbm, ⟨20, _⟩ => ⟨S8x2048x32, .f32⟩
  | .hbm, ⟨21, _⟩ => ⟨S1x2048x32, .f32⟩
  | .hbm, ⟨22, _⟩ => ⟨S8x2048x32, .f32⟩
  | .hbm, ⟨23, _⟩ => ⟨S8x2048x32, .f32⟩
  | .hbm, ⟨24, _⟩ => ⟨S1x2048x32, .f32⟩
  | .hbm, ⟨25, _⟩ => ⟨S8x2048x32, .f32⟩
  | .hbm, ⟨26, _⟩ => ⟨S8x2048x32, .f32⟩
  | .hbm, ⟨27, _⟩ => ⟨S8x2048x32, .f32⟩
  | .hbm, ⟨28, _⟩ => ⟨S1x2048x32, .f32⟩
  | .hbm, ⟨29, _⟩ => ⟨S8x2048x32, .f32⟩
  | .hbm, ⟨30, _⟩ => ⟨S8x2048x32, .f32⟩
  | .hbm, ⟨31, _⟩ => ⟨S1x2048x32, .f32⟩
  | .hbm, ⟨32, _⟩ => ⟨S8x2048x32, .f32⟩
  | .hbm, ⟨33, _⟩ => ⟨S8x2048x32, .f32⟩
  | .hbm, ⟨34, _⟩ => ⟨S8x2048x32, .f32⟩
  | .hbm, ⟨35, _⟩ => ⟨S8x2048x64, .f32⟩
  | .hbm, ⟨36, _⟩ => ⟨S8x2048x128, .f32⟩
  | .hbm, ⟨37, _⟩ => ⟨S8x2048x128, .f32⟩
  | .hbm, ⟨38, _⟩ => ⟨S2048, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048x2048, .f32⟩
  | .hbm, ⟨62, _⟩ => ⟨S8x2048x2048, .f32⟩
  | .hbm, ⟨63, _⟩ => ⟨S1x2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S_, .f32⟩
  | .hbm, ⟨69, _⟩ => ⟨S_, .f32⟩
  | .hbm, ⟨70, _⟩ => ⟨S8x2048x2048, .i1⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S_, .f32⟩
  | .hbm, ⟨76, _⟩ => ⟨S8x2048, .f32⟩
  | .hbm, ⟨77, _⟩ => ⟨S8x2048, .f32⟩
  | .hbm, ⟨78, _⟩ => ⟨S8x2048x1, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S8x2048x128, .f32⟩
  | .hbm, ⟨88, _⟩ => ⟨S8x2048x128, .bf16⟩
  | .hbm, ⟨89, _⟩ => ⟨S8x128x1024, .bf16⟩
  | .hbm, ⟨90, _⟩ => ⟨S8x384x192, .bf16⟩
  | .hbm, ⟨91, _⟩ => ⟨S8x256x256, .bf16⟩
  | .hbm, ⟨92, _⟩ => ⟨S2048x384, .f32⟩
  | .hbm, ⟨93, _⟩ => ⟨S2048x256, .f32⟩
  | .hbm, ⟨94, _⟩ => ⟨S2048x64, .f32⟩
  | .local _ .vmem, ⟨0, _⟩ => ⟨S2048x384, .bf16⟩
  | .local _ .vmem, ⟨1, _⟩ => ⟨S2048x256, .bf16⟩
  | .local _ .vmem, ⟨2, _⟩ => ⟨S2048x64, .f32⟩
  | .local _ .vmem, ⟨3, _⟩ => ⟨S2048x32, .f32⟩
  | .local _ .vmem, ⟨4, _⟩ => ⟨S2048x32, .f32⟩
  | .local _ .vmem, ⟨5, _⟩ => ⟨S1x384x192, .bf16⟩
  | .local _ .vmem, ⟨6, _⟩ => ⟨S1x384x192, .bf16⟩
  | .local _ .vmem, ⟨7, _⟩ => ⟨S1x256x256, .bf16⟩
  | .local _ .vmem, ⟨8, _⟩ => ⟨S1x256x256, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x384x192, .bf16⟩
  | .local _ .vmem, ⟨17, _⟩ => ⟨S1x384x192, .bf16⟩
  | .local _ .vmem, ⟨18, _⟩ => ⟨S1x256x256, .bf16⟩
  | .local _ .vmem, ⟨19, _⟩ => ⟨S1x256x256, .bf16⟩
  | .local _ .vmem, ⟨20, _⟩ => ⟨S2048x384, .f32⟩
  | .local _ .vmem, ⟨21, _⟩ => ⟨S2048x256, .f32⟩
  | .local _ .vmem, ⟨22, _⟩ => ⟨S2048x64, .f32⟩
  | .local _ .vmem, ⟨23, _⟩ => ⟨S256x2048, .f32⟩
  | .local _ .vmem, ⟨24, _⟩ => ⟨S128x2048, .f32⟩
  | .local _ .vmem, ⟨25, _⟩ => ⟨S2048x192, .f32⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_0 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v41 : Ref sig .tc := ⟨.hbm, 72, rfl⟩
abbrev main_cst_1 : Ref sig .tc := ⟨.hbm, 73, rfl⟩
abbrev main_v42 : Ref sig .tc := ⟨.hbm, 74, rfl⟩
abbrev main_cst_2 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_3 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55_0 : Ref sig .tc := ⟨.hbm, 89, rfl⟩
abbrev main_v55_1 : Ref sig .tc := ⟨.hbm, 90, rfl⟩
abbrev main_v55_2 : Ref sig .tc := ⟨.hbm, 91, rfl⟩
abbrev main_v55_3 : Ref sig .tc := ⟨.hbm, 92, rfl⟩
abbrev main_v55_4 : Ref sig .tc := ⟨.hbm, 93, rfl⟩
abbrev main_v55_5 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v332 : BitVec 1 := Scalar.cmpi .eq arg0 c0_i32
  let v333 : BitVec 32 := Scalar.extui v332
  let c0_i32_170 : BitVec 32 := 0#32
  let v334 : BitVec 1 := Scalar.cmpi .ne v333 c0_i32_170
  v334

def k0_cond2 (i : grid0.Coords) : BitVec 1 :=
  let arg0 : BitVec 32 := BitVec.ofNat 32 (i 0).val
  let c0_i32_171 : BitVec 32 := 0#32
  let v335 : BitVec 1 := Scalar.cmpi .sgt arg0 c0_i32_171
  let v336 : BitVec 32 := Scalar.extui v335
  let c0_i32_172 : BitVec 32 := 0#32
  let v337 : BitVec 1 := Scalar.cmpi .ne v336 c0_i32_172
  v337

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S2048x1024 : Shape := ⟨2, ![2048, 1024]⟩
abbrev S8x192x2048 : Shape := ⟨3, ![8, 192, 2048]⟩
abbrev S8x2048x192 : Shape := ⟨3, ![8, 2048, 192]⟩
abbrev S8x256x2048 : Shape := ⟨3, ![8, 256, 2048]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x32 : Shape := ⟨3, ![8, 2048, 32]⟩
abbrev S1x2048x32 : Shape := ⟨3, ![1, 2048, 32]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S1024x8x128 : Shape := ⟨3, ![1024, 8, 128]⟩
abbrev S2048x8x128 : Shape := ⟨3, ![2048, 8, 128]⟩
abbrev S8x128x2048 : Shape := ⟨3, ![8, 128, 2048]⟩
abbrev S8x192x384 : Shape := ⟨3, ![8, 192, 384]⟩

abbrev nBuf : Space → Nat
  | .hbm => 187
  | .vmem => 0
  | .smem => 0
  | _ => 0

abbrev hbmTy0_0 (i : Nat) : BufTy := match i % 128 with
  | 0 => ⟨S2048x384, .bf16⟩
  | 1 => ⟨S2048x256, .bf16⟩
  | 2 => ⟨S2048x64, .f32⟩
  | 3 => ⟨S2048x32, .f32⟩
  | 4 => ⟨S2048x32, .f32⟩
  | 5 => ⟨S8x384x192, .bf16⟩
  | 6 => ⟨S8x256x256, .bf16⟩
  | 7 => ⟨S8x128x1024, .bf16⟩
  | 8 => ⟨S2048x1024, .bf16⟩
  | 9 => ⟨S2048x384, .f32⟩
  | 10 => ⟨S2048x256, .f32⟩
  | 11 => ⟨S8x384x192, .f32⟩
  | 12 => ⟨S8x256x256, .f32⟩
  | 13 => ⟨S8x128x1024, .f32⟩
  | 14 => ⟨S8x192x2048, .f32⟩
  | 15 => ⟨S8x2048x192, .f32⟩
  | 16 => ⟨S8x256x2048, .f32⟩
  | 17 => ⟨S8x2048x256, .f32⟩
  | 18 => ⟨S8x2048x128, .f32⟩
  | 19 => ⟨S8x2048x64, .f32⟩
  | 20 => ⟨S8x2048x32, .f32⟩
  | 21 => ⟨S8x2048x32, .f32⟩
  | 22 => ⟨S1x2048x32, .f32⟩
  | 23 => ⟨S8x2048x32, .f32⟩
  | 24 => ⟨S8x2048x32, .f32⟩
  | 25 => ⟨S1x2048x32, .f32⟩
  | 26 => ⟨S8x2048x32, .f32⟩
  | 27 => ⟨S8x2048x32, .f32⟩
  | 28 => ⟨S8x2048x32, .f32⟩
  | 29 => ⟨S1x2048x32, .f32⟩
  | 30 => ⟨S8x2048x32, .f32⟩
  | 31 => ⟨S8x2048x32, .f32⟩
  | 32 => ⟨S1x2048x32, .f32⟩
  | 33 => ⟨S8x2048x32, .f32⟩
  | 34 => ⟨S8x2048x32, .f32⟩
  | 35 => ⟨S8x2048x32, .f32⟩
  | 36 => ⟨S8x2048x64, .f32⟩
  | 37 => ⟨S8x2048x128, .f32⟩
  | 38 => ⟨S8x2048x128, .f32⟩
  | 39 => ⟨S2048, .i32⟩
  | 40 => ⟨S_, .i32⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S2048, .i32⟩
  | 49 => ⟨S2048, .i32⟩
  | 50 => ⟨S_, .i32⟩
  | 51 => ⟨S2048, .i32⟩
  | 52 => ⟨S2048, .i1⟩
  | 53 => ⟨S2048, .i1⟩
  | 54 => ⟨S_, .i32⟩
  | 55 => ⟨S2048, .i32⟩
  | 56 => ⟨S2048, .i32⟩
  | 57 => ⟨S2048, .i32⟩
  | 58 => ⟨S8x2048x2048, .f32⟩
  | 59 => ⟨S8x2048x2048, .f32⟩
  | 60 => ⟨S8x2048x2048, .f32⟩
  | 61 => ⟨S_, .f32⟩
  | 62 => ⟨S8x2048x2048, .f32⟩
  | 63 => ⟨S8x2048x2048, .f32⟩
  | 64 => ⟨S1x2048, .i32⟩
  | 65 => ⟨S2048x1, .i32⟩
  | 66 => ⟨S2048x2048, .i32⟩
  | 67 => ⟨S2048x2048, .i32⟩
  | 68 => ⟨S2048x2048, .i1⟩
  | 69 => ⟨S_, .f32⟩
  | 70 => ⟨S_, .f32⟩
  | 71 => ⟨S8x2048x2048, .i1⟩
  | 72 => ⟨S8x2048x2048, .f32⟩
  | 73 => ⟨S8x2048x2048, .f32⟩
  | 74 => ⟨S_, .f32⟩
  | 75 => ⟨S8x2048x2048, .f32⟩
  | 76 => ⟨S_, .f32⟩
  | 77 => ⟨S8x2048, .f32⟩
  | 78 => ⟨S8x2048x1, .f32⟩
  | 79 => ⟨S8x2048x2048, .f32⟩
  | 80 => ⟨S8x2048x2048, .i1⟩
  | 81 => ⟨S8x2048x2048, .f32⟩
  | 82 => ⟨S_, .f32⟩
  | 83 => ⟨S8x2048, .f32⟩
  | 84 => ⟨S_, .f32⟩
  | 85 => ⟨S8x2048, .f32⟩
  | 86 => ⟨S8x2048, .f32⟩
  | 87 => ⟨S_, .f32⟩
  | 88 => ⟨S8x2048, .f32⟩
  | 89 => ⟨S8x2048, .i1⟩
  | 90 => ⟨S_, .f32⟩
  | 91 => ⟨S8x2048, .f32⟩
  | 92 => ⟨S8x2048, .i1⟩
  | 93 => ⟨S_, .f32⟩
  | 94 => ⟨S8x2048, .f32⟩
  | 95 => ⟨S_, .f32⟩
  | 96 => ⟨S8x2048, .f32⟩
  | 97 => ⟨S_, .f32⟩
  | 98 => ⟨S8x2048, .f32⟩
  | 99 => ⟨S8x2048, .f32⟩
  | 100 => ⟨S8x2048, .f32⟩
  | 101 => ⟨S8x2048x1, .f32⟩
  | 102 => ⟨S8x2048x2048, .f32⟩
  | 103 => ⟨S8x2048x2048, .f32⟩
  | 104 => ⟨S8x2048x2048, .f32⟩
  | 105 => ⟨S_, .f32⟩
  | 106 => ⟨S8x2048, .f32⟩
  | 107 => ⟨S8x2048x1, .f32⟩
  | 108 => ⟨S8x2048x2048, .f32⟩
  | 109 => ⟨S8x2048x2048, .f32⟩
  | 110 => ⟨S8x2048x1, .f32⟩
  | 111 => ⟨S_, .f32⟩
  | 112 => ⟨S8x2048x1, .f32⟩
  | 113 => ⟨S8x2048x1, .f32⟩
  | 114 => ⟨S8x2048x128, .f32⟩
  | 115 => ⟨S2048x1024, .f32⟩
  | 116 => ⟨S2048x1024, .f32⟩
  | 117 => ⟨S1024x8x128, .f32⟩
  | 118 => ⟨S8x128x1024, .f32⟩
  | 119 => ⟨S2048x8x128, .f32⟩
  | 120 => ⟨S8x2048x128, .f32⟩
  | 121 => ⟨S8x128x2048, .f32⟩
  | 122 => ⟨S8x2048x128, .f32⟩
  | 123 => ⟨S8x2048x2048, .f32⟩
  | 124 => ⟨S8x2048x2048, .f32⟩
  | 125 => ⟨S8x2048x2048, .f32⟩
  | 126 => ⟨S8x2048x2048, .f32⟩
  | 127 => ⟨S_, .f32⟩
  | _ => ⟨S2048x384, .bf16⟩

abbrev hbmTy0_1 (i : Nat) : BufTy := match i % 128 with
  | 0 => ⟨S8x2048, .f32⟩
  | 1 => ⟨S8x2048x1, .f32⟩
  | 2 => ⟨S8x2048x1, .f32⟩
  | 3 => ⟨S8x2048x2048, .f32⟩
  | 4 => ⟨S8x2048x2048, .f32⟩
  | 5 => ⟨S_, .f32⟩
  | 6 => ⟨S8x2048, .f32⟩
  | 7 => ⟨S8x2048x2048, .f32⟩
  | 8 => ⟨S8x2048x2048, .f32⟩
  | 9 => ⟨S8x2048x2048, .f32⟩
  | 10 => ⟨S_, .f32⟩
  | 11 => ⟨S8x2048x2048, .f32⟩
  | 12 => ⟨S8x2048x2048, .f32⟩
  | 13 => ⟨S_, .f32⟩
  | 14 => ⟨S8x2048x2048, .f32⟩
  | 15 => ⟨S8x2048x2048, .f32⟩
  | 16 => ⟨S2048x64, .f32⟩
  | 17 => ⟨S8x2048x64, .f32⟩
  | 18 => ⟨S8x2048x128, .f32⟩
  | 19 => ⟨S8x2048x128, .f32⟩
  | 20 => ⟨S_, .f32⟩
  | 21 => ⟨S8x2048x256, .f32⟩
  | 22 => ⟨S_, .f32⟩
  | 23 => ⟨S8x2048x256, .f32⟩
  | 24 => ⟨S8x2048x256, .f32⟩
  | 25 => ⟨S8x2048x32, .f32⟩
  | 26 => ⟨S8x2048x32, .f32⟩
  | 27 => ⟨S8x2048x32, .f32⟩
  | 28 => ⟨S8x2048x32, .f32⟩
  | 29 => ⟨S8x2048x32, .f32⟩
  | 30 => ⟨S8x2048x32, .f32⟩
  | 31 => ⟨S8x2048x32, .f32⟩
  | 32 => ⟨S8x2048x32, .f32⟩
  | 33 => ⟨S8x2048x32, .f32⟩
  | 34 => ⟨S8x2048x32, .f32⟩
  | 35 => ⟨S8x2048x32, .f32⟩
  | 36 => ⟨S8x2048x32, .f32⟩
  | 37 => ⟨S8x2048x32, .f32⟩
  | 38 => ⟨S_, .f32⟩
  | 39 => ⟨S8x2048x64, .f32⟩
  | 40 => ⟨S_, .f32⟩
  | 41 => ⟨S8x2048x64, .f32⟩
  | 42 => ⟨S8x2048x64, .f32⟩
  | 43 => ⟨S_, .f32⟩
  | 44 => ⟨S8x2048x192, .f32⟩
  | 45 => ⟨S_, .f32⟩
  | 46 => ⟨S8x2048x192, .f32⟩
  | 47 => ⟨S8x2048x192, .f32⟩
  | 48 => ⟨S8x256x2048, .f32⟩
  | 49 => ⟨S2048x256, .f32⟩
  | 50 => ⟨S8x256x256, .f32⟩
  | 51 => ⟨S8x256x256, .f32⟩
  | 52 => ⟨S8x192x2048, .f32⟩
  | 53 => ⟨S2048x384, .f32⟩
  | 54 => ⟨S8x192x384, .f32⟩
  | 55 => ⟨S8x384x192, .f32⟩
  | 56 => ⟨S8x128x1024, .bf16⟩
  | 57 => ⟨S8x384x192, .bf16⟩
  | 58 => ⟨S8x256x256, .bf16⟩
  | _ => ⟨S2048x384, .bf16⟩

abbrev hbmTy (i : Nat) : BufTy := match i / 128 with
  | 0 => hbmTy0_0 i
  | 1 => hbmTy0_1 i
  | _ => ⟨S2048x384, .bf16⟩

abbrev bufTy : (tb : Table) → Fin (tcTables nBuf tb) → BufTy
  | .hbm, ⟨i, _⟩ => hbmTy i
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_0 : Ref sig .tc := ⟨.hbm, 69, rfl⟩
abbrev main_call1_v0 : Ref sig .tc := ⟨.hbm, 70, rfl⟩
abbrev main_v42_1 : Ref sig .tc := ⟨.hbm, 71, rfl⟩
abbrev main_call1_v2 : Ref sig .tc := ⟨.hbm, 72, rfl⟩
abbrev main_v42_0 : Ref sig .tc := ⟨.hbm, 73, rfl⟩
abbrev main_call1_cst : Ref sig .tc := ⟨.hbm, 74, rfl⟩
abbrev main_v42_2 : Ref sig .tc := ⟨.hbm, 75, rfl⟩
abbrev main_cst_1 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_2 : Ref sig .tc := ⟨.hbm, 82, rfl⟩
abbrev main_v48 : Ref sig .tc := ⟨.hbm, 83, rfl⟩
abbrev main_cst_3 : Ref sig .tc := ⟨.hbm, 84, rfl⟩
abbrev main_v49 : Ref sig .tc := ⟨.hbm, 85, rfl⟩
abbrev main_v50 : Ref sig .tc := ⟨.hbm, 86, rfl⟩
abbrev main_cst_4 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_cst_6 : Ref sig .tc := ⟨.hbm, 93, rfl⟩
abbrev main_v55 : Ref sig .tc := ⟨.hbm, 94, rfl⟩
abbrev main_cst_7 : Ref sig .tc := ⟨.hbm, 95, rfl⟩
abbrev main_v56 : Ref sig .tc := ⟨.hbm, 96, rfl⟩
abbrev main_cst_8 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_9 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_10 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_11 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_12 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call2_cst : Ref sig .tc := ⟨.hbm, 138, rfl⟩
abbrev main_call2_v0 : Ref sig .tc := ⟨.hbm, 139, rfl⟩
abbrev main_v93 : Ref sig .tc := ⟨.hbm, 140, rfl⟩
abbrev main_cst_13 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_14 : Ref sig .tc := ⟨.hbm, 148, rfl⟩
abbrev main_v100 : Ref sig .tc := ⟨.hbm, 149, rfl⟩
abbrev main_cst_15 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_16 : Ref sig .tc := ⟨.hbm, 166, rfl⟩
abbrev main_v116 : Ref sig .tc := ⟨.hbm, 167, rfl⟩
abbrev main_cst_17 : Ref sig .tc := ⟨.hbm, 168, rfl⟩
abbrev main_v117 : Ref sig .tc := ⟨.hbm, 169, rfl⟩
abbrev main_v118 : Ref sig .tc := ⟨.hbm, 170, rfl⟩
abbrev main_cst_18 : Ref sig .tc := ⟨.hbm, 171, rfl⟩
abbrev main_v119 : Ref sig .tc := ⟨.hbm, 172, rfl⟩
abbrev main_cst_19 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1024x512 : Shape := ⟨2, ![1024, 512]⟩
abbrev S1024x1024 : Shape := ⟨2, ![1024, 1024]⟩
abbrev S1x1024x512 : Shape := ⟨3, ![1, 1024, 512]⟩
abbrev S1x512x1024 : Shape := ⟨3, ![1, 512, 1024]⟩
abbrev S512x512 : Shape := ⟨2, ![512, 512]⟩
abbrev S512x1024 : Shape := ⟨2, ![512, 1024]⟩

abbrev nBuf : Space → Nat
  | .hbm => 17
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S1024x8x512, .bf16⟩
  | .hbm, ⟨13, _⟩ => ⟨S8x1024x512, .bf16⟩
  | .hbm, ⟨14, _⟩ => ⟨S8x512x1024, .bf16⟩
  | .hbm, ⟨15, _⟩ => ⟨S2048x4096, .bf16⟩
  | .hbm, ⟨16, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .i1⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S4096x1024, .f32⟩
  | .hbm, ⟨20, _⟩ => ⟨S2048x1024, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel3.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S8x512x1024 : Shape := ⟨3, ![8, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 12
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .bf16⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S1024x4096 : Shape := ⟨2, ![1024, 4096]⟩
abbrev S_ : Shape := ⟨0, ![]⟩
abbrev S4096x1024 : Shape := ⟨2, ![4096, 1024]⟩
abbrev S2048x4096 : Shape := ⟨2, ![2048, 4096]⟩
abbrev S8x512x1024 : Shape := ⟨3, ![8, 512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .bf16⟩
  | .hbm, ⟨3, _⟩ => ⟨S_, .f32⟩
  | .hbm, ⟨4, _⟩ => ⟨S4096x1024, .f32⟩
  | .hbm, ⟨5, _⟩ => ⟨S2048x1024, .f32⟩
  | .hbm, ⟨6, _⟩ => ⟨S1024x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S2048x1024, .f32⟩
  | .hbm, ⟨14, _⟩ => ⟨S1024x4096, .f32⟩
  | .hbm, ⟨15, _⟩ => ⟨S4096x1024, .f32⟩
  | .hbm, ⟨16, _⟩ => ⟨S8x512x1024, .f32⟩
  | .hbm, ⟨17, _⟩ => ⟨S8x512x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4x1x1024 : Shape := ⟨3, ![4, 1, 1024]⟩
abbrev S2048x4096 : Shape := ⟨2, ![2048, 4096]⟩
abbrev S1024x1024 : Shape := ⟨2, ![1024, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩
abbrev S512x512 : Shape := ⟨2, ![512, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 15
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S4096x1024, .bf16⟩
  | .hbm, ⟨3, _⟩ => ⟨S4x1024, .f32⟩
  | .hbm, ⟨4, _⟩ => ⟨S4x1024, .f32⟩
  | .hbm, ⟨5, _⟩ => ⟨S2048x1024, .bf16⟩
  | .hbm, ⟨6, _⟩ => ⟨S1024x8x512, .bf16⟩
  | .hbm, ⟨7, _⟩ => ⟨S8x1024x512, .bf16⟩
  | .hbm, ⟨8, _⟩ => ⟨S8x512x1024, .bf16⟩
  | .hbm, ⟨9, _⟩ => ⟨S4x1x1024, .f32⟩
  | .hbm, ⟨10, _⟩ => ⟨S4x1x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_32 : BitVec 32 := 0#32
  let v41 : BitVec 1 := Scalar.cmpi .ne v40 c0_i32_32
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S_ : Shape := ⟨0, ![]⟩
abbrev S2048x4096 : Shape := ⟨2, ![2048, 4096]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S4096x1024, .bf16⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S1024x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_cst : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S2048x1024 : Shape := ⟨2, ![2048, 1024]⟩
abbrev S2048x2560 : Shape := ⟨2, ![2048, 2560]⟩
abbrev S8x1024x320 : Shape := ⟨3, ![8, 1024, 320]⟩
abbrev S2048x320 : Shape := ⟨2, ![2048, 320]⟩
abbrev S1024x320 : Shape := ⟨2, ![1024, 320]⟩
abbrev S1x1024x320 : Shape := ⟨3, ![1, 1024, 320]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S8x1024x320, .bf16⟩
  | .local _ .vmem, ⟨0, _⟩ => ⟨S2048x1024, .bf16⟩
  | .local _ .vmem, ⟨1, _⟩ => ⟨S2048x2560, .bf16⟩
  | .local _ .vmem, ⟨2, _⟩ => ⟨S8x1024x320, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference6Ideal.lean ====
abbrev S2048x1024 : Shape := ⟨2, ![2048, 1024]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩
abbrev S1024x8x320 : Shape := ⟨3, ![1024, 8, 320]⟩
abbrev S8x1024x320 : Shape := ⟨3, ![8, 1024, 320]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S_, .f32⟩
  | .hbm, ⟨3, _⟩ => ⟨S1024x2560, .f32⟩
  | .hbm, ⟨4, _⟩ => ⟨S2048x1024, .f32⟩
  | .hbm, ⟨5, _⟩ => ⟨S2048x2560, .f32⟩
  | .hbm, ⟨6, _⟩ => ⟨S2048x2560, .f32⟩
  | .hbm, ⟨7, _⟩ => ⟨S2560x1024, .f32⟩
  | .hbm, ⟨8, _⟩ => ⟨S1024x2560, .f32⟩
  | .hbm, ⟨9, _⟩ => ⟨S1024x8x320, .f32⟩
  | .hbm, ⟨10, _⟩ => ⟨S8x1024x320, .f32⟩
  | .hbm, ⟨11, _⟩ => ⟨S8x1024x320, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x1536 : Shape := ⟨2, ![2048, 1536]⟩
abbrev S2048x1024 : Shape := ⟨2, ![2048, 1024]⟩
abbrev S1536x1024 : Shape := ⟨2, ![1536, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S1536x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S_, .f32⟩
  | .hbm, ⟨3, _⟩ => ⟨S1536x1024, .f32⟩
  | .hbm, ⟨4, _⟩ => ⟨S2048x1536, .f32⟩
  | .hbm, ⟨5, _⟩ => ⟨S2048x1024, .f32⟩
  | .hbm, ⟨6, _⟩ => ⟨S2048x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1536x1024 : Shape := ⟨2, ![1536, 1024]⟩
abbrev S2048x1024 : Shape := ⟨2, ![2048, 1024]⟩
abbrev S2048x1536 : Shape := ⟨2, ![2048, 1536]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S1536x1024, .bf16⟩
  | .hbm, ⟨1, _⟩ => ⟨S2048x1024, .bf16⟩
  | .hbm, ⟨2, _⟩ => ⟨S2048x1536, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S1536x1024 : Shape := ⟨2, ![1536, 1024]⟩
abbrev S2048x1024 : Shape := ⟨2, ![2048, 1024]⟩
abbrev S_ : Shape := ⟨0, ![]⟩
abbrev S2048x1536 : Shape := ⟨2, ![2048, 1536]⟩

abbrev nBuf : Space → Nat
  | .hbm => 8
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S2048x1024, .bf16⟩
  | .hbm, ⟨2, _⟩ => ⟨S_, .f32⟩
  | .hbm, ⟨3, _⟩ => ⟨S2048x1536, .f32⟩
  | .hbm, ⟨4, _⟩ => ⟨S1536x1024, .f32⟩
  | .hbm, ⟨5, _⟩ => ⟨S2048x1024, .f32⟩
  | .hbm, ⟨6, _⟩ => ⟨S2048x1024, .f32⟩
  | .hbm, ⟨7, _⟩ => ⟨S2048x1536, .f32⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2560x1024 : Shape := ⟨2, ![2560, 1024]⟩
abbrev S2048x2560 : Shape := ⟨2, ![2048, 2560]⟩
abbrev S2048x1024 : Shape := ⟨2, ![2048, 1024]⟩
abbrev S512x2560 : Shape := ⟨2, ![512, 2560]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2560x1024, .bf16⟩
  | .hbm, ⟨1, _⟩ => ⟨S2048x2560, .bf16⟩
  | .hbm, ⟨2, _⟩ => ⟨S2048x1024, .f32⟩
  | .hbm, ⟨3, _⟩ => ⟨S2048x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2560x1024 : Shape := ⟨2, ![2560, 1024]⟩
abbrev S2048x2560 : Shape := ⟨2, ![2048, 2560]⟩
abbrev S2048x1024 : Shape := ⟨2, ![2048, 1024]⟩
abbrev S_ : Shape := ⟨0, ![]⟩
abbrev S1024x2560 : Shape := ⟨2, ![1024, 2560]⟩

abbrev nBuf : Space → Nat
  | .hbm => 17
  | .vmem => 0
  | .smem => 0
  | _ => 0

abbrev bufTy : (tb : Table) → Fin (tcTables nBuf tb) → BufTy
  | .hbm, ⟨0, _⟩ => ⟨S2560x1024, .bf16⟩
  | .hbm, ⟨1, _⟩ => ⟨S2048x2560, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2560x1024, .f32⟩
  | .hbm, ⟨9, _⟩ => ⟨S1024x2560, .f32⟩
  | .hbm, ⟨10, _⟩ => ⟨S2048x2560, .f32⟩
  | .hbm, ⟨11, _⟩ => ⟨S2048x2560, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | _, _ => ⟨S2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel10.lean ====
abbrev S2048x1024 : Shape := ⟨2, ![2048, 1024]⟩
abbrev S2048x704 : Shape := ⟨2, ![2048, 704]⟩
abbrev S8x128x704 : Shape := ⟨3, ![8, 128, 704]⟩
abbrev S2048x128 : Shape := ⟨2, ![2048, 128]⟩
abbrev S1x128x704 : Shape := ⟨3, ![1, 128, 704]⟩
abbrev S128x704 : Shape := ⟨2, ![128, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x704, .bf16⟩
  | .hbm, ⟨2, _⟩ => ⟨S8x128x704, .bf16⟩
  | .local _ .vmem, ⟨0, _⟩ => ⟨S2048x128, .bf16⟩
  | .local _ .vmem, ⟨1, _⟩ => ⟨S2048x128, .bf16⟩
  | .local _ .vmem, ⟨2, _⟩ => ⟨S2048x704, .bf16⟩
  | .local _ .vmem, ⟨3, _⟩ => ⟨S1x128x704, .bf16⟩
  | .local _ .vmem, ⟨4, _⟩ => ⟨S1x128x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S2048x704 : Shape := ⟨2, ![2048, 704]⟩
abbrev S_ : Shape := ⟨0, ![]⟩
abbrev S1024x704 : Shape := ⟨2, ![1024, 704]⟩
abbrev S704x1024 : Shape := ⟨2, ![704, 1024]⟩
abbrev S8x128x704 : Shape := ⟨3, ![8, 128, 704]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x704, .bf16⟩
  | .hbm, ⟨2, _⟩ => ⟨S_, .f32⟩
  | .hbm, ⟨3, _⟩ => ⟨S1024x704, .f32⟩
  | .hbm, ⟨4, _⟩ => ⟨S2048x1024, .f32⟩
  | .hbm, ⟨5, _⟩ => ⟨S2048x704, .f32⟩
  | .hbm, ⟨6, _⟩ => ⟨S2048x704, .f32⟩
  | .hbm, ⟨7, _⟩ => ⟨S704x1024, .f32⟩
  | .hbm, ⟨8, _⟩ => ⟨S1024x704, .f32⟩
  | .hbm, ⟨9, _⟩ => ⟨S8x128x704, .f32⟩
  | .hbm, ⟨10, _⟩ => ⟨S8x128x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S1024x704 : Shape := ⟨2, ![1024, 704]⟩
abbrev S2048x704 : Shape := ⟨2, ![2048, 704]⟩
abbrev S2048x1024 : Shape := ⟨2, ![2048, 1024]⟩
abbrev S512x704 : Shape := ⟨2, ![512, 704]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x704, .bf16⟩
  | .hbm, ⟨1, _⟩ => ⟨S2048x704, .bf16⟩
  | .hbm, ⟨2, _⟩ => ⟨S2048x1024, .f32⟩
  | .hbm, ⟨3, _⟩ => ⟨S2048x1024, .f32⟩
  | .local _ .vmem, ⟨0, _⟩ => ⟨S512x704, .bf16⟩
  | .local _ .vmem, ⟨1, _⟩ => ⟨S512x704, .bf16⟩
  | .local _ .vmem, ⟨2, _⟩ => ⟨S1024x704, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S1024x704 : Shape := ⟨2, ![1024, 704]⟩
abbrev S2048x704 : Shape := ⟨2, ![2048, 704]⟩
abbrev S2048x1024 : Shape := ⟨2, ![2048, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x704, .bf16⟩
  | .hbm, ⟨1, _⟩ => ⟨S2048x704, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1024x704, .f32⟩
  | .hbm, ⟨9, _⟩ => ⟨S2048x704, .f32⟩
  | .hbm, ⟨10, _⟩ => ⟨S2048x704, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S2048x1024 : Shape := ⟨2, ![2048, 1024]⟩
abbrev S2560x1024 : Shape := ⟨2, ![2560, 1024]⟩
abbrev S2048x2560 : Shape := ⟨2, ![2048, 2560]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2560x1024, .bf16⟩
  | .hbm, ⟨2, _⟩ => ⟨S2048x2560, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x1024 : Shape := ⟨2, ![2048, 1024]⟩
abbrev S2560x1024 : Shape := ⟨2, ![2560, 1024]⟩
abbrev S1024x2560 : Shape := ⟨2, ![1024, 2560]⟩
abbrev S2048x2560 : Shape := ⟨2, ![2048, 2560]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2560x1024, .bf16⟩
  | .hbm, ⟨2, _⟩ => ⟨S2048x1024, .f32⟩
  | .hbm, ⟨3, _⟩ => ⟨S2560x1024, .f32⟩
  | .hbm, ⟨4, _⟩ => ⟨S1024x2560, .f32⟩
  | .hbm, ⟨5, _⟩ => ⟨S2048x2560, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x1024 : Shape := ⟨2, ![2048, 1024]⟩
abbrev S2048x1536 : Shape := ⟨2, ![2048, 1536]⟩
abbrev S1536x1024 : Shape := ⟨2, ![1536, 1024]⟩
abbrev S4x1024 : Shape := ⟨2, ![4, 1024]⟩
abbrev S4x1x1024 : Shape := ⟨3, ![4, 1, 1024]⟩
abbrev S1024x1024 : Shape := ⟨2, ![1024, 1024]⟩
abbrev S1024x1536 : Shape := ⟨2, ![1024, 1536]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1536, .bf16⟩
  | .hbm, ⟨2, _⟩ => ⟨S1536x1024, .bf16⟩
  | .hbm, ⟨3, _⟩ => ⟨S4x1024, .f32⟩
  | .hbm, ⟨4, _⟩ => ⟨S4x1024, .f32⟩
  | .hbm, ⟨5, _⟩ => ⟨S4x1x1024, .f32⟩
  | .hbm, ⟨6, _⟩ => ⟨S4x1x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1536x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x1024 : Shape := ⟨2, ![2048, 1024]⟩
abbrev S2048x1536 : Shape := ⟨2, ![2048, 1536]⟩
abbrev S1536x1024 : Shape := ⟨2, ![1536, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1536, .bf16⟩
  | .hbm, ⟨2, _⟩ => ⟨S1536x1024, .bf16⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1536, .f32⟩
  | .hbm, ⟨9, _⟩ => ⟨S1536x1024, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel14.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S8x2048x128 : Shape := ⟨3, ![8, 2048, 128]⟩
abbrev S2048x1024 : Shape := ⟨2, ![2048, 1024]⟩
abbrev S1x384x192 : Shape := ⟨3, ![1, 384, 192]⟩
abbrev S1x256x256 : Shape := ⟨3, ![1, 256, 256]⟩
abbrev S1x128x1024 : Shape := ⟨3, ![1, 128, 1024]⟩
abbrev S1x2048x128 : Shape := ⟨3, ![1, 2048, 128]⟩
abbrev S1x384x128 : Shape := ⟨3, ![1, 384, 128]⟩
abbrev S384x128 : Shape := ⟨2, ![384, 128]⟩
abbrev S2048x128 : Shape := ⟨2, ![2048, 128]⟩
abbrev S1x384x64 : Shape := ⟨3, ![1, 384, 64]⟩
abbrev S384x64 : Shape := ⟨2, ![384, 64]⟩
abbrev S2048x192 : Shape := ⟨2, ![2048, 192]⟩
abbrev S1x256x128 : Shape := ⟨3, ![1, 256, 128]⟩
abbrev S256x128 : Shape := ⟨2, ![256, 128]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S512x192 : Shape := ⟨2, ![512, 192]⟩
abbrev S256x512 : Shape := ⟨2, ![256, 512]⟩
abbrev S512x128 : Shape := ⟨2, ![512, 128]⟩
abbrev S768x192 : Shape := ⟨2, ![768, 192]⟩
abbrev S256x768 : Shape := ⟨2, ![256, 768]⟩
abbrev S768x128 : Shape := ⟨2, ![768, 128]⟩
abbrev S1024x192 : Shape := ⟨2, ![1024, 192]⟩
abbrev S256x1024 : Shape := ⟨2, ![256, 1024]⟩
abbrev S1024x128 : Shape := ⟨2, ![1024, 128]⟩
abbrev S1280x192 : Shape := ⟨2, ![1280, 192]⟩
abbrev S256x1280 : Shape := ⟨2, ![256, 1280]⟩
abbrev S1280x128 : Shape := ⟨2, ![1280, 128]⟩
abbrev S1536x192 : Shape := ⟨2, ![1536, 192]⟩
abbrev S256x1536 : Shape := ⟨2, ![256, 1536]⟩
abbrev S1536x128 : Shape := ⟨2, ![1536, 128]⟩
abbrev S1792x192 : Shape := ⟨2, ![1792, 192]⟩
abbrev S256x1792 : Shape := ⟨2, ![256, 1792]⟩
abbrev S1792x128 : Shape := ⟨2, ![1792, 128]⟩
abbrev S256x2048 : Shape := ⟨2, ![256, 2048]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S8x384x192, .bf16⟩
  | .hbm, ⟨6, _⟩ => ⟨S8x256x256, .bf16⟩
  | .hbm, ⟨7, _⟩ => ⟨S8x128x1024, .bf16⟩
  | .hbm, ⟨8, _⟩ => ⟨S8x2048x128, .bf16⟩
  | .hbm, ⟨9, _⟩ => ⟨S2048x1024, .f32⟩
  | .local _ .vmem, ⟨0, _⟩ => ⟨S2048x384, .bf16⟩
  | .local _ .vmem, ⟨1, _⟩ => ⟨S2048x256, .bf16⟩
  | .local _ .vmem, ⟨2, _⟩ => ⟨S2048x64, .f32⟩
  | .local _ .vmem, ⟨3, _⟩ => ⟨S2048x32, .f32⟩
  | .local _ .vmem, ⟨4, _⟩ => ⟨S2048x32, .f32⟩
  | .local _ .vmem, ⟨5, _⟩ => ⟨S1x384x192, .bf16⟩
  | .local _ .vmem, ⟨6, _⟩ => ⟨S1x384x192, .bf16⟩
  | .local _ .vmem, ⟨7, _⟩ => ⟨S1x256x256, .bf16⟩
  | .local _ .vmem, ⟨8, _⟩ => ⟨S1x256x256, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x1024, .f32⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v295 : BitVec 1 := Scalar.cmpi .eq arg0 c0_i32
  let v296 : BitVec 32 := Scalar.extui v295
  let c0_i32_110 : BitVec 32 := 0#32
  let v297 : BitVec 1 := Scalar.cmpi .ne v296 c0_i32_110
  v297

def k0_cond2 (i : grid0.Coords) : BitVec 1 :=
  let arg0 : BitVec 32 := BitVec.ofNat 32 (i 0).val
  let c0_i32_111 : BitVec 32 := 0#32
  let v298 : BitVec 1 := Scalar.cmpi .sgt arg0 c0_i32_111
  let v299 : BitVec 32 := Scalar.extui v298
  let c0_i32_112 : BitVec 32 := 0#32
  let v300 : BitVec 1 := Scalar.cmpi .ne v299 c0_i32_112
  v300

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S8x384x192 : Shape := ⟨3, ![8, 384, 192]⟩
abbrev S8x256x256 : Shape := ⟨3, ![8, 256, 256]⟩
abbrev S8x128x1024 : Shape := ⟨3, ![8, 128, 1024]⟩
abbrev S8x192x2048 : Shape := ⟨3, ![8, 192, 2048]⟩
abbrev S8x2048x192 : Shape := ⟨3, ![8, 2048, 192]⟩
abbrev S8x256x2048 : Shape := ⟨3, ![8, 256, 2048]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x32 : Shape := ⟨3, ![8, 2048, 32]⟩
abbrev S1x2048x32 : Shape := ⟨3, ![1, 2048, 32]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S2048x1024 : Shape := ⟨2, ![2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S8x384x192, .bf16⟩
  | .hbm, ⟨6, _⟩ => ⟨S8x256x256, .bf16⟩
  | .hbm, ⟨7, _⟩ => ⟨S8x128x1024, .bf16⟩
  | .hbm, ⟨8, _⟩ => ⟨S2048x384, .f32⟩
  | .hbm, ⟨9, _⟩ => ⟨S2048x256, .f32⟩
  | .hbm, ⟨10, _⟩ => ⟨S8x384x192, .f32⟩
  | .hbm, ⟨11, _⟩ => ⟨S8x256x256, .f32⟩
  | .hbm, ⟨12, _⟩ => ⟨S8x192x2048, .f32⟩
  | .hbm, ⟨13, _⟩ => ⟨S8x2048x192, .f32⟩
  | .hbm, ⟨14, _⟩ => ⟨S8x256x2048, .f32⟩
  | .hbm, ⟨15, _⟩ => ⟨S8x2048x256, .f32⟩
  | .hbm, ⟨16, _⟩ => ⟨S8x2048x128, .f32⟩
  | .hbm, ⟨17, _⟩ => ⟨S8x2048x64, .f32⟩
  | .hbm, ⟨18, _⟩ => ⟨S8x2048x32, .f32⟩
  | .hbm, ⟨19, _⟩ => ⟨S8x2048x32, .f32⟩
  | .hbm, ⟨20, _⟩ => ⟨S1x2048x32, .f32⟩
  | .hbm, ⟨21, _⟩ => ⟨S8x2048x32, .f32⟩
  | .hbm, ⟨22, _⟩ => ⟨S8x2048x32, .f32⟩
  | .hbm, ⟨23, _⟩ => ⟨S1x2048x32, .f32⟩
  | .hbm, ⟨24, _⟩ => ⟨S8x2048x32, .f32⟩
  | .hbm, ⟨25, _⟩ => ⟨S8x2048x32, .f32⟩
  | .hbm, ⟨26, _⟩ => ⟨S8x2048x32, .f32⟩
  | .hbm, ⟨27, _⟩ => ⟨S1x2048x32, .f32⟩
  | .hbm, ⟨28, _⟩ => ⟨S8x2048x32, .f32⟩
  | .hbm, ⟨29, _⟩ => ⟨S8x2048x32, .f32⟩
  | .hbm, ⟨30, _⟩ => ⟨S1x2048x32, .f32⟩
  | .hbm, ⟨31, _⟩ => ⟨S8x2048x32, .f32⟩
  | .hbm, ⟨32, _⟩ => ⟨S8x2048x32, .f32⟩
  | .hbm, ⟨33, _⟩ => ⟨S8x2048x32, .f32⟩
  | .hbm, ⟨34, _⟩ => ⟨S8x2048x64, .f32⟩
  | .hbm, ⟨35, _⟩ => ⟨S8x2048x128, .f32⟩
  | .hbm, ⟨36, _⟩ => ⟨S8x2048x128, .f32⟩
  | .hbm, ⟨37, _⟩ => ⟨S2048, .i32⟩
  | .hbm, ⟨38, _⟩ => ⟨S_, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048x2048, .f32⟩
  | .hbm, ⟨61, _⟩ => ⟨S8x2048x2048, .f32⟩
  | .hbm, ⟨62, _⟩ => ⟨S1x2048, .i32⟩
  | .hbm, ⟨63, _⟩ => ⟨S2048x1, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S_, .f32⟩
  | .hbm, ⟨68, _⟩ => ⟨S_, .f32⟩
  | .hbm, ⟨69, _⟩ => ⟨S8x2048x2048, .i1⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S_, .f32⟩
  | .hbm, ⟨75, _⟩ => ⟨S8x2048, .f32⟩
  | .hbm, ⟨76, _⟩ => ⟨S8x2048, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S8x2048x128, .f32⟩
  | .hbm, ⟨87, _⟩ => ⟨S8x2048x128, .bf16⟩
  | .hbm, ⟨88, _⟩ => ⟨S8x128x1024, .f32⟩
  | .hbm, ⟨89, _⟩ => ⟨S2048x1024, .f32⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_0 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v41 : Ref sig .tc := ⟨.hbm, 71, rfl⟩
abbrev main_cst_1 : Ref sig .tc := ⟨.hbm, 72, rfl⟩
abbrev main_v42 : Ref sig .tc := ⟨.hbm, 73, rfl⟩
abbrev main_cst_2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Kernel15.lean ====
abbrev S2048x1024 : Shape := ⟨2, ![2048, 1024]⟩
abbrev S8x128x704 : Shape := ⟨3, ![8, 128, 704]⟩
abbrev S2x384 : Shape := ⟨2, ![2, 384]⟩
abbrev S2x256 : Shape := ⟨2, ![2, 256]⟩
abbrev S2048x32 : Shape := ⟨2, ![2048, 32]⟩
abbrev S2x1x384 : Shape := ⟨3, ![2, 1, 384]⟩
abbrev S2x1x256 : Shape := ⟨3, ![2, 1, 256]⟩
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S1024x1024 : Shape := ⟨2, ![1024, 1024]⟩
abbrev S1x1x384 : Shape := ⟨3, ![1, 1, 384]⟩
abbrev S1x1x256 : Shape := ⟨3, ![1, 1, 256]⟩
abbrev S1024x32 : Shape := ⟨2, ![1024, 32]⟩
abbrev S1024x704 : Shape := ⟨2, ![1024, 704]⟩
abbrev S1024x384 : Shape := ⟨2, ![1024, 384]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩
abbrev S1x384 : Shape := ⟨2, ![1, 384]⟩
abbrev S1x256 : Shape := ⟨2, ![1, 256]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S8x128x704, .bf16⟩
  | .hbm, ⟨2, _⟩ => ⟨S2x384, .f32⟩
  | .hbm, ⟨3, _⟩ => ⟨S2x256, .f32⟩
  | .hbm, ⟨4, _⟩ => ⟨S2048x32, .f32⟩
  | .hbm, ⟨5, _⟩ => ⟨S2048x32, .f32⟩
  | .hbm, ⟨6, _⟩ => ⟨S2x1x384, .f32⟩
  | .hbm, ⟨7, _⟩ => ⟨S2x1x256, .f32⟩
  | .hbm, ⟨8, _⟩ => ⟨S2048x704, .f32⟩
  | .hbm, ⟨9, _⟩ => ⟨S2048x384, .bf16⟩
  | .hbm, ⟨10, _⟩ => ⟨S2048x256, .bf16⟩
  | .hbm, ⟨11, _⟩ => ⟨S2048x64, .f32⟩
  | .local _ .vmem, ⟨0, _⟩ => ⟨S1024x1024, .bf16⟩
  | .local _ .vmem, ⟨1, _⟩ => ⟨S1024x1024, .bf16⟩
  | .local _ .vmem, ⟨2, _⟩ => ⟨S8x128x704, .bf16⟩
  | .local _ .vmem, ⟨3, _⟩ => ⟨S1x1x384, .f32⟩
  | .local _ .vmem, ⟨4, _⟩ => ⟨S1x1x256, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x704, .f32⟩
  | .local _ .vmem, ⟨10, _⟩ => ⟨S1024x704, .f32⟩
  | .local _ .vmem, ⟨11, _⟩ => ⟨S1024x384, .bf16⟩
  | .local _ .vmem, ⟨12, _⟩ => ⟨S1024x384, .bf16⟩
  | .local _ .vmem, ⟨13, _⟩ => ⟨S1024x256, .bf16⟩
  | .local _ .vmem, ⟨14, _⟩ => ⟨S1024x256, .bf16⟩
  | .local _ .vmem, ⟨15, _⟩ => ⟨S1024x64, .f32⟩
  | .local _ .vmem, ⟨16, _⟩ => ⟨S1024x64, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S2048x1024 : Shape := ⟨2, ![2048, 1024]⟩
abbrev S8x128x704 : Shape := ⟨3, ![8, 128, 704]⟩
abbrev S2x384 : Shape := ⟨2, ![2, 384]⟩
abbrev S2x256 : Shape := ⟨2, ![2, 256]⟩
abbrev S2048x32 : Shape := ⟨2, ![2048, 32]⟩
abbrev S1024x704 : Shape := ⟨2, ![1024, 704]⟩
abbrev S2048x704 : Shape := ⟨2, ![2048, 704]⟩
abbrev S2048x384 : Shape := ⟨2, ![2048, 384]⟩
abbrev S1x384 : Shape := ⟨2, ![1, 384]⟩
abbrev S384 : Shape := ⟨1, ![384]⟩
abbrev S_ : Shape := ⟨0, ![]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩
abbrev S256 : Shape := ⟨1, ![256]⟩
abbrev S2048x64 : Shape := ⟨2, ![2048, 64]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x128x704, .bf16⟩
  | .hbm, ⟨2, _⟩ => ⟨S2x384, .f32⟩
  | .hbm, ⟨3, _⟩ => ⟨S2x256, .f32⟩
  | .hbm, ⟨4, _⟩ => ⟨S2048x32, .f32⟩
  | .hbm, ⟨5, _⟩ => ⟨S2048x32, .f32⟩
  | .hbm, ⟨6, _⟩ => ⟨S2048x1024, .f32⟩
  | .hbm, ⟨7, _⟩ => ⟨S8x128x704, .f32⟩
  | .hbm, ⟨8, _⟩ => ⟨S1024x704, .f32⟩
  | .hbm, ⟨9, _⟩ => ⟨S2048x704, .f32⟩
  | .hbm, ⟨10, _⟩ => ⟨S2048x384, .f32⟩
  | .hbm, ⟨11, _⟩ => ⟨S1x384, .f32⟩
  | .hbm, ⟨12, _⟩ => ⟨S384, .f32⟩
  | .hbm, ⟨13, _⟩ => ⟨S2048x384, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x384, .f32⟩
  | .hbm, ⟨25, _⟩ => ⟨S2048x384, .f32⟩
  | .hbm, ⟨26, _⟩ => ⟨S1x384, .f32⟩
  | .hbm, ⟨27, _⟩ => ⟨S2048x384, .f32⟩
  | .hbm, ⟨28, _⟩ => ⟨S2048x384, .f32⟩
  | .hbm, ⟨29, _⟩ => ⟨S2048x256, .f32⟩
  | .hbm, ⟨30, _⟩ => ⟨S1x256, .f32⟩
  | .hbm, ⟨31, _⟩ => ⟨S256, .f32⟩
  | .hbm, ⟨32, _⟩ => ⟨S2048x256, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x256, .f32⟩
  | .hbm, ⟨44, _⟩ => ⟨S2048x256, .f32⟩
  | .hbm, ⟨45, _⟩ => ⟨S1x256, .f32⟩
  | .hbm, ⟨46, _⟩ => ⟨S2048x256, .f32⟩
  | .hbm, ⟨47, _⟩ => ⟨S2048x256, .f32⟩
  | .hbm, ⟨48, _⟩ => ⟨S2048x384, .bf16⟩
  | .hbm, ⟨49, _⟩ => ⟨S2048x256, .bf16⟩
  | .hbm, ⟨50, _⟩ => ⟨S2048x64, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x64, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel16.lean ====
abbrev S2048x1024 : Shape := ⟨2, ![2048, 1024]⟩
abbrev S4x1024 : Shape := ⟨2, ![4, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S4x1x1024, .f32⟩
  | .hbm, ⟨5, _⟩ => ⟨S4x1x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2048x1024 : Shape := ⟨2, ![2048, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel17.lean ====
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩

abbrev nBuf : Space → Nat
  | .hbm => 6
  | .vmem => 4
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S2048x1, .i32⟩
  | .hbm, ⟨3, _⟩ => ⟨S1x32, .f32⟩
  | .hbm, ⟨4, _⟩ => ⟨S2048x32, .f32⟩
  | .hbm, ⟨5, _⟩ => ⟨S2048x32, .f32⟩
  | .local _ .vmem, ⟨0, _⟩ => ⟨S2048x1, .i32⟩
  | .local _ .vmem, ⟨1, _⟩ => ⟨S1x32, .f32⟩
  | .local _ .vmem, ⟨2, _⟩ => ⟨S2048x32, .f32⟩
  | .local _ .vmem, ⟨3, _⟩ => ⟨S2048x32, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference17Ideal.lean ====
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩

abbrev nBuf : Space → Nat
  | .hbm => 10
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S2048, .f32⟩
  | .hbm, ⟨3, _⟩ => ⟨S2048x1, .f32⟩
  | .hbm, ⟨4, _⟩ => ⟨S1x32, .f32⟩
  | .hbm, ⟨5, _⟩ => ⟨S2048x32, .f32⟩
  | .hbm, ⟨6, _⟩ => ⟨S2048x32, .f32⟩
  | .hbm, ⟨7, _⟩ => ⟨S2048x32, .f32⟩
  | .hbm, ⟨8, _⟩ => ⟨S2048x32, .f32⟩
  | .hbm, ⟨9, _⟩ => ⟨S2048x32, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel18.lean ====
abbrev S2048x1024 : Shape := ⟨2, ![2048, 1024]⟩
abbrev S4x1024 : Shape := ⟨2, ![4, 1024]⟩
abbrev S4x1x1024 : Shape := ⟨3, ![4, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S4x1x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x1024 : Shape := ⟨2, ![2048, 1024]⟩
abbrev S4x1024 : Shape := ⟨2, ![4, 1024]⟩
abbrev S_ : Shape := ⟨0, ![]⟩
abbrev S1024 : Shape := ⟨1, ![1024]⟩
abbrev S1x1024 : Shape := ⟨2, ![1, 1024]⟩
abbrev S2048 : Shape := ⟨1, ![2048]⟩
abbrev S2048x1 : Shape := ⟨2, ![2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .bf16⟩
  | .hbm, ⟨89, _⟩ => ⟨S1x1024, .f32⟩
  | .hbm, ⟨90, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel19.lean ====
abbrev S2048x1024 : Shape := ⟨2, ![2048, 1024]⟩
abbrev S4x1024 : Shape := ⟨2, ![4, 1024]⟩
abbrev S4x1x1024 : Shape := ⟨3, ![4, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x1024, .f32⟩
  | .hbm, ⟨4, _⟩ => ⟨S4x1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S2048x1024 : Shape := ⟨2, ![2048, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x1024, .f32⟩
  | .hbm, ⟨95, _⟩ => ⟨S2048x1024, .f32⟩
  | .hbm, ⟨96, _⟩ => ⟨S2048x1024, .bf16⟩
  | .hbm, ⟨97, _⟩ => ⟨S1x1024, .f32⟩
  | .hbm, ⟨98, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_v67 : Ref sig .tc := ⟨.hbm, 91, rfl⟩
abbrev main_cst_19 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel20.lean ====
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S2x384 : Shape := ⟨2, ![2, 384]⟩
abbrev S2x256 : Shape := ⟨2, ![2, 256]⟩
abbrev S2x1x384 : Shape := ⟨3, ![2, 1, 384]⟩
abbrev S2x1x256 : Shape := ⟨3, ![2, 1, 256]⟩
abbrev S1x384 : Shape := ⟨2, ![1, 384]⟩
abbrev S1x256 : Shape := ⟨2, ![1, 256]⟩
abbrev S1024x704 : Shape := ⟨2, ![1024, 704]⟩
abbrev S1024x384 : Shape := ⟨2, ![1024, 384]⟩
abbrev S1024x256 : Shape := ⟨2, ![1024, 256]⟩
abbrev S1024x64 : Shape := ⟨2, ![1024, 64]⟩
abbrev S1024x32 : Shape := ⟨2, ![1024, 32]⟩
abbrev S1x1x384 : Shape := ⟨3, ![1, 1, 384]⟩
abbrev S1x1x256 : Shape := ⟨3, ![1, 1, 256]⟩
abbrev S1024 : Shape := ⟨1, ![1024]⟩
abbrev S1024x1 : Shape := ⟨2, ![1024, 1]⟩
abbrev S384 : Shape := ⟨1, ![384]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x384, .f32⟩
  | .hbm, ⟨2, _⟩ => ⟨S2048x256, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2x384, .f32⟩
  | .hbm, ⟨7, _⟩ => ⟨S2x256, .f32⟩
  | .hbm, ⟨8, _⟩ => ⟨S2x1x384, .f32⟩
  | .hbm, ⟨9, _⟩ => ⟨S2x1x256, .f32⟩
  | .hbm, ⟨10, _⟩ => ⟨S2048x704, .bf16⟩
  | .hbm, ⟨11, _⟩ => ⟨S1x384, .f32⟩
  | .hbm, ⟨12, _⟩ => ⟨S1x256, .f32⟩
  | .local _ .vmem, ⟨0, _⟩ => ⟨S1024x704, .f32⟩
  | .local _ .vmem, ⟨1, _⟩ => ⟨S1024x704, .f32⟩
  | .local _ .vmem, ⟨2, _⟩ => ⟨S1024x384, .f32⟩
  | .local _ .vmem, ⟨3, _⟩ => ⟨S1024x384, .f32⟩
  | .local _ .vmem, ⟨4, _⟩ => ⟨S1024x256, .f32⟩
  | .local _ .vmem, ⟨5, _⟩ => ⟨S1024x256, .f32⟩
  | .local _ .vmem, ⟨6, _⟩ => ⟨S1024x64, .f32⟩
  | .local _ .vmem, ⟨7, _⟩ => ⟨S1024x64, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1x1x384, .f32⟩
  | .local _ .vmem, ⟨13, _⟩ => ⟨S1x1x256, .f32⟩
  | .local _ .vmem, ⟨14, _⟩ => ⟨S1024x704, .bf16⟩
  | .local _ .vmem, ⟨15, _⟩ => ⟨S1024x704, .bf16⟩
  | .local _ .vmem, ⟨16, _⟩ => ⟨S1x384, .f32⟩
  | .local _ .vmem, ⟨17, _⟩ => ⟨S1x256, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference20Ideal.lean ====
abbrev S2048x704 : Shape := ⟨2, ![2048, 704]⟩
abbrev S2048x384 : Shape := ⟨2, ![2048, 384]⟩
abbrev S2048x256 : Shape := ⟨2, ![2048, 256]⟩
abbrev S2048x64 : Shape := ⟨2, ![2048, 64]⟩
abbrev S2048x32 : Shape := ⟨2, ![2048, 32]⟩
abbrev S2x384 : Shape := ⟨2, ![2, 384]⟩
abbrev S2x256 : Shape := ⟨2, ![2, 256]⟩
abbrev S1x384 : Shape := ⟨2, ![1, 384]⟩
abbrev S384 : Shape := ⟨1, ![384]⟩
abbrev S1x256 : Shape := ⟨2, ![1, 256]⟩
abbrev S256 : Shape := ⟨1, ![256]⟩
abbrev S_ : Shape := ⟨0, ![]⟩
abbrev S2048 : Shape := ⟨1, ![2048]⟩
abbrev S2048x1 : Shape := ⟨2, ![2048, 1]⟩

abbrev nBuf : Space → Nat
  | .hbm => 141
  | .vmem => 0
  | .smem => 0
  | _ => 0

abbrev hbmTy0_0 (i : Nat) : BufTy := match i % 128 with
  | 0 => ⟨S2048x704, .f32⟩
  | 1 => ⟨S2048x384, .f32⟩
  | 2 => ⟨S2048x256, .f32⟩
  | 3 => ⟨S2048x64, .f32⟩
  | 4 => ⟨S2048x32, .f32⟩
  | 5 => ⟨S2048x32, .f32⟩
  | 6 => ⟨S2x384, .f32⟩
  | 7 => ⟨S2x256, .f32⟩
  | 8 => ⟨S1x384, .f32⟩
  | 9 => ⟨S384, .f32⟩
  | 10 => ⟨S1x256, .f32⟩
  | 11 => ⟨S256, .f32⟩
  | 12 => ⟨S2048x384, .f32⟩
  | 13 => ⟨S2048x384, .f32⟩
  | 14 => ⟨S_, .f32⟩
  | 15 => ⟨S2048x384, .f32⟩
  | 16 => ⟨S2048x384, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x384, .f32⟩
  | 32 => ⟨S2048x384, .f32⟩
  | 33 => ⟨S1x384, .f32⟩
  | 34 => ⟨S2048x384, .f32⟩
  | 35 => ⟨S2048x384, .f32⟩
  | 36 => ⟨S2048x256, .f32⟩
  | 37 => ⟨S2048x256, .f32⟩
  | 38 => ⟨S_, .f32⟩
  | 39 => ⟨S2048x256, .f32⟩
  | 40 => ⟨S2048x256, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x256, .f32⟩
  | 56 => ⟨S2048x256, .f32⟩
  | 57 => ⟨S1x256, .f32⟩
  | 58 => ⟨S2048x256, .f32⟩
  | 59 => ⟨S2048x256, .f32⟩
  | 60 => ⟨S2048x64, .f32⟩
  | 61 => ⟨S2048x32, .f32⟩
  | 62 => ⟨S2048x32, .f32⟩
  | 63 => ⟨S2048x32, .f32⟩
  | 64 => ⟨S2048x32, .f32⟩
  | 65 => ⟨S2048x32, .f32⟩
  | 66 => ⟨S2048x32, .f32⟩
  | 67 => ⟨S2048x32, .f32⟩
  | 68 => ⟨S2048x32, .f32⟩
  | 69 => ⟨S2048x64, .f32⟩
  | 70 => ⟨S2048x32, .f32⟩
  | 71 => ⟨S2048x32, .f32⟩
  | 72 => ⟨S2048x32, .f32⟩
  | 73 => ⟨S2048x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S_, .f32⟩
  | 80 => ⟨S2048x64, .f32⟩
  | 81 => ⟨S_, .f32⟩
  | 82 => ⟨S2048x64, .f32⟩
  | 83 => ⟨S2048x64, .f32⟩
  | 84 => ⟨S_, .f32⟩
  | 85 => ⟨S2048x704, .f32⟩
  | 86 => ⟨S2048x256, .f32⟩
  | 87 => ⟨S_, .f32⟩
  | 88 => ⟨S256, .f32⟩
  | 89 => ⟨S1x256, .f32⟩
  | 90 => ⟨S2048x256, .f32⟩
  | 91 => ⟨S2048x256, .f32⟩
  | 92 => ⟨S_, .f32⟩
  | 93 => ⟨S256, .f32⟩
  | 94 => ⟨S2048x256, .f32⟩
  | 95 => ⟨S_, .f32⟩
  | 96 => ⟨S2048, .f32⟩
  | 97 => ⟨S2048x1, .f32⟩
  | 98 => ⟨S2048x256, .f32⟩
  | 99 => ⟨S2048x256, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048, .f32⟩
  | 106 => ⟨S2048x256, .f32⟩
  | 107 => ⟨S2048x256, .f32⟩
  | 108 => ⟨S2048x256, .f32⟩
  | 109 => ⟨S_, .f32⟩
  | 110 => ⟨S2048x704, .f32⟩
  | 111 => ⟨S2048x704, .f32⟩
  | 112 => ⟨S2048x384, .f32⟩
  | 113 => ⟨S_, .f32⟩
  | 114 => ⟨S384, .f32⟩
  | 115 => ⟨S1x384, .f32⟩
  | 116 => ⟨S2048x384, .f32⟩
  | 117 => ⟨S2048x384, .f32⟩
  | 118 => ⟨S_, .f32⟩
  | 119 => ⟨S384, .f32⟩
  | 120 => ⟨S2048x384, .f32⟩
  | 121 => ⟨S_, .f32⟩
  | 122 => ⟨S2048, .f32⟩
  | 123 => ⟨S2048x1, .f32⟩
  | 124 => ⟨S2048x384, .f32⟩
  | 125 => ⟨S2048x384, .f32⟩
  | 126 => ⟨S2048x1, .f32⟩
  | 127 => ⟨S_, .f32⟩
  | _ => ⟨S2048x704, .f32⟩

abbrev hbmTy0_1 (i : Nat) : BufTy := match i % 128 with
  | 0 => ⟨S2048x1, .f32⟩
  | 1 => ⟨S2048x1, .f32⟩
  | 2 => ⟨S_, .f32⟩
  | 3 => ⟨S2048, .f32⟩
  | 4 => ⟨S2048x384, .f32⟩
  | 5 => ⟨S2048x384, .f32⟩
  | 6 => ⟨S2048x384, .f32⟩
  | 7 => ⟨S_, .f32⟩
  | 8 => ⟨S2048x704, .f32⟩
  | 9 => ⟨S2048x704, .f32⟩
  | 10 => ⟨S2048x704, .bf16⟩
  | 11 => ⟨S1x384, .f32⟩
  | 12 => ⟨S1x256, .f32⟩
  | _ => ⟨S2048x704, .f32⟩

abbrev hbmTy (i : Nat) : BufTy := match i / 128 with
  | 0 => hbmTy0_0 i
  | 1 => hbmTy0_1 i
  | _ => ⟨S2048x704, .f32⟩

abbrev bufTy : (tb : Table) → Fin (tcTables nBuf tb) → BufTy
  | .hbm, ⟨i, _⟩ => hbmTy i
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_18 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_cst_20 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_21 : Ref sig .tc := ⟨.hbm, 127, rfl⟩
abbrev main_v97 : Ref sig .tc := ⟨.hbm, 128, rfl⟩
abbrev main_v98 : Ref sig .tc := ⟨.hbm, 129, rfl⟩
abbrev main_cst_22 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_23 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]
-- ==== Kernel21.lean ====
abbrev S2048x1024 : Shape := ⟨2, ![2048, 1024]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference21Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel22.lean ====
abbrev S2048x2560 : Shape := ⟨2, ![2048, 2560]⟩
abbrev S2x4x128x128 : Shape := ⟨4, ![2, 4, 128, 128]⟩
abbrev S2x512 : Shape := ⟨2, ![2, 512]⟩
abbrev S2x1x512 : Shape := ⟨3, ![2, 1, 512]⟩
abbrev S2048x512 : Shape := ⟨2, ![2048, 512]⟩
abbrev S1x4x128x128 : Shape := ⟨4, ![1, 4, 128, 128]⟩
abbrev S1x1x512 : Shape := ⟨3, ![1, 1, 512]⟩
abbrev S2048x128 : Shape := ⟨2, ![2048, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x2560, .f32⟩
  | .hbm, ⟨1, _⟩ => ⟨S2x4x128x128, .f32⟩
  | .hbm, ⟨2, _⟩ => ⟨S2x512, .f32⟩
  | .hbm, ⟨3, _⟩ => ⟨S2x1x512, .f32⟩
  | .hbm, ⟨4, _⟩ => ⟨S2048x512, .bf16⟩
  | .local _ .vmem, ⟨0, _⟩ => ⟨S2048x512, .f32⟩
  | .local _ .vmem, ⟨1, _⟩ => ⟨S1x4x128x128, .f32⟩
  | .local _ .vmem, ⟨2, _⟩ => ⟨S1x1x512, .f32⟩
  | .local _ .vmem, ⟨3, _⟩ => ⟨S2048x512, .bf16⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference22Ideal.lean ====
abbrev S2048x2560 : Shape := ⟨2, ![2048, 2560]⟩
abbrev S2x4x128x128 : Shape := ⟨4, ![2, 4, 128, 128]⟩
abbrev S2x512 : Shape := ⟨2, ![2, 512]⟩
abbrev S2048x128 : Shape := ⟨2, ![2048, 128]⟩
abbrev S_ : Shape := ⟨0, ![]⟩
abbrev S2050x128 : Shape := ⟨2, ![2050, 128]⟩
abbrev S2048 : Shape := ⟨1, ![2048]⟩
abbrev S2048x1 : Shape := ⟨2, ![2048, 1]⟩
abbrev S1x1x128x128 : Shape := ⟨4, ![1, 1, 128, 128]⟩
abbrev S128x128 : Shape := ⟨2, ![128, 128]⟩
abbrev S1x128 : Shape := ⟨2, ![1, 128]⟩
abbrev S128 : Shape := ⟨1, ![128]⟩
abbrev S2052x128 : Shape := ⟨2, ![2052, 128]⟩
abbrev S2056x128 : Shape := ⟨2, ![2056, 128]⟩
abbrev S2064x128 : Shape := ⟨2, ![2064, 128]⟩
abbrev S2048x512 : Shape := ⟨2, ![2048, 512]⟩

abbrev nBuf : Space → Nat
  | .hbm => 121
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2x4x128x128, .f32⟩
  | .hbm, ⟨2, _⟩ => ⟨S2x512, .f32⟩
  | .hbm, ⟨3, _⟩ => ⟨S2048x128, .f32⟩
  | .hbm, ⟨4, _⟩ => ⟨S_, .f32⟩
  | .hbm, ⟨5, _⟩ => ⟨S_, .f32⟩
  | .hbm, ⟨6, _⟩ => ⟨S2048x128, .f32⟩
  | .hbm, ⟨7, _⟩ => ⟨S_, .i32⟩
  | .hbm, ⟨8, _⟩ => ⟨S_, .f32⟩
  | .hbm, ⟨9, _⟩ => ⟨S2050x128, .f32⟩
  | .hbm, ⟨10, _⟩ => ⟨S2048x128, .f32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .f32⟩
  | .hbm, ⟨19, _⟩ => ⟨S2048x1, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S1x1x128x128, .f32⟩
  | .hbm, ⟨25, _⟩ => ⟨S128x128, .f32⟩
  | .hbm, ⟨26, _⟩ => ⟨S2048x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S_, .f32⟩
  | .hbm, ⟨34, _⟩ => ⟨S_, .f32⟩
  | .hbm, ⟨35, _⟩ => ⟨S2048x128, .f32⟩
  | .hbm, ⟨36, _⟩ => ⟨S_, .i32⟩
  | .hbm, ⟨37, _⟩ => ⟨S_, .f32⟩
  | .hbm, ⟨38, _⟩ => ⟨S2052x128, .f32⟩
  | .hbm, ⟨39, _⟩ => ⟨S2048x128, .f32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S2048x1, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S1x1x128x128, .f32⟩
  | .hbm, ⟨54, _⟩ => ⟨S128x128, .f32⟩
  | .hbm, ⟨55, _⟩ => ⟨S2048x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S2048x128, .f32⟩
  | .hbm, ⟨60, _⟩ => ⟨S2048x128, .f32⟩
  | .hbm, ⟨61, _⟩ => ⟨S2048x128, .f32⟩
  | .hbm, ⟨62, _⟩ => ⟨S_, .f32⟩
  | .hbm, ⟨63, _⟩ => ⟨S_, .f32⟩
  | .hbm, ⟨64, _⟩ => ⟨S2048x128, .f32⟩
  | .hbm, ⟨65, _⟩ => ⟨S_, .i32⟩
  | .hbm, ⟨66, _⟩ => ⟨S_, .f32⟩
  | .hbm, ⟨67, _⟩ => ⟨S2056x128, .f32⟩
  | .hbm, ⟨68, _⟩ => ⟨S2048x128, .f32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .f32⟩
  | .hbm, ⟨77, _⟩ => ⟨S2048x1, .f32⟩
  | .hbm, ⟨78, _⟩ => ⟨S2048x128, .f32⟩
  | .hbm, ⟨79, _⟩ => ⟨S2048x128, .f32⟩
  | .hbm, ⟨80, _⟩ => ⟨S2048x128, .f32⟩
  | .hbm, ⟨81, _⟩ => ⟨S2048x128, .f32⟩
  | .hbm, ⟨82, _⟩ => ⟨S1x1x128x128, .f32⟩
  | .hbm, ⟨83, _⟩ => ⟨S128x128, .f32⟩
  | .hbm, ⟨84, _⟩ => ⟨S2048x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S2048x128, .f32⟩
  | .hbm, ⟨89, _⟩ => ⟨S2048x128, .f32⟩
  | .hbm, ⟨90, _⟩ => ⟨S2048x128, .f32⟩
  | .hbm, ⟨91, _⟩ => ⟨S_, .f32⟩
  | .hbm, ⟨92, _⟩ => ⟨S_, .f32⟩
  | .hbm, ⟨93, _⟩ => ⟨S2048x128, .f32⟩
  | .hbm, ⟨94, _⟩ => ⟨S_, .i32⟩
  | .hbm, ⟨95, _⟩ => ⟨S_, .f32⟩
  | .hbm, ⟨96, _⟩ => ⟨S2064x128, .f32⟩
  | .hbm, ⟨97, _⟩ => ⟨S2048x128, .f32⟩
  | .hbm, ⟨98, _⟩ => ⟨S2048, .i32⟩
  | .hbm, ⟨99, _⟩ => ⟨S_, .i32⟩
  | .hbm, ⟨100, _⟩ => ⟨S2048, .i32⟩
  | .hbm, ⟨101, _⟩ => ⟨S2048, .i32⟩
  | .hbm, ⟨102, _⟩ => ⟨S_, .i32⟩
  | .hbm, ⟨103, _⟩ => ⟨S2048, .i32⟩
  | .hbm, ⟨104, _⟩ => ⟨S2048, .i32⟩
  | .hbm, ⟨105, _⟩ => ⟨S2048, .f32⟩
  | .hbm, ⟨106, _⟩ => ⟨S2048x1, .f32⟩
  | .hbm, ⟨107, _⟩ => ⟨S2048x128, .f32⟩
  | .hbm, ⟨108, _⟩ => ⟨S2048x128, .f32⟩
  | .hbm, ⟨109, _⟩ => ⟨S2048x128, .f32⟩
  | .hbm, ⟨110, _⟩ => ⟨S2048x128, .f32⟩
  | .hbm, ⟨111, _⟩ => ⟨S1x1x128x128, .f32⟩
  | .hbm, ⟨112, _⟩ => ⟨S128x128, .f32⟩
  | .hbm, ⟨113, _⟩ => ⟨S2048x128, .f32⟩
  | .hbm, ⟨114, _⟩ => ⟨S1x128, .f32⟩
  | .hbm, ⟨115, _⟩ => ⟨S128, .f32⟩
  | .hbm, ⟨116, _⟩ => ⟨S1x128, .f32⟩
  | .hbm, ⟨117, _⟩ => ⟨S2048x128, .f32⟩
  | .hbm, ⟨118, _⟩ => ⟨S2048x128, .f32⟩
  | .hbm, ⟨119, _⟩ => ⟨S2048x512, .f32⟩
  | .hbm, ⟨120, _⟩ => ⟨S2048x512, .bf16⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call2_call0_cst : Ref sig .tc := ⟨.hbm, 33, rfl⟩
abbrev main_call2_call0_v0 : Ref sig .tc := ⟨.hbm, 34, rfl⟩
abbrev main_v24 : Ref sig .tc := ⟨.hbm, 35, rfl⟩
abbrev main_c_2 : Ref sig .tc := ⟨.hbm, 36, rfl⟩
abbrev main_call3_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call4_call0_cst : Ref sig .tc := ⟨.hbm, 62, rfl⟩
abbrev main_call4_call0_v0 : Ref sig .tc := ⟨.hbm, 63, rfl⟩
abbrev main_v47 : Ref sig .tc := ⟨.hbm, 64, rfl⟩
abbrev main_c_5 : Ref sig .tc := ⟨.hbm, 65, rfl⟩
abbrev main_call5_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call6_call0_cst : Ref sig .tc := ⟨.hbm, 91, rfl⟩
abbrev main_call6_call0_v0 : Ref sig .tc := ⟨.hbm, 92, rfl⟩
abbrev main_v70 : Ref sig .tc := ⟨.hbm, 93, rfl⟩
abbrev main_c_8 : Ref sig .tc := ⟨.hbm, 94, rfl⟩
abbrev main_call7_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_9 : Ref sig .tc := ⟨.hbm, 99, rfl⟩
abbrev main_v74 : Ref sig .tc := ⟨.hbm, 100, rfl⟩
abbrev main_v75 : Ref sig .tc := ⟨.hbm, 101, rfl⟩
abbrev main_c_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== Proof.Mat.lean ====
/-
  Arrays as functions of natural-number coordinates, and what each array operation of the kernel does to them.
  An array of two axes is `arr2 A` for a function `A` of two numbers: slices are then shifts and joins are
  case distinctions, with no bound to carry along.
-/
module

public import Idealize.ShloMosaic.Lib.Pipeline.Value
public import Idealize.ShloMosaic.Lib.ValueIdxCore
public import Idealize.ShloMosaic.PureOps.Ideal.Laws

@[expose] public section

noncomputable section

namespace Cert.Mat

open Idealize.ShloMosaic Idealize.ShloMosaic.ValueIdx Finset

/-! ## Arrays -/

/-- The array of one axis with entry `A i` at `i`. -/
def arr1 {α : Type} {a : ℕ} (A : ℕ → α) : (⟨1, ![a]⟩ : Shape).Idx → α := fun i => A (i 0).val
/-- The array of two axes with entry `A i j` at `(i, j)`. -/
def arr2 {α : Type} {a b : ℕ} (A : ℕ → ℕ → α) : (⟨2, ![a, b]⟩ : Shape).Idx → α := fun i => A (i 0).val (i 1).val
/-- The array of three axes with entry `A i j k` at `(i, j, k)`. -/
def arr3 {α : Type} {a b c : ℕ} (A : ℕ → ℕ → ℕ → α) : (⟨3, ![a, b, c]⟩ : Shape).Idx → α :=
  fun i => A (i 0).val (i 1).val (i 2).val

/-- The entries of a two-axis array as a function of two numbers, zero outside the array. -/
def get2 {a b : ℕ} (x : (⟨2, ![a, b]⟩ : Shape).Idx → EReal) : ℕ → ℕ → EReal :=
  fun i j => if h : i < a ∧ j < b then x (ix2 ⟨i, h.1⟩ ⟨j, h.2⟩) else 0
/-- The entries of a three-axis array as a function of three numbers, zero outside the array. -/
def get3 {a b c : ℕ} (x : (⟨3, ![a, b, c]⟩ : Shape).Idx → EReal) : ℕ → ℕ → ℕ → EReal :=
  fun i j k => if h : i < a ∧ j < b ∧ k < c then x (ix3 ⟨i, h.1⟩ ⟨j, h.2.1⟩ ⟨k, h.2.2⟩) else 0

theorem arr2_get2 {a b : ℕ} (x : (⟨2, ![a, b]⟩ : Shape).Idx → EReal) : arr2 (get2 x) = x := by
  funext i
  unfold arr2 get2
  rw [dif_pos ⟨idx2_lt0 i, idx2_lt1 i⟩]
  exact congrArg x (eq_ix2 i).symm

theorem arr3_get3 {a b c : ℕ} (x : (⟨3, ![a, b, c]⟩ : Shape).Idx → EReal) : arr3 (get3 x) = x := by
  funext i
  unfold arr3 get3
  rw [dif_pos ⟨(i 0).isLt, (i 1).isLt, (i 2).isLt⟩]
  exact congrArg x (eq_ix3 i).symm

/-- Two arrays agree when the functions agree inside the bounds. -/
theorem arr2_congr {α : Type} {a b : ℕ} {A B : ℕ → ℕ → α} (h : ∀ i j, i < a → j < b → A i j = B i j) :
    arr2 (a := a) (b := b) A = arr2 B :=
  funext fun i => h _ _ (idx2_lt0 i) (idx2_lt1 i)

/-! ## What the operations compute, on functions -/

/-- The product of two matrices. -/
def mm (K : ℕ) (A B : ℕ → ℕ → EReal) : ℕ → ℕ → EReal := fun i j => ∑ k ∈ range K, A i k * B k j
/-- The product with the second factor transposed. -/
def mmT (K : ℕ) (A B : ℕ → ℕ → EReal) : ℕ → ℕ → EReal := fun i j => ∑ k ∈ range K, A i k * B j k
/-- The product with the first factor transposed. -/
def mTm (K : ℕ) (A B : ℕ → ℕ → EReal) : ℕ → ℕ → EReal := fun i j => ∑ k ∈ range K, A k i * B k j
/-- The part that starts at row `p` and column `q`. -/
def sh {α : Type} (p q : ℕ) (A : ℕ → ℕ → α) : ℕ → ℕ → α := fun i j => A (p + i) (q + j)
/-- Two matrices side by side, the first with `n` columns. -/
def hcat {α : Type} (n : ℕ) (A B : ℕ → ℕ → α) : ℕ → ℕ → α := fun i j => if j < n then A i j else B i (j - n)

/-! ## The operations on arrays -/

section Ops
variable {m n k p q : ℕ}

theorem mulf_arr2 {φ : FTy} (A B : ℕ → ℕ → EReal) :
    mulf (F := Ideal) (φ := φ) (arr2 (a := m) (b := n) A) (arr2 B) = arr2 fun i j => A i j * B i j := rfl
theorem addf_arr2 {φ : FTy} (A B : ℕ → ℕ → EReal) :
    addf (F := Ideal) (φ := φ) (arr2 (a := m) (b := n) A) (arr2 B) = arr2 fun i j => A i j + B i j := rfl
theorem subf_arr2 {φ : FTy} (A B : ℕ → ℕ → EReal) :
    subf (F := Ideal) (φ := φ) (arr2 (a := m) (b := n) A) (arr2 B) = arr2 fun i j => A i j - B i j := rfl
theorem divf_arr2 {φ : FTy} (A B : ℕ → ℕ → EReal) :
    divf (F := Ideal) (φ := φ) (arr2 (a := m) (b := n) A) (arr2 B) = arr2 fun i j => Ideal.div (A i j) (B i j) := rfl
theorem exp_arr2 {φ : FTy} (A : ℕ → ℕ → EReal) :
    exp (F := Ideal) (φ := φ) (arr2 (a := m) (b := n) A) = arr2 fun i j => Ideal.exp (A i j) := rfl
theorem truncf_arr2 {φ ψ : FTy} (A : ℕ → ℕ → EReal) (h) :
    truncf (F := Ideal) (φ := φ) ψ (arr2 (a := m) (b := n) A) h = arr2 A := rfl
theorem broadcast_arr2 {α : Type} (c : α) : broadcast (⟨2, ![m, n]⟩ : Shape) c = arr2 fun _ _ => c := rfl

theorem slice_arr2 {α : Type} (A : ℕ → ℕ → α) (r c : ℕ) (h) :
    extractStridedSlice (⟨2, ![p, q]⟩ : Shape) ![r, c] (arr2 (a := m) (b := n) A) h = arr2 (sh r c A) := rfl

theorem shapeCast_arr2 {α : Type} (A : ℕ → ℕ → α) (h) :
    shapeCast (⟨2, ![m, n]⟩ : Shape) (arr2 (a := m) (b := n) A) h = arr2 A := shapeCast_self _ _

theorem shapeCast_arr3 {α : Type} (A : ℕ → ℕ → ℕ → α) (h) :
    shapeCast (⟨2, ![m, n]⟩ : Shape) (arr3 (a := 1) (b := m) (c := n) A) h = arr2 (A 0) := by
  funext j
  exact shapeCast_dropUnit_apply ![m, n] _ h j

theorem shapeCast_arr2_arr3 {α : Type} (A : ℕ → ℕ → α) (h) :
    shapeCast (⟨3, ![1, m, n]⟩ : Shape) (arr2 (a := m) (b := n) A) h = arr3 fun _ => A := by
  funext j
  exact shapeCast_addUnit_apply ![m, n] _ h j

theorem shapeCast_arr1 {α : Type} (A : ℕ → α) (h) :
    shapeCast (⟨2, ![m, 1]⟩ : Shape) (arr1 (a := m) A) h = arr2 fun i _ => A i := by
  funext j
  refine shapeCast_apply _ h j (ix1 (j 0)) ?_
  rw [Shape.rowMajor_val_one, Shape.rowMajor_val_two]
  have h1 := idx2_lt1 j
  show (j 0).val = (j 0).val * 1 + (j 1).val
  omega

theorem broadcastTo_arr2 {α : Type} (A : ℕ → ℕ → α) (h) :
    broadcastTo (⟨2, ![m, n]⟩ : Shape) (arr2 (a := m) (b := 1) A) h = arr2 fun i _ => A i 0 := by
  funext j
  by_cases hm : m = 1
  · subst hm
    refine (broadcastTo_apply _ h j (ix2 ⟨0, Nat.one_pos⟩ ⟨0, Nat.one_pos⟩) ?_).trans ?_
    · intro a; match a with | ⟨0, _⟩ => rfl | ⟨1, _⟩ => rfl
    · have h0 := idx2_lt0 j
      have : (j 0).val = 0 := by omega
      show A 0 0 = A (j 0).val 0
      rw [this]
  · refine broadcastTo_apply _ h j (ix2 (j 0) ⟨0, Nat.one_pos⟩) ?_
    intro a
    match a with
    | ⟨0, _⟩ => exact (if_neg hm).symm
    | ⟨1, _⟩ => rfl

theorem transpose_arr2 {α : Type} (A : ℕ → ℕ → α) (h) :
    transpose (⟨2, ![n, m]⟩ : Shape) [1, 0] (arr2 (a := m) (b := n) A) h = arr2 fun i j => A j i := by
  funext j
  refine transpose_apply _ _ h j (ix2 (j 1) (j 0)) ?_
  intro b; match b with | ⟨0, _⟩ => rfl | ⟨1, _⟩ => rfl

theorem concatenate_arr2 {α : Type} (A B : ℕ → ℕ → α) (h) :
    concatenate (⟨2, ![m, k]⟩ : Shape) 1 [⟨⟨2, ![m, p]⟩, arr2 A⟩, ⟨⟨2, ![m, q]⟩, arr2 B⟩] h = arr2 (hcat p A B) := by
  have hk : k = p + q := by
    have := h.2.2
    simpa using this.symm
  funext j
  have h1 := idx2_lt1 j
  by_cases hj : (j 1).val < p
  · refine (concatenate_pair_apply_left 1 _ _ h j rfl (ix2 (j 0) ⟨(j 1).val, hj⟩) ?_).trans ?_
    · intro b; match b with | ⟨0, _⟩ => rfl | ⟨1, _⟩ => rfl
    · exact (if_pos hj).symm
  · refine (concatenate_pair_apply_right 1 _ _ h j rfl rfl (ix2 (j 0) ⟨(j 1).val - p, by omega⟩) ?_ ?_).trans ?_
    · intro b hb
      match b with
      | ⟨0, _⟩ => rfl
      | ⟨1, _⟩ => exact absurd rfl hb
    · show (j 1).val - p + p = (j 1).val
      omega
    · exact (if_neg hj).symm

/-- Two arrays side by side, as an operation whose operands can be rewritten. -/
def cat2 {α : Type} {m k p q : ℕ} (h : Shape.Concatenates [⟨2, ![m, p]⟩, ⟨2, ![m, q]⟩] (⟨2, ![m, k]⟩ : Shape) 1)
    (x : (⟨2, ![m, p]⟩ : Shape).Idx → α) (y : (⟨2, ![m, q]⟩ : Shape).Idx → α) : (⟨2, ![m, k]⟩ : Shape).Idx → α :=
  concatenate (⟨2, ![m, k]⟩ : Shape) 1 [⟨⟨2, ![m, p]⟩, x⟩, ⟨⟨2, ![m, q]⟩, y⟩] h

theorem concatenate_eq_cat2 {α : Type} (x : (⟨2, ![m, p]⟩ : Shape).Idx → α) (y : (⟨2, ![m, q]⟩ : Shape).Idx → α) (h) :
    concatenate (⟨2, ![m, k]⟩ : Shape) 1 [⟨⟨2, ![m, p]⟩, x⟩, ⟨⟨2, ![m, q]⟩, y⟩] h = cat2 h x y := rfl

theorem cat2_arr2 {α : Type} (A B : ℕ → ℕ → α) (h : Shape.Concatenates [⟨2, ![m, p]⟩, ⟨2, ![m, q]⟩] (⟨2, ![m, k]⟩ : Shape) 1) :
    cat2 h (arr2 A) (arr2 B) = arr2 (hcat p A B) := concatenate_arr2 A B h

theorem matmul_nn_lit (A B : ℕ → ℕ → EReal) {φ ψ : FTy} (prec) (wf) :
    FloatOps.matmul (F := Ideal) (φ₁ := φ) (φ₂ := ψ)
      (⟨[1], [0], [0], [1], [], [], wf⟩ : DotDims ⟨2, ![m, k]⟩ ⟨2, ![k, n]⟩ ⟨2, ![m, n]⟩) prec (arr2 A) (arr2 B)
      (constant _ .f32 0x00000000#32) = arr2 (mm k A B) := by
  funext j
  rw [Ideal.matmul_constant_zero_apply, ← Equiv.sum_comp (contrEquiv1 _ k rfl rfl).symm]
  exact Fin.sum_univ_eq_sum_range (fun x => A (j 0).val x * B x (j 1).val) k

theorem matmul_nn (d : DotDims ⟨2, ![m, k]⟩ ⟨2, ![k, n]⟩ ⟨2, ![m, n]⟩)
    (h : (d.lhsContracting, d.rhsContracting, d.lhsNonContracting, d.rhsNonContracting, d.lhsBatch, d.rhsBatch)
      = ([1], [0], [0], [1], [], [])) (A B : ℕ → ℕ → EReal) {φ ψ : FTy} (prec) :
    FloatOps.matmul (F := Ideal) (φ₁ := φ) (φ₂ := ψ) d prec (arr2 (α := EReal) A) (arr2 (α := EReal) B)
      (constant _ .f32 0x00000000#32) = arr2 (mm k A B) := by
  rcases d with ⟨_, _, _, _, _, _, wf⟩
  simp only [Prod.mk.injEq] at h
  obtain ⟨rfl, rfl, rfl, rfl, rfl, rfl⟩ := h
  exact matmul_nn_lit A B prec wf

theorem matmul_nt_lit (A B : ℕ → ℕ → EReal) {φ ψ : FTy} (prec) (wf) :
    FloatOps.matmul (F := Ideal) (φ₁ := φ) (φ₂ := ψ)
      (⟨[1], [1], [0], [0], [], [], wf⟩ : DotDims ⟨2, ![m, k]⟩ ⟨2, ![n, k]⟩ ⟨2, ![m, n]⟩) prec (arr2 A) (arr2 B)
      (constant _ .f32 0x00000000#32) = arr2 (mmT k A B) := by
  funext j
  rw [Ideal.matmul_constant_zero_apply, ← Equiv.sum_comp (contrEquiv1 _ k rfl rfl).symm]
  exact Fin.sum_univ_eq_sum_range (fun x => A (j 0).val x * B (j 1).val x) k

theorem matmul_nt (d : DotDims ⟨2, ![m, k]⟩ ⟨2, ![n, k]⟩ ⟨2, ![m, n]⟩)
    (h : (d.lhsContracting, d.rhsContracting, d.lhsNonContracting, d.rhsNonContracting, d.lhsBatch, d.rhsBatch)
      = ([1], [1], [0], [0], [], [])) (A B : ℕ → ℕ → EReal) {φ ψ : FTy} (prec) :
    FloatOps.matmul (F := Ideal) (φ₁ := φ) (φ₂ := ψ) d prec (arr2 (α := EReal) A) (arr2 (α := EReal) B)
      (constant _ .f32 0x00000000#32) = arr2 (mmT k A B) := by
  rcases d with ⟨_, _, _, _, _, _, wf⟩
  simp only [Prod.mk.injEq] at h
  obtain ⟨rfl, rfl, rfl, rfl, rfl, rfl⟩ := h
  exact matmul_nt_lit A B prec wf

theorem matmul_tn_lit (A B : ℕ → ℕ → EReal) {φ ψ : FTy} (prec) (wf) :
    FloatOps.matmul (F := Ideal) (φ₁ := φ) (φ₂ := ψ)
      (⟨[0], [0], [1], [1], [], [], wf⟩ : DotDims ⟨2, ![k, m]⟩ ⟨2, ![k, n]⟩ ⟨2, ![m, n]⟩) prec (arr2 A) (arr2 B)
      (constant _ .f32 0x00000000#32) = arr2 (mTm k A B) := by
  funext j
  rw [Ideal.matmul_constant_zero_apply, ← Equiv.sum_comp (contrEquiv1 _ k rfl rfl).symm]
  exact Fin.sum_univ_eq_sum_range (fun x => A x (j 0).val * B x (j 1).val) k

theorem matmul_tn (d : DotDims ⟨2, ![k, m]⟩ ⟨2, ![k, n]⟩ ⟨2, ![m, n]⟩)
    (h : (d.lhsContracting, d.rhsContracting, d.lhsNonContracting, d.rhsNonContracting, d.lhsBatch, d.rhsBatch)
      = ([0], [0], [1], [1], [], [])) (A B : ℕ → ℕ → EReal) {φ ψ : FTy} (prec) :
    FloatOps.matmul (F := Ideal) (φ₁ := φ) (φ₂ := ψ) d prec (arr2 (α := EReal) A) (arr2 (α := EReal) B)
      (constant _ .f32 0x00000000#32) = arr2 (mTm k A B) := by
  rcases d with ⟨_, _, _, _, _, _, wf⟩
  simp only [Prod.mk.injEq] at h
  obtain ⟨rfl, rfl, rfl, rfl, rfl, rfl⟩ := h
  exact matmul_tn_lit A B prec wf

theorem arr2_elt_bf16 {a b : ℕ} (A : ℕ → ℕ → EReal) : @arr2 (Elt Ideal .bf16) a b A = @arr2 EReal a b A := rfl
theorem arr2_elt_f32 {a b : ℕ} (A : ℕ → ℕ → EReal) : @arr2 (Elt Ideal .f32) a b A = @arr2 EReal a b A := rfl
theorem arr3_elt_bf16 {a b c : ℕ} (A : ℕ → ℕ → ℕ → EReal) : @arr3 (Elt Ideal .bf16) a b c A = @arr3 EReal a b c A := rfl

theorem rowSum_arr2 (A : ℕ → ℕ → EReal) (h hφ hacc) :
    multiReduction (F := Ideal) (φ := .f32) .add [1] (⟨1, ![m]⟩ : Shape) (arr2 (a := m) (b := n) A) 0x00000000#32 h hφ hacc
      = arr1 fun i => ∑ x ∈ range n, A i x := by
  funext j
  rw [Ideal.multiReduction_add_single]
  exact Fin.sum_univ_eq_sum_range (fun x => A (j 0).val x) n

theorem ofBits_neg_inf : (FloatOps.ofBits .f32 0xFF800000#32 : Ideal .f32) = (⊥ : EReal) := by
  show Ideal.ofBits .f32 0xFF800000#32 = ⊥
  simp [Ideal.ofBits, Ideal.ieee]

theorem fold_max_eq_sup (f : ℕ → EReal) (n : ℕ) :
    (univ : Finset (Fin n)).fold max ⊥ (fun x => f x.val) = (range n).sup f := by
  apply le_antisymm
  · rw [Finset.fold_max_le]
    exact ⟨bot_le, fun x _ => Finset.le_sup (f := f) (Finset.mem_range.2 x.isLt)⟩
  · refine Finset.sup_le fun x hx => ?_
    rw [Finset.le_fold_max]
    exact .inr ⟨⟨x, Finset.mem_range.1 hx⟩, mem_univ _, le_rfl⟩

theorem rowMax_arr2 (A : ℕ → ℕ → EReal) (h hφ hacc) :
    multiReduction (F := Ideal) (φ := .f32) .maximumf [1] (⟨1, ![m]⟩ : Shape) (arr2 (a := m) (b := n) A) 0xFF800000#32 h hφ hacc
      = arr1 fun i => (range n).sup (A i) := by
  funext j
  rw [Ideal.multiReduction_maximumf_single, ofBits_neg_inf]
  exact fold_max_eq_sup (A (j 0).val) n

end Ops

/-! ## Loads and stores -/

section Memory
variable {m n p q r c : ℕ} {e : EltTy}

theorem sh_zero {α : Type} (A : ℕ → ℕ → α) : sh 0 0 A = A := by
  funext i j; simp [sh]

theorem sh_sh {α : Type} (a b r c : ℕ) (A : ℕ → ℕ → α) : sh a b (sh r c A) = sh (r + a) (c + b) A := by
  funext i j; simp only [sh, Nat.add_assoc]

theorem readAt_arr2 {sig : RefSig} {κ : Kind} {sp : Space} (M : Memref sig κ sp ⟨2, ![m, n]⟩ e) (h : M.IsWhole)
    (A : ℕ → ℕ → Elt Ideal e) (inb) :
    View.readAt (Elt Ideal) M.view (Rect.unit ![r, c] ![p, q] inb).toLoadRect (h.unread (arr2 A)) = arr2 (sh r c A) := by
  rw [View.readAt_eq_ld, h.read_unread, View.ld_unit]
  exact slice_arr2 A r c _

theorem readAt_arr3 {sig : RefSig} {κ : Kind} {sp : Space} (M : Memref sig κ sp ⟨3, ![1, m, n]⟩ e) (h : M.IsWhole)
    (A : ℕ → ℕ → Elt Ideal e) (inb) :
    View.readAt (Elt Ideal) M.view (Rect.unit ![0, r, c] ![1, p, q] inb).toLoadRect (h.unread (arr3 fun _ => A))
      = arr3 fun _ => sh r c A := by
  rw [View.readAt_eq_ld, h.read_unread, View.ld_unit]
  rfl

/-- The pieces `L`, the last written first, cover a two-axis array and leave `G` in it. -/
def Holds (L : List (View.Piece (Elt Ideal) ⟨2, ![m, n]⟩ e)) (G : ℕ → ℕ → Elt Ideal e) : Prop :=
  (∀ y, ∃ x ∈ L, y ∈ x.1.set) ∧ View.canon L = arr2 G

theorem mem_rect2 {inb} {y : (⟨2, ![m, n]⟩ : Shape).Idx} :
    y ∈ (Rect.unit (s := ⟨2, ![m, n]⟩) ![r, c] ![p, q] inb).set
      ↔ (r ≤ (y 0).val ∧ (y 0).val < r + p) ∧ c ≤ (y 1).val ∧ (y 1).val < c + q := by
  rw [Rect.mem_set_unit]
  exact ⟨fun h => ⟨h 0, h 1⟩, fun h a => match a with | ⟨0, _⟩ => h.1 | ⟨1, _⟩ => h.2⟩

/-- A last write, over whatever the earlier ones left: the written part reads the new values. -/
def put {α : Type} (r c p q : ℕ) (W G : ℕ → ℕ → α) : ℕ → ℕ → α := fun i j =>
  if (r ≤ i ∧ i < r + p) ∧ c ≤ j ∧ j < c + q then W (i - r) (j - c) else G i j

theorem canon_cons_arr2 (inb) (W : ℕ → ℕ → Elt Ideal e) (L : List (View.Piece (Elt Ideal) ⟨2, ![m, n]⟩ e))
    (y : (⟨2, ![m, n]⟩ : Shape).Idx) :
    View.canon ((⟨Rect.unit ![r, c] ![p, q] inb, arr2 (a := p) (b := q) W⟩ : View.Piece (Elt Ideal) ⟨2, ![m, n]⟩ e) :: L) y
      = if (r ≤ (y 0).val ∧ (y 0).val < r + p) ∧ c ≤ (y 1).val ∧ (y 1).val < c + q
        then W ((y 0).val - r) ((y 1).val - c) else View.canon L y := by
  by_cases hm : y ∈ (Rect.unit (s := ⟨2, ![m, n]⟩) ![r, c] ![p, q] inb).set
  · rw [if_pos (mem_rect2.1 hm)]
    obtain ⟨x, hx⟩ := (Rect.unit (s := ⟨2, ![m, n]⟩) ![r, c] ![p, q] inb).exists_idx_of_mem hm
    have h0 : (y 0).val = r + 1 * (x 0).val := congrArg (fun z => (z 0).val) hx.symm
    have h1 : (y 1).val = c + 1 * (x 1).val := congrArg (fun z => (z 1).val) hx.symm
    have e := View.canon_cons_emb (Val := Elt Ideal) (Rect.unit (s := ⟨2, ![m, n]⟩) ![r, c] ![p, q] inb) (arr2 W) L x
    rw [show (Rect.unit (s := ⟨2, ![m, n]⟩) ![r, c] ![p, q] inb).emb x = y from hx] at e
    refine e.trans ?_
    rw [h0, h1, Nat.one_mul, Nat.one_mul, Nat.add_sub_cancel_left, Nat.add_sub_cancel_left]
    rfl
  · rw [if_neg (fun h => hm (mem_rect2.2 h))]
    exact View.canon_cons_of_not_mem
      (⟨Rect.unit ![r, c] ![p, q] inb, arr2 (a := p) (b := q) W⟩ : View.Piece (Elt Ideal) ⟨2, ![m, n]⟩ e) L hm

theorem Holds.cons {L : List (View.Piece (Elt Ideal) ⟨2, ![m, n]⟩ e)} {G : ℕ → ℕ → Elt Ideal e} (hL : Holds L G)
    (inb) (W : ℕ → ℕ → Elt Ideal e) :
    Holds ((⟨Rect.unit ![r, c] ![p, q] inb, arr2 (a := p) (b := q) W⟩ : View.Piece (Elt Ideal) ⟨2, ![m, n]⟩ e) :: L)
      (put r c p q W G) := by
  refine ⟨fun y => ?_, ?_⟩
  · obtain ⟨x, hx, hy⟩ := hL.1 y
    exact ⟨x, List.mem_cons_of_mem _ hx, hy⟩
  · funext y
    rw [canon_cons_arr2, hL.2]
    rfl

theorem Holds.whole (inb) (W : ℕ → ℕ → Elt Ideal e) :
    Holds [(⟨Rect.unit ![0, 0] ![m, n] inb, arr2 (a := m) (b := n) W⟩ : View.Piece (Elt Ideal) ⟨2, ![m, n]⟩ e)] W := by
  refine ⟨fun y => ⟨_, List.mem_singleton_self _, ?_⟩, ?_⟩
  · have := idx2_lt0 y
    have := idx2_lt1 y
    exact (mem_rect2 (inb := inb)).2 ⟨⟨Nat.zero_le _, by omega⟩, Nat.zero_le _, by omega⟩
  · funext y
    have := idx2_lt0 y
    have := idx2_lt1 y
    rw [canon_cons_arr2, if_pos ⟨⟨Nat.zero_le _, by omega⟩, Nat.zero_le _, by omega⟩]
    rfl

theorem Holds.congr {L : List (View.Piece (Elt Ideal) ⟨2, ![m, n]⟩ e)} {G G' : ℕ → ℕ → Elt Ideal e} (hL : Holds L G)
    (h : ∀ i j, i < m → j < n → G i j = G' i j) : Holds L G' := ⟨hL.1, hL.2.trans (arr2_congr h)⟩

theorem Holds.read {L : List (View.Piece (Elt Ideal) ⟨2, ![m, n]⟩ e)} {G : ℕ → ℕ → Elt Ideal e} (hL : Holds L G)
    {sig : RefSig} {κ : Kind} {sp : Space} (v : View sig κ sp ⟨2, ![m, n]⟩ e) (inb) :
    v.readCov L (Rect.unit ![r, c] ![p, q] inb).toLoadRect = arr2 (sh r c G) := by
  rw [View.readCov_eq_canon_ld _ _ _ hL.1, hL.2, View.ld_unit]
  exact slice_arr2 G r c _

/-- Four row tiles of 512 rows. -/
theorem Holds.tiles (n : ℕ) (W0 W1 W2 W3 G : ℕ → ℕ → Elt Ideal e) (i0 i1 i2 i3)
    (h0 : ∀ i j, i < 512 → j < n → W0 i j = G i j) (h1 : ∀ i j, i < 512 → j < n → W1 i j = G (512 + i) j)
    (h2 : ∀ i j, i < 512 → j < n → W2 i j = G (1024 + i) j) (h3 : ∀ i j, i < 512 → j < n → W3 i j = G (1536 + i) j) :
    Holds (m := 2048) (n := n) [⟨Rect.unit ![1536, 0] ![512, n] i3, arr2 (a := 512) (b := n) W3⟩,
      ⟨Rect.unit ![1024, 0] ![512, n] i2, arr2 (a := 512) (b := n) W2⟩,
      ⟨Rect.unit ![512, 0] ![512, n] i1, arr2 (a := 512) (b := n) W1⟩,
      ⟨Rect.unit ![0, 0] ![512, n] i0, arr2 (a := 512) (b := n) W0⟩] G := by
  constructor
  · intro y
    have l0 := idx2_lt0 y
    have l1 := idx2_lt1 y
    by_cases a3 : 1536 ≤ (y 0).val
    · exact ⟨_, .head _, (mem_rect2 (inb := i3)).2 (by omega)⟩
    by_cases a2 : 1024 ≤ (y 0).val
    · exact ⟨_, .tail _ (.head _), (mem_rect2 (inb := i2)).2 (by omega)⟩
    by_cases a1 : 512 ≤ (y 0).val
    · exact ⟨_, .tail _ (.tail _ (.head _)), (mem_rect2 (inb := i1)).2 (by omega)⟩
    · exact ⟨_, .tail _ (.tail _ (.tail _ (.head _))), (mem_rect2 (inb := i0)).2 (by omega)⟩
  · funext y
    have l0 := idx2_lt0 y
    have l1 := idx2_lt1 y
    rw [canon_cons_arr2, canon_cons_arr2, canon_cons_arr2, canon_cons_arr2]
    show _ = G (y 0).val (y 1).val
    split_ifs with a3 a2 a1 a0
    · rw [h3 _ _ (by omega) (by omega), Nat.sub_zero, Nat.add_sub_cancel' a3.1.1]
    · rw [h2 _ _ (by omega) (by omega), Nat.sub_zero, Nat.add_sub_cancel' a2.1.1]
    · rw [h1 _ _ (by omega) (by omega), Nat.sub_zero, Nat.add_sub_cancel' a1.1.1]
    · rw [h0 _ _ (by omega) (by omega), Nat.sub_zero, Nat.sub_zero]
    · omega

theorem mem_rect3 {inb} {y : (⟨3, ![1, m, n]⟩ : Shape).Idx} :
    y ∈ (Rect.unit (s := ⟨3, ![1, m, n]⟩) ![0, r, c] ![1, p, q] inb).set
      ↔ (r ≤ (y 1).val ∧ (y 1).val < r + p) ∧ c ≤ (y 2).val ∧ (y 2).val < c + q := by
  rw [Rect.mem_set_unit]
  refine ⟨fun h => ⟨h 1, h 2⟩, fun h a => ?_⟩
  match a with
  | ⟨0, _⟩ => exact ⟨Nat.zero_le _, (y 0).isLt⟩
  | ⟨1, _⟩ => exact h.1
  | ⟨2, _⟩ => exact h.2

theorem canon_cons_arr3 (inb) (W : ℕ → ℕ → Elt Ideal e) (L : List (View.Piece (Elt Ideal) ⟨3, ![1, m, n]⟩ e))
    (y : (⟨3, ![1, m, n]⟩ : Shape).Idx) :
    View.canon ((⟨Rect.unit ![0, r, c] ![1, p, q] inb, arr3 (a := 1) (b := p) (c := q) fun _ => W⟩ :
        View.Piece (Elt Ideal) ⟨3, ![1, m, n]⟩ e) :: L) y
      = if (r ≤ (y 1).val ∧ (y 1).val < r + p) ∧ c ≤ (y 2).val ∧ (y 2).val < c + q
        then W ((y 1).val - r) ((y 2).val - c) else View.canon L y := by
  by_cases hm : y ∈ (Rect.unit (s := ⟨3, ![1, m, n]⟩) ![0, r, c] ![1, p, q] inb).set
  · rw [if_pos (mem_rect3.1 hm)]
    obtain ⟨x, hx⟩ := (Rect.unit (s := ⟨3, ![1, m, n]⟩) ![0, r, c] ![1, p, q] inb).exists_idx_of_mem hm
    have h0 : (y 1).val = r + 1 * (x 1).val := congrArg (fun z => (z 1).val) hx.symm
    have h1 : (y 2).val = c + 1 * (x 2).val := congrArg (fun z => (z 2).val) hx.symm
    have e := View.canon_cons_emb (Val := Elt Ideal) (Rect.unit (s := ⟨3, ![1, m, n]⟩) ![0, r, c] ![1, p, q] inb)
      (arr3 fun _ => W) L x
    rw [show (Rect.unit (s := ⟨3, ![1, m, n]⟩) ![0, r, c] ![1, p, q] inb).emb x = y from hx] at e
    refine e.trans ?_
    rw [h0, h1, Nat.one_mul, Nat.one_mul, Nat.add_sub_cancel_left, Nat.add_sub_cancel_left]
    rfl
  · rw [if_neg (fun h => hm (mem_rect3.2 h))]
    exact View.canon_cons_of_not_mem (⟨Rect.unit ![0, r, c] ![1, p, q] inb, arr3 (a := 1) (b := p) (c := q) fun _ => W⟩ :
      View.Piece (Elt Ideal) ⟨3, ![1, m, n]⟩ e) L hm

/-- Two blocks side by side that make up a one-plane array. -/
theorem canon_hcat_arr3 (q' : ℕ) (A B : ℕ → ℕ → Elt Ideal e) (i0 i1) (hn : n = q + q') :
    View.canon [(⟨Rect.unit ![0, 0, q] ![1, m, q'] i1, arr3 (a := 1) (b := m) (c := q') fun _ => B⟩ :
        View.Piece (Elt Ideal) ⟨3, ![1, m, n]⟩ e),
      ⟨Rect.unit ![0, 0, 0] ![1, m, q] i0, arr3 (a := 1) (b := m) (c := q) fun _ => A⟩] = arr3 fun _ => hcat q A B := by
  funext y
  have l1 : (y 1).val < m := (y 1).isLt
  have l2 : (y 2).val < n := (y 2).isLt
  rw [canon_cons_arr3, canon_cons_arr3]
  show _ = if (y 2).val < q then A (y 1).val (y 2).val else B (y 1).val ((y 2).val - q)
  by_cases h : (y 2).val < q
  · rw [if_pos h, if_neg (by omega), if_pos (by omega)]
    simp
  · rw [if_neg h, if_pos (by omega)]
    simp

/-- One block that is the whole one-plane array. -/
theorem canon_whole_arr3 (A : ℕ → ℕ → Elt Ideal e) (i0) :
    View.canon [(⟨Rect.unit ![0, 0, 0] ![1, m, n] i0, arr3 (a := 1) (b := m) (c := n) fun _ => A⟩ :
        View.Piece (Elt Ideal) ⟨3, ![1, m, n]⟩ e)] = arr3 fun _ => A := by
  funext y
  have l1 : (y 1).val < m := (y 1).isLt
  have l2 : (y 2).val < n := (y 2).isLt
  rw [canon_cons_arr3, if_pos (by omega)]
  rfl

end Memory

end Cert.Mat
-- ==== Proof.AttnMath.lean ====
/-
  The attention backward pass of one head, as functions of natural-number coordinates: queries, keys and values from
  the projections, the masked scores, the softmax, and the gradients.
-/
module

public import proofs.«01_k».proof.Proof.Mat

@[expose] public section

noncomputable section

namespace Cert.Attn

open Idealize.ShloMosaic Finset Cert.Mat

/-- The softmax scale, the word both programs hold. -/
def SC : EReal := Ideal.ofBits .f32 0x3D93CD3A#32

/-- The rotation of the two halves of a 64-column matrix by the angles' cosines and sines. -/
def rope (co si A : ℕ → ℕ → EReal) : ℕ → ℕ → EReal :=
  hcat 32 (fun i j => A i j * co i j - A i (32 + j) * si i j) (fun i j => A i j * si i j + A i (32 + j) * co i j)
/-- The opposite rotation, which is the transpose of `rope`. -/
def ropeT (co si A : ℕ → ℕ → EReal) : ℕ → ℕ → EReal :=
  hcat 32 (fun i j => A i j * co i j + A i (32 + j) * si i j) (fun i j => A i (32 + j) * co i j - A i j * si i j)

def queries (cq co si wq : ℕ → ℕ → EReal) : ℕ → ℕ → EReal :=
  hcat 128 (mm 384 cq wq) (rope co si (mm 384 cq (sh 0 128 wq)))
def keys (ckv kpe wkv : ℕ → ℕ → EReal) : ℕ → ℕ → EReal := hcat 128 (mm 256 ckv wkv) kpe
def values (ckv wkv : ℕ → ℕ → EReal) : ℕ → ℕ → EReal := mm 256 ckv (sh 0 128 wkv)

/-- Query `i` sees key `j` when the key's block of 64 is not after the query's. -/
def blockMask (A : ℕ → ℕ → EReal) : ℕ → ℕ → EReal := fun i j => if j / 64 ≤ i / 64 then A i j else ⊥

/-- The softmax of the first `n` columns of each row. -/
def softmax (n : ℕ) (X : ℕ → ℕ → EReal) : ℕ → ℕ → EReal := fun i j =>
  Ideal.div (Ideal.exp (X i j - (range n).sup (X i))) (∑ s ∈ range n, Ideal.exp (X i s - (range n).sup (X i)))

/-- The softmax's gradient: from the probabilities `P` and the gradient `D` of them, scaled. -/
def softmaxT (n : ℕ) (P D : ℕ → ℕ → EReal) : ℕ → ℕ → EReal := fun i j =>
  P i j * (D i j - ∑ s ∈ range n, P i s * D i s) * SC

/-- All scores of the head. -/
def logits (q k : ℕ → ℕ → EReal) : ℕ → ℕ → EReal := fun i j => mmT 192 q k i j * SC
def scores (q k : ℕ → ℕ → EReal) : ℕ → ℕ → EReal := blockMask (logits q k)
def probs (q k : ℕ → ℕ → EReal) : ℕ → ℕ → EReal := softmax 2048 (scores q k)
def dscores (q k v d : ℕ → ℕ → EReal) : ℕ → ℕ → EReal := softmaxT 2048 (probs q k) (mmT 128 d v)

/-- The gradient of the queries, of the keys and of the values (the last two with the coordinates exchanged). -/
def dqueries (q k v d : ℕ → ℕ → EReal) : ℕ → ℕ → EReal := mm 2048 (dscores q k v d) k
def dkeysT (q k v d : ℕ → ℕ → EReal) : ℕ → ℕ → EReal := mTm 2048 q (dscores q k v d)
def dvaluesT (q k d : ℕ → ℕ → EReal) : ℕ → ℕ → EReal := mTm 2048 d (probs q k)

/-! ## The kernel's four row tiles

Tile `b` has the 512 queries from `p = 512 b` on and the `n = p + 512` keys up to its own last query; only its last 512
columns are masked. -/

/-- A tile's masked scores: the first `p` columns as they are, the rest masked. -/
def tileScores (p : ℕ) (q k : ℕ → ℕ → EReal) : ℕ → ℕ → EReal :=
  hcat p (logits (sh p 0 q) k) (blockMask (sh 0 p (logits (sh p 0 q) k)))

theorem tileScores_zero (q k : ℕ → ℕ → EReal) : tileScores 0 q k = blockMask (logits q k) := by
  unfold tileScores
  simp only [sh_zero]
  funext i j
  simp [hcat]

/-- A tile's probabilities and score gradients. -/
def tileProbs (p : ℕ) (q k : ℕ → ℕ → EReal) : ℕ → ℕ → EReal := softmax (p + 512) (tileScores p q k)
def tileDscores (p : ℕ) (q k v d : ℕ → ℕ → EReal) : ℕ → ℕ → EReal :=
  softmaxT (p + 512) (tileProbs p q k) (mmT 128 (sh p 0 d) v)

end Cert.Attn
-- ==== Proof.Head.lean ====
/-
  The inputs of the attention backward pass, and its six results, head by head and summed over the heads.
-/
module

public import proofs.«01_k».proof.Proof.AttnMath

@[expose] public section

noncomputable section

namespace Cert.Attn

open Idealize.ShloMosaic Finset Cert.Mat

/-- The inputs: the two latents, the rotated key part, the angles' cosines and sines, each head's weights and output,
    and the gradient of the result. -/
structure In where
  cq : ℕ → ℕ → EReal
  ckv : ℕ → ℕ → EReal
  kpe : ℕ → ℕ → EReal
  co : ℕ → ℕ → EReal
  si : ℕ → ℕ → EReal
  dz : ℕ → ℕ → EReal
  wq : ℕ → ℕ → ℕ → EReal
  wkv : ℕ → ℕ → ℕ → EReal
  wo : ℕ → ℕ → ℕ → EReal
  o : ℕ → ℕ → ℕ → EReal

namespace In
variable (I : In) (h : ℕ)

def q : ℕ → ℕ → EReal := queries I.cq I.co I.si (I.wq h)
def k : ℕ → ℕ → EReal := keys I.ckv I.kpe (I.wkv h)
def v : ℕ → ℕ → EReal := values I.ckv (I.wkv h)
def d : ℕ → ℕ → EReal := mmT 1024 I.dz (I.wo h)

/-- The gradient of the head's queries, of its keys, of its values, and of the queries before their rotation. -/
def dq : ℕ → ℕ → EReal := dqueries (I.q h) (I.k h) (I.v h) (I.d h)
def dk : ℕ → ℕ → EReal := fun i j => dkeysT (I.q h) (I.k h) (I.v h) (I.d h) j i
def dv : ℕ → ℕ → EReal := fun i j => dvaluesT (I.q h) (I.k h) (I.d h) j i
def dqr : ℕ → ℕ → EReal := ropeT I.co I.si (sh 0 128 (I.dq h))

/-- The gradients of the head's weights. -/
def dwo : ℕ → ℕ → EReal := mTm 2048 (I.o h) I.dz
def dwq : ℕ → ℕ → EReal := hcat 128 (mTm 2048 I.cq (I.dq h)) (mTm 2048 I.cq (I.dqr h))
def dwkv : ℕ → ℕ → EReal := hcat 128 (mTm 2048 I.ckv (I.dk h)) (mTm 2048 I.ckv (I.dv h))
/-- The head's parts of the gradients of the latents and of the rotated key part. -/
def dcqH : ℕ → ℕ → EReal := fun i j => mmT 128 (I.dq h) (I.wq h) i j + mmT 64 (I.dqr h) (sh 0 128 (I.wq h)) i j
def dckvH : ℕ → ℕ → EReal := fun i j => mmT 128 (I.dk h) (I.wkv h) i j + mmT 128 (I.dv h) (sh 0 128 (I.wkv h)) i j
def dkpeH : ℕ → ℕ → EReal := fun i j => I.dk h i (128 + j)
/-- Those gradients after the first `n` heads. -/
def dcq (n : ℕ) : ℕ → ℕ → EReal := fun i j => ∑ h ∈ range n, I.dcqH h i j
def dckv (n : ℕ) : ℕ → ℕ → EReal := fun i j => ∑ h ∈ range n, I.dckvH h i j
def dkpe (n : ℕ) : ℕ → ℕ → EReal := fun i j => ∑ h ∈ range n, I.dkpeH h i j

end In

end Cert.Attn
-- ==== Proof.Blocks.lean ====
/-
  The attention backward kernel's input blocks at a grid point: the whole array, or the point's head of it.
-/
module

public import proofs.«01_k».proof.Proof.Head
public import proofs.«01_k».proof.Proof.Gen.KernelIdeal.Value

@[expose] public section

set_option maxRecDepth 16384

noncomputable section

namespace Cert.Attn

open Idealize.ShloMosaic Idealize.ShloMosaic.TcCoe Finset Cert.Mat Cert.KernelIdeal Cert.KernelIdeal.Gen

variable (m : (ℓ : Loc nD τ sig) → Buf (Elt Ideal) ℓ) (c : Dev nD)

/-- The inputs as the kernel finds them. -/
def kin : In where
  cq := get2 (m ((c : Thread nD τ).loc main_arg0))
  ckv := get2 (m ((c : Thread nD τ).loc main_arg1))
  kpe := get2 (m ((c : Thread nD τ).loc main_arg2))
  co := get2 (m ((c : Thread nD τ).loc main_arg3))
  si := get2 (m ((c : Thread nD τ).loc main_arg4))
  wq := get3 (m ((c : Thread nD τ).loc main_arg5))
  wkv := get3 (m ((c : Thread nD τ).loc main_arg6))
  wo := get3 (m ((c : Thread nD τ).loc main_arg7))
  dz := get2 (m ((c : Thread nD τ).loc main_arg8))
  o := get3 (V m c (Pipeline.arrRef spec0 8))

theorem idx_whole : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_9.index t 0 = 0 ∧ win0_9.index t 1 = 0) := by decide +kernel

theorem idx_head : ∀ t : Fin grid0.N, (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0) := by decide +kernel

theorem whole_read {a b : ℕ} {x : (⟨2, ![a, b]⟩ : Shape).Idx → EReal} {i j : (⟨2, ![a, b]⟩ : Shape).Idx} {p q : ℕ}
    (hp : p = 0) (hq : q = 0) (h0 : (i 0).val = p * a + 1 * (j 0).val) (h1 : (i 1).val = q * b + 1 * (j 1).val) :
    x i = arr2 (get2 x) j := by
  subst hp hq
  rw [arr2_get2]
  congr 1
  funext n
  apply Fin.ext
  match n with
  | ⟨0, _⟩ => exact h0.trans (by rw [Nat.zero_mul, Nat.zero_add, Nat.one_mul]; rfl)
  | ⟨1, _⟩ => exact h1.trans (by rw [Nat.zero_mul, Nat.zero_add, Nat.one_mul]; rfl)

theorem head_read {n a b : ℕ} {x : (⟨3, ![n, a, b]⟩ : Shape).Idx → EReal} {i : (⟨3, ![n, a, b]⟩ : Shape).Idx}
    {j : (⟨3, ![1, a, b]⟩ : Shape).Idx} {t p q r : ℕ} (ht : t = p) (hq : q = 0) (hr : r = 0)
    (h0 : (i 0).val = t * 1 + 1 * (j 0).val) (h1 : (i 1).val = q * a + 1 * (j 1).val)
    (h2 : (i 2).val = r * b + 1 * (j 2).val) :
    x i = arr3 (a := 1) (b := a) (c := b) (fun _ => get3 x p) j := by
  subst ht hq hr
  have hj : (j 0).val < 1 := (j 0).isLt
  have e : x i = arr3 (get3 x) i := by rw [arr3_get3]
  rw [e]
  unfold arr3
  rw [h0, h1, h2]
  congr 1 <;> omega

theorem iblk0 (t : Fin cfg0.N) : iblk m c 0 t = arr2 (kin m c).cq := by
  funext j
  unfold iblk
  rw [View.read_apply]
  show V m c main_arg0 _ = _
  rw [V_main_arg0]
  exact whole_read (idx_whole t).1.1 (idx_whole t).1.2 rfl rfl

theorem iblk1 (t : Fin cfg0.N) : iblk m c 1 t = arr2 (kin m c).ckv := by
  funext j
  unfold iblk
  rw [View.read_apply]
  show V m c main_arg1 _ = _
  rw [V_main_arg1]
  exact whole_read (idx_whole t).2.1.1 (idx_whole t).2.1.2 rfl rfl

theorem iblk2 (t : Fin cfg0.N) : iblk m c 2 t = arr2 (kin m c).kpe := by
  funext j
  unfold iblk
  rw [View.read_apply]
  show V m c main_arg2 _ = _
  rw [V_main_arg2]
  exact whole_read (idx_whole t).2.2.1.1 (idx_whole t).2.2.1.2 rfl rfl

theorem iblk3 (t : Fin cfg0.N) : iblk m c 3 t = arr2 (kin m c).co := by
  funext j
  unfold iblk
  rw [View.read_apply]
  show V m c main_arg3 _ = _
  rw [V_main_arg3]
  exact whole_read (idx_whole t).2.2.2.1.1 (idx_whole t).2.2.2.1.2 rfl rfl

theorem iblk4 (t : Fin cfg0.N) : iblk m c 4 t = arr2 (kin m c).si := by
  funext j
  unfold iblk
  rw [View.read_apply]
  show V m c main_arg4 _ = _
  rw [V_main_arg4]
  exact whole_read (idx_whole t).2.2.2.2.1.1 (idx_whole t).2.2.2.2.1.2 rfl rfl

theorem iblk9 (t : Fin cfg0.N) : iblk m c 9 t = arr2 (kin m c).dz := by
  funext j
  unfold iblk
  rw [View.read_apply]
  show V m c main_arg8 _ = _
  rw [V_main_arg8]
  exact whole_read (idx_whole t).2.2.2.2.2.1 (idx_whole t).2.2.2.2.2.2 rfl rfl

theorem iblk5 (t : Fin cfg0.N) : iblk m c 5 t = arr3 fun _ => (kin m c).wq t.val := by
  funext j
  unfold iblk
  rw [View.read_apply]
  show V m c main_arg5 _ = _
  rw [V_main_arg5]
  exact head_read (idx_head t).1.1 (idx_head t).1.2.1 (idx_head t).1.2.2 rfl rfl rfl

theorem iblk6 (t : Fin cfg0.N) : iblk m c 6 t = arr3 fun _ => (kin m c).wkv t.val := by
  funext j
  unfold iblk
  rw [View.read_apply]
  show V m c main_arg6 _ = _
  rw [V_main_arg6]
  exact head_read (idx_head t).2.1.1 (idx_head t).2.1.2.1 (idx_head t).2.1.2.2 rfl rfl rfl

theorem iblk7 (t : Fin cfg0.N) : iblk m c 7 t = arr3 fun _ => (kin m c).wo t.val := by
  funext j
  unfold iblk
  rw [View.read_apply]
  show V m c main_arg7 _ = _
  rw [V_main_arg7]
  exact head_read (idx_head t).2.2.1.1 (idx_head t).2.2.1.2.1 (idx_head t).2.2.1.2.2 rfl rfl rfl

theorem iblk8 (t : Fin cfg0.N) : iblk m c 8 t = arr3 fun _ => (kin m c).o t.val := by
  funext j
  unfold iblk
  rw [View.read_apply]
  show V m c (Pipeline.arrRef spec0 8) _ = _
  exact head_read (idx_head t).2.2.2.1 (idx_head t).2.2.2.2.1 (idx_head t).2.2.2.2.2 rfl rfl rfl

end Cert.Attn
-- ==== Proof.Tiles.lean ====
/-
  The kernel's four row tiles compute the same probabilities and gradients as whole rows, and its accumulation of the
  keys' and values' gradients over the tiles is the sum over all queries.
-/
module

public import proofs.«01_k».proof.Proof.AttnMath

@[expose] public section

noncomputable section

namespace Cert.Attn

open Idealize.ShloMosaic Finset Cert.Mat

/-- A softmax over fewer columns, when the others hold `⊥`. -/
theorem softmax_restrict {n N : ℕ} (hn : n ≤ N) (X Y : ℕ → ℕ → EReal) (i i' : ℕ) (h : ∀ j, j < n → X i j = Y i' j)
    (hb : ∀ j, n ≤ j → j < N → Y i' j = ⊥) {j : ℕ} (hj : j < n) : softmax n X i j = softmax N Y i' j := by
  have hs : (range n).sup (X i) = (range N).sup (Y i') := by
    apply le_antisymm
    · refine Finset.sup_le fun s hs => ?_
      have hs := mem_range.1 hs
      rw [h s hs]
      exact Finset.le_sup (f := Y i') (mem_range.2 (by omega))
    · refine Finset.sup_le fun s hs => ?_
      have hs := mem_range.1 hs
      by_cases hsn : s < n
      · rw [← h s hsn]
        exact Finset.le_sup (f := X i) (mem_range.2 hsn)
      · rw [hb s (by omega) hs]
        exact bot_le
  unfold softmax
  rw [hs, h j hj]
  congr 1
  have : ∑ s ∈ range n, Ideal.exp (X i s - (range N).sup (Y i')) = ∑ s ∈ range n, Ideal.exp (Y i' s - (range N).sup (Y i')) :=
    Finset.sum_congr rfl fun s hs => by rw [h s (mem_range.1 hs)]
  rw [this]
  refine Finset.sum_subset (range_subset_range.2 hn) fun s hs hs' => ?_
  rw [hb s (by simpa using hs') (mem_range.1 hs), EReal.bot_sub]
  rfl

/-- Sums over the range up to the last column that isn't zero. -/
theorem sum_restrict {n N : ℕ} (hn : n ≤ N) (f : ℕ → EReal) (h : ∀ j, n ≤ j → j < N → f j = 0) :
    ∑ s ∈ range n, f s = ∑ s ∈ range N, f s :=
  Finset.sum_subset (range_subset_range.2 hn) fun s hs hs' => h s (by simpa using hs') (mem_range.1 hs)

/-- The masked probabilities are zero. -/
def MaskedZero (q k : ℕ → ℕ → EReal) : Prop := ∀ i j, j < 2048 → ¬ j / 64 ≤ i / 64 → probs q k i j = 0

section
variable {q k v d : ℕ → ℕ → EReal}

theorem tileProbs_eq {p i j : ℕ} (hp : 512 ∣ p) (hp' : p + 512 ≤ 2048) (hi : i < 512) (hj : j < p + 512) :
    tileProbs p q k i j = probs q k (p + i) j := by
  obtain ⟨c, rfl⟩ := hp
  refine softmax_restrict hp' _ _ i (512 * c + i) (fun s hs => ?_) (fun s h1 h2 => ?_) hj
  · have hl : logits (sh (512 * c) 0 q) k i = logits q k (512 * c + i) := by
      funext t; simp only [logits, mmT, sh, Nat.zero_add]
    unfold tileScores scores hcat blockMask
    by_cases hsp : s < 512 * c
    · rw [if_pos hsp, hl, if_pos (by omega)]
    · rw [if_neg hsp]
      have e : (s - 512 * c) / 64 ≤ i / 64 ↔ s / 64 ≤ (512 * c + i) / 64 := by omega
      simp only [e, sh, Nat.zero_add]
      rw [hl, show 512 * c + (s - 512 * c) = s by omega]
  · unfold scores blockMask
    rw [if_neg (by omega)]

theorem dscores_masked (hz : MaskedZero q k) {i j : ℕ} (hj : j < 2048) (h : ¬ j / 64 ≤ i / 64) : dscores q k v d i j = 0 := by
  unfold dscores softmaxT
  rw [hz i j hj h, zero_mul, zero_mul]

theorem tileDscores_eq (hz : MaskedZero q k) {p i j : ℕ} (hp : 512 ∣ p) (hp' : p + 512 ≤ 2048) (hi : i < 512)
    (hj : j < p + 512) : tileDscores p q k v d i j = dscores q k v d (p + i) j := by
  have hd : mmT 128 (sh p 0 d) v i = mmT 128 d v (p + i) := by
    funext t; simp only [mmT, sh, Nat.zero_add]
  unfold tileDscores dscores softmaxT
  rw [tileProbs_eq hp hp' hi hj, hd]
  congr 3
  rw [← sum_restrict hp' (fun s => probs q k (p + i) s * mmT 128 d v (p + i) s) fun s h1 h2 => ?_]
  · exact Finset.sum_congr rfl fun s hs => by rw [tileProbs_eq hp hp' hi (mem_range.1 hs)]
  · obtain ⟨c, rfl⟩ := hp
    rw [hz _ s h2 (by omega), zero_mul]

/-- A tile of the queries' gradient. -/
theorem dq_tile (hz : MaskedZero q k) {p i : ℕ} (j : ℕ) (hp : 512 ∣ p) (hp' : p + 512 ≤ 2048) (hi : i < 512) :
    mm (p + 512) (tileDscores p q k v d) k i j = dqueries q k v d (p + i) j := by
  unfold dqueries mm
  rw [← sum_restrict hp' (fun s => dscores q k v d (p + i) s * k s j) fun s h1 h2 => ?_]
  · exact Finset.sum_congr rfl fun s hs => by rw [tileDscores_eq hz hp hp' hi (mem_range.1 hs)]
  · obtain ⟨c, rfl⟩ := hp
    rw [dscores_masked hz h2 (by omega), zero_mul]

theorem sum_range_tile (f : ℕ → EReal) (p : ℕ) :
    ∑ t ∈ range p, f t + ∑ x ∈ range 512, f (p + x) = ∑ t ∈ range (p + 512), f t :=
  (Finset.sum_range_add (M := EReal) f p 512).symm

/-- What an accumulator of `m` used rows holds once the first `p` rows of `X` went into it. -/
def accT (m p : ℕ) (a X : ℕ → ℕ → EReal) : ℕ → ℕ → EReal := fun i j => if i < m then mTm p a X i j else 0

theorem accT_zero (m : ℕ) (a X : ℕ → ℕ → EReal) : accT m 0 a X = fun _ _ => 0 := by
  funext i j; simp [accT, mTm]

/-- One step of an accumulation over the tiles, of a matrix `X` whose masked entries are zero. -/
theorem acc_step {X : ℕ → ℕ → EReal} (hX : ∀ i j, j < 2048 → ¬ j / 64 ≤ i / 64 → X i j = 0) (a T : ℕ → ℕ → EReal) {p n : ℕ}
    (hn : n = p + 512) (hp : 512 ∣ p) (hp' : n ≤ 2048) (m : ℕ) (hT : ∀ i j, i < 512 → j < n → T i j = X (p + i) j) (i j : ℕ)
    (hj : j < 2048) :
    put 0 0 m n (fun i j => accT m p a X i j + mTm 512 (sh p 0 a) T i j) (accT m p a X) i j = accT m n a X i j := by
  subst hn
  unfold put accT
  by_cases hi : i < m
  swap
  · rw [if_neg (by omega), if_neg hi, if_neg hi]
  by_cases h : j < p + 512
  · rw [if_pos (by omega)]
    simp only [Nat.sub_zero]
    rw [if_pos hi, if_pos hi]
    unfold mTm
    rw [← sum_range_tile (fun t => a t i * X t j) p]
    congr 1
    refine Finset.sum_congr rfl fun x hx => ?_
    rw [hT x j (mem_range.1 hx) h]
    simp only [sh, Nat.zero_add]
  · rw [if_neg (by omega), if_pos hi, if_pos hi]
    refine sum_restrict (by omega) _ fun t h1 h2 => ?_
    obtain ⟨c, rfl⟩ := hp
    rw [hX t j hj (by omega), mul_zero]

/-- The same for the memory that holds the accumulator. -/
theorem holds_acc {X : ℕ → ℕ → EReal} (hX : ∀ i j, j < 2048 → ¬ j / 64 ≤ i / 64 → X i j = 0) {a T : ℕ → ℕ → EReal} {p n : ℕ}
    (hn : n = p + 512) (hp : 512 ∣ p) (hp' : n ≤ 2048) {m M : ℕ} (hT : ∀ i j, i < 512 → j < n → T i j = X (p + i) j)
    {L : List (View.Piece (Elt Ideal) ⟨2, ![M, 2048]⟩ .f32)} (hL : Holds L (accT m p a X)) (inb) :
    Holds ((⟨Rect.unit ![0, 0] ![m, n] inb, arr2 (a := m) (b := n) (α := EReal) fun i j => accT m p a X i j + mTm 512 (sh p 0 a) T i j⟩ :
      View.Piece (Elt Ideal) ⟨2, ![M, 2048]⟩ .f32) :: L) (accT m n a X) :=
  (hL.cons inb _).congr fun i j _ hj => acc_step hX a T hn hp hp' m hT i j hj

theorem tileDscores_zero (q k v d : ℕ → ℕ → EReal) :
    tileDscores 0 q k v d = softmaxT 512 (softmax 512 (blockMask (logits q k))) (mmT 128 d v) := by
  unfold tileDscores tileProbs
  rw [tileScores_zero, sh_zero]

theorem tileProbs_zero (q k : ℕ → ℕ → EReal) : tileProbs 0 q k = softmax 512 (blockMask (logits q k)) := by
  unfold tileProbs
  rw [tileScores_zero]

end

end Cert.Attn
-- ==== Proof.Finite.lean ====
/-
  With finite inputs every score is a real number or masked, so each row's softmax denominator is a positive real. Then
  the masked probabilities are zero, and the gradient through the softmax is the same whether the quotient's derivative
  is taken by the quotient rule or folded into the probabilities.
-/
module

public import proofs.«01_k».proof.Proof.Tiles
public import proofs.«01_k».proof.Proof.Head

@[expose] public section

noncomputable section

namespace Cert.Attn

open Idealize.ShloMosaic Finset Cert.Mat

/-- The value is a real number. -/
def IsR (x : EReal) : Prop := ∃ r : ℝ, x = r
/-- Every entry is a real number. -/
def IsR2 (A : ℕ → ℕ → EReal) : Prop := ∀ i j, IsR (A i j)

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.sum {f : ℕ → EReal} (n : ℕ) (h : ∀ s, s < n → IsR (f s)) : IsR (∑ s ∈ range n, f s) := by
  induction n with
  | zero => exact ⟨0, rfl⟩
  | succ n ih => rw [sum_range_succ]; exact (ih fun s hs => h s (by omega)).add (h n (by omega))

theorem IsR2.mm {A B : ℕ → ℕ → EReal} (K : ℕ) (hA : IsR2 A) (hB : IsR2 B) : IsR2 (mm K A B) :=
  fun _ _ => IsR.sum K fun _ _ => (hA _ _).mul (hB _ _)
theorem IsR2.mmT {A B : ℕ → ℕ → EReal} (K : ℕ) (hA : IsR2 A) (hB : IsR2 B) : IsR2 (mmT K A B) :=
  fun _ _ => IsR.sum K fun _ _ => (hA _ _).mul (hB _ _)
theorem IsR2.hcat {A B : ℕ → ℕ → EReal} (n : ℕ) (hA : IsR2 A) (hB : IsR2 B) : IsR2 (hcat n A B) := fun i j => by
  unfold Mat.hcat; split
  · exact hA _ _
  · exact hB _ _
theorem IsR2.rope {c s A : ℕ → ℕ → EReal} (hc : IsR2 c) (hs : IsR2 s) (hA : IsR2 A) : IsR2 (rope c s A) :=
  IsR2.hcat 32 (fun i j => ((hA i j).mul (hc i j)).sub ((hA i _).mul (hs i j)))
    fun i j => ((hA i j).mul (hs i j)).add ((hA i _).mul (hc i j))

theorem isR_SC : IsR SC := by
  unfold SC Ideal.ofBits
  simp only [Ideal.ieee]
  rw [if_neg (by decide), if_neg (by decide)]
  exact ⟨_, rfl⟩

/-- The inputs that the scores are computed from are real. -/
structure In.Finite (I : In) : Prop where
  cq : IsR2 I.cq
  ckv : IsR2 I.ckv
  kpe : IsR2 I.kpe
  co : IsR2 I.co
  si : IsR2 I.si
  wq : ∀ h, IsR2 (I.wq h)
  wkv : ∀ h, IsR2 (I.wkv h)

theorem In.Finite.q {I : In} (f : I.Finite) (h : ℕ) : IsR2 (I.q h) :=
  (f.cq.mm 384 (f.wq h)).hcat 128 (IsR2.rope f.co f.si (f.cq.mm 384 fun _ _ => f.wq h _ _))
theorem In.Finite.k {I : In} (f : I.Finite) (h : ℕ) : IsR2 (I.k h) := (f.ckv.mm 256 (f.wkv h)).hcat 128 f.kpe
theorem In.Finite.logits {I : In} (f : I.Finite) (h : ℕ) : IsR2 (logits (I.q h) (I.k h)) :=
  fun i j => ((f.q h).mmT 192 (f.k h) i j).mul isR_SC

/-! ## A softmax row -/

/-- The exponentials of a row, shifted by the row's maximum, and their sum. -/
def rowExp (n : ℕ) (X : ℕ → EReal) : ℕ → EReal := fun s => Ideal.exp (X s - (range n).sup X)
def rowSum (n : ℕ) (X : ℕ → EReal) : EReal := ∑ s ∈ range n, rowExp n X s

theorem softmax_eq (n : ℕ) (X : ℕ → ℕ → EReal) (i j : ℕ) :
    softmax n X i j = Ideal.div (rowExp n (X i) j) (rowSum n (X i)) := rfl

theorem sum_coe {f : ℕ → EReal} {g : ℕ → ℝ} (n : ℕ) (h : ∀ s, s < n → f s = g s) :
    ∑ s ∈ range n, f s = ((∑ s ∈ range n, g s : ℝ) : EReal) := by
  induction n with
  | zero => rfl
  | succ n ih => rw [sum_range_succ, sum_range_succ, ih fun s hs => h s (by omega), h n (by omega), EReal.coe_add]

theorem rowExp_real {n : ℕ} {X : ℕ → EReal} (hX : ∀ s, s < n → IsR (X s) ∨ X s = ⊥) (h0 : 0 < n) (hr : IsR (X 0)) :
    ∃ (e : ℕ → ℝ) (L : ℝ), 0 < L ∧ (∀ s, 0 ≤ e s) ∧ (∀ s, s < n → rowExp n X s = e s)
      ∧ (∀ s, s < n → X s = ⊥ → e s = 0) ∧ rowSum n X = L := by
  have hM : IsR ((range n).sup X) := by
    have hlt : (range n).sup X < ⊤ := (Finset.sup_lt_iff bot_lt_top).2 fun s hs => by
      rcases hX s (mem_range.1 hs) with ⟨r, h⟩ | h
      · rw [h]; exact EReal.coe_lt_top r
      · rw [h]; exact bot_lt_top
    have hgt : ⊥ < (range n).sup X := by
      obtain ⟨r, h⟩ := hr
      exact lt_of_lt_of_le (by rw [h]; exact EReal.bot_lt_coe r) (Finset.le_sup (f := X) (mem_range.2 h0))
    exact ⟨((range n).sup X).toReal, (EReal.coe_toReal hlt.ne hgt.ne').symm⟩
  obtain ⟨M, hM⟩ := hM
  have he : ∀ s, s < n → ∃ r : ℝ, 0 ≤ r ∧ rowExp n X s = r ∧ (X s = ⊥ → r = 0) ∧ (IsR (X s) → 0 < r) := fun s hs => by
    unfold rowExp
    rw [hM]
    rcases hX s hs with ⟨r, h⟩ | h
    · refine ⟨Real.exp (r - M), (Real.exp_pos _).le, ?_, fun h' => ?_, fun _ => Real.exp_pos _⟩
      · rw [h, ← EReal.coe_sub]; rfl
      · rw [h] at h'; exact absurd h' (EReal.coe_ne_bot r)
    · refine ⟨0, le_refl _, ?_, fun _ => rfl, ?_⟩
      · rw [h, EReal.bot_sub]; rfl
      · rintro ⟨r, h'⟩; rw [h] at h'; exact absurd h'.symm (EReal.coe_ne_bot r)
  choose! e h1 h2 h3 h4 using he
  refine ⟨fun s => if s < n then e s else 0, ∑ s ∈ range n, e s, ?_, fun s => ?_, fun s hs => ?_, fun s hs hb => ?_, ?_⟩
  · exact Finset.sum_pos' (fun s hs => h1 s (mem_range.1 hs)) ⟨0, mem_range.2 h0, h4 0 h0 hr⟩
  · dsimp only; split
    · exact h1 s ‹_›
    · exact le_refl _
  · dsimp only; rw [if_pos hs]; exact h2 s hs
  · dsimp only; rw [if_pos hs]; exact h3 s hs hb
  · exact sum_coe n h2

theorem row_cases {I : In} (f : I.Finite) (h i s : ℕ) :
    IsR (scores (I.q h) (I.k h) i s) ∨ scores (I.q h) (I.k h) i s = ⊥ := by
  unfold scores blockMask
  split
  · exact .inl (f.logits h i s)
  · exact .inr rfl

theorem row_zero {I : In} (f : I.Finite) (h i : ℕ) : IsR (scores (I.q h) (I.k h) i 0) := by
  unfold scores blockMask
  rw [if_pos (by simp)]
  exact f.logits h i 0

theorem maskedZero {I : In} (f : I.Finite) (h : ℕ) : MaskedZero (I.q h) (I.k h) := fun i j hj hm => by
  obtain ⟨e, L, hL, -, he, hb, hs⟩ := rowExp_real (n := 2048) (fun s _ => row_cases f h i s) (by omega) (row_zero f h i)
  unfold probs
  rw [softmax_eq, hs, he j hj, hb j hj (by unfold scores blockMask; rw [if_neg hm]), Ideal.div_coe hL.ne']
  exact zero_mul _

/-! ## The gradient through the softmax -/

theorem coe_mul_sum {a : ℝ} (ha : 0 ≤ a) (f : ℕ → EReal) (n : ℕ) :
    (a : EReal) * ∑ s ∈ range n, f s = ∑ s ∈ range n, (a : EReal) * f s := by
  induction n with
  | zero => exact mul_zero _
  | succ n ih =>
    rw [sum_range_succ, sum_range_succ,
      EReal.left_distrib_of_nonneg_of_ne_top (EReal.coe_nonneg.2 ha) (EReal.coe_ne_top a), ih]

/-- The gradient of a row of scores as the quotient rule gives it: `E` the row's exponentials, `L` their sum. -/
def quotT (n : ℕ) (E D : ℕ → EReal) (L : EReal) (j : ℕ) : EReal :=
  (Ideal.div (D j) L + -∑ s ∈ range n, D s * Ideal.div 1 (L * L) * E s) * E j

theorem quotT_eq {n : ℕ} {E D : ℕ → EReal} {L : EReal} {e : ℕ → ℝ} {l : ℝ} (hl : 0 < l) (he : ∀ s, 0 ≤ e s)
    (hE : ∀ s, s < n → E s = e s) (hL : L = l) {j : ℕ} (hj : j < n) :
    quotT n E D L j = Ideal.div (E j) L * (D j - ∑ s ∈ range n, Ideal.div (E s) L * D s) := by
  have ha : (0 : ℝ) ≤ 1 / l := by positivity
  have hsum : ∑ s ∈ range n, D s * Ideal.div 1 (L * L) * E s
      = ((1 / l : ℝ) : EReal) * ∑ s ∈ range n, Ideal.div (E s) L * D s := by
    rw [coe_mul_sum ha]
    refine Finset.sum_congr rfl fun s hs => ?_
    rw [hL, ← EReal.coe_mul, Ideal.div_coe (mul_pos hl hl).ne', Ideal.div_coe hl.ne', one_mul,
      show (1 / (l * l) : ℝ) = 1 / l * (1 / l) by field_simp, EReal.coe_mul]
    ac_rfl
  unfold quotT
  rw [hsum, hL, Ideal.div_coe hl.ne', Ideal.div_coe hl.ne', sub_eq_add_neg, mul_comm (D j), ← mul_neg,
    ← EReal.left_distrib_of_nonneg_of_ne_top (EReal.coe_nonneg.2 ha) (EReal.coe_ne_top _)]
  ac_rfl

/-- The gradient of the scores, from the quotient rule and with the masked scores' gradient left out. -/
theorem dscores_eq {I : In} (f : I.Finite) (h i j : ℕ) (hj : j < 2048) :
    (if j / 64 ≤ i / 64 then quotT 2048 (rowExp 2048 (scores (I.q h) (I.k h) i)) (mmT 128 (I.d h) (I.v h) i)
        (rowSum 2048 (scores (I.q h) (I.k h) i)) j else 0) * SC = dscores (I.q h) (I.k h) (I.v h) (I.d h) i j := by
  obtain ⟨e, L, hL, he0, he, hb, hs⟩ := rowExp_real (n := 2048) (fun s _ => row_cases f h i s) (by omega) (row_zero f h i)
  split
  · rw [quotT_eq hL he0 he hs hj]; rfl
  · rw [dscores_masked (maskedZero f h) hj ‹_›, zero_mul]

end Cert.Attn
-- ==== Proof.PreRead.lean ====
/-
  The precondition, read back: the operands it names hold real numbers only.
-/
module

public import proofs.«01_k».proof.Defs
public import proofs.«01_k».proof.Proof.Gen.Pre_finite_operands
public import proofs.«01_k».proof.Proof.Blocks
public import proofs.«01_k».proof.Proof.Finite
public import Idealize.ShloMosaic.Lib.ReduceAll

@[expose] public section

noncomputable section

namespace Cert.Attn

open Idealize.ShloMosaic Idealize.ShloMosaic.TcCoe Idealize.SL.Sem Cert.Mat

theorem isR_of_abs_lt {x : EReal} (h : max x (-x) < ⊤) : IsR x := by
  induction x with
  | bot => simp at h
  | top => simp at h
  | coe r => exact ⟨r, rfl⟩

theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

/-- "All absolute values are below infinity" says that every entry is a real number. -/
theorem isR_of_all {s t u : Shape} [Subsingleton t.Idx] {φ : FTy} {axes : List (Fin s.rank)} (x b : FVec Ideal s φ)
    (init : u.Idx → BitVec 1) (h : s.ReducesTo axes t) (hu : 0 < u.numel) (j : t.Idx) (hb : ∀ i, b i = (⊤ : EReal))
    (e : Host.reduce IntOp.andi (cmpf .olt (Host.absf x) b) init h hu j = 1#1) (i : s.Idx) : IsR (x i) := by
  have e' : Ideal.cmp .olt (max (x i : EReal) (-(x i : EReal))) (b i) = 1#1 := Host.reduce_andi_all _ _ _ _ _ e i
  rw [hb] at e'
  refine isR_of_abs_lt ?_
  by_contra hn
  simp [Ideal.cmp, hn] at e'

theorem isR2_get2 {a b : ℕ} {x : (⟨2, ![a, b]⟩ : Shape).Idx → EReal} (h : ∀ i, IsR (x i)) : IsR2 (get2 x) := by
  intro i j
  unfold get2
  split
  · exact h _
  · exact ⟨0, rfl⟩

theorem isR2_get3 {a b c : ℕ} {x : (⟨3, ![a, b, c]⟩ : Shape).Idx → EReal} (h : ∀ i, IsR (x i)) (n : ℕ) : IsR2 (get3 x n) := by
  intro i j
  unfold get3
  split
  · exact h _
  · exact ⟨0, rfl⟩

variable (m : (ℓ : Loc KernelIdeal.nD KernelIdeal.τ KernelIdeal.sig) → Buf (Elt Ideal) ℓ) (c : Dev KernelIdeal.nD)

theorem kin_finite (h : Pre_KernelIdeal_finite_operands (hPre_finite_operands := Pre_finite_operands.Gen.facts) m) :
    (kin m c).Finite := by
  have e := congrFun (h c) (fun a => a.elim0)
  unfold Pre_finite_operands.fn Pre_finite_operands.fn_part1 at e
  dsimp only at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton Pre_finite_operands.S_.Idx := ⟨fun a b => funext fun i => i.elim0⟩
  exact {
    cq := isR2_get2 (isR_of_all _ _ _ _ _ _ (fun _ => ofBits_inf_bf16) h0)
    ckv := isR2_get2 (isR_of_all _ _ _ _ _ _ (fun _ => ofBits_inf_bf16) h1)
    kpe := isR2_get2 (isR_of_all _ _ _ _ _ _ (fun _ => ofBits_inf_f32) h2)
    co := isR2_get2 (isR_of_all _ _ _ _ _ _ (fun _ => ofBits_inf_f32) h3)
    si := isR2_get2 (isR_of_all _ _ _ _ _ _ (fun _ => ofBits_inf_f32) h4)
    wq := isR2_get3 (isR_of_all _ _ _ _ _ _ (fun _ => ofBits_inf_bf16) h5)
    wkv := isR2_get3 (isR_of_all _ _ _ _ _ _ (fun _ => ofBits_inf_bf16) h6) }

end Cert.Attn
-- ==== Proof.Payloads.lean ====
/-
  What each step of the attention backward kernel computes, on arrays given by functions.
-/
module

public import proofs.«01_k».proof.Proof.AttnMath
public import proofs.«01_k».proof.Proof.Gen.KernelIdeal.Skeleton

@[expose] public section

set_option maxRecDepth 16384

noncomputable section

namespace Cert.Attn

open Idealize.ShloMosaic Finset Cert.Mat Cert.KernelIdeal Cert.KernelIdeal.Gen

theorem shrsi_six : ∀ a : Fin 512, IntOp.shrsi .vector (BitVec.ofNat 32 a.val) 6#32 = BitVec.ofNat 32 (a.val / 64) := by
  decide +kernel

theorem sle_small : ∀ a b : Fin 8, IntOp.cmpi .sle (BitVec.ofNat 32 a.val) (BitVec.ofNat 32 b.val) = BitVec.ofBool (decide (a.val ≤ b.val)) := by
  decide +kernel

/-- The kernel's mask, from two index arrays shifted right by six. -/
theorem select_mask (A : ℕ → ℕ → EReal) (h0 h1) :
    select (cmpi .sle (shrsi (iota .tc (⟨2, ![512, 512]⟩ : Shape) 32 [1] h1) (broadcast (⟨2, ![512, 512]⟩ : Shape) 6#32))
        (shrsi (iota .tc (⟨2, ![512, 512]⟩ : Shape) 32 [0] h0) (broadcast (⟨2, ![512, 512]⟩ : Shape) 6#32)))
      (arr2 (a := 512) (b := 512) A) (broadcast (⟨2, ![512, 512]⟩ : Shape) (Scalar.ofBits (F := Ideal) .f32 0xFF800000#32))
      = arr2 (blockMask A) := by
  funext y
  have l0 := ValueIdx.idx2_lt0 y
  have l1 := ValueIdx.idx2_lt1 y
  show Scalar.select (IntOp.cmpi .sle (IntOp.shrsi .vector (iota .tc (⟨2, ![512, 512]⟩ : Shape) 32 [1] h1 y) 6#32)
    (IntOp.shrsi .vector (iota .tc (⟨2, ![512, 512]⟩ : Shape) 32 [0] h0 y) 6#32)) (A (y 0).val (y 1).val)
      (FloatOps.ofBits .f32 0xFF800000#32 : Ideal .f32) = blockMask A (y 0).val (y 1).val
  rw [iota_single_apply, iota_single_apply, ofBits_neg_inf, shrsi_six ⟨(y 1).val, l1⟩, shrsi_six ⟨(y 0).val, l0⟩]
  show Scalar.select (IntOp.cmpi .sle (BitVec.ofNat 32 ((y 1).val / 64)) (BitVec.ofNat 32 ((y 0).val / 64))) _ _ = _
  rw [sle_small ⟨(y 1).val / 64, by omega⟩ ⟨(y 0).val / 64, by omega⟩]
  unfold blockMask Scalar.select
  by_cases h : (y 1).val / 64 ≤ (y 0).val / 64 <;> simp [h]

theorem select_mask_arr (A : ℕ → ℕ → EReal) (h0 h1) :
    select (cmpi .sle (shrsi (iota .tc (⟨2, ![512, 512]⟩ : Shape) 32 [1] h1) (arr2 fun _ _ => 6#32))
        (shrsi (iota .tc (⟨2, ![512, 512]⟩ : Shape) 32 [0] h0) (arr2 fun _ _ => 6#32)))
      (arr2 (α := EReal) (a := 512) (b := 512) A) (arr2 fun _ _ => FloatOps.ofBits (F := Ideal) .f32 0xFF800000#32)
      = arr2 (α := EReal) (blockMask A) := select_mask A h0 h1

/-- A row softmax as the kernel writes it. -/
theorem softmax_op {n : ℕ} (A : ℕ → ℕ → EReal) (h1 h2 h3 h4 h5 h6 h7 h8 h9 h10) :
    divf (F := Ideal) (φ := .f32)
      (exp (subf (arr2 (α := EReal) (a := 512) (b := n) A) (broadcastTo (⟨2, ![512, n]⟩ : Shape) (shapeCast (⟨2, ![512, 1]⟩ : Shape)
        (multiReduction (F := Ideal) (φ := .f32) .maximumf [1] (⟨1, ![512]⟩ : Shape) (arr2 (a := 512) (b := n) A) 0xFF800000#32 h1 h2 h3) h4) h5)))
      (broadcastTo (⟨2, ![512, n]⟩ : Shape) (shapeCast (⟨2, ![512, 1]⟩ : Shape)
        (multiReduction (F := Ideal) (φ := .f32) .add [1] (⟨1, ![512]⟩ : Shape)
          (exp (subf (arr2 (α := EReal) (a := 512) (b := n) A) (broadcastTo (⟨2, ![512, n]⟩ : Shape) (shapeCast (⟨2, ![512, 1]⟩ : Shape)
            (multiReduction (F := Ideal) (φ := .f32) .maximumf [1] (⟨1, ![512]⟩ : Shape) (arr2 (a := 512) (b := n) A) 0xFF800000#32 h1 h2 h3) h4) h5)))
          0x00000000#32 h6 h7 h8) h9) h10) = arr2 (α := EReal) (softmax n A) := by
  rw [rowMax_arr2, shapeCast_arr1, broadcastTo_arr2, subf_arr2, exp_arr2, rowSum_arr2, shapeCast_arr1, broadcastTo_arr2, divf_arr2]
  rfl

/-- The gradient through a row softmax as the kernel writes it. -/
theorem softmaxT_op {n : ℕ} (P D : ℕ → ℕ → EReal) (h1 h2 h3 h4 h5 h6) :
    truncf (F := Ideal) (φ := .f32) .bf16 (mulf (mulf (arr2 (α := EReal) (a := 512) (b := n) P) (subf (arr2 (α := EReal) D)
      (broadcastTo (⟨2, ![512, n]⟩ : Shape) (shapeCast (⟨2, ![512, 1]⟩ : Shape)
        (multiReduction (F := Ideal) (φ := .f32) .add [1] (⟨1, ![512]⟩ : Shape)
          (arr2 (α := EReal) (a := 512) (b := n) fun i j => P i j * D i j) 0x00000000#32 h1 h2 h3) h4) h5)))
      (arr2 fun _ _ => FloatOps.ofBits (F := Ideal) .f32 0x3D93CD3A#32)) h6 = arr2 (α := EReal) (softmaxT n P D) := by
  rw [rowSum_arr2, shapeCast_arr1, broadcastTo_arr2, subf_arr2, mulf_arr2, mulf_arr2, truncf_arr2]
  rfl

section
variable (x y z w u q k v d : ℕ → ℕ → EReal)

theorem pay9 : k0_pay9 (F := Ideal) = arr2 fun _ _ => 0 := by
  unfold k0_pay9
  simp only [broadcast_arr2, shapeCast_arr2]
  exact congrArg _ (funext fun _ => funext fun _ => Ideal.ofBits_zero_f32)

theorem pay10 : k0_pay10 (F := Ideal) = arr2 fun _ _ => 0 := by
  unfold k0_pay10
  simp only [broadcast_arr2, shapeCast_arr2]
  exact congrArg _ (funext fun _ => funext fun _ => Ideal.ofBits_zero_f32)

theorem pay1 : k0_pay1 (F := Ideal) (arr2 (α := EReal) x) (arr2 (α := EReal) y)
    = arr2 fun i j => y i j + x i j := by
  unfold k0_pay1
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay2 : k0_pay2 (F := Ideal) (arr2 (α := EReal) x) (arr2 (α := EReal) y)
    = arr2 fun i j => y i j + x i j := by
  unfold k0_pay2
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay3 : k0_pay3 (F := Ideal) (arr2 (α := EReal) x) (arr2 (α := EReal) y)
    = arr2 fun i j => y i j + x i j := by
  unfold k0_pay3
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay4 : k0_pay4 (F := Ideal) (arr2 (α := EReal) x) (arr2 (α := EReal) y) (arr2 (α := EReal) z) (arr3 (α := EReal) fun _ => w) (arr3 (α := EReal) fun _ => u)
    = arr2 (hcat 128 (mm 384 x w) (rope y z (mm 384 x u))) := by
  unfold k0_pay4
  dsimp only
  rw [concatenate_eq_cat2, concatenate_eq_cat2]
  simp only [arr2_elt_bf16, arr2_elt_f32, arr3_elt_bf16, shapeCast_arr3, shapeCast_arr2, shapeCast_arr2_arr3, shapeCast_arr1, broadcastTo_arr2, broadcast_arr2,
    matmul_nn dot_S2048x384_S384x128_S2048x128_1_0_0_1_n_n rfl, matmul_nn dot_S2048x384_S384x64_S2048x64_1_0_0_1_n_n rfl, slice_arr2, sh_zero, mulf_arr2, subf_arr2, addf_arr2, divf_arr2, exp_arr2, cat2_arr2,
    truncf_arr2, transpose_arr2]
  simp only [rope, ropeT, sh, Nat.zero_add]

theorem pay5 : k0_pay5 (F := Ideal) (arr2 (α := EReal) x) (arr2 (α := EReal) y) (arr3 (α := EReal) fun _ => w)
    = arr2 (hcat 128 (mm 256 x w) y) := by
  unfold k0_pay5
  dsimp only
  rw [concatenate_eq_cat2]
  simp only [arr2_elt_bf16, arr2_elt_f32, arr3_elt_bf16, shapeCast_arr3, shapeCast_arr2, shapeCast_arr2_arr3, shapeCast_arr1, broadcastTo_arr2, broadcast_arr2,
    matmul_nn dot_S2048x256_S256x128_S2048x128_1_0_0_1_n_n rfl, slice_arr2, sh_zero, mulf_arr2, subf_arr2, addf_arr2, divf_arr2, exp_arr2, cat2_arr2,
    truncf_arr2, transpose_arr2]

theorem pay6 : k0_pay6 (F := Ideal) (arr2 (α := EReal) x) (arr3 (α := EReal) fun _ => w)
    = arr2 (mm 256 x w) := by
  unfold k0_pay6
  simp only [arr2_elt_bf16, arr2_elt_f32, arr3_elt_bf16, shapeCast_arr3, shapeCast_arr2, shapeCast_arr2_arr3, shapeCast_arr1, broadcastTo_arr2, broadcast_arr2,
    matmul_nn dot_S2048x256_S256x128_S2048x128_1_0_0_1_n_n rfl, slice_arr2, sh_zero, mulf_arr2, subf_arr2, addf_arr2, divf_arr2, exp_arr2, cat2_arr2,
    truncf_arr2, transpose_arr2]

theorem pay7 : k0_pay7 (F := Ideal) (arr2 (α := EReal) x) (arr3 (α := EReal) fun _ => w)
    = arr3 fun _ => mTm 2048 w x := by
  unfold k0_pay7
  simp only [arr2_elt_bf16, arr2_elt_f32, arr3_elt_bf16, shapeCast_arr3, shapeCast_arr2, shapeCast_arr2_arr3, shapeCast_arr1, broadcastTo_arr2, broadcast_arr2,
    matmul_tn dot_S2048x128_S2048x1024_S128x1024_0_0_1_1_n_n rfl, slice_arr2, sh_zero, mulf_arr2, subf_arr2, addf_arr2, divf_arr2, exp_arr2, cat2_arr2,
    truncf_arr2, transpose_arr2]

theorem pay8 : k0_pay8 (F := Ideal) (arr2 (α := EReal) x) (arr3 (α := EReal) fun _ => w)
    = arr2 (mmT 1024 x w) := by
  unfold k0_pay8
  simp only [arr2_elt_bf16, arr2_elt_f32, arr3_elt_bf16, shapeCast_arr3, shapeCast_arr2, shapeCast_arr2_arr3, shapeCast_arr1, broadcastTo_arr2, broadcast_arr2,
    matmul_nt dot_S2048x1024_S128x1024_S2048x128_1_1_0_0_n_n rfl, slice_arr2, sh_zero, mulf_arr2, subf_arr2, addf_arr2, divf_arr2, exp_arr2, cat2_arr2,
    truncf_arr2, transpose_arr2]

theorem pay11 : k0_pay11 (F := Ideal) (arr2 (α := EReal) q) (arr2 (α := EReal) k)
    = arr2 (blockMask (logits q k)) := by
  unfold k0_pay11
  simp only [arr2_elt_bf16, arr2_elt_f32, arr3_elt_bf16, shapeCast_arr3, shapeCast_arr2, shapeCast_arr2_arr3, shapeCast_arr1, broadcastTo_arr2, broadcast_arr2,
    matmul_nt dot_S512x192_S512x192_S512x512_1_1_0_0_n_n rfl, slice_arr2, sh_zero, mulf_arr2, subf_arr2, addf_arr2, divf_arr2, exp_arr2, cat2_arr2,
    truncf_arr2, transpose_arr2]
  rw [select_mask_arr]
  rfl

theorem pay12 : k0_pay12 (F := Ideal) (arr2 (α := EReal) x)
    = arr2 (softmax 512 x) := by
  unfold k0_pay12
  exact softmax_op _ _ _ _ _ _ _ _ _ _ _

theorem pay13 : k0_pay13 (F := Ideal) (arr2 (α := EReal) v) (arr2 (α := EReal) d) (arr2 (α := EReal) x)
    = arr2 (softmaxT 512 (softmax 512 x) (mmT 128 d v)) := by
  unfold k0_pay13
  simp only [arr2_elt_bf16, arr2_elt_f32, arr3_elt_bf16, shapeCast_arr3, shapeCast_arr2, shapeCast_arr2_arr3, shapeCast_arr1, broadcastTo_arr2, broadcast_arr2,
    matmul_nt dot_S512x128_S512x128_S512x512_1_1_0_0_n_n rfl, slice_arr2, sh_zero, mulf_arr2, subf_arr2, addf_arr2, divf_arr2, exp_arr2, cat2_arr2,
    truncf_arr2, transpose_arr2, select_mask_arr, pay12]
  exact softmaxT_op _ _ _ _ _ _ _ _

theorem pay14 : k0_pay14 (F := Ideal) (arr2 (α := EReal) k) (arr2 (α := EReal) v) (arr2 (α := EReal) d) (arr2 (α := EReal) x)
    = arr2 (mm 512 (softmaxT 512 (softmax 512 x) (mmT 128 d v)) k) := by
  unfold k0_pay14
  simp only [arr2_elt_bf16, arr2_elt_f32, arr3_elt_bf16, shapeCast_arr3, shapeCast_arr2, shapeCast_arr2_arr3, shapeCast_arr1, broadcastTo_arr2, broadcast_arr2,
    matmul_nn dot_S512x512_S512x192_S512x192_1_0_0_1_n_n rfl, slice_arr2, sh_zero, mulf_arr2, subf_arr2, addf_arr2, divf_arr2, exp_arr2, cat2_arr2,
    truncf_arr2, transpose_arr2, select_mask_arr, pay13]

theorem pay15 : k0_pay15 (F := Ideal) (arr2 (α := EReal) q) (arr2 (α := EReal) v) (arr2 (α := EReal) d) (arr2 (α := EReal) x) (arr2 (α := EReal) y)
    = arr2 fun i j => y i j + mTm 512 q (softmaxT 512 (softmax 512 x) (mmT 128 d v)) i j := by
  unfold k0_pay15
  simp only [arr2_elt_bf16, arr2_elt_f32, arr3_elt_bf16, shapeCast_arr3, shapeCast_arr2, shapeCast_arr2_arr3, shapeCast_arr1, broadcastTo_arr2, broadcast_arr2,
    matmul_tn dot_S512x192_S512x512_S192x512_0_0_1_1_n_n rfl, slice_arr2, sh_zero, mulf_arr2, subf_arr2, addf_arr2, divf_arr2, exp_arr2, cat2_arr2,
    truncf_arr2, transpose_arr2, select_mask_arr, pay13]

theorem pay16 : k0_pay16 (F := Ideal) (arr2 (α := EReal) d) (arr2 (α := EReal) x) (arr2 (α := EReal) y)
    = arr2 fun i j => y i j + mTm 512 d (softmax 512 x) i j := by
  unfold k0_pay16
  simp only [arr2_elt_bf16, arr2_elt_f32, arr3_elt_bf16, shapeCast_arr3, shapeCast_arr2, shapeCast_arr2_arr3, shapeCast_arr1, broadcastTo_arr2, broadcast_arr2,
    matmul_tn dot_S512x128_S512x512_S128x512_0_0_1_1_n_n rfl, slice_arr2, sh_zero, mulf_arr2, subf_arr2, addf_arr2, divf_arr2, exp_arr2, cat2_arr2,
    truncf_arr2, transpose_arr2, select_mask_arr, pay12]

theorem pay17 : k0_pay17 (F := Ideal) (arr2 (α := EReal) q) (arr2 (α := EReal) k)
    = arr2 (tileProbs 512 q k) := by
  unfold k0_pay17
  dsimp only
  rw [concatenate_eq_cat2]
  simp only [arr2_elt_bf16, arr2_elt_f32, arr3_elt_bf16, shapeCast_arr3, shapeCast_arr2, shapeCast_arr2_arr3, shapeCast_arr1, broadcastTo_arr2, broadcast_arr2,
    matmul_nt dot_S512x192_S1024x192_S512x1024_1_1_0_0_n_n rfl, slice_arr2, sh_zero, mulf_arr2, subf_arr2, addf_arr2, divf_arr2, exp_arr2, cat2_arr2,
    truncf_arr2, transpose_arr2]
  rw [select_mask_arr]
  simp only [arr2_elt_bf16, arr2_elt_f32, arr3_elt_bf16, shapeCast_arr3, shapeCast_arr2, shapeCast_arr2_arr3, shapeCast_arr1, broadcastTo_arr2, broadcast_arr2,
    matmul_nt dot_S512x192_S1024x192_S512x1024_1_1_0_0_n_n rfl, slice_arr2, sh_zero, mulf_arr2, subf_arr2, addf_arr2, divf_arr2, exp_arr2, cat2_arr2,
    truncf_arr2, transpose_arr2]
  exact softmax_op _ _ _ _ _ _ _ _ _ _ _

theorem pay18 : k0_pay18 (F := Ideal) (arr2 (α := EReal) q) (arr2 (α := EReal) k) (arr2 (α := EReal) v) (arr2 (α := EReal) d)
    = arr2 (tileDscores 512 q k v d) := by
  unfold k0_pay18
  simp only [arr2_elt_bf16, arr2_elt_f32, arr3_elt_bf16, shapeCast_arr3, shapeCast_arr2, shapeCast_arr2_arr3, shapeCast_arr1, broadcastTo_arr2, broadcast_arr2,
    matmul_nt dot_S512x128_S1024x128_S512x1024_1_1_0_0_n_n rfl, slice_arr2, sh_zero, mulf_arr2, subf_arr2, addf_arr2, divf_arr2, exp_arr2, cat2_arr2,
    truncf_arr2, transpose_arr2, select_mask_arr, pay17]
  exact softmaxT_op _ _ _ _ _ _ _ _

theorem pay19 : k0_pay19 (F := Ideal) (arr2 (α := EReal) q) (arr2 (α := EReal) k) (arr2 (α := EReal) v) (arr2 (α := EReal) d)
    = arr2 (mm 1024 (tileDscores 512 q k v d) k) := by
  unfold k0_pay19
  simp only [arr2_elt_bf16, arr2_elt_f32, arr3_elt_bf16, shapeCast_arr3, shapeCast_arr2, shapeCast_arr2_arr3, shapeCast_arr1, broadcastTo_arr2, broadcast_arr2,
    matmul_nn dot_S512x1024_S1024x192_S512x192_1_0_0_1_n_n rfl, slice_arr2, sh_zero, mulf_arr2, subf_arr2, addf_arr2, divf_arr2, exp_arr2, cat2_arr2,
    truncf_arr2, transpose_arr2, select_mask_arr, pay18]

theorem pay20 : k0_pay20 (F := Ideal) (arr2 (α := EReal) q) (arr2 (α := EReal) x) (arr2 (α := EReal) y)
    = arr2 fun i j => y i j + mTm 512 (sh 512 0 q) x i j := by
  unfold k0_pay20
  simp only [arr2_elt_bf16, arr2_elt_f32, arr3_elt_bf16, shapeCast_arr3, shapeCast_arr2, shapeCast_arr2_arr3, shapeCast_arr1, broadcastTo_arr2, broadcast_arr2,
    matmul_tn dot_S512x192_S512x1024_S192x1024_0_0_1_1_n_n rfl, slice_arr2, sh_zero, mulf_arr2, subf_arr2, addf_arr2, divf_arr2, exp_arr2, cat2_arr2,
    truncf_arr2, transpose_arr2]

theorem pay21 : k0_pay21 (F := Ideal) (arr2 (α := EReal) d) (arr2 (α := EReal) x) (arr2 (α := EReal) y)
    = arr2 fun i j => y i j + mTm 512 (sh 512 0 d) x i j := by
  unfold k0_pay21
  simp only [arr2_elt_bf16, arr2_elt_f32, arr3_elt_bf16, shapeCast_arr3, shapeCast_arr2, shapeCast_arr2_arr3, shapeCast_arr1, broadcastTo_arr2, broadcast_arr2,
    matmul_tn dot_S512x128_S512x1024_S128x1024_0_0_1_1_n_n rfl, slice_arr2, sh_zero, mulf_arr2, subf_arr2, addf_arr2, divf_arr2, exp_arr2, cat2_arr2,
    truncf_arr2, transpose_arr2]

theorem pay22 : k0_pay22 (F := Ideal) (arr2 (α := EReal) q) (arr2 (α := EReal) k)
    = arr2 (tileProbs 1024 q k) := by
  unfold k0_pay22
  dsimp only
  rw [concatenate_eq_cat2]
  simp only [arr2_elt_bf16, arr2_elt_f32, arr3_elt_bf16, shapeCast_arr3, shapeCast_arr2, shapeCast_arr2_arr3, shapeCast_arr1, broadcastTo_arr2, broadcast_arr2,
    matmul_nt dot_S512x192_S1536x192_S512x1536_1_1_0_0_n_n rfl, slice_arr2, sh_zero, mulf_arr2, subf_arr2, addf_arr2, divf_arr2, exp_arr2, cat2_arr2,
    truncf_arr2, transpose_arr2]
  rw [select_mask_arr]
  simp only [arr2_elt_bf16, arr2_elt_f32, arr3_elt_bf16, shapeCast_arr3, shapeCast_arr2, shapeCast_arr2_arr3, shapeCast_arr1, broadcastTo_arr2, broadcast_arr2,
    matmul_nt dot_S512x192_S1536x192_S512x1536_1_1_0_0_n_n rfl, slice_arr2, sh_zero, mulf_arr2, subf_arr2, addf_arr2, divf_arr2, exp_arr2, cat2_arr2,
    truncf_arr2, transpose_arr2]
  exact softmax_op _ _ _ _ _ _ _ _ _ _ _

theorem pay23 : k0_pay23 (F := Ideal) (arr2 (α := EReal) d)
    = arr2 (sh 1024 0 d) := by
  unfold k0_pay23
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay24 : k0_pay24 (F := Ideal) (arr2 (α := EReal) v)
    = arr2 v := by
  unfold k0_pay24
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay25 : k0_pay25 (F := Ideal) (arr2 (α := EReal) x) (arr2 (α := EReal) d) (arr2 (α := EReal) v)
    = arr2 (softmaxT 1536 x (mmT 128 d v)) := by
  unfold k0_pay25
  simp only [arr2_elt_bf16, arr2_elt_f32, arr3_elt_bf16, shapeCast_arr3, shapeCast_arr2, shapeCast_arr2_arr3, shapeCast_arr1, broadcastTo_arr2, broadcast_arr2,
    matmul_nt dot_S512x128_S1536x128_S512x1536_1_1_0_0_n_n rfl, slice_arr2, sh_zero, mulf_arr2, subf_arr2, addf_arr2, divf_arr2, exp_arr2, cat2_arr2,
    truncf_arr2, transpose_arr2]
  exact softmaxT_op _ _ _ _ _ _ _ _

theorem pay26 : k0_pay26 (F := Ideal) (arr2 (α := EReal) k) (arr2 (α := EReal) x) (arr2 (α := EReal) d) (arr2 (α := EReal) v)
    = arr2 (mm 1536 (softmaxT 1536 x (mmT 128 d v)) k) := by
  unfold k0_pay26
  simp only [arr2_elt_bf16, arr2_elt_f32, arr3_elt_bf16, shapeCast_arr3, shapeCast_arr2, shapeCast_arr2_arr3, shapeCast_arr1, broadcastTo_arr2, broadcast_arr2,
    matmul_nn dot_S512x1536_S1536x192_S512x192_1_0_0_1_n_n rfl, slice_arr2, sh_zero, mulf_arr2, subf_arr2, addf_arr2, divf_arr2, exp_arr2, cat2_arr2,
    truncf_arr2, transpose_arr2, select_mask_arr, pay25]

theorem pay27 : k0_pay27 (F := Ideal) (arr2 (α := EReal) q) (arr2 (α := EReal) x) (arr2 (α := EReal) d) (arr2 (α := EReal) v) (arr2 (α := EReal) y)
    = arr2 fun i j => y i j + mTm 512 (sh 1024 0 q) (softmaxT 1536 x (mmT 128 d v)) i j := by
  unfold k0_pay27
  simp only [arr2_elt_bf16, arr2_elt_f32, arr3_elt_bf16, shapeCast_arr3, shapeCast_arr2, shapeCast_arr2_arr3, shapeCast_arr1, broadcastTo_arr2, broadcast_arr2,
    matmul_tn dot_S512x192_S512x1536_S192x1536_0_0_1_1_n_n rfl, slice_arr2, sh_zero, mulf_arr2, subf_arr2, addf_arr2, divf_arr2, exp_arr2, cat2_arr2,
    truncf_arr2, transpose_arr2, select_mask_arr, pay25]

theorem pay28 : k0_pay28 (F := Ideal) (arr2 (α := EReal) d) (arr2 (α := EReal) x) (arr2 (α := EReal) y)
    = arr2 fun i j => y i j + mTm 512 (sh 1024 0 d) x i j := by
  unfold k0_pay28
  simp only [arr2_elt_bf16, arr2_elt_f32, arr3_elt_bf16, shapeCast_arr3, shapeCast_arr2, shapeCast_arr2_arr3, shapeCast_arr1, broadcastTo_arr2, broadcast_arr2,
    matmul_tn dot_S512x128_S512x1536_S128x1536_0_0_1_1_n_n rfl, slice_arr2, sh_zero, mulf_arr2, subf_arr2, addf_arr2, divf_arr2, exp_arr2, cat2_arr2,
    truncf_arr2, transpose_arr2]

theorem pay29 : k0_pay29 (F := Ideal) (arr2 (α := EReal) q) (arr2 (α := EReal) k)
    = arr2 (logits (sh 1536 0 q) k) := by
  unfold k0_pay29
  simp only [arr2_elt_bf16, arr2_elt_f32, arr3_elt_bf16, shapeCast_arr3, shapeCast_arr2, shapeCast_arr2_arr3, shapeCast_arr1, broadcastTo_arr2, broadcast_arr2,
    matmul_nt dot_S512x192_S2048x192_S512x2048_1_1_0_0_n_n rfl, slice_arr2, sh_zero, mulf_arr2, subf_arr2, addf_arr2, divf_arr2, exp_arr2, cat2_arr2,
    truncf_arr2, transpose_arr2]
  rfl

theorem pay31 : k0_pay31 (F := Ideal) (arr2 (α := EReal) x) (iota .tc S512x512 32 [0] iota_S512x512_d0_w32) k0_pay30
    = arr2 (softmax 2048 (hcat 1536 x (blockMask (sh 0 1536 x)))) := by
  unfold k0_pay31
  dsimp only
  rw [concatenate_eq_cat2]
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2, select_mask_arr, k0_pay30]
  rw [select_mask_arr]
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2, select_mask_arr, k0_pay30]
  exact softmax_op _ _ _ _ _ _ _ _ _ _ _

theorem pay32 : k0_pay32 (F := Ideal) (arr2 (α := EReal) v) (arr2 (α := EReal) d) (arr2 (α := EReal) x) (iota .tc S512x512 32 [0] iota_S512x512_d0_w32) k0_pay30
    = arr2 (softmaxT 2048 (softmax 2048 (hcat 1536 x (blockMask (sh 0 1536 x)))) (mmT 128 (sh 1536 0 d) v)) := by
  unfold k0_pay32
  rw [pay31]
  simp only [arr2_elt_bf16, arr2_elt_f32, arr3_elt_bf16, shapeCast_arr3, shapeCast_arr2, shapeCast_arr2_arr3, shapeCast_arr1, broadcastTo_arr2, broadcast_arr2,
    matmul_nt dot_S512x128_S2048x128_S512x2048_1_1_0_0_n_n rfl, slice_arr2, sh_zero, mulf_arr2, subf_arr2, addf_arr2, divf_arr2, exp_arr2, cat2_arr2,
    truncf_arr2, transpose_arr2, select_mask_arr, pay31]
  exact softmaxT_op _ _ _ _ _ _ _ _

theorem pay33 : k0_pay33 (F := Ideal) (arr2 (α := EReal) k) (arr2 (α := EReal) v) (arr2 (α := EReal) d) (arr2 (α := EReal) x) (iota .tc S512x512 32 [0] iota_S512x512_d0_w32) k0_pay30
    = arr2 (mm 2048 (softmaxT 2048 (softmax 2048 (hcat 1536 x (blockMask (sh 0 1536 x)))) (mmT 128 (sh 1536 0 d) v)) k) := by
  unfold k0_pay33
  rw [pay32]
  simp only [arr2_elt_bf16, arr2_elt_f32, arr3_elt_bf16, shapeCast_arr3, shapeCast_arr2, shapeCast_arr2_arr3, shapeCast_arr1, broadcastTo_arr2, broadcast_arr2,
    matmul_nn dot_S512x2048_S2048x192_S512x192_1_0_0_1_n_n rfl, slice_arr2, sh_zero, mulf_arr2, subf_arr2, addf_arr2, divf_arr2, exp_arr2, cat2_arr2,
    truncf_arr2, transpose_arr2]

theorem pay34 : k0_pay34 (F := Ideal) (arr2 (α := EReal) q) (arr2 (α := EReal) v) (arr2 (α := EReal) d) (arr2 (α := EReal) x) (iota .tc S512x512 32 [0] iota_S512x512_d0_w32) k0_pay30 (arr2 (α := EReal) y)
    = arr2 fun i j => y i j + mTm 512 (sh 1536 0 q) (softmaxT 2048 (softmax 2048 (hcat 1536 x (blockMask (sh 0 1536 x)))) (mmT 128 (sh 1536 0 d) v)) i j := by
  unfold k0_pay34
  rw [pay32]
  simp only [arr2_elt_bf16, arr2_elt_f32, arr3_elt_bf16, shapeCast_arr3, shapeCast_arr2, shapeCast_arr2_arr3, shapeCast_arr1, broadcastTo_arr2, broadcast_arr2,
    matmul_tn dot_S512x192_S512x2048_S192x2048_0_0_1_1_n_n rfl, slice_arr2, sh_zero, mulf_arr2, subf_arr2, addf_arr2, divf_arr2, exp_arr2, cat2_arr2,
    truncf_arr2, transpose_arr2]

theorem pay35 : k0_pay35 (F := Ideal) (arr2 (α := EReal) d)
    = arr2 (sh 1536 0 d) := by
  unfold k0_pay35
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay36 : k0_pay36 (F := Ideal) (arr2 (α := EReal) x) (arr2 (α := EReal) y) (arr2 (α := EReal) d)
    = arr2 fun i j => y i j + mTm 512 d x i j := by
  unfold k0_pay36
  simp only [arr2_elt_bf16, arr2_elt_f32, arr3_elt_bf16, shapeCast_arr3, shapeCast_arr2, shapeCast_arr2_arr3, shapeCast_arr1, broadcastTo_arr2, broadcast_arr2,
    matmul_tn dot_S512x128_S512x2048_S128x2048_0_0_1_1_n_n rfl, slice_arr2, sh_zero, mulf_arr2, subf_arr2, addf_arr2, divf_arr2, exp_arr2, cat2_arr2,
    truncf_arr2, transpose_arr2]

theorem pay37 : k0_pay37 (F := Ideal) (arr2 (α := EReal) x)
    = arr2 fun i j => x j i := by
  unfold k0_pay37
  exact transpose_arr2 _ _

theorem pay38 : k0_pay38 (F := Ideal) (arr2 (α := EReal) x)
    = arr2 x := by
  unfold k0_pay38
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]

theorem pay39 : k0_pay39 (F := Ideal) (arr2 (α := EReal) y) (arr2 (α := EReal) z) (arr2 (α := EReal) x)
    = arr2 (ropeT y z x) := by
  unfold k0_pay39
  dsimp only
  rw [concatenate_eq_cat2]
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]
  simp only [rope, ropeT, sh, Nat.zero_add]

theorem pay40 : k0_pay40 (F := Ideal) (arr2 (α := EReal) x)
    = arr2 fun i j => x j i := by
  unfold k0_pay40
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2, select_mask_arr, pay37]

theorem pay41 : k0_pay41 (F := Ideal) (arr2 (α := EReal) x)
    = arr2 (sh 0 128 fun i j => x j i) := by
  unfold k0_pay41
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2, select_mask_arr, pay37]

theorem pay42 : k0_pay42 (F := Ideal) (arr2 (α := EReal) x)
    = arr2 fun i j => x j i := by
  unfold k0_pay42
  simp only [arr2_elt_bf16, arr2_elt_f32, arr3_elt_bf16, shapeCast_arr3, shapeCast_arr2, shapeCast_arr2_arr3, shapeCast_arr1, broadcastTo_arr2, broadcast_arr2,
     slice_arr2, sh_zero, mulf_arr2, subf_arr2, addf_arr2, divf_arr2, exp_arr2, cat2_arr2,
    truncf_arr2, transpose_arr2]
  rfl

theorem pay43 : k0_pay43 (F := Ideal) (arr2 (α := EReal) x) (arr2 (α := EReal) y)
    = arr3 fun _ => mTm 2048 x y := by
  unfold k0_pay43; rw [pay38]
  refine (congrArg (fun z => shapeCast S1x384x128 (truncf (F := Ideal) .bf16 z bitsLt_bf16_f32) shapeCasts_S384x128_S1x384x128)
    (matmul_tn_lit x y (φ := .bf16) (ψ := .bf16) none dot_S2048x384_S2048x128_S384x128_0_0_1_1_n_n_wf)).trans ?_
  simp only [truncf_arr2, shapeCast_arr2_arr3]

theorem pay44 : k0_pay44 (F := Ideal) (arr2 (α := EReal) x) (arr2 (α := EReal) y) (arr2 (α := EReal) z) (arr2 (α := EReal) w)
    = arr3 fun _ => mTm 2048 x (ropeT y z w) := by
  unfold k0_pay44; rw [pay39]
  refine (congrArg (fun z => shapeCast S1x384x64 (truncf (F := Ideal) .bf16 z bitsLt_bf16_f32) shapeCasts_S384x64_S1x384x64)
    (matmul_tn_lit x (ropeT y z w) (φ := .bf16) (ψ := .bf16) none dot_S2048x384_S2048x64_S384x64_0_0_1_1_n_n_wf)).trans ?_
  simp only [truncf_arr2, shapeCast_arr2_arr3]

theorem pay45 : k0_pay45 (F := Ideal) (arr2 (α := EReal) x) (arr2 (α := EReal) y) (constant S256x128 .f32 0x00000000#32)
    = arr3 fun _ => mTm 2048 x y := by
  refine (congrArg (fun z => shapeCast S1x256x128 (truncf (F := Ideal) .bf16 z bitsLt_bf16_f32) shapeCasts_S256x128_S1x256x128)
    (matmul_tn_lit x y (φ := .bf16) (ψ := .bf16) none dot_S2048x256_S2048x128_S256x128_0_0_1_1_n_n_wf)).trans ?_
  simp only [truncf_arr2, shapeCast_arr2_arr3]

theorem pay46 : k0_pay46 (F := Ideal) (arr2 (α := EReal) x) (arr2 (α := EReal) y)
    = arr3 fun _ => mTm 2048 x y := by
  refine (congrArg (fun z => shapeCast S1x256x128 (truncf (F := Ideal) .bf16 z bitsLt_bf16_f32) shapeCasts_S256x128_S1x256x128)
    (matmul_tn_lit x y (φ := .bf16) (ψ := .bf16) none dot_S2048x256_S2048x128_S256x128_0_0_1_1_n_n_wf)).trans ?_
  simp only [truncf_arr2, shapeCast_arr2_arr3]

theorem pay47 : k0_pay47 (F := Ideal) (arr2 (α := EReal) x) (arr2 (α := EReal) y) (arr3 (α := EReal) fun _ => w) (arr3 (α := EReal) fun _ => u)
    = arr2 fun i j => mmT 128 x w i j + mmT 64 y u i j := by
  unfold k0_pay47
  simp only [shapeCast_arr3]
  exact congrArg₂ (fun a b => addf (F := Ideal) (φ := .f32) a b)
    (matmul_nt_lit x w (φ := .bf16) (ψ := .bf16) none dot_S2048x128_S384x128_S2048x384_1_1_0_0_n_n_wf)
    (matmul_nt_lit y u (φ := .bf16) (ψ := .bf16) none dot_S2048x64_S384x64_S2048x384_1_1_0_0_n_n_wf)

theorem pay48 : k0_pay48 (F := Ideal) (arr2 (α := EReal) x) (arr2 (α := EReal) y) (arr3 (α := EReal) fun _ => w) (arr3 (α := EReal) fun _ => u)
    = arr2 fun i j => mmT 128 x w i j + mmT 128 y u i j := by
  unfold k0_pay48
  simp only [shapeCast_arr3]
  exact congrArg₂ (fun a b => addf (F := Ideal) (φ := .f32) a b)
    (matmul_nt_lit x w (φ := .bf16) (ψ := .bf16) none dot_S2048x128_S256x128_S2048x256_1_1_0_0_n_n_wf)
    (matmul_nt_lit y u (φ := .bf16) (ψ := .bf16) none dot_S2048x128_S256x128_S2048x256_1_1_0_0_n_n_wf)

end

end Cert.Attn
-- ==== Proof.Words.lean ====
/-
  The values the attention backward kernel computes at one grid point, step by step: queries, keys, values, the four
  tiles' probabilities and score gradients, and what the accumulators hold after each tile.
-/
module

public import proofs.«01_k».proof.Proof.Payloads
public import proofs.«01_k».proof.Proof.Tiles
public import proofs.«01_k».proof.Proof.Gen.KernelIdeal.Frame.RunA

@[expose] public section

set_option maxRecDepth 16384

noncomputable section

namespace Cert.Attn

open Idealize.ShloMosaic Finset Cert.Mat Cert.KernelIdeal Cert.KernelIdeal.Gen

section
variable (cq ckv kpe co si wq wkv wo o dz : ℕ → ℕ → EReal) (c : Dev nD)
  (arg1 : Memref sig .tc .vmem S2048x384 .bf16) (harg1 : arg1.IsWhole)
  (arg2 : Memref sig .tc .vmem S2048x256 .bf16) (harg2 : arg2.IsWhole)
  (arg3 : Memref sig .tc .vmem S2048x64 .f32) (harg3 : arg3.IsWhole)
  (arg4 : Memref sig .tc .vmem S2048x32 .f32) (harg4 : arg4.IsWhole)
  (arg5 : Memref sig .tc .vmem S2048x32 .f32) (harg5 : arg5.IsWhole)
  (arg6 : Memref sig .tc .vmem S1x384x192 .bf16) (harg6 : arg6.IsWhole)
  (arg7 : Memref sig .tc .vmem S1x256x256 .bf16) (harg7 : arg7.IsWhole)
  (arg8 : Memref sig .tc .vmem S1x128x1024 .bf16) (harg8 : arg8.IsWhole)
  (arg9 : Memref sig .tc .vmem S1x2048x128 .bf16) (harg9 : arg9.IsWhole)
  (arg10 : Memref sig .tc .vmem S2048x1024 .bf16) (harg10 : arg10.IsWhole)
  (arg11 : Memref sig .tc .vmem S1x128x1024 .bf16) (harg11 : arg11.IsWhole)
  (arg12 : Memref sig .tc .vmem S1x384x192 .bf16) (harg12 : arg12.IsWhole)
  (arg13 : Memref sig .tc .vmem S1x256x256 .bf16) (harg13 : arg13.IsWhole)
  (arg14 : Memref sig .tc .vmem S2048x384 .f32) (harg14 : arg14.IsWhole)
  (arg15 : Memref sig .tc .vmem S2048x256 .f32) (harg15 : arg15.IsWhole)
  (arg16 : Memref sig .tc .vmem S2048x64 .f32) (harg16 : arg16.IsWhole)
  (arg17 : Memref sig .tc .vmem S256x2048 .f32) (harg17 : arg17.IsWhole)
  (arg18 : Memref sig .tc .vmem S128x2048 .f32) (harg18 : arg18.IsWhole)
  (arg19 : Memref sig .tc .vmem S2048x192 .f32) (harg19 : arg19.IsWhole)

theorem v226_val : kernelRun0_A.sl.v226 = iota .tc S512x512 32 [0] iota_S512x512_d0_w32 := rfl

theorem r_val :
    kernelRun0_A.sl.r (F := Ideal) c arg1 harg1 (arr2 cq) = arr2 cq := by
  unfold kernelRun0_A.sl.r
  exact (readAt_arr2 _ _ _ _).trans (by rw [sh_zero])

theorem r_1_val :
    kernelRun0_A.sl.r_1 (F := Ideal) c arg2 harg2 (arr2 ckv) = arr2 ckv := by
  unfold kernelRun0_A.sl.r_1
  exact (readAt_arr2 _ _ _ _).trans (by rw [sh_zero])

theorem r_2_val :
    kernelRun0_A.sl.r_2 (F := Ideal) c arg4 harg4 (arr2 co) = arr2 co := by
  unfold kernelRun0_A.sl.r_2
  exact (readAt_arr2 _ _ _ _).trans (by rw [sh_zero])

theorem r_3_val :
    kernelRun0_A.sl.r_3 (F := Ideal) c arg5 harg5 (arr2 si) = arr2 si := by
  unfold kernelRun0_A.sl.r_3
  exact (readAt_arr2 _ _ _ _).trans (by rw [sh_zero])

/-- The queries. -/
theorem r_4_val :
    kernelRun0_A.sl.r_4 (F := Ideal) c arg1 harg1 arg4 harg4 arg5 harg5 arg6 harg6 (arr2 cq) (arr2 co) (arr2 si) (arr3 fun _ => wq) = arr2 (queries cq co si wq) := by
  unfold kernelRun0_A.sl.r_4
  erw [readAt_arr2, readAt_arr2, readAt_arr2, readAt_arr3, readAt_arr3]
  rw [sh_zero, sh_zero, sh_zero, sh_zero]
  exact pay4 _ _ _ _ _

/-- The keys. -/
theorem r_5_val :
    kernelRun0_A.sl.r_5 (F := Ideal) c arg2 harg2 arg3 harg3 arg7 harg7 (arr2 ckv) (arr2 kpe) (arr3 fun _ => wkv) = arr2 (keys ckv kpe wkv) := by
  unfold kernelRun0_A.sl.r_5
  erw [readAt_arr2, readAt_arr2, readAt_arr3]
  rw [sh_zero, sh_zero, sh_zero]
  exact pay5 _ _ _

/-- The values. -/
theorem r_6_val :
    kernelRun0_A.sl.r_6 (F := Ideal) c arg2 harg2 arg7 harg7 (arr2 ckv) (arr3 fun _ => wkv) = arr2 (values ckv wkv) := by
  unfold kernelRun0_A.sl.r_6
  erw [readAt_arr2, readAt_arr3]
  rw [sh_zero]
  exact pay6 _ _

/-- The gradient of the head's output. -/
theorem r_7_val :
    kernelRun0_A.sl.r_7 (F := Ideal) c arg8 harg8 arg10 harg10 (arr3 fun _ => wo) (arr2 dz) = arr2 (mmT 1024 dz wo) := by
  unfold kernelRun0_A.sl.r_7
  erw [readAt_arr2, readAt_arr3]
  rw [sh_zero, sh_zero]
  exact pay8 _ _

theorem r_8_val :
    kernelRun0_A.sl.r_8 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (blockMask (logits (queries cq co si wq) (keys ckv kpe wkv))) := by
  unfold kernelRun0_A.sl.r_8
  rw [r_4_val, r_5_val]
  exact pay11 _ _

theorem r_10_val :
    kernelRun0_A.sl.r_10 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (tileProbs 512 (queries cq co si wq) (keys ckv kpe wkv)) := by
  unfold kernelRun0_A.sl.r_10
  rw [r_4_val, r_5_val]
  exact pay17 _ _

theorem r_11_val :
    kernelRun0_A.sl.r_11 (F := Ideal) c arg1 harg1 arg2 harg2 arg3 harg3 arg4 harg4 arg5 harg5 arg6 harg6 arg7 harg7 arg8 harg8 arg10 harg10 (arr2 cq) (arr2 ckv) (arr2 kpe) (arr2 co) (arr2 si) (arr3 fun _ => wq) (arr3 fun _ => wkv) (arr3 fun _ => wo) (arr2 dz) = arr2 (tileDscores 512 (queries cq co si wq) (keys ckv kpe wkv) (values ckv wkv) (mmT 1024 dz wo)) := by
  unfold kernelRun0_A.sl.r_11
  rw [r_4_val, r_5_val, r_6_val, r_7_val]
  exact pay18 _ _ _ _

theorem r_12_val :
    kernelRun0_A.sl.r_12 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (tileProbs 1024 (queries cq co si wq) (keys ckv kpe wkv)) := by
  unfold kernelRun0_A.sl.r_12
  rw [r_4_val, r_5_val]
  exact pay22 _ _

theorem r_13_val :
    kernelRun0_A.sl.r_13 (F := Ideal) c arg8 harg8 arg10 harg10 (arr3 fun _ => wo) (arr2 dz) = arr2 (sh 1024 0 (mmT 1024 dz wo)) := by
  unfold kernelRun0_A.sl.r_13
  rw [r_7_val]
  exact pay23 _

theorem r_14_val :
    kernelRun0_A.sl.r_14 (F := Ideal) c arg2 harg2 arg7 harg7 (arr2 ckv) (arr3 fun _ => wkv) = arr2 (values ckv wkv) := by
  unfold kernelRun0_A.sl.r_14
  rw [r_6_val]
  exact pay24 _

theorem r_15_val :
    kernelRun0_A.sl.r_15 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (logits (sh 1536 0 (queries cq co si wq)) (keys ckv kpe wkv)) := by
  unfold kernelRun0_A.sl.r_15
  rw [r_4_val, r_5_val]
  exact pay29 _ _

theorem r_16_val :
    kernelRun0_A.sl.r_16 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (tileProbs 1536 (queries cq co si wq) (keys ckv kpe wkv)) := by
  unfold kernelRun0_A.sl.r_16
  rw [r_15_val]
  exact pay31 _

theorem r_17_val :
    kernelRun0_A.sl.r_17 (F := Ideal) c arg8 harg8 arg10 harg10 (arr3 fun _ => wo) (arr2 dz) = arr2 (sh 1536 0 (mmT 1024 dz wo)) := by
  unfold kernelRun0_A.sl.r_17
  rw [r_7_val]
  exact pay35 _

/-- The accumulator of the keys' gradients, empty. -/
theorem HS0_1_val (hz : MaskedZero (queries cq co si wq) (keys ckv kpe wkv)) :
    Holds (kernelRun0_A.sl.HS0_1 (F := Ideal)) (accT 192 0 (queries cq co si wq) (dscores (queries cq co si wq) (keys ckv kpe wkv) (values ckv wkv) (mmT 1024 dz wo))) := by
  unfold kernelRun0_A.sl.HS0_1
  rw [pay9, accT_zero]
  exact Holds.whole _ _

theorem v91_val (hz : MaskedZero (queries cq co si wq) (keys ckv kpe wkv)) :
    kernelRun0_A.sl.v91 (F := Ideal) c arg17 = arr2 (accT 192 0 (queries cq co si wq) (dscores (queries cq co si wq) (keys ckv kpe wkv) (values ckv wkv) (mmT 1024 dz wo))) := by
  unfold kernelRun0_A.sl.v91
  exact (HS0_1_val (hz := hz) .. |>.read _ _).trans (by rw [sh_zero])

theorem HS0_2_val (hz : MaskedZero (queries cq co si wq) (keys ckv kpe wkv)) :
    Holds (kernelRun0_A.sl.HS0_2 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz)) (accT 192 512 (queries cq co si wq) (dscores (queries cq co si wq) (keys ckv kpe wkv) (values ckv wkv) (mmT 1024 dz wo))) := by
  unfold kernelRun0_A.sl.HS0_2
  rw [r_4_val, r_6_val, r_7_val, r_8_val, v91_val (hz := hz), pay15, ← tileDscores_zero, show mTm 512 (queries cq co si wq) = mTm 512 (sh 0 0 (queries cq co si wq)) by rw [sh_zero]]
  exact holds_acc (p := 0) (T := tileDscores 0 (queries cq co si wq) (keys ckv kpe wkv) (values ckv wkv) (mmT 1024 dz wo)) (fun _ _ => dscores_masked hz) rfl (by decide) (by decide) (fun i j => tileDscores_eq hz (by decide) (by decide)) (HS0_1_val (hz := hz) ..) _

theorem v149_val (hz : MaskedZero (queries cq co si wq) (keys ckv kpe wkv)) :
    kernelRun0_A.sl.v149 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 (accT 192 512 (queries cq co si wq) (dscores (queries cq co si wq) (keys ckv kpe wkv) (values ckv wkv) (mmT 1024 dz wo))) := by
  unfold kernelRun0_A.sl.v149
  exact (HS0_2_val (hz := hz) .. |>.read _ _).trans (by rw [sh_zero])

theorem HS0_3_val (hz : MaskedZero (queries cq co si wq) (keys ckv kpe wkv)) :
    Holds (kernelRun0_A.sl.HS0_3 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz)) (accT 192 1024 (queries cq co si wq) (dscores (queries cq co si wq) (keys ckv kpe wkv) (values ckv wkv) (mmT 1024 dz wo))) := by
  unfold kernelRun0_A.sl.HS0_3
  rw [r_4_val, r_11_val, v149_val (hz := hz), pay20]
  exact holds_acc (p := 512) (T := tileDscores 512 (queries cq co si wq) (keys ckv kpe wkv) (values ckv wkv) (mmT 1024 dz wo)) (fun _ _ => dscores_masked hz) rfl (by decide) (by decide) (fun i j => tileDscores_eq hz (by decide) (by decide)) (HS0_2_val (hz := hz) ..) _

theorem v207_val (hz : MaskedZero (queries cq co si wq) (keys ckv kpe wkv)) :
    kernelRun0_A.sl.v207 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 (accT 192 1024 (queries cq co si wq) (dscores (queries cq co si wq) (keys ckv kpe wkv) (values ckv wkv) (mmT 1024 dz wo))) := by
  unfold kernelRun0_A.sl.v207
  exact (HS0_3_val (hz := hz) .. |>.read _ _).trans (by rw [sh_zero])

theorem HS0_4_val (hz : MaskedZero (queries cq co si wq) (keys ckv kpe wkv)) :
    Holds (kernelRun0_A.sl.HS0_4 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz)) (accT 192 1536 (queries cq co si wq) (dscores (queries cq co si wq) (keys ckv kpe wkv) (values ckv wkv) (mmT 1024 dz wo))) := by
  unfold kernelRun0_A.sl.HS0_4
  rw [r_4_val, r_12_val, r_13_val, r_14_val, v207_val (hz := hz), pay27]
  exact holds_acc (p := 1024) (T := tileDscores 1024 (queries cq co si wq) (keys ckv kpe wkv) (values ckv wkv) (mmT 1024 dz wo)) (fun _ _ => dscores_masked hz) rfl (by decide) (by decide) (fun i j => tileDscores_eq hz (by decide) (by decide)) (HS0_3_val (hz := hz) ..) _

theorem v262_val (hz : MaskedZero (queries cq co si wq) (keys ckv kpe wkv)) :
    kernelRun0_A.sl.v262 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 (accT 192 1536 (queries cq co si wq) (dscores (queries cq co si wq) (keys ckv kpe wkv) (values ckv wkv) (mmT 1024 dz wo))) := by
  unfold kernelRun0_A.sl.v262
  exact (HS0_4_val (hz := hz) .. |>.read _ _).trans (by rw [sh_zero])

theorem HS0_5_val (hz : MaskedZero (queries cq co si wq) (keys ckv kpe wkv)) :
    Holds (kernelRun0_A.sl.HS0_5 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz)) (accT 192 2048 (queries cq co si wq) (dscores (queries cq co si wq) (keys ckv kpe wkv) (values ckv wkv) (mmT 1024 dz wo))) := by
  unfold kernelRun0_A.sl.HS0_5
  rw [r_4_val, r_6_val, r_7_val, r_15_val, v262_val (hz := hz), v226_val, pay34]
  exact holds_acc (p := 1536) (T := tileDscores 1536 (queries cq co si wq) (keys ckv kpe wkv) (values ckv wkv) (mmT 1024 dz wo)) (fun _ _ => dscores_masked hz) rfl (by decide) (by decide) (fun i j => tileDscores_eq hz (by decide) (by decide)) (HS0_4_val (hz := hz) ..) _

theorem v277_val (hz : MaskedZero (queries cq co si wq) (keys ckv kpe wkv)) :
    kernelRun0_A.sl.v277 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 (accT 192 2048 (queries cq co si wq) (dscores (queries cq co si wq) (keys ckv kpe wkv) (values ckv wkv) (mmT 1024 dz wo))) := by
  unfold kernelRun0_A.sl.v277
  exact (HS0_5_val (hz := hz) .. |>.read _ _).trans (by rw [sh_zero])

/-- The accumulator of the values' gradients, empty. -/
theorem HS1_1_val (hz : MaskedZero (queries cq co si wq) (keys ckv kpe wkv)) :
    Holds (kernelRun0_A.sl.HS1_1 (F := Ideal)) (accT 128 0 (mmT 1024 dz wo) (probs (queries cq co si wq) (keys ckv kpe wkv))) := by
  unfold kernelRun0_A.sl.HS1_1
  rw [pay10, accT_zero]
  exact Holds.whole _ _

theorem v98_val (hz : MaskedZero (queries cq co si wq) (keys ckv kpe wkv)) :
    kernelRun0_A.sl.v98 (F := Ideal) c arg18 = arr2 (accT 128 0 (mmT 1024 dz wo) (probs (queries cq co si wq) (keys ckv kpe wkv))) := by
  unfold kernelRun0_A.sl.v98
  exact (HS1_1_val (hz := hz) .. |>.read _ _).trans (by rw [sh_zero])

theorem r_9_val (hz : MaskedZero (queries cq co si wq) (keys ckv kpe wkv)) :
    kernelRun0_A.sl.r_9 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 fun i j => accT 128 0 (mmT 1024 dz wo) (probs (queries cq co si wq) (keys ckv kpe wkv)) i j + mTm 512 (mmT 1024 dz wo) (tileProbs 0 (queries cq co si wq) (keys ckv kpe wkv)) i j := by
  unfold kernelRun0_A.sl.r_9
  rw [r_7_val, r_8_val, v98_val (hz := hz), pay16, ← tileProbs_zero]

theorem HS1_2_val (hz : MaskedZero (queries cq co si wq) (keys ckv kpe wkv)) :
    Holds (kernelRun0_A.sl.HS1_2 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz)) (accT 128 512 (mmT 1024 dz wo) (probs (queries cq co si wq) (keys ckv kpe wkv))) := by
  unfold kernelRun0_A.sl.HS1_2
  rw [r_9_val (hz := hz), show mTm 512 (mmT 1024 dz wo) = mTm 512 (sh 0 0 (mmT 1024 dz wo)) by rw [sh_zero]]
  exact holds_acc (p := 0) (T := tileProbs 0 (queries cq co si wq) (keys ckv kpe wkv)) hz rfl (by decide) (by decide) (fun i j => tileProbs_eq (by decide) (by decide)) (HS1_1_val (hz := hz) ..) _

theorem v156_val (hz : MaskedZero (queries cq co si wq) (keys ckv kpe wkv)) :
    kernelRun0_A.sl.v156 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 (accT 128 512 (mmT 1024 dz wo) (probs (queries cq co si wq) (keys ckv kpe wkv))) := by
  unfold kernelRun0_A.sl.v156
  exact (HS1_2_val (hz := hz) .. |>.read _ _).trans (by rw [sh_zero])

theorem HS1_3_val (hz : MaskedZero (queries cq co si wq) (keys ckv kpe wkv)) :
    Holds (kernelRun0_A.sl.HS1_3 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz)) (accT 128 1024 (mmT 1024 dz wo) (probs (queries cq co si wq) (keys ckv kpe wkv))) := by
  unfold kernelRun0_A.sl.HS1_3
  rw [r_7_val, r_10_val, v156_val (hz := hz), pay21]
  exact holds_acc (p := 512) (T := tileProbs 512 (queries cq co si wq) (keys ckv kpe wkv)) hz rfl (by decide) (by decide) (fun i j => tileProbs_eq (by decide) (by decide)) (HS1_2_val (hz := hz) ..) _

theorem v214_val (hz : MaskedZero (queries cq co si wq) (keys ckv kpe wkv)) :
    kernelRun0_A.sl.v214 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 (accT 128 1024 (mmT 1024 dz wo) (probs (queries cq co si wq) (keys ckv kpe wkv))) := by
  unfold kernelRun0_A.sl.v214
  exact (HS1_3_val (hz := hz) .. |>.read _ _).trans (by rw [sh_zero])

theorem HS1_4_val (hz : MaskedZero (queries cq co si wq) (keys ckv kpe wkv)) :
    Holds (kernelRun0_A.sl.HS1_4 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz)) (accT 128 1536 (mmT 1024 dz wo) (probs (queries cq co si wq) (keys ckv kpe wkv))) := by
  unfold kernelRun0_A.sl.HS1_4
  rw [r_7_val, r_12_val, v214_val (hz := hz), pay28]
  exact holds_acc (p := 1024) (T := tileProbs 1024 (queries cq co si wq) (keys ckv kpe wkv)) hz rfl (by decide) (by decide) (fun i j => tileProbs_eq (by decide) (by decide)) (HS1_3_val (hz := hz) ..) _

theorem v269_val (hz : MaskedZero (queries cq co si wq) (keys ckv kpe wkv)) :
    kernelRun0_A.sl.v269 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 (accT 128 1536 (mmT 1024 dz wo) (probs (queries cq co si wq) (keys ckv kpe wkv))) := by
  unfold kernelRun0_A.sl.v269
  exact (HS1_4_val (hz := hz) .. |>.read _ _).trans (by rw [sh_zero])

theorem HS1_5_val (hz : MaskedZero (queries cq co si wq) (keys ckv kpe wkv)) :
    Holds (kernelRun0_A.sl.HS1_5 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz)) (accT 128 2048 (mmT 1024 dz wo) (probs (queries cq co si wq) (keys ckv kpe wkv))) := by
  unfold kernelRun0_A.sl.HS1_5
  rw [r_16_val, v269_val (hz := hz), r_17_val, pay36]
  exact holds_acc (p := 1536) (T := tileProbs 1536 (queries cq co si wq) (keys ckv kpe wkv)) hz rfl (by decide) (by decide) (fun i j => tileProbs_eq (by decide) (by decide)) (HS1_4_val (hz := hz) ..) _

theorem v295_val (hz : MaskedZero (queries cq co si wq) (keys ckv kpe wkv)) :
    kernelRun0_A.sl.v295 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 (accT 128 2048 (mmT 1024 dz wo) (probs (queries cq co si wq) (keys ckv kpe wkv))) := by
  unfold kernelRun0_A.sl.v295
  exact (HS1_5_val (hz := hz) .. |>.read _ _).trans (by rw [sh_zero])

/-- The queries' gradient, written in four row tiles. -/
theorem HS2_4_val (hz : MaskedZero (queries cq co si wq) (keys ckv kpe wkv)) :
    Holds (kernelRun0_A.sl.HS2_4 (F := Ideal) c arg1 harg1 arg2 harg2 arg3 harg3 arg4 harg4 arg5 harg5 arg6 harg6 arg7 harg7 arg8 harg8 arg10 harg10 (arr2 cq) (arr2 ckv) (arr2 kpe) (arr2 co) (arr2 si) (arr3 fun _ => wq) (arr3 fun _ => wkv) (arr3 fun _ => wo) (arr2 dz)) ((dqueries (queries cq co si wq) (keys ckv kpe wkv) (values ckv wkv) (mmT 1024 dz wo))) := by
  unfold kernelRun0_A.sl.HS2_4
  rw [r_4_val, r_5_val, r_6_val, r_7_val, r_12_val, r_13_val, r_14_val, r_8_val, r_15_val, v226_val]
  rw [pay14, pay19, pay26, pay33, ← tileDscores_zero]
  exact Holds.tiles 192 _ _ _ _ _ _ _ _ _ (fun i j hi _ => (dq_tile hz j (by decide) (by decide) hi).trans (by rw [Nat.zero_add]))
    (fun i j hi _ => dq_tile hz j (by decide) (by decide) hi) (fun i j hi _ => dq_tile hz j (by decide) (by decide) hi)
    (fun i j hi _ => dq_tile hz j (by decide) (by decide) hi)

theorem v279_val (hz : MaskedZero (queries cq co si wq) (keys ckv kpe wkv)) :
    kernelRun0_A.sl.v279 (F := Ideal) c arg1 harg1 arg2 harg2 arg3 harg3 arg4 harg4 arg5 harg5 arg6 harg6 arg7 harg7 arg8 harg8 arg10 harg10 arg19 (arr2 cq) (arr2 ckv) (arr2 kpe) (arr2 co) (arr2 si) (arr3 fun _ => wq) (arr3 fun _ => wkv) (arr3 fun _ => wo) (arr2 dz) = arr2 (dqueries (queries cq co si wq) (keys ckv kpe wkv) (values ckv wkv) (mmT 1024 dz wo)) := by
  unfold kernelRun0_A.sl.v279
  exact (HS2_4_val (hz := hz) .. |>.read _ _).trans (by rw [sh_zero])

theorem v281_val (hz : MaskedZero (queries cq co si wq) (keys ckv kpe wkv)) :
    kernelRun0_A.sl.v281 (F := Ideal) c arg1 harg1 arg2 harg2 arg3 harg3 arg4 harg4 arg5 harg5 arg6 harg6 arg7 harg7 arg8 harg8 arg10 harg10 arg19 (arr2 cq) (arr2 ckv) (arr2 kpe) (arr2 co) (arr2 si) (arr3 fun _ => wq) (arr3 fun _ => wkv) (arr3 fun _ => wo) (arr2 dz) = arr2 (sh 0 128 (dqueries (queries cq co si wq) (keys ckv kpe wkv) (values ckv wkv) (mmT 1024 dz wo))) := by
  unfold kernelRun0_A.sl.v281
  exact (HS2_4_val (hz := hz) .. |>.read _ _)

theorem r_18_val (hz : MaskedZero (queries cq co si wq) (keys ckv kpe wkv)) :
    kernelRun0_A.sl.r_18 (F := Ideal) c arg1 harg1 arg2 harg2 arg3 harg3 arg4 harg4 arg5 harg5 arg6 harg6 arg7 harg7 arg8 harg8 arg10 harg10 arg19 (arr2 cq) (arr2 ckv) (arr2 kpe) (arr2 co) (arr2 si) (arr3 fun _ => wq) (arr3 fun _ => wkv) (arr3 fun _ => wo) (arr2 dz) = arr2 (dqueries (queries cq co si wq) (keys ckv kpe wkv) (values ckv wkv) (mmT 1024 dz wo)) := by
  unfold kernelRun0_A.sl.r_18
  rw [v279_val (hz := hz)]
  exact pay38 _

theorem r_19_val (hz : MaskedZero (queries cq co si wq) (keys ckv kpe wkv)) :
    kernelRun0_A.sl.r_19 (F := Ideal) c arg1 harg1 arg2 harg2 arg3 harg3 arg4 harg4 arg5 harg5 arg6 harg6 arg7 harg7 arg8 harg8 arg10 harg10 arg19 (arr2 cq) (arr2 ckv) (arr2 kpe) (arr2 co) (arr2 si) (arr3 fun _ => wq) (arr3 fun _ => wkv) (arr3 fun _ => wo) (arr2 dz) = arr2 (ropeT co si (sh 0 128 (dqueries (queries cq co si wq) (keys ckv kpe wkv) (values ckv wkv) (mmT 1024 dz wo)))) := by
  unfold kernelRun0_A.sl.r_19
  rw [r_2_val, r_3_val, v281_val (hz := hz)]
  exact pay39 _ _ _

/-- The keys' gradient, its first 128 columns. -/
theorem r_20_val (hz : MaskedZero (queries cq co si wq) (keys ckv kpe wkv)) :
    kernelRun0_A.sl.r_20 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 fun i j => dkeysT (queries cq co si wq) (keys ckv kpe wkv) (values ckv wkv) (mmT 1024 dz wo) j i := by
  unfold kernelRun0_A.sl.r_20
  rw [v277_val (hz := hz)]
  exact (pay40 _).trans (arr2_congr fun i j hi hj => if_pos (by omega))

/-- The keys' gradient, its other 64 columns. -/
theorem r_21_val (hz : MaskedZero (queries cq co si wq) (keys ckv kpe wkv)) :
    kernelRun0_A.sl.r_21 (F := Ideal) c arg1 harg1 arg2 harg2 arg3 harg3 arg4 harg4 arg5 harg5 arg6 harg6 arg7 harg7 arg8 harg8 arg10 harg10 arg17 (arr2 cq) (arr2 ckv) (arr2 kpe) (arr2 co) (arr2 si) (arr3 fun _ => wq) (arr3 fun _ => wkv) (arr3 fun _ => wo) (arr2 dz) = arr2 fun i j => dkeysT (queries cq co si wq) (keys ckv kpe wkv) (values ckv wkv) (mmT 1024 dz wo) (128 + j) i := by
  unfold kernelRun0_A.sl.r_21
  rw [v277_val (hz := hz)]
  refine (pay41 _).trans (arr2_congr fun i j hi hj => ?_)
  simp only [sh, Nat.zero_add]
  exact if_pos (by omega)

/-- The values' gradient. -/
theorem r_22_val (hz : MaskedZero (queries cq co si wq) (keys ckv kpe wkv)) :
    kernelRun0_A.sl.r_22 (F := Ideal) c arg1 harg1 arg2 harg2 arg3 harg3 arg4 harg4 arg5 harg5 arg6 harg6 arg7 harg7 arg8 harg8 arg10 harg10 arg18 (arr2 cq) (arr2 ckv) (arr2 kpe) (arr2 co) (arr2 si) (arr3 fun _ => wq) (arr3 fun _ => wkv) (arr3 fun _ => wo) (arr2 dz) = arr2 fun i j => dvaluesT (queries cq co si wq) (keys ckv kpe wkv) (mmT 1024 dz wo) j i := by
  unfold kernelRun0_A.sl.r_22
  rw [v295_val (hz := hz)]
  exact (pay42 _).trans (arr2_congr fun i j hi hj => if_pos (by omega))

theorem r_23_val (hz : MaskedZero (queries cq co si wq) (keys ckv kpe wkv)) :
    kernelRun0_A.sl.r_23 (F := Ideal) c arg1 harg1 arg2 harg2 arg3 harg3 arg4 harg4 arg5 harg5 arg6 harg6 arg7 harg7 arg8 harg8 arg10 harg10 arg19 (arr2 cq) (arr2 ckv) (arr2 kpe) (arr2 co) (arr2 si) (arr3 fun _ => wq) (arr3 fun _ => wkv) (arr3 fun _ => wo) (arr2 dz) = arr2 fun i j => mmT 128 (dqueries (queries cq co si wq) (keys ckv kpe wkv) (values ckv wkv) (mmT 1024 dz wo)) wq i j + mmT 64 (ropeT co si (sh 0 128 (dqueries (queries cq co si wq) (keys ckv kpe wkv) (values ckv wkv) (mmT 1024 dz wo)))) (sh 0 128 wq) i j := by
  unfold kernelRun0_A.sl.r_23
  erw [readAt_arr3, readAt_arr3]
  rw [r_18_val (hz := hz), r_19_val (hz := hz), sh_zero]
  exact pay47 _ _ _ _

theorem r_24_val (hz : MaskedZero (queries cq co si wq) (keys ckv kpe wkv)) :
    kernelRun0_A.sl.r_24 (F := Ideal) c arg1 harg1 arg2 harg2 arg3 harg3 arg4 harg4 arg5 harg5 arg6 harg6 arg7 harg7 arg8 harg8 arg10 harg10 arg17 arg18 (arr2 cq) (arr2 ckv) (arr2 kpe) (arr2 co) (arr2 si) (arr3 fun _ => wq) (arr3 fun _ => wkv) (arr3 fun _ => wo) (arr2 dz) = arr2 fun i j => mmT 128 (fun i j => dkeysT (queries cq co si wq) (keys ckv kpe wkv) (values ckv wkv) (mmT 1024 dz wo) j i) wkv i j + mmT 128 (fun i j => dvaluesT (queries cq co si wq) (keys ckv kpe wkv) (mmT 1024 dz wo) j i) (sh 0 128 wkv) i j := by
  unfold kernelRun0_A.sl.r_24
  erw [readAt_arr3, readAt_arr3]
  rw [r_20_val (hz := hz), r_22_val (hz := hz), sh_zero]
  exact pay48 _ _ _ _

end

end Cert.Attn
-- ==== Proof.Outs.lean ====
/-
  What the attention backward kernel leaves in its six output blocks at one grid point, for the first head and for the
  later ones (which add to what the head before left in the last three blocks).
-/
module

public import proofs.«01_k».proof.Proof.Words
public import proofs.«01_k».proof.Proof.Gen.KernelIdeal.Frame

@[expose] public section

set_option maxRecDepth 16384

noncomputable section

namespace Cert.Attn

open Idealize.ShloMosaic Finset Cert.Mat Cert.KernelIdeal Cert.KernelIdeal.Gen

/-! The later heads' steps are those of the first head. -/
theorem r_B : @kernelRun0_B.sl.r = @kernelRun0_A.sl.r := rfl
theorem r_1_B : @kernelRun0_B.sl.r_1 = @kernelRun0_A.sl.r_1 := rfl
theorem r_2_B : @kernelRun0_B.sl.r_2 = @kernelRun0_A.sl.r_2 := rfl
theorem r_3_B : @kernelRun0_B.sl.r_3 = @kernelRun0_A.sl.r_3 := rfl
theorem v279_B : @kernelRun0_B.sl.v279 = @kernelRun0_A.sl.v279 := rfl
theorem v281_B : @kernelRun0_B.sl.v281 = @kernelRun0_A.sl.v281 := rfl
theorem r_20_B : @kernelRun0_B.sl.r_20 = @kernelRun0_A.sl.r_20 := rfl
theorem r_21_B : @kernelRun0_B.sl.r_21 = @kernelRun0_A.sl.r_21 := rfl
theorem r_22_B : @kernelRun0_B.sl.r_22 = @kernelRun0_A.sl.r_22 := rfl
theorem r_23_B : @kernelRun0_B.sl.r_23 = @kernelRun0_A.sl.r_23 := rfl
theorem r_24_B : @kernelRun0_B.sl.r_24 = @kernelRun0_A.sl.r_24 := rfl
theorem cst_146_B : @kernelRun0_B.sl.cst_146 = @kernelRun0_A.sl.cst_146 := rfl

section
variable (cq ckv kpe co si wq wkv wo o dz x13 x14 x15 : ℕ → ℕ → EReal) (c : Dev nD) (i : grid0.Coords)
  (arg1 : Memref sig .tc .vmem S2048x384 .bf16) (harg1 : arg1.IsWhole)
  (arg2 : Memref sig .tc .vmem S2048x256 .bf16) (harg2 : arg2.IsWhole)
  (arg3 : Memref sig .tc .vmem S2048x64 .f32) (harg3 : arg3.IsWhole)
  (arg4 : Memref sig .tc .vmem S2048x32 .f32) (harg4 : arg4.IsWhole)
  (arg5 : Memref sig .tc .vmem S2048x32 .f32) (harg5 : arg5.IsWhole)
  (arg6 : Memref sig .tc .vmem S1x384x192 .bf16) (harg6 : arg6.IsWhole)
  (arg7 : Memref sig .tc .vmem S1x256x256 .bf16) (harg7 : arg7.IsWhole)
  (arg8 : Memref sig .tc .vmem S1x128x1024 .bf16) (harg8 : arg8.IsWhole)
  (arg9 : Memref sig .tc .vmem S1x2048x128 .bf16) (harg9 : arg9.IsWhole)
  (arg10 : Memref sig .tc .vmem S2048x1024 .bf16) (harg10 : arg10.IsWhole)
  (arg11 : Memref sig .tc .vmem S1x128x1024 .bf16) (harg11 : arg11.IsWhole)
  (arg12 : Memref sig .tc .vmem S1x384x192 .bf16) (harg12 : arg12.IsWhole)
  (arg13 : Memref sig .tc .vmem S1x256x256 .bf16) (harg13 : arg13.IsWhole)
  (arg14 : Memref sig .tc .vmem S2048x384 .f32) (harg14 : arg14.IsWhole)
  (arg15 : Memref sig .tc .vmem S2048x256 .f32) (harg15 : arg15.IsWhole)
  (arg16 : Memref sig .tc .vmem S2048x64 .f32) (harg16 : arg16.IsWhole)
  (arg17 : Memref sig .tc .vmem S256x2048 .f32) (harg17 : arg17.IsWhole)
  (arg18 : Memref sig .tc .vmem S128x2048 .f32) (harg18 : arg18.IsWhole)
  (arg19 : Memref sig .tc .vmem S2048x192 .f32) (harg19 : arg19.IsWhole)

section
variable (hc0 : cond0_0 i) (hc1 : ¬cond0_1 i)

theorem out10_A :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr3 fun _ => mTm 2048 o dz := by
  rw [out0_A_10, View.read_writes_eq_canon _ _ _ (fun y => cover0_A_10 (y := y) ..)]
  unfold kernelRun0_A
  dsimp only
  erw [readAt_arr2, readAt_arr3]
  rw [sh_zero, sh_zero, pay7]
  exact canon_whole_arr3 _ _

theorem out11_A (hz : MaskedZero (queries cq co si wq) (keys ckv kpe wkv)) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr3 fun _ => hcat 128 (mTm 2048 cq (dqueries (queries cq co si wq) (keys ckv kpe wkv) (values ckv wkv) (mmT 1024 dz wo))) (mTm 2048 cq (ropeT co si (sh 0 128 (dqueries (queries cq co si wq) (keys ckv kpe wkv) (values ckv wkv) (mmT 1024 dz wo))))) := by
  rw [out0_A_11, View.read_writes_eq_canon _ _ _ (fun y => cover0_A_11 (y := y) ..)]
  unfold kernelRun0_A
  dsimp only
  rw [r_val, r_2_val, r_3_val, v279_val (hz := hz), v281_val (hz := hz), pay43, pay44]
  exact canon_hcat_arr3 64 _ _ _ _ rfl

theorem out12_A (hz : MaskedZero (queries cq co si wq) (keys ckv kpe wkv)) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr3 fun _ => hcat 128 (mTm 2048 ckv fun i j => dkeysT (queries cq co si wq) (keys ckv kpe wkv) (values ckv wkv) (mmT 1024 dz wo) j i) (mTm 2048 ckv fun i j => dvaluesT (queries cq co si wq) (keys ckv kpe wkv) (mmT 1024 dz wo) j i) := by
  rw [out0_A_12, View.read_writes_eq_canon _ _ _ (fun y => cover0_A_12 (y := y) ..)]
  unfold kernelRun0_A
  dsimp only
  rw [r_1_val, r_20_val (hz := hz), r_22_val (hz := hz), pay46, show kernelRun0_A.sl.cst_146 (F := Ideal) = constant S256x128 .f32 0x00000000#32 from rfl, pay45]
  exact canon_hcat_arr3 128 _ _ _ _ rfl

theorem out13_A (hz : MaskedZero (queries cq co si wq) (keys ckv kpe wkv)) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr2 fun i j => mmT 128 (dqueries (queries cq co si wq) (keys ckv kpe wkv) (values ckv wkv) (mmT 1024 dz wo)) wq i j + mmT 64 (ropeT co si (sh 0 128 (dqueries (queries cq co si wq) (keys ckv kpe wkv) (values ckv wkv) (mmT 1024 dz wo)))) (sh 0 128 wq) i j := by
  rw [out0_A_13, View.read_writes_eq_canon _ _ _ (fun y => cover0_A_13 (y := y) ..)]
  unfold kernelRun0_A
  dsimp only
  have h := r_23_val cq ckv kpe co si wq wkv wo dz c arg1 harg1 arg2 harg2 arg3 harg3 arg4 harg4 arg5 harg5 arg6 harg6 arg7 harg7 arg8 harg8 arg10 harg10 arg19 hz
  unfold kernelRun0_A.sl.r_23 at h
  rw [h]
  exact (Holds.whole _ _).2

theorem out14_A (hz : MaskedZero (queries cq co si wq) (keys ckv kpe wkv)) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr2 fun i j => (mmT 128 (fun i j => dkeysT (queries cq co si wq) (keys ckv kpe wkv) (values ckv wkv) (mmT 1024 dz wo) j i) wkv i j + mmT 128 (fun i j => dvaluesT (queries cq co si wq) (keys ckv kpe wkv) (mmT 1024 dz wo) j i) (sh 0 128 wkv) i j) := by
  rw [out0_A_14, View.read_writes_eq_canon _ _ _ (fun y => cover0_A_14 (y := y) ..)]
  unfold kernelRun0_A
  dsimp only
  have h := r_24_val cq ckv kpe co si wq wkv wo dz c arg1 harg1 arg2 harg2 arg3 harg3 arg4 harg4 arg5 harg5 arg6 harg6 arg7 harg7 arg8 harg8 arg10 harg10 arg17 arg18 hz
  unfold kernelRun0_A.sl.r_24 at h
  rw [h]
  exact (Holds.whole _ _).2

theorem out15_A (hz : MaskedZero (queries cq co si wq) (keys ckv kpe wkv)) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) = arr2 fun i j => dkeysT (queries cq co si wq) (keys ckv kpe wkv) (values ckv wkv) (mmT 1024 dz wo) (128 + j) i := by
  rw [out0_A_15, View.read_writes_eq_canon _ _ _ (fun y => cover0_A_15 (y := y) ..)]
  unfold kernelRun0_A
  dsimp only
  rw [r_21_val (hz := hz)]
  exact (Holds.whole _ _).2

end

section
variable (hc0 : ¬cond0_0 i) (hc1 : cond0_1 i)

theorem out10_B :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr3 fun _ => mTm 2048 o dz := by
  rw [out0_B_10, View.read_writes_eq_canon _ _ _ (fun y => cover0_B_10 (y := y) ..)]
  unfold kernelRun0_B
  dsimp only
  erw [readAt_arr2, readAt_arr3]
  rw [sh_zero, sh_zero, pay7]
  exact canon_whole_arr3 _ _

theorem out11_B (hz : MaskedZero (queries cq co si wq) (keys ckv kpe wkv)) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr3 fun _ => hcat 128 (mTm 2048 cq (dqueries (queries cq co si wq) (keys ckv kpe wkv) (values ckv wkv) (mmT 1024 dz wo))) (mTm 2048 cq (ropeT co si (sh 0 128 (dqueries (queries cq co si wq) (keys ckv kpe wkv) (values ckv wkv) (mmT 1024 dz wo))))) := by
  rw [out0_B_11, View.read_writes_eq_canon _ _ _ (fun y => cover0_B_11 (y := y) ..)]
  unfold kernelRun0_B
  dsimp only
  rw [r_B, r_2_B, r_3_B, v279_B, v281_B, r_val, r_2_val, r_3_val, v279_val (hz := hz), v281_val (hz := hz), pay43, pay44]
  exact canon_hcat_arr3 64 _ _ _ _ rfl

theorem out12_B (hz : MaskedZero (queries cq co si wq) (keys ckv kpe wkv)) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr3 fun _ => hcat 128 (mTm 2048 ckv fun i j => dkeysT (queries cq co si wq) (keys ckv kpe wkv) (values ckv wkv) (mmT 1024 dz wo) j i) (mTm 2048 ckv fun i j => dvaluesT (queries cq co si wq) (keys ckv kpe wkv) (mmT 1024 dz wo) j i) := by
  rw [out0_B_12, View.read_writes_eq_canon _ _ _ (fun y => cover0_B_12 (y := y) ..)]
  unfold kernelRun0_B
  dsimp only
  rw [cst_146_B]
  rw [r_1_B, r_20_B, r_22_B, r_1_val, r_20_val (hz := hz), r_22_val (hz := hz), pay46, show kernelRun0_A.sl.cst_146 (F := Ideal) = constant S256x128 .f32 0x00000000#32 from rfl, pay45]
  exact canon_hcat_arr3 128 _ _ _ _ rfl

theorem out13_B (hz : MaskedZero (queries cq co si wq) (keys ckv kpe wkv)) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr2 fun i j => x13 i j + (mmT 128 (dqueries (queries cq co si wq) (keys ckv kpe wkv) (values ckv wkv) (mmT 1024 dz wo)) wq i j + mmT 64 (ropeT co si (sh 0 128 (dqueries (queries cq co si wq) (keys ckv kpe wkv) (values ckv wkv) (mmT 1024 dz wo)))) (sh 0 128 wq) i j) := by
  rw [out0_B_13, View.read_writes_eq_canon _ _ _ (fun y => cover0_B_13 (y := y) ..)]
  unfold kernelRun0_B
  dsimp only
  rw [r_23_B, r_23_val (hz := hz)]
  erw [readAt_arr2]
  rw [sh_zero, pay1]
  exact (Holds.whole _ _).2

theorem out14_B (hz : MaskedZero (queries cq co si wq) (keys ckv kpe wkv)) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr2 fun i j => x14 i j + ((mmT 128 (fun i j => dkeysT (queries cq co si wq) (keys ckv kpe wkv) (values ckv wkv) (mmT 1024 dz wo) j i) wkv i j + mmT 128 (fun i j => dvaluesT (queries cq co si wq) (keys ckv kpe wkv) (mmT 1024 dz wo) j i) (sh 0 128 wkv) i j)) := by
  rw [out0_B_14, View.read_writes_eq_canon _ _ _ (fun y => cover0_B_14 (y := y) ..)]
  unfold kernelRun0_B
  dsimp only
  rw [r_24_B, r_24_val (hz := hz)]
  erw [readAt_arr2]
  rw [sh_zero, pay2]
  exact (Holds.whole _ _).2

theorem out15_B (hz : MaskedZero (queries cq co si wq) (keys ckv kpe wkv)) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 (arr2 cq) (arr2 ckv) (arr2 kpe) (arr2 co) (arr2 si) (arr3 fun _ => wq) (arr3 fun _ => wkv) (arr3 fun _ => wo) (arr3 fun _ => o) (arr2 dz) (arr2 x13) (arr2 x14) (arr2 x15) = arr2 fun i j => x15 i j + (dkeysT (queries cq co si wq) (keys ckv kpe wkv) (values ckv wkv) (mmT 1024 dz wo) (128 + j) i) := by
  rw [out0_B_15, View.read_writes_eq_canon _ _ _ (fun y => cover0_B_15 (y := y) ..)]
  unfold kernelRun0_B
  dsimp only
  rw [r_21_B, r_21_val (hz := hz)]
  erw [readAt_arr2]
  rw [sh_zero, pay3]
  exact (Holds.whole _ _).2

end

end

end Cert.Attn
-- ==== Proof.KernelVal.lean ====
/-
  The six arrays the attention backward kernel leaves, given that the masked probabilities are zero.
-/
module

public import proofs.«01_k».proof.Proof.Blocks
public import proofs.«01_k».proof.Proof.Outs

@[expose] public section

set_option maxRecDepth 16384

noncomputable section

namespace Cert.Attn

open Idealize.ShloMosaic Idealize.ShloMosaic.TcCoe Finset Cert.Mat Cert.KernelIdeal Cert.KernelIdeal.Gen

variable (m : (ℓ : Loc nD τ sig) → Buf (Elt Ideal) ℓ) (c : Dev nD)

/-- What the six output blocks hold after head `n`. -/
theorem outs_eq (hz : ∀ h, h < 8 → MaskedZero ((kin m c).q h) ((kin m c).k h)) : ∀ (n : ℕ) (hn : n < cfg0.N),
    outsAt0 m c n hn = (arr3 fun _ => (kin m c).dwo n, arr3 fun _ => (kin m c).dwq n, arr3 fun _ => (kin m c).dwkv n,
      arr2 ((kin m c).dcq (n + 1)), arr2 ((kin m c).dckv (n + 1)), arr2 ((kin m c).dkpe (n + 1)))
  | 0, hn => by
    have h0 := hz 0 (by decide)
    refine (outsAt0_A m c ⟨0, hn⟩ rfl (Nat.not_succ_le_zero 0)).trans ?_
    rw [iblk0, iblk1, iblk2, iblk3, iblk4, iblk5, iblk6, iblk7, iblk8, iblk9]
    rw [out10_A, out11_A (hz := h0), out12_A (hz := h0), out13_A (hz := h0), out14_A (hz := h0), out15_A (hz := h0)]
    refine Prod.ext rfl (Prod.ext rfl (Prod.ext rfl (Prod.ext ?_ (Prod.ext ?_ ?_)))) <;> dsimp only <;> refine arr2_congr fun i j _ _ => ?_
    · simp only [In.dcq, Nat.zero_add, range_one, sum_singleton]; rfl
    · simp only [In.dckv, Nat.zero_add, range_one, sum_singleton]; rfl
    · simp only [In.dkpe, Nat.zero_add, range_one, sum_singleton]; rfl
  | n + 1, hn => by
    have hN : n + 1 < 8 := lt_of_lt_of_eq hn N_0
    have h0 := hz (n + 1) hN
    refine (outsAt0_B m c ⟨n + 1, hn⟩ (by dsimp only; omega) (by dsimp only; omega)).trans ?_
    simp only [Nat.add_sub_cancel, outs_eq hz n]
    rw [iblk0, iblk1, iblk2, iblk3, iblk4, iblk5, iblk6, iblk7, iblk8, iblk9]
    rw [out10_B, out11_B (hz := h0), out12_B (hz := h0), out13_B (hz := h0), out14_B (hz := h0), out15_B (hz := h0)]
    refine Prod.ext rfl (Prod.ext rfl (Prod.ext rfl (Prod.ext ?_ (Prod.ext ?_ ?_)))) <;> dsimp only <;> refine arr2_congr fun i j _ _ => ?_
    · simp only [In.dcq, Finset.sum_range_succ _ (n + 1)]; rfl
    · simp only [In.dckv, Finset.sum_range_succ _ (n + 1)]; rfl
    · simp only [In.dkpe, Finset.sum_range_succ _ (n + 1)]; rfl

theorem idx_out : ∀ t : Fin grid0.N, (win0_10.index t 0 = t.val ∧ win0_10.index t 1 = 0 ∧ win0_10.index t 2 = 0)
    ∧ (win0_11.index t 0 = t.val ∧ win0_11.index t 1 = 0 ∧ win0_11.index t 2 = 0)
    ∧ (win0_12.index t 0 = t.val ∧ win0_12.index t 1 = 0 ∧ win0_12.index t 2 = 0)
    ∧ (win0_13.index t 0 = 0 ∧ win0_13.index t 1 = 0) ∧ (win0_14.index t 0 = 0 ∧ win0_14.index t 1 = 0)
    ∧ (win0_15.index t 0 = 0 ∧ win0_15.index t 1 = 0) := by decide +kernel

theorem head_write {n a b : ℕ} (G : ℕ → ℕ → ℕ → EReal) {i : (⟨3, ![n, a, b]⟩ : Shape).Idx} {j j' : (⟨3, ![1, a, b]⟩ : Shape).Idx}
    {t p q r : ℕ} (ht : t = p) (hq : q = 0) (hr : r = 0) (h0 : (i 0).val = t * 1 + 1 * (j 0).val)
    (h1 : (i 1).val = q * a + 1 * (j 1).val) (h2 : (i 2).val = r * b + 1 * (j 2).val) (hj : ∀ x, (j' x).val = (j x).val) :
    arr3 (a := 1) (b := a) (c := b) (fun _ => G p) j' = arr3 G i := by
  subst ht hq hr
  have h : (j 0).val < 1 := (j 0).isLt
  have e0 : t * 1 + 1 * (j 0).val = t := by omega
  have e1 : 0 * a + 1 * (j 1).val = (j 1).val := by omega
  have e2 : 0 * b + 1 * (j 2).val = (j 2).val := by omega
  show G t (j' 1).val (j' 2).val = G (i 0).val (i 1).val (i 2).val
  rw [h0, h1, h2, hj, hj, e0, e1, e2]

theorem whole_write {a b : ℕ} (G : ℕ → ℕ → EReal) {i j j' : (⟨2, ![a, b]⟩ : Shape).Idx}
    {q r : ℕ} (hq : q = 0) (hr : r = 0) (h0 : (i 0).val = q * a + 1 * (j 0).val)
    (h1 : (i 1).val = r * b + 1 * (j 1).val) (hj : ∀ x, (j' x).val = (j x).val) :
    arr2 (a := a) (b := b) G j' = arr2 G i := by
  subst hq hr
  have e1 : 0 * a + 1 * (j 0).val = (j 0).val := by omega
  have e2 : 0 * b + 1 * (j 1).val = (j 1).val := by omega
  show G (j' 0).val (j' 1).val = G (i 0).val (i 1).val
  rw [h0, h1, hj, hj, e1, e2]

variable (hz : ∀ h, h < 8 → MaskedZero ((kin m c).q h) ((kin m c).k h))
include hz

theorem arr10 : (dats m 0 c).arrAt 10 cfg0.N = arr3 (kin m c).dwo := by
  refine (dats m 0 c).arrAt_eq_of_cover 10 (arr3 (kin m c).dwo) (fun t _ => ?_) fun i => ?_
  · rw [Value.flushed10, outs_eq m c hz]
    funext j
    rw [View.read_apply]
    show arr3 (a := 1) (b := 128) (c := 1024) (fun _ => (kin m c).dwo t.val) ((cfg0.win 10).xinj (grid0.coords t) j) =
      arr3 (a := 8) (b := 128) (c := 1024) (kin m c).dwo (((cfg0.win 10).blk t).view.emb j)
    refine head_write (n := 8) (a := 128) (b := 1024) (j := j) _ (idx_out t).1.1 (idx_out t).1.2.1 (idx_out t).1.2.2 ?_ ?_ ?_ fun _ => ?_ <;> rfl
  · have l0 : (i 0).val < 8 := (i 0).isLt
    have l1 : (i 1).val < 128 := (i 1).isLt
    have l2 : (i 2).val < 1024 := (i 2).isLt
    have hN : (i 0).val < cfg0.N := lt_of_lt_of_eq l0 N_0.symm
    have hi := (idx_out ⟨(i 0).val, hN⟩).1
    refine ⟨⟨(i 0).val, hN⟩, flush0_10 _, ?_⟩
    show i ∈ ((View.whole main_v55_0).slice (win0_10.rect ⟨(i 0).val, hN⟩)).set
    rw [View.set_slice_whole, Rect.mem_set_unit]
    intro a
    match a with
    | ⟨0, _⟩ => show win0_10.index ⟨(i 0).val, hN⟩ 0 * 1 ≤ (i 0).val ∧ (i 0).val < win0_10.index ⟨(i 0).val, hN⟩ 0 * 1 + 1
                rw [hi.1]; dsimp only; omega
    | ⟨1, _⟩ => show win0_10.index ⟨(i 0).val, hN⟩ 1 * 128 ≤ (i 1).val ∧ (i 1).val < win0_10.index ⟨(i 0).val, hN⟩ 1 * 128 + 128
                rw [hi.2.1]; omega
    | ⟨2, _⟩ => show win0_10.index ⟨(i 0).val, hN⟩ 2 * 1024 ≤ (i 2).val ∧ (i 2).val < win0_10.index ⟨(i 0).val, hN⟩ 2 * 1024 + 1024
                rw [hi.2.2]; omega

theorem arr11 : (dats m 0 c).arrAt 11 cfg0.N = arr3 (kin m c).dwq := by
  refine (dats m 0 c).arrAt_eq_of_cover 11 (arr3 (kin m c).dwq) (fun t _ => ?_) fun i => ?_
  · rw [Value.flushed11, outs_eq m c hz]
    funext j
    rw [View.read_apply]
    show arr3 (a := 1) (b := 384) (c := 192) (fun _ => (kin m c).dwq t.val) ((cfg0.win 11).xinj (grid0.coords t) j) =
      arr3 (a := 8) (b := 384) (c := 192) (kin m c).dwq (((cfg0.win 11).blk t).view.emb j)
    refine head_write (n := 8) (a := 384) (b := 192) (j := j) _ (idx_out t).2.1.1 (idx_out t).2.1.2.1 (idx_out t).2.1.2.2 ?_ ?_ ?_ fun _ => ?_ <;> rfl
  · have l0 : (i 0).val < 8 := (i 0).isLt
    have l1 : (i 1).val < 384 := (i 1).isLt
    have l2 : (i 2).val < 192 := (i 2).isLt
    have hN : (i 0).val < cfg0.N := lt_of_lt_of_eq l0 N_0.symm
    have hi := (idx_out ⟨(i 0).val, hN⟩).2.1
    refine ⟨⟨(i 0).val, hN⟩, flush0_11 _, ?_⟩
    show i ∈ ((View.whole main_v55_1).slice (win0_11.rect ⟨(i 0).val, hN⟩)).set
    rw [View.set_slice_whole, Rect.mem_set_unit]
    intro a
    match a with
    | ⟨0, _⟩ => show win0_11.index ⟨(i 0).val, hN⟩ 0 * 1 ≤ (i 0).val ∧ (i 0).val < win0_11.index ⟨(i 0).val, hN⟩ 0 * 1 + 1
                rw [hi.1]; dsimp only; omega
    | ⟨1, _⟩ => show win0_11.index ⟨(i 0).val, hN⟩ 1 * 384 ≤ (i 1).val ∧ (i 1).val < win0_11.index ⟨(i 0).val, hN⟩ 1 * 384 + 384
                rw [hi.2.1]; omega
    | ⟨2, _⟩ => show win0_11.index ⟨(i 0).val, hN⟩ 2 * 192 ≤ (i 2).val ∧ (i 2).val < win0_11.index ⟨(i 0).val, hN⟩ 2 * 192 + 192
                rw [hi.2.2]; omega

theorem arr12 : (dats m 0 c).arrAt 12 cfg0.N = arr3 (kin m c).dwkv := by
  refine (dats m 0 c).arrAt_eq_of_cover 12 (arr3 (kin m c).dwkv) (fun t _ => ?_) fun i => ?_
  · rw [Value.flushed12, outs_eq m c hz]
    funext j
    rw [View.read_apply]
    show arr3 (a := 1) (b := 256) (c := 256) (fun _ => (kin m c).dwkv t.val) ((cfg0.win 12).xinj (grid0.coords t) j) =
      arr3 (a := 8) (b := 256) (c := 256) (kin m c).dwkv (((cfg0.win 12).blk t).view.emb j)
    refine head_write (n := 8) (a := 256) (b := 256) (j := j) _ (idx_out t).2.2.1.1 (idx_out t).2.2.1.2.1 (idx_out t).2.2.1.2.2 ?_ ?_ ?_ fun _ => ?_ <;> rfl
  · have l0 : (i 0).val < 8 := (i 0).isLt
    have l1 : (i 1).val < 256 := (i 1).isLt
    have l2 : (i 2).val < 256 := (i 2).isLt
    have hN : (i 0).val < cfg0.N := lt_of_lt_of_eq l0 N_0.symm
    have hi := (idx_out ⟨(i 0).val, hN⟩).2.2.1
    refine ⟨⟨(i 0).val, hN⟩, flush0_12 _, ?_⟩
    show i ∈ ((View.whole main_v55_2).slice (win0_12.rect ⟨(i 0).val, hN⟩)).set
    rw [View.set_slice_whole, Rect.mem_set_unit]
    intro a
    match a with
    | ⟨0, _⟩ => show win0_12.index ⟨(i 0).val, hN⟩ 0 * 1 ≤ (i 0).val ∧ (i 0).val < win0_12.index ⟨(i 0).val, hN⟩ 0 * 1 + 1
                rw [hi.1]; dsimp only; omega
    | ⟨1, _⟩ => show win0_12.index ⟨(i 0).val, hN⟩ 1 * 256 ≤ (i 1).val ∧ (i 1).val < win0_12.index ⟨(i 0).val, hN⟩ 1 * 256 + 256
                rw [hi.2.1]; omega
    | ⟨2, _⟩ => show win0_12.index ⟨(i 0).val, hN⟩ 2 * 256 ≤ (i 2).val ∧ (i 2).val < win0_12.index ⟨(i 0).val, hN⟩ 2 * 256 + 256
                rw [hi.2.2]; omega

theorem arr13 : (dats m 0 c).arrAt 13 cfg0.N = arr2 ((kin m c).dcq 8) := by
  refine (dats m 0 c).arrAt_eq_of_cover 13 (arr2 ((kin m c).dcq 8)) (fun t ht => ?_) fun i => ?_
  · have h7 : t.val = 7 := by have := (flush0_13 t).1 ht; have := lt_of_lt_of_eq t.isLt N_0; omega
    rw [Value.flushed13, outs_eq m c hz, h7]
    funext j
    rw [View.read_apply]
    show arr2 (a := 2048) (b := 384) ((kin m c).dcq 8) ((cfg0.win 13).xinj (grid0.coords t) j) =
      arr2 (a := 2048) (b := 384) ((kin m c).dcq 8) (((cfg0.win 13).blk t).view.emb j)
    refine whole_write (a := 2048) (b := 384) (j := j) _ (idx_out t).2.2.2.1.1 (idx_out t).2.2.2.1.2 ?_ ?_ fun _ => ?_ <;> rfl
  · have l0 : (i 0).val < 2048 := (i 0).isLt
    have l1 : (i 1).val < 384 := (i 1).isLt
    have hi := (idx_out t0_7).2.2.2.1
    refine ⟨t0_7, (flush0_13 t0_7).2 rfl, ?_⟩
    show i ∈ ((View.whole main_v55_3).slice (win0_13.rect t0_7)).set
    rw [View.set_slice_whole, Rect.mem_set_unit]
    intro a
    match a with
    | ⟨0, _⟩ => show win0_13.index t0_7 0 * 2048 ≤ (i 0).val ∧ (i 0).val < win0_13.index t0_7 0 * 2048 + 2048
                rw [hi.1]; omega
    | ⟨1, _⟩ => show win0_13.index t0_7 1 * 384 ≤ (i 1).val ∧ (i 1).val < win0_13.index t0_7 1 * 384 + 384
                rw [hi.2]; omega

theorem arr14 : (dats m 0 c).arrAt 14 cfg0.N = arr2 ((kin m c).dckv 8) := by
  refine (dats m 0 c).arrAt_eq_of_cover 14 (arr2 ((kin m c).dckv 8)) (fun t ht => ?_) fun i => ?_
  · have h7 : t.val = 7 := by have := (flush0_14 t).1 ht; have := lt_of_lt_of_eq t.isLt N_0; omega
    rw [Value.flushed14, outs_eq m c hz, h7]
    funext j
    rw [View.read_apply]
    show arr2 (a := 2048) (b := 256) ((kin m c).dckv 8) ((cfg0.win 14).xinj (grid0.coords t) j) =
      arr2 (a := 2048) (b := 256) ((kin m c).dckv 8) (((cfg0.win 14).blk t).view.emb j)
    refine whole_write (a := 2048) (b := 256) (j := j) _ (idx_out t).2.2.2.2.1.1 (idx_out t).2.2.2.2.1.2 ?_ ?_ fun _ => ?_ <;> rfl
  · have l0 : (i 0).val < 2048 := (i 0).isLt
    have l1 : (i 1).val < 256 := (i 1).isLt
    have hi := (idx_out t0_7).2.2.2.2.1
    refine ⟨t0_7, (flush0_14 t0_7).2 rfl, ?_⟩
    show i ∈ ((View.whole main_v55_4).slice (win0_14.rect t0_7)).set
    rw [View.set_slice_whole, Rect.mem_set_unit]
    intro a
    match a with
    | ⟨0, _⟩ => show win0_14.index t0_7 0 * 2048 ≤ (i 0).val ∧ (i 0).val < win0_14.index t0_7 0 * 2048 + 2048
                rw [hi.1]; omega
    | ⟨1, _⟩ => show win0_14.index t0_7 1 * 256 ≤ (i 1).val ∧ (i 1).val < win0_14.index t0_7 1 * 256 + 256
                rw [hi.2]; omega

theorem arr15 : (dats m 0 c).arrAt 15 cfg0.N = arr2 ((kin m c).dkpe 8) := by
  refine (dats m 0 c).arrAt_eq_of_cover 15 (arr2 ((kin m c).dkpe 8)) (fun t ht => ?_) fun i => ?_
  · have h7 : t.val = 7 := by have := (flush0_15 t).1 ht; have := lt_of_lt_of_eq t.isLt N_0; omega
    rw [Value.flushed15, outs_eq m c hz, h7]
    funext j
    rw [View.read_apply]
    show arr2 (a := 2048) (b := 64) ((kin m c).dkpe 8) ((cfg0.win 15).xinj (grid0.coords t) j) =
      arr2 (a := 2048) (b := 64) ((kin m c).dkpe 8) (((cfg0.win 15).blk t).view.emb j)
    refine whole_write (a := 2048) (b := 64) (j := j) _ (idx_out t).2.2.2.2.2.1 (idx_out t).2.2.2.2.2.2 ?_ ?_ fun _ => ?_ <;> rfl
  · have l0 : (i 0).val < 2048 := (i 0).isLt
    have l1 : (i 1).val < 64 := (i 1).isLt
    have hi := (idx_out t0_7).2.2.2.2.2
    refine ⟨t0_7, (flush0_15 t0_7).2 rfl, ?_⟩
    show i ∈ ((View.whole main_v55_5).slice (win0_15.rect t0_7)).set
    rw [View.set_slice_whole, Rect.mem_set_unit]
    intro a
    match a with
    | ⟨0, _⟩ => show win0_15.index t0_7 0 * 2048 ≤ (i 0).val ∧ (i 0).val < win0_15.index t0_7 0 * 2048 + 2048
                rw [hi.1]; omega
    | ⟨1, _⟩ => show win0_15.index t0_7 1 * 64 ≤ (i 1).val ∧ (i 1).val < win0_15.index t0_7 1 * 64 + 64
                rw [hi.2]; omega

end Cert.Attn
-- ==== Proof.OHost.lean ====
/-
  The attention output that the backward launch reads: the host's forward chain before the launch is the reference's.
-/
module

public import proofs.«01_k».proof.Proof.Blocks
public import proofs.«01_k».proof.Proof.Gen.ReferenceIdeal.Read
public import Idealize.ShloMosaic.Lib.StableHlo.ReadAt

@[expose] public section

set_option maxRecDepth 100000

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Changing the format changes nothing over the ideal numbers. -/
theorem truncf_id {s : Shape} {φ ψ : FTy} (x : FVec Ideal s φ) (h) : truncf ψ x h = x := rfl

/-- The launch's operand `o` is the reference's forward output of the same arguments. -/
theorem o_read : V m c (Pipeline.arrRef spec0 8) = ReferenceIdeal.Read.val_main_v71 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  show V m c main_v54 = _
  unfold V
  simp only [hostOps0, hostOps0_1, hostOps0_2, hostOps0_3, hostOps0_4, List.flatten_cons, List.flatten_nil, List.cons_append, List.nil_append, List.append_nil]
  after_reads_simp
  simp -implicitDefEqProofs only [StableHlo.TRef.toBuf, StableHlo.TRef.ofBuf, cast_cast, cast_eq, id]
  rw [truncf_id]
  rfl

end Cert.Attn
-- ==== Proof.HostOps.lean ====
/-
  What the reference program's array operations do to arrays given as functions of natural-number coordinates: joins
  and paddings along the last axis, products summed over two axes, and the row maximum.
-/
module

public import proofs.«01_k».proof.Proof.Mat
public import Idealize.ShloMosaic.Lib.TwoAxisContraction
public import Idealize.ShloMosaic.Lib.KernelVsHost

@[expose] public section

noncomputable section

namespace Cert.Mat

open Idealize.ShloMosaic Idealize.ShloMosaic.ValueIdx Finset

variable {n m k p q : ℕ}

theorem concatenate_arr3 {α : Type} (A B : ℕ → ℕ → ℕ → α) (h) :
    concatenate (⟨3, ![n, m, k]⟩ : Shape) 2 [⟨⟨3, ![n, m, p]⟩, arr3 A⟩, ⟨⟨3, ![n, m, q]⟩, arr3 B⟩] h
      = arr3 fun x => hcat p (A x) (B x) := by
  have hk : k = p + q := by
    have := h.2.2
    simpa using this.symm
  funext j
  have h1 : (j 2).val < k := (j 2).isLt
  by_cases hj : (j 2).val < p
  · refine (concatenate_pair_apply_left 2 _ _ h j rfl (ix3 (j 0) (j 1) ⟨(j 2).val, hj⟩) ?_).trans ?_
    · intro b; match b with | ⟨0, _⟩ => rfl | ⟨1, _⟩ => rfl | ⟨2, _⟩ => rfl
    · exact (if_pos hj).symm
  · refine (concatenate_pair_apply_right 2 _ _ h j rfl rfl (ix3 (j 0) (j 1) ⟨(j 2).val - p, by omega⟩) ?_ ?_).trans ?_
    · intro b hb
      match b with
      | ⟨0, _⟩ => rfl
      | ⟨1, _⟩ => rfl
      | ⟨2, _⟩ => exact absurd rfl hb
    · show (j 2).val - p + p = (j 2).val
      omega
    · exact (if_neg hj).symm

/-- Two arrays padded with zeros to lie side by side, and added. -/
theorem pad_add_pad (A B : ℕ → ℕ → ℕ → EReal) {u u' : Shape} (z : u.Idx → EReal) (z' : u'.Idx → EReal) (hz : ∀ i, z i = 0)
    (hz' : ∀ i, z' i = 0) (h h' hu hu') (j : (⟨3, ![n, m, k]⟩ : Shape).Idx) :
    pad (⟨3, ![n, m, k]⟩ : Shape) ![0, 0, p] ![0, 0, 0] ![0, 0, 0] (arr3 (a := n) (b := m) (c := q) B) z h hu j
      + pad (⟨3, ![n, m, k]⟩ : Shape) ![0, 0, 0] ![0, 0, q] ![0, 0, 0] (arr3 (a := n) (b := m) (c := p) A) z' h' hu' j
      = arr3 (fun x => hcat p (A x) (B x)) j := by
  have hk : k = p + q := by
    have := h.2 2
    simpa using this
  have h1 : (j 2).val < k := (j 2).isLt
  by_cases hj : (j 2).val < p
  · rw [pad_apply_of_not_inside _ _ _ _ _ h hu j 2 (fun hc => by
        have hc : p ≤ (j 2).val := hc.1
        omega),
      pad_apply_of_inside _ _ _ _ _ h' hu' j (ix3 (j 0) (j 1) ⟨(j 2).val, hj⟩) (fun a => by
        match a with
        | ⟨0, _⟩ => show (j 0).val = 0 + (j 0).val * (0 + 1); omega
        | ⟨1, _⟩ => show (j 1).val = 0 + (j 1).val * (0 + 1); omega
        | ⟨2, _⟩ => show (j 2).val = 0 + (j 2).val * (0 + 1); omega), hz, zero_add]
    exact (if_pos hj).symm
  · rw [pad_apply_of_not_inside _ _ _ _ _ h' hu' j 2 (fun hc => by
        have hc : ((j 2).val - 0) / (0 + 1) < p := hc.2.2
        rw [Nat.sub_zero, Nat.zero_add, Nat.div_one] at hc
        omega),
      pad_apply_of_inside _ _ _ _ _ h hu j (ix3 (j 0) (j 1) ⟨(j 2).val - p, by omega⟩) (fun a => by
        match a with
        | ⟨0, _⟩ => show (j 0).val = 0 + (j 0).val * (0 + 1); omega
        | ⟨1, _⟩ => show (j 1).val = 0 + (j 1).val * (0 + 1); omega
        | ⟨2, _⟩ => show (j 2).val = p + ((j 2).val - p) * (0 + 1); omega), hz', add_zero]
    exact (if_neg hj).symm

theorem sum_fin2 (f : ℕ → ℕ → EReal) : (∑ a : Fin n, ∑ b : Fin k, f a.val b.val) = ∑ a ∈ range n, ∑ b ∈ range k, f a b := by
  rw [← Fin.sum_univ_eq_sum_range (fun a => ∑ b ∈ range k, f a b) n]
  exact Finset.sum_congr rfl fun a _ => Fin.sum_univ_eq_sum_range (f a.val) k

theorem dot_heads_rows_lit (A B : ℕ → ℕ → ℕ → EReal) {φ : FTy} (wf) :
    Host.dotGeneral (F := Ideal) (φ₁ := φ) (φ₂ := φ)
      (⟨[0, 1], [0, 1], [2], [2], [], [], wf⟩ : DotDims ⟨3, ![n, k, p]⟩ ⟨3, ![n, k, q]⟩ ⟨2, ![p, q]⟩) none (arr3 A) (arr3 B)
      = arr2 fun i j => ∑ a ∈ range n, ∑ b ∈ range k, A a b i * B a b j := by
  funext j
  simp only [Host.dotGeneral]
  rw [Ideal.dotGeneral_apply, sum_contr2 _ n k rfl rfl rfl]
  exact sum_fin2 fun a b => A a b (j 0).val * B a b (j 1).val

/-- The products of the rows of each head, summed over the heads. -/
theorem dot_heads_rows (d : DotDims ⟨3, ![n, k, p]⟩ ⟨3, ![n, k, q]⟩ ⟨2, ![p, q]⟩)
    (h : (d.lhsContracting, d.rhsContracting, d.lhsNonContracting, d.rhsNonContracting, d.lhsBatch, d.rhsBatch)
      = ([0, 1], [0, 1], [2], [2], [], [])) (A B : ℕ → ℕ → ℕ → EReal) {φ : FTy} :
    Host.dotGeneral (F := Ideal) (φ₁ := φ) (φ₂ := φ) d none (arr3 (α := EReal) A) (arr3 (α := EReal) B)
      = arr2 fun i j => ∑ a ∈ range n, ∑ b ∈ range k, A a b i * B a b j := by
  rcases d with ⟨_, _, _, _, _, _, wf⟩
  simp only [Prod.mk.injEq] at h
  obtain ⟨rfl, rfl, rfl, rfl, rfl, rfl⟩ := h
  exact dot_heads_rows_lit A B wf

theorem dot_heads_cols_lit (A B : ℕ → ℕ → ℕ → EReal) {φ : FTy} (wf) :
    Host.dotGeneral (F := Ideal) (φ₁ := φ) (φ₂ := φ)
      (⟨[0, 1], [0, 2], [2], [1], [], [], wf⟩ : DotDims ⟨3, ![n, k, p]⟩ ⟨3, ![n, q, k]⟩ ⟨2, ![p, q]⟩) none (arr3 A) (arr3 B)
      = arr2 fun i j => ∑ a ∈ range n, ∑ b ∈ range k, A a b i * B a j b := by
  funext j
  simp only [Host.dotGeneral]
  rw [Ideal.dotGeneral_apply, sum_contr2 _ n k rfl rfl rfl]
  exact sum_fin2 fun a b => A a b (j 0).val * B a (j 1).val b

/-- The products with each head's second factor transposed, summed over the heads. -/
theorem dot_heads_cols (d : DotDims ⟨3, ![n, k, p]⟩ ⟨3, ![n, q, k]⟩ ⟨2, ![p, q]⟩)
    (h : (d.lhsContracting, d.rhsContracting, d.lhsNonContracting, d.rhsNonContracting, d.lhsBatch, d.rhsBatch)
      = ([0, 1], [0, 2], [2], [1], [], [])) (A B : ℕ → ℕ → ℕ → EReal) {φ : FTy} :
    Host.dotGeneral (F := Ideal) (φ₁ := φ) (φ₂ := φ) d none (arr3 (α := EReal) A) (arr3 (α := EReal) B)
      = arr2 fun i j => ∑ a ∈ range n, ∑ b ∈ range k, A a b i * B a j b := by
  rcases d with ⟨_, _, _, _, _, _, wf⟩
  simp only [Prod.mk.injEq] at h
  obtain ⟨rfl, rfl, rfl, rfl, rfl, rfl⟩ := h
  exact dot_heads_cols_lit A B wf

theorem rowMaxRed_arr3 (A : ℕ → ℕ → ℕ → EReal) (h hφ hacc) :
    multiReduction (F := Ideal) (φ := .f32) .maximumf [2] (⟨2, ![n, m]⟩ : Shape) (arr3 (a := n) (b := m) (c := k) A)
      0xFF800000#32 h hφ hacc = arr2 fun i j => (range k).sup (A i j) := by
  funext j
  rw [Ideal.multiReduction_maximumf_single, ofBits_neg_inf]
  exact fold_max_eq_sup (A (j 0).val (j 1).val) k

/-- The row maximum of each head. -/
theorem rowMax_arr3 (A : ℕ → ℕ → ℕ → EReal) {u : Shape} (h : Shape.ReducesTo (⟨3, ![n, m, k]⟩ : Shape) [2] ⟨2, ![n, m]⟩)
    (h' : Shape.Reduces (⟨3, ![n, m, k]⟩ : Shape) [2] ⟨2, ![n, m]⟩) (hu : 0 < u.numel) :
    Host.reduce (FloatOps.maximumf (F := Ideal) (φ := .f32)) (arr3 (α := EReal) (a := n) (b := m) (c := k) A)
      (constant u .f32 0xFF800000#32) h hu = arr2 (α := EReal) fun i j => (range k).sup (A i j) := by
  exact (hostReduce_maximumf_eq_multiReduction (F := Ideal) (φ := .f32) _ 0xFF800000#32 h hu h' (.inl rfl) rfl).trans
    (rowMaxRed_arr3 A _ _ _)

end Cert.Mat
-- ==== Proof.RefFwd.lean ====
/-
  The reference program's forward stages as functions of natural-number coordinates: the queries and keys, the masked
  scores, and the softmax's exponentials and their sums.
-/
module

public import proofs.«01_k».proof.Proof.Finite
public import proofs.«01_k».proof.Proof.HostOps
public import proofs.«01_k».proof.Proof.Gen.ReferenceIdeal.Read

@[expose] public section

noncomputable section

namespace Cert.Attn

open Idealize.ShloMosaic Finset Cert.Mat Cert.ReferenceIdeal Cert.ReferenceIdeal.Read

variable (I : In)

/-- The nine arguments as arrays. -/
abbrev A0 : FVec Ideal S2048x384 .bf16 := arr2 (α := EReal) I.cq
abbrev A1 : FVec Ideal S2048x256 .bf16 := arr2 (α := EReal) I.ckv
abbrev A2 : FVec Ideal S2048x64 .f32 := arr2 (α := EReal) I.kpe
abbrev A3 : FVec Ideal S2048x32 .f32 := arr2 (α := EReal) I.co
abbrev A4 : FVec Ideal S2048x32 .f32 := arr2 (α := EReal) I.si
abbrev A5 : FVec Ideal S8x384x192 .bf16 := arr3 (α := EReal) I.wq
abbrev A6 : FVec Ideal S8x256x256 .bf16 := arr3 (α := EReal) I.wkv
abbrev A7 : FVec Ideal S8x128x1024 .bf16 := arr3 (α := EReal) I.wo
abbrev A8 : FVec Ideal S2048x1024 .bf16 := arr2 (α := EReal) I.dz

/-! ## Queries and keys -/

theorem v6_arr : val_main_v6 (F := Ideal) (A0 I) (A5 I) = arr3 (α := EReal) fun h => mm 384 I.cq (I.wq h) := by
  funext i
  rw [val_main_v6_apply, val_main_v5_apply]
  exact (Fin.sum_univ_eq_sum_range (fun k => I.wq (i 0).val k (i 2).val * I.cq (i 1).val k) 384).trans
    (Finset.sum_congr rfl fun _ _ => mul_comm _ _)

theorem v8_arr : val_main_v8 (F := Ideal) (A1 I) (A6 I) = arr3 (α := EReal) fun h => mm 256 I.ckv (I.wkv h) := by
  funext i
  rw [val_main_v8_apply, val_main_v7_apply]
  exact (Fin.sum_univ_eq_sum_range (fun k => I.wkv (i 0).val k (i 2).val * I.ckv (i 1).val k) 256).trans
    (Finset.sum_congr rfl fun _ _ => mul_comm _ _)

theorem v9_arr : val_main_v9 (F := Ideal) (A0 I) (A5 I) = arr3 (α := EReal) fun h => mm 384 I.cq (I.wq h) := by
  funext i
  rw [val_main_v9_apply, v6_arr]
  rfl

theorem v10_arr : val_main_v10 (F := Ideal) (A0 I) (A5 I)
    = arr3 (α := EReal) fun h => mm 384 I.cq (sh 0 128 (I.wq h)) := by
  funext i
  rw [val_main_v10_apply, v6_arr]
  simp only [arr3, mm, sh, Nat.zero_add]

theorem v28_arr : val_main_v28 (F := Ideal) (A1 I) (A6 I) = arr3 (α := EReal) fun h => mm 256 I.ckv (I.wkv h) := by
  funext i
  rw [val_main_v28_apply, v8_arr]
  rfl

theorem v29_arr : val_main_v29 (F := Ideal) (A1 I) (A6 I) = arr3 (α := EReal) fun h => I.v h := by
  funext i
  rw [val_main_v29_apply, v8_arr]
  simp only [arr3, In.v, values, mm, sh, Nat.zero_add]

theorem v27_arr : val_main_v27 (F := Ideal) (A0 I) (A3 I) (A4 I) (A5 I)
    = arr3 (α := EReal) fun h => rope I.co I.si (mm 384 I.cq (sh 0 128 (I.wq h))) := by
  have e19 : val_main_v19 (F := Ideal) (A0 I) (A3 I) (A4 I) (A5 I) = arr3 (α := EReal) fun h i j =>
      mm 384 I.cq (sh 0 128 (I.wq h)) i j * I.co i j - mm 384 I.cq (sh 0 128 (I.wq h)) i (32 + j) * I.si i j := by
    funext i
    rw [val_main_v19_apply, val_main_v15_apply, val_main_v18_apply, val_main_v11_apply, val_main_v12_apply,
      val_main_v14_apply, val_main_v13_apply, val_main_v17_apply, val_main_v16_apply, v10_arr]
    rfl
  have e26 : val_main_v26 (F := Ideal) (A0 I) (A3 I) (A4 I) (A5 I) = arr3 (α := EReal) fun h i j =>
      mm 384 I.cq (sh 0 128 (I.wq h)) i j * I.si i j + mm 384 I.cq (sh 0 128 (I.wq h)) i (32 + j) * I.co i j := by
    funext i
    rw [val_main_v26_apply, val_main_v22_apply, val_main_v25_apply, val_main_v11_apply, val_main_v12_apply,
      val_main_v21_apply, val_main_v20_apply, val_main_v24_apply, val_main_v23_apply, v10_arr]
    rfl
  unfold val_main_v27
  rw [e19, e26]
  exact concatenate_arr3 _ _ _

/-! ## The scores -/

/-- The products over all 192 columns, split at column 128. -/
theorem mmT_hcat (A B C D : ℕ → ℕ → EReal) (i j : ℕ) :
    mmT 192 (hcat 128 A B) (hcat 128 C D) i j = mmT 128 A C i j + mmT 64 B D i j := by
  unfold mmT hcat
  rw [show 192 = 128 + 64 from rfl, Finset.sum_range_add]
  refine congrArg₂ (fun x y : EReal => x + y) ?_ ?_
  · exact Finset.sum_congr rfl fun s hs => by rw [if_pos (mem_range.1 hs), if_pos (mem_range.1 hs)]
  · exact Finset.sum_congr rfl fun s hs => by
      rw [if_neg (by omega), if_neg (by omega), Nat.add_sub_cancel_left]

theorem v36_arr : val_main_v36 (F := Ideal) (A0 I) (A1 I) (A2 I) (A3 I) (A4 I) (A5 I) (A6 I)
    = arr3 (α := EReal) fun h => logits (I.q h) (I.k h) := by
  funext i
  rw [val_main_v36_apply, val_main_v34_apply, val_main_v32_apply, val_main_v33_apply, val_main_v35_apply, v9_arr, v28_arr,
    v27_arr]
  show _ = mmT 192 (I.q (i 0).val) (I.k (i 0).val) (i 1).val (i 2).val * SC
  unfold In.q In.k queries keys
  rw [mmT_hcat]
  exact congrArg₂ (fun x y : EReal => (x + y) * SC)
    (Fin.sum_univ_eq_sum_range (fun k => mm 384 I.cq (I.wq (i 0).val) (i 1).val k * mm 256 I.ckv (I.wkv (i 0).val) (i 2).val k) 128)
    (Fin.sum_univ_eq_sum_range (fun k => rope I.co I.si (mm 384 I.cq (sh 0 128 (I.wq (i 0).val))) (i 1).val k
      * I.kpe (i 2).val k) 64)

/-- Position `i`'s block of 64. -/
theorem v31_val : ∀ k : Fin 2048, val_main_v31 (F := Ideal) (ValueIdx.ix1 k) = BitVec.ofNat 32 (k.val / 64) := by
  decide +kernel

theorem sle_blocks : ∀ a b : Fin 32, IntOp.cmpi .sle (BitVec.ofNat 32 a.val) (BitVec.ofNat 32 b.val) = if a ≤ b then 1#1 else 0#1 := by
  decide +kernel

/-- The mask, at query `i 1` and key `i 2`. -/
theorem v42_mask (i : S8x2048x2048.Idx) : val_main_v42_1 (F := Ideal) i = if (i 2).val / 64 ≤ (i 1).val / 64 then 1#1 else 0#1 := by
  have h1 : (i 1).val < 2048 := (i 1).isLt
  have h2 : (i 2).val < 2048 := (i 2).isLt
  rw [val_main_v42_1_apply, val_main_v41_apply, val_main_v39_apply, val_main_v40_apply, val_main_v37_apply, val_main_v38_apply]
  have e (k : Fin 2048) (j : S2048.Idx) (h : (j 0).val = k.val) : val_main_v31 (F := Ideal) j = BitVec.ofNat 32 (k.val / 64) := by
    rw [← v31_val k]
    exact congrArg _ (funext fun a => Fin.ext (by match a with | ⟨0, _⟩ => exact h))
  rw [e ⟨(i 2).val, h2⟩ _ rfl, e ⟨(i 1).val, h1⟩ _ rfl]
  exact sle_blocks ⟨(i 2).val / 64, by omega⟩ ⟨(i 1).val / 64, by omega⟩

theorem v42_arr : val_main_v42_0 (F := Ideal) (A0 I) (A1 I) (A2 I) (A3 I) (A4 I) (A5 I) (A6 I)
    = arr3 (α := EReal) fun h => scores (I.q h) (I.k h) := by
  funext i
  have h1 : (i 1).val < 2048 := (i 1).isLt
  have h2 : (i 2).val < 2048 := (i 2).isLt
  rw [val_main_v42_0_apply, v42_mask, v36_arr, val_main_call1_v2_apply, val_main_call1_v0_apply, val_main_cst_0_apply]
  show _ = if (i 2).val / 64 ≤ (i 1).val / 64 then logits (I.q (i 0).val) (I.k (i 0).val) (i 1).val (i 2).val else ⊥
  split
  · rfl
  · exact ofBits_neg_inf

/-! ## The softmax -/

theorem v43_arr : val_main_v43 (F := Ideal) (A0 I) (A1 I) (A2 I) (A3 I) (A4 I) (A5 I) (A6 I)
    = arr2 (α := EReal) fun h i => (range 2048).sup (scores (I.q h) (I.k h) i) := by
  unfold val_main_v43
  rw [v42_arr]
  exact rowMax_arr3 _ _ (by decide) _

theorem v63_arr : val_main_v63 (F := Ideal) (A0 I) (A1 I) (A2 I) (A3 I) (A4 I) (A5 I) (A6 I)
    = arr3 (α := EReal) fun h i => rowExp 2048 (scores (I.q h) (I.k h) i) := by
  funext i
  rw [val_main_v63_apply, val_main_v62_apply, val_main_v61_apply, val_main_v60_apply, val_main_v50_apply,
    val_main_v49_apply, val_main_cst_3_apply, v43_arr, v42_arr]
  show Ideal.exp (scores (I.q (i 0).val) (I.k (i 0).val) (i 1).val (i 2).val
    - max (Ideal.ofBits .f32 0xFF800000#32) ((range 2048).sup (scores (I.q (i 0).val) (I.k (i 0).val) (i 1).val))) = _
  rw [show Ideal.ofBits .f32 0xFF800000#32 = ⊥ from ofBits_neg_inf, max_eq_right bot_le]
  rfl

theorem v65_arr : val_main_v65 (F := Ideal) (A0 I) (A1 I) (A2 I) (A3 I) (A4 I) (A5 I) (A6 I)
    = arr3 (α := EReal) fun h i _ => rowSum 2048 (scores (I.q h) (I.k h) i) := by
  funext i
  rw [val_main_v65_apply, val_main_v64_apply, v63_arr, val_main_cst_9_apply]
  show Ideal.ofBits .f32 0x00000000#32 + _ = _
  rw [Ideal.ofBits_zero_f32, zero_add]
  exact Fin.sum_univ_eq_sum_range (fun k => rowExp 2048 (scores (I.q (i 0).val) (I.k (i 0).val) (i 1).val) k) 2048

theorem v67_arr : val_main_v67 (F := Ideal) (A0 I) (A1 I) (A2 I) (A3 I) (A4 I) (A5 I) (A6 I)
    = arr3 (α := EReal) fun h => probs (I.q h) (I.k h) := by
  funext i
  rw [val_main_v67_apply, val_main_v66_apply, v65_arr, v63_arr]
  rfl

end Cert.Attn
-- ==== Proof.RefBwd.lean ====
/-
  The reference program's backward stages as functions of natural-number coordinates, up to its six results.
-/
module

public import proofs.«01_k».proof.Proof.RefFwd
public import Idealize.ShloMosaic.Lib.IdealHost

@[expose] public section

noncomputable section

namespace Cert.Attn

open Idealize.ShloMosaic Finset Cert.Mat Cert.ReferenceIdeal Cert.ReferenceIdeal.Read

variable {I : In}

/-- The gradient of the masked scores. -/
abbrev In.ds (I : In) (h : ℕ) : ℕ → ℕ → EReal := dscores (I.q h) (I.k h) (I.v h) (I.d h)

/-! ## The gradients of the heads' outputs, of the values and of the softmax -/

theorem v77_arr : val_main_v77 (F := Ideal) (A7 I) (A8 I) = arr3 (α := EReal) fun h => I.d h := by
  funext i
  rw [val_main_v77_apply, val_main_v76_apply]
  exact Fin.sum_univ_eq_sum_range (fun k => I.dz (i 1).val k * I.wo (i 0).val (i 2).val k) 1024

theorem v79_arr : val_main_v79 (F := Ideal) (A0 I) (A1 I) (A2 I) (A3 I) (A4 I) (A5 I) (A6 I) (A7 I) (A8 I)
    = arr3 (α := EReal) fun h => I.dv h := by
  funext i
  rw [val_main_v79_apply, val_main_v78_apply, v77_arr, v67_arr]
  exact Fin.sum_univ_eq_sum_range
    (fun k => I.d (i 0).val k (i 2).val * probs (I.q (i 0).val) (I.k (i 0).val) k (i 1).val) 2048

theorem v80_arr : val_main_v80 (F := Ideal) (A1 I) (A6 I) (A7 I) (A8 I)
    = arr3 (α := EReal) fun h => mmT 128 (I.d h) (I.v h) := by
  funext i
  rw [val_main_v80_apply, v77_arr, v29_arr]
  exact Fin.sum_univ_eq_sum_range (fun k => I.d (i 0).val (i 1).val k * I.v (i 0).val (i 2).val k) 128

/-- The row sum that the quotient's gradient holds. -/
def In.quotSum (I : In) (h i : ℕ) : EReal :=
  ∑ s ∈ range 2048, mmT 128 (I.d h) (I.v h) i s
      * Ideal.div 1 (rowSum 2048 (scores (I.q h) (I.k h) i) * rowSum 2048 (scores (I.q h) (I.k h) i))
      * rowExp 2048 (scores (I.q h) (I.k h) i) s

theorem v84_arr : val_main_v84 (F := Ideal) (A0 I) (A1 I) (A2 I) (A3 I) (A4 I) (A5 I) (A6 I) (A7 I) (A8 I)
    = arr2 (α := EReal) I.quotSum := by
  have e (j : S8x2048x2048.Idx) : val_main_v83 (F := Ideal) (A0 I) (A1 I) (A2 I) (A3 I) (A4 I) (A5 I) (A6 I) (A7 I) (A8 I) j
      = arr3 (α := EReal) (fun h i s => mmT 128 (I.d h) (I.v h) i s
      * Ideal.div 1 (rowSum 2048 (scores (I.q h) (I.k h) i) * rowSum 2048 (scores (I.q h) (I.k h) i))
      * rowExp 2048 (scores (I.q h) (I.k h) i) s) j := by
    rw [val_main_v83_apply, val_main_v82_apply, val_main_v81_apply, val_main_v70_apply, val_main_v69_apply,
      val_main_v68_apply, val_main_cst_10_apply, v80_arr, v63_arr, v65_arr]
    show _ * Ideal.div (Ideal.ofBits .f32 0x3F800000#32) _ * _ = _
    rw [Ideal.ofBits_one_f32]
    rfl
  funext i
  rw [val_main_v84_apply, val_main_cst_11_apply]
  show Ideal.ofBits .f32 0x00000000#32 + _ = _
  rw [Ideal.ofBits_zero_f32, zero_add, funext e]
  exact Fin.sum_univ_eq_sum_range (fun s => mmT 128 (I.d (i 0).val) (I.v (i 0).val) (i 1).val s
      * Ideal.div 1 (rowSum 2048 (scores (I.q (i 0).val) (I.k (i 0).val) (i 1).val)
        * rowSum 2048 (scores (I.q (i 0).val) (I.k (i 0).val) (i 1).val))
      * rowExp 2048 (scores (I.q (i 0).val) (I.k (i 0).val) (i 1).val) s) 2048

theorem v85_arr : val_main_v85 (F := Ideal) (A0 I) (A1 I) (A2 I) (A3 I) (A4 I) (A5 I) (A6 I) (A7 I) (A8 I)
    = arr3 (α := EReal) fun h i _ => I.quotSum h i := by
  funext i
  have h1 : (i 1).val < 2048 := (i 1).isLt
  have h2 : (i 2).val < 1 := (i 2).isLt
  rw [val_main_v85_apply, v84_arr]
  refine congrArg₂ I.quotSum ?_ ?_
  · show (((i 0).val * 2048 + (i 1).val) * 1 + (i 2).val) / 2048 = (i 0).val
    omega
  · show (((i 0).val * 2048 + (i 1).val) * 1 + (i 2).val) % 2048 = (i 1).val
    omega

theorem v92_arr : val_main_v92 (F := Ideal) (A0 I) (A1 I) (A2 I) (A3 I) (A4 I) (A5 I) (A6 I) (A7 I) (A8 I)
    = arr3 (α := EReal) fun h i => quotT 2048 (rowExp 2048 (scores (I.q h) (I.k h) i)) (mmT 128 (I.d h) (I.v h) i)
        (rowSum 2048 (scores (I.q h) (I.k h) i)) := by
  funext i
  rw [val_main_v92_apply, val_main_v91_apply, val_main_v88_apply, val_main_v90_apply, val_main_v89_apply,
    val_main_v87_apply, val_main_cst_12_apply, Fin.sum_univ_one, val_main_v86_apply, v85_arr, v80_arr, v63_arr,
    v65_arr]
  show (Ideal.div _ _ + (Ideal.ofBits .f32 0x00000000#32 + -_)) * _ = _
  rw [Ideal.ofBits_zero_f32, zero_add]
  rfl

theorem v95_arr (f : I.Finite) :
    val_main_v95 (F := Ideal) (A0 I) (A1 I) (A2 I) (A3 I) (A4 I) (A5 I) (A6 I) (A7 I) (A8 I)
      = arr3 (α := EReal) fun h => I.ds h := by
  funext i
  rw [val_main_v95_apply, val_main_v93_apply, val_main_v94_apply, val_main_cst_13_apply, val_main_call2_v0_apply,
    val_main_call2_cst_apply, v42_mask, v92_arr]
  refine Eq.trans ?_ (dscores_eq f (i 0).val (i 1).val (i 2).val (i 2).isLt)
  refine congrArg (fun x : EReal => x * SC) ?_
  show (if _ = 1#1 then _ else Ideal.ofBits .f32 0x00000000#32) = _
  rw [Ideal.ofBits_zero_f32]
  by_cases hm : (i 2).val / 64 ≤ (i 1).val / 64
  · rw [if_pos hm, if_pos hm]; rfl
  · rw [if_neg hm, if_neg hm]; rfl

/-! ## The gradients of the keys and of the queries -/

/-- The gradient of the keys' first 128 columns. -/
def In.dkn (I : In) (h : ℕ) : ℕ → ℕ → EReal := fun i j => mTm 2048 (mm 384 I.cq (I.wq h)) (I.ds h) j i
/-- The gradient of the queries' first 128 columns. -/
def In.dqn (I : In) (h : ℕ) : ℕ → ℕ → EReal := mm 2048 (I.ds h) (mm 256 I.ckv (I.wkv h))

theorem dkn_eq (h i j : ℕ) (hj : j < 128) : I.dkn h i j = I.dk h i j := by
  unfold In.dkn In.dk dkeysT In.q queries mTm hcat
  simp only [if_pos hj]
  rfl

theorem dqn_eq (h i j : ℕ) (hj : j < 128) : I.dqn h i j = I.dq h i j := by
  unfold In.dqn In.dq dqueries In.ds
  show mm 2048 _ (mm 256 I.ckv (I.wkv h)) i j = mm 2048 _ _ i j
  rw [mm, mm]
  refine Finset.sum_congr rfl fun s _ => congrArg (HMul.hMul _) ?_
  show _ = I.k h s j
  unfold In.k keys hcat
  rw [if_pos hj]

theorem v97_arr (f : I.Finite) :
    val_main_v97 (F := Ideal) (A0 I) (A1 I) (A2 I) (A3 I) (A4 I) (A5 I) (A6 I) (A7 I) (A8 I)
      = arr3 (α := EReal) fun h => sh 0 128 (I.dq h) := by
  funext i
  rw [val_main_v97_apply, v95_arr f]
  refine (Fin.sum_univ_eq_sum_range (fun k => I.ds (i 0).val (i 1).val k * I.kpe k (i 2).val) 2048).trans ?_
  simp only [arr3, sh, Nat.zero_add, In.dq, dqueries, mm]
  refine Finset.sum_congr rfl fun s _ => congrArg (HMul.hMul _) ?_
  show _ = hcat 128 _ _ s (128 + (i 2).val)
  rw [hcat, if_neg (by omega), Nat.add_sub_cancel_left]

theorem v98_arr (f : I.Finite) :
    val_main_v98 (F := Ideal) (A0 I) (A1 I) (A2 I) (A3 I) (A4 I) (A5 I) (A6 I) (A7 I) (A8 I)
      = arr3 (α := EReal) fun h => I.dkn h := by
  funext i
  rw [val_main_v98_apply, v95_arr f, v9_arr]
  exact (Fin.sum_univ_eq_sum_range
    (fun k => I.ds (i 0).val k (i 1).val * mm 384 I.cq (I.wq (i 0).val) k (i 2).val) 2048).trans
    (Finset.sum_congr rfl fun _ _ => mul_comm _ _)

theorem v99_arr (f : I.Finite) :
    val_main_v99 (F := Ideal) (A0 I) (A1 I) (A2 I) (A3 I) (A4 I) (A5 I) (A6 I) (A7 I) (A8 I)
      = arr3 (α := EReal) fun h => I.dqn h := by
  funext i
  rw [val_main_v99_apply, v95_arr f, v28_arr]
  exact Fin.sum_univ_eq_sum_range
    (fun k => I.ds (i 0).val (i 1).val k * mm 256 I.ckv (I.wkv (i 0).val) k (i 2).val) 2048

theorem v102_arr (f : I.Finite) :
    val_main_v102 (F := Ideal) (A0 I) (A1 I) (A2 I) (A3 I) (A4 I) (A5 I) (A6 I) (A7 I) (A8 I)
      = arr3 (α := EReal) fun h => hcat 128 (I.dkn h) (I.dv h) := by
  funext i
  rw [val_main_v102_apply]
  unfold val_main_v100 val_main_v101
  rw [v79_arr, v98_arr f]
  exact pad_add_pad _ _ _ _ (fun _ => Ideal.ofBits_zero_f32) (fun _ => Ideal.ofBits_zero_f32) _ _ _ _ i

theorem v118_arr (f : I.Finite) :
    val_main_v118 (F := Ideal) (A0 I) (A1 I) (A2 I) (A3 I) (A4 I) (A5 I) (A6 I) (A7 I) (A8 I)
      = arr3 (α := EReal) fun h => I.dqr h := by
  have e112 : val_main_v112 (F := Ideal) (A0 I) (A1 I) (A2 I) (A3 I) (A4 I) (A5 I) (A6 I) (A7 I) (A8 I)
      = arr3 (α := EReal) fun h i j =>
        sh 0 128 (I.dq h) i (32 + j) * I.co i j - sh 0 128 (I.dq h) i j * I.si i j := by
    funext i
    rw [val_main_v112_apply, val_main_v106_apply, val_main_v111_apply, val_main_v104_apply, val_main_v105_apply,
      val_main_v23_apply, val_main_v109_apply, val_main_v103_apply, val_main_v110_apply, val_main_v16_apply, v97_arr f]
    refine Eq.trans ?_ (sub_eq_add_neg _ _).symm
    rw [← EReal.neg_mul]
    rfl
  have e115 : val_main_v115 (F := Ideal) (A0 I) (A1 I) (A2 I) (A3 I) (A4 I) (A5 I) (A6 I) (A7 I) (A8 I)
      = arr3 (α := EReal) fun h i j =>
        sh 0 128 (I.dq h) i j * I.co i j + sh 0 128 (I.dq h) i (32 + j) * I.si i j := by
    funext i
    rw [val_main_v115_apply, val_main_v108_apply, val_main_v114_apply, val_main_v104_apply, val_main_v107_apply,
      val_main_v20_apply, val_main_v103_apply, val_main_v113_apply, val_main_v13_apply, v97_arr f]
    exact add_comm _ _
  funext i
  rw [val_main_v118_apply]
  unfold val_main_v116 val_main_v117
  rw [e112, e115]
  exact pad_add_pad _ _ _ _ (fun _ => Ideal.ofBits_zero_f32) (fun _ => Ideal.ofBits_zero_f32) _ _ _ _ i

theorem v121_arr (f : I.Finite) :
    val_main_v121 (F := Ideal) (A0 I) (A1 I) (A2 I) (A3 I) (A4 I) (A5 I) (A6 I) (A7 I) (A8 I)
      = arr3 (α := EReal) fun h => hcat 128 (I.dqn h) (I.dqr h) := by
  funext i
  rw [val_main_v121_apply]
  unfold val_main_v119 val_main_v120
  rw [v118_arr f, v99_arr f]
  exact pad_add_pad _ _ _ _ (fun _ => Ideal.ofBits_zero_f32) (fun _ => Ideal.ofBits_zero_f32) _ _ _ _ i

theorem v122_arr (f : I.Finite) :
    val_main_v122 (F := Ideal) (A0 I) (A1 I) (A2 I) (A3 I) (A4 I) (A5 I) (A6 I) (A7 I) (A8 I)
      = arr3 (α := EReal) fun h i j => hcat 128 (I.dkn h) (I.dv h) j i := by
  funext i
  rw [val_main_v122_apply, v102_arr f]
  rfl

theorem v126_arr (f : I.Finite) :
    val_main_v126 (F := Ideal) (A0 I) (A1 I) (A2 I) (A3 I) (A4 I) (A5 I) (A6 I) (A7 I) (A8 I)
      = arr3 (α := EReal) fun h i j => hcat 128 (I.dqn h) (I.dqr h) j i := by
  funext i
  rw [val_main_v126_apply, v121_arr f]
  rfl

/-! ## The six results -/

/-- A product against two matrices side by side, column by column. -/
theorem mTm_hcat (A B B' C : ℕ → ℕ → EReal) (hB : ∀ i j, j < 128 → B i j = B' i j) (i j : ℕ) :
    (∑ t ∈ range 2048, hcat 128 B C t j * A t i) = hcat 128 (mTm 2048 A B') (mTm 2048 A C) i j := by
  unfold hcat mTm
  split
  · exact Finset.sum_congr rfl fun t _ => by rw [hB _ _ ‹_›, mul_comm]
  · exact Finset.sum_congr rfl fun t _ => mul_comm _ _

/-- A product along the columns of two matrices side by side, split between them. -/
theorem mmT_hcat_left (n : ℕ) (A A' B C : ℕ → ℕ → EReal) (hA : ∀ i j, j < 128 → A i j = A' i j) (i j : ℕ) :
    (∑ s ∈ range (128 + n), hcat 128 A B i s * C j s) = mmT 128 A' C i j + mmT n B (sh 0 128 C) i j := by
  unfold mmT hcat sh
  rw [Finset.sum_range_add]
  refine congrArg₂ (fun x y : EReal => x + y) ?_ ?_
  · exact Finset.sum_congr rfl fun s hs => by rw [if_pos (mem_range.1 hs), hA _ _ (mem_range.1 hs)]
  · exact Finset.sum_congr rfl fun s hs => by rw [if_neg (by omega), Nat.add_sub_cancel_left, Nat.zero_add]

/-- The output weights' gradient, over the heads' outputs of the forward stages. -/
theorem v130_arr : val_main_v130 (F := Ideal) (A0 I) (A1 I) (A2 I) (A3 I) (A4 I) (A5 I) (A6 I) (A8 I)
    = arr3 (α := EReal) fun h => mTm 2048 (get3 (val_main_v71 (F := Ideal) (A0 I) (A1 I) (A2 I) (A3 I) (A4 I) (A5 I) (A6 I)) h) I.dz := by
  funext i
  rw [val_main_v130_apply, val_main_v75_apply, val_main_v74_apply]
  generalize val_main_v71 (F := Ideal) (A0 I) (A1 I) (A2 I) (A3 I) (A4 I) (A5 I) (A6 I) = O
  obtain ⟨o, ho⟩ : ∃ o, get3 O = o := ⟨_, rfl⟩
  rw [ho, ← arr3_get3 O, ho]
  exact (Fin.sum_univ_eq_sum_range (fun k => I.dz k (i 2).val * o (i 0).val k (i 1).val) 2048).trans
    (Finset.sum_congr rfl fun _ _ => mul_comm _ _)

theorem v131_arr (f : I.Finite) :
    val_main_v131 (F := Ideal) (A0 I) (A1 I) (A2 I) (A3 I) (A4 I) (A5 I) (A6 I) (A7 I) (A8 I)
      = arr3 (α := EReal) fun h => I.dwq h := by
  funext i
  rw [val_main_v131_apply, val_main_v129_apply, val_main_v128_apply, v126_arr f]
  exact (Fin.sum_univ_eq_sum_range
    (fun k => hcat 128 (I.dqn (i 0).val) (I.dqr (i 0).val) k (i 2).val * I.cq k (i 1).val) 2048).trans
    (mTm_hcat _ _ _ _ (fun a b hb => dqn_eq _ a b hb) _ _)

theorem v132_arr (f : I.Finite) :
    val_main_v132 (F := Ideal) (A0 I) (A1 I) (A2 I) (A3 I) (A4 I) (A5 I) (A6 I) (A7 I) (A8 I)
      = arr3 (α := EReal) fun h => I.dwkv h := by
  funext i
  rw [val_main_v132_apply, val_main_v125_apply, val_main_v124_apply, v122_arr f]
  exact (Fin.sum_univ_eq_sum_range
    (fun k => hcat 128 (I.dkn (i 0).val) (I.dv (i 0).val) k (i 2).val * I.ckv k (i 1).val) 2048).trans
    (mTm_hcat _ _ _ _ (fun a b hb => dkn_eq _ a b hb) _ _)

theorem v127_arr (f : I.Finite) :
    val_main_v127 (F := Ideal) (A0 I) (A1 I) (A2 I) (A3 I) (A4 I) (A5 I) (A6 I) (A7 I) (A8 I)
      = arr2 (α := EReal) (I.dcq 8) := by
  unfold val_main_v127
  rw [v126_arr f]
  refine (dot_heads_cols _ rfl _ I.wq).trans (arr2_congr fun i j _ _ => ?_)
  exact Finset.sum_congr rfl fun h _ => mmT_hcat_left 64 _ _ _ (I.wq h) (fun a b hb => dqn_eq _ a b hb) i j

theorem v123_arr (f : I.Finite) :
    val_main_v123 (F := Ideal) (A0 I) (A1 I) (A2 I) (A3 I) (A4 I) (A5 I) (A6 I) (A7 I) (A8 I)
      = arr2 (α := EReal) (I.dckv 8) := by
  unfold val_main_v123
  rw [v122_arr f]
  refine (dot_heads_cols _ rfl _ I.wkv).trans (arr2_congr fun i j _ _ => ?_)
  exact Finset.sum_congr rfl fun h _ => mmT_hcat_left 128 _ _ _ (I.wkv h) (fun a b hb => dkn_eq _ a b hb) i j

theorem v96_arr (f : I.Finite) :
    val_main_v96 (F := Ideal) (A0 I) (A1 I) (A2 I) (A3 I) (A4 I) (A5 I) (A6 I) (A7 I) (A8 I)
      = arr2 (α := EReal) (I.dkpe 8) := by
  unfold val_main_v96
  rw [v95_arr f, v27_arr]
  refine (dot_heads_rows _ rfl _ _).trans (arr2_congr fun i j _ _ => ?_)
  refine Finset.sum_congr rfl fun h _ => ?_
  show _ = mTm 2048 (I.q h) (I.ds h) (128 + j) i
  rw [mTm]
  refine Finset.sum_congr rfl fun t _ => ?_
  rw [mul_comm]
  refine congrArg (fun x : EReal => x * I.ds h t i) ?_
  show _ = hcat 128 _ _ t (128 + j)
  rw [hcat, if_neg (by omega), Nat.add_sub_cancel_left]

end Cert.Attn
-- ==== Proof.AttnClaim.lean ====
/-
  The attention backward call's value claim: the kernel's six results are the reference's.
-/
module

public import proofs.«01_k».proof.Proof.PreRead
public import proofs.«01_k».proof.Proof.KernelVal
public import proofs.«01_k».proof.Proof.OHost
public import proofs.«01_k».proof.Proof.RefBwd
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

@[expose] public section

noncomputable section

namespace Cert.Attn

open Idealize.ShloMosaic Idealize.ShloMosaic.TcCoe Idealize.SL.Sem Cert.Mat

section Reference
open Cert.ReferenceIdeal Cert.ReferenceIdeal.Read

variable (m : (ℓ : Loc nD τ sig) → Buf (Elt Ideal) ℓ)

/-- The reference's run, with each result as a stage over the arguments. -/
theorem run_stages (ρ : Dev nD → PrngReg) (a : Dev nD → In)
    (ha : ∀ c : Dev nD, m ((c : Thread nD τ).loc main_arg0) = A0 (a c) ∧ m ((c : Thread nD τ).loc main_arg1) = A1 (a c)
      ∧ m ((c : Thread nD τ).loc main_arg2) = A2 (a c) ∧ m ((c : Thread nD τ).loc main_arg3) = A3 (a c)
      ∧ m ((c : Thread nD τ).loc main_arg4) = A4 (a c) ∧ m ((c : Thread nD τ).loc main_arg5) = A5 (a c)
      ∧ m ((c : Thread nD τ).loc main_arg6) = A6 (a c) ∧ m ((c : Thread nD τ).loc main_arg7) = A7 (a c)
      ∧ m ((c : Thread nD τ).loc main_arg8) = A8 (a c)) (hf : ∀ c, (a c).Finite) :
    θ_run defs (onTc (τ := τ) (main (F := Ideal))) ⟨m, fun _ => 0, ρ⟩ fun r => ∀ c : Dev nD,
      r.2.mem ((c : Thread nD τ).loc main_v130)
          = arr3 (α := EReal) (fun h => mTm 2048 (get3 (val_main_v71 (F := Ideal) (A0 (a c)) (A1 (a c)) (A2 (a c)) (A3 (a c)) (A4 (a c)) (A5 (a c)) (A6 (a c))) h) (a c).dz)
      ∧ r.2.mem ((c : Thread nD τ).loc main_v131) = arr3 (α := EReal) (a c).dwq
      ∧ r.2.mem ((c : Thread nD τ).loc main_v132) = arr3 (α := EReal) (a c).dwkv
      ∧ r.2.mem ((c : Thread nD τ).loc main_v127) = arr2 (α := EReal) ((a c).dcq 8)
      ∧ r.2.mem ((c : Thread nD τ).loc main_v123) = arr2 (α := EReal) ((a c).dckv 8)
      ∧ r.2.mem ((c : Thread nD τ).loc main_v96) = arr2 (α := EReal) ((a c).dkpe 8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (ReferenceIdeal.Value.run (F := Ideal) m ρ)
  obtain ⟨h0, h1, h2, h3, h4, h5, hk⟩ := h c
  obtain ⟨a0, a1, a2, a3, a4, a5, a6, a7, a8⟩ := ha c
  refine ⟨(h0.trans (val_main_v130_eq _)).trans ?_, (h1.trans (val_main_v131_eq _)).trans ?_, (h2.trans (val_main_v132_eq _)).trans ?_,
    (h3.trans (val_main_v127_eq _)).trans ?_, (h4.trans (val_main_v123_eq _)).trans ?_, (h5.trans (val_main_v96_eq _)).trans ?_, hk⟩
  all_goals simp only [StableHlo.launchContents_devRef, a0, a1, a2, a3, a4, a5, a6, a7, a8]
  · exact v130_arr
  · exact v131_arr (hf c)
  · exact v132_arr (hf c)
  · exact v127_arr (hf c)
  · exact v123_arr (hf c)
  · exact v96_arr (hf c)

end Reference

section Kernel
open Cert.KernelIdeal Cert.KernelIdeal.Gen Cert.ReferenceIdeal.Read

variable (m : (ℓ : Loc nD τ sig) → Buf (Elt Ideal) ℓ)

theorem kin_args (c : Dev nD) : m ((c : Thread nD τ).loc main_arg0) = A0 (kin m c) ∧ m ((c : Thread nD τ).loc main_arg1) = A1 (kin m c)
      ∧ m ((c : Thread nD τ).loc main_arg2) = A2 (kin m c) ∧ m ((c : Thread nD τ).loc main_arg3) = A3 (kin m c)
      ∧ m ((c : Thread nD τ).loc main_arg4) = A4 (kin m c) ∧ m ((c : Thread nD τ).loc main_arg5) = A5 (kin m c)
      ∧ m ((c : Thread nD τ).loc main_arg6) = A6 (kin m c) ∧ m ((c : Thread nD τ).loc main_arg7) = A7 (kin m c)
      ∧ m ((c : Thread nD τ).loc main_arg8) = A8 (kin m c) :=
  ⟨(arr2_get2 _).symm, (arr2_get2 _).symm, (arr2_get2 _).symm, (arr2_get2 _).symm, (arr2_get2 _).symm, (arr3_get3 _).symm,
    (arr3_get3 _).symm, (arr3_get3 _).symm, (arr2_get2 _).symm⟩

/-- The heads' outputs that the launch reads are the reference's. -/
theorem kin_o (c : Dev nD) : (kin m c).o
    = get3 (val_main_v71 (F := Ideal) (A0 (kin m c)) (A1 (kin m c)) (A2 (kin m c)) (A3 (kin m c)) (A4 (kin m c)) (A5 (kin m c)) (A6 (kin m c))) := by
  obtain ⟨a0, a1, a2, a3, a4, a5, a6, _, _⟩ := kin_args m c
  rw [← a0, ← a1, ← a2, ← a3, ← a4, ← a5, ← a6]
  exact congrArg get3 (o_read m c)

end Kernel

theorem attn_algebraic : algebraic_KernelIdeal_ReferenceIdeal_pre_finite_operands (hKernelIdeal := KernelIdeal.Gen.facts)
    (hReferenceIdeal := ReferenceIdeal.Gen.facts) (hPre_finite_operands := Pre_finite_operands.Gen.facts) := by
  intro m g m' g' hpre hargs
  have hf (c : Dev KernelIdeal.nD) : (kin m c).Finite := kin_finite m c hpre
  have hz (c : Dev KernelIdeal.nD) (h : ℕ) (_ : h < 8) : MaskedZero ((kin m c).q h) ((kin m c).k h) := maskedZero (hf c) h
  refine ⟨fun c => arr3 (α := EReal) (kin m c).dwo, fun c => arr3 (α := EReal) (kin m c).dwq, fun c => arr3 (α := EReal) (kin m c).dwkv,
    fun c => arr2 (α := EReal) ((kin m c).dcq 8), fun c => arr2 (α := EReal) ((kin m c).dckv 8), fun c => arr2 (α := EReal) ((kin m c).dkpe 8), ?_, ?_⟩
  · refine (θ_run _ _ _).mono (fun r h c => ?_) (KernelIdeal.Value.run_blocks m g)
    obtain ⟨h0, h1, h2, h3, h4, h5, hk⟩ := h c
    exact ⟨h0.trans (arr10 m c (hz c)), h1.trans (arr11 m c (hz c)), h2.trans (arr12 m c (hz c)), h3.trans (arr13 m c (hz c)),
      h4.trans (arr14 m c (hz c)), h5.trans (arr15 m c (hz c)), hk⟩
  · refine (θ_run _ _ _).mono (fun r h c => ?_) (run_stages m' g' (fun c => kin m c) (fun c => ?_) hf)
    · obtain ⟨h0, hk⟩ := h c
      refine ⟨h0.trans ?_, hk⟩
      rw [← kin_o]
      rfl
    · obtain ⟨a0, a1, a2, a3, a4, a5, a6, a7, a8⟩ := kin_args m c
      obtain ⟨b0, b1, b2, b3, b4, b5, b6, b7, b8⟩ := hargs c
      exact ⟨b0.trans a0, b1.trans a1, b2.trans a2, b3.trans a3, b4.trans a4, b5.trans a5, b6.trans a6, b7.trans a7, b8.trans a8⟩

end Cert.Attn
-- ==== Proof.MlpMath.lean ====
/-
  The squared-ReLU MLP as functions of natural-number coordinates, and what a grid point reads and writes of an array
  that is cut into blocks.
-/
module

public import proofs.«01_k».proof.Proof.Mat

@[expose] public section

noncomputable section

namespace Cert.Mlp

open Idealize.ShloMosaic Finset Cert.Mat

/-! ## The values -/

/-- The hidden values before the activation. -/
def hid (X W1 : ℕ → ℕ → EReal) : ℕ → ℕ → EReal := mm 1024 X W1
/-- Their positive parts. -/
def relu (X W1 : ℕ → ℕ → EReal) : ℕ → ℕ → EReal := fun i f => max (hid X W1 i f) 0
/-- The activations. -/
def act (X W1 : ℕ → ℕ → EReal) : ℕ → ℕ → EReal := fun i f => relu X W1 i f * relu X W1 i f
/-- The gradient with respect to the hidden values. -/
def dhid (X W1 W2 C : ℕ → ℕ → EReal) : ℕ → ℕ → EReal := fun i f => mmT 1024 C W2 i f * (2 * relu X W1 i f)

/-- The root undoes the square of what is not negative. -/
theorem sqrt_mul_self {x : EReal} (h : 0 ≤ x) : Ideal.sqrt (x * x) = x := by
  induction x with
  | bot => simp at h
  | top => rw [EReal.top_mul_top]; rfl
  | coe r =>
    have hr : 0 ≤ r := by exact_mod_cast h
    rw [← EReal.coe_mul]
    show (if r * r < 0 then (⊥ : EReal) else ((Real.sqrt (r * r) : ℝ) : EReal)) = r
    rw [if_neg (not_lt.2 (mul_self_nonneg r)), Real.sqrt_mul_self hr]

theorem relu_nonneg (X W1 : ℕ → ℕ → EReal) (i f : ℕ) : 0 ≤ relu X W1 i f := le_max_right _ _

/-- The sum over the hidden axis, block by block. -/
theorem sum_blocks (f : ℕ → EReal) (n : ℕ) : ∑ b ∈ range n, ∑ k ∈ range 512, f (512 * b + k) = ∑ k ∈ range (512 * n), f k := by
  induction n with
  | zero => rfl
  | succ n ih => rw [Finset.sum_range_succ, ih, Nat.mul_succ, Finset.sum_range_add]

/-! ## Blocks of an array -/

/-- A block of a two-axis array, read. -/
theorem block_read {m n a b : ℕ} {x : (⟨2, ![m, n]⟩ : Shape).Idx → EReal} {i : (⟨2, ![m, n]⟩ : Shape).Idx}
    {j : (⟨2, ![a, b]⟩ : Shape).Idx} {p q p' q' : ℕ} (hp : p = p') (hq : q = q')
    (h0 : (i 0).val = p * a + 1 * (j 0).val) (h1 : (i 1).val = q * b + 1 * (j 1).val) :
    x i = arr2 (sh (p' * a) (q' * b) (get2 x)) j := by
  subst hp hq
  have e : x i = arr2 (get2 x) i := by rw [arr2_get2]
  rw [e]
  unfold arr2 sh
  rw [h0, h1, Nat.one_mul, Nat.one_mul]

/-- A plane of a three-axis array, read. -/
theorem plane_read {n a b : ℕ} {x : (⟨3, ![n, a, b]⟩ : Shape).Idx → EReal} {i : (⟨3, ![n, a, b]⟩ : Shape).Idx}
    {j : (⟨3, ![1, a, b]⟩ : Shape).Idx} {t p q r : ℕ} (ht : t = p) (hq : q = 0) (hr : r = 0)
    (h0 : (i 0).val = t * 1 + 1 * (j 0).val) (h1 : (i 1).val = q * a + 1 * (j 1).val)
    (h2 : (i 2).val = r * b + 1 * (j 2).val) : x i = arr3 (a := 1) (b := a) (c := b) (fun _ => get3 x p) j := by
  subst ht hq hr
  have hj : (j 0).val < 1 := (j 0).isLt
  have e : x i = arr3 (get3 x) i := by rw [arr3_get3]
  rw [e]
  unfold arr3
  rw [h0, h1, h2]
  congr 1 <;> omega

/-- A block of a two-axis array, written. -/
theorem block_write {m n a b : ℕ} (G : ℕ → ℕ → EReal) {i : (⟨2, ![m, n]⟩ : Shape).Idx} {j j' : (⟨2, ![a, b]⟩ : Shape).Idx}
    {p q p' q' : ℕ} (hp : p = p') (hq : q = q') (h0 : (i 0).val = p * a + 1 * (j 0).val)
    (h1 : (i 1).val = q * b + 1 * (j 1).val) (hj : ∀ x, (j' x).val = (j x).val) :
    arr2 (a := a) (b := b) (sh (p' * a) (q' * b) G) j' = arr2 G i := by
  subst hp hq
  show G (p * a + (j' 0).val) (q * b + (j' 1).val) = G (i 0).val (i 1).val
  rw [h0, h1, hj, hj, Nat.one_mul, Nat.one_mul]

/-- A plane of a three-axis array, written. -/
theorem plane_write {n a b : ℕ} (G : ℕ → ℕ → ℕ → EReal) {i : (⟨3, ![n, a, b]⟩ : Shape).Idx} {j j' : (⟨3, ![1, a, b]⟩ : Shape).Idx}
    {t p q r : ℕ} (ht : t = p) (hq : q = 0) (hr : r = 0) (h0 : (i 0).val = t * 1 + 1 * (j 0).val)
    (h1 : (i 1).val = q * a + 1 * (j 1).val) (h2 : (i 2).val = r * b + 1 * (j 2).val) (hj : ∀ x, (j' x).val = (j x).val) :
    arr3 (a := 1) (b := a) (c := b) (fun _ => G p) j' = arr3 G i := by
  subst ht hq hr
  have h : (j 0).val < 1 := (j 0).isLt
  show G t (j' 1).val (j' 2).val = G (i 0).val (i 1).val (i 2).val
  rw [h0, h1, h2, hj, hj]
  congr 1 <;> omega

/-- The point of a plane's index writes every entry of the plane. -/
theorem plane_cover {n a b : ℕ} {i : (⟨3, ![n, a, b]⟩ : Shape).Idx} {f : Fin 3 → ℕ} (h0 : f 0 = (i 0).val) (h1 : f 1 = 0)
    (h2 : f 2 = 0) (k : Fin 3) :
    f k * (![1, a, b] : Fin 3 → ℕ) k ≤ (i k).val ∧ (i k).val < f k * (![1, a, b] : Fin 3 → ℕ) k + (![1, a, b] : Fin 3 → ℕ) k := by
  have l1 : (i 1).val < a := (i 1).isLt
  have l2 : (i 2).val < b := (i 2).isLt
  match k with
  | ⟨0, _⟩ => show f 0 * 1 ≤ (i 0).val ∧ (i 0).val < f 0 * 1 + 1; omega
  | ⟨1, _⟩ => show f 1 * a ≤ (i 1).val ∧ (i 1).val < f 1 * a + a; rw [h1]; omega
  | ⟨2, _⟩ => show f 2 * b ≤ (i 2).val ∧ (i 2).val < f 2 * b + b; rw [h2]; omega

/-- The point of a block's index writes every entry of the block. -/
theorem block_cover {m n a b : ℕ} {i : (⟨2, ![m, n]⟩ : Shape).Idx} {f : Fin 2 → ℕ} (h0 : f 0 = (i 0).val / a)
    (h1 : f 1 = (i 1).val / b) (ha : 0 < a) (hb : 0 < b) (k : Fin 2) :
    f k * (![a, b] : Fin 2 → ℕ) k ≤ (i k).val ∧ (i k).val < f k * (![a, b] : Fin 2 → ℕ) k + (![a, b] : Fin 2 → ℕ) k := by
  have key (x d : ℕ) (hd : 0 < d) : x / d * d ≤ x ∧ x < x / d * d + d :=
    ⟨Nat.div_mul_le_self x d, Nat.lt_div_mul_add hd⟩
  match k with
  | ⟨0, _⟩ => show f 0 * a ≤ (i 0).val ∧ (i 0).val < f 0 * a + a; rw [h0]; exact key _ _ ha
  | ⟨1, _⟩ => show f 1 * b ≤ (i 1).val ∧ (i 1).val < f 1 * b + b; rw [h1]; exact key _ _ hb

/-- Changing the format changes nothing over the ideal numbers. -/
theorem truncf_id {s : Shape} {φ ψ : FTy} (x : FVec Ideal s φ) (h) : truncf ψ x h = x := rfl

end Cert.Mlp
-- ==== Proof.MlpBwdOuts.lean ====
/-
  What one grid point of the MLP's backward kernel computes, on arrays given by functions.
-/
module

public import proofs.«01_k».proof.Proof.MlpMath
public import proofs.«01_k».proof.Proof.Gen.Kernel2Ideal.Value

@[expose] public section

set_option maxRecDepth 16384

noncomputable section

namespace Cert.Mlp.Bwd

open Idealize.ShloMosaic Finset Cert.Mat Cert.Mlp Cert.Kernel2Ideal Cert.Kernel2Ideal.Gen

/-- A tile of the hidden gradient, from the activations `A`, the cotangent `D` and a block `W` of the second weight. -/
def tile (A D W : ℕ → ℕ → EReal) : ℕ → ℕ → EReal := fun i k => mmT 1024 D W i k * (2 * Ideal.sqrt (A i k))

section
variable (A D W U Y : ℕ → ℕ → EReal)

theorem tile_sh (i k : ℕ) : tile (sh 512 0 A) (sh 512 0 D) W i k = tile A D W (512 + i) k := by
  simp only [tile, mmT, sh, Nat.zero_add]

theorem mmT_sh (i j : ℕ) : sh 512 0 Y i j + mmT 512 (tile (sh 512 0 A) (sh 512 0 D) W) U i j = Y (512 + i) j + mmT 512 (tile A D W) U (512 + i) j := by
  simp only [mmT, tile_sh]
  simp only [sh, Nat.zero_add]

theorem ofBits_two : FloatOps.ofBits (F := Ideal) .f32 0x40000000#32 = (2 : EReal) := by
  show Ideal.ofBits .f32 0x40000000#32 = (2 : EReal)
  rw [show (2 : EReal) = ((2 : ℝ) : EReal) by norm_cast]
  simp [Ideal.ofBits, Ideal.ieee, -EReal.coe_mul]
  norm_num

theorem sqrt_arr2 {m n : ℕ} {φ : FTy} : sqrt (F := Ideal) (φ := φ) (arr2 (a := m) (b := n) A) = arr2 fun i j => Ideal.sqrt (A i j) := rfl
theorem extf_arr2 {m n : ℕ} {φ ψ : FTy} (h) : extf (F := Ideal) (φ := φ) ψ (arr2 (a := m) (b := n) A) h = arr2 A := rfl

theorem pay6 : k0_pay6 (F := Ideal) (arr2 (α := EReal) A) = arr2 (α := EReal) fun i j => Ideal.sqrt (A i j) := by
  unfold k0_pay6
  dsimp only
  rw [shapeCast_arr2, extf_arr2, sqrt_arr2]

theorem pay1 : k0_pay1 (F := Ideal) (arr2 (α := EReal) fun i j => Ideal.sqrt (A i j)) (arr2 (α := EReal) D) (arr3 (α := EReal) fun _ => W)
    = arr2 (α := EReal) (tile A D W) := by
  unfold k0_pay1 matmul
  dsimp only
  rw [shapeCast_arr3, matmul_nt dot_S512x1024_S512x1024_S512x512_1_1_0_0_n_n rfl, broadcast_arr2, mulf_arr2, mulf_arr2, truncf_arr2,
    show Scalar.ofBits (F := Ideal) .f32 0x40000000#32 = (2 : EReal) from ofBits_two]
  rfl

theorem pay4 : k0_pay4 (F := Ideal) (arr2 (α := EReal) A) (arr2 (α := EReal) D) (arr3 (α := EReal) fun _ => W)
    = arr2 (α := EReal) (tile A D W) :=
  (congrArg (fun x => k0_pay1 (F := Ideal) x (arr2 (α := EReal) D) (arr3 (α := EReal) fun _ => W)) (pay6 A)).trans (pay1 A D W)

theorem pay2 : k0_pay2 (F := Ideal) (arr2 (α := EReal) fun i j => Ideal.sqrt (A i j)) (arr2 (α := EReal) D) (arr3 (α := EReal) fun _ => W)
    (arr2 (α := EReal) Y) (arr3 (α := EReal) fun _ => U) = arr2 (α := EReal) fun i j => Y i j + mmT 512 (tile A D W) U i j := by
  unfold k0_pay2
  dsimp only
  rw [pay1]
  unfold matmul
  rw [shapeCast_arr3, shapeCast_arr2, matmul_nt dot_S512x512_S1024x512_S512x1024_1_1_0_0_n_n rfl, addf_arr2]

theorem pay5 : k0_pay5 (F := Ideal) (arr2 (α := EReal) A) (arr2 (α := EReal) D) (arr3 (α := EReal) fun _ => W)
    (arr2 (α := EReal) Y) (arr3 (α := EReal) fun _ => U) = arr2 (α := EReal) fun i j => Y i j + mmT 512 (tile A D W) U i j :=
  (congrArg (fun x => k0_pay2 (F := Ideal) x (arr2 (α := EReal) D) (arr3 (α := EReal) fun _ => W) (arr2 (α := EReal) Y)
    (arr3 (α := EReal) fun _ => U)) (pay6 A)).trans (pay2 A D W U Y)

theorem pay3 : k0_pay3 (F := Ideal) = arr2 (α := EReal) fun _ _ => 0 := by
  unfold k0_pay3
  dsimp only
  rw [broadcast_arr2]
  exact congrArg _ (funext fun _ => funext fun _ => Ideal.ofBits_zero_f32)

end

/-- Two row tiles of 512 rows, written last. -/
theorem canon_two {n : ℕ} {e : EltTy} (W0 W1 G : ℕ → ℕ → Elt Ideal e) (i0 i1) (L : List (View.Piece (Elt Ideal) ⟨2, ![1024, n]⟩ e))
    (h0 : ∀ i j, W0 i j = G i j) (h1 : ∀ i j, W1 i j = G (512 + i) j) :
    View.canon ((⟨Rect.unit ![512, 0] ![512, n] i1, arr2 (a := 512) (b := n) W1⟩ : View.Piece (Elt Ideal) ⟨2, ![1024, n]⟩ e)
      :: ⟨Rect.unit ![0, 0] ![512, n] i0, arr2 (a := 512) (b := n) W0⟩ :: L) = arr2 G := by
  funext y
  have l0 := ValueIdx.idx2_lt0 y
  have l1 := ValueIdx.idx2_lt1 y
  rw [canon_cons_arr2, canon_cons_arr2]
  show _ = G (y 0).val (y 1).val
  split_ifs with a1 a0
  · rw [h1, Nat.sub_zero, Nat.add_sub_cancel' a1.1.1]
  · rw [h0, Nat.sub_zero, Nat.sub_zero]
  · omega

variable (A D W U Y : ℕ → ℕ → EReal)
variable (c : Dev nD) (i : grid0.Coords) (arg2 : Memref sig .tc .vmem S1024x512 .bf16) (harg2 : arg2.IsWhole)
  (arg3 : Memref sig .tc .vmem S1024x1024 .bf16) (harg3 : arg3.IsWhole) (arg4 : Memref sig .tc .vmem S1x1024x512 .bf16) (harg4 : arg4.IsWhole)
  (arg5 : Memref sig .tc .vmem S1x512x1024 .bf16) (harg5 : arg5.IsWhole) (arg6 : Memref sig .tc .vmem S1024x512 .bf16) (harg6 : arg6.IsWhole)
  (arg7 : Memref sig .tc .vmem S1024x1024 .f32) (harg7 : arg7.IsWhole)

theorem r_B : @kernelRun0_B.sl.r = @kernelRun0_A.sl.r := rfl
theorem r_1_B : @kernelRun0_B.sl.r_1 = @kernelRun0_A.sl.r_1 := rfl

theorem r_val : kernelRun0_A.sl.r (F := Ideal) c arg2 harg2 (arr2 (α := EReal) A) = arr2 (α := EReal) fun i j => Ideal.sqrt (sh 512 0 A i j) := by
  unfold kernelRun0_A.sl.r
  erw [readAt_arr2]
  exact pay6 _

theorem r_1_val : kernelRun0_A.sl.r_1 (F := Ideal) c arg3 harg3 (arr2 (α := EReal) D) = arr2 (α := EReal) (sh 512 0 D) := by
  unfold kernelRun0_A.sl.r_1
  erw [readAt_arr2]

theorem v16_A : kernelRun0_A.sl.v16 (F := Ideal) c arg7 = arr2 (α := EReal) fun _ _ => 0 := by
  unfold kernelRun0_A.sl.v16 kernelRun0_A.sl.H5_1
  rw [pay3]
  exact (Holds.whole _ _).read _ _

theorem H5_2_A : kernelRun0_A.sl.H5_2 (F := Ideal) c arg2 harg2 arg3 harg3 arg4 harg4 arg5 harg5 arg7 (arr2 (α := EReal) A) (arr2 (α := EReal) D)
    (arr3 (α := EReal) fun _ => U) (arr3 (α := EReal) fun _ => W)
    = [(⟨Rect.unit ![0, 0] ![512, 1024] inb_S1024x1024_S512x1024_0_0, arr2 (a := 512) (b := 1024) fun i j => 0 + mmT 512 (tile A D W) U i j⟩ : View.Piece (Elt Ideal) ⟨2, ![1024, 1024]⟩ .f32),
      ⟨Rect.unit ![0, 0] ![1024, 1024] inb_S1024x1024_S1024x1024_0_0, arr2 (a := 1024) (b := 1024) fun _ _ => 0⟩] := by
  unfold kernelRun0_A.sl.H5_2 kernelRun0_A.sl.H5_1
  erw [v16_A, readAt_arr3, readAt_arr3, readAt_arr2, readAt_arr2]
  rw [pay3, sh_zero, sh_zero, sh_zero, sh_zero, pay5]

theorem v36_A : kernelRun0_A.sl.v36 (F := Ideal) c arg2 harg2 arg3 harg3 arg4 harg4 arg5 harg5 arg7 (arr2 (α := EReal) A) (arr2 (α := EReal) D)
    (arr3 (α := EReal) fun _ => U) (arr3 (α := EReal) fun _ => W) = arr2 (α := EReal) fun _ _ => 0 := by
  unfold kernelRun0_A.sl.v36
  rw [H5_2_A]
  refine (((Holds.whole _ _).cons _ _).read _ _).trans (arr2_congr fun i j _ _ => if_neg ?_)
  omega

theorem v36_B : kernelRun0_B.sl.v36 (F := Ideal) c arg7 harg7 (arr2 (α := EReal) Y) = arr2 (α := EReal) (sh 512 0 Y) := by
  unfold kernelRun0_B.sl.v36
  erw [readAt_arr2]

theorem out4_A (hc0 : cond0_0 i) :
    out0_A_4 (F := Ideal) c i arg2 harg2 arg3 harg3 arg4 harg4 arg5 harg5 arg6 harg6 arg7 harg7 hc0 (arr2 (α := EReal) A) (arr2 (α := EReal) D)
      (arr3 (α := EReal) fun _ => U) (arr3 (α := EReal) fun _ => W) = arr2 (α := EReal) (tile A D W) := by
  rw [out0_A_4, View.read_writes_eq_canon _ _ _ (fun y => cover0_A_4 (y := y) ..)]
  unfold kernelRun0_A
  dsimp only
  erw [r_val, r_1_val, readAt_arr3, readAt_arr2, readAt_arr2]
  rw [sh_zero, sh_zero, sh_zero, pay4, pay1]
  exact canon_two _ _ _ _ _ _ (fun _ _ => rfl) (tile_sh A D W)

theorem out5_A (hc0 : cond0_0 i) :
    out0_A_5 (F := Ideal) c i arg2 harg2 arg3 harg3 arg4 harg4 arg5 harg5 arg6 harg6 arg7 harg7 hc0 (arr2 (α := EReal) A) (arr2 (α := EReal) D)
      (arr3 (α := EReal) fun _ => U) (arr3 (α := EReal) fun _ => W) = arr2 (α := EReal) fun i j => 0 + mmT 512 (tile A D W) U i j := by
  rw [out0_A_5, View.read_writes_eq_canon _ _ _ (fun y => cover0_A_5 (y := y) ..)]
  unfold kernelRun0_A
  dsimp only
  erw [r_val, r_1_val, v36_A, H5_2_A, readAt_arr3, readAt_arr3]
  rw [sh_zero, sh_zero, pay2]
  exact canon_two _ _ _ _ _ _ (fun _ _ => rfl) (mmT_sh A D W U fun _ _ => 0)

theorem out4_B (hc0 : ¬cond0_0 i) :
    out0_B_4 (F := Ideal) c i arg2 harg2 arg3 harg3 arg4 harg4 arg5 harg5 arg6 harg6 arg7 harg7 hc0 (arr2 (α := EReal) A) (arr2 (α := EReal) D)
      (arr3 (α := EReal) fun _ => U) (arr3 (α := EReal) fun _ => W) (arr2 (α := EReal) Y) = arr2 (α := EReal) (tile A D W) := by
  rw [out0_B_4, View.read_writes_eq_canon _ _ _ (fun y => cover0_B_4 (y := y) ..)]
  unfold kernelRun0_B
  dsimp only
  rw [r_B, r_1_B]
  erw [r_val, r_1_val, readAt_arr3, readAt_arr2, readAt_arr2]
  rw [sh_zero, sh_zero, sh_zero, pay4, pay1]
  exact canon_two _ _ _ _ _ _ (fun _ _ => rfl) (tile_sh A D W)

theorem out5_B (hc0 : ¬cond0_0 i) :
    out0_B_5 (F := Ideal) c i arg2 harg2 arg3 harg3 arg4 harg4 arg5 harg5 arg6 harg6 arg7 harg7 hc0 (arr2 (α := EReal) A) (arr2 (α := EReal) D)
      (arr3 (α := EReal) fun _ => U) (arr3 (α := EReal) fun _ => W) (arr2 (α := EReal) Y)
      = arr2 (α := EReal) fun i j => Y i j + mmT 512 (tile A D W) U i j := by
  rw [out0_B_5, View.read_writes_eq_canon _ _ _ (fun y => cover0_B_5 (y := y) ..)]
  unfold kernelRun0_B
  dsimp only
  rw [r_B, r_1_B]
  erw [r_val, r_1_val, v36_B, readAt_arr3, readAt_arr3, readAt_arr2, readAt_arr2, readAt_arr2]
  rw [sh_zero, sh_zero, sh_zero, sh_zero, sh_zero, pay2, pay5]
  exact canon_two _ _ _ _ _ _ (fun _ _ => rfl) (mmT_sh A D W U Y)

end Cert.Mlp.Bwd
-- ==== Proof.Dh.lean ====
/-
  The gradient of the MLP's hidden values and of its input: the kernel's blocks and running sums are the reference's products.
-/
module

public import proofs.«01_k».proof.Defs
public import proofs.«01_k».proof.Proof.MlpBwdOuts
public import proofs.«01_k».proof.Proof.Gen.Reference2Ideal.Run
public import proofs.«01_k».proof.Proof.Gen.Reference2Ideal.Read
public import Idealize.ShloMosaic.Lib.StableHlo.ReadAt
public import Idealize.ShloMosaic.Lib.Claim
public import Idealize.ShloMosaic.Lib.IdealHost

@[expose] public section

set_option maxRecDepth 16384

noncomputable section

namespace Cert.Mlp.Dh

open Idealize.ShloMosaic Idealize.ShloMosaic.TcCoe Idealize.SL.Sem Finset Cert.Mat Cert.Mlp

/-- The gradient of the input. -/
def dx (X W1 W2 C : ℕ → ℕ → EReal) : ℕ → ℕ → EReal := mmT 4096 (dhid X W1 W2 C) W1

section Reference
open Cert.Reference2Ideal Cert.Reference2Ideal.Read

variable (X W1 W2 C : ℕ → ℕ → EReal)

abbrev A0 : FVec Ideal S2048x1024 .bf16 := arr2 (α := EReal) X
abbrev A1 : FVec Ideal S1024x4096 .bf16 := arr2 (α := EReal) W1
abbrev A2 : FVec Ideal S4096x1024 .bf16 := arr2 (α := EReal) W2
abbrev A3 : FVec Ideal S2048x1024 .bf16 := arr2 (α := EReal) C

theorem v2_arr (i) : val_main_v2 (F := Ideal) (A0 X) (A1 W1) i = hid X W1 (i 0).val (i 1).val := by
  rw [val_main_v2_apply]
  exact Fin.sum_univ_eq_sum_range (fun k => (X (i 0).val k * W1 k (i 1).val : EReal)) 1024

theorem v3_arr (i) : val_main_v3 (F := Ideal) (A0 X) (A1 W1) i = relu X W1 (i 0).val (i 1).val := by
  rw [val_main_v3_apply, val_main_call0_v0_apply, val_main_call0_cst_apply, v2_arr]
  exact congrArg (fun y : EReal => max (hid X W1 (i 0).val (i 1).val) y) Ideal.ofBits_zero_f32

theorem v7_arr : val_main_v7 (F := Ideal) (A0 X) (A1 W1) = arr2 (α := EReal) (act X W1) := by
  funext i
  rw [val_main_v7_apply, v3_arr]
  rfl

/-- The derivative of the positive part keeps the gradient where the hidden value is positive; elsewhere the gradient is zero already. -/
theorem v16_arr : val_main_v16 (F := Ideal) (A0 X) (A1 W1) (A2 W2) (A3 C) = arr2 (α := EReal) (dhid X W1 W2 C) := by
  funext i
  have e : val_main_v14 (F := Ideal) (A0 X) (A1 W1) (A2 W2) (A3 C) i = dhid X W1 W2 C (i 0).val (i 1).val := by
    rw [val_main_v14_apply, val_main_v9_apply, val_main_v8_apply, val_main_cst_1_apply, v3_arr, val_main_v13_apply, Bwd.ofBits_two]
    exact congrArg (fun x : EReal => x * (2 * relu X W1 (i 0).val (i 1).val))
      (Fin.sum_univ_eq_sum_range (fun k => (C (i 0).val k * W2 (i 1).val k : EReal)) 1024)
  rw [val_main_v16_apply, e, val_main_v15_apply, val_main_cst_2_apply, val_main_v5_apply, v2_arr, val_main_v4_apply, val_main_cst_apply]
  show Scalar.select (BitVec.ofBool (decide (Ideal.ofBits .f32 0x00000000#32 < hid X W1 (i 0).val (i 1).val))) _ (Ideal.ofBits .f32 0x00000000#32)
    = dhid X W1 W2 C (i 0).val (i 1).val
  rw [Ideal.ofBits_zero_f32]
  by_cases h : (0 : EReal) < hid X W1 (i 0).val (i 1).val
  · rw [decide_eq_true h]
    rfl
  · rw [decide_eq_false h]
    show (0 : EReal) = _
    unfold dhid relu
    rw [max_eq_right (not_lt.1 h), mul_zero, mul_zero]

theorem v17_arr : val_main_v17 (F := Ideal) (A0 X) (A1 W1) (A2 W2) (A3 C) = arr2 (α := EReal) (dx X W1 W2 C) := by
  funext i
  rw [val_main_v17_apply, v16_arr]
  exact Fin.sum_univ_eq_sum_range (fun k => (dhid X W1 W2 C (i 0).val k * W1 (i 1).val k : EReal)) 4096

theorem v18_arr : val_main_v18 (F := Ideal) (A0 X) (A1 W1) (A2 W2) (A3 C) = arr2 (α := EReal) (dhid X W1 W2 C) := by
  rw [← v16_arr]
  rfl

variable (m : (ℓ : Loc nD τ sig) → Buf (Elt Ideal) ℓ)

/-- The reference's run, its results as functions of its arguments. -/
theorem run_stages (ρ : Dev nD → PrngReg) (X W1 W2 C : Dev nD → ℕ → ℕ → EReal)
    (ha : ∀ c : Dev nD, m ((c : Thread nD τ).loc main_arg0) = A0 (X c) ∧ m ((c : Thread nD τ).loc main_arg1) = A1 (W1 c)
      ∧ m ((c : Thread nD τ).loc main_arg2) = A2 (W2 c) ∧ m ((c : Thread nD τ).loc main_arg3) = A3 (C c)) :
    θ_run defs (onTc (τ := τ) (main (F := Ideal))) ⟨m, fun _ => 0, ρ⟩ fun r => ∀ c : Dev nD,
      r.2.mem ((c : Thread nD τ).loc main_v18) = arr2 (α := EReal) (dhid (X c) (W1 c) (W2 c) (C c))
      ∧ r.2.mem ((c : Thread nD τ).loc main_v17) = arr2 (α := EReal) (dx (X c) (W1 c) (W2 c) (C c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Reference2Ideal.Value.run (F := Ideal) m ρ)
  obtain ⟨h0, h1, hk⟩ := h c
  obtain ⟨a0, a1, a2, a3⟩ := ha c
  refine ⟨(h0.trans (val_main_v18_eq _ _ _ _)).trans ?_, (h1.trans (val_main_v17_eq _ _ _ _)).trans ?_, hk⟩
  · rw [a0, a1, a2, a3]
    exact v18_arr _ _ _ _
  · rw [a0, a1, a2, a3]
    exact v17_arr _ _ _ _

theorem frame : Cert.quiescent_Reference2Ideal (hReference2Ideal := Cert.Reference2Ideal.Gen.facts) := fun m ρ _ =>
  (θ_run Reference2Ideal.defs _ _).mono (fun r h => ⟨fun c => (h c).2.2, sem_eq_zero_of_no_sems (by decide) r.2⟩)
    (Cert.Reference2Ideal.Value.run m ρ)

end Reference

section Kernel
open Cert.Kernel2Ideal Cert.Kernel2Ideal.Gen

variable (m : (ℓ : Loc nD τ sig) → Buf (Elt Ideal) ℓ) (c : Dev nD)

def X : ℕ → ℕ → EReal := get2 (m ((c : Thread nD τ).loc main_arg0))
def W1 : ℕ → ℕ → EReal := get2 (m ((c : Thread nD τ).loc main_arg1))
def W2 : ℕ → ℕ → EReal := get2 (m ((c : Thread nD τ).loc main_arg2))
def C : ℕ → ℕ → EReal := get2 (m ((c : Thread nD τ).loc main_arg3))

/-- The second weight's rows, in blocks. -/
theorem rows_blocks (W : ℕ → ℕ → EReal) : shapeCast S8x512x1024 (arr2 (α := EReal) (a := 4096) (b := 1024) W) shapeCasts_S4096x1024_S8x512x1024
    = arr3 (α := EReal) fun p i j => W (512 * p + i) j := by
  funext i
  have h0 : (i 0).val < 8 := (i 0).isLt
  have h1 : (i 1).val < 512 := (i 1).isLt
  have h2 : (i 2).val < 1024 := (i 2).isLt
  refine (shapeCast_apply _ shapeCasts_S4096x1024_S8x512x1024 i (fun a => match a with
    | ⟨0, _⟩ => (⟨512 * (i 0).val + (i 1).val, by omega⟩ : Fin 4096)
    | ⟨1, _⟩ => (⟨(i 2).val, h2⟩ : Fin 1024)) ?_).trans rfl
  rewrite [Shape.rowMajor_val_two, Shape.rowMajor_val_three]
  show (512 * (i 0).val + (i 1).val) * 1024 + (i 2).val = ((i 0).val * 512 + (i 1).val) * 1024 + (i 2).val
  omega

/-- The first weight's columns, in blocks. -/
theorem cols_blocks (W : ℕ → ℕ → EReal) : transpose S8x1024x512 [1, 0, 2] (shapeCast S1024x8x512 (arr2 (α := EReal) (a := 1024) (b := 4096) W)
    shapeCasts_S1024x4096_S1024x8x512) transposes_S1024x8x512_S8x1024x512_1_0_2 = arr3 (α := EReal) fun p i j => W i (512 * p + j) := by
  funext i
  have h0 : (i 0).val < 8 := (i 0).isLt
  have h1 : (i 1).val < 1024 := (i 1).isLt
  have h2 : (i 2).val < 512 := (i 2).isLt
  refine (transpose_apply [1, 0, 2] _ transposes_S1024x8x512_S8x1024x512_1_0_2 i (fun a => match a with
    | ⟨0, _⟩ => (⟨(i 1).val, h1⟩ : Fin 1024)
    | ⟨1, _⟩ => (⟨(i 0).val, h0⟩ : Fin 8)
    | ⟨2, _⟩ => (⟨(i 2).val, h2⟩ : Fin 512)) (fun b => match b with
    | ⟨0, _⟩ => rfl
    | ⟨1, _⟩ => rfl
    | ⟨2, _⟩ => rfl)).trans ?_
  refine (shapeCast_apply _ shapeCasts_S1024x4096_S1024x8x512 _ (fun a => match a with
    | ⟨0, _⟩ => (⟨(i 1).val, h1⟩ : Fin 1024)
    | ⟨1, _⟩ => (⟨512 * (i 0).val + (i 2).val, by omega⟩ : Fin 4096)) ?_).trans rfl
  rewrite [Shape.rowMajor_val_two, Shape.rowMajor_val_three]
  show (i 1).val * 4096 + (512 * (i 0).val + (i 2).val) = ((i 1).val * 8 + (i 0).val) * 512 + (i 2).val
  omega

set_option maxRecDepth 100000 in
/-- The launch's first operand holds the activations. -/
theorem act_read : V m c main_v5 = arr2 (α := EReal) (act (X m c) (W1 m c)) := by
  refine Eq.trans (b := Reference2Ideal.Read.val_main_v7 (F := Ideal) (m ((c : Thread nD τ).loc main_arg0)) (m ((c : Thread nD τ).loc main_arg1))) ?_ ?_
  · unfold V
    simp only [hostOps0, hostOps0_1, hostOps0_2, List.flatten_cons, List.flatten_nil, List.cons_append, List.nil_append, List.append_nil]
    after_reads_simp
    simp -implicitDefEqProofs only [StableHlo.TRef.toBuf, StableHlo.TRef.ofBuf, cast_cast, cast_eq, id]
    rw [truncf_id]
    rfl
  · rw [← v7_arr]
    unfold X W1
    rw [A0, A1, arr2_get2, arr2_get2]

set_option maxRecDepth 100000 in
theorem w1_read : V m c main_v7 = arr3 (α := EReal) fun p i j => W1 m c i (512 * p + j) := by
  rw [← cols_blocks]
  unfold W1
  rw [arr2_get2]
  unfold V
  simp only [hostOps0, hostOps0_1, hostOps0_2, List.flatten_cons, List.flatten_nil, List.cons_append, List.nil_append, List.append_nil]
  after_reads_simp
  rfl

set_option maxRecDepth 100000 in
theorem w2_read : V m c main_v8 = arr3 (α := EReal) fun p i j => W2 m c (512 * p + i) j := by
  rw [← rows_blocks]
  unfold W2
  rw [arr2_get2]
  unfold V
  simp only [hostOps0, hostOps0_1, hostOps0_2, List.flatten_cons, List.flatten_nil, List.cons_append, List.nil_append, List.append_nil]
  after_reads_simp
  rfl

theorem idx : ∀ t : Fin grid0.N, (win0_0.index t 0 = t.val / 8 ∧ win0_0.index t 1 = t.val % 8)
    ∧ (win0_1.index t 0 = t.val / 8 ∧ win0_1.index t 1 = 0)
    ∧ (win0_2.index t 0 = t.val % 8 ∧ win0_2.index t 1 = 0 ∧ win0_2.index t 2 = 0)
    ∧ (win0_3.index t 0 = t.val % 8 ∧ win0_3.index t 1 = 0 ∧ win0_3.index t 2 = 0)
    ∧ (win0_4.index t 0 = t.val / 8 ∧ win0_4.index t 1 = t.val % 8)
    ∧ (win0_5.index t 0 = t.val / 8 ∧ win0_5.index t 1 = 0) := by decide +kernel

theorem iblk0 (t : Fin cfg0.N) : iblk m c 0 t = arr2 (α := EReal) (sh (t.val / 8 * 1024) (t.val % 8 * 512) (act (X m c) (W1 m c))) := by
  funext j
  unfold iblk
  rw [View.read_apply]
  show V m c main_v5 _ = _
  rw [act_read]
  exact (block_write (j := j) (j' := j) _ (idx t).1.1 (idx t).1.2 rfl rfl fun _ => rfl).symm

theorem iblk1 (t : Fin cfg0.N) : iblk m c 1 t = arr2 (α := EReal) (sh (t.val / 8 * 1024) 0 (C m c)) := by
  funext j
  unfold iblk
  rw [View.read_apply]
  show V m c main_arg3 _ = _
  rw [V_main_arg3]
  refine (block_read (idx t).2.1.1 (idx t).2.1.2 rfl rfl).trans ?_
  rw [Nat.zero_mul]
  rfl

theorem iblk2 (t : Fin cfg0.N) : iblk m c 2 t = arr3 (α := EReal) fun _ i j => W1 m c i (512 * (t.val % 8) + j) := by
  funext j
  unfold iblk
  rw [View.read_apply]
  show V m c main_v7 _ = _
  rw [w1_read]
  exact (plane_write (j := j) (j' := j) (fun p i j => W1 m c i (512 * p + j)) (idx t).2.2.1.1 (idx t).2.2.1.2.1 (idx t).2.2.1.2.2 rfl rfl rfl fun _ => rfl).symm

theorem iblk3 (t : Fin cfg0.N) : iblk m c 3 t = arr3 (α := EReal) fun _ i j => W2 m c (512 * (t.val % 8) + i) j := by
  funext j
  unfold iblk
  rw [View.read_apply]
  show V m c main_v8 _ = _
  rw [w2_read]
  exact (plane_write (j := j) (j' := j) (fun p i j => W2 m c (512 * p + i) j) (idx t).2.2.2.1.1 (idx t).2.2.2.1.2.1 (idx t).2.2.2.1.2.2 rfl rfl rfl fun _ => rfl).symm

/-- The hidden gradient and the input's gradient. -/
abbrev G4 : ℕ → ℕ → EReal := dhid (X m c) (W1 m c) (W2 m c) (C m c)
abbrev G5 : ℕ → ℕ → EReal := dx (X m c) (W1 m c) (W2 m c) (C m c)

/-- One point's tile is its block of the hidden gradient. -/
theorem tile_eq (r b : ℕ) : Bwd.tile (sh (r * 1024) (b * 512) (act (X m c) (W1 m c))) (sh (r * 1024) 0 (C m c)) (fun i j => W2 m c (512 * b + i) j)
    = sh (r * 1024) (b * 512) (G4 m c) := by
  funext i k
  unfold Bwd.tile mmT sh G4 dhid act
  rw [sqrt_mul_self (relu_nonneg ..), Nat.mul_comm 512 b]
  simp only [Nat.zero_add, mmT]

/-- What block `b` of the hidden axis adds to row `i`, column `j` of the input's gradient. -/
def part (r b : ℕ) : ℕ → ℕ → EReal := fun i j => ∑ k ∈ range 512, G4 m c (r * 1024 + i) (512 * b + k) * W1 m c j (512 * b + k)

theorem part_eq (r b : ℕ) : mmT 512 (sh (r * 1024) (b * 512) (G4 m c)) (fun i j => W1 m c i (512 * b + j)) = part m c r b := by
  funext i j
  unfold part mmT sh
  rw [Nat.mul_comm b 512]

theorem parts (r i j : ℕ) : ∑ b ∈ range 8, part m c r b i j = G5 m c (r * 1024 + i) j :=
  sum_blocks (fun k => G4 m c (r * 1024 + i) k * W1 m c j k) 8

/-- What the two output blocks hold after each point. -/
theorem outs_eq : ∀ (n : ℕ) (hn : n < cfg0.N), outsAt0 m c n hn = (arr2 (α := EReal) (sh (n / 8 * 1024) (n % 8 * 512) (G4 m c)),
    arr2 (α := EReal) fun i j => ∑ b ∈ range (n % 8 + 1), part m c (n / 8) b i j)
  | n, hn => by
    by_cases h : n % 8 = 0
    · refine (outsAt0_A m c ⟨n, hn⟩ h).trans ?_
      rw [iblk0, iblk1, iblk2, iblk3]
      rw [Bwd.out4_A, Bwd.out5_A, tile_eq, part_eq]
      refine Prod.ext rfl ?_
      dsimp only
      refine arr2_congr fun i j _ _ => ?_
      rw [h, zero_add, zero_add, range_one, sum_singleton]
    · refine (outsAt0_B m c ⟨n, hn⟩ h).trans ?_
      have e0 : (n - 1) / 8 = n / 8 := by omega
      have e1 : (n - 1) % 8 + 1 = n % 8 := by omega
      have ih := outs_eq (n - 1) (Nat.lt_of_le_of_lt (Nat.sub_le _ _) hn)
      dsimp only at ih ⊢
      rw [ih, iblk0, iblk1, iblk2, iblk3]
      rw [Bwd.out4_B, Bwd.out5_B, tile_eq, part_eq]
      refine Prod.ext rfl ?_
      dsimp only
      refine arr2_congr fun i j _ _ => ?_
      rw [e0, e1, Finset.sum_range_succ]

/-- The hidden gradient the kernel leaves. -/
theorem arr_dh : (dats m 0 c).arrAt 4 cfg0.N = arr2 (α := EReal) (G4 m c) := by
  refine (dats m 0 c).arrAt_eq_of_cover 4 (arr2 (α := EReal) (G4 m c)) (fun t _ => ?_) fun i => ?_
  · rw [Value.flushed4, outs_eq]
    funext j
    rw [View.read_apply]
    show arr2 (a := 1024) (b := 512) (sh (t.val / 8 * 1024) (t.val % 8 * 512) (G4 m c)) ((cfg0.win 4).xinj (grid0.coords t) j) =
      arr2 (a := 2048) (b := 4096) (G4 m c) (((cfg0.win 4).blk t).view.emb j)
    refine block_write (j := j) _ (idx t).2.2.2.2.1.1 (idx t).2.2.2.2.1.2 ?_ ?_ fun _ => ?_ <;> rfl
  · have l0 : (i 0).val < 2048 := (i 0).isLt
    have l1 : (i 1).val < 4096 := (i 1).isLt
    have hN : (i 0).val / 1024 * 8 + (i 1).val / 512 < cfg0.N := lt_of_lt_of_eq (by omega) N_0.symm
    have hi := (idx ⟨_, hN⟩).2.2.2.2.1
    refine ⟨⟨_, hN⟩, flush0_4 _, ?_⟩
    show i ∈ ((View.whole main_v9_0).slice (win0_4.rect ⟨_, hN⟩)).set
    rw [View.set_slice_whole, Rect.mem_set_unit]
    exact block_cover (f := win0_4.index ⟨_, hN⟩) (hi.1.trans (by dsimp only; omega)) (hi.2.trans (by dsimp only; omega)) (by omega) (by omega)

/-- The input's gradient the kernel leaves. -/
theorem arr_dx : (dats m 0 c).arrAt 5 cfg0.N = arr2 (α := EReal) (G5 m c) := by
  refine (dats m 0 c).arrAt_eq_of_cover 5 (arr2 (α := EReal) (G5 m c)) (fun t ht => ?_) fun i => ?_
  · have h7 := (flush0_5 t).1 ht
    rw [Value.flushed5, outs_eq]
    funext j
    rw [View.read_apply]
    show arr2 (a := 1024) (b := 1024) (fun i j => ∑ b ∈ range (t.val % 8 + 1), part m c (t.val / 8) b i j) ((cfg0.win 5).xinj (grid0.coords t) j) =
      arr2 (a := 2048) (b := 1024) (G5 m c) (((cfg0.win 5).blk t).view.emb j)
    have e : (fun i j => ∑ b ∈ range (t.val % 8 + 1), part m c (t.val / 8) b i j) = sh (t.val / 8 * 1024) (0 * 1024) (G5 m c) := by
      funext i j
      rw [h7, parts, sh, Nat.zero_mul, Nat.zero_add]
    rw [e]
    refine block_write (j := j) _ (idx t).2.2.2.2.2.1 (idx t).2.2.2.2.2.2 ?_ ?_ fun _ => ?_ <;> rfl
  · have l0 : (i 0).val < 2048 := (i 0).isLt
    have l1 : (i 1).val < 1024 := (i 1).isLt
    have hN : (i 0).val / 1024 * 8 + 7 < cfg0.N := lt_of_lt_of_eq (by omega) N_0.symm
    have hi := (idx ⟨_, hN⟩).2.2.2.2.2
    refine ⟨⟨_, hN⟩, (flush0_5 _).2 (by dsimp only; omega), ?_⟩
    show i ∈ ((View.whole main_v9_1).slice (win0_5.rect ⟨_, hN⟩)).set
    rw [View.set_slice_whole, Rect.mem_set_unit]
    exact block_cover (f := win0_5.index ⟨_, hN⟩) (hi.1.trans (by dsimp only; omega)) (hi.2.trans (by dsimp only; omega)) (by omega) (by omega)

end Kernel

theorem algebraic : algebraic_Kernel2Ideal_Reference2Ideal (hKernel2Ideal := Kernel2Ideal.Gen.facts)
    (hReference2Ideal := Reference2Ideal.Gen.facts) := by
  intro m g m' g' _ hargs
  refine ⟨fun c => arr2 (α := EReal) (G4 m c), fun c => arr2 (α := EReal) (G5 m c), ?_, ?_⟩
  · refine (θ_run _ _ _).mono (fun r h c => ?_) (Kernel2Ideal.Value.run_blocks m g)
    exact ⟨(h c).1.trans (arr_dh m c), (h c).2.1.trans (arr_dx m c), (h c).2.2⟩
  · refine run_stages m' g' (fun c => X m c) (fun c => W1 m c) (fun c => W2 m c) (fun c => C m c) fun c => ?_
    obtain ⟨b0, b1, b2, b3⟩ := hargs c
    exact ⟨b0.trans (arr2_get2 _).symm, b1.trans (arr2_get2 _).symm, b2.trans (arr2_get2 _).symm, b3.trans (arr2_get2 _).symm⟩

end Cert.Mlp.Dh
-- ==== Proof.Dw2.lean ====
/-
  The gradient of the MLP's second weight: the kernel's column blocks are the reference's product, cut into blocks.
-/
module

public import proofs.«01_k».proof.Defs
public import proofs.«01_k».proof.Proof.MlpMath
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.ReadAt
public import Idealize.ShloMosaic.Lib.Claim
public import Idealize.ShloMosaic.Lib.IdealHost

@[expose] public section

set_option maxRecDepth 16384

noncomputable section

namespace Cert.Mlp.Dw2

open Idealize.ShloMosaic Idealize.ShloMosaic.TcCoe Idealize.SL.Sem Finset Cert.Mat Cert.Mlp

/-- The gradient, block `b` of the hidden axis, hidden unit `k` of the block, column `d`. -/
def dw2 (X W1 C : ℕ → ℕ → EReal) : ℕ → ℕ → ℕ → EReal := fun b k d => mTm 2048 (act X W1) C (512 * b + k) d

section Reference
open Cert.Reference3Ideal Cert.Reference3Ideal.Read

variable (X W1 C : ℕ → ℕ → EReal)

abbrev A0 : FVec Ideal S2048x1024 .bf16 := arr2 (α := EReal) X
abbrev A1 : FVec Ideal S1024x4096 .bf16 := arr2 (α := EReal) W1
abbrev A2 : FVec Ideal S2048x1024 .bf16 := arr2 (α := EReal) C

theorem v5_arr : val_main_v5 (F := Ideal) (A0 X) (A1 W1) = arr2 (α := EReal) (act X W1) := by
  funext i
  have e : val_main_v4 (F := Ideal) (A0 X) (A1 W1) i = relu X W1 (i 0).val (i 1).val := by
    rw [val_main_v4_apply, val_main_v3_apply, val_main_call0_v0_apply, val_main_call0_cst_apply]
    exact congrArg₂ (fun x y : EReal => max x y)
      (Fin.sum_univ_eq_sum_range (fun k => (X (i 0).val k * W1 k (i 1).val : EReal)) 1024) Ideal.ofBits_zero_f32
  rw [val_main_v5_apply, e]
  rfl

theorem v11_arr : val_main_v11 (F := Ideal) (A0 X) (A1 W1) (A2 C) = arr3 (α := EReal) (dw2 X W1 C) := by
  funext i
  have h1 : (i 1).val < 512 := (i 1).isLt
  have h2 : (i 2).val < 1024 := (i 2).isLt
  rw [val_main_v11_apply, val_main_v10_apply, val_main_v9_apply, val_main_v8_apply, v5_arr]
  refine (Fin.sum_univ_eq_sum_range (fun k => C k ((((i 0).val * 512 + (i 1).val) * 1024 + (i 2).val) % 1024)
    * act X W1 k ((((i 0).val * 512 + (i 1).val) * 1024 + (i 2).val) / 1024)) 2048).trans ?_
  show _ = (∑ k ∈ range 2048, act X W1 k (512 * (i 0).val + (i 1).val) * C k (i 2).val : EReal)
  refine Finset.sum_congr rfl fun k _ => ?_
  rw [mul_comm]
  congr 2 <;> omega

variable (m : (ℓ : Loc nD τ sig) → Buf (Elt Ideal) ℓ)

/-- The reference's run, its result as a function of its arguments. -/
theorem run_stages (ρ : Dev nD → PrngReg) (X W1 C : Dev nD → ℕ → ℕ → EReal)
    (ha : ∀ c : Dev nD, m ((c : Thread nD τ).loc main_arg0) = A0 (X c) ∧ m ((c : Thread nD τ).loc main_arg1) = A1 (W1 c)
      ∧ m ((c : Thread nD τ).loc main_arg2) = A2 (C c)) :
    θ_run defs (onTc (τ := τ) (main (F := Ideal))) ⟨m, fun _ => 0, ρ⟩ fun r => ∀ c : Dev nD,
      r.2.mem ((c : Thread nD τ).loc main_v11) = arr3 (α := EReal) (dw2 (X c) (W1 c) (C c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Reference3Ideal.Value.run (F := Ideal) m ρ)
  obtain ⟨h0, hk⟩ := h c
  obtain ⟨a0, a1, a2⟩ := ha c
  refine ⟨(h0.trans (val_main_v11_eq _ _ _)).trans ?_, hk⟩
  rw [a0, a1, a2]
  exact v11_arr _ _ _

theorem frame : Cert.quiescent_Reference3Ideal (hReference3Ideal := Cert.Reference3Ideal.Gen.facts) := fun m ρ _ =>
  (θ_run Reference3Ideal.defs _ _).mono (fun r h => ⟨fun c => (h c).2, sem_eq_zero_of_no_sems (by decide) r.2⟩)
    (Cert.Reference3Ideal.Value.run m ρ)

end Reference

section Kernel
open Cert.Kernel3Ideal Cert.Kernel3Ideal.Gen

/-- One block: the activations' columns against the cotangent. -/
theorem pay (A B : ℕ → ℕ → EReal) : k0_pay1 (F := Ideal) (arr2 (α := EReal) A) (arr2 (α := EReal) B)
    = arr3 (α := EReal) fun _ => mTm 2048 A B := by
  unfold k0_pay1
  dsimp only
  rw [shapeCast_arr2]
  unfold matmul
  rw [matmul_tn dot_S2048x512_S2048x1024_S512x1024_0_0_1_1_n_n rfl, truncf_arr2]
  exact shapeCast_arr2_arr3 _ _

theorem out (A B : ℕ → ℕ → EReal) : out0_2 (F := Ideal) (arr2 (α := EReal) A) (arr2 (α := EReal) B)
    = arr3 (α := EReal) fun _ => mTm 2048 A B := by
  unfold out0_2
  rw [View.ld_unit, View.ld_unit]
  refine (congrArg (fun p => View.canon [(⟨r0_2, p⟩ : View.Piece (Elt Ideal) S1x512x1024 .bf16)]) ?_).trans (canon_whole_arr3 _ _)
  erw [slice_arr2, slice_arr2]
  rw [sh_zero, sh_zero]
  exact pay A B

variable (m : (ℓ : Loc nD τ sig) → Buf (Elt Ideal) ℓ) (c : Dev nD)

def X : ℕ → ℕ → EReal := get2 (m ((c : Thread nD τ).loc main_arg0))
def W1 : ℕ → ℕ → EReal := get2 (m ((c : Thread nD τ).loc main_arg1))
def C : ℕ → ℕ → EReal := get2 (m ((c : Thread nD τ).loc main_arg2))

set_option maxRecDepth 100000 in
/-- The launch's first operand holds the activations. -/
theorem act_read : V m c main_v5 = arr2 (α := EReal) (act (X m c) (W1 m c)) := by
  refine Eq.trans (b := Reference3Ideal.Read.val_main_v5 (F := Ideal) (m ((c : Thread nD τ).loc main_arg0)) (m ((c : Thread nD τ).loc main_arg1))) ?_ ?_
  · unfold V
    simp only [hostOps0, hostOps0_1, hostOps0_2, List.flatten_cons, List.flatten_nil, List.cons_append, List.nil_append, List.append_nil]
    after_reads_simp
    simp -implicitDefEqProofs only [StableHlo.TRef.toBuf, StableHlo.TRef.ofBuf, cast_cast, cast_eq, id]
    rw [truncf_id]
    rfl
  · rw [← v5_arr]
    unfold X W1
    rw [A0, A1, arr2_get2, arr2_get2]

theorem idx : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0) := by decide +kernel

theorem iblk0 (t : Fin cfg0.N) : iblk m c 0 t = arr2 (α := EReal) (sh 0 (t.val * 512) (act (X m c) (W1 m c))) := by
  funext j
  unfold iblk
  rw [View.read_apply]
  show V m c main_v5 _ = _
  rw [act_read]
  exact (block_write (j := j) (j' := j) _ (idx t).1.1 (idx t).1.2 rfl rfl fun _ => rfl).symm

theorem iblk1 (t : Fin cfg0.N) : iblk m c 1 t = arr2 (α := EReal) (C m c) := by
  funext j
  unfold iblk
  rw [View.read_apply]
  show V m c main_arg2 _ = _
  rw [V_main_arg2]
  refine (block_read (idx t).2.1.1 (idx t).2.1.2 rfl rfl).trans ?_
  rw [Nat.zero_mul, Nat.zero_mul, sh_zero]
  rfl

/-- The array the kernel leaves. -/
theorem arr : (dats m 0 c).arrAt 2 cfg0.N = arr3 (α := EReal) (dw2 (X m c) (W1 m c) (C m c)) := by
  refine (dats m 0 c).arrAt_eq_of_cover 2 (arr3 (α := EReal) (dw2 (X m c) (W1 m c) (C m c))) (fun t _ => ?_) fun i => ?_
  · rw [Value.flushed2, iblk0, iblk1, out]
    funext j
    rw [View.read_apply]
    show arr3 (a := 1) (b := 512) (c := 1024) (fun _ => mTm 2048 (sh 0 (t.val * 512) (act (X m c) (W1 m c))) (C m c)) ((cfg0.win 2).xinj (grid0.coords t) j) =
      arr3 (a := 8) (b := 512) (c := 1024) (dw2 (X m c) (W1 m c) (C m c)) (((cfg0.win 2).blk t).view.emb j)
    have e : mTm 2048 (sh 0 (t.val * 512) (act (X m c) (W1 m c))) (C m c) = dw2 (X m c) (W1 m c) (C m c) t.val := by
      funext a b
      unfold dw2 mTm sh
      rw [Nat.mul_comm]
      simp only [Nat.zero_add]
    rw [e]
    refine plane_write (n := 8) (a := 512) (b := 1024) (j := j) _ (idx t).2.2.1 (idx t).2.2.2.1 (idx t).2.2.2.2 ?_ ?_ ?_ fun _ => ?_ <;> rfl
  · have l0 : (i 0).val < 8 := (i 0).isLt
    have hN : (i 0).val < cfg0.N := lt_of_lt_of_eq l0 N_0.symm
    have hi := (idx ⟨(i 0).val, hN⟩).2.2
    refine ⟨⟨(i 0).val, hN⟩, flush0_2 _, ?_⟩
    show i ∈ ((View.whole main_v6).slice (win0_2.rect ⟨(i 0).val, hN⟩)).set
    rw [View.set_slice_whole, Rect.mem_set_unit]
    exact plane_cover (f := win0_2.index ⟨(i 0).val, hN⟩) hi.1 hi.2.1 hi.2.2

end Kernel

theorem algebraic : algebraic_Kernel3Ideal_Reference3Ideal (hKernel3Ideal := Kernel3Ideal.Gen.facts)
    (hReference3Ideal := Reference3Ideal.Gen.facts) := by
  intro m g m' g' _ hargs
  refine ⟨fun c => arr3 (α := EReal) (dw2 (X m c) (W1 m c) (C m c)), ?_, ?_⟩
  · refine (θ_run _ _ _).mono (fun r h c => ?_) (Kernel3Ideal.Value.run_blocks m g)
    exact ⟨(h c).1.trans (arr m c), (h c).2⟩
  · refine run_stages m' g' (fun c => X m c) (fun c => W1 m c) (fun c => C m c) fun c => ?_
    obtain ⟨b0, b1, b2⟩ := hargs c
    exact ⟨b0.trans (arr2_get2 _).symm, b1.trans (arr2_get2 _).symm, b2.trans (arr2_get2 _).symm⟩

end Cert.Mlp.Dw2
-- ==== Proof.Dw1.lean ====
/-
  The gradient of the MLP's first weight: the kernel's column blocks are the reference's product, cut into blocks.
-/
module

public import proofs.«01_k».proof.Defs
public import proofs.«01_k».proof.Proof.MlpMath
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Mlp.Dw1

open Idealize.ShloMosaic Idealize.ShloMosaic.TcCoe Idealize.SL.Sem Finset Cert.Mat Cert.Mlp

/-- The gradient, block `b` of the hidden axis, row `d`, hidden unit `k` of the block. -/
def dw1 (X H : ℕ → ℕ → EReal) : ℕ → ℕ → ℕ → EReal := fun b d k => mTm 2048 X H d (512 * b + k)

section Reference
open Cert.Reference4Ideal Cert.Reference4Ideal.Read

variable (X H : ℕ → ℕ → EReal)

abbrev A0 : FVec Ideal S2048x1024 .bf16 := arr2 (α := EReal) X
abbrev A1 : FVec Ideal S2048x4096 .bf16 := arr2 (α := EReal) H

theorem v8_arr : val_main_v8 (F := Ideal) (A0 X) (A1 H) = arr3 (α := EReal) (dw1 X H) := by
  funext i
  have h0 : (i 0).val < 8 := (i 0).isLt
  have h2 : (i 2).val < 512 := (i 2).isLt
  rw [val_main_v8_apply, val_main_v7_apply, val_main_v6_apply, val_main_v5_apply, val_main_v4_apply]
  refine (Fin.sum_univ_eq_sum_range (fun k => H k ((((i 1).val * 8 + (i 0).val) * 512 + (i 2).val) % 4096)
    * X k ((((i 1).val * 8 + (i 0).val) * 512 + (i 2).val) / 4096)) 2048).trans ?_
  show _ = (∑ k ∈ range 2048, X k (i 1).val * H k (512 * (i 0).val + (i 2).val) : EReal)
  refine Finset.sum_congr rfl fun k _ => ?_
  rw [mul_comm]
  congr 2 <;> omega

variable (m : (ℓ : Loc nD τ sig) → Buf (Elt Ideal) ℓ)

/-- The reference's run, its result as a function of its arguments. -/
theorem run_stages (ρ : Dev nD → PrngReg) (X H : Dev nD → ℕ → ℕ → EReal)
    (ha : ∀ c : Dev nD, m ((c : Thread nD τ).loc main_arg0) = A0 (X c) ∧ m ((c : Thread nD τ).loc main_arg1) = A1 (H c)) :
    θ_run defs (onTc (τ := τ) (main (F := Ideal))) ⟨m, fun _ => 0, ρ⟩ fun r => ∀ c : Dev nD,
      r.2.mem ((c : Thread nD τ).loc main_v8) = arr3 (α := EReal) (dw1 (X c) (H c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference4Ideal.Value.run (F := Ideal) m ρ)
  obtain ⟨h0, hk⟩ := h c
  obtain ⟨a0, a1⟩ := ha c
  refine ⟨(h0.trans (val_main_v8_eq _ _)).trans ?_, hk⟩
  rw [a0, a1]
  exact v8_arr _ _

theorem frame : Cert.quiescent_Reference4Ideal (hReference4Ideal := Cert.Reference4Ideal.Gen.facts) := fun m ρ _ =>
  (θ_run Reference4Ideal.defs _ _).mono (fun r h => ⟨fun c => (h c).2, sem_eq_zero_of_no_sems (by decide) r.2⟩)
    (Cert.Reference4Ideal.Value.run m ρ)

end Reference

section Kernel
open Cert.Kernel4Ideal Cert.Kernel4Ideal.Gen

/-- One block: the input against the hidden gradient's columns. -/
theorem pay (A B : ℕ → ℕ → EReal) : k0_pay1 (F := Ideal) (arr2 (α := EReal) A) (arr2 (α := EReal) B)
    = arr3 (α := EReal) fun _ => mTm 2048 A B := by
  unfold k0_pay1
  dsimp only
  unfold matmul
  rw [matmul_tn dot_S2048x1024_S2048x512_S1024x512_0_0_1_1_n_n rfl, truncf_arr2]
  exact shapeCast_arr2_arr3 _ _

theorem out (A B : ℕ → ℕ → EReal) : out0_2 (F := Ideal) (arr2 (α := EReal) A) (arr2 (α := EReal) B)
    = arr3 (α := EReal) fun _ => mTm 2048 A B := by
  unfold out0_2
  rw [View.ld_unit, View.ld_unit]
  refine (congrArg (fun p => View.canon [(⟨r0_2, p⟩ : View.Piece (Elt Ideal) S1x1024x512 .bf16)]) ?_).trans (canon_whole_arr3 _ _)
  erw [slice_arr2, slice_arr2]
  rw [sh_zero, sh_zero]
  exact pay A B

variable (m : (ℓ : Loc nD τ sig) → Buf (Elt Ideal) ℓ) (c : Dev nD)

def X : ℕ → ℕ → EReal := get2 (m ((c : Thread nD τ).loc main_arg0))
def H : ℕ → ℕ → EReal := get2 (m ((c : Thread nD τ).loc main_arg1))

theorem idx : ∀ t : Fin grid0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) := by decide +kernel

theorem iblk0 (t : Fin cfg0.N) : iblk m c 0 t = arr2 (α := EReal) (X m c) := by
  funext j
  unfold iblk
  rw [View.read_apply]
  show V m c main_arg0 _ = _
  rw [V_main_arg0]
  refine (block_read (idx t).1.1 (idx t).1.2 rfl rfl).trans ?_
  rw [Nat.zero_mul, Nat.zero_mul, sh_zero]
  rfl

theorem iblk1 (t : Fin cfg0.N) : iblk m c 1 t = arr2 (α := EReal) (sh 0 (t.val * 512) (H m c)) := by
  funext j
  unfold iblk
  rw [View.read_apply]
  show V m c main_arg1 _ = _
  rw [V_main_arg1]
  refine (block_read (idx t).2.1.1 (idx t).2.1.2 rfl rfl).trans ?_
  rw [Nat.zero_mul]
  rfl

/-- The array the kernel leaves. -/
theorem arr : (dats m 0 c).arrAt 2 cfg0.N = arr3 (α := EReal) (dw1 (X m c) (H m c)) := by
  refine (dats m 0 c).arrAt_eq_of_cover 2 (arr3 (α := EReal) (dw1 (X m c) (H m c))) (fun t _ => ?_) fun i => ?_
  · rw [Value.flushed2, iblk0, iblk1, out]
    funext j
    rw [View.read_apply]
    show arr3 (a := 1) (b := 1024) (c := 512) (fun _ => mTm 2048 (X m c) (sh 0 (t.val * 512) (H m c))) ((cfg0.win 2).xinj (grid0.coords t) j) =
      arr3 (a := 8) (b := 1024) (c := 512) (dw1 (X m c) (H m c)) (((cfg0.win 2).blk t).view.emb j)
    have e : mTm 2048 (X m c) (sh 0 (t.val * 512) (H m c)) = dw1 (X m c) (H m c) t.val := by
      funext a b
      unfold dw1 mTm sh
      rw [Nat.mul_comm]
      simp only [Nat.zero_add]
    rw [e]
    refine plane_write (n := 8) (a := 1024) (b := 512) (j := j) _ (idx t).2.2.1 (idx t).2.2.2.1 (idx t).2.2.2.2 ?_ ?_ ?_ fun _ => ?_ <;> rfl
  · have l0 : (i 0).val < 8 := (i 0).isLt
    have hN : (i 0).val < cfg0.N := lt_of_lt_of_eq l0 N_0.symm
    have hi := (idx ⟨(i 0).val, hN⟩).2.2
    refine ⟨⟨(i 0).val, hN⟩, flush0_2 _, ?_⟩
    show i ∈ ((View.whole main_v0).slice (win0_2.rect ⟨(i 0).val, hN⟩)).set
    rw [View.set_slice_whole, Rect.mem_set_unit]
    exact plane_cover (f := win0_2.index ⟨(i 0).val, hN⟩) hi.1 hi.2.1 hi.2.2

end Kernel

theorem algebraic : algebraic_Kernel4Ideal_Reference4Ideal (hKernel4Ideal := Kernel4Ideal.Gen.facts)
    (hReference4Ideal := Reference4Ideal.Gen.facts) := by
  intro m g m' g' _ hargs
  refine ⟨fun c => arr3 (α := EReal) (dw1 (X m c) (H m c)), ?_, ?_⟩
  · refine (θ_run _ _ _).mono (fun r h c => ?_) (Kernel4Ideal.Value.run_blocks m g)
    exact ⟨(h c).1.trans (arr m c), (h c).2⟩
  · refine run_stages m' g' (fun c => X m c) (fun c => H m c) fun c => ?_
    obtain ⟨b0, b1⟩ := hargs c
    exact ⟨b0.trans (arr2_get2 _).symm, b1.trans (arr2_get2 _).symm⟩

end Cert.Mlp.Dw1
-- ==== Proof.MlpFwdOuts.lean ====
/-
  What one grid point of the MLP's forward kernel computes, on arrays given by functions.
-/
module

public import proofs.«01_k».proof.Proof.MlpMath
public import proofs.«01_k».proof.Proof.Gen.Kernel5Ideal.Value

@[expose] public section

set_option maxRecDepth 16384

noncomputable section

namespace Cert.Mlp.Fwd

open Idealize.ShloMosaic Finset Cert.Mat Cert.Mlp Cert.Kernel5Ideal Cert.Kernel5Ideal.Gen

/-- The residual's factor, the row length and the norm's small constant, as the programs hold them. -/
def alpha : EReal := Ideal.ofBits .f32 0x3FD744FD#32
def len : EReal := Ideal.ofBits .f32 0x44800000#32
def eps : EReal := Ideal.ofBits .f32 0x3727C5AC#32

/-- What the running sum is reset to. -/
def zero : ℕ → ℕ → EReal := fun _ _ => 0
/-- The residual sum of the input `Y` and the MLP's output `M`. -/
def res (Y M : ℕ → ℕ → EReal) : ℕ → ℕ → EReal := fun i j => alpha * Y i j + M i j
/-- A row's entries less their mean. -/
def centred (Z : ℕ → ℕ → EReal) : ℕ → ℕ → EReal := fun i j => Z i j - Ideal.div (∑ k ∈ range 1024, Z i k) len
/-- A row's variance. -/
def var (Z : ℕ → ℕ → EReal) (i : ℕ) : EReal := Ideal.div (∑ k ∈ range 1024, centred Z i k * centred Z i k) len
/-- The layer norm of every row, with gain `g` and offset `b`. -/
def norm (Z : ℕ → ℕ → EReal) (g b : ℕ → EReal) : ℕ → ℕ → EReal :=
  fun i j => centred Z i j * Ideal.rsqrt (var Z i + eps) * g j + b j

section
variable (A U W S Y M : ℕ → ℕ → EReal) (g b : ℕ → EReal)

theorem maximumf_arr2 {m n : ℕ} (A B : ℕ → ℕ → EReal) : maximumf (F := Ideal) (φ := .f32) (arr2 (a := m) (b := n) A) (arr2 B)
    = arr2 fun i j => max (A i j) (B i j) := rfl
theorem rsqrt_arr2 {m n : ℕ} : rsqrt (F := Ideal) (φ := .f32) (arr2 (a := m) (b := n) A) = arr2 fun i j => Ideal.rsqrt (A i j) := rfl

/-- One row, repeated. -/
theorem broadcastTo_row {α : Type} {m n : ℕ} (A : ℕ → ℕ → α) (hn : n ≠ 1) (h) :
    broadcastTo (⟨2, ![m, n]⟩ : Shape) (arr2 (a := 1) (b := n) A) h = arr2 fun _ j => A 0 j := by
  funext j
  refine (broadcastTo_apply _ h j (ValueIdx.ix2 ⟨0, Nat.one_pos⟩ (j 1)) ?_).trans rfl
  intro a
  match a with
  | ⟨0, _⟩ => exact (if_pos rfl).symm
  | ⟨1, _⟩ => exact (if_neg hn).symm

theorem pay9 : k0_pay9 (F := Ideal) (arr2 (α := EReal) A) (arr3 (α := EReal) fun _ => U) = arr2 (α := EReal) (act A U) := by
  unfold k0_pay9 matmul
  dsimp only
  rw [shapeCast_arr3, shapeCast_arr2, matmul_nn dot_S512x1024_S1024x512_S512x512_1_0_0_1_n_n rfl, broadcast_arr2, maximumf_arr2, mulf_arr2,
    show Scalar.ofBits (F := Ideal) .f32 0x00000000#32 = (0 : EReal) from Ideal.ofBits_zero_f32]
  rfl

theorem pay7 : k0_pay7 (F := Ideal) (arr2 (α := EReal) A) (arr3 (α := EReal) fun _ => U) = arr2 (α := EReal) (act A U) := pay9 A U

theorem pay1 : k0_pay1 (F := Ideal) (arr2 (α := EReal) S) = arr2 (α := EReal) S := rfl

theorem pay2 : k0_pay2 (F := Ideal) (arr2 (α := EReal) S) (arr2 (α := EReal) Y) (arr3 (α := EReal) fun _ => W)
    = arr2 (α := EReal) fun i j => Y i j + mm 512 S W i j := by
  unfold k0_pay2 matmul
  dsimp only
  rw [pay1, shapeCast_arr3, matmul_nn dot_S512x512_S512x1024_S512x1024_1_0_0_1_n_n rfl, addf_arr2, shapeCast_arr2]

theorem pay8 : k0_pay8 (F := Ideal) (arr2 (α := EReal) A) (arr3 (α := EReal) fun _ => U) (arr2 (α := EReal) Y) (arr3 (α := EReal) fun _ => W)
    = arr2 (α := EReal) fun i j => Y i j + mm 512 (act A U) W i j :=
  (congrArg (fun x => k0_pay2 (F := Ideal) x (arr2 (α := EReal) Y) (arr3 (α := EReal) fun _ => W)) (pay9 A U)).trans (pay2 W (act A U) Y)

theorem pay6 : k0_pay6 (F := Ideal) = arr2 (α := EReal) zero := by
  unfold k0_pay6
  dsimp only
  rw [broadcast_arr2, show Scalar.ofBits (F := Ideal) .f32 0x00000000#32 = (0 : EReal) from Ideal.ofBits_zero_f32]
  exact shapeCast_arr2 _ _

theorem pay3 : k0_pay3 (F := Ideal) (arr2 (α := EReal) Y) (arr2 (α := EReal) M) = arr2 (α := EReal) (res Y M) := by
  unfold k0_pay3
  dsimp only
  rw [broadcast_arr2, mulf_arr2, addf_arr2]
  rfl

theorem pay4 : k0_pay4 (F := Ideal) (arr2 (α := EReal) Y) (arr2 (α := EReal) M) (arr3 (α := EReal) fun _ _ => g) (arr3 (α := EReal) fun _ _ => b)
    = arr2 (α := EReal) (norm (res Y M) g b) := by
  unfold k0_pay4
  dsimp only
  rw [pay3]
  have e := fun Z => rowSum_arr2 (m := 1024) (n := 1024) Z reduces_S1024x1024_S1024 (.inl rfl) rfl
  erw [e]
  rw [shapeCast_arr1, broadcast_arr2, divf_arr2, broadcastTo_arr2, subf_arr2, mulf_arr2]
  erw [e]
  rw [shapeCast_arr1,
    divf_arr2, broadcast_arr2, addf_arr2, rsqrt_arr2, broadcastTo_arr2, mulf_arr2, shapeCast_arr3, shapeCast_arr3,
    broadcastTo_row _ (by decide), broadcastTo_row _ (by decide), mulf_arr2, addf_arr2]
  rfl

theorem pay5 : k0_pay5 (F := Ideal) (arr2 (α := EReal) Y) (arr2 (α := EReal) M) (arr3 (α := EReal) fun _ _ => g) (arr3 (α := EReal) fun _ _ => b)
    = arr2 (α := EReal) (norm (res Y M) g b) := pay4 Y M g b

theorem act_sh (i k : ℕ) : act (sh 512 0 A) U i k = act A U (512 + i) k := by
  simp only [act, relu, hid, mm, sh, Nat.zero_add]

theorem mm_sh (i j : ℕ) : sh 512 0 Y i j + mm 512 (act (sh 512 0 A) U) W i j = Y (512 + i) j + mm 512 (act A U) W (512 + i) j := by
  simp only [mm, act_sh]
  simp only [sh, Nat.zero_add]
end

/-- Two row tiles of 512 rows, written last. -/
theorem canon_two {n : ℕ} {e : EltTy} (W0 W1 G : ℕ → ℕ → Elt Ideal e) (i0 i1) (L : List (View.Piece (Elt Ideal) ⟨2, ![1024, n]⟩ e))
    (h0 : ∀ i j, W0 i j = G i j) (h1 : ∀ i j, W1 i j = G (512 + i) j) :
    Holds ((⟨Rect.unit ![512, 0] ![512, n] i1, arr2 (a := 512) (b := n) W1⟩ : View.Piece (Elt Ideal) ⟨2, ![1024, n]⟩ e)
      :: ⟨Rect.unit ![0, 0] ![512, n] i0, arr2 (a := 512) (b := n) W0⟩ :: L) G := by
  constructor
  · intro y
    have l0 := ValueIdx.idx2_lt0 y
    have l1 := ValueIdx.idx2_lt1 y
    by_cases a1 : 512 ≤ (y 0).val
    · exact ⟨_, .head _, (mem_rect2 (inb := i1)).2 (by omega)⟩
    · exact ⟨_, .tail _ (.head _), (mem_rect2 (inb := i0)).2 (by omega)⟩
  · funext y
    have l0 := ValueIdx.idx2_lt0 y
    have l1 := ValueIdx.idx2_lt1 y
    rw [canon_cons_arr2, canon_cons_arr2]
    show _ = G (y 0).val (y 1).val
    split_ifs with a1 a0
    · rw [h1, Nat.sub_zero, Nat.add_sub_cancel' a1.1.1]
    · rw [h0, Nat.sub_zero, Nat.sub_zero]
    · omega

variable (A U W Y M : ℕ → ℕ → EReal) (g b : ℕ → EReal)
variable (c : Dev nD) (i : grid0.Coords) (arg2 : Memref sig .tc .vmem S1024x1024 .f32) (harg2 : arg2.IsWhole)
  (arg3 : Memref sig .tc .vmem S1024x1024 .bf16) (harg3 : arg3.IsWhole) (arg4 : Memref sig .tc .vmem S1x1024x512 .bf16) (harg4 : arg4.IsWhole)
  (arg5 : Memref sig .tc .vmem S1x512x1024 .bf16) (harg5 : arg5.IsWhole) (arg6 : Memref sig .tc .vmem S1x1x1024 .f32) (harg6 : arg6.IsWhole)
  (arg7 : Memref sig .tc .vmem S1x1x1024 .f32) (harg7 : arg7.IsWhole) (arg8 : Memref sig .tc .vmem S1024x1024 .f32) (harg8 : arg8.IsWhole)
  (arg9 : Memref sig .tc .vmem S1024x1024 .f32) (harg9 : arg9.IsWhole) (arg10 : Memref sig .tc .vmem S1024x1024 .bf16) (harg10 : arg10.IsWhole)
  (arg11 : Memref sig .tc .vmem S1024x512 .bf16) (harg11 : arg11.IsWhole) (arg12 : Memref sig .tc .vmem S1024x1024 .f32) (harg12 : arg12.IsWhole)

/-- The second row tile's activations. -/
theorem r_val : kernelRun0_A.sl.r (F := Ideal) c arg3 harg3 arg4 harg4 (arr2 (α := EReal) A) (arr3 (α := EReal) fun _ => U) = arr2 (α := EReal) (act (sh 512 0 A) U) := by
  unfold kernelRun0_A.sl.r
  erw [readAt_arr3, readAt_arr2]
  rw [sh_zero, pay9]

theorem r_B : kernelRun0_B.sl.r (F := Ideal) c arg3 harg3 arg4 harg4 (arr2 (α := EReal) A) (arr3 (α := EReal) fun _ => U) = arr2 (α := EReal) (act (sh 512 0 A) U) := r_val ..
theorem r_C : kernelRun0_C.sl.r (F := Ideal) c arg3 harg3 arg4 harg4 (arr2 (α := EReal) A) (arr3 (α := EReal) fun _ => U) = arr2 (α := EReal) (act (sh 512 0 A) U) := r_val ..

/-- Both row tiles of a running sum `M` with a block's product added. -/
theorem holds_sum (M : ℕ → ℕ → EReal) (i0 i1) (L : List (View.Piece (Elt Ideal) ⟨2, ![1024, 1024]⟩ .f32)) :
    Holds ((⟨Rect.unit ![512, 0] ![512, 1024] i1, arr2 (a := 512) (b := 1024) (fun i j => sh 512 0 M i j + mm 512 (act (sh 512 0 A) U) W i j)⟩ : View.Piece (Elt Ideal) ⟨2, ![1024, 1024]⟩ .f32)
      :: ⟨Rect.unit ![0, 0] ![512, 1024] i0, arr2 (a := 512) (b := 1024) (fun i j => M i j + mm 512 (act A U) W i j)⟩ :: L)
      (fun i j => M i j + mm 512 (act A U) W i j) :=
  canon_two _ _ _ _ _ _ (fun _ _ => rfl) (mm_sh A U W M)

section A
variable (hc0 : cond0_0 i) (hc1 : ¬cond0_1 i)

theorem v13_A : kernelRun0_A.sl.v13 (F := Ideal) c arg12 = arr2 (α := EReal) zero := by
  unfold kernelRun0_A.sl.v13 kernelRun0_A.sl.HS0_1
  rw [pay6]
  exact (Holds.whole _ _).read _ _

theorem HS_A : kernelRun0_A.sl.HS0_2 (F := Ideal) c arg3 harg3 arg4 harg4 arg5 harg5 arg12 (arr2 (α := EReal) A) (arr3 (α := EReal) fun _ => U) (arr3 (α := EReal) fun _ => W)
    = [(⟨Rect.unit ![0, 0] ![512, 1024] inb_S1024x1024_S512x1024_0_0, arr2 (a := 512) (b := 1024) fun i j => zero i j + mm 512 (act A U) W i j⟩ : View.Piece (Elt Ideal) ⟨2, ![1024, 1024]⟩ .f32),
      ⟨Rect.unit ![0, 0] ![1024, 1024] inb_S1024x1024_S1024x1024_0_0, arr2 (a := 1024) (b := 1024) zero⟩] := by
  unfold kernelRun0_A.sl.HS0_2 kernelRun0_A.sl.HS0_1
  erw [v13_A, readAt_arr3, readAt_arr3, readAt_arr2]
  rw [sh_zero, sh_zero, sh_zero, pay8, pay6]

theorem v31_A : kernelRun0_A.sl.v31 (F := Ideal) c arg3 harg3 arg4 harg4 arg5 harg5 arg12 (arr2 (α := EReal) A) (arr3 (α := EReal) fun _ => U) (arr3 (α := EReal) fun _ => W)
    = arr2 (α := EReal) (sh 512 0 zero) := by
  unfold kernelRun0_A.sl.v31
  rw [HS_A]
  refine (((Holds.whole _ _).cons _ _).read _ _).trans (arr2_congr fun i j _ _ => if_neg ?_)
  omega

theorem out9_A : out0_A_9 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) = arr2 (α := EReal) (act A U) := by
  rw [out0_A_9, View.read_writes_eq_canon _ _ _ (fun y => cover0_A_9 (y := y) ..)]
  unfold kernelRun0_A
  dsimp only
  erw [r_val, readAt_arr3, readAt_arr2]
  rw [sh_zero, sh_zero, pay7, pay1]
  exact (canon_two (e := .bf16) (act A U) (act (sh 512 0 A) U) (act A U) _ _ _ (fun _ _ => rfl) (act_sh A U)).2

theorem sout_A : sout0_A_0 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) = arr2 (α := EReal) fun i j => zero i j + mm 512 (act A U) W i j := by
  rw [sout0_A_0, View.read_writes_eq_canon _ _ _ (fun y => scover0_A_0 (y := y) ..)]
  unfold kernelRun0_A
  dsimp only
  erw [r_val, v31_A, readAt_arr3, HS_A]
  rw [sh_zero, pay2]
  exact (holds_sum A U W zero _ _ _).2
end A

section B
variable (hc0 : ¬cond0_0 i) (hc1 : ¬cond0_1 i)

theorem v31_B : kernelRun0_B.sl.v31 (F := Ideal) c arg12 harg12 (arr2 (α := EReal) M) = arr2 (α := EReal) (sh 512 0 M) := by
  unfold kernelRun0_B.sl.v31
  erw [readAt_arr2]

theorem out9_B : out0_B_9 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M) = arr2 (α := EReal) (act A U) := by
  rw [out0_B_9, View.read_writes_eq_canon _ _ _ (fun y => cover0_B_9 (y := y) ..)]
  unfold kernelRun0_B
  dsimp only
  erw [r_B, readAt_arr3, readAt_arr2]
  rw [sh_zero, sh_zero, pay7, pay1]
  exact (canon_two (e := .bf16) (act A U) (act (sh 512 0 A) U) (act A U) _ _ _ (fun _ _ => rfl) (act_sh A U)).2

theorem sout_B : sout0_B_0 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M)
    = arr2 (α := EReal) fun i j => M i j + mm 512 (act A U) W i j := by
  rw [sout0_B_0, View.read_writes_eq_canon _ _ _ (fun y => scover0_B_0 (y := y) ..)]
  unfold kernelRun0_B
  dsimp only
  erw [r_B, v31_B, readAt_arr3, readAt_arr3, readAt_arr2, readAt_arr2]
  rw [sh_zero, sh_zero, sh_zero, sh_zero, pay2, pay8]
  exact (holds_sum A U W M _ _ _).2
end B

section C
variable (hc0 : ¬cond0_0 i) (hc1 : cond0_1 i)

theorem v31_C : kernelRun0_C.sl.v31 (F := Ideal) c arg12 harg12 (arr2 (α := EReal) M) = arr2 (α := EReal) (sh 512 0 M) := by
  unfold kernelRun0_C.sl.v31
  erw [readAt_arr2]

theorem HS_C : kernelRun0_C.sl.HS0_2 (F := Ideal) c arg3 harg3 arg4 harg4 arg5 harg5 arg12 harg12 (arr2 (α := EReal) A) (arr3 (α := EReal) fun _ => U) (arr3 (α := EReal) fun _ => W) (arr2 (α := EReal) M)
    = [(⟨Rect.unit ![512, 0] ![512, 1024] inb_S1024x1024_S512x1024_512_0, arr2 (a := 512) (b := 1024) fun i j => sh 512 0 M i j + mm 512 (act (sh 512 0 A) U) W i j⟩ : View.Piece (Elt Ideal) ⟨2, ![1024, 1024]⟩ .f32),
      ⟨Rect.unit ![0, 0] ![512, 1024] inb_S1024x1024_S512x1024_0_0, arr2 (a := 512) (b := 1024) fun i j => M i j + mm 512 (act A U) W i j⟩] := by
  unfold kernelRun0_C.sl.HS0_2
  erw [r_C, v31_C, readAt_arr3, readAt_arr3, readAt_arr2, readAt_arr2]
  rw [sh_zero, sh_zero, sh_zero, sh_zero, pay2, pay8]

/-- The running sum, read whole after its last block. -/
theorem v45_C : kernelRun0_C.sl.v45 (F := Ideal) c arg3 harg3 arg4 harg4 arg5 harg5 arg12 harg12 (arr2 (α := EReal) A) (arr3 (α := EReal) fun _ => U) (arr3 (α := EReal) fun _ => W) (arr2 (α := EReal) M)
    = arr2 (α := EReal) fun i j => M i j + mm 512 (act A U) W i j := by
  unfold kernelRun0_C.sl.v45
  rw [HS_C]
  refine ((holds_sum A U W M _ _ _).read _ _).trans ?_
  rw [sh_zero]

theorem out9_C : out0_C_9 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M) = arr2 (α := EReal) (act A U) := by
  rw [out0_C_9, View.read_writes_eq_canon _ _ _ (fun y => cover0_C_9 (y := y) ..)]
  unfold kernelRun0_C
  dsimp only
  erw [r_C, readAt_arr3, readAt_arr2]
  rw [sh_zero, sh_zero, pay7, pay1]
  exact (canon_two (e := .bf16) (act A U) (act (sh 512 0 A) U) (act A U) _ _ _ (fun _ _ => rfl) (act_sh A U)).2

theorem sout_C : sout0_C_0 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M)
    = arr2 (α := EReal) fun i j => M i j + mm 512 (act A U) W i j := by
  rw [sout0_C_0, View.read_writes_eq_canon _ _ _ (fun y => scover0_C_0 (y := y) ..)]
  unfold kernelRun0_C
  dsimp only
  erw [HS_C]
  exact (holds_sum A U W M _ _ _).2

theorem out6_C : out0_C_6 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M)
    = arr2 (α := EReal) (res Y fun i j => M i j + mm 512 (act A U) W i j) := by
  rw [out0_C_6, View.read_writes_eq_canon _ _ _ (fun y => cover0_C_6 (y := y) ..)]
  unfold kernelRun0_C
  dsimp only
  erw [v45_C, readAt_arr2]
  rw [sh_zero, pay3]
  exact (Holds.whole _ _).2

theorem out7_C : out0_C_7 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M)
    = arr2 (α := EReal) (norm (res Y fun i j => M i j + mm 512 (act A U) W i j) g b) := by
  rw [out0_C_7, View.read_writes_eq_canon _ _ _ (fun y => cover0_C_7 (y := y) ..)]
  unfold kernelRun0_C
  dsimp only
  erw [v45_C, readAt_arr2, readAt_arr3, readAt_arr3]
  rw [sh_zero, sh_zero, sh_zero, pay4]
  exact (Holds.whole _ _).2

theorem out8_C : out0_C_8 (F := Ideal) c i arg2 harg2 arg3 harg3 arg4 harg4 arg5 harg5 arg6 harg6 arg7 harg7 arg8 harg8 arg9 harg9 arg10 harg10
    arg11 harg11 arg12 harg12 hc0 hc1 (arr2 (α := EReal) Y) (arr2 (α := EReal) A) (arr3 (α := EReal) fun _ => U) (arr3 (α := EReal) fun _ => W)
    (arr3 (α := EReal) fun _ _ => g) (arr3 (α := EReal) fun _ _ => b) (arr2 (α := EReal) M)
    = arr2 (α := EReal) (norm (res Y fun i j => M i j + mm 512 (act A U) W i j) g b) := by
  rw [out0_C_8, View.read_writes_eq_canon _ _ _ (fun y => cover0_C_8 (y := y) ..)]
  unfold kernelRun0_C
  dsimp only
  erw [v45_C, readAt_arr2, readAt_arr3, readAt_arr3]
  rw [sh_zero, sh_zero, sh_zero, pay5]
  exact (Holds.whole _ _).2
end C

end Cert.Mlp.Fwd
-- ==== Proof.Fwd.lean ====
/-
  The MLP's forward call: the kernel's blocks and running sums are the reference's residual sum, its layer norm and its activations.
-/
module

public import proofs.«01_k».proof.Defs
public import proofs.«01_k».proof.Proof.Dh
public import proofs.«01_k».proof.Proof.MlpFwdOuts
public import proofs.«01_k».proof.Proof.Gen.Reference5Ideal.Run
public import proofs.«01_k».proof.Proof.Gen.Reference5Ideal.Read
public import Idealize.ShloMosaic.Lib.StableHlo.ReadAt
public import Idealize.ShloMosaic.Lib.Claim
public import Idealize.ShloMosaic.Lib.IdealHost

@[expose] public section

set_option maxRecDepth 16384

noncomputable section

namespace Cert.Mlp.Fwd

open Idealize.ShloMosaic Idealize.ShloMosaic.TcCoe Idealize.SL.Sem Finset Cert.Mat Cert.Mlp

/-- The residual sum of the input and its MLP. -/
def out (X W1 W2 : ℕ → ℕ → EReal) : ℕ → ℕ → EReal := res X (mm 4096 (act X W1) W2)

section Reference
open Cert.Reference5Ideal Cert.Reference5Ideal.Read

variable (X W1 W2 G B : ℕ → ℕ → EReal)

abbrev A0 : FVec Ideal S2048x1024 .f32 := arr2 (α := EReal) X
abbrev A1 : FVec Ideal S1024x4096 .bf16 := arr2 (α := EReal) W1
abbrev A2 : FVec Ideal S4096x1024 .bf16 := arr2 (α := EReal) W2
abbrev A3 : FVec Ideal S4x1024 .f32 := arr2 (α := EReal) G
abbrev A4 : FVec Ideal S4x1024 .f32 := arr2 (α := EReal) B

theorem v5_arr (i) : val_main_v5 (F := Ideal) (A0 X) (A1 W1) i = relu X W1 (i 0).val (i 1).val := by
  have e : val_main_v4 (F := Ideal) (A0 X) (A1 W1) i = hid X W1 (i 0).val (i 1).val := by
    rw [val_main_v4_apply]
    exact Fin.sum_univ_eq_sum_range (fun k => (X (i 0).val k * W1 k (i 1).val : EReal)) 1024
  rw [val_main_v5_apply, val_main_call0_v0_apply, val_main_call0_cst_apply, e]
  exact congrArg (fun y : EReal => max (hid X W1 (i 0).val (i 1).val) y) Ideal.ofBits_zero_f32

theorem v6_arr : val_main_v6 (F := Ideal) (A0 X) (A1 W1) = arr2 (α := EReal) (act X W1) := by
  funext i
  rw [val_main_v6_apply, v5_arr]
  rfl

/-- The reference computes the hidden values a second time for the activations it returns. -/
theorem v42_arr : val_main_v42 (F := Ideal) (A0 X) (A1 W1) = arr2 (α := EReal) (act X W1) :=
  Eq.trans rfl (v6_arr X W1)

theorem v8_arr : val_main_v8 (F := Ideal) (A0 X) (A1 W1) (A2 W2) = arr2 (α := EReal) (out X W1 W2) := by
  funext i
  rw [val_main_v8_apply, val_main_v1_apply, val_main_v0_apply, val_main_cst_apply, val_main_v7_apply, v6_arr]
  exact congrArg (fun x : EReal => alpha * X (i 0).val (i 1).val + x)
    (Fin.sum_univ_eq_sum_range (fun k => (act X W1 (i 0).val k * W2 k (i 1).val : EReal)) 4096)

/-- The reference's row sums start from zero. -/
theorem sum_from_zero (f : ℕ → EReal) (n : ℕ) : Ideal.ofBits .f32 0x00000000#32 + ∑ k : Fin n, f k.val = ∑ k ∈ range n, f k := by
  rw [Ideal.ofBits_zero_f32, zero_add]
  exact Fin.sum_univ_eq_sum_range f n

theorem v18_arr : val_main_v18 (F := Ideal) (A0 X) (A1 W1) (A2 W2) = arr2 (α := EReal) (centred (out X W1 W2)) := by
  funext i
  rw [val_main_v18_apply, val_main_v17_apply, val_main_v16_apply, val_main_v15_apply, val_main_cst_1_apply, val_main_v14_apply,
    val_main_v13_apply, val_main_cst_0_apply, v8_arr]
  exact congrArg (fun x : EReal => out X W1 W2 (i 0).val (i 1).val - Ideal.div x len) (sum_from_zero (fun k => out X W1 W2 (i 0).val k) 1024)

theorem v23_arr (i) : val_main_v23 (F := Ideal) (A0 X) (A1 W1) (A2 W2) i = var (out X W1 W2) (i 0).val := by
  rw [val_main_v23_apply, val_main_v22_apply, val_main_cst_3_apply, val_main_v21_apply, val_main_v20_apply, val_main_cst_2_apply]
  have e : val_main_v19 (F := Ideal) (A0 X) (A1 W1) (A2 W2) = arr2 (α := EReal) fun i j => centred (out X W1 W2) i j * centred (out X W1 W2) i j := by
    funext i
    rw [val_main_v19_apply, v18_arr]
    rfl
  rw [e]
  exact congrArg (fun x : EReal => Ideal.div x len)
    (sum_from_zero (fun k => centred (out X W1 W2) (i 0).val k * centred (out X W1 W2) (i 0).val k) 1024)

theorem gain (i) : val_main_v32 (F := Ideal) (A3 G) i = G 0 (i 1).val := by
  rw [val_main_v32_apply, val_main_v31_apply, val_main_v10_apply, val_main_v9_apply]
  show G 0 ((i 1).val % 1024) = _
  rw [Nat.mod_eq_of_lt (show (i 1).val < 1024 from (i 1).isLt)]

theorem offset (i) : val_main_v35 (F := Ideal) (A4 B) i = B 0 (i 1).val := by
  rw [val_main_v35_apply, val_main_v34_apply, val_main_v12_apply, val_main_v11_apply]
  show B 0 ((i 1).val % 1024) = _
  rw [Nat.mod_eq_of_lt (show (i 1).val < 1024 from (i 1).isLt)]

theorem v36_arr : val_main_v36 (F := Ideal) (A0 X) (A1 W1) (A2 W2) (A3 G) (A4 B) = arr2 (α := EReal) (norm (out X W1 W2) (G 0) (B 0)) := by
  funext i
  have e : val_main_v25 (F := Ideal) (A0 X) (A1 W1) (A2 W2) = val_main_v18 (F := Ideal) (A0 X) (A1 W1) (A2 W2) := rfl
  rw [val_main_v36_apply, offset, val_main_v33_apply, gain, val_main_v30_apply, e, v18_arr, val_main_v29_apply, val_main_v28_apply,
    val_main_v27_apply, v23_arr, val_main_v26_apply, val_main_cst_4_apply]
  rfl

variable (m : (ℓ : Loc nD τ sig) → Buf (Elt Ideal) ℓ)

/-- The reference's run, its results as functions of its arguments. -/
theorem run_stages (ρ : Dev nD → PrngReg) (X W1 W2 G B : Dev nD → ℕ → ℕ → EReal)
    (ha : ∀ c : Dev nD, m ((c : Thread nD τ).loc main_arg0) = A0 (X c) ∧ m ((c : Thread nD τ).loc main_arg1) = A1 (W1 c)
      ∧ m ((c : Thread nD τ).loc main_arg2) = A2 (W2 c) ∧ m ((c : Thread nD τ).loc main_arg3) = A3 (G c)
      ∧ m ((c : Thread nD τ).loc main_arg4) = A4 (B c)) :
    θ_run defs (onTc (τ := τ) (main (F := Ideal))) ⟨m, fun _ => 0, ρ⟩ fun r => ∀ c : Dev nD,
      r.2.mem ((c : Thread nD τ).loc main_v8) = arr2 (α := EReal) (out (X c) (W1 c) (W2 c))
      ∧ r.2.mem ((c : Thread nD τ).loc main_v36) = arr2 (α := EReal) (norm (out (X c) (W1 c) (W2 c)) (G c 0) (B c 0))
      ∧ r.2.mem ((c : Thread nD τ).loc main_v37) = arr2 (α := EReal) (norm (out (X c) (W1 c) (W2 c)) (G c 0) (B c 0))
      ∧ r.2.mem ((c : Thread nD τ).loc main_v42) = arr2 (α := EReal) (act (X c) (W1 c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference5Ideal.Value.run (F := Ideal) m ρ)
  obtain ⟨h0, h1, h2, h3, hk⟩ := h c
  obtain ⟨a0, a1, a2, a3, a4⟩ := ha c
  refine ⟨(h0.trans (val_main_v8_eq _ _ _)).trans ?_, (h1.trans (val_main_v36_eq m c)).trans ?_,
    (h2.trans (val_main_v37_eq m c)).trans ?_, (h3.trans (val_main_v42_eq _ _)).trans ?_, hk⟩
  · rw [a0, a1, a2]
    exact v8_arr _ _ _
  · rw [a0, a1, a2, a3, a4]
    exact v36_arr _ _ _ _ _
  · rw [a0, a1, a2, a3, a4]
    exact Eq.trans rfl (v36_arr _ _ _ _ _)
  · rw [a0, a1]
    exact v42_arr _ _

theorem frame : Cert.quiescent_Reference5Ideal (hReference5Ideal := Cert.Reference5Ideal.Gen.facts) := fun m ρ _ =>
  (θ_run Reference5Ideal.defs _ _).mono (fun r h => ⟨fun c => (h c).2.2.2.2, sem_eq_zero_of_no_sems (by decide) r.2⟩)
    (Cert.Reference5Ideal.Value.run m ρ)

end Reference

section Kernel
open Cert.Kernel5Ideal Cert.Kernel5Ideal.Gen

variable (m : (ℓ : Loc nD τ sig) → Buf (Elt Ideal) ℓ) (c : Dev nD)

def X : ℕ → ℕ → EReal := get2 (m ((c : Thread nD τ).loc main_arg0))
def W1 : ℕ → ℕ → EReal := get2 (m ((c : Thread nD τ).loc main_arg1))
def W2 : ℕ → ℕ → EReal := get2 (m ((c : Thread nD τ).loc main_arg2))
def G : ℕ → ℕ → EReal := get2 (m ((c : Thread nD τ).loc main_arg3))
def B : ℕ → ℕ → EReal := get2 (m ((c : Thread nD τ).loc main_arg4))

/-- A row per layer, as planes of one row. -/
theorem row_planes (W : ℕ → ℕ → EReal) : shapeCast S4x1x1024 (arr2 (α := EReal) (a := 4) (b := 1024) W) shapeCasts_S4x1024_S4x1x1024
    = arr3 (α := EReal) fun p _ j => W p j := by
  funext i
  have h0 : (i 0).val < 4 := (i 0).isLt
  have h1 : (i 1).val < 1 := (i 1).isLt
  have h2 : (i 2).val < 1024 := (i 2).isLt
  refine (shapeCast_apply _ shapeCasts_S4x1024_S4x1x1024 i (fun a => match a with
    | ⟨0, _⟩ => (⟨(i 0).val, h0⟩ : Fin 4)
    | ⟨1, _⟩ => (⟨(i 2).val, h2⟩ : Fin 1024)) ?_).trans rfl
  rewrite [Shape.rowMajor_val_two, Shape.rowMajor_val_three]
  show (i 0).val * 1024 + (i 2).val = ((i 0).val * 1 + (i 1).val) * 1024 + (i 2).val
  omega

set_option maxRecDepth 100000 in
theorem x_read : V m c main_v0 = arr2 (α := EReal) (X m c) := by
  unfold X
  rw [arr2_get2]
  unfold V
  simp only [hostOps0, List.flatten_cons, List.flatten_nil, List.cons_append, List.nil_append, List.append_nil]
  after_reads_simp
  rfl

set_option maxRecDepth 100000 in
theorem w1_read : V m c main_v2 = arr3 (α := EReal) fun p i j => W1 m c i (512 * p + j) := by
  rw [← Dh.cols_blocks]
  unfold W1
  rw [arr2_get2]
  unfold V
  simp only [hostOps0, List.flatten_cons, List.flatten_nil, List.cons_append, List.nil_append, List.append_nil]
  after_reads_simp
  rfl

set_option maxRecDepth 100000 in
theorem w2_read : V m c main_v3 = arr3 (α := EReal) fun p i j => W2 m c (512 * p + i) j := by
  rw [← Dh.rows_blocks]
  unfold W2
  rw [arr2_get2]
  unfold V
  simp only [hostOps0, List.flatten_cons, List.flatten_nil, List.cons_append, List.nil_append, List.append_nil]
  after_reads_simp
  rfl

set_option maxRecDepth 100000 in
theorem g_read : V m c main_v4 = arr3 (α := EReal) fun p _ j => G m c p j := by
  rw [← row_planes]
  unfold G
  rw [arr2_get2]
  unfold V
  simp only [hostOps0, List.flatten_cons, List.flatten_nil, List.cons_append, List.nil_append, List.append_nil]
  after_reads_simp
  rfl

set_option maxRecDepth 100000 in
theorem b_read : V m c main_v5 = arr3 (α := EReal) fun p _ j => B m c p j := by
  rw [← row_planes]
  unfold B
  rw [arr2_get2]
  unfold V
  simp only [hostOps0, List.flatten_cons, List.flatten_nil, List.cons_append, List.nil_append, List.append_nil]
  after_reads_simp
  rfl

theorem idx : ∀ t : Fin grid0.N, (win0_0.index t 0 = t.val / 8 ∧ win0_0.index t 1 = 0)
    ∧ (win0_1.index t 0 = t.val / 8 ∧ win0_1.index t 1 = 0)
    ∧ (win0_2.index t 0 = t.val % 8 ∧ win0_2.index t 1 = 0 ∧ win0_2.index t 2 = 0)
    ∧ (win0_3.index t 0 = t.val % 8 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = t.val / 8 ∧ win0_6.index t 1 = 0)
    ∧ (win0_7.index t 0 = t.val / 8 ∧ win0_7.index t 1 = 0)
    ∧ (win0_8.index t 0 = t.val / 8 ∧ win0_8.index t 1 = 0)
    ∧ (win0_9.index t 0 = t.val / 8 ∧ win0_9.index t 1 = t.val % 8) := by decide +kernel

theorem iblk0 (t : Fin cfg0.N) : iblk m c 0 t = arr2 (α := EReal) (sh (t.val / 8 * 1024) 0 (X m c)) := by
  funext j
  unfold iblk
  rw [View.read_apply]
  show V m c main_arg0 _ = _
  rw [V_main_arg0]
  refine (block_read (idx t).1.1 (idx t).1.2 rfl rfl).trans ?_
  rw [Nat.zero_mul]
  rfl

theorem iblk1 (t : Fin cfg0.N) : iblk m c 1 t = arr2 (α := EReal) (sh (t.val / 8 * 1024) 0 (X m c)) := by
  funext j
  unfold iblk
  rw [View.read_apply]
  show V m c main_v0 _ = _
  rw [x_read]
  rw [← Nat.zero_mul 1024]
  exact (block_write (j := j) (j' := j) (X m c) (idx t).2.1.1 (idx t).2.1.2 rfl rfl fun _ => rfl).symm

theorem iblk2 (t : Fin cfg0.N) : iblk m c 2 t = arr3 (α := EReal) fun _ i j => W1 m c i (512 * (t.val % 8) + j) := by
  funext j
  unfold iblk
  rw [View.read_apply]
  show V m c main_v2 _ = _
  rw [w1_read]
  exact (plane_write (j := j) (j' := j) (fun p i j => W1 m c i (512 * p + j)) (idx t).2.2.1.1 (idx t).2.2.1.2.1 (idx t).2.2.1.2.2 rfl rfl rfl fun _ => rfl).symm

theorem iblk3 (t : Fin cfg0.N) : iblk m c 3 t = arr3 (α := EReal) fun _ i j => W2 m c (512 * (t.val % 8) + i) j := by
  funext j
  unfold iblk
  rw [View.read_apply]
  show V m c main_v3 _ = _
  rw [w2_read]
  exact (plane_write (j := j) (j' := j) (fun p i j => W2 m c (512 * p + i) j) (idx t).2.2.2.1.1 (idx t).2.2.2.1.2.1 (idx t).2.2.2.1.2.2 rfl rfl rfl fun _ => rfl).symm

theorem iblk4 (t : Fin cfg0.N) : iblk m c 4 t = arr3 (α := EReal) fun _ _ => G m c 0 := by
  funext j
  unfold iblk
  rw [View.read_apply]
  show V m c main_v4 _ = _
  rw [g_read]
  exact (plane_write (j := j) (j' := j) (fun p _ j => G m c p j) (idx t).2.2.2.2.1.1 (idx t).2.2.2.2.1.2.1 (idx t).2.2.2.2.1.2.2 rfl rfl rfl fun _ => rfl).symm

theorem iblk5 (t : Fin cfg0.N) : iblk m c 5 t = arr3 (α := EReal) fun _ _ => B m c 0 := by
  funext j
  unfold iblk
  rw [View.read_apply]
  show V m c main_v5 _ = _
  rw [b_read]
  exact (plane_write (j := j) (j' := j) (fun p _ j => B m c p j) (idx t).2.2.2.2.2.1.1 (idx t).2.2.2.2.2.1.2.1 (idx t).2.2.2.2.2.1.2.2 rfl rfl rfl fun _ => rfl).symm

/-- The activations, the residual sum and its norm. -/
abbrev Act : ℕ → ℕ → EReal := act (X m c) (W1 m c)
abbrev Z : ℕ → ℕ → EReal := out (X m c) (W1 m c) (W2 m c)
abbrev N : ℕ → ℕ → EReal := norm (Z m c) (G m c 0) (B m c 0)

/-- One point's activations are its block of the activations. -/
theorem act_eq (r b : ℕ) : act (sh (r * 1024) 0 (X m c)) (fun i j => W1 m c i (512 * b + j)) = sh (r * 1024) (b * 512) (Act m c) := by
  funext i k
  simp only [act, relu, hid, mm, sh, Nat.zero_add, Nat.mul_comm 512 b]

/-- What block `b` of the hidden axis adds to row `i`, column `j` of the MLP's output. -/
def part (r b : ℕ) : ℕ → ℕ → EReal := fun i j => ∑ k ∈ range 512, Act m c (r * 1024 + i) (512 * b + k) * W2 m c (512 * b + k) j

theorem part_eq (r b : ℕ) : mm 512 (sh (r * 1024) (b * 512) (Act m c)) (fun i j => W2 m c (512 * b + i) j) = part m c r b := by
  funext i j
  unfold part mm sh
  rw [Nat.mul_comm b 512]

theorem parts (r i j : ℕ) : ∑ b ∈ range 8, part m c r b i j = mm 4096 (Act m c) (W2 m c) (r * 1024 + i) j :=
  sum_blocks (fun k => Act m c (r * 1024 + i) k * W2 m c k j) 8

/-- The running sum after a point. -/
def sums (n : ℕ) : ℕ → ℕ → EReal := fun i j => ∑ b ∈ range (n % 8 + 1), part m c (n / 8) b i j

theorem sums_first (n : ℕ) (h : n % 8 = 0) : (fun i j => zero i j + part m c (n / 8) (n % 8) i j) = sums m c n := by
  funext i j
  rw [sums, h, zero_add, range_one, sum_singleton]
  exact zero_add _

theorem sums_next (n : ℕ) (h : ¬n % 8 = 0) : (fun i j => sums m c (n - 1) i j + part m c (n / 8) (n % 8) i j) = sums m c n := by
  funext i j
  have e0 : (n - 1) / 8 = n / 8 := by omega
  have e1 : (n - 1) % 8 + 1 = n % 8 := by omega
  rw [sums, sums, e0, e1, Finset.sum_range_succ]

/-- What the activations' block and the running sum hold after each point. -/
theorem outs_eq : ∀ (n : ℕ) (hn : n < cfg0.N), (outsAt0 m c n hn).2.2.2 =
    (arr2 (α := EReal) (sh (n / 8 * 1024) (n % 8 * 512) (Act m c)), arr2 (α := EReal) (sums m c n))
  | n, hn => by
    by_cases h : n % 8 = 0
    · rw [show outsAt0 m c n hn = _ from outsAt0_A m c ⟨n, hn⟩ h (by dsimp only; omega)]
      rw [iblk0, iblk1, iblk2, iblk3, iblk4, iblk5]
      dsimp only
      rw [out9_A, sout_A, act_eq, part_eq, sums_first m c n h]
    · have ih := outs_eq (n - 1) (Nat.lt_of_le_of_lt (Nat.sub_le _ _) hn)
      by_cases h7 : n % 8 = 7
      · rw [show outsAt0 m c n hn = _ from outsAt0_C m c ⟨n, hn⟩ h h7]
        rw [iblk0, iblk1, iblk2, iblk3, iblk4, iblk5]
        dsimp only at ih ⊢
        rw [ih]
        dsimp only
        rw [out9_C, sout_C, act_eq, part_eq, sums_next m c n h]
      · rw [show outsAt0 m c n hn = _ from outsAt0_B m c ⟨n, hn⟩ h h7]
        rw [iblk0, iblk1, iblk2, iblk3, iblk4, iblk5]
        dsimp only at ih ⊢
        rw [ih]
        dsimp only
        rw [out9_B, sout_B, act_eq, part_eq, sums_next m c n h]

/-- The residual sum of a row block, from its whole running sum. -/
theorem res_eq (n : ℕ) (h7 : n % 8 = 7) : res (sh (n / 8 * 1024) 0 (X m c)) (sums m c n) = sh (n / 8 * 1024) (0 * 1024) (Z m c) := by
  funext i j
  rw [res, sums, h7, parts]
  simp only [sh, Nat.zero_add, Nat.zero_mul]
  rfl

/-- The norm acts row by row. -/
theorem norm_sh (p : ℕ) (Z : ℕ → ℕ → EReal) (g b : ℕ → EReal) : norm (sh p (0 * 1024) Z) g b = sh p (0 * 1024) (norm Z g b) := by
  funext i j
  simp only [norm, var, centred, sh, Nat.zero_add, Nat.zero_mul]

/-- What the last point of a row block leaves in the residual sum's and the norm's blocks. -/
theorem outs_last (n : ℕ) (hn : n < cfg0.N) (h7 : n % 8 = 7) :
    (outsAt0 m c n hn).1 = arr2 (α := EReal) (sh (n / 8 * 1024) (0 * 1024) (Z m c))
    ∧ (outsAt0 m c n hn).2.1 = arr2 (α := EReal) (sh (n / 8 * 1024) (0 * 1024) (N m c))
    ∧ (outsAt0 m c n hn).2.2.1 = arr2 (α := EReal) (sh (n / 8 * 1024) (0 * 1024) (N m c)) := by
  have h : ¬n % 8 = 0 := by omega
  have ih := outs_eq m c (n - 1) (Nat.lt_of_le_of_lt (Nat.sub_le _ _) hn)
  rw [show outsAt0 m c n hn = _ from outsAt0_C m c ⟨n, hn⟩ h h7]
  rw [iblk0, iblk1, iblk2, iblk3, iblk4, iblk5]
  dsimp only at ih ⊢
  rw [ih]
  dsimp only
  rw [out6_C, out7_C, out8_C, act_eq, part_eq, sums_next m c n h, res_eq m c n h7, norm_sh]
  exact ⟨rfl, rfl, rfl⟩

theorem last_cover (i : (⟨2, ![2048, 1024]⟩ : Shape).Idx) : (i 0).val / 1024 * 8 + 7 < cfg0.N := by
  have l0 : (i 0).val < 2048 := (i 0).isLt
  exact lt_of_lt_of_eq (by omega) N_0.symm

/-- The residual sum the kernel leaves. -/
theorem arr_z : (dats m 0 c).arrAt 6 cfg0.N = arr2 (α := EReal) (Z m c) := by
  refine (dats m 0 c).arrAt_eq_of_cover 6 (arr2 (α := EReal) (Z m c)) (fun t ht => ?_) fun i => ?_
  · have h7 := (flush0_6 t).1 ht
    rw [Value.flushed6, (outs_last m c t.val t.isLt h7).1]
    funext j
    rw [View.read_apply]
    show arr2 (a := 1024) (b := 1024) (sh (t.val / 8 * 1024) (0 * 1024) (Z m c)) ((cfg0.win 6).xinj (grid0.coords t) j) =
      arr2 (a := 2048) (b := 1024) (Z m c) (((cfg0.win 6).blk t).view.emb j)
    refine block_write (j := j) _ (idx t).2.2.2.2.2.2.1.1 (idx t).2.2.2.2.2.2.1.2 ?_ ?_ fun _ => ?_ <;> rfl
  · have l1 : (i 1).val < 1024 := (i 1).isLt
    have hi := (idx ⟨_, last_cover i⟩).2.2.2.2.2.2.1
    refine ⟨⟨_, last_cover i⟩, (flush0_6 _).2 (by dsimp only; omega), ?_⟩
    show i ∈ ((View.whole main_v6_0).slice (win0_6.rect ⟨_, last_cover i⟩)).set
    rw [View.set_slice_whole, Rect.mem_set_unit]
    exact block_cover (f := win0_6.index ⟨_, last_cover i⟩) (hi.1.trans (by dsimp only; omega)) (hi.2.trans (by dsimp only; omega)) (by omega) (by omega)

/-- The norm the kernel leaves. -/
theorem arr_n : (dats m 0 c).arrAt 7 cfg0.N = arr2 (α := EReal) (N m c) := by
  refine (dats m 0 c).arrAt_eq_of_cover 7 (arr2 (α := EReal) (N m c)) (fun t ht => ?_) fun i => ?_
  · have h7 := (flush0_7 t).1 ht
    rw [Value.flushed7, (outs_last m c t.val t.isLt h7).2.1]
    funext j
    rw [View.read_apply]
    show arr2 (a := 1024) (b := 1024) (sh (t.val / 8 * 1024) (0 * 1024) (N m c)) ((cfg0.win 7).xinj (grid0.coords t) j) =
      arr2 (a := 2048) (b := 1024) (N m c) (((cfg0.win 7).blk t).view.emb j)
    refine block_write (j := j) _ (idx t).2.2.2.2.2.2.2.1.1 (idx t).2.2.2.2.2.2.2.1.2 ?_ ?_ fun _ => ?_ <;> rfl
  · have l1 : (i 1).val < 1024 := (i 1).isLt
    have hi := (idx ⟨_, last_cover i⟩).2.2.2.2.2.2.2.1
    refine ⟨⟨_, last_cover i⟩, (flush0_7 _).2 (by dsimp only; omega), ?_⟩
    show i ∈ ((View.whole main_v6_1).slice (win0_7.rect ⟨_, last_cover i⟩)).set
    rw [View.set_slice_whole, Rect.mem_set_unit]
    exact block_cover (f := win0_7.index ⟨_, last_cover i⟩) (hi.1.trans (by dsimp only; omega)) (hi.2.trans (by dsimp only; omega)) (by omega) (by omega)

/-- Its copy in the narrow format. -/
theorem arr_nb : (dats m 0 c).arrAt 8 cfg0.N = arr2 (α := EReal) (N m c) := by
  refine (dats m 0 c).arrAt_eq_of_cover 8 (arr2 (α := EReal) (N m c)) (fun t ht => ?_) fun i => ?_
  · have h7 := (flush0_8 t).1 ht
    rw [Value.flushed8, (outs_last m c t.val t.isLt h7).2.2]
    funext j
    rw [View.read_apply]
    show arr2 (a := 1024) (b := 1024) (sh (t.val / 8 * 1024) (0 * 1024) (N m c)) ((cfg0.win 8).xinj (grid0.coords t) j) =
      arr2 (a := 2048) (b := 1024) (N m c) (((cfg0.win 8).blk t).view.emb j)
    refine block_write (j := j) _ (idx t).2.2.2.2.2.2.2.2.1.1 (idx t).2.2.2.2.2.2.2.2.1.2 ?_ ?_ fun _ => ?_ <;> rfl
  · have l1 : (i 1).val < 1024 := (i 1).isLt
    have hi := (idx ⟨_, last_cover i⟩).2.2.2.2.2.2.2.2.1
    refine ⟨⟨_, last_cover i⟩, (flush0_8 _).2 (by dsimp only; omega), ?_⟩
    show i ∈ ((View.whole main_v6_2).slice (win0_8.rect ⟨_, last_cover i⟩)).set
    rw [View.set_slice_whole, Rect.mem_set_unit]
    exact block_cover (f := win0_8.index ⟨_, last_cover i⟩) (hi.1.trans (by dsimp only; omega)) (hi.2.trans (by dsimp only; omega)) (by omega) (by omega)

/-- The activations the kernel leaves. -/
theorem arr_act : (dats m 0 c).arrAt 9 cfg0.N = arr2 (α := EReal) (Act m c) := by
  refine (dats m 0 c).arrAt_eq_of_cover 9 (arr2 (α := EReal) (Act m c)) (fun t _ => ?_) fun i => ?_
  · rw [Value.flushed9, outs_eq]
    funext j
    rw [View.read_apply]
    show arr2 (a := 1024) (b := 512) (sh (t.val / 8 * 1024) (t.val % 8 * 512) (Act m c)) ((cfg0.win 9).xinj (grid0.coords t) j) =
      arr2 (a := 2048) (b := 4096) (Act m c) (((cfg0.win 9).blk t).view.emb j)
    refine block_write (j := j) _ (idx t).2.2.2.2.2.2.2.2.2.1 (idx t).2.2.2.2.2.2.2.2.2.2 ?_ ?_ fun _ => ?_ <;> rfl
  · have l0 : (i 0).val < 2048 := (i 0).isLt
    have l1 : (i 1).val < 4096 := (i 1).isLt
    have hN : (i 0).val / 1024 * 8 + (i 1).val / 512 < cfg0.N := lt_of_lt_of_eq (by omega) N_0.symm
    have hi := (idx ⟨_, hN⟩).2.2.2.2.2.2.2.2.2
    refine ⟨⟨_, hN⟩, flush0_9 _, ?_⟩
    show i ∈ ((View.whole main_v6_3).slice (win0_9.rect ⟨_, hN⟩)).set
    rw [View.set_slice_whole, Rect.mem_set_unit]
    exact block_cover (f := win0_9.index ⟨_, hN⟩) (hi.1.trans (by dsimp only; omega)) (hi.2.trans (by dsimp only; omega)) (by omega) (by omega)

end Kernel

theorem algebraic : algebraic_Kernel5Ideal_Reference5Ideal (hKernel5Ideal := Kernel5Ideal.Gen.facts)
    (hReference5Ideal := Reference5Ideal.Gen.facts) := by
  intro m g m' g' _ hargs
  refine ⟨fun c => arr2 (α := EReal) (Z m c), fun c => arr2 (α := EReal) (N m c), fun c => arr2 (α := EReal) (N m c),
    fun c => arr2 (α := EReal) (Act m c), ?_, ?_⟩
  · refine (θ_run _ _ _).mono (fun r h c => ?_) (Kernel5Ideal.Value.run_blocks m g)
    exact ⟨(h c).1.trans (arr_z m c), (h c).2.1.trans (arr_n m c), (h c).2.2.1.trans (arr_nb m c), (h c).2.2.2.1.trans (arr_act m c),
      (h c).2.2.2.2⟩
  · refine run_stages m' g' (fun c => X m c) (fun c => W1 m c) (fun c => W2 m c) (fun c => G m c) (fun c => B m c) fun c => ?_
    obtain ⟨b0, b1, b2, b3, b4⟩ := hargs c
    exact ⟨b0.trans (arr2_get2 _).symm, b1.trans (arr2_get2 _).symm, b2.trans (arr2_get2 _).symm, b3.trans (arr2_get2 _).symm,
      b4.trans (arr2_get2 _).symm⟩

end Cert.Mlp.Fwd
-- ==== Proof.Products.lean ====
/-
  A block of a product of two matrices is the product of a block of either.
-/
module

public import proofs.«01_k».proof.Proof.MlpMath

@[expose] public section

noncomputable section

namespace Cert.Mat

open Idealize.ShloMosaic

variable (K p : ℕ) (A B : ℕ → ℕ → EReal)

/-- A block of columns of `A Bᵀ` takes a block of `B`'s rows. -/
theorem mmT_rows (a : ℕ) : mmT K A (sh p 0 B) = sh (0 * a) p (mmT K A B) := by
  funext i j
  simp only [mmT, sh, Nat.zero_add, Nat.zero_mul]

/-- A block of rows of `A Bᵀ` takes a block of `A`'s rows. -/
theorem mmT_left (b : ℕ) : mmT K (sh p 0 A) B = sh p (0 * b) (mmT K A B) := by
  funext i j
  simp only [mmT, sh, Nat.zero_add, Nat.zero_mul]

/-- A block of rows of `A B` takes a block of `A`'s rows. -/
theorem mm_left (b : ℕ) : mm K (sh p 0 A) B = sh p (0 * b) (mm K A B) := by
  funext i j
  simp only [mm, sh, Nat.zero_add, Nat.zero_mul]

/-- A block of rows of `Aᵀ B` takes a block of `A`'s columns. -/
theorem mTm_left (b : ℕ) : mTm K (sh 0 p A) B = sh p (0 * b) (mTm K A B) := by
  funext i j
  simp only [mTm, sh, Nat.zero_add, Nat.zero_mul]

/-- A block of columns of `Aᵀ B` takes a block of `B`'s columns. -/
theorem mTm_right (a : ℕ) : mTm K A (sh 0 p B) = sh (0 * a) p (mTm K A B) := by
  funext i j
  simp only [mTm, sh, Nat.zero_add, Nat.zero_mul]

/-- The residual branch's factor, the float nearest to the fourth root of 8. -/
def alpha : EReal := (FloatOps.ofBits .f32 0x3FD744FD#32 : Ideal .f32)

/-- A block's gradient and its share of the residual branch. -/
def resid (G Z : ℕ → ℕ → EReal) : ℕ → ℕ → EReal := fun i j => G i j + alpha * Z i j

theorem resid_sh (q : ℕ) (G Z : ℕ → ℕ → EReal) : resid (sh p q G) (sh p q Z) = sh p q (resid G Z) := rfl

section Planes

variable {e : EltTy} {n a b d : ℕ}

theorem mem_plane {inb} {y : (⟨3, ![n, a, b]⟩ : Shape).Idx} :
    y ∈ (Rect.unit (s := ⟨3, ![n, a, b]⟩) ![d, 0, 0] ![1, a, b] inb).set ↔ (y 0).val = d := by
  rw [Rect.mem_set_unit]
  refine ⟨fun h => ?_, fun h k => ?_⟩
  · have h0 : d ≤ (y 0).val ∧ (y 0).val < d + 1 := h 0
    omega
  · have l1 : (y 1).val < a := (y 1).isLt
    have l2 : (y 2).val < b := (y 2).isLt
    match k with
    | ⟨0, _⟩ => show d ≤ (y 0).val ∧ (y 0).val < d + 1; omega
    | ⟨1, _⟩ => show 0 ≤ (y 1).val ∧ (y 1).val < 0 + a; omega
    | ⟨2, _⟩ => show 0 ≤ (y 2).val ∧ (y 2).val < 0 + b; omega

/-- What an array holds after one of its planes is written. -/
theorem canon_plane (inb) (W : ℕ → ℕ → Elt Ideal e) (L : List (View.Piece (Elt Ideal) ⟨3, ![n, a, b]⟩ e))
    (y : (⟨3, ![n, a, b]⟩ : Shape).Idx) :
    View.canon ((⟨Rect.unit ![d, 0, 0] ![1, a, b] inb, arr3 (a := 1) (b := a) (c := b) fun _ => W⟩ :
        View.Piece (Elt Ideal) ⟨3, ![n, a, b]⟩ e) :: L) y
      = if (y 0).val = d then W (y 1).val (y 2).val else View.canon L y := by
  by_cases hm : y ∈ (Rect.unit (s := ⟨3, ![n, a, b]⟩) ![d, 0, 0] ![1, a, b] inb).set
  · rw [if_pos (mem_plane.1 hm)]
    obtain ⟨x, hx⟩ := (Rect.unit (s := ⟨3, ![n, a, b]⟩) ![d, 0, 0] ![1, a, b] inb).exists_idx_of_mem hm
    have h1 : (y 1).val = 0 + 1 * (x 1).val := congrArg (fun z => (z 1).val) hx.symm
    have h2 : (y 2).val = 0 + 1 * (x 2).val := congrArg (fun z => (z 2).val) hx.symm
    have h := View.canon_cons_emb (Val := Elt Ideal) (Rect.unit (s := ⟨3, ![n, a, b]⟩) ![d, 0, 0] ![1, a, b] inb)
      (arr3 fun _ => W) L x
    rw [show (Rect.unit (s := ⟨3, ![n, a, b]⟩) ![d, 0, 0] ![1, a, b] inb).emb x = y from hx] at h
    refine h.trans ?_
    rw [h1, h2, Nat.one_mul, Nat.one_mul, Nat.zero_add, Nat.zero_add]
    rfl
  · rw [if_neg (fun h => hm (mem_plane.2 h))]
    exact View.canon_cons_of_not_mem (⟨Rect.unit ![d, 0, 0] ![1, a, b] inb, arr3 (a := 1) (b := a) (c := b) fun _ => W⟩ :
      View.Piece (Elt Ideal) ⟨3, ![n, a, b]⟩ e) L hm

end Planes

end Cert.Mat
-- ==== Proof.EvenDwin.lean ====
/-
  The gradient of an even layer's input projection: the kernel's eight products, one per device, are the reference's one
  product, cut into blocks.
-/
module

public import proofs.«01_k».proof.Defs
public import proofs.«01_k».proof.Proof.Products
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim

@[expose] public section

set_option maxRecDepth 16384

noncomputable section

namespace Cert.Even.Dwin

open Idealize.ShloMosaic Idealize.ShloMosaic.TcCoe Idealize.SL.Sem Finset Cert.Mat Cert.Mlp

/-- The gradient, block `b` of the projected axis, row `d`, column `k` of the block. -/
def dw (X P : ℕ → ℕ → EReal) : ℕ → ℕ → ℕ → EReal := fun b d k => mTm 2048 X P d (320 * b + k)

section Reference
open Cert.Reference6Ideal Cert.Reference6Ideal.Read

variable (X P : ℕ → ℕ → EReal)

abbrev A0 : FVec Ideal S2048x1024 .bf16 := arr2 (α := EReal) X
abbrev A1 : FVec Ideal S2048x2560 .bf16 := arr2 (α := EReal) P

theorem stages : val_main_v8 (F := Ideal) (A0 X) (A1 P) = arr3 (α := EReal) (dw X P) := by
  funext i
  have h0 : (i 0).val < 8 := (i 0).isLt
  have h2 : (i 2).val < 320 := (i 2).isLt
  rw [val_main_v8_apply, val_main_v7_apply, val_main_v6_apply, val_main_v5_apply, val_main_v4_apply]
  refine (Fin.sum_univ_eq_sum_range (fun k => P k ((((i 1).val * 8 + (i 0).val) * 320 + (i 2).val) % 2560)
    * X k ((((i 1).val * 8 + (i 0).val) * 320 + (i 2).val) / 2560)) 2048).trans ?_
  show _ = (∑ k ∈ range 2048, X k (i 1).val * P k (320 * (i 0).val + (i 2).val) : EReal)
  refine Finset.sum_congr rfl fun k _ => ?_
  rw [mul_comm]
  congr 2 <;> omega

variable (m : (ℓ : Loc nD τ sig) → Buf (Elt Ideal) ℓ)

/-- The reference's run, its result as a function of its arguments. -/
theorem run_stages (ρ : Dev nD → PrngReg) (X P : Dev nD → ℕ → ℕ → EReal)
    (ha : ∀ c : Dev nD, m ((c : Thread nD τ).loc main_arg0) = A0 (X c) ∧ m ((c : Thread nD τ).loc main_arg1) = A1 (P c)) :
    θ_run defs (onTc (τ := τ) (main (F := Ideal))) ⟨m, fun _ => 0, ρ⟩ fun r => ∀ c : Dev nD,
      r.2.mem ((c : Thread nD τ).loc main_v8) = arr3 (α := EReal) (dw (X c) (P c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference6Ideal.Value.run (F := Ideal) m ρ)
  obtain ⟨h0, hk⟩ := h c
  obtain ⟨a0, a1⟩ := ha c
  refine ⟨(h0.trans (val_main_v8_eq _ _)).trans ?_, hk⟩
  rw [a0, a1]
  exact stages _ _

theorem frame : Cert.quiescent_Reference6Ideal (hReference6Ideal := Cert.Reference6Ideal.Gen.facts) := fun m ρ _ =>
  (θ_run Reference6Ideal.defs _ _).mono (fun r h => ⟨fun c => (h c).2, sem_eq_zero_of_no_sems (by decide) r.2⟩)
    (Cert.Reference6Ideal.Value.run m ρ)

end Reference

section Kernel
open Cert.Kernel6Ideal Cert.Kernel6Ideal.Gen

/-- One block: the input against a block of the cotangent's columns. -/
theorem pay (A B : ℕ → ℕ → EReal) : k0_pay5 (F := Ideal) (arr2 (α := EReal) A) (arr2 (α := EReal) B)
    = arr3 (α := EReal) fun _ => mTm 2048 A B := by
  unfold k0_pay5
  dsimp only
  unfold matmul
  rw [matmul_tn dot_S2048x1024_S2048x320_S1024x320_0_0_1_1_n_n rfl, truncf_arr2]
  exact shapeCast_arr2_arr3 _ _

/-- The plane of block `b`, from the block's columns of the cotangent. -/
theorem plane (X P : ℕ → ℕ → EReal) (b q : ℕ) (hq : q = 320 * b) (inb) :
    k0_pay5 (F := Ideal) (arr2 (α := EReal) X) (View.ld (arr2 (α := EReal) P : Vec Ideal S2048x2560 .bf16)
      (Rect.unit (s := S2048x2560) ![0, q] S2048x320.size inb)) = arr3 (α := EReal) fun _ => dw X P b := by
  subst hq
  rw [View.ld_unit]
  erw [slice_arr2 P 0 (320 * b)]
  refine (pay X (sh 0 (320 * b) P)).trans (congrArg (fun f => arr3 fun _ => f) ?_)
  funext i j
  simp only [mTm, sh, dw, Nat.zero_add]

/-- Eight planes, each stored once, are an array of planes. -/
theorem stored (W : ℕ → ℕ → ℕ → EReal) (p0 p1 p2 p3 p4 p5 p6 p7 : Vec Ideal S1x1024x320 .bf16)
    (h0 : p0 = arr3 (α := EReal) fun _ => W 0) (h1 : p1 = arr3 (α := EReal) fun _ => W 1) (h2 : p2 = arr3 (α := EReal) fun _ => W 2) (h3 : p3 = arr3 (α := EReal) fun _ => W 3)
    (h4 : p4 = arr3 (α := EReal) fun _ => W 4) (h5 : p5 = arr3 (α := EReal) fun _ => W 5) (h6 : p6 = arr3 (α := EReal) fun _ => W 6) (h7 : p7 = arr3 (α := EReal) fun _ => W 7) :
    View.canon [(⟨r0_16, p7⟩ : View.Piece (Elt Ideal) S8x1024x320 .bf16),
    (⟨r0_14, p6⟩ : View.Piece (Elt Ideal) S8x1024x320 .bf16),
    (⟨r0_12, p5⟩ : View.Piece (Elt Ideal) S8x1024x320 .bf16),
    (⟨r0_10, p4⟩ : View.Piece (Elt Ideal) S8x1024x320 .bf16),
    (⟨r0_8, p3⟩ : View.Piece (Elt Ideal) S8x1024x320 .bf16),
    (⟨r0_6, p2⟩ : View.Piece (Elt Ideal) S8x1024x320 .bf16),
    (⟨r0_4, p1⟩ : View.Piece (Elt Ideal) S8x1024x320 .bf16),
    (⟨r0_2, p0⟩ : View.Piece (Elt Ideal) S8x1024x320 .bf16)] = arr3 (α := EReal) W := by
  subst h0 h1 h2 h3 h4 h5 h6 h7
  funext y
  have l0 : (y 0).val < 8 := (y 0).isLt
  refine (canon_plane _ _ _ y).trans ?_
  split_ifs with h
  · exact congrFun (congrFun (congrArg W h.symm) _) _
  iterate 7
    refine (canon_plane _ _ _ y).trans ?_
    split_ifs with h
    · exact congrFun (congrFun (congrArg W h.symm) _) _
  omega

/-- The eight planes the kernel writes, from its two arguments. -/
theorem planes (X P : ℕ → ℕ → EReal) : Value.G2 (F := Ideal) (arr2 (α := EReal) X) (arr2 (α := EReal) P) = arr3 (α := EReal) (dw X P) := by
  unfold Value.G2
  exact stored (dw X P) _ _ _ _ _ _ _ _ (plane X P 0 0 rfl _) (plane X P 1 320 rfl _) (plane X P 2 640 rfl _) (plane X P 3 960 rfl _)
    (plane X P 4 1280 rfl _) (plane X P 5 1600 rfl _) (plane X P 6 1920 rfl _) (plane X P 7 2240 rfl _)

variable (m : (ℓ : Loc nD τ sig) → Buf (Elt Ideal) ℓ) (c : Dev nD)

def X : ℕ → ℕ → EReal := get2 (m ((c : Thread nD τ).loc main_arg0))
def P : ℕ → ℕ → EReal := get2 (m ((c : Thread nD τ).loc main_arg1))

/-- The array the kernel leaves. -/
theorem arr : Value.G2 (F := Ideal) (m ((c : Thread nD τ).loc main_arg0)) (m ((c : Thread nD τ).loc main_arg1)) = arr3 (α := EReal) (dw (X m c) (P m c)) := by
  rw [← planes]
  unfold X P
  rw [arr2_get2, arr2_get2]

end Kernel

theorem algebraic : algebraic_Kernel6Ideal_Reference6Ideal (hKernel6Ideal := Kernel6Ideal.Gen.facts)
    (hReference6Ideal := Reference6Ideal.Gen.facts) := by
  intro m g m' g' _ hargs
  refine ⟨fun c => arr3 (α := EReal) (dw (X m c) (P m c)), ?_, ?_⟩
  · refine (θ_run _ _ _).mono (fun r h c => ?_) (Kernel6Ideal.Value.run m g)
    exact ⟨(h c).1.trans (arr m c), (h c).2⟩
  · refine run_stages m' g' (fun c => X m c) (fun c => P m c) fun c => ?_
    obtain ⟨b0, b1⟩ := hargs c
    exact ⟨b0.trans (arr2_get2 _).symm, b1.trans (arr2_get2 _).symm⟩

end Cert.Even.Dwin
-- ==== Proof.EvenDwout.lean ====
/-
  The gradient of an even layer's output weight: the kernel's row blocks are the reference's product.
-/
module

public import proofs.«01_k».proof.Defs
public import proofs.«01_k».proof.Proof.Products
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim

@[expose] public section

set_option maxRecDepth 16384

noncomputable section

namespace Cert.Even.Dwout

open Idealize.ShloMosaic Idealize.ShloMosaic.TcCoe Idealize.SL.Sem Finset Cert.Mat Cert.Mlp

section Reference
open Cert.Reference7Ideal Cert.Reference7Ideal.Read

variable (Y C : ℕ → ℕ → EReal)

abbrev A0 : FVec Ideal S2048x1536 .bf16 := arr2 (α := EReal) Y
abbrev A1 : FVec Ideal S2048x1024 .bf16 := arr2 (α := EReal) C

/-- The reference's result is the transposed input times the cotangent. -/
theorem stages : val_main_v6 (F := Ideal) (A0 Y) (A1 C) = arr2 (α := EReal) (mTm 2048 Y C) := by
  funext i
  rw [val_main_v6_apply, val_main_v5_apply, val_main_v4_apply]
  refine (Fin.sum_univ_eq_sum_range (fun k => (C k (i 1).val * Y k (i 0).val : EReal)) 2048).trans ?_
  exact Finset.sum_congr rfl fun k _ => mul_comm _ _

variable (m : (ℓ : Loc nD τ sig) → Buf (Elt Ideal) ℓ)

/-- The reference's run, its result as a function of its arguments. -/
theorem run_stages (ρ : Dev nD → PrngReg) (Y C : Dev nD → ℕ → ℕ → EReal)
    (ha : ∀ c : Dev nD, m ((c : Thread nD τ).loc main_arg0) = A0 (Y c) ∧ m ((c : Thread nD τ).loc main_arg1) = A1 (C c)) :
    θ_run defs (onTc (τ := τ) (main (F := Ideal))) ⟨m, fun _ => 0, ρ⟩ fun r => ∀ c : Dev nD,
      r.2.mem ((c : Thread nD τ).loc main_v6) = arr2 (α := EReal) (mTm 2048 (Y c) (C c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference7Ideal.Value.run (F := Ideal) m ρ)
  obtain ⟨h0, hk⟩ := h c
  obtain ⟨a0, a1⟩ := ha c
  refine ⟨(h0.trans (val_main_v6_eq _ _)).trans ?_, hk⟩
  rw [a0, a1]
  exact stages _ _

theorem frame : Cert.quiescent_Reference7Ideal (hReference7Ideal := Cert.Reference7Ideal.Gen.facts) := fun m ρ _ =>
  (θ_run Reference7Ideal.defs _ _).mono (fun r h => ⟨fun c => (h c).2, sem_eq_zero_of_no_sems (by decide) r.2⟩)
    (Cert.Reference7Ideal.Value.run m ρ)

end Reference

section Kernel
open Cert.Kernel7Ideal Cert.Kernel7Ideal.Gen

/-- One block: a block of the input's columns against the cotangent. -/
theorem pay (A B : ℕ → ℕ → EReal) : k0_pay1 (F := Ideal) (arr2 (α := EReal) A) (arr2 (α := EReal) B)
    = arr2 (α := EReal) (mTm 2048 A B) := by
  unfold k0_pay1 matmul
  dsimp only
  rw [matmul_tn dot_S2048x512_S2048x1024_S512x1024_0_0_1_1_n_n rfl, truncf_arr2]

theorem out (A B : ℕ → ℕ → EReal) : out0_2 (F := Ideal) (arr2 (α := EReal) A) (arr2 (α := EReal) B)
    = arr2 (α := EReal) (mTm 2048 A B) := by
  unfold out0_2
  rw [View.ld_unit, View.ld_unit]
  refine (congrArg (fun p => View.canon [(⟨r0_2, p⟩ : View.Piece (Elt Ideal) S512x1024 .bf16)]) ?_).trans (Holds.whole _ _).2
  erw [slice_arr2, slice_arr2]
  rw [sh_zero, sh_zero]
  exact pay A B

variable (m : (ℓ : Loc nD τ sig) → Buf (Elt Ideal) ℓ) (c : Dev nD)

def Y : ℕ → ℕ → EReal := get2 (m ((c : Thread nD τ).loc main_arg0))
def C : ℕ → ℕ → EReal := get2 (m ((c : Thread nD τ).loc main_arg1))

theorem idx : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0) := by decide +kernel

theorem iblk0 (t : Fin cfg0.N) : iblk m c 0 t = arr2 (α := EReal) (sh 0 (t.val * 512) (Y m c)) := by
  funext j
  unfold iblk
  rw [View.read_apply]
  show V m c main_arg0 _ = _
  rw [V_main_arg0]
  refine (block_read (idx t).1.1 (idx t).1.2 rfl rfl).trans ?_
  rw [Nat.zero_mul]
  rfl

theorem iblk1 (t : Fin cfg0.N) : iblk m c 1 t = arr2 (α := EReal) (C m c) := by
  funext j
  unfold iblk
  rw [View.read_apply]
  show V m c main_arg1 _ = _
  rw [V_main_arg1]
  refine (block_read (idx t).2.1.1 (idx t).2.1.2 rfl rfl).trans ?_
  rw [Nat.zero_mul, Nat.zero_mul, sh_zero]
  rfl

/-- The array the kernel leaves. -/
theorem arr : (dats m 0 c).arrAt 2 cfg0.N = arr2 (α := EReal) (mTm 2048 (Y m c) (C m c)) := by
  refine (dats m 0 c).arrAt_eq_of_cover 2 (arr2 (α := EReal) (mTm 2048 (Y m c) (C m c))) (fun t _ => ?_) fun i => ?_
  · rw [Value.flushed2, iblk0, iblk1, out, mTm_left]
    funext j
    rw [View.read_apply]
    show arr2 (a := 512) (b := 1024) (sh (t.val * 512) (0 * 1024) (mTm 2048 (Y m c) (C m c))) ((cfg0.win 2).xinj (grid0.coords t) j) =
      arr2 (a := 1536) (b := 1024) (mTm 2048 (Y m c) (C m c)) (((cfg0.win 2).blk t).view.emb j)
    refine block_write (j := j) _ (idx t).2.2.1 (idx t).2.2.2 ?_ ?_ fun _ => ?_ <;> rfl
  · have l0 : (i 0).val < 1536 := (i 0).isLt
    have l1 : (i 1).val < 1024 := (i 1).isLt
    have hN : (i 0).val / 512 < cfg0.N := lt_of_lt_of_eq (by omega) N_0.symm
    have hi := (idx ⟨_, hN⟩).2.2
    refine ⟨⟨_, hN⟩, flush0_2 _, ?_⟩
    show i ∈ ((View.whole main_v0).slice (win0_2.rect ⟨_, hN⟩)).set
    rw [View.set_slice_whole, Rect.mem_set_unit]
    exact block_cover (f := win0_2.index ⟨_, hN⟩) hi.1 (hi.2.trans (by omega)) (by omega) (by omega)

end Kernel

theorem algebraic : algebraic_Kernel7Ideal_Reference7Ideal (hKernel7Ideal := Kernel7Ideal.Gen.facts)
    (hReference7Ideal := Reference7Ideal.Gen.facts) := by
  intro m g m' g' _ hargs
  refine ⟨fun c => arr2 (α := EReal) (mTm 2048 (Y m c) (C m c)), ?_, ?_⟩
  · refine (θ_run _ _ _).mono (fun r h c => ?_) (Kernel7Ideal.Value.run_blocks m g)
    exact ⟨(h c).1.trans (arr m c), (h c).2⟩
  · refine run_stages m' g' (fun c => Y m c) (fun c => C m c) fun c => ?_
    obtain ⟨b0, b1⟩ := hargs c
    exact ⟨b0.trans (arr2_get2 _).symm, b1.trans (arr2_get2 _).symm⟩

end Cert.Even.Dwout
-- ==== Proof.EvenDycat.lean ====
/-
  The gradient of an even layer's concatenated mixer outputs: the kernel's column blocks are the reference's product.
-/
module

public import proofs.«01_k».proof.Defs
public import proofs.«01_k».proof.Proof.Products
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim

@[expose] public section

set_option maxRecDepth 16384

noncomputable section

namespace Cert.Even.Dycat

open Idealize.ShloMosaic Idealize.ShloMosaic.TcCoe Idealize.SL.Sem Finset Cert.Mat Cert.Mlp

section Reference
open Cert.Reference8Ideal Cert.Reference8Ideal.Read

variable (W C : ℕ → ℕ → EReal)

abbrev A0 : FVec Ideal S1536x1024 .bf16 := arr2 (α := EReal) W
abbrev A1 : FVec Ideal S2048x1024 .bf16 := arr2 (α := EReal) C

/-- The reference's result is the cotangent times the transposed weight. -/
theorem stages : val_main_v4 (F := Ideal) (A0 W) (A1 C) = arr2 (α := EReal) (mmT 1024 C W) := by
  funext i
  rw [val_main_v4_apply]
  exact Fin.sum_univ_eq_sum_range (fun k => (C (i 0).val k * W (i 1).val k : EReal)) 1024

variable (m : (ℓ : Loc nD τ sig) → Buf (Elt Ideal) ℓ)

/-- The reference's run, its result as a function of its arguments. -/
theorem run_stages (ρ : Dev nD → PrngReg) (W C : Dev nD → ℕ → ℕ → EReal)
    (ha : ∀ c : Dev nD, m ((c : Thread nD τ).loc main_arg0) = A0 (W c) ∧ m ((c : Thread nD τ).loc main_arg1) = A1 (C c)) :
    θ_run defs (onTc (τ := τ) (main (F := Ideal))) ⟨m, fun _ => 0, ρ⟩ fun r => ∀ c : Dev nD,
      r.2.mem ((c : Thread nD τ).loc main_v4) = arr2 (α := EReal) (mmT 1024 (C c) (W c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference8Ideal.Value.run (F := Ideal) m ρ)
  obtain ⟨h0, hk⟩ := h c
  obtain ⟨a0, a1⟩ := ha c
  refine ⟨(h0.trans (val_main_v4_eq _ _)).trans ?_, hk⟩
  rw [a0, a1]
  exact stages _ _

theorem frame : Cert.quiescent_Reference8Ideal (hReference8Ideal := Cert.Reference8Ideal.Gen.facts) := fun m ρ _ =>
  (θ_run Reference8Ideal.defs _ _).mono (fun r h => ⟨fun c => (h c).2, sem_eq_zero_of_no_sems (by decide) r.2⟩)
    (Cert.Reference8Ideal.Value.run m ρ)

end Reference

section Kernel
open Cert.Kernel8Ideal Cert.Kernel8Ideal.Gen

/-- One block: the cotangent against a block of the weight's rows. -/
theorem out (A B : ℕ → ℕ → EReal) : out0_2 (F := Ideal) (arr2 (α := EReal) A) (arr2 (α := EReal) B)
    = arr2 (α := EReal) (mmT 1024 A B) := by
  unfold out0_2
  rw [View.ld_unit, View.ld_unit]
  refine (congrArg (fun p => View.canon [(⟨r0_2, p⟩ : View.Piece (Elt Ideal) S2048x512 .f32)]) ?_).trans (Holds.whole _ _).2
  erw [slice_arr2, slice_arr2]
  rw [sh_zero, sh_zero]
  exact matmul_nt dot_S2048x1024_S512x1024_S2048x512_1_1_0_0_n_n rfl _ _ _

variable (m : (ℓ : Loc nD τ sig) → Buf (Elt Ideal) ℓ) (c : Dev nD)

def W : ℕ → ℕ → EReal := get2 (m ((c : Thread nD τ).loc main_arg0))
def C : ℕ → ℕ → EReal := get2 (m ((c : Thread nD τ).loc main_arg1))

theorem idx : ∀ t : Fin grid0.N, (win0_0.index t 0 = 0 ∧ win0_0.index t 1 = 0) ∧ (win0_1.index t 0 = t.val ∧ win0_1.index t 1 = 0)
    ∧ (win0_2.index t 0 = 0 ∧ win0_2.index t 1 = t.val) := by decide +kernel

theorem iblk0 (t : Fin cfg0.N) : iblk m c 0 t = arr2 (α := EReal) (C m c) := by
  funext j
  unfold iblk
  rw [View.read_apply]
  show V m c main_arg1 _ = _
  rw [V_main_arg1]
  refine (block_read (idx t).1.1 (idx t).1.2 rfl rfl).trans ?_
  rw [Nat.zero_mul, Nat.zero_mul, sh_zero]
  rfl

theorem iblk1 (t : Fin cfg0.N) : iblk m c 1 t = arr2 (α := EReal) (sh (t.val * 512) 0 (W m c)) := by
  funext j
  unfold iblk
  rw [View.read_apply]
  show V m c main_arg0 _ = _
  rw [V_main_arg0]
  refine (block_read (idx t).2.1.1 (idx t).2.1.2 rfl rfl).trans ?_
  rw [Nat.zero_mul]
  rfl

/-- The array the kernel leaves. -/
theorem arr : (dats m 0 c).arrAt 2 cfg0.N = arr2 (α := EReal) (mmT 1024 (C m c) (W m c)) := by
  refine (dats m 0 c).arrAt_eq_of_cover 2 (arr2 (α := EReal) (mmT 1024 (C m c) (W m c))) (fun t _ => ?_) fun i => ?_
  · rw [Value.flushed2, iblk0, iblk1, out, mmT_rows]
    funext j
    rw [View.read_apply]
    show arr2 (a := 2048) (b := 512) (sh (0 * 2048) (t.val * 512) (mmT 1024 (C m c) (W m c))) ((cfg0.win 2).xinj (grid0.coords t) j) =
      arr2 (a := 2048) (b := 1536) (mmT 1024 (C m c) (W m c)) (((cfg0.win 2).blk t).view.emb j)
    refine block_write (j := j) _ (idx t).2.2.1 (idx t).2.2.2 ?_ ?_ fun _ => ?_ <;> rfl
  · have l0 : (i 0).val < 2048 := (i 0).isLt
    have l1 : (i 1).val < 1536 := (i 1).isLt
    have hN : (i 1).val / 512 < cfg0.N := lt_of_lt_of_eq (by omega) N_0.symm
    have hi := (idx ⟨_, hN⟩).2.2
    refine ⟨⟨_, hN⟩, flush0_2 _, ?_⟩
    show i ∈ ((View.whole main_v0).slice (win0_2.rect ⟨_, hN⟩)).set
    rw [View.set_slice_whole, Rect.mem_set_unit]
    exact block_cover (f := win0_2.index ⟨_, hN⟩) (hi.1.trans (by omega)) hi.2 (by omega) (by omega)

end Kernel

theorem algebraic : algebraic_Kernel8Ideal_Reference8Ideal (hKernel8Ideal := Kernel8Ideal.Gen.facts)
    (hReference8Ideal := Reference8Ideal.Gen.facts) := by
  intro m g m' g' _ hargs
  refine ⟨fun c => arr2 (α := EReal) (mmT 1024 (C m c) (W m c)), ?_, ?_⟩
  · refine (θ_run _ _ _).mono (fun r h c => ?_) (Kernel8Ideal.Value.run_blocks m g)
    exact ⟨(h c).1.trans (arr m c), (h c).2⟩
  · refine run_stages m' g' (fun c => W m c) (fun c => C m c) fun c => ?_
    obtain ⟨b0, b1⟩ := hargs c
    exact ⟨b0.trans (arr2_get2 _).symm, b1.trans (arr2_get2 _).symm⟩

end Cert.Even.Dycat
-- ==== Proof.EvenDx.lean ====
/-
  The gradient of an even layer's input: its part through the mixer's projection and its part through the residual sum.
-/
module

public import proofs.«01_k».proof.Defs
public import proofs.«01_k».proof.Proof.Products
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim

@[expose] public section

set_option maxRecDepth 16384

noncomputable section

namespace Cert.Even.Dx

open Idealize.ShloMosaic Idealize.ShloMosaic.TcCoe Idealize.SL.Sem Finset Cert.Mat Cert.Mlp

section Reference
open Cert.Reference9Ideal Cert.Reference9Ideal.Read

variable (W P Z : ℕ → ℕ → EReal)

abbrev A0 : FVec Ideal S2560x1024 .bf16 := arr2 (α := EReal) W
abbrev A1 : FVec Ideal S2048x2560 .bf16 := arr2 (α := EReal) P
abbrev A2 : FVec Ideal S2048x1024 .f32 := arr2 (α := EReal) Z

/-- The gradient: the mixer's part and the residual branch's. -/
def dx : ℕ → ℕ → EReal := resid (mm 2560 P W) Z

theorem stages : val_main_v10 (F := Ideal) (A0 W) (A1 P) (A2 Z) = arr2 (α := EReal) (dx W P Z) := by
  funext i
  rw [val_main_v10_apply, val_main_v7_apply, val_main_v9_apply]
  exact congrArg (fun x : EReal => x + alpha * Z (i 0).val (i 1).val)
    (Fin.sum_univ_eq_sum_range (fun k => (P (i 0).val k * W k (i 1).val : EReal)) 2560)

variable (m : (ℓ : Loc nD τ sig) → Buf (Elt Ideal) ℓ)

/-- The reference's run, its result as a function of its arguments. -/
theorem run_stages (ρ : Dev nD → PrngReg) (W P Z : Dev nD → ℕ → ℕ → EReal)
    (ha : ∀ c : Dev nD, m ((c : Thread nD τ).loc main_arg0) = A0 (W c) ∧ m ((c : Thread nD τ).loc main_arg1) = A1 (P c)
      ∧ m ((c : Thread nD τ).loc main_arg2) = A2 (Z c)) :
    θ_run defs (onTc (τ := τ) (main (F := Ideal))) ⟨m, fun _ => 0, ρ⟩ fun r => ∀ c : Dev nD,
      r.2.mem ((c : Thread nD τ).loc main_v10) = arr2 (α := EReal) (dx (W c) (P c) (Z c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Reference9Ideal.Value.run (F := Ideal) m ρ)
  obtain ⟨h0, hk⟩ := h c
  obtain ⟨a0, a1, a2⟩ := ha c
  refine ⟨(h0.trans (val_main_v10_eq _ _ _)).trans ?_, hk⟩
  rw [a0, a1, a2]
  exact stages _ _ _

theorem frame : Cert.quiescent_Reference9Ideal (hReference9Ideal := Cert.Reference9Ideal.Gen.facts) := fun m ρ _ =>
  (θ_run Reference9Ideal.defs _ _).mono (fun r h => ⟨fun c => (h c).2, sem_eq_zero_of_no_sems (by decide) r.2⟩)
    (Cert.Reference9Ideal.Value.run m ρ)

end Reference

section Kernel
open Cert.Kernel9Ideal Cert.Kernel9Ideal.Gen

/-- One block: a block of rows against the weight, and the residual branch's block. -/
theorem pay (A B Z : ℕ → ℕ → EReal) : k0_pay1 (F := Ideal) (arr2 (α := EReal) A) (arr2 (α := EReal) B) (arr2 (α := EReal) Z)
    = arr2 (α := EReal) (resid (mm 2560 A B) Z) := by
  unfold k0_pay1 matmul
  dsimp only
  rw [matmul_nn dot_S512x2560_S2560x1024_S512x1024_1_0_0_1_n_n rfl, broadcast_arr2]
  rfl

theorem out (A B Z : ℕ → ℕ → EReal) : out0_3 (F := Ideal) (arr2 (α := EReal) A) (arr2 (α := EReal) B) (arr2 (α := EReal) Z)
    = arr2 (α := EReal) (resid (mm 2560 A B) Z) := by
  unfold out0_3
  rw [View.ld_unit, View.ld_unit, View.ld_unit]
  refine (congrArg (fun p => View.canon [(⟨r0_2, p⟩ : View.Piece (Elt Ideal) S512x1024 .f32)]) ?_).trans (Holds.whole _ _).2
  erw [slice_arr2, slice_arr2, slice_arr2]
  rw [sh_zero, sh_zero, sh_zero]
  exact pay A B Z

variable (m : (ℓ : Loc nD τ sig) → Buf (Elt Ideal) ℓ) (c : Dev nD)

def W : ℕ → ℕ → EReal := get2 (m ((c : Thread nD τ).loc main_arg0))
def P : ℕ → ℕ → EReal := get2 (m ((c : Thread nD τ).loc main_arg1))
def Z : ℕ → ℕ → EReal := get2 (m ((c : Thread nD τ).loc main_arg2))

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

theorem iblk0 (t : Fin cfg0.N) : iblk m c 0 t = arr2 (α := EReal) (sh (t.val * 512) 0 (P m c)) := by
  funext j
  unfold iblk
  rw [View.read_apply]
  show V m c main_arg1 _ = _
  rw [V_main_arg1]
  refine (block_read (idx t).1.1 (idx t).1.2 rfl rfl).trans ?_
  rw [Nat.zero_mul]
  rfl

theorem iblk1 (t : Fin cfg0.N) : iblk m c 1 t = arr2 (α := EReal) (W m c) := by
  funext j
  unfold iblk
  rw [View.read_apply]
  show V m c main_arg0 _ = _
  rw [V_main_arg0]
  refine (block_read (idx t).2.1.1 (idx t).2.1.2 rfl rfl).trans ?_
  rw [Nat.zero_mul, Nat.zero_mul, sh_zero]
  rfl

theorem iblk2 (t : Fin cfg0.N) : iblk m c 2 t = arr2 (α := EReal) (sh (t.val * 512) (0 * 1024) (Z m c)) := by
  funext j
  unfold iblk
  rw [View.read_apply]
  show V m c main_arg2 _ = _
  rw [V_main_arg2]
  exact block_read (idx t).2.2.1.1 (idx t).2.2.1.2 rfl rfl

/-- The array the kernel leaves. -/
theorem arr : (dats m 0 c).arrAt 3 cfg0.N = arr2 (α := EReal) (dx (W m c) (P m c) (Z m c)) := by
  refine (dats m 0 c).arrAt_eq_of_cover 3 (arr2 (α := EReal) (dx (W m c) (P m c) (Z m c))) (fun t _ => ?_) fun i => ?_
  · rw [Value.flushed3, iblk0, iblk1, iblk2, out, mm_left _ _ _ _ 1024, resid_sh]
    funext j
    rw [View.read_apply]
    show arr2 (a := 512) (b := 1024) (sh (t.val * 512) (0 * 1024) (dx (W m c) (P m c) (Z m c))) ((cfg0.win 3).xinj (grid0.coords t) j) =
      arr2 (a := 2048) (b := 1024) (dx (W m c) (P m c) (Z m c)) (((cfg0.win 3).blk t).view.emb j)
    refine block_write (j := j) _ (idx t).2.2.2.1 (idx t).2.2.2.2 ?_ ?_ fun _ => ?_ <;> rfl
  · have l0 : (i 0).val < 2048 := (i 0).isLt
    have l1 : (i 1).val < 1024 := (i 1).isLt
    have hN : (i 0).val / 512 < cfg0.N := lt_of_lt_of_eq (by omega) N_0.symm
    have hi := (idx ⟨_, hN⟩).2.2.2
    refine ⟨⟨_, hN⟩, flush0_3 _, ?_⟩
    show i ∈ ((View.whole main_v0).slice (win0_3.rect ⟨_, hN⟩)).set
    rw [View.set_slice_whole, Rect.mem_set_unit]
    exact block_cover (f := win0_3.index ⟨_, hN⟩) hi.1 (hi.2.trans (by omega)) (by omega) (by omega)

end Kernel

theorem algebraic : algebraic_Kernel9Ideal_Reference9Ideal (hKernel9Ideal := Kernel9Ideal.Gen.facts)
    (hReference9Ideal := Reference9Ideal.Gen.facts) := by
  intro m g m' g' _ hargs
  refine ⟨fun c => arr2 (α := EReal) (dx (W m c) (P m c) (Z m c)), ?_, ?_⟩
  · refine (θ_run _ _ _).mono (fun r h c => ?_) (Kernel9Ideal.Value.run_blocks m g)
    exact ⟨(h c).1.trans (arr m c), (h c).2⟩
  · refine run_stages m' g' (fun c => W m c) (fun c => P m c) (fun c => Z m c) fun c => ?_
    obtain ⟨b0, b1, b2⟩ := hargs c
    exact ⟨b0.trans (arr2_get2 _).symm, b1.trans (arr2_get2 _).symm, b2.trans (arr2_get2 _).symm⟩

end Cert.Even.Dx
-- ==== Proof.OddDwdown.lean ====
/-
  The gradient of an odd layer's input projection: the kernel's row blocks are the reference's product, cut into blocks.
-/
module

public import proofs.«01_k».proof.Defs
public import proofs.«01_k».proof.Proof.MlpMath
public import proofs.«01_k».proof.Proof.Gen.Kernel10Ideal.Value
public import proofs.«01_k».proof.Proof.Gen.Reference10Ideal.Run
public import proofs.«01_k».proof.Proof.Gen.Reference10Ideal.Read
public import Idealize.ShloMosaic.Lib.Claim

@[expose] public section

set_option maxRecDepth 16384

noncomputable section

namespace Cert.Odd.Dwdown

open Idealize.ShloMosaic Idealize.ShloMosaic.TcCoe Idealize.SL.Sem Finset Cert.Mat Cert.Mlp

/-- The gradient, block `b` of the input's columns, column `k` of the block, latent `d`. -/
def dw (X C : ℕ → ℕ → EReal) : ℕ → ℕ → ℕ → EReal := fun b k d => mTm 2048 X C (128 * b + k) d

section Reference
open Cert.Reference10Ideal Cert.Reference10Ideal.Read

variable (X C : ℕ → ℕ → EReal)

abbrev A0 : FVec Ideal S2048x1024 .bf16 := arr2 (α := EReal) X
abbrev A1 : FVec Ideal S2048x704 .bf16 := arr2 (α := EReal) C

theorem stages : val_main_v7 (F := Ideal) (A0 X) (A1 C) = arr3 (α := EReal) (dw X C) := by
  funext i
  have h1 : (i 1).val < 128 := (i 1).isLt
  have h2 : (i 2).val < 704 := (i 2).isLt
  rw [val_main_v7_apply, val_main_v6_apply, val_main_v5_apply, val_main_v4_apply]
  refine (Fin.sum_univ_eq_sum_range (fun k => C k ((((i 0).val * 128 + (i 1).val) * 704 + (i 2).val) % 704)
    * X k ((((i 0).val * 128 + (i 1).val) * 704 + (i 2).val) / 704)) 2048).trans ?_
  show _ = (∑ k ∈ range 2048, X k (128 * (i 0).val + (i 1).val) * C k (i 2).val : EReal)
  refine Finset.sum_congr rfl fun k _ => ?_
  rw [mul_comm]
  congr 2 <;> omega

variable (m : (ℓ : Loc nD τ sig) → Buf (Elt Ideal) ℓ)

/-- The reference's run, its result as a function of its arguments. -/
theorem run_stages (ρ : Dev nD → PrngReg) (X C : Dev nD → ℕ → ℕ → EReal)
    (ha : ∀ c : Dev nD, m ((c : Thread nD τ).loc main_arg0) = A0 (X c) ∧ m ((c : Thread nD τ).loc main_arg1) = A1 (C c)) :
    θ_run defs (onTc (τ := τ) (main (F := Ideal))) ⟨m, fun _ => 0, ρ⟩ fun r => ∀ c : Dev nD,
      r.2.mem ((c : Thread nD τ).loc main_v7) = arr3 (α := EReal) (dw (X c) (C c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference10Ideal.Value.run (F := Ideal) m ρ)
  obtain ⟨h0, hk⟩ := h c
  obtain ⟨a0, a1⟩ := ha c
  refine ⟨(h0.trans (val_main_v7_eq _ _)).trans ?_, hk⟩
  rw [a0, a1]
  exact stages _ _

theorem frame : Cert.quiescent_Reference10Ideal (hReference10Ideal := Cert.Reference10Ideal.Gen.facts) := fun m ρ _ =>
  (θ_run Reference10Ideal.defs _ _).mono (fun r h => ⟨fun c => (h c).2, sem_eq_zero_of_no_sems (by decide) r.2⟩)
    (Cert.Reference10Ideal.Value.run m ρ)

end Reference

section Kernel
open Cert.Kernel10Ideal Cert.Kernel10Ideal.Gen

/-- One block: a block of the input's columns against the cotangent. -/
theorem pay (A B : ℕ → ℕ → EReal) : k0_pay1 (F := Ideal) (arr2 (α := EReal) A) (arr2 (α := EReal) B)
    = arr3 (α := EReal) fun _ => mTm 2048 A B := by
  unfold k0_pay1
  dsimp only
  unfold matmul
  rw [matmul_tn dot_S2048x128_S2048x704_S128x704_0_0_1_1_n_n rfl, truncf_arr2]
  exact shapeCast_arr2_arr3 _ _

theorem out (A B : ℕ → ℕ → EReal) : out0_2 (F := Ideal) (arr2 (α := EReal) A) (arr2 (α := EReal) B)
    = arr3 (α := EReal) fun _ => mTm 2048 A B := by
  unfold out0_2
  rw [View.ld_unit, View.ld_unit]
  refine (congrArg (fun p => View.canon [(⟨r0_2, p⟩ : View.Piece (Elt Ideal) S1x128x704 .bf16)]) ?_).trans (canon_whole_arr3 _ _)
  erw [slice_arr2, slice_arr2]
  rw [sh_zero, sh_zero]
  exact pay A B

variable (m : (ℓ : Loc nD τ sig) → Buf (Elt Ideal) ℓ) (c : Dev nD)

def X : ℕ → ℕ → EReal := get2 (m ((c : Thread nD τ).loc main_arg0))
def C : ℕ → ℕ → EReal := get2 (m ((c : Thread nD τ).loc main_arg1))

theorem idx : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0) := by decide +kernel

theorem iblk0 (t : Fin cfg0.N) : iblk m c 0 t = arr2 (α := EReal) (sh 0 (t.val * 128) (X m c)) := by
  funext j
  unfold iblk
  rw [View.read_apply]
  show V m c main_arg0 _ = _
  rw [V_main_arg0]
  refine (block_read (idx t).1.1 (idx t).1.2 rfl rfl).trans ?_
  rw [Nat.zero_mul]
  rfl

theorem iblk1 (t : Fin cfg0.N) : iblk m c 1 t = arr2 (α := EReal) (C m c) := by
  funext j
  unfold iblk
  rw [View.read_apply]
  show V m c main_arg1 _ = _
  rw [V_main_arg1]
  refine (block_read (idx t).2.1.1 (idx t).2.1.2 rfl rfl).trans ?_
  rw [Nat.zero_mul, Nat.zero_mul, sh_zero]
  rfl

/-- The array the kernel leaves. -/
theorem arr : (dats m 0 c).arrAt 2 cfg0.N = arr3 (α := EReal) (dw (X m c) (C m c)) := by
  refine (dats m 0 c).arrAt_eq_of_cover 2 (arr3 (α := EReal) (dw (X m c) (C m c))) (fun t _ => ?_) fun i => ?_
  · rw [Value.flushed2, iblk0, iblk1, out]
    funext j
    rw [View.read_apply]
    show arr3 (a := 1) (b := 128) (c := 704) (fun _ => mTm 2048 (sh 0 (t.val * 128) (X m c)) (C m c)) ((cfg0.win 2).xinj (grid0.coords t) j) =
      arr3 (a := 8) (b := 128) (c := 704) (dw (X m c) (C m c)) (((cfg0.win 2).blk t).view.emb j)
    have e : mTm 2048 (sh 0 (t.val * 128) (X m c)) (C m c) = dw (X m c) (C m c) t.val := by
      funext a b
      unfold dw mTm sh
      rw [Nat.mul_comm]
      simp only [Nat.zero_add]
    rw [e]
    refine plane_write (n := 8) (a := 128) (b := 704) (j := j) _ (idx t).2.2.1 (idx t).2.2.2.1 (idx t).2.2.2.2 ?_ ?_ ?_ fun _ => ?_ <;> rfl
  · have l0 : (i 0).val < 8 := (i 0).isLt
    have hN : (i 0).val < cfg0.N := lt_of_lt_of_eq l0 N_0.symm
    have hi := (idx ⟨(i 0).val, hN⟩).2.2
    refine ⟨⟨(i 0).val, hN⟩, flush0_2 _, ?_⟩
    show i ∈ ((View.whole main_v0).slice (win0_2.rect ⟨(i 0).val, hN⟩)).set
    rw [View.set_slice_whole, Rect.mem_set_unit]
    exact plane_cover (f := win0_2.index ⟨(i 0).val, hN⟩) hi.1 hi.2.1 hi.2.2

end Kernel

theorem algebraic : algebraic_Kernel10Ideal_Reference10Ideal (hKernel10Ideal := Kernel10Ideal.Gen.facts)
    (hReference10Ideal := Reference10Ideal.Gen.facts) := by
  intro m g m' g' _ hargs
  refine ⟨fun c => arr3 (α := EReal) (dw (X m c) (C m c)), ?_, ?_⟩
  · refine (θ_run _ _ _).mono (fun r h c => ?_) (Kernel10Ideal.Value.run_blocks m g)
    exact ⟨(h c).1.trans (arr m c), (h c).2⟩
  · refine run_stages m' g' (fun c => X m c) (fun c => C m c) fun c => ?_
    obtain ⟨b0, b1⟩ := hargs c
    exact ⟨b0.trans (arr2_get2 _).symm, b1.trans (arr2_get2 _).symm⟩

end Cert.Odd.Dwdown
-- ==== Proof.OddDx.lean ====
/-
  The gradient of an odd layer's input: its part through the mixer's projection and its part through the residual sum.
-/
module

public import proofs.«01_k».proof.Defs
public import proofs.«01_k».proof.Proof.Products
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim

@[expose] public section

set_option maxRecDepth 16384

noncomputable section

namespace Cert.Odd.Dx

open Idealize.ShloMosaic Idealize.ShloMosaic.TcCoe Idealize.SL.Sem Finset Cert.Mat Cert.Mlp

section Reference
open Cert.Reference11Ideal Cert.Reference11Ideal.Read

variable (W P Z : ℕ → ℕ → EReal)

abbrev A0 : FVec Ideal S1024x704 .bf16 := arr2 (α := EReal) W
abbrev A1 : FVec Ideal S2048x704 .bf16 := arr2 (α := EReal) P
abbrev A2 : FVec Ideal S2048x1024 .f32 := arr2 (α := EReal) Z

/-- The gradient: the mixer's part and the residual branch's. -/
def dx : ℕ → ℕ → EReal := resid (mmT 704 P W) Z

theorem stages : val_main_v9 (F := Ideal) (A0 W) (A1 P) (A2 Z) = arr2 (α := EReal) (dx W P Z) := by
  funext i
  rw [val_main_v9_apply, val_main_v6_apply, val_main_v8_apply]
  exact congrArg (fun x : EReal => x + alpha * Z (i 0).val (i 1).val)
    (Fin.sum_univ_eq_sum_range (fun k => (P (i 0).val k * W (i 1).val k : EReal)) 704)

variable (m : (ℓ : Loc nD τ sig) → Buf (Elt Ideal) ℓ)

/-- The reference's run, its result as a function of its arguments. -/
theorem run_stages (ρ : Dev nD → PrngReg) (W P Z : Dev nD → ℕ → ℕ → EReal)
    (ha : ∀ c : Dev nD, m ((c : Thread nD τ).loc main_arg0) = A0 (W c) ∧ m ((c : Thread nD τ).loc main_arg1) = A1 (P c)
      ∧ m ((c : Thread nD τ).loc main_arg2) = A2 (Z c)) :
    θ_run defs (onTc (τ := τ) (main (F := Ideal))) ⟨m, fun _ => 0, ρ⟩ fun r => ∀ c : Dev nD,
      r.2.mem ((c : Thread nD τ).loc main_v9) = arr2 (α := EReal) (dx (W c) (P c) (Z c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Reference11Ideal.Value.run (F := Ideal) m ρ)
  obtain ⟨h0, hk⟩ := h c
  obtain ⟨a0, a1, a2⟩ := ha c
  refine ⟨(h0.trans (val_main_v9_eq _ _ _)).trans ?_, hk⟩
  rw [a0, a1, a2]
  exact stages _ _ _

theorem frame : Cert.quiescent_Reference11Ideal (hReference11Ideal := Cert.Reference11Ideal.Gen.facts) := fun m ρ _ =>
  (θ_run Reference11Ideal.defs _ _).mono (fun r h => ⟨fun c => (h c).2, sem_eq_zero_of_no_sems (by decide) r.2⟩)
    (Cert.Reference11Ideal.Value.run m ρ)

end Reference

section Kernel
open Cert.Kernel11Ideal Cert.Kernel11Ideal.Gen

/-- One block: a block of rows against the weight, and the residual branch's block. -/
theorem pay (A B Z : ℕ → ℕ → EReal) : k0_pay1 (F := Ideal) (arr2 (α := EReal) A) (arr2 (α := EReal) B) (arr2 (α := EReal) Z)
    = arr2 (α := EReal) (resid (mmT 704 A B) Z) := by
  unfold k0_pay1 matmul
  dsimp only
  rw [matmul_nt dot_S512x704_S1024x704_S512x1024_1_1_0_0_n_n rfl, broadcast_arr2]
  rfl

theorem out (A B Z : ℕ → ℕ → EReal) : out0_3 (F := Ideal) (arr2 (α := EReal) A) (arr2 (α := EReal) B) (arr2 (α := EReal) Z)
    = arr2 (α := EReal) (resid (mmT 704 A B) Z) := by
  unfold out0_3
  rw [View.ld_unit, View.ld_unit, View.ld_unit]
  refine (congrArg (fun p => View.canon [(⟨r0_2, p⟩ : View.Piece (Elt Ideal) S512x1024 .f32)]) ?_).trans (Holds.whole _ _).2
  erw [slice_arr2, slice_arr2, slice_arr2]
  rw [sh_zero, sh_zero, sh_zero]
  exact pay A B Z

variable (m : (ℓ : Loc nD τ sig) → Buf (Elt Ideal) ℓ) (c : Dev nD)

def W : ℕ → ℕ → EReal := get2 (m ((c : Thread nD τ).loc main_arg0))
def P : ℕ → ℕ → EReal := get2 (m ((c : Thread nD τ).loc main_arg1))
def Z : ℕ → ℕ → EReal := get2 (m ((c : Thread nD τ).loc main_arg2))

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

theorem iblk0 (t : Fin cfg0.N) : iblk m c 0 t = arr2 (α := EReal) (sh (t.val * 512) 0 (P m c)) := by
  funext j
  unfold iblk
  rw [View.read_apply]
  show V m c main_arg1 _ = _
  rw [V_main_arg1]
  refine (block_read (idx t).1.1 (idx t).1.2 rfl rfl).trans ?_
  rw [Nat.zero_mul]
  rfl

theorem iblk1 (t : Fin cfg0.N) : iblk m c 1 t = arr2 (α := EReal) (W m c) := by
  funext j
  unfold iblk
  rw [View.read_apply]
  show V m c main_arg0 _ = _
  rw [V_main_arg0]
  refine (block_read (idx t).2.1.1 (idx t).2.1.2 rfl rfl).trans ?_
  rw [Nat.zero_mul, Nat.zero_mul, sh_zero]
  rfl

theorem iblk2 (t : Fin cfg0.N) : iblk m c 2 t = arr2 (α := EReal) (sh (t.val * 512) (0 * 1024) (Z m c)) := by
  funext j
  unfold iblk
  rw [View.read_apply]
  show V m c main_arg2 _ = _
  rw [V_main_arg2]
  exact block_read (idx t).2.2.1.1 (idx t).2.2.1.2 rfl rfl

/-- The array the kernel leaves. -/
theorem arr : (dats m 0 c).arrAt 3 cfg0.N = arr2 (α := EReal) (dx (W m c) (P m c) (Z m c)) := by
  refine (dats m 0 c).arrAt_eq_of_cover 3 (arr2 (α := EReal) (dx (W m c) (P m c) (Z m c))) (fun t _ => ?_) fun i => ?_
  · rw [Value.flushed3, iblk0, iblk1, iblk2, out, mmT_left _ _ _ _ 1024, resid_sh]
    funext j
    rw [View.read_apply]
    show arr2 (a := 512) (b := 1024) (sh (t.val * 512) (0 * 1024) (dx (W m c) (P m c) (Z m c))) ((cfg0.win 3).xinj (grid0.coords t) j) =
      arr2 (a := 2048) (b := 1024) (dx (W m c) (P m c) (Z m c)) (((cfg0.win 3).blk t).view.emb j)
    refine block_write (j := j) _ (idx t).2.2.2.1 (idx t).2.2.2.2 ?_ ?_ fun _ => ?_ <;> rfl
  · have l0 : (i 0).val < 2048 := (i 0).isLt
    have l1 : (i 1).val < 1024 := (i 1).isLt
    have hN : (i 0).val / 512 < cfg0.N := lt_of_lt_of_eq (by omega) N_0.symm
    have hi := (idx ⟨_, hN⟩).2.2.2
    refine ⟨⟨_, hN⟩, flush0_3 _, ?_⟩
    show i ∈ ((View.whole main_v0).slice (win0_3.rect ⟨_, hN⟩)).set
    rw [View.set_slice_whole, Rect.mem_set_unit]
    exact block_cover (f := win0_3.index ⟨_, hN⟩) hi.1 (hi.2.trans (by omega)) (by omega) (by omega)

end Kernel

theorem algebraic : algebraic_Kernel11Ideal_Reference11Ideal (hKernel11Ideal := Kernel11Ideal.Gen.facts)
    (hReference11Ideal := Reference11Ideal.Gen.facts) := by
  intro m g m' g' _ hargs
  refine ⟨fun c => arr2 (α := EReal) (dx (W m c) (P m c) (Z m c)), ?_, ?_⟩
  · refine (θ_run _ _ _).mono (fun r h c => ?_) (Kernel11Ideal.Value.run_blocks m g)
    exact ⟨(h c).1.trans (arr m c), (h c).2⟩
  · refine run_stages m' g' (fun c => W m c) (fun c => P m c) (fun c => Z m c) fun c => ?_
    obtain ⟨b0, b1, b2⟩ := hargs c
    exact ⟨b0.trans (arr2_get2 _).symm, b1.trans (arr2_get2 _).symm, b2.trans (arr2_get2 _).symm⟩

end Cert.Odd.Dx
-- ==== Proof.EvenProj.lean ====
/-
  An even layer's input projection: the kernel's column blocks are the reference's product.
-/
module

public import proofs.«01_k».proof.Defs
public import proofs.«01_k».proof.Proof.Products
public import proofs.«01_k».proof.Proof.Gen.Kernel12Ideal.Value
public import proofs.«01_k».proof.Proof.Gen.Reference12Ideal.Run
public import proofs.«01_k».proof.Proof.Gen.Reference12Ideal.Read
public import Idealize.ShloMosaic.Lib.Claim

@[expose] public section

set_option maxRecDepth 16384

noncomputable section

namespace Cert.Even.Proj

open Idealize.ShloMosaic Idealize.ShloMosaic.TcCoe Idealize.SL.Sem Finset Cert.Mat Cert.Mlp

section Reference
open Cert.Reference12Ideal Cert.Reference12Ideal.Read

variable (X W : ℕ → ℕ → EReal)

abbrev A0 : FVec Ideal S2048x1024 .bf16 := arr2 (α := EReal) X
abbrev A1 : FVec Ideal S2560x1024 .bf16 := arr2 (α := EReal) W

/-- The reference's result is the input times the transposed weight. -/
theorem stages : val_main_v3 (F := Ideal) (A0 X) (A1 W) = arr2 (α := EReal) (mmT 1024 X W) := by
  funext i
  rw [val_main_v3_apply]
  exact Fin.sum_univ_eq_sum_range (fun k => (X (i 0).val k * W (i 1).val k : EReal)) 1024

variable (m : (ℓ : Loc nD τ sig) → Buf (Elt Ideal) ℓ)

/-- The reference's run, its result as a function of its arguments. -/
theorem run_stages (ρ : Dev nD → PrngReg) (X W : Dev nD → ℕ → ℕ → EReal)
    (ha : ∀ c : Dev nD, m ((c : Thread nD τ).loc main_arg0) = A0 (X c) ∧ m ((c : Thread nD τ).loc main_arg1) = A1 (W c)) :
    θ_run defs (onTc (τ := τ) (main (F := Ideal))) ⟨m, fun _ => 0, ρ⟩ fun r => ∀ c : Dev nD,
      r.2.mem ((c : Thread nD τ).loc main_v3) = arr2 (α := EReal) (mmT 1024 (X c) (W c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference12Ideal.Value.run (F := Ideal) m ρ)
  obtain ⟨h0, hk⟩ := h c
  obtain ⟨a0, a1⟩ := ha c
  refine ⟨(h0.trans (val_main_v3_eq _ _)).trans ?_, hk⟩
  rw [a0, a1]
  exact stages _ _

theorem frame : Cert.quiescent_Reference12Ideal (hReference12Ideal := Cert.Reference12Ideal.Gen.facts) := fun m ρ _ =>
  (θ_run Reference12Ideal.defs _ _).mono (fun r h => ⟨fun c => (h c).2, sem_eq_zero_of_no_sems (by decide) r.2⟩)
    (Cert.Reference12Ideal.Value.run m ρ)

end Reference

section Kernel
open Cert.Kernel12Ideal Cert.Kernel12Ideal.Gen

/-- One block: the input against a block of the weight's rows. -/
theorem out (A B : ℕ → ℕ → EReal) : out0_2 (F := Ideal) (arr2 (α := EReal) A) (arr2 (α := EReal) B)
    = arr2 (α := EReal) (mmT 1024 A B) := by
  unfold out0_2
  rw [View.ld_unit, View.ld_unit]
  refine (congrArg (fun p => View.canon [(⟨r0_2, p⟩ : View.Piece (Elt Ideal) S2048x512 .f32)]) ?_).trans (Holds.whole _ _).2
  erw [slice_arr2, slice_arr2]
  rw [sh_zero, sh_zero]
  exact matmul_nt dot_S2048x1024_S512x1024_S2048x512_1_1_0_0_n_n rfl _ _ _

variable (m : (ℓ : Loc nD τ sig) → Buf (Elt Ideal) ℓ) (c : Dev nD)

def X : ℕ → ℕ → EReal := get2 (m ((c : Thread nD τ).loc main_arg0))
def W : ℕ → ℕ → EReal := get2 (m ((c : Thread nD τ).loc main_arg1))

theorem idx : ∀ t : Fin grid0.N, (win0_0.index t 0 = 0 ∧ win0_0.index t 1 = 0) ∧ (win0_1.index t 0 = t.val ∧ win0_1.index t 1 = 0)
    ∧ (win0_2.index t 0 = 0 ∧ win0_2.index t 1 = t.val) := by decide +kernel

theorem iblk0 (t : Fin cfg0.N) : iblk m c 0 t = arr2 (α := EReal) (X m c) := by
  funext j
  unfold iblk
  rw [View.read_apply]
  show V m c main_arg0 _ = _
  rw [V_main_arg0]
  refine (block_read (idx t).1.1 (idx t).1.2 rfl rfl).trans ?_
  rw [Nat.zero_mul, Nat.zero_mul, sh_zero]
  rfl

theorem iblk1 (t : Fin cfg0.N) : iblk m c 1 t = arr2 (α := EReal) (sh (t.val * 512) 0 (W m c)) := by
  funext j
  unfold iblk
  rw [View.read_apply]
  show V m c main_arg1 _ = _
  rw [V_main_arg1]
  refine (block_read (idx t).2.1.1 (idx t).2.1.2 rfl rfl).trans ?_
  rw [Nat.zero_mul]
  rfl

/-- The array the kernel leaves. -/
theorem arr : (dats m 0 c).arrAt 2 cfg0.N = arr2 (α := EReal) (mmT 1024 (X m c) (W m c)) := by
  refine (dats m 0 c).arrAt_eq_of_cover 2 (arr2 (α := EReal) (mmT 1024 (X m c) (W m c))) (fun t _ => ?_) fun i => ?_
  · rw [Value.flushed2, iblk0, iblk1, out, mmT_rows]
    funext j
    rw [View.read_apply]
    show arr2 (a := 2048) (b := 512) (sh (0 * 2048) (t.val * 512) (mmT 1024 (X m c) (W m c))) ((cfg0.win 2).xinj (grid0.coords t) j) =
      arr2 (a := 2048) (b := 2560) (mmT 1024 (X m c) (W m c)) (((cfg0.win 2).blk t).view.emb j)
    refine block_write (j := j) _ (idx t).2.2.1 (idx t).2.2.2 ?_ ?_ fun _ => ?_ <;> rfl
  · have l0 : (i 0).val < 2048 := (i 0).isLt
    have l1 : (i 1).val < 2560 := (i 1).isLt
    have hN : (i 1).val / 512 < cfg0.N := lt_of_lt_of_eq (by omega) N_0.symm
    have hi := (idx ⟨_, hN⟩).2.2
    refine ⟨⟨_, hN⟩, flush0_2 _, ?_⟩
    show i ∈ ((View.whole main_v0).slice (win0_2.rect ⟨_, hN⟩)).set
    rw [View.set_slice_whole, Rect.mem_set_unit]
    exact block_cover (f := win0_2.index ⟨_, hN⟩) (hi.1.trans (by omega)) hi.2 (by omega) (by omega)

end Kernel

theorem algebraic : algebraic_Kernel12Ideal_Reference12Ideal (hKernel12Ideal := Kernel12Ideal.Gen.facts)
    (hReference12Ideal := Reference12Ideal.Gen.facts) := by
  intro m g m' g' _ hargs
  refine ⟨fun c => arr2 (α := EReal) (mmT 1024 (X m c) (W m c)), ?_, ?_⟩
  · refine (θ_run _ _ _).mono (fun r h c => ?_) (Kernel12Ideal.Value.run_blocks m g)
    exact ⟨(h c).1.trans (arr m c), (h c).2⟩
  · refine run_stages m' g' (fun c => X m c) (fun c => W m c) fun c => ?_
    obtain ⟨b0, b1⟩ := hargs c
    exact ⟨b0.trans (arr2_get2 _).symm, b1.trans (arr2_get2 _).symm⟩

end Cert.Even.Proj
-- ==== Proof.EvenOut.lean ====
/-
  An even layer's output projection, residual sum and layer norm: the kernel's row blocks are the reference's.
-/
module

public import proofs.«01_k».proof.Defs
public import proofs.«01_k».proof.Proof.Products
public import proofs.«01_k».proof.Proof.Fwd
public import proofs.«01_k».proof.Proof.Gen.Kernel13Ideal.Value
public import proofs.«01_k».proof.Proof.Gen.Reference13Ideal.Run
public import proofs.«01_k».proof.Proof.Gen.Reference13Ideal.Read
public import Idealize.ShloMosaic.Lib.Claim

@[expose] public section

set_option maxRecDepth 16384

noncomputable section

namespace Cert.Even.Out

open Idealize.ShloMosaic Idealize.ShloMosaic.TcCoe Idealize.SL.Sem Finset Cert.Mat Cert.Mlp
open Cert.Mlp.Fwd (res norm centred var len eps rsqrt_arr2 broadcastTo_row norm_sh row_planes sum_from_zero)

/-- The residual sum of the input and the projected mixer outputs. -/
def sum (X Y W : ℕ → ℕ → EReal) : ℕ → ℕ → EReal := res X (mm 1536 Y W)

section Reference
open Cert.Reference13Ideal Cert.Reference13Ideal.Read

variable (X Y W G B : ℕ → ℕ → EReal)

abbrev A0 : FVec Ideal S2048x1024 .f32 := arr2 (α := EReal) X
abbrev A1 : FVec Ideal S2048x1536 .bf16 := arr2 (α := EReal) Y
abbrev A2 : FVec Ideal S1536x1024 .bf16 := arr2 (α := EReal) W
abbrev A3 : FVec Ideal S4x1024 .f32 := arr2 (α := EReal) G
abbrev A4 : FVec Ideal S4x1024 .f32 := arr2 (α := EReal) B

theorem v5_arr : val_main_v5 (F := Ideal) (A0 X) (A1 Y) (A2 W) = arr2 (α := EReal) (sum X Y W) := by
  funext i
  rw [val_main_v5_apply, val_main_v1_apply, val_main_v0_apply, val_main_cst_apply, val_main_v4_apply]
  exact congrArg (fun x : EReal => Mlp.Fwd.alpha * X (i 0).val (i 1).val + x)
    (Fin.sum_univ_eq_sum_range (fun k => (Y (i 0).val k * W k (i 1).val : EReal)) 1536)

theorem v15_arr : val_main_v15 (F := Ideal) (A0 X) (A1 Y) (A2 W) = arr2 (α := EReal) (centred (sum X Y W)) := by
  funext i
  rw [val_main_v15_apply, val_main_v14_apply, val_main_v13_apply, val_main_v12_apply, val_main_cst_1_apply, val_main_v11_apply,
    val_main_v10_apply, val_main_cst_0_apply, v5_arr]
  exact congrArg (fun x : EReal => sum X Y W (i 0).val (i 1).val - Ideal.div x len) (sum_from_zero (fun k => sum X Y W (i 0).val k) 1024)

theorem v20_arr (i) : val_main_v20 (F := Ideal) (A0 X) (A1 Y) (A2 W) i = var (sum X Y W) (i 0).val := by
  rw [val_main_v20_apply, val_main_v19_apply, val_main_cst_3_apply, val_main_v18_apply, val_main_v17_apply, val_main_cst_2_apply]
  have e : val_main_v16 (F := Ideal) (A0 X) (A1 Y) (A2 W) = arr2 (α := EReal) fun i j => centred (sum X Y W) i j * centred (sum X Y W) i j := by
    funext i
    rw [val_main_v16_apply, v15_arr]
    rfl
  rw [e]
  exact congrArg (fun x : EReal => Ideal.div x len)
    (sum_from_zero (fun k => centred (sum X Y W) (i 0).val k * centred (sum X Y W) (i 0).val k) 1024)

theorem gain (i) : val_main_v29 (F := Ideal) (A3 G) i = G 0 (i 1).val := by
  rw [val_main_v29_apply, val_main_v28_apply, val_main_v7_apply, val_main_v6_apply]
  show G 0 ((i 1).val % 1024) = _
  rw [Nat.mod_eq_of_lt (show (i 1).val < 1024 from (i 1).isLt)]

theorem offset (i) : val_main_v32 (F := Ideal) (A4 B) i = B 0 (i 1).val := by
  rw [val_main_v32_apply, val_main_v31_apply, val_main_v9_apply, val_main_v8_apply]
  show B 0 ((i 1).val % 1024) = _
  rw [Nat.mod_eq_of_lt (show (i 1).val < 1024 from (i 1).isLt)]

theorem v33_arr : val_main_v33 (F := Ideal) (A0 X) (A1 Y) (A2 W) (A3 G) (A4 B) = arr2 (α := EReal) (norm (sum X Y W) (G 0) (B 0)) := by
  funext i
  have e : val_main_v22 (F := Ideal) (A0 X) (A1 Y) (A2 W) = val_main_v15 (F := Ideal) (A0 X) (A1 Y) (A2 W) := rfl
  rw [val_main_v33_apply, offset, val_main_v30_apply, gain, val_main_v27_apply, e, v15_arr, val_main_v26_apply, val_main_v25_apply,
    val_main_v24_apply, v20_arr, val_main_v23_apply, val_main_cst_4_apply]
  rfl

variable (m : (ℓ : Loc nD τ sig) → Buf (Elt Ideal) ℓ)

/-- The reference's run, its results as functions of its arguments. -/
theorem run_stages (ρ : Dev nD → PrngReg) (X Y W G B : Dev nD → ℕ → ℕ → EReal)
    (ha : ∀ c : Dev nD, m ((c : Thread nD τ).loc main_arg0) = A0 (X c) ∧ m ((c : Thread nD τ).loc main_arg1) = A1 (Y c)
      ∧ m ((c : Thread nD τ).loc main_arg2) = A2 (W c) ∧ m ((c : Thread nD τ).loc main_arg3) = A3 (G c)
      ∧ m ((c : Thread nD τ).loc main_arg4) = A4 (B c)) :
    θ_run defs (onTc (τ := τ) (main (F := Ideal))) ⟨m, fun _ => 0, ρ⟩ fun r => ∀ c : Dev nD,
      r.2.mem ((c : Thread nD τ).loc main_v5) = arr2 (α := EReal) (sum (X c) (Y c) (W c))
      ∧ r.2.mem ((c : Thread nD τ).loc main_v33) = arr2 (α := EReal) (norm (sum (X c) (Y c) (W c)) (G c 0) (B c 0))
      ∧ r.2.mem ((c : Thread nD τ).loc main_v34) = arr2 (α := EReal) (norm (sum (X c) (Y c) (W c)) (G c 0) (B c 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference13Ideal.Value.run (F := Ideal) m ρ)
  obtain ⟨h0, h1, h2, hk⟩ := h c
  obtain ⟨a0, a1, a2, a3, a4⟩ := ha c
  refine ⟨(h0.trans (val_main_v5_eq _ _ _)).trans ?_, (h1.trans (val_main_v33_eq _ _ _ _ _)).trans ?_,
    (h2.trans (val_main_v34_eq _ _ _ _ _)).trans ?_, hk⟩
  · rw [a0, a1, a2]
    exact v5_arr _ _ _
  · rw [a0, a1, a2, a3, a4]
    exact v33_arr _ _ _ _ _
  · rw [a0, a1, a2, a3, a4]
    exact Eq.trans rfl (v33_arr _ _ _ _ _)

theorem frame : Cert.quiescent_Reference13Ideal (hReference13Ideal := Cert.Reference13Ideal.Gen.facts) := fun m ρ _ =>
  (θ_run Reference13Ideal.defs _ _).mono (fun r h => ⟨fun c => (h c).2.2.2, sem_eq_zero_of_no_sems (by decide) r.2⟩)
    (Cert.Reference13Ideal.Value.run m ρ)

end Reference

section Kernel
open Cert.Kernel13Ideal Cert.Kernel13Ideal.Gen

section
variable (X Y W : ℕ → ℕ → EReal) (g b : ℕ → EReal)

theorem pay1 : k0_pay1 (F := Ideal) (arr2 (α := EReal) X) (arr2 (α := EReal) Y) (arr2 (α := EReal) W) = arr2 (α := EReal) (sum X Y W) := by
  unfold k0_pay1 matmul
  dsimp only
  rw [matmul_nn dot_S1024x1536_S1536x1024_S1024x1024_1_0_0_1_n_n rfl, broadcast_arr2, mulf_arr2, addf_arr2]
  rfl

theorem pay2 : k0_pay2 (F := Ideal) (arr2 (α := EReal) X) (arr2 (α := EReal) Y) (arr2 (α := EReal) W)
    (arr3 (α := EReal) fun _ _ => g) (arr3 (α := EReal) fun _ _ => b) = arr2 (α := EReal) (norm (sum X Y W) g b) := by
  unfold k0_pay2
  dsimp only
  rw [pay1]
  have e := fun Z => rowSum_arr2 (m := 1024) (n := 1024) Z reduces_S1024x1024_S1024 (.inl rfl) rfl
  erw [e]
  rw [shapeCast_arr1, broadcast_arr2, divf_arr2, broadcastTo_arr2, subf_arr2, mulf_arr2]
  erw [e]
  rw [shapeCast_arr1,
    divf_arr2, broadcast_arr2, addf_arr2, rsqrt_arr2, broadcastTo_arr2, mulf_arr2, shapeCast_arr3, shapeCast_arr3,
    broadcastTo_row _ (by decide), broadcastTo_row _ (by decide), mulf_arr2, addf_arr2]
  rfl

/-- A row read whole is itself. -/
theorem row_cut (h) : (extractStridedSlice S1x1x1024 ![0, 0, 0] (arr3 (α := EReal) (a := 1) (b := 1) (c := 1024) fun _ _ => g) h : Vec Ideal S1x1x1024 .f32)
    = arr3 (α := EReal) fun _ _ => g := by
  funext j
  exact congrArg g (Nat.zero_add _)

theorem out5 : out0_5 (F := Ideal) (arr2 (α := EReal) X) (arr2 (α := EReal) Y) (arr2 (α := EReal) W)
    (arr3 (α := EReal) fun _ _ => g) (arr3 (α := EReal) fun _ _ => b) = arr2 (α := EReal) (sum X Y W) := by
  unfold out0_5
  rw [View.ld_unit, View.ld_unit, View.ld_unit]
  refine (congrArg (fun p => View.canon [(⟨r0_0, p⟩ : View.Piece (Elt Ideal) S1024x1024 .f32)]) ?_).trans (Holds.whole _ _).2
  erw [slice_arr2, slice_arr2, slice_arr2]
  rw [sh_zero, sh_zero, sh_zero]
  exact pay1 X Y W

theorem out6 : out0_6 (F := Ideal) (arr2 (α := EReal) X) (arr2 (α := EReal) Y) (arr2 (α := EReal) W)
    (arr3 (α := EReal) fun _ _ => g) (arr3 (α := EReal) fun _ _ => b) = arr2 (α := EReal) (norm (sum X Y W) g b) := by
  unfold out0_6
  rw [View.ld_unit, View.ld_unit, View.ld_unit, View.ld_unit, View.ld_unit]
  refine (congrArg (fun p => View.canon [(⟨r0_0, p⟩ : View.Piece (Elt Ideal) S1024x1024 .f32)]) ?_).trans (Holds.whole _ _).2
  erw [slice_arr2, slice_arr2, slice_arr2]
  rw [sh_zero, sh_zero, sh_zero]
  erw [row_cut, row_cut]
  exact pay2 X Y W g b

theorem out7 : out0_7 (F := Ideal) (arr2 (α := EReal) X) (arr2 (α := EReal) Y) (arr2 (α := EReal) W)
    (arr3 (α := EReal) fun _ _ => g) (arr3 (α := EReal) fun _ _ => b) = arr2 (α := EReal) (norm (sum X Y W) g b) := out6 X Y W g b

/-- The residual sum is taken row by row. -/
theorem sum_sh (p : ℕ) : sum (sh p 0 X) (sh p 0 Y) W = sh p (0 * 1024) (sum X Y W) := by
  funext i j
  simp only [sum, res, mm, sh, Nat.zero_add, Nat.zero_mul]
end

variable (m : (ℓ : Loc nD τ sig) → Buf (Elt Ideal) ℓ) (c : Dev nD)

def X : ℕ → ℕ → EReal := get2 (m ((c : Thread nD τ).loc main_arg0))
def Y : ℕ → ℕ → EReal := get2 (m ((c : Thread nD τ).loc main_arg1))
def W : ℕ → ℕ → EReal := get2 (m ((c : Thread nD τ).loc main_arg2))
def G : ℕ → ℕ → EReal := get2 (m ((c : Thread nD τ).loc main_arg3))
def B : ℕ → ℕ → EReal := get2 (m ((c : Thread nD τ).loc main_arg4))

theorem g_read : V m c main_v0 = arr3 (α := EReal) fun p _ j => G m c p j := by
  rw [← row_planes]
  unfold G
  rw [arr2_get2]
  unfold V
  simp only [hostOps0, List.flatten_cons, List.flatten_nil, List.cons_append, List.nil_append, List.append_nil]
  after_reads_simp
  rfl

theorem b_read : V m c main_v1 = arr3 (α := EReal) fun p _ j => B m c p j := by
  rw [← row_planes]
  unfold B
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by decide +kernel

theorem still : ∀ t : Fin grid0.N, (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0) := by decide +kernel

theorem iblk0 (t : Fin cfg0.N) : iblk m c 0 t = arr2 (α := EReal) (sh (t.val * 1024) 0 (X m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (Y m c)) := by
  funext j
  unfold iblk
  rw [View.read_apply]
  show V m c main_arg1 _ = _
  rw [V_main_arg1]
  refine (block_read (rows t).2.1.1 (rows t).2.1.2 rfl rfl).trans ?_
  rw [Nat.zero_mul]
  rfl

theorem iblk2 (t : Fin cfg0.N) : iblk m c 2 t = arr2 (α := EReal) (W m c) := by
  funext j
  unfold iblk
  rw [View.read_apply]
  show V m c main_arg2 _ = _
  rw [V_main_arg2]
  refine (block_read (still t).1.1 (still t).1.2 rfl rfl).trans ?_
  rw [Nat.zero_mul, Nat.zero_mul, sh_zero]
  rfl

theorem iblk3 (t : Fin cfg0.N) : iblk m c 3 t = arr3 (α := EReal) fun _ _ => G m c 0 := by
  funext j
  unfold iblk
  rw [View.read_apply]
  show V m c main_v0 _ = _
  rw [g_read]
  exact (plane_write (j := j) (j' := j) (fun p _ j => G m c p j) (still t).2.1.1 (still t).2.1.2.1 (still t).2.1.2.2 rfl rfl rfl fun _ => rfl).symm

theorem iblk4 (t : Fin cfg0.N) : iblk m c 4 t = arr3 (α := EReal) fun _ _ => B m c 0 := by
  funext j
  unfold iblk
  rw [View.read_apply]
  show V m c main_v1 _ = _
  rw [b_read]
  exact (plane_write (j := j) (j' := j) (fun p _ j => B m c p j) (still t).2.2.1 (still t).2.2.2.1 (still t).2.2.2.2 rfl rfl rfl fun _ => rfl).symm

/-- The residual sum and its norm. -/
abbrev Z : ℕ → ℕ → EReal := sum (X m c) (Y m c) (W m c)
abbrev N : ℕ → ℕ → EReal := norm (Z m c) (G m c 0) (B m c 0)

theorem hN (i : (⟨2, ![2048, 1024]⟩ : Shape).Idx) : (i 0).val / 1024 < cfg0.N := by
  have l0 : (i 0).val < 2048 := (i 0).isLt
  exact lt_of_lt_of_eq (by omega) N_0.symm

/-- The residual sum the kernel leaves. -/
theorem arr_z : (dats m 0 c).arrAt 5 cfg0.N = arr2 (α := EReal) (Z m c) := by
  refine (dats m 0 c).arrAt_eq_of_cover 5 (arr2 (α := EReal) (Z m c)) (fun t _ => ?_) fun i => ?_
  · rw [Value.flushed5, iblk0, iblk1, iblk2, iblk3, iblk4, out5, sum_sh]
    funext j
    rw [View.read_apply]
    show arr2 (a := 1024) (b := 1024) (sh (t.val * 1024) (0 * 1024) (Z m c)) ((cfg0.win 5).xinj (grid0.coords t) j) =
      arr2 (a := 2048) (b := 1024) (Z m c) (((cfg0.win 5).blk t).view.emb j)
    refine block_write (j := j) _ (rows t).2.2.1.1 (rows t).2.2.1.2 ?_ ?_ fun _ => ?_ <;> rfl
  · have l1 : (i 1).val < 1024 := (i 1).isLt
    have hi := (rows ⟨_, hN i⟩).2.2.1
    refine ⟨⟨_, hN i⟩, flush0_5 _, ?_⟩
    show i ∈ ((View.whole main_v2_0).slice (win0_5.rect ⟨_, hN i⟩)).set
    rw [View.set_slice_whole, Rect.mem_set_unit]
    exact block_cover (f := win0_5.index ⟨_, hN i⟩) hi.1 (hi.2.trans (by omega)) (by omega) (by omega)

/-- The norm the kernel leaves. -/
theorem arr_n : (dats m 0 c).arrAt 6 cfg0.N = arr2 (α := EReal) (N m c) := by
  refine (dats m 0 c).arrAt_eq_of_cover 6 (arr2 (α := EReal) (N m c)) (fun t _ => ?_) fun i => ?_
  · rw [Value.flushed6, iblk0, iblk1, iblk2, iblk3, iblk4, out6, sum_sh, norm_sh]
    funext j
    rw [View.read_apply]
    show arr2 (a := 1024) (b := 1024) (sh (t.val * 1024) (0 * 1024) (N m c)) ((cfg0.win 6).xinj (grid0.coords t) j) =
      arr2 (a := 2048) (b := 1024) (N m c) (((cfg0.win 6).blk t).view.emb j)
    refine block_write (j := j) _ (rows t).2.2.2.1.1 (rows t).2.2.2.1.2 ?_ ?_ fun _ => ?_ <;> rfl
  · have l1 : (i 1).val < 1024 := (i 1).isLt
    have hi := (rows ⟨_, hN i⟩).2.2.2.1
    refine ⟨⟨_, hN i⟩, flush0_6 _, ?_⟩
    show i ∈ ((View.whole main_v2_1).slice (win0_6.rect ⟨_, hN i⟩)).set
    rw [View.set_slice_whole, Rect.mem_set_unit]
    exact block_cover (f := win0_6.index ⟨_, hN i⟩) hi.1 (hi.2.trans (by omega)) (by omega) (by omega)

/-- Its copy in the narrow format. -/
theorem arr_nb : (dats m 0 c).arrAt 7 cfg0.N = arr2 (α := EReal) (N m c) := by
  refine (dats m 0 c).arrAt_eq_of_cover 7 (arr2 (α := EReal) (N m c)) (fun t _ => ?_) fun i => ?_
  · rw [Value.flushed7, iblk0, iblk1, iblk2, iblk3, iblk4, out7, sum_sh, norm_sh]
    funext j
    rw [View.read_apply]
    show arr2 (a := 1024) (b := 1024) (sh (t.val * 1024) (0 * 1024) (N m c)) ((cfg0.win 7).xinj (grid0.coords t) j) =
      arr2 (a := 2048) (b := 1024) (N m c) (((cfg0.win 7).blk t).view.emb j)
    refine block_write (j := j) _ (rows t).2.2.2.2.1 (rows t).2.2.2.2.2 ?_ ?_ fun _ => ?_ <;> rfl
  · have l1 : (i 1).val < 1024 := (i 1).isLt
    have hi := (rows ⟨_, hN i⟩).2.2.2.2
    refine ⟨⟨_, hN i⟩, flush0_7 _, ?_⟩
    show i ∈ ((View.whole main_v2_2).slice (win0_7.rect ⟨_, hN i⟩)).set
    rw [View.set_slice_whole, Rect.mem_set_unit]
    exact block_cover (f := win0_7.index ⟨_, hN i⟩) hi.1 (hi.2.trans (by omega)) (by omega) (by omega)

end Kernel

theorem algebraic : algebraic_Kernel13Ideal_Reference13Ideal (hKernel13Ideal := Kernel13Ideal.Gen.facts)
    (hReference13Ideal := Reference13Ideal.Gen.facts) := by
  intro m g m' g' _ hargs
  refine ⟨fun c => arr2 (α := EReal) (Z m c), fun c => arr2 (α := EReal) (N m c), fun c => arr2 (α := EReal) (N m c), ?_, ?_⟩
  · refine (θ_run _ _ _).mono (fun r h c => ?_) (Kernel13Ideal.Value.run_blocks m g)
    exact ⟨(h c).1.trans (arr_z m c), (h c).2.1.trans (arr_n m c), (h c).2.2.1.trans (arr_nb m c), (h c).2.2.2⟩
  · refine run_stages m' g' (fun c => X m c) (fun c => Y m c) (fun c => W m c) (fun c => G m c) (fun c => B m c) fun c => ?_
    obtain ⟨b0, b1, b2, b3, b4⟩ := hargs c
    exact ⟨b0.trans (arr2_get2 _).symm, b1.trans (arr2_get2 _).symm, b2.trans (arr2_get2 _).symm, b3.trans (arr2_get2 _).symm,
      b4.trans (arr2_get2 _).symm⟩

end Cert.Even.Out
-- ==== Proof.AttnFwdPay.lean ====
/-
  What each step of the attention forward kernel computes, on arrays given by functions, and that its eight row tiles
  of 256 queries make up one head's output.
-/
module

public import proofs.«01_k».proof.Proof.Payloads
public import proofs.«01_k».proof.Proof.Tiles
public import proofs.«01_k».proof.Proof.Gen.Kernel14Ideal.Skeleton

@[expose] public section

set_option maxRecDepth 16384

noncomputable section

namespace Cert.Attn.Fwd

open Idealize.ShloMosaic Finset Cert.Mat Cert.Kernel14Ideal Cert.Kernel14Ideal.Gen

/-! ## One head's output, and a row tile of it -/

/-- The head's output: each query's probabilities times the values. -/
def out (q k v : ℕ → ℕ → EReal) : ℕ → ℕ → EReal := mm 2048 (probs q k) v

/-- The 256 queries from `p` on, over the `p + 256` keys up to their own. -/
def tile (p : ℕ) (q k v : ℕ → ℕ → EReal) : ℕ → ℕ → EReal := mm (p + 256) (softmax (p + 256) (tileScores p q k)) v

/-- A tile's probabilities are the head's, for tiles made up of blocks of 64. -/
theorem softmax_tile {q k : ℕ → ℕ → EReal} {p s i j : ℕ} (hp : 64 ∣ p) (hs : 64 ∣ s) (h : p + s ≤ 2048) (hi : i < s)
    (hj : j < p + s) : softmax (p + s) (tileScores p q k) i j = probs q k (p + i) j := by
  obtain ⟨c, rfl⟩ := hp
  obtain ⟨e, rfl⟩ := hs
  have hl : logits (sh (64 * c) 0 q) k i = logits q k (64 * c + i) := by
    funext t; simp only [logits, mmT, sh, Nat.zero_add]
  refine softmax_restrict h _ _ i (64 * c + i) (fun t ht => ?_) (fun t h1 _ => ?_) hj
  · unfold tileScores scores hcat blockMask
    by_cases htp : t < 64 * c
    · rw [if_pos htp, hl, if_pos (by omega)]
    · have b : (t - 64 * c) / 64 ≤ i / 64 ↔ t / 64 ≤ (64 * c + i) / 64 := by omega
      rw [if_neg htp]
      simp only [b, sh, Nat.zero_add]
      rw [hl, Nat.add_sub_cancel' (not_lt.1 htp)]
  · unfold scores blockMask
    rw [if_neg (by omega)]

/-- A tile is those rows of the head's output. -/
theorem tile_eq {q k v : ℕ → ℕ → EReal} (hz : MaskedZero q k) {p i : ℕ} (j : ℕ) (hp : 64 ∣ p) (h : p + 256 ≤ 2048)
    (hi : i < 256) : tile p q k v i j = out q k v (p + i) j := by
  unfold tile out mm
  rw [← sum_restrict h (fun t => probs q k (p + i) t * v t j) fun t h1 h2 => ?_]
  · exact Finset.sum_congr rfl fun t ht => by rw [softmax_tile hp (by decide) h hi (mem_range.1 ht)]
  · obtain ⟨c, rfl⟩ := hp
    rw [hz _ t h2 (by omega), zero_mul]

/-! ## The steps -/

/-- The mask of a tile's own queries and keys, from two index arrays shifted right by six. -/
theorem mask_op {n : ℕ} (hn : n ≤ 512) (A : ℕ → ℕ → EReal) (h0 h1) :
    select (cmpi .sle (shrsi (iota .tc (⟨2, ![n, n]⟩ : Shape) 32 [1] h1) (arr2 fun _ _ => 6#32))
        (shrsi (iota .tc (⟨2, ![n, n]⟩ : Shape) 32 [0] h0) (arr2 fun _ _ => 6#32)))
      (arr2 (α := EReal) (a := n) (b := n) A) (arr2 fun _ _ => FloatOps.ofBits (F := Ideal) .f32 0xFF800000#32)
      = arr2 (α := EReal) (blockMask A) := by
  funext y
  have l0 := ValueIdx.idx2_lt0 y
  have l1 := ValueIdx.idx2_lt1 y
  show Scalar.select (IntOp.cmpi .sle (IntOp.shrsi .vector (iota .tc (⟨2, ![n, n]⟩ : Shape) 32 [1] h1 y) 6#32)
    (IntOp.shrsi .vector (iota .tc (⟨2, ![n, n]⟩ : Shape) 32 [0] h0 y) 6#32)) (A (y 0).val (y 1).val)
      (FloatOps.ofBits .f32 0xFF800000#32 : Ideal .f32) = blockMask A (y 0).val (y 1).val
  rw [iota_single_apply, iota_single_apply, ofBits_neg_inf, shrsi_six ⟨(y 1).val, by omega⟩, shrsi_six ⟨(y 0).val, by omega⟩,
    sle_small ⟨(y 1).val / 64, by omega⟩ ⟨(y 0).val / 64, by omega⟩]
  unfold blockMask Scalar.select
  by_cases h : (y 1).val / 64 ≤ (y 0).val / 64 <;> simp [h]

/-- A row softmax of `m` rows as the kernel writes it. -/
theorem softmax_rows {m n : ℕ} (A : ℕ → ℕ → EReal) (h1 h2 h3 h4 h5 h6 h7 h8 h9 h10) :
    divf (F := Ideal) (φ := .f32)
      (exp (subf (arr2 (α := EReal) (a := m) (b := n) A) (broadcastTo (⟨2, ![m, n]⟩ : Shape) (shapeCast (⟨2, ![m, 1]⟩ : Shape)
        (multiReduction (F := Ideal) (φ := .f32) .maximumf [1] (⟨1, ![m]⟩ : Shape) (arr2 (a := m) (b := n) A) 0xFF800000#32 h1 h2 h3) h4) h5)))
      (broadcastTo (⟨2, ![m, n]⟩ : Shape) (shapeCast (⟨2, ![m, 1]⟩ : Shape)
        (multiReduction (F := Ideal) (φ := .f32) .add [1] (⟨1, ![m]⟩ : Shape)
          (exp (subf (arr2 (α := EReal) (a := m) (b := n) A) (broadcastTo (⟨2, ![m, n]⟩ : Shape) (shapeCast (⟨2, ![m, 1]⟩ : Shape)
            (multiReduction (F := Ideal) (φ := .f32) .maximumf [1] (⟨1, ![m]⟩ : Shape) (arr2 (a := m) (b := n) A) 0xFF800000#32 h1 h2 h3) h4) h5)))
          0x00000000#32 h6 h7 h8) h9) h10) = arr2 (α := EReal) (softmax n A) := by
  rw [rowMax_arr2, shapeCast_arr1, broadcastTo_arr2, subf_arr2, exp_arr2, rowSum_arr2, shapeCast_arr1, broadcastTo_arr2, divf_arr2]
  rfl

section
variable (x y z w u q k v : ℕ → ℕ → EReal)

theorem pay1 : k0_pay1 (F := Ideal) (arr2 (α := EReal) x) (arr3 (α := EReal) fun _ => w) = arr2 (mm 128 x w) := by
  unfold k0_pay1
  dsimp only
  simp only [shapeCast_arr3, matmul_nn dot_S2048x128_S128x1024_S2048x1024_1_0_0_1_n_n rfl]

theorem pay2 : k0_pay2 (F := Ideal) (arr2 (α := EReal) x) (arr3 (α := EReal) fun _ => w) (arr2 (α := EReal) y)
    = arr2 fun i j => y i j + mm 128 x w i j := by
  unfold k0_pay2
  dsimp only
  rw [pay1, shapeCast_arr2, addf_arr2]

/-- The queries. -/
theorem pay3 : k0_pay3 (F := Ideal) (arr2 (α := EReal) x) (arr2 (α := EReal) y) (arr2 (α := EReal) z) (arr3 (α := EReal) fun _ => w) (arr3 (α := EReal) fun _ => u)
    = arr2 (hcat 128 (mm 384 x w) (rope y z (mm 384 x u))) := by
  unfold k0_pay3
  dsimp only
  rw [concatenate_eq_cat2, concatenate_eq_cat2]
  simp only [arr2_elt_bf16, arr2_elt_f32, arr3_elt_bf16, shapeCast_arr3,
    matmul_nn dot_S2048x384_S384x128_S2048x128_1_0_0_1_n_n rfl, matmul_nn dot_S2048x384_S384x64_S2048x64_1_0_0_1_n_n rfl,
    slice_arr2, sh_zero, mulf_arr2, subf_arr2, addf_arr2, cat2_arr2, truncf_arr2]
  simp only [rope, sh, Nat.zero_add]

/-- The keys. -/
theorem pay4 : k0_pay4 (F := Ideal) (arr2 (α := EReal) x) (arr2 (α := EReal) y) (arr3 (α := EReal) fun _ => w)
    = arr2 (hcat 128 (mm 256 x w) y) := by
  unfold k0_pay4
  dsimp only
  rw [concatenate_eq_cat2]
  simp only [arr2_elt_bf16, arr2_elt_f32, arr3_elt_bf16, shapeCast_arr3,
    matmul_nn dot_S2048x256_S256x128_S2048x128_1_0_0_1_n_n rfl, cat2_arr2, truncf_arr2]

/-- The values. -/
theorem pay5 : k0_pay5 (F := Ideal) (arr2 (α := EReal) x) (arr3 (α := EReal) fun _ => w) = arr2 (mm 256 x w) := by
  unfold k0_pay5
  simp only [arr2_elt_bf16, arr2_elt_f32, arr3_elt_bf16, shapeCast_arr3,
    matmul_nn dot_S2048x256_S256x128_S2048x128_1_0_0_1_n_n rfl, truncf_arr2]

theorem pay6 : k0_pay6 (F := Ideal) (arr2 (α := EReal) x) (arr2 (α := EReal) y) (arr2 (α := EReal) z) (arr3 (α := EReal) fun _ => w) (arr3 (α := EReal) fun _ => u)
    = arr2 (hcat 128 (mm 384 x w) (rope y z (mm 384 x u))) := by
  unfold k0_pay6
  dsimp only
  rw [pay3, slice_arr2, sh_zero]

theorem pay7 : k0_pay7 (F := Ideal) (arr2 (α := EReal) x) (arr2 (α := EReal) y) (arr3 (α := EReal) fun _ => w)
    = arr2 (hcat 128 (mm 256 x w) y) := by
  unfold k0_pay7
  dsimp only
  rw [pay4, slice_arr2, sh_zero]

/-- The first tile. -/
theorem pay8 : k0_pay8 (F := Ideal) (arr2 (α := EReal) v) (arr2 (α := EReal) q) (arr2 (α := EReal) k)
    = arr3 fun _ => tile 0 q k v := by
  unfold k0_pay8
  simp only [arr2_elt_bf16, arr2_elt_f32, broadcast_arr2, matmul_nt dot_S256x192_S256x192_S256x256_1_1_0_0_n_n rfl,
    mulf_arr2, slice_arr2, sh_zero]
  rw [mask_op (by decide)]
  erw [softmax_rows]
  simp only [truncf_arr2, matmul_nn dot_S256x256_S256x128_S256x128_1_0_0_1_n_n rfl, shapeCast_arr2_arr3]
  unfold tile
  rw [tileScores_zero]
  rfl

/-- The second tile's scores against the keys before its own. -/
theorem pay9 : k0_pay9 (F := Ideal) (arr2 (α := EReal) q) (arr2 (α := EReal) k) = arr2 (logits (sh 256 0 q) k) := by
  unfold k0_pay9
  simp only [broadcast_arr2, slice_arr2, sh_zero, matmul_nt dot_S256x192_S512x192_S256x512_1_1_0_0_n_n rfl, mulf_arr2]
  rfl

/-- The second tile's scores against its own keys. -/
theorem pay10 : k0_pay10 (F := Ideal) (arr2 (α := EReal) q) (arr2 (α := EReal) k)
    = arr2 (blockMask (sh 0 256 (logits (sh 256 0 q) k))) := by
  unfold k0_pay10
  dsimp only
  rw [pay9]
  simp only [broadcast_arr2, slice_arr2]
  exact mask_op (by decide) _ _ _

/-- The second tile from its two parts. -/
theorem pay11 : k0_pay11 (F := Ideal) (arr2 (α := EReal) v) (arr2 (α := EReal) x) (arr2 (α := EReal) y)
    = arr3 fun _ => mm 512 (softmax 512 (hcat 256 x y)) v := by
  unfold k0_pay11
  dsimp only
  rw [concatenate_eq_cat2]
  simp only [slice_arr2, sh_zero, cat2_arr2]
  erw [softmax_rows]
  simp only [truncf_arr2, matmul_nn dot_S256x512_S512x128_S256x128_1_0_0_1_n_n rfl, shapeCast_arr2_arr3]

/-- The third tile's probabilities. -/
theorem pay12 : k0_pay12 (F := Ideal) (arr2 (α := EReal) q) (arr2 (α := EReal) k) = arr2 (softmax 768 (tileScores 512 q k)) := by
  unfold k0_pay12
  dsimp only
  rw [concatenate_eq_cat2]
  simp only [broadcast_arr2, slice_arr2, sh_zero, matmul_nt dot_S256x192_S768x192_S256x768_1_1_0_0_n_n rfl, mulf_arr2]
  rw [mask_op (by decide)]
  simp only [cat2_arr2]
  erw [softmax_rows]
  simp only [truncf_arr2]
  rfl

theorem pay13 : k0_pay13 (F := Ideal) (arr2 (α := EReal) v) = arr2 v := by
  unfold k0_pay13
  rw [slice_arr2, sh_zero]

theorem pay14 : k0_pay14 (F := Ideal) (arr2 (α := EReal) x) (arr2 (α := EReal) v) = arr3 fun _ => mm 768 x v := by
  unfold k0_pay14
  simp only [truncf_arr2, matmul_nn dot_S256x768_S768x128_S256x128_1_0_0_1_n_n rfl, shapeCast_arr2_arr3]

/-- The fourth tile. -/
theorem pay15 : k0_pay15 (F := Ideal) (arr2 (α := EReal) q) (arr2 (α := EReal) k) (arr2 (α := EReal) v)
    = arr3 fun _ => tile 768 q k v := by
  unfold k0_pay15
  dsimp only
  rw [concatenate_eq_cat2]
  simp only [broadcast_arr2, slice_arr2, sh_zero, matmul_nt dot_S256x192_S1024x192_S256x1024_1_1_0_0_n_n rfl, mulf_arr2]
  rw [mask_op (by decide)]
  simp only [cat2_arr2]
  erw [softmax_rows]
  simp only [truncf_arr2, matmul_nn dot_S256x1024_S1024x128_S256x128_1_0_0_1_n_n rfl, shapeCast_arr2_arr3]
  rfl

/-- The fifth tile's products of queries and keys. -/
theorem pay16 : k0_pay16 (F := Ideal) (arr2 (α := EReal) q) (arr2 (α := EReal) k) = arr2 (mmT 192 (sh 1024 0 q) k) := by
  unfold k0_pay16
  simp only [slice_arr2, sh_zero, matmul_nt dot_S256x192_S1280x192_S256x1280_1_1_0_0_n_n rfl]

/-- The fifth tile from them. -/
theorem pay17 (c : EReal) : k0_pay17 (F := Ideal) (arr2 (α := EReal) v) (arr2 (α := EReal) x) c
    = arr3 fun _ => mm 1280 (softmax 1280 (hcat 1024 (fun i j => x i j * c) (blockMask (sh 0 1024 fun i j => x i j * c)))) v := by
  unfold k0_pay17
  dsimp only
  rw [concatenate_eq_cat2]
  simp only [broadcast_arr2, slice_arr2, sh_zero, mulf_arr2]
  rw [mask_op (by decide)]
  simp only [cat2_arr2]
  erw [softmax_rows]
  simp only [truncf_arr2, matmul_nn dot_S256x1280_S1280x128_S256x128_1_0_0_1_n_n rfl, shapeCast_arr2_arr3]

/-- The sixth tile's scores. -/
theorem pay18 : k0_pay18 (F := Ideal) (arr2 (α := EReal) q) (arr2 (α := EReal) k) = arr2 (logits (sh 1280 0 q) k) := by
  unfold k0_pay18
  simp only [broadcast_arr2, slice_arr2, sh_zero, matmul_nt dot_S256x192_S1536x192_S256x1536_1_1_0_0_n_n rfl, mulf_arr2]
  rfl

/-- The sixth tile's scores against its own keys. -/
theorem pay19 : k0_pay19 (F := Ideal) (arr2 (α := EReal) q) (arr2 (α := EReal) k)
    = arr2 (blockMask (sh 0 1280 (logits (sh 1280 0 q) k))) := by
  unfold k0_pay19
  dsimp only
  rw [pay18]
  simp only [broadcast_arr2, slice_arr2]
  exact mask_op (by decide) _ _ _

/-- The sixth tile from its two parts. -/
theorem pay20 : k0_pay20 (F := Ideal) (arr2 (α := EReal) v) (arr2 (α := EReal) x) (arr2 (α := EReal) y)
    = arr3 fun _ => mm 1536 (softmax 1536 (hcat 1280 x y)) v := by
  unfold k0_pay20
  dsimp only
  rw [concatenate_eq_cat2]
  simp only [slice_arr2, sh_zero, cat2_arr2]
  erw [softmax_rows]
  simp only [truncf_arr2, matmul_nn dot_S256x1536_S1536x128_S256x128_1_0_0_1_n_n rfl, shapeCast_arr2_arr3]

/-- The seventh tile's probabilities. -/
theorem pay21 : k0_pay21 (F := Ideal) (arr2 (α := EReal) q) (arr2 (α := EReal) k) = arr2 (softmax 1792 (tileScores 1536 q k)) := by
  unfold k0_pay21
  dsimp only
  rw [concatenate_eq_cat2]
  simp only [broadcast_arr2, slice_arr2, sh_zero, matmul_nt dot_S256x192_S1792x192_S256x1792_1_1_0_0_n_n rfl, mulf_arr2]
  rw [mask_op (by decide)]
  simp only [cat2_arr2]
  erw [softmax_rows]
  simp only [truncf_arr2]
  rfl

theorem pay22 : k0_pay22 (F := Ideal) (arr2 (α := EReal) v) = arr2 v := by
  unfold k0_pay22
  rw [slice_arr2, sh_zero]

theorem pay23 : k0_pay23 (F := Ideal) (arr2 (α := EReal) x) (arr2 (α := EReal) v) = arr3 fun _ => mm 1792 x v := by
  unfold k0_pay23
  simp only [truncf_arr2, matmul_nn dot_S256x1792_S1792x128_S256x128_1_0_0_1_n_n rfl, shapeCast_arr2_arr3]

/-- The last tile. -/
theorem pay24 : k0_pay24 (F := Ideal) (arr2 (α := EReal) q) (arr2 (α := EReal) k) (arr2 (α := EReal) v)
    = arr3 fun _ => tile 1792 q k v := by
  unfold k0_pay24
  dsimp only
  rw [concatenate_eq_cat2]
  simp only [broadcast_arr2, slice_arr2, sh_zero, matmul_nt dot_S256x192_S2048x192_S256x2048_1_1_0_0_n_n rfl, mulf_arr2]
  rw [mask_op (by decide)]
  simp only [cat2_arr2]
  erw [softmax_rows]
  simp only [truncf_arr2, matmul_nn dot_S256x2048_S2048x128_S256x128_1_0_0_1_n_n rfl, shapeCast_arr2_arr3]
  rfl

theorem pay25 : k0_pay25 (F := Ideal) (arr3 (α := EReal) fun _ => x) = arr2 x := by
  unfold k0_pay25
  rw [shapeCast_arr3]

end

/-! ## Row tiles make up the whole block -/

/-- The first `p` rows of the block have been written, with `G`. -/
def RowsTo (L : List (View.Piece (Elt Ideal) (⟨3, ![1, 2048, 128]⟩ : Shape) .bf16)) (p : ℕ) (G : ℕ → ℕ → EReal) : Prop :=
  ∀ y : (⟨3, ![1, 2048, 128]⟩ : Shape).Idx, (y 1).val < p → (∃ x ∈ L, y ∈ x.1.set) ∧ View.canon L y = G (y 1).val (y 2).val

theorem RowsTo.nil (G : ℕ → ℕ → EReal) : RowsTo [] 0 G := fun _ h => absurd h (Nat.not_lt_zero _)

/-- One more row tile. -/
theorem RowsTo.cons {L : List (View.Piece (Elt Ideal) (⟨3, ![1, 2048, 128]⟩ : Shape) .bf16)} {p : ℕ} {G W : ℕ → ℕ → EReal}
    {P : (⟨3, ![1, 256, 128]⟩ : Shape).Idx → EReal} (h : RowsTo L p G) (p' : ℕ) (hp' : p + 256 = p') (inb)
    (hP : P = arr3 fun _ => W) (hW : ∀ i j, i < 256 → W i j = G (p + i) j) :
    RowsTo ((⟨Rect.unit ![0, p, 0] ![1, 256, 128] inb, P⟩ : View.Piece (Elt Ideal) (⟨3, ![1, 2048, 128]⟩ : Shape) .bf16) :: L)
      p' G := by
  subst hP hp'
  intro y hy
  have l2 : (y 2).val < 128 := (y 2).isLt
  rw [canon_cons_arr3 (e := .bf16)]
  by_cases hp : p ≤ (y 1).val
  · refine ⟨⟨_, List.mem_cons_self, (mem_rect3 (inb := inb)).2 ⟨⟨hp, hy⟩, Nat.zero_le _, by rw [Nat.zero_add]; exact l2⟩⟩, ?_⟩
    rw [if_pos ⟨⟨hp, hy⟩, by omega⟩, hW _ _ (by omega), Nat.add_sub_cancel' hp, Nat.sub_zero]
  · obtain ⟨⟨x, hx, hm⟩, e⟩ := h y (by omega)
    exact ⟨⟨x, List.mem_cons_of_mem _ hx, hm⟩, by rw [if_neg (fun q => hp q.1.1), e]⟩

/-- All rows. -/
theorem RowsTo.cover {L : List (View.Piece (Elt Ideal) (⟨3, ![1, 2048, 128]⟩ : Shape) .bf16)} {G : ℕ → ℕ → EReal}
    (h : RowsTo L 2048 G) (y : (⟨3, ![1, 2048, 128]⟩ : Shape).Idx) : ∃ x ∈ L, y ∈ x.1.set := (h y (y 1).isLt).1

theorem RowsTo.canon {L : List (View.Piece (Elt Ideal) (⟨3, ![1, 2048, 128]⟩ : Shape) .bf16)} {G : ℕ → ℕ → EReal}
    (h : RowsTo L 2048 G) : View.canon L = arr3 (α := EReal) fun _ => G := funext fun y => (h y (y 1).isLt).2

end Cert.Attn.Fwd
-- ==== Proof.AttnFwdOuts.lean ====
/-
  What the attention forward kernel leaves in its two output blocks at one grid point: the head's output, and its share
  of the mixed output, to which the later heads add theirs.
-/
module

public import proofs.«01_k».proof.Proof.AttnFwdPay
public import proofs.«01_k».proof.Proof.Gen.Kernel14Ideal.Frame

@[expose] public section

set_option maxRecDepth 16384

noncomputable section

namespace Cert.Attn.Fwd

open Idealize.ShloMosaic Finset Cert.Mat Cert.Kernel14Ideal Cert.Kernel14Ideal.Gen

/-! The later heads' steps are those of the first head. -/
theorem H8_8_B : @kernelRun0_B.sl.H8_8 = @kernelRun0_A.sl.H8_8 := rfl
theorem r_14_B : @kernelRun0_B.sl.r_14 = @kernelRun0_A.sl.r_14 := rfl

section
variable (cq ckv kpe co si wq wkv wo x9 : ℕ → ℕ → EReal) (c : Dev nD) (i : grid0.Coords)
  (arg1 : Memref sig .tc .vmem S2048x384 .bf16) (harg1 : arg1.IsWhole)
  (arg2 : Memref sig .tc .vmem S2048x256 .bf16) (harg2 : arg2.IsWhole)
  (arg3 : Memref sig .tc .vmem S2048x64 .f32) (harg3 : arg3.IsWhole)
  (arg4 : Memref sig .tc .vmem S2048x32 .f32) (harg4 : arg4.IsWhole)
  (arg5 : Memref sig .tc .vmem S2048x32 .f32) (harg5 : arg5.IsWhole)
  (arg6 : Memref sig .tc .vmem S1x384x192 .bf16) (harg6 : arg6.IsWhole)
  (arg7 : Memref sig .tc .vmem S1x256x256 .bf16) (harg7 : arg7.IsWhole)
  (arg8 : Memref sig .tc .vmem S1x128x1024 .bf16) (harg8 : arg8.IsWhole)
  (arg9 : Memref sig .tc .vmem S1x2048x128 .bf16) (harg9 : arg9.IsWhole)
  (arg10 : Memref sig .tc .vmem S2048x1024 .f32) (harg10 : arg10.IsWhole)

/-- The queries. -/
theorem r_val :
    kernelRun0_A.sl.r (F := Ideal) c arg1 harg1 arg4 harg4 arg5 harg5 arg6 harg6 (arr2 cq) (arr2 co) (arr2 si) (arr3 fun _ => wq) = arr2 (queries cq co si wq) := by
  unfold kernelRun0_A.sl.r
  erw [readAt_arr2, readAt_arr2, readAt_arr2, readAt_arr3, readAt_arr3]
  rw [sh_zero, sh_zero, sh_zero, sh_zero]
  exact pay3 _ _ _ _ _

/-- The keys. -/
theorem r_1_val :
    kernelRun0_A.sl.r_1 (F := Ideal) c arg2 harg2 arg3 harg3 arg7 harg7 (arr2 ckv) (arr2 kpe) (arr3 fun _ => wkv) = arr2 (keys ckv kpe wkv) := by
  unfold kernelRun0_A.sl.r_1
  erw [readAt_arr2, readAt_arr2, readAt_arr3]
  rw [sh_zero, sh_zero, sh_zero]
  exact pay4 _ _ _

/-- The values. -/
theorem r_2_val :
    kernelRun0_A.sl.r_2 (F := Ideal) c arg2 harg2 arg7 harg7 (arr2 ckv) (arr3 fun _ => wkv) = arr2 (values ckv wkv) := by
  unfold kernelRun0_A.sl.r_2
  erw [readAt_arr2, readAt_arr3]
  rw [sh_zero]
  exact pay5 _ _

theorem r_3_val :
    kernelRun0_A.sl.r_3 (F := Ideal) c arg1 harg1 arg4 harg4 arg5 harg5 arg6 harg6 (arr2 cq) (arr2 co) (arr2 si) (arr3 fun _ => wq) = arr2 (queries cq co si wq) := by
  unfold kernelRun0_A.sl.r_3
  erw [readAt_arr2, readAt_arr2, readAt_arr2, readAt_arr3, readAt_arr3]
  rw [sh_zero, sh_zero, sh_zero, sh_zero]
  exact pay6 _ _ _ _ _

theorem r_4_val :
    kernelRun0_A.sl.r_4 (F := Ideal) c arg2 harg2 arg3 harg3 arg7 harg7 (arr2 ckv) (arr2 kpe) (arr3 fun _ => wkv) = arr2 (keys ckv kpe wkv) := by
  unfold kernelRun0_A.sl.r_4
  erw [readAt_arr2, readAt_arr2, readAt_arr3]
  rw [sh_zero, sh_zero, sh_zero]
  exact pay7 _ _ _

theorem r_5_val :
    kernelRun0_A.sl.r_5 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (logits (sh 256 0 (queries cq co si wq)) (keys ckv kpe wkv)) := by
  unfold kernelRun0_A.sl.r_5
  rw [r_val, r_1_val]
  exact pay9 _ _

theorem r_6_val :
    kernelRun0_A.sl.r_6 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (blockMask (sh 0 256 (logits (sh 256 0 (queries cq co si wq)) (keys ckv kpe wkv)))) := by
  unfold kernelRun0_A.sl.r_6
  rw [r_val, r_1_val]
  exact pay10 _ _

theorem r_7_val :
    kernelRun0_A.sl.r_7 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (softmax 768 (tileScores 512 (queries cq co si wq) (keys ckv kpe wkv))) := by
  unfold kernelRun0_A.sl.r_7
  rw [r_val, r_1_val]
  exact pay12 _ _

theorem r_8_val :
    kernelRun0_A.sl.r_8 (F := Ideal) c arg2 harg2 arg7 harg7 (arr2 ckv) (arr3 fun _ => wkv) = arr2 (values ckv wkv) := by
  unfold kernelRun0_A.sl.r_8
  rw [r_2_val]
  exact pay13 _

theorem r_9_val :
    kernelRun0_A.sl.r_9 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (mmT 192 (sh 1024 0 (queries cq co si wq)) (keys ckv kpe wkv)) := by
  unfold kernelRun0_A.sl.r_9
  rw [r_val, r_1_val]
  exact pay16 _ _

theorem r_10_val :
    kernelRun0_A.sl.r_10 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (logits (sh 1280 0 (queries cq co si wq)) (keys ckv kpe wkv)) := by
  unfold kernelRun0_A.sl.r_10
  rw [r_val, r_1_val]
  exact pay18 _ _

theorem r_11_val :
    kernelRun0_A.sl.r_11 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (blockMask (sh 0 1280 (logits (sh 1280 0 (queries cq co si wq)) (keys ckv kpe wkv)))) := by
  unfold kernelRun0_A.sl.r_11
  rw [r_val, r_1_val]
  exact pay19 _ _

theorem r_12_val :
    kernelRun0_A.sl.r_12 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv) = arr2 (softmax 1792 (tileScores 1536 (queries cq co si wq) (keys ckv kpe wkv))) := by
  unfold kernelRun0_A.sl.r_12
  rw [r_val, r_1_val]
  exact pay21 _ _

theorem r_13_val :
    kernelRun0_A.sl.r_13 (F := Ideal) c arg2 harg2 arg7 harg7 (arr2 ckv) (arr3 fun _ => wkv) = arr2 (values ckv wkv) := by
  unfold kernelRun0_A.sl.r_13
  rw [r_2_val]
  exact pay22 _

/-- The eight row tiles make up the head's output. -/
theorem tiles_val (hz : MaskedZero (queries cq co si wq) (keys ckv kpe wkv)) :
    RowsTo (kernelRun0_A.sl.H8_8 (F := Ideal) c arg1 harg1 arg2 harg2 arg3 harg3 arg4 harg4 arg5 harg5 arg6 harg6 arg7 harg7 (arr2 cq) (arr2 ckv) (arr2 kpe) (arr2 co) (arr2 si) (arr3 fun _ => wq) (arr3 fun _ => wkv)) 2048 (out (queries cq co si wq) (keys ckv kpe wkv) (values ckv wkv)) := by
  have t := fun p i j => @tile_eq (queries cq co si wq) (keys ckv kpe wkv) (values ckv wkv) hz p i j
  unfold kernelRun0_A.sl.H8_8
  rw [r_val, r_1_val, r_2_val, r_3_val, r_4_val, r_5_val, r_6_val, r_7_val, r_8_val, r_9_val, r_10_val, r_11_val, r_12_val, r_13_val]
  have h0 := (RowsTo.nil (out (queries cq co si wq) (keys ckv kpe wkv) (values ckv wkv))).cons 256 rfl inb_S1x2048x128_S1x256x128_0_0_0 (pay8 _ _ _) fun i j h => t 0 i j (by decide) (by decide) h
  have h1 := (h0).cons 512 rfl inb_S1x2048x128_S1x256x128_0_256_0 (pay11 _ _ _) fun i j h => t 256 i j (by decide) (by decide) h
  have h2 := (h1).cons 768 rfl inb_S1x2048x128_S1x256x128_0_512_0 (pay14 _ _) fun i j h => t 512 i j (by decide) (by decide) h
  have h3 := (h2).cons 1024 rfl inb_S1x2048x128_S1x256x128_0_768_0 (pay15 _ _ _) fun i j h => t 768 i j (by decide) (by decide) h
  have h4 := (h3).cons 1280 rfl inb_S1x2048x128_S1x256x128_0_1024_0 (pay17 _ _ _) fun i j h => t 1024 i j (by decide) (by decide) h
  have h5 := (h4).cons 1536 rfl inb_S1x2048x128_S1x256x128_0_1280_0 (pay20 _ _ _) fun i j h => t 1280 i j (by decide) (by decide) h
  have h6 := (h5).cons 1792 rfl inb_S1x2048x128_S1x256x128_0_1536_0 (pay23 _ _) fun i j h => t 1536 i j (by decide) (by decide) h
  exact (h6).cons 2048 rfl inb_S1x2048x128_S1x256x128_0_1792_0 (pay24 _ _ _) fun i j h => t 1792 i j (by decide) (by decide) h

/-- The head's output as the kernel reads it back. -/
theorem r_14_val (hz : MaskedZero (queries cq co si wq) (keys ckv kpe wkv)) :
    kernelRun0_A.sl.r_14 (F := Ideal) c arg1 harg1 arg2 harg2 arg3 harg3 arg4 harg4 arg5 harg5 arg6 harg6 arg7 harg7 arg9 (arr2 cq) (arr2 ckv) (arr2 kpe) (arr2 co) (arr2 si) (arr3 fun _ => wq) (arr3 fun _ => wkv) = arr2 (out (queries cq co si wq) (keys ckv kpe wkv) (values ckv wkv)) := by
  have h := tiles_val cq ckv kpe co si wq wkv c arg1 harg1 arg2 harg2 arg3 harg3 arg4 harg4 arg5 harg5 arg6 harg6 arg7 harg7 hz
  unfold kernelRun0_A.sl.r_14
  have e : kernelRun0_A.sl.v290 (F := Ideal) c arg1 harg1 arg2 harg2 arg3 harg3 arg4 harg4 arg5 harg5 arg6 harg6 arg7 harg7 arg9 (arr2 cq) (arr2 ckv) (arr2 kpe) (arr2 co) (arr2 si) (arr3 fun _ => wq) (arr3 fun _ => wkv) = arr3 fun _ => (out (queries cq co si wq) (keys ckv kpe wkv) (values ckv wkv)) := by
    unfold kernelRun0_A.sl.v290
    rw [View.readCov_eq_canon_ld _ _ _ h.cover, h.canon]
    exact View.ld_unit_zero (by decide) _ _
  rw [e]
  exact pay25 _

section
variable (hc0 : cond0_0 i) (hc1 : ¬cond0_1 i)

theorem out8_A (hz : MaskedZero (queries cq co si wq) (keys ckv kpe wkv)) :
    out0_A_8 (F := Ideal) c i arg1 harg1 arg2 harg2 arg3 harg3 arg4 harg4 arg5 harg5 arg6 harg6 arg7 harg7 arg8 harg8 arg9 harg9 arg10 harg10 hc0 hc1 (arr2 cq) (arr2 ckv) (arr2 kpe) (arr2 co) (arr2 si) (arr3 fun _ => wq) (arr3 fun _ => wkv) (arr3 fun _ => wo) = arr3 fun _ => (out (queries cq co si wq) (keys ckv kpe wkv) (values ckv wkv)) := by
  rw [out0_A_8, View.read_writes_eq_canon _ _ _ (fun y => cover0_A_8 (y := y) ..)]
  unfold kernelRun0_A
  dsimp only
  exact (tiles_val cq ckv kpe co si wq wkv c arg1 harg1 arg2 harg2 arg3 harg3 arg4 harg4 arg5 harg5 arg6 harg6 arg7 harg7 hz).canon

theorem out9_A (hz : MaskedZero (queries cq co si wq) (keys ckv kpe wkv)) :
    out0_A_9 (F := Ideal) c i arg1 harg1 arg2 harg2 arg3 harg3 arg4 harg4 arg5 harg5 arg6 harg6 arg7 harg7 arg8 harg8 arg9 harg9 arg10 harg10 hc0 hc1 (arr2 cq) (arr2 ckv) (arr2 kpe) (arr2 co) (arr2 si) (arr3 fun _ => wq) (arr3 fun _ => wkv) (arr3 fun _ => wo) = arr2 (mm 128 (out (queries cq co si wq) (keys ckv kpe wkv) (values ckv wkv)) wo) := by
  rw [out0_A_9, View.read_writes_eq_canon _ _ _ (fun y => cover0_A_9 (y := y) ..)]
  unfold kernelRun0_A
  dsimp only
  rw [r_14_val (hz := hz)]
  erw [readAt_arr3]
  rw [sh_zero, pay1]
  exact (Holds.whole _ _).2

end

section
variable (hc0 : ¬cond0_0 i) (hc1 : cond0_1 i)

theorem out8_B (hz : MaskedZero (queries cq co si wq) (keys ckv kpe wkv)) :
    out0_B_8 (F := Ideal) c i arg1 harg1 arg2 harg2 arg3 harg3 arg4 harg4 arg5 harg5 arg6 harg6 arg7 harg7 arg8 harg8 arg9 harg9 arg10 harg10 hc0 hc1 (arr2 cq) (arr2 ckv) (arr2 kpe) (arr2 co) (arr2 si) (arr3 fun _ => wq) (arr3 fun _ => wkv) (arr3 fun _ => wo) (arr2 x9) = arr3 fun _ => (out (queries cq co si wq) (keys ckv kpe wkv) (values ckv wkv)) := by
  rw [out0_B_8, View.read_writes_eq_canon _ _ _ (fun y => cover0_B_8 (y := y) ..)]
  unfold kernelRun0_B
  dsimp only
  rw [H8_8_B]
  exact (tiles_val cq ckv kpe co si wq wkv c arg1 harg1 arg2 harg2 arg3 harg3 arg4 harg4 arg5 harg5 arg6 harg6 arg7 harg7 hz).canon

theorem out9_B (hz : MaskedZero (queries cq co si wq) (keys ckv kpe wkv)) :
    out0_B_9 (F := Ideal) c i arg1 harg1 arg2 harg2 arg3 harg3 arg4 harg4 arg5 harg5 arg6 harg6 arg7 harg7 arg8 harg8 arg9 harg9 arg10 harg10 hc0 hc1 (arr2 cq) (arr2 ckv) (arr2 kpe) (arr2 co) (arr2 si) (arr3 fun _ => wq) (arr3 fun _ => wkv) (arr3 fun _ => wo) (arr2 x9) = arr2 fun i j => x9 i j + mm 128 (out (queries cq co si wq) (keys ckv kpe wkv) (values ckv wkv)) wo i j := by
  rw [out0_B_9, View.read_writes_eq_canon _ _ _ (fun y => cover0_B_9 (y := y) ..)]
  unfold kernelRun0_B
  dsimp only
  rw [r_14_B, r_14_val (hz := hz)]
  erw [readAt_arr3, readAt_arr2]
  rw [sh_zero, sh_zero, pay2]
  exact (Holds.whole _ _).2

end

end

end Cert.Attn.Fwd
-- ==== Proof.AttnFwd.lean ====
/-
  The attention forward call: every head's output, and the mixed output summed over the heads, are the reference's.
-/
module

public import proofs.«01_k».proof.Defs
public import proofs.«01_k».proof.Proof.AttnFwdOuts
public import proofs.«01_k».proof.Proof.KernelVal
public import proofs.«01_k».proof.Proof.PreRead
public import proofs.«01_k».proof.Proof.RefFwd
public import proofs.«01_k».proof.Proof.Gen.Pre_finite_scores
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim

@[expose] public section

set_option maxRecDepth 16384

noncomputable section

namespace Cert.Attn.Fwd

open Idealize.ShloMosaic Idealize.ShloMosaic.TcCoe Idealize.SL.Sem Finset Cert.Mat ValueIdx

/-- Head `h`'s output. -/
def head (I : In) (h : ℕ) : ℕ → ℕ → EReal := out (I.q h) (I.k h) (I.v h)

/-- The mixed output of the first `n` heads. -/
def mix (I : In) (n : ℕ) : ℕ → ℕ → EReal := fun i j => ∑ h ∈ range n, mm 128 (head I h) (I.wo h) i j

section Kernel
open Cert.Kernel14Ideal Cert.Kernel14Ideal.Gen

variable (m : (ℓ : Loc nD τ sig) → Buf (Elt Ideal) ℓ) (c : Dev nD)

/-- The call's inputs. -/
def ins : In where
  cq := get2 (m ((c : Thread nD τ).loc main_arg0))
  ckv := get2 (m ((c : Thread nD τ).loc main_arg1))
  kpe := get2 (m ((c : Thread nD τ).loc main_arg2))
  co := get2 (m ((c : Thread nD τ).loc main_arg3))
  si := get2 (m ((c : Thread nD τ).loc main_arg4))
  wq := get3 (m ((c : Thread nD τ).loc main_arg5))
  wkv := get3 (m ((c : Thread nD τ).loc main_arg6))
  wo := get3 (m ((c : Thread nD τ).loc main_arg7))
  dz := fun _ _ => 0
  o := fun _ _ _ => 0

theorem idx_ins : ∀ t : Fin grid0.N, ((win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)) ∧ (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = t.val ∧ win0_7.index t 1 = 0 ∧ win0_7.index t 2 = 0) := by decide +kernel

theorem idx_outs : ∀ t : Fin grid0.N, (win0_8.index t 0 = t.val ∧ win0_8.index t 1 = 0 ∧ win0_8.index t 2 = 0)
    ∧ (win0_9.index t 0 = 0 ∧ win0_9.index t 1 = 0) := by decide +kernel

theorem iblk_cq (t : Fin cfg0.N) : iblk m c 0 t = arr2 (ins m c).cq := by
  funext j
  unfold iblk
  rw [View.read_apply]
  show V m c main_arg0 _ = _
  rw [V_main_arg0]
  exact whole_read (idx_ins t).1.1.1 (idx_ins t).1.1.2 rfl rfl

theorem iblk_ckv (t : Fin cfg0.N) : iblk m c 1 t = arr2 (ins m c).ckv := by
  funext j
  unfold iblk
  rw [View.read_apply]
  show V m c main_arg1 _ = _
  rw [V_main_arg1]
  exact whole_read (idx_ins t).1.2.1.1 (idx_ins t).1.2.1.2 rfl rfl

theorem iblk_kpe (t : Fin cfg0.N) : iblk m c 2 t = arr2 (ins m c).kpe := by
  funext j
  unfold iblk
  rw [View.read_apply]
  show V m c main_arg2 _ = _
  rw [V_main_arg2]
  exact whole_read (idx_ins t).1.2.2.1.1 (idx_ins t).1.2.2.1.2 rfl rfl

theorem iblk_co (t : Fin cfg0.N) : iblk m c 3 t = arr2 (ins m c).co := by
  funext j
  unfold iblk
  rw [View.read_apply]
  show V m c main_arg3 _ = _
  rw [V_main_arg3]
  exact whole_read (idx_ins t).1.2.2.2.1.1 (idx_ins t).1.2.2.2.1.2 rfl rfl

theorem iblk_si (t : Fin cfg0.N) : iblk m c 4 t = arr2 (ins m c).si := by
  funext j
  unfold iblk
  rw [View.read_apply]
  show V m c main_arg4 _ = _
  rw [V_main_arg4]
  exact whole_read (idx_ins t).1.2.2.2.2.1 (idx_ins t).1.2.2.2.2.2 rfl rfl

theorem iblk_wq (t : Fin cfg0.N) : iblk m c 5 t = arr3 fun _ => (ins m c).wq t.val := by
  funext j
  unfold iblk
  rw [View.read_apply]
  show V m c main_arg5 _ = _
  rw [V_main_arg5]
  exact head_read (idx_ins t).2.1.1 (idx_ins t).2.1.2.1 (idx_ins t).2.1.2.2 rfl rfl rfl

theorem iblk_wkv (t : Fin cfg0.N) : iblk m c 6 t = arr3 fun _ => (ins m c).wkv t.val := by
  funext j
  unfold iblk
  rw [View.read_apply]
  show V m c main_arg6 _ = _
  rw [V_main_arg6]
  exact head_read (idx_ins t).2.2.1.1 (idx_ins t).2.2.1.2.1 (idx_ins t).2.2.1.2.2 rfl rfl rfl

theorem iblk_wo (t : Fin cfg0.N) : iblk m c 7 t = arr3 fun _ => (ins m c).wo t.val := by
  funext j
  unfold iblk
  rw [View.read_apply]
  show V m c main_arg7 _ = _
  rw [V_main_arg7]
  exact head_read (idx_ins t).2.2.2.1 (idx_ins t).2.2.2.2.1 (idx_ins t).2.2.2.2.2 rfl rfl rfl

/-- What the two output blocks hold after head `n`. -/
theorem outs_eq (hz : ∀ h, h < 8 → MaskedZero ((ins m c).q h) ((ins m c).k h)) : ∀ (n : ℕ) (hn : n < cfg0.N),
    outsAt0 m c n hn = (arr3 fun _ => head (ins m c) n, arr2 (mix (ins m c) (n + 1)))
  | 0, hn => by
    have h0 := hz 0 (by decide)
    refine (outsAt0_A m c ⟨0, hn⟩ rfl (Nat.not_succ_le_zero 0)).trans ?_
    rw [iblk_cq, iblk_ckv, iblk_kpe, iblk_co, iblk_si, iblk_wq, iblk_wkv, iblk_wo, out8_A (hz := h0), out9_A (hz := h0)]
    refine Prod.ext rfl ?_
    dsimp only
    refine arr2_congr fun i j _ _ => ?_
    simp only [mix, Nat.zero_add, range_one, sum_singleton]; rfl
  | n + 1, hn => by
    have h0 := hz (n + 1) (lt_of_lt_of_eq hn N_0)
    have hN : n + 1 < 8 := lt_of_lt_of_eq hn N_0
    refine (outsAt0_B m c ⟨n + 1, hn⟩ (by dsimp only; omega) (by dsimp only; omega)).trans ?_
    simp only [Nat.add_sub_cancel, outs_eq hz n]
    rw [iblk_cq, iblk_ckv, iblk_kpe, iblk_co, iblk_si, iblk_wq, iblk_wkv, iblk_wo, out8_B (hz := h0), out9_B (hz := h0)]
    refine Prod.ext rfl ?_
    dsimp only
    refine arr2_congr fun i j _ _ => ?_
    simp only [mix, Finset.sum_range_succ _ (n + 1)]; rfl

variable (hz : ∀ h, h < 8 → MaskedZero ((ins m c).q h) ((ins m c).k h))
include hz

theorem arr8 : (dats m 0 c).arrAt 8 cfg0.N = arr3 (head (ins m c)) := by
  refine (dats m 0 c).arrAt_eq_of_cover 8 (arr3 (head (ins m c))) (fun t _ => ?_) fun i => ?_
  · rw [Value.flushed8, outs_eq m c hz]
    funext j
    rw [View.read_apply]
    show arr3 (a := 1) (b := 2048) (c := 128) (fun _ => head (ins m c) t.val) ((cfg0.win 8).xinj (grid0.coords t) j) =
      arr3 (a := 8) (b := 2048) (c := 128) (head (ins m c)) (((cfg0.win 8).blk t).view.emb j)
    refine head_write (n := 8) (a := 2048) (b := 128) (j := j) _ (idx_outs t).1.1 (idx_outs t).1.2.1 (idx_outs t).1.2.2 ?_ ?_ ?_ fun _ => ?_ <;> rfl
  · have l0 : (i 0).val < 8 := (i 0).isLt
    have l1 : (i 1).val < 2048 := (i 1).isLt
    have l2 : (i 2).val < 128 := (i 2).isLt
    have hN : (i 0).val < cfg0.N := lt_of_lt_of_eq l0 N_0.symm
    have hi := (idx_outs ⟨(i 0).val, hN⟩).1
    refine ⟨⟨(i 0).val, hN⟩, flush0_8 _, ?_⟩
    show i ∈ ((View.whole main_v0_0).slice (win0_8.rect ⟨(i 0).val, hN⟩)).set
    rw [View.set_slice_whole, Rect.mem_set_unit]
    intro a
    match a with
    | ⟨0, _⟩ => show win0_8.index ⟨(i 0).val, hN⟩ 0 * 1 ≤ (i 0).val ∧ (i 0).val < win0_8.index ⟨(i 0).val, hN⟩ 0 * 1 + 1
                rw [hi.1]; dsimp only; omega
    | ⟨1, _⟩ => show win0_8.index ⟨(i 0).val, hN⟩ 1 * 2048 ≤ (i 1).val ∧ (i 1).val < win0_8.index ⟨(i 0).val, hN⟩ 1 * 2048 + 2048
                rw [hi.2.1]; omega
    | ⟨2, _⟩ => show win0_8.index ⟨(i 0).val, hN⟩ 2 * 128 ≤ (i 2).val ∧ (i 2).val < win0_8.index ⟨(i 0).val, hN⟩ 2 * 128 + 128
                rw [hi.2.2]; omega

theorem arr9 : (dats m 0 c).arrAt 9 cfg0.N = arr2 (mix (ins m c) 8) := by
  refine (dats m 0 c).arrAt_eq_of_cover 9 (arr2 (mix (ins m c) 8)) (fun t ht => ?_) fun i => ?_
  · have h7 : t.val = 7 := by have := (flush0_9 t).1 ht; have := lt_of_lt_of_eq t.isLt N_0; omega
    rw [Value.flushed9, outs_eq m c hz, h7]
    funext j
    rw [View.read_apply]
    show arr2 (a := 2048) (b := 1024) (mix (ins m c) 8) ((cfg0.win 9).xinj (grid0.coords t) j) =
      arr2 (a := 2048) (b := 1024) (mix (ins m c) 8) (((cfg0.win 9).blk t).view.emb j)
    refine whole_write (a := 2048) (b := 1024) (j := j) _ (idx_outs t).2.1 (idx_outs t).2.2 ?_ ?_ fun _ => ?_ <;> rfl
  · have l0 : (i 0).val < 2048 := (i 0).isLt
    have l1 : (i 1).val < 1024 := (i 1).isLt
    have hi := (idx_outs t0_7).2
    refine ⟨t0_7, (flush0_9 t0_7).2 rfl, ?_⟩
    show i ∈ ((View.whole main_v0_1).slice (win0_9.rect t0_7)).set
    rw [View.set_slice_whole, Rect.mem_set_unit]
    intro a
    match a with
    | ⟨0, _⟩ => show win0_9.index t0_7 0 * 2048 ≤ (i 0).val ∧ (i 0).val < win0_9.index t0_7 0 * 2048 + 2048
                rw [hi.1]; omega
    | ⟨1, _⟩ => show win0_9.index t0_7 1 * 1024 ≤ (i 1).val ∧ (i 1).val < win0_9.index t0_7 1 * 1024 + 1024
                rw [hi.2]; omega

omit hz in
/-- The precondition, read back. -/
theorem ins_finite (h : Pre_Kernel14Ideal_finite_scores (hPre_finite_scores := Pre_finite_scores.Gen.facts) m) :
    (ins m c).Finite := by
  have e := congrFun (h c) (fun a => a.elim0)
  unfold Pre_finite_scores.fn Pre_finite_scores.fn_part1 at e
  dsimp only at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton Pre_finite_scores.S_.Idx := ⟨fun a b => funext fun i => i.elim0⟩
  exact {
    cq := isR2_get2 (isR_of_all _ _ _ _ _ _ (fun _ => ofBits_inf_bf16) h0)
    ckv := isR2_get2 (isR_of_all _ _ _ _ _ _ (fun _ => ofBits_inf_bf16) h1)
    kpe := isR2_get2 (isR_of_all _ _ _ _ _ _ (fun _ => ofBits_inf_f32) h2)
    co := isR2_get2 (isR_of_all _ _ _ _ _ _ (fun _ => ofBits_inf_f32) h3)
    si := isR2_get2 (isR_of_all _ _ _ _ _ _ (fun _ => ofBits_inf_f32) h4)
    wq := isR2_get3 (isR_of_all _ _ _ _ _ _ (fun _ => ofBits_inf_bf16) h5)
    wkv := isR2_get3 (isR_of_all _ _ _ _ _ _ (fun _ => ofBits_inf_bf16) h6) }

end Kernel

section Reference
open Cert.Reference14Ideal Cert.Reference14Ideal.Read

variable (I : In)

/-- The reference's forward lines are those its backward pass starts with. -/
theorem v53_same : @val_main_v53 Ideal _ = @ReferenceIdeal.Read.val_main_v71 Ideal _ := rfl

theorem v53_arr : val_main_v53 (F := Ideal) (A0 I) (A1 I) (A2 I) (A3 I) (A4 I) (A5 I) (A6 I) = arr3 (α := EReal) (head I) := by
  rw [v53_same]
  funext i
  rw [ReferenceIdeal.Read.val_main_v71_apply, v67_arr, v29_arr]
  exact Fin.sum_univ_eq_sum_range (fun k => probs (I.q (i 0).val) (I.k (i 0).val) (i 1).val k * I.v (i 0).val k (i 2).val) 2048

theorem dot_mix_lit {n k p q : ℕ} (A B : ℕ → ℕ → ℕ → EReal) {φ : FTy} (wf) :
    Host.dotGeneral (F := Ideal) (φ₁ := φ) (φ₂ := φ)
      (⟨[0, 2], [0, 1], [1], [2], [], [], wf⟩ : DotDims ⟨3, ![n, p, k]⟩ ⟨3, ![n, k, q]⟩ ⟨2, ![p, q]⟩) none (arr3 A) (arr3 B)
      = arr2 fun i j => ∑ a ∈ range n, ∑ b ∈ range k, A a i b * B a b j := by
  funext j
  simp only [Host.dotGeneral]
  rw [Ideal.dotGeneral_apply, sum_contr2 _ n k rfl rfl rfl]
  exact sum_fin2 fun a b => A a (j 0).val b * B a b (j 1).val

theorem v56_arr : val_main_v56 (F := Ideal) (A0 I) (A1 I) (A2 I) (A3 I) (A4 I) (A5 I) (A6 I) (A7 I) = arr2 (α := EReal) (mix I 8) := by
  unfold val_main_v56
  rw [v53_arr]
  exact dot_mix_lit (head I) I.wo _

end Reference

/-- The reference's frame. -/
theorem frame : quiescent_Reference14Ideal (hReference14Ideal := Reference14Ideal.Gen.facts) := fun m ρ _ =>
  (θ_run Reference14Ideal.defs _ _).mono (fun r h => ⟨fun c => (h c).2.2, sem_eq_zero_of_no_sems (by decide) r.2⟩)
    (Reference14Ideal.Value.run m ρ)

theorem algebraic : algebraic_Kernel14Ideal_Reference14Ideal_pre_finite_scores (hKernel14Ideal := Kernel14Ideal.Gen.facts)
    (hReference14Ideal := Reference14Ideal.Gen.facts) (hPre_finite_scores := Pre_finite_scores.Gen.facts) := by
  intro m g m' g' hpre hargs
  have hz (c : Dev Kernel14Ideal.nD) (h : ℕ) (_ : h < 8) : MaskedZero ((ins m c).q h) ((ins m c).k h) :=
    maskedZero (ins_finite m c hpre) h
  refine ⟨fun c => arr3 (α := EReal) (head (ins m c)), fun c => arr2 (α := EReal) (mix (ins m c) 8), ?_, ?_⟩
  · refine (θ_run _ _ _).mono (fun r h c => ?_) (Kernel14Ideal.Value.run_blocks m g)
    obtain ⟨h0, h1, hk⟩ := h c
    exact ⟨h0.trans (arr8 m c (hz c)), h1.trans (arr9 m c (hz c)), hk⟩
  · refine (θ_run _ _ _).mono (fun r h c => ?_) (Reference14Ideal.Value.run (F := Ideal) m' g')
    obtain ⟨h0, h1, hk⟩ := h c
    obtain ⟨b0, b1, b2, b3, b4, b5, b6, b7⟩ := hargs c
    refine ⟨(h0.trans (Reference14Ideal.Read.val_main_v54_eq _ _)).trans ?_, (h1.trans (Reference14Ideal.Read.val_main_v56_eq _ _)).trans ?_, hk⟩
    all_goals
      simp only [StableHlo.launchContents_devRef]
      rw [b0, b1, b2, b3, b4, b5, b6]
    · have e := v53_arr (ins m c)
      simp only [A0, A1, A2, A3, A4, A5, A6, ins, arr2_get2, arr3_get3] at e
      exact e
    · have e := v56_arr (ins m c)
      simp only [A0, A1, A2, A3, A4, A5, A6, A7, ins, arr2_get2, arr3_get3] at e
      rw [b7]
      exact e

end Cert.Attn.Fwd
-- ==== Proof.DownNorm.lean ====
/-
  An odd layer's down projection, its two root-mean-square norms and the shared rotated key: the kernel's row blocks are the reference's.
-/
module

public import proofs.«01_k».proof.Defs
public import proofs.«01_k».proof.Proof.AttnMath
public import proofs.«01_k».proof.Proof.Products
public import proofs.«01_k».proof.Proof.Fwd
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim

@[expose] public section

set_option maxRecDepth 16384

noncomputable section

namespace Cert.Odd.Down

open Idealize.ShloMosaic Idealize.ShloMosaic.TcCoe Idealize.SL.Sem Finset Cert.Mat Cert.Mlp Cert.Attn
open Cert.Mlp.Fwd (rsqrt_arr2 broadcastTo_row sum_from_zero)

/-- The weight, one block of 128 rows per device, as one matrix. -/
def flat (W : ℕ → ℕ → ℕ → EReal) : ℕ → ℕ → EReal := fun i j => W (i / 128) (i % 128) j
/-- The projected input. -/
def down (X : ℕ → ℕ → EReal) (W : ℕ → ℕ → ℕ → EReal) : ℕ → ℕ → EReal := mm 1024 X (flat W)

/-- The constants of the norms: the two widths, and what is added to a mean square. -/
def lenQ : EReal := Ideal.ofBits .f32 0x43C00000#32
def lenK : EReal := Ideal.ofBits .f32 0x43800000#32
def eps : EReal := Ideal.ofBits .f32 0x358637BD#32

/-- The root-mean-square norm of every row of `n` entries, with gain `g`; `l` is `n` as a number. -/
def rms (n : ℕ) (l : EReal) (Z : ℕ → ℕ → EReal) (g : ℕ → EReal) : ℕ → ℕ → EReal :=
  fun i j => Z i j * Ideal.rsqrt (Ideal.div (∑ k ∈ range n, Z i k * Z i k) l + eps) * g j

/-- The norm of the projection's first 384 columns, of its next 256, and the rotated last 64. -/
def cq (Z : ℕ → ℕ → EReal) (g : ℕ → EReal) : ℕ → ℕ → EReal := rms 384 lenQ (sh 0 0 Z) g
def ckv (Z : ℕ → ℕ → EReal) (g : ℕ → EReal) : ℕ → ℕ → EReal := rms 256 lenK (sh 0 384 Z) g
def kpe (Z C S : ℕ → ℕ → EReal) : ℕ → ℕ → EReal := rope C S (sh 0 640 Z)

/-- Blocks of rows, one below the other. -/
theorem cast_flat {α : Type} (W : ℕ → ℕ → ℕ → α) (h) :
    shapeCast (⟨2, ![1024, 704]⟩ : Shape) (arr3 (a := 8) (b := 128) (c := 704) W) h = arr2 fun i j => W (i / 128) (i % 128) j := by
  funext i
  have h0 : (i 0).val < 1024 := (i 0).isLt
  have h1 : (i 1).val < 704 := (i 1).isLt
  refine (shapeCast_apply _ h i (ValueIdx.ix3 ⟨(i 0).val / 128, by omega⟩ ⟨(i 0).val % 128, by omega⟩ ⟨(i 1).val, h1⟩) ?_).trans rfl
  rewrite [Shape.rowMajor_val_two, Shape.rowMajor_val_three]
  show ((i 0).val / 128 * 128 + (i 0).val % 128) * 704 + (i 1).val = (i 0).val * 704 + (i 1).val
  omega

/-- A row per layer, as planes of one row. -/
theorem cast_rows {α : Type} {a b : ℕ} (W : ℕ → ℕ → α) (h) :
    shapeCast (⟨3, ![a, 1, b]⟩ : Shape) (arr2 (a := a) (b := b) W) h = arr3 fun p _ j => W p j := by
  funext i
  have h1 : (i 1).val < 1 := (i 1).isLt
  refine (shapeCast_apply _ h i (ValueIdx.ix2 (i 0) (i 2)) ?_).trans rfl
  rewrite [Shape.rowMajor_val_two, Shape.rowMajor_val_three]
  show (i 0).val * b + (i 2).val = ((i 0).val * 1 + (i 1).val) * b + (i 2).val
  rw [Nat.mul_one, Nat.lt_one_iff.1 h1, Nat.add_zero]

/-- A three-axis array, read whole. -/
theorem cube_read {a b c : ℕ} {x : (⟨3, ![a, b, c]⟩ : Shape).Idx → EReal} {i j : (⟨3, ![a, b, c]⟩ : Shape).Idx} {p q r : ℕ}
    (hp : p = 0) (hq : q = 0) (hr : r = 0) (h0 : (i 0).val = p * a + 1 * (j 0).val) (h1 : (i 1).val = q * b + 1 * (j 1).val)
    (h2 : (i 2).val = r * c + 1 * (j 2).val) : x i = arr3 (get3 x) j := by
  subst hp hq hr
  have e : x i = arr3 (get3 x) i := by rw [arr3_get3]
  rw [e]
  unfold arr3
  rw [h0, h1, h2]
  congr 1 <;> omega

section Rows
variable (p : ℕ) (X : ℕ → ℕ → EReal) (W : ℕ → ℕ → ℕ → EReal) (Z C S : ℕ → ℕ → EReal) (g : ℕ → EReal)

theorem down_sh : down (sh p 0 X) W = sh p (0 * 704) (down X W) := mm_left 1024 p X (flat W) 704
theorem cq_sh : cq (sh p (0 * 704) Z) g = sh p (0 * 384) (cq Z g) := by
  funext i j
  simp only [cq, rms, sh, Nat.zero_add, Nat.zero_mul]
theorem ckv_sh : ckv (sh p (0 * 704) Z) g = sh p (0 * 256) (ckv Z g) := by
  funext i j
  simp only [ckv, rms, sh, Nat.zero_add, Nat.zero_mul]
theorem kpe_sh : kpe (sh p (0 * 704) Z) (sh p 0 C) (sh p 0 S) = sh p (0 * 64) (kpe Z C S) := by
  funext i j
  simp only [kpe, rope, hcat, sh, Nat.zero_add, Nat.zero_mul]
end Rows

section Reference
open Cert.Reference15Ideal Cert.Reference15Ideal.Read

variable (X : ℕ → ℕ → EReal) (W : ℕ → ℕ → ℕ → EReal) (G H C S : ℕ → ℕ → EReal)

abbrev A0 : FVec Ideal S2048x1024 .bf16 := arr2 (α := EReal) X
abbrev A1 : FVec Ideal S8x128x704 .bf16 := arr3 (α := EReal) W
abbrev A2 : FVec Ideal S2x384 .f32 := arr2 (α := EReal) G
abbrev A3 : FVec Ideal S2x256 .f32 := arr2 (α := EReal) H
abbrev A4 : FVec Ideal S2048x32 .f32 := arr2 (α := EReal) C
abbrev A5 : FVec Ideal S2048x32 .f32 := arr2 (α := EReal) S

theorem v2_arr : val_main_v2 (F := Ideal) (A1 W) = arr2 (α := EReal) (flat W) := cast_flat W _

theorem v3_arr : val_main_v3 (F := Ideal) (A0 X) (A1 W) = arr2 (α := EReal) (down X W) := by
  funext i
  rw [val_main_v3_apply, v2_arr]
  exact Fin.sum_univ_eq_sum_range (fun k => (X (i 0).val k * flat W k (i 1).val : EReal)) 1024

theorem v4_arr : val_main_v4 (F := Ideal) (A0 X) (A1 W) = arr2 (α := EReal) (sh 0 0 (down X W)) := by
  unfold val_main_v4
  rw [v3_arr]
  exact slice_arr2 _ _ _ _

theorem v20_arr : val_main_v20 (F := Ideal) (A0 X) (A1 W) = arr2 (α := EReal) (sh 0 384 (down X W)) := by
  unfold val_main_v20
  rw [v3_arr]
  exact slice_arr2 _ _ _ _

theorem v38_arr : val_main_v38 (F := Ideal) (A0 X) (A1 W) = arr2 (α := EReal) (sh 0 640 (down X W)) := by
  unfold val_main_v38
  rw [v3_arr]
  exact slice_arr2 _ _ _ _

theorem gain_q (i) : val_main_v18 (F := Ideal) (A2 G) i = G 0 (i 1).val := by
  rw [val_main_v18_apply, val_main_v17_apply, val_main_v6_apply, val_main_v5_apply]
  show G 0 ((i 1).val % 384) = _
  rw [Nat.mod_eq_of_lt (show (i 1).val < 384 from (i 1).isLt)]

theorem gain_k (i) : val_main_v34 (F := Ideal) (A3 H) i = H 0 (i 1).val := by
  rw [val_main_v34_apply, val_main_v33_apply, val_main_v22_apply, val_main_v21_apply]
  show H 0 ((i 1).val % 256) = _
  rw [Nat.mod_eq_of_lt (show (i 1).val < 256 from (i 1).isLt)]

theorem v19_arr : val_main_v19 (F := Ideal) (A0 X) (A1 W) (A2 G) = arr2 (α := EReal) (cq (down X W) (G 0)) := by
  funext i
  have e : val_main_v7 (F := Ideal) (A0 X) (A1 W) = arr2 (α := EReal) fun i j => sh 0 0 (down X W) i j * sh 0 0 (down X W) i j := by
    unfold val_main_v7
    rw [v4_arr]
    rfl
  rw [val_main_v19_apply, gain_q, val_main_v16_apply, v4_arr, val_main_v15_apply, val_main_v14_apply, val_main_v13_apply,
    val_main_v12_apply, val_main_cst_1_apply, val_main_v11_apply, val_main_v10_apply, val_main_cst_0_apply, val_main_v9_apply,
    val_main_v8_apply, val_main_cst_apply, e]
  exact congrArg (fun x : EReal => sh 0 0 (down X W) (i 0).val (i 1).val * Ideal.rsqrt (Ideal.div x lenQ + eps) * G 0 (i 1).val)
    (sum_from_zero (fun k => sh 0 0 (down X W) (i 0).val k * sh 0 0 (down X W) (i 0).val k) 384)

theorem v35_arr : val_main_v35 (F := Ideal) (A0 X) (A1 W) (A3 H) = arr2 (α := EReal) (ckv (down X W) (H 0)) := by
  funext i
  have e : val_main_v23 (F := Ideal) (A0 X) (A1 W) = arr2 (α := EReal) fun i j => sh 0 384 (down X W) i j * sh 0 384 (down X W) i j := by
    unfold val_main_v23
    rw [v20_arr]
    rfl
  rw [val_main_v35_apply, gain_k, val_main_v32_apply, v20_arr, val_main_v31_apply, val_main_v30_apply, val_main_v29_apply,
    val_main_v28_apply, val_main_cst_4_apply, val_main_v27_apply, val_main_v26_apply, val_main_cst_3_apply, val_main_v25_apply,
    val_main_v24_apply, val_main_cst_2_apply, e]
  exact congrArg (fun x : EReal => sh 0 384 (down X W) (i 0).val (i 1).val * Ideal.rsqrt (Ideal.div x lenK + eps) * H 0 (i 1).val)
    (sum_from_zero (fun k => sh 0 384 (down X W) (i 0).val k * sh 0 384 (down X W) (i 0).val k) 256)

theorem v47_arr : val_main_v47 (F := Ideal) (A0 X) (A1 W) (A4 C) (A5 S) = arr2 (α := EReal) (kpe (down X W) C S) := by
  unfold val_main_v47 val_main_v43 val_main_v46 val_main_v41 val_main_v42 val_main_v44 val_main_v45 val_main_v39 val_main_v40
  rw [v38_arr, concatenate_eq_cat2, slice_arr2, slice_arr2, mulf_arr2, mulf_arr2, mulf_arr2, mulf_arr2, subf_arr2, addf_arr2, cat2_arr2]
  unfold kpe rope
  simp only [sh, Nat.zero_add]

variable (m : (ℓ : Loc nD τ sig) → Buf (Elt Ideal) ℓ)

/-- The reference's run, its results as functions of its arguments. -/
theorem run_stages (ρ : Dev nD → PrngReg) (X G H C S : Dev nD → ℕ → ℕ → EReal) (W : Dev nD → ℕ → ℕ → ℕ → EReal)
    (ha : ∀ c : Dev nD, m ((c : Thread nD τ).loc main_arg0) = A0 (X c) ∧ m ((c : Thread nD τ).loc main_arg1) = A1 (W c)
      ∧ m ((c : Thread nD τ).loc main_arg2) = A2 (G c) ∧ m ((c : Thread nD τ).loc main_arg3) = A3 (H c)
      ∧ m ((c : Thread nD τ).loc main_arg4) = A4 (C c) ∧ m ((c : Thread nD τ).loc main_arg5) = A5 (S c)) :
    θ_run defs (onTc (τ := τ) (main (F := Ideal))) ⟨m, fun _ => 0, ρ⟩ fun r => ∀ c : Dev nD,
      r.2.mem ((c : Thread nD τ).loc main_v3) = arr2 (α := EReal) (down (X c) (W c))
      ∧ r.2.mem ((c : Thread nD τ).loc main_v36) = arr2 (α := EReal) (cq (down (X c) (W c)) (G c 0))
      ∧ r.2.mem ((c : Thread nD τ).loc main_v37) = arr2 (α := EReal) (ckv (down (X c) (W c)) (H c 0))
      ∧ r.2.mem ((c : Thread nD τ).loc main_v47) = arr2 (α := EReal) (kpe (down (X c) (W c)) (C c) (S c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Reference15Ideal.Value.run (F := Ideal) m ρ)
  obtain ⟨h0, h1, h2, h3, hk⟩ := h c
  obtain ⟨a0, a1, a2, a3, a4, a5⟩ := ha c
  refine ⟨(h0.trans (val_main_v3_eq _ _)).trans ?_, (h1.trans (val_main_v36_eq _ _ _)).trans ?_,
    (h2.trans (val_main_v37_eq _ _ _)).trans ?_, (h3.trans (val_main_v47_eq _ _ _ _)).trans ?_, hk⟩
  · rw [a0, a1]
    exact v3_arr _ _
  · rw [a0, a1, a2]
    exact Eq.trans rfl (v19_arr _ _ _)
  · rw [a0, a1, a3]
    exact Eq.trans rfl (v35_arr _ _ _)
  · rw [a0, a1, a4, a5]
    exact v47_arr _ _ _ _

theorem frame : Cert.quiescent_Reference15Ideal (hReference15Ideal := Cert.Reference15Ideal.Gen.facts) := fun m ρ _ =>
  (θ_run Reference15Ideal.defs _ _).mono (fun r h => ⟨fun c => (h c).2.2.2.2, sem_eq_zero_of_no_sems (by decide) r.2⟩)
    (Cert.Reference15Ideal.Value.run m ρ)

end Reference

section Kernel
open Cert.Kernel15Ideal Cert.Kernel15Ideal.Gen

section
variable (X : ℕ → ℕ → EReal) (W : ℕ → ℕ → ℕ → EReal) (g h : ℕ → EReal) (C S : ℕ → ℕ → EReal)

theorem pay3 : k0_pay3 (F := Ideal) (arr3 (α := EReal) W) (arr2 (α := EReal) X) = arr2 (α := EReal) (down X W) := by
  unfold k0_pay3 matmul
  dsimp only
  rw [cast_flat, matmul_nn dot_S1024x1024_S1024x704_S1024x704_1_0_0_1_n_n rfl]
  rfl

theorem pay4 : k0_pay4 (F := Ideal) (arr3 (α := EReal) W) (arr2 (α := EReal) X) (arr3 (α := EReal) fun _ _ => g)
    = arr2 (α := EReal) (cq (down X W) g) := by
  unfold k0_pay4
  dsimp only
  have e := fun Z => rowSum_arr2 (m := 1024) (n := 384) Z reduces_S1024x384_S1024 (.inl rfl) rfl
  rw [pay3, slice_arr2, mulf_arr2]
  erw [e]
  rw [shapeCast_arr1, broadcast_arr2, divf_arr2, broadcast_arr2, addf_arr2, rsqrt_arr2, broadcastTo_arr2, mulf_arr2, shapeCast_arr3,
    broadcastTo_row _ (by decide), mulf_arr2]
  rfl

theorem pay1 : k0_pay1 (F := Ideal) (k0_pay5 (arr3 (α := EReal) W) (arr2 (α := EReal) X)) (k0_pay6 (arr3 (α := EReal) fun _ _ => h))
    = arr2 (α := EReal) (ckv (down X W) h) := by
  unfold k0_pay1 k0_pay5 k0_pay6
  dsimp only
  have e := fun Z => rowSum_arr2 (m := 1024) (n := 256) Z reduces_S1024x256_S1024 (.inl rfl) rfl
  rw [pay3, slice_arr2, mulf_arr2]
  erw [e]
  rw [shapeCast_arr1, broadcast_arr2, divf_arr2, broadcast_arr2, addf_arr2, rsqrt_arr2, broadcastTo_arr2, mulf_arr2, shapeCast_arr3,
    broadcastTo_row _ (by decide), mulf_arr2]
  rfl

theorem pay2 : k0_pay2 (F := Ideal) (k0_pay3 (arr3 (α := EReal) W) (arr2 (α := EReal) X)) (arr2 (α := EReal) C) (arr2 (α := EReal) S)
    = arr2 (α := EReal) (kpe (down X W) C S) := by
  unfold k0_pay2
  dsimp only
  rw [pay3, concatenate_eq_cat2, slice_arr2, slice_arr2, slice_arr2, mulf_arr2, mulf_arr2, mulf_arr2, mulf_arr2, subf_arr2, addf_arr2, cat2_arr2]
  unfold kpe rope
  simp only [sh, Nat.zero_add]

/-- A read or a write of a whole block. -/
theorem ldX : View.ld (Val := Elt Ideal) (e' := .bf16) (arr2 (α := EReal) X) r0_1 = arr2 (α := EReal) X := View.ld_unit_zero (by decide) _ _
theorem ldW : View.ld (Val := Elt Ideal) (e' := .bf16) (arr3 (α := EReal) W) r0_0 = arr3 (α := EReal) W := View.ld_unit_zero (by decide) _ _
theorem ldG : View.ld (Val := Elt Ideal) (e' := .f32) (arr3 (α := EReal) fun _ _ => g) r0_3 = arr3 (α := EReal) fun _ _ => g := View.ld_unit_zero (by decide) _ _
theorem ldH : View.ld (Val := Elt Ideal) (e' := .f32) (arr3 (α := EReal) fun _ _ => h) r0_5 = arr3 (α := EReal) fun _ _ => h := View.ld_unit_zero (by decide) _ _
theorem ldC : View.ld (Val := Elt Ideal) (e' := .f32) (arr2 (α := EReal) C) r0_7 = arr2 (α := EReal) C := View.ld_unit_zero (by decide) _ _

theorem out6 : out0_6 (F := Ideal) (arr2 (α := EReal) X) (arr3 (α := EReal) W) (arr3 (α := EReal) fun _ _ => g) (arr3 (α := EReal) fun _ _ => h)
    (arr2 (α := EReal) C) (arr2 (α := EReal) S) = arr2 (α := EReal) (down X W) := by
  unfold out0_6
  rw [ldX, ldW, pay3]
  exact View.canon_cons_unit_zero (by decide) _ _ _

theorem out7 : out0_7 (F := Ideal) (arr2 (α := EReal) X) (arr3 (α := EReal) W) (arr3 (α := EReal) fun _ _ => g) (arr3 (α := EReal) fun _ _ => h)
    (arr2 (α := EReal) C) (arr2 (α := EReal) S) = arr2 (α := EReal) (cq (down X W) g) := by
  unfold out0_7
  rw [ldX, ldW, ldG, pay4]
  exact View.canon_cons_unit_zero (by decide) _ _ _

theorem out8 : out0_8 (F := Ideal) (arr2 (α := EReal) X) (arr3 (α := EReal) W) (arr3 (α := EReal) fun _ _ => g) (arr3 (α := EReal) fun _ _ => h)
    (arr2 (α := EReal) C) (arr2 (α := EReal) S) = arr2 (α := EReal) (ckv (down X W) h) := by
  unfold out0_8
  rw [ldX, ldW, ldH, pay1]
  exact View.canon_cons_unit_zero (by decide) _ _ _

theorem out9 : out0_9 (F := Ideal) (arr2 (α := EReal) X) (arr3 (α := EReal) W) (arr3 (α := EReal) fun _ _ => g) (arr3 (α := EReal) fun _ _ => h)
    (arr2 (α := EReal) C) (arr2 (α := EReal) S) = arr2 (α := EReal) (kpe (down X W) C S) := by
  unfold out0_9
  rw [ldX, ldW, ldC, ldC, pay2]
  exact View.canon_cons_unit_zero (by decide) _ _ _
end

variable (m : (ℓ : Loc nD τ sig) → Buf (Elt Ideal) ℓ) (c : Dev nD)

def X : ℕ → ℕ → EReal := get2 (m ((c : Thread nD τ).loc main_arg0))
def W : ℕ → ℕ → ℕ → EReal := get3 (m ((c : Thread nD τ).loc main_arg1))
def G : ℕ → ℕ → EReal := get2 (m ((c : Thread nD τ).loc main_arg2))
def H : ℕ → ℕ → EReal := get2 (m ((c : Thread nD τ).loc main_arg3))
def C : ℕ → ℕ → EReal := get2 (m ((c : Thread nD τ).loc main_arg4))
def S : ℕ → ℕ → EReal := get2 (m ((c : Thread nD τ).loc main_arg5))

theorem g_read : V m c main_v0 = arr3 (α := EReal) fun p _ j => G m c p j := by
  rw [← cast_rows _ (by decide)]
  unfold G
  rw [arr2_get2]
  unfold V
  simp only [hostOps0, List.flatten_cons, List.flatten_nil, List.cons_append, List.nil_append, List.append_nil]
  after_reads_simp
  rfl

theorem h_read : V m c main_v1 = arr3 (α := EReal) fun p _ j => H m c p j := by
  rw [← cast_rows _ (by decide)]
  unfold H
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_4.index t 0 = t.val ∧ win0_4.index t 1 = 0)
    ∧ (win0_5.index t 0 = t.val ∧ win0_5.index t 1 = 0) := by decide +kernel

theorem rows_out : ∀ t : Fin grid0.N, (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) := by decide +kernel

theorem still : ∀ t : Fin grid0.N, (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0) := by decide +kernel

theorem iblk0 (t : Fin cfg0.N) : iblk m c 0 t = arr2 (α := EReal) (sh (t.val * 1024) 0 (X m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk4 (t : Fin cfg0.N) : iblk m c 4 t = arr2 (α := EReal) (sh (t.val * 1024) 0 (C m c)) := by
  funext j
  unfold iblk
  rw [View.read_apply]
  show V m c main_arg4 _ = _
  rw [V_main_arg4]
  refine (block_read (rows t).2.1.1 (rows t).2.1.2 rfl rfl).trans ?_
  rw [Nat.zero_mul]
  rfl

theorem iblk5 (t : Fin cfg0.N) : iblk m c 5 t = arr2 (α := EReal) (sh (t.val * 1024) 0 (S m c)) := by
  funext j
  unfold iblk
  rw [View.read_apply]
  show V m c main_arg5 _ = _
  rw [V_main_arg5]
  refine (block_read (rows t).2.2.1 (rows t).2.2.2 rfl rfl).trans ?_
  rw [Nat.zero_mul]
  rfl

theorem iblk1 (t : Fin cfg0.N) : iblk m c 1 t = arr3 (α := EReal) (W m c) := by
  funext j
  unfold iblk
  rw [View.read_apply]
  show V m c main_arg1 _ = _
  rw [V_main_arg1]
  exact cube_read (still t).1.1 (still t).1.2.1 (still t).1.2.2 rfl rfl rfl

theorem iblk2 (t : Fin cfg0.N) : iblk m c 2 t = arr3 (α := EReal) fun _ _ => G m c 0 := by
  funext j
  unfold iblk
  rw [View.read_apply]
  show V m c main_v0 _ = _
  rw [g_read]
  exact (plane_write (j := j) (j' := j) (fun p _ j => G m c p j) (still t).2.1.1 (still t).2.1.2.1 (still t).2.1.2.2 rfl rfl rfl fun _ => rfl).symm

theorem iblk3 (t : Fin cfg0.N) : iblk m c 3 t = arr3 (α := EReal) fun _ _ => H m c 0 := by
  funext j
  unfold iblk
  rw [View.read_apply]
  show V m c main_v1 _ = _
  rw [h_read]
  exact (plane_write (j := j) (j' := j) (fun p _ j => H m c p j) (still t).2.2.1 (still t).2.2.2.1 (still t).2.2.2.2 rfl rfl rfl fun _ => rfl).symm

/-- The projection, and what is made of its three parts. -/
abbrev D : ℕ → ℕ → EReal := down (X m c) (W m c)
abbrev Q : ℕ → ℕ → EReal := cq (D m c) (G m c 0)
abbrev K : ℕ → ℕ → EReal := ckv (D m c) (H m c 0)
abbrev P : ℕ → ℕ → EReal := kpe (D m c) (C m c) (S m c)

theorem hN {n : ℕ} (i : (⟨2, ![2048, n]⟩ : Shape).Idx) : (i 0).val / 1024 < cfg0.N := by
  have l0 : (i 0).val < 2048 := (i 0).isLt
  exact lt_of_lt_of_eq (by omega) N_0.symm

/-- The projection the kernel leaves. -/
theorem arr_d : (dats m 0 c).arrAt 6 cfg0.N = arr2 (α := EReal) (D m c) := by
  refine (dats m 0 c).arrAt_eq_of_cover 6 (arr2 (α := EReal) (D m c)) (fun t _ => ?_) fun i => ?_
  · rw [Value.flushed6, iblk0, iblk1, iblk2, iblk3, iblk4, iblk5, out6, down_sh]
    funext j
    rw [View.read_apply]
    show arr2 (a := 1024) (b := 704) (sh (t.val * 1024) (0 * 704) (D m c)) ((cfg0.win 6).xinj (grid0.coords t) j) =
      arr2 (a := 2048) (b := 704) (D m c) (((cfg0.win 6).blk t).view.emb j)
    refine block_write (j := j) _ (rows_out t).1.1 (rows_out t).1.2 ?_ ?_ fun _ => ?_ <;> rfl
  · have l1 : (i 1).val < 704 := (i 1).isLt
    have hi := (rows_out ⟨_, hN i⟩).1
    refine ⟨⟨_, hN i⟩, flush0_6 _, ?_⟩
    show i ∈ ((View.whole main_v2_0).slice (win0_6.rect ⟨_, hN i⟩)).set
    rw [View.set_slice_whole, Rect.mem_set_unit]
    exact block_cover (f := win0_6.index ⟨_, hN i⟩) hi.1 (hi.2.trans (by omega)) (by omega) (by omega)

/-- The norm of its first columns. -/
theorem arr_q : (dats m 0 c).arrAt 7 cfg0.N = arr2 (α := EReal) (Q m c) := by
  refine (dats m 0 c).arrAt_eq_of_cover 7 (arr2 (α := EReal) (Q m c)) (fun t _ => ?_) fun i => ?_
  · rw [Value.flushed7, iblk0, iblk1, iblk2, iblk3, iblk4, iblk5, out7, down_sh, cq_sh]
    funext j
    rw [View.read_apply]
    show arr2 (a := 1024) (b := 384) (sh (t.val * 1024) (0 * 384) (Q m c)) ((cfg0.win 7).xinj (grid0.coords t) j) =
      arr2 (a := 2048) (b := 384) (Q m c) (((cfg0.win 7).blk t).view.emb j)
    refine block_write (j := j) _ (rows_out t).2.1.1 (rows_out t).2.1.2 ?_ ?_ fun _ => ?_ <;> rfl
  · have l1 : (i 1).val < 384 := (i 1).isLt
    have hi := (rows_out ⟨_, hN i⟩).2.1
    refine ⟨⟨_, hN i⟩, flush0_7 _, ?_⟩
    show i ∈ ((View.whole main_v2_1).slice (win0_7.rect ⟨_, hN i⟩)).set
    rw [View.set_slice_whole, Rect.mem_set_unit]
    exact block_cover (f := win0_7.index ⟨_, hN i⟩) hi.1 (hi.2.trans (by omega)) (by omega) (by omega)

/-- The norm of its next columns. -/
theorem arr_k : (dats m 0 c).arrAt 8 cfg0.N = arr2 (α := EReal) (K m c) := by
  refine (dats m 0 c).arrAt_eq_of_cover 8 (arr2 (α := EReal) (K m c)) (fun t _ => ?_) fun i => ?_
  · rw [Value.flushed8, iblk0, iblk1, iblk2, iblk3, iblk4, iblk5, out8, down_sh, ckv_sh]
    funext j
    rw [View.read_apply]
    show arr2 (a := 1024) (b := 256) (sh (t.val * 1024) (0 * 256) (K m c)) ((cfg0.win 8).xinj (grid0.coords t) j) =
      arr2 (a := 2048) (b := 256) (K m c) (((cfg0.win 8).blk t).view.emb j)
    refine block_write (j := j) _ (rows_out t).2.2.1.1 (rows_out t).2.2.1.2 ?_ ?_ fun _ => ?_ <;> rfl
  · have l1 : (i 1).val < 256 := (i 1).isLt
    have hi := (rows_out ⟨_, hN i⟩).2.2.1
    refine ⟨⟨_, hN i⟩, flush0_8 _, ?_⟩
    show i ∈ ((View.whole main_v2_2).slice (win0_8.rect ⟨_, hN i⟩)).set
    rw [View.set_slice_whole, Rect.mem_set_unit]
    exact block_cover (f := win0_8.index ⟨_, hN i⟩) hi.1 (hi.2.trans (by omega)) (by omega) (by omega)

/-- Its last columns, rotated. -/
theorem arr_p : (dats m 0 c).arrAt 9 cfg0.N = arr2 (α := EReal) (P m c) := by
  refine (dats m 0 c).arrAt_eq_of_cover 9 (arr2 (α := EReal) (P m c)) (fun t _ => ?_) fun i => ?_
  · rw [Value.flushed9, iblk0, iblk1, iblk2, iblk3, iblk4, iblk5, out9, down_sh, kpe_sh]
    funext j
    rw [View.read_apply]
    show arr2 (a := 1024) (b := 64) (sh (t.val * 1024) (0 * 64) (P m c)) ((cfg0.win 9).xinj (grid0.coords t) j) =
      arr2 (a := 2048) (b := 64) (P m c) (((cfg0.win 9).blk t).view.emb j)
    refine block_write (j := j) _ (rows_out t).2.2.2.1 (rows_out t).2.2.2.2 ?_ ?_ fun _ => ?_ <;> rfl
  · have l1 : (i 1).val < 64 := (i 1).isLt
    have hi := (rows_out ⟨_, hN i⟩).2.2.2
    refine ⟨⟨_, hN i⟩, flush0_9 _, ?_⟩
    show i ∈ ((View.whole main_v2_3).slice (win0_9.rect ⟨_, hN i⟩)).set
    rw [View.set_slice_whole, Rect.mem_set_unit]
    exact block_cover (f := win0_9.index ⟨_, hN i⟩) hi.1 (hi.2.trans (by omega)) (by omega) (by omega)

end Kernel

theorem algebraic : algebraic_Kernel15Ideal_Reference15Ideal (hKernel15Ideal := Kernel15Ideal.Gen.facts)
    (hReference15Ideal := Reference15Ideal.Gen.facts) := by
  intro m g m' g' _ hargs
  refine ⟨fun c => arr2 (α := EReal) (D m c), fun c => arr2 (α := EReal) (Q m c), fun c => arr2 (α := EReal) (K m c),
    fun c => arr2 (α := EReal) (P m c), ?_, ?_⟩
  · refine (θ_run _ _ _).mono (fun r h c => ?_) (Kernel15Ideal.Value.run_blocks m g)
    exact ⟨(h c).1.trans (arr_d m c), (h c).2.1.trans (arr_q m c), (h c).2.2.1.trans (arr_k m c), (h c).2.2.2.1.trans (arr_p m c), (h c).2.2.2.2⟩
  · refine run_stages m' g' (fun c => X m c) (fun c => G m c) (fun c => H m c) (fun c => C m c) (fun c => S m c) (fun c => W m c) fun c => ?_
    obtain ⟨b0, b1, b2, b3, b4, b5⟩ := hargs c
    exact ⟨b0.trans (arr2_get2 _).symm, b1.trans (arr3_get3 _).symm, b2.trans (arr2_get2 _).symm, b3.trans (arr2_get2 _).symm,
      b4.trans (arr2_get2 _).symm, b5.trans (arr2_get2 _).symm⟩

end Cert.Odd.Down
-- ==== Proof.ResidNorm.lean ====
/-
  The residual sum and layer norm of a layer whose mixer output is already there: the kernel's row blocks are the reference's.
-/
module

public import proofs.«01_k».proof.Defs
public import proofs.«01_k».proof.Proof.Fwd
public import proofs.«01_k».proof.Proof.Gen.Kernel16Ideal.Value
public import proofs.«01_k».proof.Proof.Gen.Reference16Ideal.Run
public import proofs.«01_k».proof.Proof.Gen.Reference16Ideal.Read
public import Idealize.ShloMosaic.Lib.Claim

@[expose] public section

set_option maxRecDepth 16384

noncomputable section

namespace Cert.Odd.Resid

open Idealize.ShloMosaic Idealize.ShloMosaic.TcCoe Idealize.SL.Sem Finset Cert.Mat Cert.Mlp
open Cert.Mlp.Fwd (res norm centred var len norm_sh row_planes sum_from_zero)

section Reference
open Cert.Reference16Ideal Cert.Reference16Ideal.Read

variable (X Y G B : ℕ → ℕ → EReal)

abbrev A0 : FVec Ideal S2048x1024 .f32 := arr2 (α := EReal) X
abbrev A1 : FVec Ideal S2048x1024 .f32 := arr2 (α := EReal) Y
abbrev A2 : FVec Ideal S4x1024 .f32 := arr2 (α := EReal) G
abbrev A3 : FVec Ideal S4x1024 .f32 := arr2 (α := EReal) B

theorem v2_arr : val_main_v2 (F := Ideal) (A0 X) (A1 Y) = arr2 (α := EReal) (res X Y) := rfl

theorem v12_arr : val_main_v12 (F := Ideal) (A0 X) (A1 Y) = arr2 (α := EReal) (centred (res X Y)) := by
  funext i
  rw [val_main_v12_apply, val_main_v11_apply, val_main_v10_apply, val_main_v9_apply, val_main_cst_1_apply, val_main_v8_apply,
    val_main_v7_apply, val_main_cst_0_apply, v2_arr]
  exact congrArg (fun x : EReal => res X Y (i 0).val (i 1).val - Ideal.div x len) (sum_from_zero (fun k => res X Y (i 0).val k) 1024)

theorem v17_arr (i) : val_main_v17 (F := Ideal) (A0 X) (A1 Y) i = var (res X Y) (i 0).val := by
  rw [val_main_v17_apply, val_main_v16_apply, val_main_cst_3_apply, val_main_v15_apply, val_main_v14_apply, val_main_cst_2_apply]
  have e : val_main_v13 (F := Ideal) (A0 X) (A1 Y) = arr2 (α := EReal) fun i j => centred (res X Y) i j * centred (res X Y) i j := by
    unfold val_main_v13
    rw [v12_arr]
    rfl
  rw [e]
  exact congrArg (fun x : EReal => Ideal.div x len)
    (sum_from_zero (fun k => centred (res X Y) (i 0).val k * centred (res X Y) (i 0).val k) 1024)

theorem gain (i) : val_main_v26 (F := Ideal) (A2 G) i = G 0 (i 1).val := by
  rw [val_main_v26_apply, val_main_v25_apply, val_main_v4_apply, val_main_v3_apply]
  show G 0 ((i 1).val % 1024) = _
  rw [Nat.mod_eq_of_lt (show (i 1).val < 1024 from (i 1).isLt)]

theorem offset (i) : val_main_v29 (F := Ideal) (A3 B) i = B 0 (i 1).val := by
  rw [val_main_v29_apply, val_main_v28_apply, val_main_v6_apply, val_main_v5_apply]
  show B 0 ((i 1).val % 1024) = _
  rw [Nat.mod_eq_of_lt (show (i 1).val < 1024 from (i 1).isLt)]

theorem v30_arr : val_main_v30 (F := Ideal) (A0 X) (A1 Y) (A2 G) (A3 B) = arr2 (α := EReal) (norm (res X Y) (G 0) (B 0)) := by
  funext i
  have e : val_main_v19 (F := Ideal) (A0 X) (A1 Y) = val_main_v12 (F := Ideal) (A0 X) (A1 Y) := rfl
  rw [val_main_v30_apply, offset, val_main_v27_apply, gain, val_main_v24_apply, e, v12_arr, val_main_v23_apply, val_main_v22_apply,
    val_main_v21_apply, v17_arr, val_main_v20_apply, val_main_cst_4_apply]
  rfl

variable (m : (ℓ : Loc nD τ sig) → Buf (Elt Ideal) ℓ)

/-- The reference's run, its results as functions of its arguments. -/
theorem run_stages (ρ : Dev nD → PrngReg) (X Y G B : Dev nD → ℕ → ℕ → EReal)
    (ha : ∀ c : Dev nD, m ((c : Thread nD τ).loc main_arg0) = A0 (X c) ∧ m ((c : Thread nD τ).loc main_arg1) = A1 (Y c)
      ∧ m ((c : Thread nD τ).loc main_arg2) = A2 (G c) ∧ m ((c : Thread nD τ).loc main_arg3) = A3 (B c)) :
    θ_run defs (onTc (τ := τ) (main (F := Ideal))) ⟨m, fun _ => 0, ρ⟩ fun r => ∀ c : Dev nD,
      r.2.mem ((c : Thread nD τ).loc main_v2) = arr2 (α := EReal) (res (X c) (Y c))
      ∧ r.2.mem ((c : Thread nD τ).loc main_v30) = arr2 (α := EReal) (norm (res (X c) (Y c)) (G c 0) (B c 0))
      ∧ r.2.mem ((c : Thread nD τ).loc main_v31) = arr2 (α := EReal) (norm (res (X c) (Y c)) (G c 0) (B c 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Reference16Ideal.Value.run (F := Ideal) m ρ)
  obtain ⟨h0, h1, h2, hk⟩ := h c
  obtain ⟨a0, a1, a2, a3⟩ := ha c
  refine ⟨(h0.trans (val_main_v2_eq _ _)).trans ?_, (h1.trans (val_main_v30_eq _ _ _ _)).trans ?_,
    (h2.trans (val_main_v31_eq _ _ _ _)).trans ?_, hk⟩
  · rw [a0, a1]
    exact v2_arr _ _
  · rw [a0, a1, a2, a3]
    exact v30_arr _ _ _ _
  · rw [a0, a1, a2, a3]
    exact Eq.trans rfl (v30_arr _ _ _ _)

theorem frame : Cert.quiescent_Reference16Ideal (hReference16Ideal := Cert.Reference16Ideal.Gen.facts) := fun m ρ _ =>
  (θ_run Reference16Ideal.defs _ _).mono (fun r h => ⟨fun c => (h c).2.2.2, sem_eq_zero_of_no_sems (by decide) r.2⟩)
    (Cert.Reference16Ideal.Value.run m ρ)

end Reference

section Kernel
open Cert.Kernel16Ideal Cert.Kernel16Ideal.Gen

section
variable (X Y : ℕ → ℕ → EReal) (g b : ℕ → EReal)

/-- The stores compute the residual sum and the norm that the multi-layer perceptron's forward call computes. -/
theorem pay1 : k0_pay1 (F := Ideal) (arr2 (α := EReal) X) (arr2 (α := EReal) Y) = arr2 (α := EReal) (res X Y) :=
  Eq.trans rfl (Mlp.Fwd.pay3 X Y)

theorem pay2 : k0_pay2 (F := Ideal) (arr2 (α := EReal) X) (arr2 (α := EReal) Y) (arr3 (α := EReal) fun _ _ => g) (arr3 (α := EReal) fun _ _ => b)
    = arr2 (α := EReal) (norm (res X Y) g b) :=
  Eq.trans rfl (Mlp.Fwd.pay4 X Y g b)

/-- A read of a whole block. -/
theorem ldX : View.ld (Val := Elt Ideal) (e' := .f32) (arr2 (α := EReal) X) r0_0 = arr2 (α := EReal) X := View.ld_unit_zero (by decide) _ _
theorem ldG : View.ld (Val := Elt Ideal) (e' := .f32) (arr3 (α := EReal) fun _ _ => g) r0_1 = arr3 (α := EReal) fun _ _ => g := View.ld_unit_zero (by decide) _ _

theorem out4 : out0_4 (F := Ideal) (arr2 (α := EReal) X) (arr2 (α := EReal) Y) (arr3 (α := EReal) fun _ _ => g) (arr3 (α := EReal) fun _ _ => b)
    = arr2 (α := EReal) (res X Y) := by
  unfold out0_4
  rw [ldX, ldX, pay1]
  exact View.canon_cons_unit_zero (by decide) _ _ _

theorem out5 : out0_5 (F := Ideal) (arr2 (α := EReal) X) (arr2 (α := EReal) Y) (arr3 (α := EReal) fun _ _ => g) (arr3 (α := EReal) fun _ _ => b)
    = arr2 (α := EReal) (norm (res X Y) g b) := by
  unfold out0_5
  rw [ldX, ldX, ldG, ldG, pay2]
  exact View.canon_cons_unit_zero (by decide) _ _ _

theorem out6 : out0_6 (F := Ideal) (arr2 (α := EReal) X) (arr2 (α := EReal) Y) (arr3 (α := EReal) fun _ _ => g) (arr3 (α := EReal) fun _ _ => b)
    = arr2 (α := EReal) (norm (res X Y) g b) := out5 X Y g b

/-- The residual sum is taken row by row. -/
theorem res_sh (p : ℕ) : res (sh p 0 X) (sh p 0 Y) = sh p (0 * 1024) (res X Y) := by
  funext i j
  simp only [res, sh, Nat.zero_add, Nat.zero_mul]
end

variable (m : (ℓ : Loc nD τ sig) → Buf (Elt Ideal) ℓ) (c : Dev nD)

def X : ℕ → ℕ → EReal := get2 (m ((c : Thread nD τ).loc main_arg0))
def Y : ℕ → ℕ → EReal := get2 (m ((c : Thread nD τ).loc main_arg1))
def G : ℕ → ℕ → EReal := get2 (m ((c : Thread nD τ).loc main_arg2))
def B : ℕ → ℕ → EReal := get2 (m ((c : Thread nD τ).loc main_arg3))

theorem g_read : V m c main_v0 = arr3 (α := EReal) fun p _ j => G m c p j := by
  rw [← row_planes]
  unfold G
  rw [arr2_get2]
  unfold V
  simp only [hostOps0, List.flatten_cons, List.flatten_nil, List.cons_append, List.nil_append, List.append_nil]
  after_reads_simp
  rfl

theorem b_read : V m c main_v1 = arr3 (α := EReal) fun p _ j => B m c p j := by
  rw [← row_planes]
  unfold B
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_1.index t 0 = t.val ∧ win0_1.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by decide +kernel

theorem still : ∀ t : Fin grid0.N, (win0_2.index t 0 = 0 ∧ win0_2.index t 1 = 0 ∧ win0_2.index t 2 = 0)
    ∧ (win0_3.index t 0 = 0 ∧ win0_3.index t 1 = 0 ∧ win0_3.index t 2 = 0) := by decide +kernel

theorem iblk0 (t : Fin cfg0.N) : iblk m c 0 t = arr2 (α := EReal) (sh (t.val * 1024) 0 (X m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (Y m c)) := by
  funext j
  unfold iblk
  rw [View.read_apply]
  show V m c main_arg1 _ = _
  rw [V_main_arg1]
  refine (block_read (rows t).2.1.1 (rows t).2.1.2 rfl rfl).trans ?_
  rw [Nat.zero_mul]
  rfl

theorem iblk2 (t : Fin cfg0.N) : iblk m c 2 t = arr3 (α := EReal) fun _ _ => G m c 0 := by
  funext j
  unfold iblk
  rw [View.read_apply]
  show V m c main_v0 _ = _
  rw [g_read]
  exact (plane_write (j := j) (j' := j) (fun p _ j => G m c p j) (still t).1.1 (still t).1.2.1 (still t).1.2.2 rfl rfl rfl fun _ => rfl).symm

theorem iblk3 (t : Fin cfg0.N) : iblk m c 3 t = arr3 (α := EReal) fun _ _ => B m c 0 := by
  funext j
  unfold iblk
  rw [View.read_apply]
  show V m c main_v1 _ = _
  rw [b_read]
  exact (plane_write (j := j) (j' := j) (fun p _ j => B m c p j) (still t).2.1 (still t).2.2.1 (still t).2.2.2 rfl rfl rfl fun _ => rfl).symm

/-- The residual sum and its norm. -/
abbrev Z : ℕ → ℕ → EReal := res (X m c) (Y m c)
abbrev N : ℕ → ℕ → EReal := norm (Z m c) (G m c 0) (B m c 0)

theorem hN (i : (⟨2, ![2048, 1024]⟩ : Shape).Idx) : (i 0).val / 1024 < cfg0.N := by
  have l0 : (i 0).val < 2048 := (i 0).isLt
  exact lt_of_lt_of_eq (by omega) N_0.symm

/-- The residual sum the kernel leaves. -/
theorem arr_z : (dats m 0 c).arrAt 4 cfg0.N = arr2 (α := EReal) (Z m c) := by
  refine (dats m 0 c).arrAt_eq_of_cover 4 (arr2 (α := EReal) (Z m c)) (fun t _ => ?_) fun i => ?_
  · rw [Value.flushed4, iblk0, iblk1, iblk2, iblk3, out4, res_sh]
    funext j
    rw [View.read_apply]
    show arr2 (a := 1024) (b := 1024) (sh (t.val * 1024) (0 * 1024) (Z m c)) ((cfg0.win 4).xinj (grid0.coords t) j) =
      arr2 (a := 2048) (b := 1024) (Z m c) (((cfg0.win 4).blk t).view.emb j)
    refine block_write (j := j) _ (rows t).2.2.1.1 (rows t).2.2.1.2 ?_ ?_ fun _ => ?_ <;> rfl
  · have l1 : (i 1).val < 1024 := (i 1).isLt
    have hi := (rows ⟨_, hN i⟩).2.2.1
    refine ⟨⟨_, hN i⟩, flush0_4 _, ?_⟩
    show i ∈ ((View.whole main_v2_0).slice (win0_4.rect ⟨_, hN i⟩)).set
    rw [View.set_slice_whole, Rect.mem_set_unit]
    exact block_cover (f := win0_4.index ⟨_, hN i⟩) hi.1 (hi.2.trans (by omega)) (by omega) (by omega)

/-- The norm the kernel leaves. -/
theorem arr_n : (dats m 0 c).arrAt 5 cfg0.N = arr2 (α := EReal) (N m c) := by
  refine (dats m 0 c).arrAt_eq_of_cover 5 (arr2 (α := EReal) (N m c)) (fun t _ => ?_) fun i => ?_
  · rw [Value.flushed5, iblk0, iblk1, iblk2, iblk3, out5, res_sh, norm_sh]
    funext j
    rw [View.read_apply]
    show arr2 (a := 1024) (b := 1024) (sh (t.val * 1024) (0 * 1024) (N m c)) ((cfg0.win 5).xinj (grid0.coords t) j) =
      arr2 (a := 2048) (b := 1024) (N m c) (((cfg0.win 5).blk t).view.emb j)
    refine block_write (j := j) _ (rows t).2.2.2.1.1 (rows t).2.2.2.1.2 ?_ ?_ fun _ => ?_ <;> rfl
  · have l1 : (i 1).val < 1024 := (i 1).isLt
    have hi := (rows ⟨_, hN i⟩).2.2.2.1
    refine ⟨⟨_, hN i⟩, flush0_5 _, ?_⟩
    show i ∈ ((View.whole main_v2_1).slice (win0_5.rect ⟨_, hN i⟩)).set
    rw [View.set_slice_whole, Rect.mem_set_unit]
    exact block_cover (f := win0_5.index ⟨_, hN i⟩) hi.1 (hi.2.trans (by omega)) (by omega) (by omega)

/-- Its copy in the narrow format. -/
theorem arr_nb : (dats m 0 c).arrAt 6 cfg0.N = arr2 (α := EReal) (N m c) := by
  refine (dats m 0 c).arrAt_eq_of_cover 6 (arr2 (α := EReal) (N m c)) (fun t _ => ?_) fun i => ?_
  · rw [Value.flushed6, iblk0, iblk1, iblk2, iblk3, out6, res_sh, norm_sh]
    funext j
    rw [View.read_apply]
    show arr2 (a := 1024) (b := 1024) (sh (t.val * 1024) (0 * 1024) (N m c)) ((cfg0.win 6).xinj (grid0.coords t) j) =
      arr2 (a := 2048) (b := 1024) (N m c) (((cfg0.win 6).blk t).view.emb j)
    refine block_write (j := j) _ (rows t).2.2.2.2.1 (rows t).2.2.2.2.2 ?_ ?_ fun _ => ?_ <;> rfl
  · have l1 : (i 1).val < 1024 := (i 1).isLt
    have hi := (rows ⟨_, hN i⟩).2.2.2.2
    refine ⟨⟨_, hN i⟩, flush0_6 _, ?_⟩
    show i ∈ ((View.whole main_v2_2).slice (win0_6.rect ⟨_, hN i⟩)).set
    rw [View.set_slice_whole, Rect.mem_set_unit]
    exact block_cover (f := win0_6.index ⟨_, hN i⟩) hi.1 (hi.2.trans (by omega)) (by omega) (by omega)

end Kernel

theorem algebraic : algebraic_Kernel16Ideal_Reference16Ideal (hKernel16Ideal := Kernel16Ideal.Gen.facts)
    (hReference16Ideal := Reference16Ideal.Gen.facts) := by
  intro m g m' g' _ hargs
  refine ⟨fun c => arr2 (α := EReal) (Z m c), fun c => arr2 (α := EReal) (N m c), fun c => arr2 (α := EReal) (N m c), ?_, ?_⟩
  · refine (θ_run _ _ _).mono (fun r h c => ?_) (Kernel16Ideal.Value.run_blocks m g)
    exact ⟨(h c).1.trans (arr_z m c), (h c).2.1.trans (arr_n m c), (h c).2.2.1.trans (arr_nb m c), (h c).2.2.2⟩
  · refine run_stages m' g' (fun c => X m c) (fun c => Y m c) (fun c => G m c) (fun c => B m c) fun c => ?_
    obtain ⟨b0, b1, b2, b3⟩ := hargs c
    exact ⟨b0.trans (arr2_get2 _).symm, b1.trans (arr2_get2 _).symm, b2.trans (arr2_get2 _).symm, b3.trans (arr2_get2 _).symm⟩

end Cert.Odd.Resid
-- ==== Proof.RopeTables.lean ====
/-
  The tables of the rotary embedding: cosine and sine of position times frequency, in the kernel as in the reference.
-/
module

public import proofs.«01_k».proof.Defs
public import proofs.«01_k».proof.Proof.MlpMath
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Claim
public import Idealize.ShloMosaic.Lib.ValueIdx
public import Idealize.ShloMosaic.Lib.StableHlo.RunRead

@[expose] public section

set_option maxRecDepth 16384

noncomputable section

namespace Cert.Odd.Tables

open Idealize.ShloMosaic Idealize.ShloMosaic.TcCoe Idealize.SL.Sem Cert.Mlp Idealize.ShloMosaic.ValueIdx

/-- Position times frequency. -/
def ang (p : (⟨1, ![2048]⟩ : Shape).Idx → BitVec 32) (v : (⟨1, ![32]⟩ : Shape).Idx → EReal) : (⟨2, ![2048, 32]⟩ : Shape).Idx → EReal :=
  fun i => FloatOps.sitofp (F := Ideal) .f32 (p (ix1 (i 0))) * v (ix1 (i 1))

def cosine (p : (⟨1, ![2048]⟩ : Shape).Idx → BitVec 32) (v : (⟨1, ![32]⟩ : Shape).Idx → EReal) : (⟨2, ![2048, 32]⟩ : Shape).Idx → EReal :=
  fun i => Ideal.cos (ang p v i)
def sine (p : (⟨1, ![2048]⟩ : Shape).Idx → BitVec 32) (v : (⟨1, ![32]⟩ : Shape).Idx → EReal) : (⟨2, ![2048, 32]⟩ : Shape).Idx → EReal :=
  fun i => Ideal.sin (ang p v i)

/-- A vector as one column, or as one row. -/
def col {α : Type} {a : ℕ} (x : (⟨1, ![a]⟩ : Shape).Idx → α) : (⟨2, ![a, 1]⟩ : Shape).Idx → α := fun i => x (ix1 (i 0))
def row {α : Type} {a : ℕ} (x : (⟨1, ![a]⟩ : Shape).Idx → α) : (⟨2, ![1, a]⟩ : Shape).Idx → α := fun i => x (ix1 (i 1))

theorem cast_col {α : Type} {a : ℕ} (x : (⟨1, ![a]⟩ : Shape).Idx → α) (h) : shapeCast (⟨2, ![a, 1]⟩ : Shape) x h = col x := by
  funext i
  have h1 : (i 1).val < 1 := (i 1).isLt
  refine shapeCast_apply _ h i _ ?_
  rewrite [Shape.rowMajor_val_one, Shape.rowMajor_val_two]
  show (i 0).val = (i 0).val * 1 + (i 1).val
  omega

theorem cast_row {α : Type} {a : ℕ} (x : (⟨1, ![a]⟩ : Shape).Idx → α) (h) : shapeCast (⟨2, ![1, a]⟩ : Shape) x h = row x := by
  funext i
  have h0 : (i 0).val < 1 := (i 0).isLt
  refine shapeCast_apply _ h i _ ?_
  rewrite [Shape.rowMajor_val_one, Shape.rowMajor_val_two]
  show (i 1).val = (i 0).val * a + (i 1).val
  rw [Nat.lt_one_iff.1 h0, Nat.zero_mul, Nat.zero_add]

/-- An index of a block that is the whole array. -/
theorem whole_idx {a b p q : ℕ} {i j : (⟨2, ![a, b]⟩ : Shape).Idx} (hp : p = 0) (hq : q = 0)
    (h0 : (i 0).val = p * a + 1 * (j 0).val) (h1 : (i 1).val = q * b + 1 * (j 1).val) : i = j := by
  subst hp hq
  funext k
  match k with
  | ⟨0, _⟩ => exact Fin.ext (h0.trans (by rw [Nat.zero_mul, Nat.one_mul, Nat.zero_add]; rfl))
  | ⟨1, _⟩ => exact Fin.ext (h1.trans (by rw [Nat.zero_mul, Nat.one_mul, Nat.zero_add]; rfl))

section Reference
open Cert.Reference17Ideal Cert.Reference17Ideal.Read

variable (p : (⟨S2048, .i32⟩ : BufTy).Contents (Elt Ideal)) (v : (⟨S32, .f32⟩ : BufTy).Contents (Elt Ideal))

theorem v5_eq : val_main_v5 (F := Ideal) p v = ang p v := by
  funext i
  rw [val_main_v5_apply, val_main_v3_apply, val_main_v1_apply, val_main_v0_apply, val_main_v4_apply, val_main_v2_apply]
  unfold ang
  congr 3
  all_goals
    funext k
    match k with
    | ⟨0, _⟩ => rfl

theorem v6_eq : val_main_v6 (F := Ideal) p v = cosine p v := by
  funext i
  rw [val_main_v6_apply, v5_eq]
  rfl

theorem v7_eq : val_main_v7 (F := Ideal) p v = sine p v := by
  funext i
  rw [val_main_v7_apply, v5_eq]
  rfl

theorem frame : Cert.quiescent_Reference17Ideal (hReference17Ideal := Cert.Reference17Ideal.Gen.facts) := fun m ρ _ =>
  (θ_run Reference17Ideal.defs _ _).mono (fun r h => ⟨fun c => (h c).2.2, sem_eq_zero_of_no_sems (by decide) r.2⟩)
    (Cert.Reference17Ideal.Value.run m ρ)

end Reference

section Kernel
open Cert.Kernel17Ideal Cert.Kernel17Ideal.Gen

section
variable (p : (⟨1, ![2048]⟩ : Shape).Idx → BitVec 32) (v : (⟨1, ![32]⟩ : Shape).Idx → EReal)

theorem pay1 : k0_pay1 (F := Ideal) (col p) (row v) = ang p v := by
  unfold k0_pay1
  dsimp only
  rw [shapeCast_self, shapeCast_self]
  rfl

theorem out2 : out0_2 (F := Ideal) (col p) (row v) = cosine p v := by
  unfold out0_2 k0_pay2
  rw [View.ld_unit_zero (by decide), View.ld_unit_zero (by decide), pay1]
  exact View.canon_cons_unit_zero (by decide) _ _ _

theorem out3 : out0_3 (F := Ideal) (col p) (row v) = sine p v := by
  unfold out0_3 k0_pay3
  rw [View.ld_unit_zero (by decide), View.ld_unit_zero (by decide), pay1]
  exact View.canon_cons_unit_zero (by decide) _ _ _
end

variable (m : (ℓ : Loc nD τ sig) → Buf (Elt Ideal) ℓ) (c : Dev nD)

abbrev pos : (⟨1, ![2048]⟩ : Shape).Idx → BitVec 32 := m ((c : Thread nD τ).loc main_arg0)
abbrev freq : (⟨1, ![32]⟩ : Shape).Idx → EReal := m ((c : Thread nD τ).loc main_arg1)

theorem p_read : V m c main_v0 = col (pos m c) := by
  rw [← cast_col _ (by decide)]
  unfold V
  simp only [hostOps0, List.flatten_cons, List.flatten_nil, List.cons_append, List.nil_append, List.append_nil]
  after_reads_simp
  rfl

theorem v_read : V m c main_v1 = row (freq m c) := by
  rw [← cast_row _ (by decide)]
  unfold V
  simp only [hostOps0, List.flatten_cons, List.flatten_nil, List.cons_append, List.nil_append, List.append_nil]
  after_reads_simp
  rfl

/-- The one grid point's blocks are the whole arrays. -/
theorem zero : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) := by decide +kernel

theorem iblk0 (t : Fin cfg0.N) : iblk m c 0 t = col (pos m c) := by
  funext j
  unfold iblk
  rw [View.read_apply]
  show V m c main_v0 _ = _
  rw [p_read]
  exact congrArg (col (pos m c)) (whole_idx (j := j) (zero t).1.1 (zero t).1.2 rfl rfl)

theorem iblk1 (t : Fin cfg0.N) : iblk m c 1 t = row (freq m c) := by
  funext j
  unfold iblk
  rw [View.read_apply]
  show V m c main_v1 _ = _
  rw [v_read]
  exact congrArg (row (freq m c)) (whole_idx (j := j) (zero t).2.1.1 (zero t).2.1.2 rfl rfl)

theorem hN : 0 < cfg0.N := lt_of_lt_of_eq Nat.one_pos N_0.symm

/-- The cosines the kernel leaves. -/
theorem arr_cos : (dats m 0 c).arrAt 2 cfg0.N = cosine (pos m c) (freq m c) := by
  refine (dats m 0 c).arrAt_eq_of_cover 2 (cosine (pos m c) (freq m c)) (fun t _ => ?_) fun i => ?_
  · show (cfg0.win 2).cut (grid0.coords t) ((dats m 0 c).after 2 t) = _
    rw [after0_2, iblk0, iblk1, out2]
    funext j
    rw [View.read_apply]
    exact (congrArg (cosine (pos m c) (freq m c)) (whole_idx (zero t).2.2.1.1 (zero t).2.2.1.2 rfl rfl)).symm
  · have l0 : (i 0).val < 2048 := (i 0).isLt
    have l1 : (i 1).val < 32 := (i 1).isLt
    have hi := (zero ⟨0, hN⟩).2.2.1
    refine ⟨⟨0, hN⟩, flush0_2 _, ?_⟩
    show i ∈ ((View.whole main_v2_0).slice (win0_2.rect ⟨0, hN⟩)).set
    rw [View.set_slice_whole, Rect.mem_set_unit]
    exact block_cover (f := win0_2.index ⟨0, hN⟩) (hi.1.trans (by omega)) (hi.2.trans (by omega)) (by omega) (by omega)

/-- The sines the kernel leaves. -/
theorem arr_sin : (dats m 0 c).arrAt 3 cfg0.N = sine (pos m c) (freq m c) := by
  refine (dats m 0 c).arrAt_eq_of_cover 3 (sine (pos m c) (freq m c)) (fun t _ => ?_) fun i => ?_
  · show (cfg0.win 3).cut (grid0.coords t) ((dats m 0 c).after 3 t) = _
    rw [after0_3, iblk0, iblk1, out3]
    funext j
    rw [View.read_apply]
    exact (congrArg (sine (pos m c) (freq m c)) (whole_idx (zero t).2.2.2.1 (zero t).2.2.2.2 rfl rfl)).symm
  · have l0 : (i 0).val < 2048 := (i 0).isLt
    have l1 : (i 1).val < 32 := (i 1).isLt
    have hi := (zero ⟨0, hN⟩).2.2.2
    refine ⟨⟨0, hN⟩, flush0_3 _, ?_⟩
    show i ∈ ((View.whole main_v2_1).slice (win0_3.rect ⟨0, hN⟩)).set
    rw [View.set_slice_whole, Rect.mem_set_unit]
    exact block_cover (f := win0_3.index ⟨0, hN⟩) (hi.1.trans (by omega)) (hi.2.trans (by omega)) (by omega) (by omega)

/-- An argument after the run is as it was: the call only reads it. -/
theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).2 main_arg0 (Pipeline.mem_restRefs_of main_arg0 (by decide) (by decide))).trans (V_main_arg0 m c)

theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_main_arg1 m c)

end Kernel

theorem algebraic : algebraic_Kernel17Ideal_Reference17Ideal (hKernel17Ideal := Kernel17Ideal.Gen.facts)
    (hReference17Ideal := Reference17Ideal.Gen.facts) := by
  intro m g m' g' _ hargs
  refine ⟨fun c => cosine (pos m c) (freq m c), fun c => sine (pos m c) (freq m c), ?_, ?_⟩
  · exact (θ_run _ _ _).mono (fun r h c => ⟨((h c).1 2).trans (arr_cos m c), ((h c).1 3).trans (arr_sin m c), kept0 m c r h, kept1 m c r h⟩)
      (Kernel17Ideal.Gen.run_main m g)
  · refine (θ_run _ _ _).mono (fun r h c => ?_) (Reference17Ideal.Value.run (F := Ideal) m' g')
    obtain ⟨h0, h1, hk⟩ := h c
    obtain ⟨b0, b1⟩ := hargs c
    refine ⟨(h0.trans (Reference17Ideal.Read.val_main_v6_eq _ _)).trans ?_, (h1.trans (Reference17Ideal.Read.val_main_v7_eq _ _)).trans ?_, hk⟩
    · rw [b0, b1]
      exact v6_eq _ _
    · rw [b0, b1]
      exact v7_eq _ _

end Cert.Odd.Tables
-- ==== Proof.NormGrad.lean ====
/-
  The gradient of a row through a norm: the reference's derivative, taken operation by operation, is the kernel's closed form.
  A row with an infinite entry has an infinite mean square, so its factor is zero and with it both gradients.
-/
module

public import proofs.«01_k».proof.Proof.MlpFwdOuts
public import proofs.«01_k».proof.Proof.Finite

@[expose] public section

noncomputable section

namespace Cert.NormGrad

open Idealize.ShloMosaic Finset Cert.Attn

/-- A positive real number. -/
def IsPos (x : EReal) : Prop := ∃ r : ℝ, 0 < r ∧ x = r

/-- The mean square of a row, and what is added to it. -/
def root (n : ℕ) (l e : EReal) (x : ℕ → EReal) : EReal := Ideal.div (∑ k ∈ range n, x k * x k) l + e

theorem mul_self_nonneg (x : EReal) : 0 ≤ x * x := by
  induction x with
  | bot => simp
  | top => simp
  | coe r => rw [← EReal.coe_mul]; exact EReal.coe_nonneg.2 (_root_.mul_self_nonneg r)

theorem mul_self_top {x : EReal} (h : ¬IsR x) : x * x = ⊤ := by
  induction x with
  | bot => simp
  | top => simp
  | coe r => exact absurd ⟨r, rfl⟩ h

/-- A row of real numbers has a real mean square; any other row an infinite one. -/
theorem root_cases (n : ℕ) {l e : EReal} (hl : IsPos l) (he : IsPos e) (x : ℕ → EReal) :
    ((∀ k, k < n → IsR (x k)) ∧ IsPos (root n l e x)) ∨ root n l e x = ⊤ := by
  obtain ⟨L, hL, rfl⟩ := hl
  obtain ⟨E, hE, rfl⟩ := he
  unfold root
  rw [Ideal.div_coe hL.ne']
  by_cases h : ∀ k, k < n → IsR (x k)
  · refine .inl ⟨h, ?_⟩
    choose! y hy using h
    refine ⟨(∑ k ∈ range n, y k * y k) * (1 / L) + E, ?_, ?_⟩
    · have := Finset.sum_nonneg fun k (_ : k ∈ range n) => _root_.mul_self_nonneg (y k)
      positivity
    · rw [sum_coe (g := fun k => y k * y k) n fun k hk => by rw [hy k hk, EReal.coe_mul], EReal.coe_add, EReal.coe_mul]
  · right
    push Not at h
    obtain ⟨k, hk, hx⟩ := h
    have : (⊤ : EReal) ≤ ∑ k ∈ range n, x k * x k :=
      mul_self_top hx ▸ Finset.single_le_sum (f := fun k => x k * x k) (fun k _ => mul_self_nonneg (x k)) (mem_range.2 hk)
    rw [top_le_iff.1 this, EReal.top_mul_coe_of_pos (by positivity), EReal.top_add_coe]

theorem rsqrt_pos {V : ℝ} (h : 0 < V) : Ideal.rsqrt (V : EReal) = ((Real.sqrt V)⁻¹ : ℝ) := by
  show (if V < 0 then (⊥ : EReal) else if V = 0 then ⊤ else ((Real.sqrt V)⁻¹ : ℝ)) = _
  rw [if_neg h.not_gt, if_neg h.ne']

theorem rsqrt_top : Ideal.rsqrt ⊤ = 0 := rfl

theorem div_zero_top : Ideal.div 0 ⊤ = 0 := by
  unfold Ideal.div
  rw [if_neg (by simp), zero_mul]

theorem cube {V : ℝ} (h : 0 < V) : (Real.sqrt V)⁻¹ * (1 / V) = (Real.sqrt V)⁻¹ * (Real.sqrt V)⁻¹ * (Real.sqrt V)⁻¹ := by
  have hs : Real.sqrt V * Real.sqrt V = V := Real.mul_self_sqrt h.le
  have : Real.sqrt V ≠ 0 := (Real.sqrt_pos.2 h).ne'
  rw [mul_assoc, ← mul_inv, hs, one_div]

/-! ## The root-mean-square norm -/

/-- The kernel's form, `x` the row and `d` its cotangent times the gain. -/
def rmsGrad (n : ℕ) (l e : EReal) (x d : ℕ → EReal) (j : ℕ) : EReal :=
  Ideal.rsqrt (root n l e x) * (d j - x j * Ideal.rsqrt (root n l e x) * Ideal.div (∑ k ∈ range n, d k * (x k * Ideal.rsqrt (root n l e x))) l)

/-- What reaches the mean square, spread over the row: the factor of twice each entry. -/
def spread (n : ℕ) (l e h : EReal) (x d : ℕ → EReal) : EReal :=
  Ideal.div ((∑ k ∈ range n, x k * d k) * (h * Ideal.div (Ideal.rsqrt (root n l e x)) (root n l e x))) l

/-- The derivative, operation by operation. -/
def rmsDeriv (n : ℕ) (l e h : EReal) (x d : ℕ → EReal) (j : ℕ) : EReal :=
  d j * Ideal.rsqrt (root n l e x) + spread n l e h x d * (2 * x j)

theorem spread_top {n : ℕ} {l e h : EReal} (hl : IsPos l) {x d : ℕ → EReal} (hx : root n l e x = ⊤) : spread n l e h x d = 0 := by
  obtain ⟨L, hL, rfl⟩ := hl
  unfold spread
  rw [hx, rsqrt_top, div_zero_top, mul_zero, mul_zero, Ideal.div_coe hL.ne', zero_mul]

theorem factor {V : ℝ} (hV : 0 < V) (L : ℝ) (M x : EReal) :
    M * (((-1 / 2 : ℝ) : EReal) * ((((Real.sqrt V)⁻¹ : ℝ) : EReal) * ((1 / V : ℝ) : EReal))) * ((1 / L : ℝ) : EReal) * (((2 : ℝ) : EReal) * x)
      = (((Real.sqrt V)⁻¹ : ℝ) : EReal) * -(x * (((Real.sqrt V)⁻¹ : ℝ) : EReal) * ((((Real.sqrt V)⁻¹ : ℝ) : EReal) * M * ((1 / L : ℝ) : EReal))) := by
  have cubed := cube hV
  generalize (Real.sqrt V)⁻¹ = r at *
  have left : ∀ a b c d t : EReal, M * (a * (b * c)) * d * (t * x) = M * x * (a * (b * c) * d * t) := fun a b c d t => by ac_rfl
  have right : ∀ b d : EReal, x * b * (b * M * d) = M * x * (b * b * d) := fun b d => by ac_rfl
  have neg : ∀ b u : EReal, b * -(M * x * u) = M * x * -(b * u) := fun b u => by
    rw [mul_neg, mul_neg]
    congr 1
    ac_rfl
  rw [left, right, neg]
  simp only [← EReal.coe_mul, ← EReal.coe_neg, cubed]
  congr 2
  ring

theorem rms_eq (n : ℕ) {l e h : EReal} (hl : IsPos l) (he : IsPos e) (hh : h = ((-1 / 2 : ℝ) : EReal)) (x d : ℕ → EReal) (j : ℕ) :
    rmsDeriv n l e h x d j = rmsGrad n l e x d j := by
  rcases root_cases n hl he x with ⟨-, V, hV, e1⟩ | ht
  · obtain ⟨L, hL, rfl⟩ := hl
    have hs : (0 : ℝ) ≤ (Real.sqrt V)⁻¹ := by positivity
    unfold rmsDeriv rmsGrad spread
    rw [e1, rsqrt_pos hV, hh, Ideal.div_coe hV.ne', Ideal.div_coe hL.ne', Ideal.div_coe hL.ne']
    have hsum : ∑ k ∈ range n, d k * (x k * (((Real.sqrt V)⁻¹ : ℝ) : EReal)) = (((Real.sqrt V)⁻¹ : ℝ) : EReal) * ∑ k ∈ range n, x k * d k := by
      rw [coe_mul_sum hs]
      exact Finset.sum_congr rfl fun k _ => by ac_rfl
    have h2 : (2 : EReal) = ((2 : ℝ) : EReal) := rfl
    rw [hsum, sub_eq_add_neg, EReal.left_distrib_of_nonneg_of_ne_top (EReal.coe_nonneg.2 hs) (EReal.coe_ne_top _), mul_comm (d j), h2]
    generalize ∑ k ∈ range n, x k * d k = M
    congr 1
    exact factor hV L M (x j)
  · unfold rmsDeriv rmsGrad
    rw [spread_top hl ht, ht, rsqrt_top, mul_zero, zero_mul, zero_mul, add_zero]

/-! ## The layer norm -/

/-- A row less its mean. -/
def centredRow (n : ℕ) (l : EReal) (z : ℕ → EReal) (j : ℕ) : EReal := z j - Ideal.div (∑ k ∈ range n, z k) l

/-- The kernel's form, `x` the centred row. -/
def lnGrad (n : ℕ) (l e : EReal) (x d : ℕ → EReal) (j : ℕ) : EReal :=
  Ideal.rsqrt (root n l e x) * (d j - Ideal.div (∑ k ∈ range n, d k) l
    - x j * Ideal.rsqrt (root n l e x) * Ideal.div (∑ k ∈ range n, d k * (x k * Ideal.rsqrt (root n l e x))) l)

/-- The derivative, operation by operation: what reaches the centred row, and what its mean takes back. -/
def lnDeriv (n : ℕ) (l e h : EReal) (x d : ℕ → EReal) (j : ℕ) : EReal :=
  rmsDeriv n l e h x d j
    + Ideal.div ((∑ k ∈ range n, -(d k * Ideal.rsqrt (root n l e x))) + ∑ k ∈ range n, -(spread n l e h x d * (2 * x k))) l

/-- Centred entries that are all real sum to zero. -/
theorem centred_sum {n : ℕ} (hn : 0 < n) {z : ℕ → EReal} (h : ∀ k, k < n → IsR (centredRow n ((n : ℝ) : EReal) z k)) :
    ∑ k ∈ range n, centredRow n ((n : ℝ) : EReal) z k = 0 := by
  have hn' : (n : ℝ) ≠ 0 := Nat.cast_ne_zero.2 hn.ne'
  have key : ∀ {a b : EReal}, IsR (a - b) → IsR a ∧ IsR b := by
    intro a b ⟨r, hr⟩
    induction a <;> induction b <;> first | exact ⟨⟨_, rfl⟩, ⟨_, rfl⟩⟩ | simp [sub_eq_add_neg] at hr
  have hz : ∀ k, k < n → IsR (z k) := fun k hk => (key (h k hk)).1
  choose! y hy using hz
  have hs := sum_coe (g := y) n hy
  unfold centredRow
  rw [hs, Ideal.div_coe hn', ← EReal.coe_mul,
    sum_coe (g := fun k => y k - (∑ k ∈ range n, y k) * (1 / (n : ℝ))) n fun k hk => by rw [hy k hk, EReal.coe_sub],
    Finset.sum_sub_distrib, Finset.sum_const, card_range, nsmul_eq_mul, ← EReal.coe_zero]
  congr 1
  field_simp
  ring

theorem ln_eq (n : ℕ) (hn : 0 < n) {e h : EReal} (he : IsPos e) (hh : h = ((-1 / 2 : ℝ) : EReal)) (z d : ℕ → EReal)
    (hd : ∀ k, k < n → IsR (d k)) (j : ℕ) (hj : j < n) :
    lnDeriv n ((n : ℝ) : EReal) e h (centredRow n ((n : ℝ) : EReal) z) d j = lnGrad n ((n : ℝ) : EReal) e (centredRow n ((n : ℝ) : EReal) z) d j := by
  have hn' : (0 : ℝ) < n := Nat.cast_pos.2 hn
  have hl : IsPos ((n : ℝ) : EReal) := ⟨_, hn', rfl⟩
  have hsum := centred_sum (z := z) hn
  generalize centredRow n ((n : ℝ) : EReal) z = x at *
  unfold lnDeriv
  rcases root_cases n hl he x with ⟨hx, V, hV, e1⟩ | ht
  · rw [rms_eq n hl he hh]
    have h0 := hsum hx
    choose! y hy using hx
    choose! c hc using hd
    rw [sum_coe (g := y) n hy, ← EReal.coe_zero, EReal.coe_eq_coe_iff] at h0
    unfold rmsGrad lnGrad spread
    rw [e1, rsqrt_pos hV, hh]
    have h2 : (2 : EReal) = ((2 : ℝ) : EReal) := rfl
    have sd : ∑ k ∈ range n, d k = ((∑ k ∈ range n, c k : ℝ) : EReal) := sum_coe n hc
    have sx : ∀ r : ℝ, ∑ k ∈ range n, d k * (x k * (r : EReal)) = ((∑ k ∈ range n, c k * (y k * r) : ℝ) : EReal) := fun r =>
      sum_coe n fun k hk => by rw [hc k hk, hy k hk, EReal.coe_mul, EReal.coe_mul]
    have sm : ∑ k ∈ range n, x k * d k = ((∑ k ∈ range n, y k * c k : ℝ) : EReal) :=
      sum_coe n fun k hk => by rw [hc k hk, hy k hk, EReal.coe_mul]
    have sn : ∀ r : ℝ, ∑ k ∈ range n, -(d k * (r : EReal)) = ((∑ k ∈ range n, -(c k * r) : ℝ) : EReal) := fun r =>
      sum_coe n fun k hk => by rw [hc k hk, EReal.coe_neg, EReal.coe_mul]
    have ss : ∀ r : ℝ, ∑ k ∈ range n, -((r : EReal) * (((2 : ℝ) : EReal) * x k)) = ((∑ k ∈ range n, -(r * (2 * y k)) : ℝ) : EReal) := fun r =>
      sum_coe n fun k hk => by rw [hy k hk, EReal.coe_neg, EReal.coe_mul, EReal.coe_mul]
    simp only [sd, sx, sm, sn, h2, Ideal.div_coe hV.ne', Ideal.div_coe hn'.ne', ← EReal.coe_mul, ss, hy j hj, hc j hj]
    simp only [← EReal.coe_mul, ← EReal.coe_sub, ← EReal.coe_add, EReal.coe_eq_coe_iff, Finset.sum_neg_distrib, ← Finset.sum_mul, ← Finset.mul_sum, h0]
    ring
  · unfold rmsDeriv lnGrad
    rw [spread_top hl ht, ht, rsqrt_top]
    simp only [mul_zero, zero_mul, neg_zero, Finset.sum_const_zero, add_zero]
    rw [Ideal.div_coe hn'.ne', zero_mul, add_zero]

end Cert.NormGrad
-- ==== Proof.LnGradMath.lean ====
/-
  The gradient of the layer norm: what the kernel's stores compute, and what the reference's operations compute.
-/
module

public import proofs.«01_k».proof.Proof.NormGrad
public import proofs.«01_k».proof.Proof.MlpBwdOuts
public import proofs.«01_k».proof.Proof.Fwd
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Norms

open Idealize.ShloMosaic Finset Cert.Mat Cert.Attn Cert.NormGrad
open Cert.Mlp.Fwd (centred var len eps sum_from_zero rsqrt_arr2 broadcastTo_row)

/-- A row's factor, and the normalised rows. -/
def rstd (Z : ℕ → ℕ → EReal) (i : ℕ) : EReal := Ideal.rsqrt (var Z i + eps)
def hat (Z : ℕ → ℕ → EReal) : ℕ → ℕ → EReal := fun i j => centred Z i j * rstd Z i
/-- The gradient of the rows, `D` the cotangent and `g` the gain. -/
def dz (D Z : ℕ → ℕ → EReal) (g : ℕ → EReal) : ℕ → ℕ → EReal := fun i j => lnGrad 1024 len eps (centred Z i) (fun k => D i k * g k) j
/-- The gradient of the gain: the sum of every column of the product. -/
def dg (n : ℕ) (D X : ℕ → ℕ → EReal) : ℕ → EReal := fun j => ∑ i ∈ range n, D i j * X i j
/-- The gradient of the offset: the sum of every column. -/
def db (n : ℕ) (D : ℕ → ℕ → EReal) : ℕ → EReal := fun j => ∑ i ∈ range n, D i j

theorem len_eq : len = (((1024 : ℕ) : ℝ) : EReal) := by
  unfold len
  simp [Ideal.ofBits, Ideal.ieee, -EReal.coe_mul]
  norm_num
theorem eps_pos : IsPos eps := by
  unfold eps
  refine ⟨10995116 * (2 ^ 40)⁻¹, by norm_num, ?_⟩
  simp [Ideal.ofBits, Ideal.ieee, -EReal.coe_mul]
theorem half_eq : Ideal.ofBits .f32 0xBF000000#32 = ((-1 / 2 : ℝ) : EReal) := by
  simp [Ideal.ofBits, Ideal.ieee, -EReal.coe_mul]
  rw [← EReal.coe_neg]
  norm_num

/-- The sum of every column. -/
theorem colSum_arr2 {m n : ℕ} (A : ℕ → ℕ → EReal) (h hφ hacc) :
    multiReduction (F := Ideal) (φ := .f32) .add [0] (⟨1, ![n]⟩ : Shape) (arr2 (a := m) (b := n) A) 0x00000000#32 h hφ hacc
      = arr1 fun j => ∑ i ∈ range m, A i j := by
  funext j
  rw [Ideal.multiReduction_add_single]
  exact Fin.sum_univ_eq_sum_range (fun i => A i (j 0).val) m

/-- One row, laid out as an array of one row. -/
theorem shapeCast_row {n : ℕ} (A : ℕ → EReal) (h) :
    shapeCast (⟨2, ![1, n]⟩ : Shape) (arr1 (a := n) A) h = arr2 fun _ j => A j := by
  funext j
  refine (shapeCast_apply _ h j (ValueIdx.ix1 (j 1)) ?_).trans rfl
  rw [Shape.rowMajor_val_one, Shape.rowMajor_val_two]
  have : (j 0).val < 1 := (j 0).isLt
  show (j 1).val = (j 0).val * n + (j 1).val
  rw [Nat.lt_one_iff.1 this, Nat.zero_mul, Nat.zero_add]

/-! ## Row blocks -/

theorem shift_row (p : ℕ) (A : ℕ → ℕ → EReal) (i : ℕ) : sh p 0 A i = A (p + i) := by
  funext j
  rw [sh, Nat.zero_add]

theorem centred_sh (p : ℕ) (Z : ℕ → ℕ → EReal) (i : ℕ) : centred (sh p 0 Z) i = centred Z (p + i) := by
  funext j
  simp only [centred, shift_row]

theorem hat_sh (p : ℕ) (Z : ℕ → ℕ → EReal) : hat (sh p 0 Z) = sh p 0 (hat Z) := by
  funext i
  rw [shift_row]
  funext j
  simp only [hat, rstd, var, centred_sh]

theorem dz_sh (p : ℕ) (D Z : ℕ → ℕ → EReal) (g : ℕ → EReal) : dz (sh p 0 D) (sh p 0 Z) g = sh p (0 * 1024) (dz D Z g) := by
  rw [Nat.zero_mul]
  funext i
  rw [shift_row]
  funext j
  simp only [dz, centred_sh, shift_row]

/-- Two blocks of rows add up. -/
theorem db_blocks (D : ℕ → ℕ → EReal) (j : ℕ) : 0 + db 1024 (sh 0 0 D) j + db 1024 (sh 1024 0 D) j = db 2048 D j := by
  rw [zero_add, sh_zero]
  simp only [db, shift_row]
  exact (Finset.sum_range_add (fun i => D i j) 1024 1024).symm

theorem dg_blocks (D X : ℕ → ℕ → EReal) (j : ℕ) :
    0 + dg 1024 (sh 0 0 D) (sh 0 0 X) j + dg 1024 (sh 1024 0 D) (sh 1024 0 X) j = dg 2048 D X j := db_blocks (fun i j => D i j * X i j) j

section Kernel
open Cert.Kernel18Ideal Cert.Kernel18Ideal.Gen

variable (D Z X : ℕ → ℕ → EReal) (g s : ℕ → EReal)

theorem pay5 : k0_pay5 (F := Ideal) (arr2 (α := EReal) Z) = arr2 (α := EReal) (centred Z) := by
  unfold k0_pay5
  dsimp only
  have e := fun Z => rowSum_arr2 (m := 1024) (n := 1024) Z reduces_S1024x1024_S1024 (.inl rfl) rfl
  erw [e]
  rw [shapeCast_arr1, broadcast_arr2, divf_arr2, broadcastTo_arr2, subf_arr2]
  rfl

theorem pay6 : k0_pay6 (F := Ideal) (arr2 (α := EReal) Z) = arr2 (α := EReal) fun i _ => rstd Z i := by
  unfold k0_pay6
  dsimp only
  have e := fun Z => rowSum_arr2 (m := 1024) (n := 1024) Z reduces_S1024x1024_S1024 (.inl rfl) rfl
  rw [pay5, mulf_arr2]
  erw [e]
  rw [shapeCast_arr1, broadcast_arr2, divf_arr2, broadcast_arr2, addf_arr2, rsqrt_arr2]
  rfl

theorem pay7 : k0_pay7 (F := Ideal) (arr2 (α := EReal) Z) = arr2 (α := EReal) (hat Z) := by
  unfold k0_pay7
  dsimp only
  rw [pay5, pay6, broadcastTo_arr2, mulf_arr2]
  rfl

theorem pay8 : k0_pay8 (F := Ideal) (arr2 (α := EReal) D) (arr2 (α := EReal) Z) (arr3 (α := EReal) fun _ _ => g) = arr2 (α := EReal) (dz D Z g) := by
  unfold k0_pay8
  dsimp only
  have e := fun Z => rowSum_arr2 (m := 1024) (n := 1024) Z reduces_S1024x1024_S1024 (.inl rfl) rfl
  rw [pay6, pay7, shapeCast_arr3, broadcastTo_row _ (by decide), mulf_arr2, mulf_arr2]
  erw [e, e]
  rw [shapeCast_arr1, shapeCast_arr1, broadcast_arr2, divf_arr2, divf_arr2, broadcastTo_arr2, broadcastTo_arr2, broadcastTo_arr2, subf_arr2,
    mulf_arr2, subf_arr2, mulf_arr2]
  rfl

theorem pay9 : k0_pay9 (F := Ideal) (arr2 (α := EReal) D) (arr2 (α := EReal) Z) (arr3 (α := EReal) fun _ _ => g) = arr2 (α := EReal) (dz D Z g) :=
  pay8 D Z g

theorem pay1 : k0_pay1 (F := Ideal) = arr2 (α := EReal) fun _ _ => 0 := by
  unfold k0_pay1
  dsimp only
  rw [broadcast_arr2, show Scalar.ofBits (F := Ideal) .f32 0x00000000#32 = (0 : EReal) from Ideal.ofBits_zero_f32]

theorem pay3 : k0_pay3 (F := Ideal) (arr2 (α := EReal) D) (arr2 (α := EReal) X) (arr2 (α := EReal) fun _ => s)
    = arr2 (α := EReal) fun _ j => s j + dg 1024 D X j := by
  unfold k0_pay3
  dsimp only
  have e := fun Z => colSum_arr2 (m := 1024) (n := 1024) Z reduces_S1024x1024_S1024_2 (.inl rfl) rfl
  rw [mulf_arr2]
  erw [e]
  rw [shapeCast_row, shapeCast_arr2, addf_arr2]
  rfl

theorem pay4 : k0_pay4 (F := Ideal) (arr2 (α := EReal) D) (arr2 (α := EReal) fun _ => s)
    = arr2 (α := EReal) fun _ j => s j + db 1024 D j := by
  unfold k0_pay4
  dsimp only
  have e := fun Z => colSum_arr2 (m := 1024) (n := 1024) Z reduces_S1024x1024_S1024_2 (.inl rfl) rfl
  erw [e]
  rw [shapeCast_row, shapeCast_arr2, addf_arr2]
  rfl

end Kernel

section Reference
open Cert.Reference18Ideal Cert.Reference18Ideal.Read

variable (D Z G : ℕ → ℕ → EReal)

abbrev A0 : FVec Ideal S2048x1024 .f32 := arr2 (α := EReal) D
abbrev A1 : FVec Ideal S2048x1024 .f32 := arr2 (α := EReal) Z
abbrev A2 : FVec Ideal S4x1024 .f32 := arr2 (α := EReal) G

theorem v8_arr : val_main_v8 (F := Ideal) (A1 Z) = arr2 (α := EReal) (centred Z) := by
  funext i
  rw [val_main_v8_apply, val_main_v7_apply, val_main_v6_apply, val_main_v5_apply, val_main_cst_1_apply, val_main_v4_apply,
    val_main_v3_apply, val_main_cst_0_apply]
  exact congrArg (fun x : EReal => Z (i 0).val (i 1).val - Ideal.div x len) (sum_from_zero (fun k => Z (i 0).val k) 1024)

theorem v17_arr : val_main_v17 (F := Ideal) (A1 Z) = arr2 (α := EReal) (centred Z) := Eq.trans rfl (v8_arr Z)

theorem v19_arr (i) : val_main_v19 (F := Ideal) (A1 Z) i = root 1024 len eps (centred Z (i 0).val) := by
  rw [val_main_v19_apply, val_main_v18_apply, val_main_cst_5_apply, val_main_v15_apply, val_main_v14_apply, val_main_cst_4_apply,
    val_main_v13_apply, val_main_v12_apply, val_main_cst_3_apply]
  have e : val_main_v9 (F := Ideal) (A1 Z) = arr2 (α := EReal) fun i j => centred Z i j * centred Z i j := by
    unfold val_main_v9
    rw [v8_arr]
    rfl
  rw [e]
  exact congrArg (fun x : EReal => Ideal.div x len + eps) (sum_from_zero (fun k => centred Z (i 0).val k * centred Z (i 0).val k) 1024)

theorem v20_arr (i) : val_main_v20 (F := Ideal) (A1 Z) i = rstd Z (i 0).val := by
  rw [val_main_v20_apply, v19_arr]
  rfl

theorem v25_arr : val_main_v25 (F := Ideal) (A1 Z) = arr2 (α := EReal) (hat Z) := by
  funext i
  rw [val_main_v25_apply, v17_arr, val_main_v24_apply, v20_arr]
  rfl

theorem v32_arr : val_main_v32 (F := Ideal) (A0 D) = A0 D := shapeCast_self _ _

theorem v40_arr : val_main_v40 (F := Ideal) (A0 D) (A2 G) = arr2 (α := EReal) fun i j => D i j * G 0 j := by
  funext i
  rw [val_main_v40_apply, v32_arr, val_main_v39_apply, val_main_v26_apply, val_main_v2_apply, val_main_v1_apply]
  show D _ _ * G 0 ((i 1).val % 1024) = _
  rw [Nat.mod_eq_of_lt (show (i 1).val < 1024 from (i 1).isLt)]
  rfl

/-- The cotangent of the normalised rows. -/
abbrev C (i : ℕ) : ℕ → EReal := fun j => D i j * G 0 j

theorem row_index {n : ℕ} (i : (⟨2, ![n, 1]⟩ : Shape).Idx) : (i 0).val * 1 + (i 1).val = (i 0).val := by
  have : (i 1).val < 1 := (i 1).isLt
  omega

theorem v44_arr (i) : val_main_v44 (F := Ideal) (A0 D) (A1 Z) (A2 G) i = ∑ k ∈ range 1024, centred Z (i 0).val k * C D G (i 0).val k := by
  rw [val_main_v44_apply, val_main_v43_apply, val_main_cst_11_apply]
  have e : val_main_v42 (F := Ideal) (A0 D) (A1 Z) (A2 G) = arr2 (α := EReal) fun i j => centred Z i j * C D G i j := by
    unfold val_main_v42
    rw [v17_arr, v40_arr]
    rfl
  rw [e]
  refine (sum_from_zero (fun k => centred Z ((i 0).val * 1 + (i 1).val) k * C D G ((i 0).val * 1 + (i 1).val) k) 1024).trans ?_
  rw [row_index]

theorem v53_arr (i) : val_main_v53 (F := Ideal) (A0 D) (A1 Z) (A2 G) i
    = spread 1024 len eps (Ideal.ofBits .f32 0xBF000000#32) (centred Z (i 0).val) (C D G (i 0).val) := by
  rw [val_main_v53_apply, val_main_cst_14_apply, Fin.sum_univ_one, val_main_v52_apply, val_main_v51_apply, val_main_cst_13_apply,
    val_main_v47_apply, val_main_v23_apply, val_main_v22_apply, val_main_cst_6_apply, val_main_v21_apply, v20_arr, v19_arr, v44_arr]
  exact (congrArg (· + _) Ideal.ofBits_zero_f32).trans (zero_add _)

theorem v55_arr : val_main_v55 (F := Ideal) (A0 D) (A1 Z) (A2 G) = arr2 (α := EReal) fun i j =>
    spread 1024 len eps (Ideal.ofBits .f32 0xBF000000#32) (centred Z i) (C D G i) * (2 * centred Z i j) := by
  funext i
  rw [val_main_v55_apply, val_main_v54_apply, v53_arr, val_main_v11_apply, v8_arr, val_main_v10_apply, val_main_cst_2_apply, Mlp.Bwd.ofBits_two]
  rfl

theorem v46_arr : val_main_v46 (F := Ideal) (A0 D) (A1 Z) (A2 G) = arr2 (α := EReal) fun i j => C D G i j * rstd Z i := by
  funext i
  rw [val_main_v46_apply, v40_arr, val_main_v45_apply, v20_arr]
  rfl

theorem v50_arr (i) : val_main_v50 (F := Ideal) (A0 D) (A1 Z) (A2 G) i = ∑ k ∈ range 1024, -(C D G (i 0).val k * rstd Z (i 0).val) := by
  rw [val_main_v50_apply, val_main_v49_apply, val_main_cst_12_apply]
  have e : val_main_v48 (F := Ideal) (A0 D) (A1 Z) (A2 G) = arr2 (α := EReal) fun i j => -(C D G i j * rstd Z i) := by
    unfold val_main_v48
    rw [v46_arr]
    rfl
  rw [e]
  refine (sum_from_zero (fun k => -(C D G ((i 0).val * 1 + (i 1).val) k * rstd Z ((i 0).val * 1 + (i 1).val))) 1024).trans ?_
  rw [row_index]

theorem v58_arr (i) : val_main_v58 (F := Ideal) (A0 D) (A1 Z) (A2 G) i = ∑ k ∈ range 1024,
    -(spread 1024 len eps (Ideal.ofBits .f32 0xBF000000#32) (centred Z (i 0).val) (C D G (i 0).val) * (2 * centred Z (i 0).val k)) := by
  rw [val_main_v58_apply, val_main_v57_apply, val_main_cst_15_apply]
  have e : val_main_v56 (F := Ideal) (A0 D) (A1 Z) (A2 G) = arr2 (α := EReal) fun i j =>
      -(spread 1024 len eps (Ideal.ofBits .f32 0xBF000000#32) (centred Z i) (C D G i) * (2 * centred Z i j)) := by
    unfold val_main_v56
    rw [v55_arr]
    rfl
  rw [e]
  refine (sum_from_zero (fun k => -(spread 1024 len eps (Ideal.ofBits .f32 0xBF000000#32) (centred Z ((i 0).val * 1 + (i 1).val))
    (C D G ((i 0).val * 1 + (i 1).val)) * (2 * centred Z ((i 0).val * 1 + (i 1).val) k))) 1024).trans ?_
  rw [row_index]

/-- The reference's gradient of the rows. -/
theorem v65_arr : val_main_v65 (F := Ideal) (A0 D) (A1 Z) (A2 G) = arr2 (α := EReal) fun i j =>
    lnDeriv 1024 len eps (Ideal.ofBits .f32 0xBF000000#32) (centred Z i) (C D G i) j := by
  funext i
  rw [val_main_v65_apply, val_main_v59_apply, val_main_v64_apply, val_main_v63_apply, val_main_cst_17_apply, Fin.sum_univ_one,
    val_main_v62_apply, val_main_v61_apply, val_main_cst_16_apply, val_main_v60_apply, v58_arr, v50_arr, v46_arr, v55_arr]
  refine congrArg₂ (fun x y : EReal => x + y) rfl ?_
  exact (congrArg (· + _) Ideal.ofBits_zero_f32).trans (zero_add _)

/-- With a finite cotangent and a finite gain, that is the kernel's gradient. -/
theorem v65_eq (hD : IsR2 D) (hG : ∀ k, k < 1024 → IsR (G 0 k)) : val_main_v65 (F := Ideal) (A0 D) (A1 Z) (A2 G) = arr2 (α := EReal) (dz D Z (G 0)) := by
  rw [v65_arr]
  funext i
  have l1 : (i 1).val < 1024 := (i 1).isLt
  have h := ln_eq 1024 (by decide) eps_pos half_eq (Z (i 0).val) (C D G (i 0).val) (fun k hk => (hD _ _).mul (hG k hk)) _ l1
  rw [← len_eq] at h
  exact h

/-- The reference's gradients of the gain and of the offset. -/
theorem v67_arr : val_main_v67 (F := Ideal) (A0 D) (A1 Z) = arr2 (α := EReal) fun _ => dg 2048 D (hat Z) := by
  funext i
  rw [val_main_v67_apply, val_main_v41_apply, val_main_cst_10_apply, Fin.sum_univ_one, val_main_v38_apply, val_main_v37_apply, val_main_cst_9_apply]
  have e : val_main_v36 (F := Ideal) (A0 D) (A1 Z) = arr2 (α := EReal) fun i j => D i j * hat Z i j := by
    unfold val_main_v36
    rw [v25_arr, v32_arr]
    funext i
    exact mul_comm _ _
  rw [e]
  refine ((congrArg (· + _) Ideal.ofBits_zero_f32).trans (zero_add _)).trans ?_
  refine (sum_from_zero (fun k => D k (0 * 1024 + (i 1).val) * hat Z k (0 * 1024 + (i 1).val)) 2048).trans ?_
  rw [Nat.zero_mul, Nat.zero_add]
  rfl

theorem v68_arr : val_main_v68 (F := Ideal) (A0 D) = arr2 (α := EReal) fun _ => db 2048 D := by
  funext i
  rw [val_main_v68_apply, val_main_v35_apply, val_main_cst_8_apply, Fin.sum_univ_one, val_main_v34_apply, val_main_v33_apply, val_main_cst_7_apply]
  refine ((congrArg (· + _) Ideal.ofBits_zero_f32).trans (zero_add _)).trans ?_
  refine (sum_from_zero (fun k => D k (0 * 1024 + (i 1).val)) 2048).trans ?_
  rw [Nat.zero_mul, Nat.zero_add]
  rfl

end Reference

end Cert.Norms
-- ==== Proof.LnGradOuts.lean ====
/-
  What one grid point of the layer norm's gradient leaves in its blocks, on arrays given by functions.
-/
module

public import proofs.«01_k».proof.Proof.LnGradMath

@[expose] public section

set_option maxRecDepth 16384

noncomputable section

namespace Cert.Norms.Ln

open Idealize.ShloMosaic Finset Cert.Mat Cert.Norms Cert.Kernel18Ideal Cert.Kernel18Ideal.Gen

variable (D Z : ℕ → ℕ → EReal) (g s t : ℕ → EReal)
variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1x1x1024 .f32) (harg3 : arg3.IsWhole)
  (arg4 : Memref sig .tc .vmem S1024x1024 .f32) (harg4 : arg4.IsWhole) (arg5 : Memref sig .tc .vmem S1024x1024 .bf16) (harg5 : arg5.IsWhole)
  (arg6 : Memref sig .tc .vmem S1x1024 .f32) (harg6 : arg6.IsWhole) (arg7 : Memref sig .tc .vmem S1x1024 .f32) (harg7 : arg7.IsWhole)

theorem plane_zero : (fun _ : ℕ => sh 0 0 fun _ : ℕ => g) = fun _ _ => g := by
  funext _
  exact sh_zero _

/-- The blocks read, and the gradient of the rows. -/
theorem r_val : kernelRun0_A.sl.r (F := Ideal) c arg1 harg1 (arr2 (α := EReal) D) = arr2 (α := EReal) D := by
  unfold kernelRun0_A.sl.r
  erw [readAt_arr2]
  rw [sh_zero]

theorem r_1_val : kernelRun0_A.sl.r_1 (F := Ideal) c arg2 harg2 (arr2 (α := EReal) Z) = arr2 (α := EReal) (hat Z) := by
  unfold kernelRun0_A.sl.r_1
  erw [readAt_arr2]
  rw [sh_zero, pay7]

theorem r_2_val : kernelRun0_A.sl.r_2 (F := Ideal) c arg1 harg1 arg2 harg2 arg3 harg3 (arr2 (α := EReal) D) (arr2 (α := EReal) Z)
    (arr3 (α := EReal) fun _ _ => g) = arr2 (α := EReal) (dz D Z g) := by
  unfold kernelRun0_A.sl.r_2
  erw [readAt_arr2, readAt_arr2, readAt_arr3]
  rw [sh_zero, sh_zero, plane_zero, pay9]

theorem r_B : @kernelRun0_B.sl.r = @kernelRun0_A.sl.r := rfl
theorem r_1_B : @kernelRun0_B.sl.r_1 = @kernelRun0_A.sl.r_1 := rfl
theorem r_2_B : @kernelRun0_B.sl.r_2 = @kernelRun0_A.sl.r_2 := rfl

section A
variable (hc0 : cond0_0 i)

theorem v44_A : kernelRun0_A.sl.v44 (F := Ideal) c arg6 = arr2 (α := EReal) fun _ _ => 0 := by
  unfold kernelRun0_A.sl.v44 kernelRun0_A.sl.H5_1
  rw [pay1]
  exact (Holds.whole _ _).read _ _

theorem v51_A : kernelRun0_A.sl.v51 (F := Ideal) c arg7 = arr2 (α := EReal) fun _ _ => 0 := by
  unfold kernelRun0_A.sl.v51 kernelRun0_A.sl.H6_1
  rw [show k0_pay2 (F := Ideal) = _ from pay1]
  exact (Holds.whole _ _).read _ _

theorem out3_A : out0_A_3 (F := Ideal) c i arg1 harg1 arg2 harg2 arg3 harg3 arg4 harg4 arg5 harg5 arg6 harg6 arg7 harg7 hc0
    (arr2 (α := EReal) D) (arr2 (α := EReal) Z) (arr3 (α := EReal) fun _ _ => g) = arr2 (α := EReal) (dz D Z g) := by
  rw [out0_A_3, View.read_writes_eq_canon _ _ _ (fun y => cover0_A_3 (y := y) ..)]
  unfold kernelRun0_A
  dsimp only
  erw [readAt_arr2, readAt_arr2, readAt_arr3]
  rw [sh_zero, sh_zero, plane_zero, pay8]
  exact View.canon_cons_unit_zero (by decide) _ _ _

theorem out4_A : out0_A_4 (F := Ideal) c i arg1 harg1 arg2 harg2 arg3 harg3 arg4 harg4 arg5 harg5 arg6 harg6 arg7 harg7 hc0
    (arr2 (α := EReal) D) (arr2 (α := EReal) Z) (arr3 (α := EReal) fun _ _ => g) = arr2 (α := EReal) (dz D Z g) := by
  rw [out0_A_4, View.read_writes_eq_canon _ _ _ (fun y => cover0_A_4 (y := y) ..)]
  unfold kernelRun0_A
  dsimp only
  rw [r_2_val]
  exact View.canon_cons_unit_zero (by decide) _ _ _

theorem out5_A : out0_A_5 (F := Ideal) c i arg1 harg1 arg2 harg2 arg3 harg3 arg4 harg4 arg5 harg5 arg6 harg6 arg7 harg7 hc0
    (arr2 (α := EReal) D) (arr2 (α := EReal) Z) (arr3 (α := EReal) fun _ _ => g) = arr2 (α := EReal) fun _ j => 0 + dg 1024 D (hat Z) j := by
  rw [out0_A_5, View.read_writes_eq_canon _ _ _ (fun y => cover0_A_5 (y := y) ..)]
  unfold kernelRun0_A
  dsimp only
  rw [r_val, r_1_val, v44_A]
  erw [pay3 D (hat Z) fun _ => 0]
  exact View.canon_cons_unit_zero (by decide) _ _ _

theorem out6_A : out0_A_6 (F := Ideal) c i arg1 harg1 arg2 harg2 arg3 harg3 arg4 harg4 arg5 harg5 arg6 harg6 arg7 harg7 hc0
    (arr2 (α := EReal) D) (arr2 (α := EReal) Z) (arr3 (α := EReal) fun _ _ => g) = arr2 (α := EReal) fun _ j => 0 + db 1024 D j := by
  rw [out0_A_6, View.read_writes_eq_canon _ _ _ (fun y => cover0_A_6 (y := y) ..)]
  unfold kernelRun0_A
  dsimp only
  rw [r_val, v51_A]
  erw [pay4 D fun _ => 0]
  exact View.canon_cons_unit_zero (by decide) _ _ _
end A

section B
variable (hc0 : ¬cond0_0 i)

theorem out3_B : out0_B_3 (F := Ideal) c i arg1 harg1 arg2 harg2 arg3 harg3 arg4 harg4 arg5 harg5 arg6 harg6 arg7 harg7 hc0
    (arr2 (α := EReal) D) (arr2 (α := EReal) Z) (arr3 (α := EReal) fun _ _ => g) (arr2 (α := EReal) fun _ => s) (arr2 (α := EReal) fun _ => t) = arr2 (α := EReal) (dz D Z g) := by
  rw [out0_B_3, View.read_writes_eq_canon _ _ _ (fun y => cover0_B_3 (y := y) ..)]
  unfold kernelRun0_B
  dsimp only
  erw [readAt_arr2, readAt_arr2, readAt_arr3]
  rw [sh_zero, sh_zero, plane_zero, pay8]
  exact View.canon_cons_unit_zero (by decide) _ _ _

theorem out4_B : out0_B_4 (F := Ideal) c i arg1 harg1 arg2 harg2 arg3 harg3 arg4 harg4 arg5 harg5 arg6 harg6 arg7 harg7 hc0
    (arr2 (α := EReal) D) (arr2 (α := EReal) Z) (arr3 (α := EReal) fun _ _ => g) (arr2 (α := EReal) fun _ => s) (arr2 (α := EReal) fun _ => t) = arr2 (α := EReal) (dz D Z g) := by
  rw [out0_B_4, View.read_writes_eq_canon _ _ _ (fun y => cover0_B_4 (y := y) ..)]
  unfold kernelRun0_B
  dsimp only
  rw [r_2_B, r_2_val]
  exact View.canon_cons_unit_zero (by decide) _ _ _

theorem out5_B : out0_B_5 (F := Ideal) c i arg1 harg1 arg2 harg2 arg3 harg3 arg4 harg4 arg5 harg5 arg6 harg6 arg7 harg7 hc0
    (arr2 (α := EReal) D) (arr2 (α := EReal) Z) (arr3 (α := EReal) fun _ _ => g) (arr2 (α := EReal) fun _ => s) (arr2 (α := EReal) fun _ => t) = arr2 (α := EReal) fun _ j => s j + dg 1024 D (hat Z) j := by
  rw [out0_B_5, View.read_writes_eq_canon _ _ _ (fun y => cover0_B_5 (y := y) ..)]
  unfold kernelRun0_B
  dsimp only
  rw [r_B, r_1_B, r_val, r_1_val]
  erw [readAt_arr2]
  rw [sh_zero, pay3]
  exact View.canon_cons_unit_zero (by decide) _ _ _

theorem out6_B : out0_B_6 (F := Ideal) c i arg1 harg1 arg2 harg2 arg3 harg3 arg4 harg4 arg5 harg5 arg6 harg6 arg7 harg7 hc0
    (arr2 (α := EReal) D) (arr2 (α := EReal) Z) (arr3 (α := EReal) fun _ _ => g) (arr2 (α := EReal) fun _ => s) (arr2 (α := EReal) fun _ => t) = arr2 (α := EReal) fun _ j => t j + db 1024 D j := by
  rw [out0_B_6, View.read_writes_eq_canon _ _ _ (fun y => cover0_B_6 (y := y) ..)]
  unfold kernelRun0_B
  dsimp only
  rw [r_B, r_val]
  erw [readAt_arr2]
  rw [sh_zero, pay4]
  exact View.canon_cons_unit_zero (by decide) _ _ _
end B

end Cert.Norms.Ln
-- ==== Proof.LnGrad.lean ====
/-
  The gradient of the layer norm: the kernel's results are the reference's, for a finite cotangent and a finite gain.
-/
module

public import proofs.«01_k».proof.Defs
public import proofs.«01_k».proof.Proof.LnGradOuts
public import proofs.«01_k».proof.Proof.PreRead
public import proofs.«01_k».proof.Proof.Gen.Pre_finite_norm
public import Idealize.ShloMosaic.Lib.Claim

@[expose] public section

set_option maxRecDepth 16384

noncomputable section

namespace Cert.Norms.Ln

open Idealize.ShloMosaic Idealize.ShloMosaic.TcCoe Idealize.SL.Sem Finset Cert.Mat Cert.Mlp Cert.Attn Cert.Norms
open Cert.Mlp.Fwd (row_planes)

section Reference
open Cert.Reference18Ideal Cert.Reference18Ideal.Read

variable (m : (ℓ : Loc nD τ sig) → Buf (Elt Ideal) ℓ)

/-- The reference's run, its results as functions of its arguments. -/
theorem run_stages (ρ : Dev nD → PrngReg) (D Z G : Dev nD → ℕ → ℕ → EReal)
    (ha : ∀ c : Dev nD, m ((c : Thread nD τ).loc main_arg0) = A0 (D c) ∧ m ((c : Thread nD τ).loc main_arg1) = A1 (Z c)
      ∧ m ((c : Thread nD τ).loc main_arg2) = A2 (G c))
    (hf : ∀ c, IsR2 (D c) ∧ ∀ k, k < 1024 → IsR (G c 0 k)) :
    θ_run defs (onTc (τ := τ) (main (F := Ideal))) ⟨m, fun _ => 0, ρ⟩ fun r => ∀ c : Dev nD,
      r.2.mem ((c : Thread nD τ).loc main_v65) = arr2 (α := EReal) (dz (D c) (Z c) (G c 0))
      ∧ r.2.mem ((c : Thread nD τ).loc main_v66) = arr2 (α := EReal) (dz (D c) (Z c) (G c 0))
      ∧ r.2.mem ((c : Thread nD τ).loc main_v67) = arr2 (α := EReal) (fun _ => dg 2048 (D c) (hat (Z c)))
      ∧ r.2.mem ((c : Thread nD τ).loc main_v68) = arr2 (α := EReal) (fun _ => db 2048 (D c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Reference18Ideal.Value.run (F := Ideal) m ρ)
  obtain ⟨h0, h1, h2, h3, hk⟩ := h c
  obtain ⟨a0, a1, a2⟩ := ha c
  obtain ⟨fd, fg⟩ := hf c
  refine ⟨(h0.trans (val_main_v65_eq _ _)).trans ?_, (h1.trans (val_main_v66_eq _ _)).trans ?_,
    (h2.trans (val_main_v67_eq _ _)).trans ?_, (h3.trans (val_main_v68_eq _)).trans ?_, hk⟩
  · rw [a0, a1, a2]
    exact v65_eq _ _ _ fd fg
  · rw [a0, a1, a2]
    exact Eq.trans rfl (v65_eq _ _ _ fd fg)
  · rw [a0, a1]
    exact v67_arr _ _
  · rw [a0]
    exact v68_arr _

theorem frame : Cert.quiescent_Reference18Ideal (hReference18Ideal := Cert.Reference18Ideal.Gen.facts) := fun m ρ _ =>
  (θ_run Reference18Ideal.defs _ _).mono (fun r h => ⟨fun c => (h c).2.2.2.2, sem_eq_zero_of_no_sems (by decide) r.2⟩)
    (Cert.Reference18Ideal.Value.run m ρ)

end Reference

section Kernel
open Cert.Kernel18Ideal Cert.Kernel18Ideal.Gen

variable (m : (ℓ : Loc nD τ sig) → Buf (Elt Ideal) ℓ) (c : Dev nD)

def D : ℕ → ℕ → EReal := get2 (m ((c : Thread nD τ).loc main_arg0))
def Z : ℕ → ℕ → EReal := get2 (m ((c : Thread nD τ).loc main_arg1))
def G : ℕ → ℕ → EReal := get2 (m ((c : Thread nD τ).loc main_arg2))

theorem g_read : V m c main_v0 = arr3 (α := EReal) fun p _ j => G m c p j := by
  rw [← row_planes]
  unfold G
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) := by decide +kernel

theorem still : ∀ t : Fin grid0.N, (win0_2.index t 0 = 0 ∧ win0_2.index t 1 = 0 ∧ win0_2.index t 2 = 0)
    ∧ (win0_5.index t 0 = 0 ∧ win0_5.index t 1 = 0) ∧ (win0_6.index t 0 = 0 ∧ win0_6.index t 1 = 0) := by decide +kernel

theorem iblk0 (t : Fin cfg0.N) : iblk m c 0 t = arr2 (α := EReal) (sh (t.val * 1024) 0 (D m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (Z m c)) := by
  funext j
  unfold iblk
  rw [View.read_apply]
  show V m c main_arg1 _ = _
  rw [V_main_arg1]
  refine (block_read (rows t).2.1.1 (rows t).2.1.2 rfl rfl).trans ?_
  rw [Nat.zero_mul]
  rfl

theorem iblk2 (t : Fin cfg0.N) : iblk m c 2 t = arr3 (α := EReal) fun _ _ => G m c 0 := by
  funext j
  unfold iblk
  rw [View.read_apply]
  show V m c main_v0 _ = _
  rw [g_read]
  exact (plane_write (j := j) (j' := j) (fun p _ j => G m c p j) (still t).1.1 (still t).1.2.1 (still t).1.2.2 rfl rfl rfl fun _ => rfl).symm

/-- The three gradients. -/
abbrev dZ : ℕ → ℕ → EReal := dz (D m c) (Z m c) (G m c 0)
abbrev dG : ℕ → EReal := dg 2048 (D m c) (hat (Z m c))
abbrev dB : ℕ → EReal := db 2048 (D m c)

/-- What the first point leaves. -/
theorem outs_first (t : Fin cfg0.N) (h : t.val % 2 = 0) : outsAt0 m c t.val t.isLt
    = (arr2 (α := EReal) (sh (t.val * 1024) (0 * 1024) (dZ m c)), arr2 (α := EReal) (sh (t.val * 1024) (0 * 1024) (dZ m c)),
      arr2 (α := EReal) (fun _ j => 0 + dg 1024 (sh (t.val * 1024) 0 (D m c)) (sh (t.val * 1024) 0 (hat (Z m c))) j),
      arr2 (α := EReal) (fun _ j => 0 + db 1024 (sh (t.val * 1024) 0 (D m c)) j)) := by
  rw [outsAt0_A m c t h, iblk0, iblk1, iblk2, out3_A, out4_A, out5_A, out6_A, dz_sh, hat_sh]

theorem point_one (t : Fin cfg0.N) (h : ¬t.val % 2 = 0) : t.val = 1 := by
  have := lt_of_lt_of_eq t.isLt N_0
  omega

/-- What the second leaves. -/
theorem outs_second (t : Fin cfg0.N) (h : ¬t.val % 2 = 0) : outsAt0 m c t.val t.isLt
    = (arr2 (α := EReal) (sh (t.val * 1024) (0 * 1024) (dZ m c)), arr2 (α := EReal) (sh (t.val * 1024) (0 * 1024) (dZ m c)),
      arr2 (α := EReal) (fun _ => dG m c), arr2 (α := EReal) (fun _ => dB m c)) := by
  have h1 := point_one t h
  have first := outs_first m c ⟨t.val - 1, Nat.lt_of_le_of_lt (Nat.sub_le _ _) t.isLt⟩ (by dsimp only; omega)
  have e0 : t.val - 1 = 0 := by omega
  dsimp only at first
  rw [outsAt0_B m c t h, first, iblk0, iblk1, iblk2]
  dsimp only
  rw [out3_B, out4_B, out5_B, out6_B, dz_sh, hat_sh]
  have eg : (fun _ j => 0 + dg 1024 (sh ((t.val - 1) * 1024) 0 (D m c)) (sh ((t.val - 1) * 1024) 0 (hat (Z m c))) j
      + dg 1024 (sh (t.val * 1024) 0 (D m c)) (sh (t.val * 1024) 0 (hat (Z m c))) j : ℕ → ℕ → EReal) = fun _ => dG m c := by
    rw [e0, h1, Nat.zero_mul, Nat.one_mul]
    funext _ j
    exact dg_blocks _ _ _
  have eb : (fun _ j => 0 + db 1024 (sh ((t.val - 1) * 1024) 0 (D m c)) j + db 1024 (sh (t.val * 1024) 0 (D m c)) j : ℕ → ℕ → EReal)
      = fun _ => dB m c := by
    rw [e0, h1, Nat.zero_mul, Nat.one_mul]
    funext _ j
    exact db_blocks _ _
  rw [eg, eb]

theorem outs_rows (t : Fin cfg0.N) : (outsAt0 m c t.val t.isLt).1 = arr2 (α := EReal) (sh (t.val * 1024) (0 * 1024) (dZ m c))
    ∧ (outsAt0 m c t.val t.isLt).2.1 = arr2 (α := EReal) (sh (t.val * 1024) (0 * 1024) (dZ m c)) := by
  by_cases h : t.val % 2 = 0
  · rw [outs_first m c t h]
    exact ⟨rfl, rfl⟩
  · rw [outs_second m c t h]
    exact ⟨rfl, rfl⟩

theorem hN (i : (⟨2, ![2048, 1024]⟩ : Shape).Idx) : (i 0).val / 1024 < cfg0.N := by
  have l0 : (i 0).val < 2048 := (i 0).isLt
  exact lt_of_lt_of_eq (by omega) N_0.symm

/-- The gradient of the rows the kernel leaves. -/
theorem arr_z : (dats m 0 c).arrAt 3 cfg0.N = arr2 (α := EReal) (dZ m c) := by
  refine (dats m 0 c).arrAt_eq_of_cover 3 (arr2 (α := EReal) (dZ m c)) (fun t _ => ?_) fun i => ?_
  · rw [Value.flushed3, (outs_rows m c t).1]
    funext j
    rw [View.read_apply]
    show arr2 (a := 1024) (b := 1024) (sh (t.val * 1024) (0 * 1024) (dZ m c)) ((cfg0.win 3).xinj (grid0.coords t) j) =
      arr2 (a := 2048) (b := 1024) (dZ m c) (((cfg0.win 3).blk t).view.emb j)
    refine block_write (j := j) _ (rows t).2.2.1.1 (rows t).2.2.1.2 ?_ ?_ fun _ => ?_ <;> rfl
  · have l1 : (i 1).val < 1024 := (i 1).isLt
    have hi := (rows ⟨_, hN i⟩).2.2.1
    refine ⟨⟨_, hN i⟩, flush0_3 _, ?_⟩
    show i ∈ ((View.whole main_v1_0).slice (win0_3.rect ⟨_, hN i⟩)).set
    rw [View.set_slice_whole, Rect.mem_set_unit]
    exact block_cover (f := win0_3.index ⟨_, hN i⟩) hi.1 (hi.2.trans (by omega)) (by omega) (by omega)

/-- Its copy in the narrow format. -/
theorem arr_zb : (dats m 0 c).arrAt 4 cfg0.N = arr2 (α := EReal) (dZ m c) := by
  refine (dats m 0 c).arrAt_eq_of_cover 4 (arr2 (α := EReal) (dZ m c)) (fun t _ => ?_) fun i => ?_
  · rw [Value.flushed4, (outs_rows m c t).2]
    funext j
    rw [View.read_apply]
    show arr2 (a := 1024) (b := 1024) (sh (t.val * 1024) (0 * 1024) (dZ m c)) ((cfg0.win 4).xinj (grid0.coords t) j) =
      arr2 (a := 2048) (b := 1024) (dZ m c) (((cfg0.win 4).blk t).view.emb j)
    refine block_write (j := j) _ (rows t).2.2.2.1 (rows t).2.2.2.2 ?_ ?_ fun _ => ?_ <;> rfl
  · have l1 : (i 1).val < 1024 := (i 1).isLt
    have hi := (rows ⟨_, hN i⟩).2.2.2
    refine ⟨⟨_, hN i⟩, flush0_4 _, ?_⟩
    show i ∈ ((View.whole main_v1_1).slice (win0_4.rect ⟨_, hN i⟩)).set
    rw [View.set_slice_whole, Rect.mem_set_unit]
    exact block_cover (f := win0_4.index ⟨_, hN i⟩) hi.1 (hi.2.trans (by omega)) (by omega) (by omega)

theorem last : 1 < cfg0.N := lt_of_lt_of_eq (by decide) N_0.symm

/-- The gradient of the gain the kernel leaves. -/
theorem arr_g : (dats m 0 c).arrAt 5 cfg0.N = arr2 (α := EReal) fun _ => dG m c := by
  refine (dats m 0 c).arrAt_eq_of_cover 5 (arr2 (α := EReal) fun _ => dG m c) (fun t ht => ?_) fun i => ?_
  · have h1 := (flush0_5 t).1 ht
    rw [Value.flushed5, outs_second m c t (by omega)]
    funext j
    rw [View.read_apply]
    show arr2 (a := 1) (b := 1024) (fun _ => dG m c) ((cfg0.win 5).xinj (grid0.coords t) j) =
      arr2 (a := 1) (b := 1024) (fun _ => dG m c) (((cfg0.win 5).blk t).view.emb j)
    refine (congrFun (congrArg (arr2 (α := EReal)) (sh_zero _).symm) _).trans (block_write (j := j) _ (still t).2.1.1 (still t).2.1.2 ?_ ?_ fun _ => ?_) <;> rfl
  · have l0 : (i 0).val < 1 := (i 0).isLt
    have l1 : (i 1).val < 1024 := (i 1).isLt
    have hi := (still ⟨1, last⟩).2.1
    refine ⟨⟨1, last⟩, (flush0_5 _).2 (by dsimp only), ?_⟩
    show i ∈ ((View.whole main_v1_2).slice (win0_5.rect ⟨1, last⟩)).set
    rw [View.set_slice_whole, Rect.mem_set_unit]
    exact block_cover (f := win0_5.index ⟨1, last⟩) (hi.1.trans (by omega)) (hi.2.trans (by omega)) (by omega) (by omega)

/-- The gradient of the offset the kernel leaves. -/
theorem arr_b : (dats m 0 c).arrAt 6 cfg0.N = arr2 (α := EReal) fun _ => dB m c := by
  refine (dats m 0 c).arrAt_eq_of_cover 6 (arr2 (α := EReal) fun _ => dB m c) (fun t ht => ?_) fun i => ?_
  · have h1 := (flush0_6 t).1 ht
    rw [Value.flushed6, outs_second m c t (by omega)]
    funext j
    rw [View.read_apply]
    show arr2 (a := 1) (b := 1024) (fun _ => dB m c) ((cfg0.win 6).xinj (grid0.coords t) j) =
      arr2 (a := 1) (b := 1024) (fun _ => dB m c) (((cfg0.win 6).blk t).view.emb j)
    refine (congrFun (congrArg (arr2 (α := EReal)) (sh_zero _).symm) _).trans (block_write (j := j) _ (still t).2.2.1 (still t).2.2.2 ?_ ?_ fun _ => ?_) <;> rfl
  · have l0 : (i 0).val < 1 := (i 0).isLt
    have l1 : (i 1).val < 1024 := (i 1).isLt
    have hi := (still ⟨1, last⟩).2.2
    refine ⟨⟨1, last⟩, (flush0_6 _).2 (by dsimp only), ?_⟩
    show i ∈ ((View.whole main_v1_3).slice (win0_6.rect ⟨1, last⟩)).set
    rw [View.set_slice_whole, Rect.mem_set_unit]
    exact block_cover (f := win0_6.index ⟨1, last⟩) (hi.1.trans (by omega)) (hi.2.trans (by omega)) (by omega) (by omega)

/-- The first row of an array, cut out and found finite, is a row of real numbers. -/
theorem first_row (x : FVec Ideal (⟨2, ![4, 1024]⟩ : Shape) .f32) (h)
    (hx : ∀ i, IsR (extractStridedSlice (⟨2, ![1, 1024]⟩ : Shape) ![0, 0] x h i)) (k : ℕ) (hk : k < 1024) : IsR (get2 x 0 k) := by
  rw [← arr2_get2 x, slice_arr2, sh_zero] at hx
  exact hx (ValueIdx.ix2 ⟨0, by decide⟩ ⟨k, hk⟩)

/-- The precondition, read: the cotangent and the gain are real numbers. -/
theorem finite (h : Pre_Kernel18Ideal_finite_norm (hPre_finite_norm := Pre_finite_norm.Gen.facts) m) :
    IsR2 (D m c) ∧ ∀ k, k < 1024 → IsR (G m c 0 k) := by
  have e := congrFun (h c) (fun a => a.elim0)
  unfold Pre_finite_norm.fn at e
  dsimp only at e
  obtain ⟨h0, h1⟩ := IntOp.andi_eq_one.1 e
  haveI : Subsingleton Pre_finite_norm.S_.Idx := ⟨fun a b => funext fun i => i.elim0⟩
  exact ⟨isR2_get2 (isR_of_all _ _ _ _ _ _ (fun _ => ofBits_inf_f32) h0),
    first_row (m ((c : Thread nD τ).loc main_arg2)) _ (isR_of_all _ _ _ _ _ _ (fun _ => ofBits_inf_f32) h1)⟩

end Kernel

theorem algebraic : algebraic_Kernel18Ideal_Reference18Ideal_pre_finite_norm (hKernel18Ideal := Kernel18Ideal.Gen.facts)
    (hReference18Ideal := Reference18Ideal.Gen.facts) (hPre_finite_norm := Pre_finite_norm.Gen.facts) := by
  intro m g m' g' hp hargs
  refine ⟨fun c => arr2 (α := EReal) (dZ m c), fun c => arr2 (α := EReal) (dZ m c), fun c => arr2 (α := EReal) fun _ => dG m c,
    fun c => arr2 (α := EReal) fun _ => dB m c, ?_, ?_⟩
  · refine (θ_run _ _ _).mono (fun r h c => ?_) (Kernel18Ideal.Value.run_blocks m g)
    exact ⟨(h c).1.trans (arr_z m c), (h c).2.1.trans (arr_zb m c), (h c).2.2.1.trans (arr_g m c), (h c).2.2.2.1.trans (arr_b m c), (h c).2.2.2.2⟩
  · refine run_stages m' g' (fun c => D m c) (fun c => Z m c) (fun c => G m c) (fun c => ?_) fun c => finite m c hp
    obtain ⟨b0, b1, b2⟩ := hargs c
    exact ⟨b0.trans (arr2_get2 _).symm, b1.trans (arr2_get2 _).symm, b2.trans (arr2_get2 _).symm⟩

end Cert.Norms.Ln
-- ==== Proof.LnResOuts.lean ====
/-
  What one grid point of the gradient of the layer norm with a shortcut leaves in its blocks, on arrays given by functions.
-/
module

public import proofs.«01_k».proof.Proof.Gen.Kernel19Ideal.Value
public import proofs.«01_k».proof.Proof.Gen.Reference19Ideal.Read
public import proofs.«01_k».proof.Proof.LnGradOuts

@[expose] public section

set_option maxRecDepth 16384

noncomputable section

namespace Cert.Norms.LnRes

open Idealize.ShloMosaic Finset Cert.Mat Cert.Norms Cert.Kernel19Ideal Cert.Kernel19Ideal.Gen
open Cert.Mlp.Fwd (alpha)
open Cert.Norms.Ln (plane_zero)

/-- The cotangent: what comes back from above, and the shortcut's share. -/
def dy (D R : ℕ → ℕ → EReal) : ℕ → ℕ → EReal := fun i j => D i j + alpha * R i j

variable (D R Z : ℕ → ℕ → EReal) (g s t : ℕ → EReal)
variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1024x1024 .f32) (harg3 : arg3.IsWhole)
  (arg4 : Memref sig .tc .vmem S1x1x1024 .f32) (harg4 : arg4.IsWhole)
  (arg5 : Memref sig .tc .vmem S1024x1024 .f32) (harg5 : arg5.IsWhole) (arg6 : Memref sig .tc .vmem S1024x1024 .bf16) (harg6 : arg6.IsWhole)
  (arg7 : Memref sig .tc .vmem S1x1024 .f32) (harg7 : arg7.IsWhole) (arg8 : Memref sig .tc .vmem S1x1024 .f32) (harg8 : arg8.IsWhole)

theorem pay_dy : k0_pay7 (F := Ideal) (arr2 (α := EReal) D) (arr2 (α := EReal) R) = arr2 (α := EReal) (dy D R) := rfl

/-- The blocks read: the cotangent, the normed rows and the gradient of the rows. -/
theorem r_val : kernelRun0_A.sl.r (F := Ideal) c arg1 harg1 arg2 harg2 (arr2 (α := EReal) D) (arr2 (α := EReal) R) = arr2 (α := EReal) (dy D R) := by
  unfold kernelRun0_A.sl.r
  erw [readAt_arr2, readAt_arr2]
  rw [sh_zero, sh_zero, pay_dy]

theorem r_2_val : kernelRun0_A.sl.r_2 (F := Ideal) c arg3 harg3 (arr2 (α := EReal) Z) = arr2 (α := EReal) (hat Z) := by
  unfold kernelRun0_A.sl.r_2
  erw [readAt_arr2]
  rw [sh_zero]
  exact Eq.trans rfl (pay7 Z)

theorem rows_val : k0_pay1 (F := Ideal) (kernelRun0_A.sl.r_1 (F := Ideal) c arg3 harg3 (arr2 (α := EReal) Z))
    (kernelRun0_A.sl.r_3 (F := Ideal) c arg1 harg1 arg2 harg2 arg3 harg3 arg4 harg4 (arr2 (α := EReal) D) (arr2 (α := EReal) R) (arr2 (α := EReal) Z)
      (arr3 (α := EReal) fun _ _ => g)) = arr2 (α := EReal) (dz (dy D R) Z g) := by
  unfold kernelRun0_A.sl.r_1 kernelRun0_A.sl.r_3
  erw [readAt_arr2, readAt_arr2, readAt_arr2, readAt_arr3]
  rw [sh_zero, sh_zero, sh_zero, plane_zero]
  exact Eq.trans rfl (pay8 (dy D R) Z g)

theorem r_B : @kernelRun0_B.sl.r = @kernelRun0_A.sl.r := rfl
theorem r_1_B : @kernelRun0_B.sl.r_1 = @kernelRun0_A.sl.r_1 := rfl
theorem r_2_B : @kernelRun0_B.sl.r_2 = @kernelRun0_A.sl.r_2 := rfl
theorem r_3_B : @kernelRun0_B.sl.r_3 = @kernelRun0_A.sl.r_3 := rfl

/-- A row of sums, with the block's added. -/
theorem pay_g (D X : ℕ → ℕ → EReal) : k0_pay5 (F := Ideal) (arr2 (α := EReal) D) (arr2 (α := EReal) X) (arr2 (α := EReal) fun _ => s)
    = arr2 (α := EReal) fun _ j => s j + dg 1024 D X j := Eq.trans rfl (pay3 D X s)
theorem pay_b : k0_pay6 (F := Ideal) (arr2 (α := EReal) D) (arr2 (α := EReal) fun _ => s)
    = arr2 (α := EReal) fun _ j => s j + db 1024 D j := Eq.trans rfl (pay4 D s)
theorem pay_none : k0_pay3 (F := Ideal) = arr2 (α := EReal) fun _ _ => 0 := Eq.trans rfl pay1

section A
variable (hc0 : cond0_0 i)

theorem v48_A : kernelRun0_A.sl.v48 (F := Ideal) c arg7 = arr2 (α := EReal) fun _ _ => 0 := by
  unfold kernelRun0_A.sl.v48 kernelRun0_A.sl.H6_1
  rw [pay_none]
  exact (Holds.whole _ _).read _ _

theorem v55_A : kernelRun0_A.sl.v55 (F := Ideal) c arg8 = arr2 (α := EReal) fun _ _ => 0 := by
  unfold kernelRun0_A.sl.v55 kernelRun0_A.sl.H7_1
  rw [show k0_pay4 (F := Ideal) = _ from pay_none]
  exact (Holds.whole _ _).read _ _

theorem out4_A : out0_A_4 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g) = arr2 (α := EReal) (dz (dy D R) Z g) := by
  rw [out0_A_4, View.read_writes_eq_canon _ _ _ (fun y => cover0_A_4 (y := y) ..)]
  unfold kernelRun0_A
  dsimp only
  rw [rows_val]
  exact View.canon_cons_unit_zero (by decide) _ _ _

theorem out5_A : out0_A_5 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g) = arr2 (α := EReal) (dz (dy D R) Z g) := by
  rw [out0_A_5, View.read_writes_eq_canon _ _ _ (fun y => cover0_A_5 (y := y) ..)]
  unfold kernelRun0_A
  dsimp only
  rw [show @k0_pay2 Ideal _ = @k0_pay1 Ideal _ from rfl, rows_val]
  exact View.canon_cons_unit_zero (by decide) _ _ _

theorem out6_A : out0_A_6 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g) = arr2 (α := EReal) fun _ j => 0 + dg 1024 (dy D R) (hat Z) j := by
  rw [out0_A_6, View.read_writes_eq_canon _ _ _ (fun y => cover0_A_6 (y := y) ..)]
  unfold kernelRun0_A
  dsimp only
  rw [r_val, r_2_val, v48_A]
  erw [pay_g (fun _ => 0) (dy D R) (hat Z)]
  exact View.canon_cons_unit_zero (by decide) _ _ _

theorem out7_A : out0_A_7 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g) = arr2 (α := EReal) fun _ j => 0 + db 1024 (dy D R) j := by
  rw [out0_A_7, View.read_writes_eq_canon _ _ _ (fun y => cover0_A_7 (y := y) ..)]
  unfold kernelRun0_A
  dsimp only
  rw [r_val, v55_A]
  erw [pay_b (dy D R) fun _ => 0]
  exact View.canon_cons_unit_zero (by decide) _ _ _

end A

section B
variable (hc0 : ¬cond0_0 i)

theorem out4_B : out0_B_4 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g)
    (arr2 (α := EReal) fun _ => s) (arr2 (α := EReal) fun _ => t) = arr2 (α := EReal) (dz (dy D R) Z g) := by
  rw [out0_B_4, View.read_writes_eq_canon _ _ _ (fun y => cover0_B_4 (y := y) ..)]
  unfold kernelRun0_B
  dsimp only
  rw [r_1_B, r_3_B, rows_val]
  exact View.canon_cons_unit_zero (by decide) _ _ _

theorem out5_B : out0_B_5 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g)
    (arr2 (α := EReal) fun _ => s) (arr2 (α := EReal) fun _ => t) = arr2 (α := EReal) (dz (dy D R) Z g) := by
  rw [out0_B_5, View.read_writes_eq_canon _ _ _ (fun y => cover0_B_5 (y := y) ..)]
  unfold kernelRun0_B
  dsimp only
  rw [r_1_B, r_3_B, show @k0_pay2 Ideal _ = @k0_pay1 Ideal _ from rfl, rows_val]
  exact View.canon_cons_unit_zero (by decide) _ _ _

theorem out6_B : out0_B_6 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g)
    (arr2 (α := EReal) fun _ => s) (arr2 (α := EReal) fun _ => t) = arr2 (α := EReal) fun _ j => s j + dg 1024 (dy D R) (hat Z) j := by
  rw [out0_B_6, View.read_writes_eq_canon _ _ _ (fun y => cover0_B_6 (y := y) ..)]
  unfold kernelRun0_B
  dsimp only
  rw [r_B, r_2_B, r_val, r_2_val]
  erw [readAt_arr2]
  rw [sh_zero, pay_g]
  exact View.canon_cons_unit_zero (by decide) _ _ _

theorem out7_B : out0_B_7 (F := Ideal) c i arg1 harg1 arg2 harg2 arg3 harg3 arg4 harg4 arg5 harg5 arg6 harg6 arg7 harg7 arg8 harg8 hc0
    (arr2 (α := EReal) D) (arr2 (α := EReal) R) (arr2 (α := EReal) Z) (arr3 (α := EReal) fun _ _ => g)
    (arr2 (α := EReal) fun _ => s) (arr2 (α := EReal) fun _ => t) = arr2 (α := EReal) fun _ j => t j + db 1024 (dy D R) j := by
  rw [out0_B_7, View.read_writes_eq_canon _ _ _ (fun y => cover0_B_7 (y := y) ..)]
  unfold kernelRun0_B
  dsimp only
  rw [r_B, r_val]
  erw [readAt_arr2]
  rw [sh_zero, pay_b]
  exact View.canon_cons_unit_zero (by decide) _ _ _

end B

end Cert.Norms.LnRes
-- ==== Proof.LnGradRes.lean ====
/-
  The gradient of the layer norm with a shortcut: the kernel's results are the reference's, for a finite cotangent and a finite gain.
-/
module

public import proofs.«01_k».proof.Defs
public import proofs.«01_k».proof.Proof.LnGrad
public import proofs.«01_k».proof.Proof.LnResOuts
public import proofs.«01_k».proof.Proof.Gen.Reference19Ideal.Run
public import proofs.«01_k».proof.Proof.PreRead
public import proofs.«01_k».proof.Proof.Gen.Pre_finite_norm_res
public import Idealize.ShloMosaic.Lib.Claim

@[expose] public section

set_option maxRecDepth 16384

noncomputable section

namespace Cert.Norms.LnRes

open Idealize.ShloMosaic Idealize.ShloMosaic.TcCoe Idealize.SL.Sem Finset Cert.Mat Cert.Mlp Cert.Attn Cert.Norms
open Cert.Mlp.Fwd (row_planes alpha)
open Cert.Norms.Ln (first_row)

section Reference
open Cert.Reference19Ideal Cert.Reference19Ideal.Read

variable (m : (ℓ : Loc nD τ sig) → Buf (Elt Ideal) ℓ)

/-- This reference is the other one's at the cotangent with the shortcut's share. -/
theorem v36_arr (D R : ℕ → ℕ → EReal) : val_main_v36 (F := Ideal) (A0 D) (A0 R) = A0 (dy D R) := rfl

theorem alpha_real : IsR alpha := by
  unfold alpha
  refine ⟨14107901 * (2 ^ 23)⁻¹, ?_⟩
  simp [Ideal.ofBits, Ideal.ieee, -EReal.coe_mul]

theorem real_dy {D R : ℕ → ℕ → EReal} (hD : IsR2 D) (hR : IsR2 R) : IsR2 (dy D R) := fun i j =>
  (hD i j).add (.mul alpha_real (hR i j))

/-- The reference's run, its results as functions of its arguments. -/
theorem run_stages (ρ : Dev nD → PrngReg) (D R Z G : Dev nD → ℕ → ℕ → EReal)
    (ha : ∀ c : Dev nD, m ((c : Thread nD τ).loc main_arg0) = A0 (D c) ∧ m ((c : Thread nD τ).loc main_arg1) = A0 (R c)
      ∧ m ((c : Thread nD τ).loc main_arg2) = A1 (Z c) ∧ m ((c : Thread nD τ).loc main_arg3) = A2 (G c))
    (hf : ∀ c, IsR2 (D c) ∧ IsR2 (R c) ∧ ∀ k, k < 1024 → IsR (G c 0 k)) :
    θ_run defs (onTc (τ := τ) (main (F := Ideal))) ⟨m, fun _ => 0, ρ⟩ fun r => ∀ c : Dev nD,
      r.2.mem ((c : Thread nD τ).loc main_v70) = arr2 (α := EReal) (dz (dy (D c) (R c)) (Z c) (G c 0))
      ∧ r.2.mem ((c : Thread nD τ).loc main_v71) = arr2 (α := EReal) (dz (dy (D c) (R c)) (Z c) (G c 0))
      ∧ r.2.mem ((c : Thread nD τ).loc main_v72) = arr2 (α := EReal) (fun _ => dg 2048 (dy (D c) (R c)) (hat (Z c)))
      ∧ r.2.mem ((c : Thread nD τ).loc main_v73) = arr2 (α := EReal) (fun _ => db 2048 (dy (D c) (R c)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Reference19Ideal.Value.run (F := Ideal) m ρ)
  obtain ⟨h0, h1, h2, h3, hk⟩ := h c
  obtain ⟨a0, a1, a2, a3⟩ := ha c
  obtain ⟨fd, fr, fg⟩ := hf c
  have rows := v65_eq (dy (D c) (R c)) (Z c) (G c) (real_dy fd fr) fg
  refine ⟨(h0.trans (val_main_v70_eq _ _)).trans ?_, (h1.trans (val_main_v71_eq _ _)).trans ?_,
    (h2.trans (val_main_v72_eq _ _ _)).trans ?_, (h3.trans (val_main_v73_eq _ _)).trans ?_, hk⟩
  · rw [a0, a1, a2, a3]
    exact Eq.trans rfl rows
  · rw [a0, a1, a2, a3]
    exact Eq.trans rfl rows
  · rw [a0, a1, a2]
    exact Eq.trans rfl (v67_arr (dy (D c) (R c)) (Z c))
  · rw [a0, a1]
    exact Eq.trans rfl (v68_arr (dy (D c) (R c)))

theorem frame : Cert.quiescent_Reference19Ideal (hReference19Ideal := Cert.Reference19Ideal.Gen.facts) := fun m ρ _ =>
  (θ_run Reference19Ideal.defs _ _).mono (fun r h => ⟨fun c => (h c).2.2.2.2, sem_eq_zero_of_no_sems (by decide) r.2⟩)
    (Cert.Reference19Ideal.Value.run m ρ)

end Reference

section Kernel
open Cert.Kernel19Ideal Cert.Kernel19Ideal.Gen

variable (m : (ℓ : Loc nD τ sig) → Buf (Elt Ideal) ℓ) (c : Dev nD)

def D : ℕ → ℕ → EReal := get2 (m ((c : Thread nD τ).loc main_arg0))
def R : ℕ → ℕ → EReal := get2 (m ((c : Thread nD τ).loc main_arg1))
def Z : ℕ → ℕ → EReal := get2 (m ((c : Thread nD τ).loc main_arg2))
def G : ℕ → ℕ → EReal := get2 (m ((c : Thread nD τ).loc main_arg3))

theorem g_read : V m c main_v0 = arr3 (α := EReal) fun p _ j => G m c p j := by
  rw [← row_planes]
  unfold G
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0)
    ∧ (win0_4.index t 0 = t.val ∧ win0_4.index t 1 = 0) ∧ (win0_5.index t 0 = t.val ∧ win0_5.index t 1 = 0) := by decide +kernel

theorem still : ∀ t : Fin grid0.N, (win0_3.index t 0 = 0 ∧ win0_3.index t 1 = 0 ∧ win0_3.index t 2 = 0)
    ∧ (win0_6.index t 0 = 0 ∧ win0_6.index t 1 = 0) ∧ (win0_7.index t 0 = 0 ∧ win0_7.index t 1 = 0) := by decide +kernel

theorem iblk0 (t : Fin cfg0.N) : iblk m c 0 t = arr2 (α := EReal) (sh (t.val * 1024) 0 (D m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (R m c)) := by
  funext j
  unfold iblk
  rw [View.read_apply]
  show V m c main_arg1 _ = _
  rw [V_main_arg1]
  refine (block_read (rows t).2.1.1 (rows t).2.1.2 rfl rfl).trans ?_
  rw [Nat.zero_mul]
  rfl

theorem iblk2 (t : Fin cfg0.N) : iblk m c 2 t = arr2 (α := EReal) (sh (t.val * 1024) 0 (Z m c)) := by
  funext j
  unfold iblk
  rw [View.read_apply]
  show V m c main_arg2 _ = _
  rw [V_main_arg2]
  refine (block_read (rows t).2.2.1.1 (rows t).2.2.1.2 rfl rfl).trans ?_
  rw [Nat.zero_mul]
  rfl

theorem iblk3 (t : Fin cfg0.N) : iblk m c 3 t = arr3 (α := EReal) fun _ _ => G m c 0 := by
  funext j
  unfold iblk
  rw [View.read_apply]
  show V m c main_v0 _ = _
  rw [g_read]
  exact (plane_write (j := j) (j' := j) (fun p _ j => G m c p j) (still t).1.1 (still t).1.2.1 (still t).1.2.2 rfl rfl rfl fun _ => rfl).symm

theorem dy_sh (p : ℕ) (D R : ℕ → ℕ → EReal) : dy (sh p 0 D) (sh p 0 R) = sh p 0 (dy D R) := rfl

/-- The cotangent on the whole array. -/
abbrev Y : ℕ → ℕ → EReal := dy (D m c) (R m c)

/-- The three gradients. -/
abbrev dZ : ℕ → ℕ → EReal := dz (Y m c) (Z m c) (G m c 0)
abbrev dG : ℕ → EReal := dg 2048 (Y m c) (hat (Z m c))
abbrev dB : ℕ → EReal := db 2048 (Y m c)

/-- What the first point leaves. -/
theorem outs_first (t : Fin cfg0.N) (h : t.val % 2 = 0) : outsAt0 m c t.val t.isLt
    = (arr2 (α := EReal) (sh (t.val * 1024) (0 * 1024) (dZ m c)), arr2 (α := EReal) (sh (t.val * 1024) (0 * 1024) (dZ m c)),
      arr2 (α := EReal) (fun _ j => 0 + dg 1024 (sh (t.val * 1024) 0 (Y m c)) (sh (t.val * 1024) 0 (hat (Z m c))) j),
      arr2 (α := EReal) (fun _ j => 0 + db 1024 (sh (t.val * 1024) 0 (Y m c)) j)) := by
  rw [outsAt0_A m c t h, iblk0, iblk1, iblk2, iblk3, out4_A, out5_A, out6_A, out7_A, dy_sh, dz_sh, hat_sh]

theorem point_one (t : Fin cfg0.N) (h : ¬t.val % 2 = 0) : t.val = 1 := by
  have := lt_of_lt_of_eq t.isLt N_0
  omega

/-- What the second leaves. -/
theorem outs_second (t : Fin cfg0.N) (h : ¬t.val % 2 = 0) : outsAt0 m c t.val t.isLt
    = (arr2 (α := EReal) (sh (t.val * 1024) (0 * 1024) (dZ m c)), arr2 (α := EReal) (sh (t.val * 1024) (0 * 1024) (dZ m c)),
      arr2 (α := EReal) (fun _ => dG m c), arr2 (α := EReal) (fun _ => dB m c)) := by
  have h1 := point_one t h
  have first := outs_first m c ⟨t.val - 1, Nat.lt_of_le_of_lt (Nat.sub_le _ _) t.isLt⟩ (by dsimp only; omega)
  have e0 : t.val - 1 = 0 := by omega
  dsimp only at first
  rw [outsAt0_B m c t h, first, iblk0, iblk1, iblk2, iblk3]
  dsimp only
  rw [out4_B, out5_B, out6_B, out7_B, dy_sh, dz_sh, hat_sh]
  have eg : (fun _ j => 0 + dg 1024 (sh ((t.val - 1) * 1024) 0 (Y m c)) (sh ((t.val - 1) * 1024) 0 (hat (Z m c))) j
      + dg 1024 (sh (t.val * 1024) 0 (Y m c)) (sh (t.val * 1024) 0 (hat (Z m c))) j : ℕ → ℕ → EReal) = fun _ => dG m c := by
    rw [e0, h1, Nat.zero_mul, Nat.one_mul]
    funext _ j
    exact dg_blocks _ _ _
  have eb : (fun _ j => 0 + db 1024 (sh ((t.val - 1) * 1024) 0 (Y m c)) j + db 1024 (sh (t.val * 1024) 0 (Y m c)) j : ℕ → ℕ → EReal)
      = fun _ => dB m c := by
    rw [e0, h1, Nat.zero_mul, Nat.one_mul]
    funext _ j
    exact db_blocks _ _
  rw [eg, eb]

theorem outs_rows (t : Fin cfg0.N) : (outsAt0 m c t.val t.isLt).1 = arr2 (α := EReal) (sh (t.val * 1024) (0 * 1024) (dZ m c))
    ∧ (outsAt0 m c t.val t.isLt).2.1 = arr2 (α := EReal) (sh (t.val * 1024) (0 * 1024) (dZ m c)) := by
  by_cases h : t.val % 2 = 0
  · rw [outs_first m c t h]
    exact ⟨rfl, rfl⟩
  · rw [outs_second m c t h]
    exact ⟨rfl, rfl⟩

theorem hN (i : (⟨2, ![2048, 1024]⟩ : Shape).Idx) : (i 0).val / 1024 < cfg0.N := by
  have l0 : (i 0).val < 2048 := (i 0).isLt
  exact lt_of_lt_of_eq (by omega) N_0.symm

/-- The gradient of the rows the kernel leaves. -/
theorem arr_z : (dats m 0 c).arrAt 4 cfg0.N = arr2 (α := EReal) (dZ m c) := by
  refine (dats m 0 c).arrAt_eq_of_cover 4 (arr2 (α := EReal) (dZ m c)) (fun t _ => ?_) fun i => ?_
  · rw [Value.flushed4, (outs_rows m c t).1]
    funext j
    rw [View.read_apply]
    show arr2 (a := 1024) (b := 1024) (sh (t.val * 1024) (0 * 1024) (dZ m c)) ((cfg0.win 4).xinj (grid0.coords t) j) =
      arr2 (a := 2048) (b := 1024) (dZ m c) (((cfg0.win 4).blk t).view.emb j)
    refine block_write (j := j) _ (rows t).2.2.2.1.1 (rows t).2.2.2.1.2 ?_ ?_ fun _ => ?_ <;> rfl
  · have l1 : (i 1).val < 1024 := (i 1).isLt
    have hi := (rows ⟨_, hN i⟩).2.2.2.1
    refine ⟨⟨_, hN i⟩, flush0_4 _, ?_⟩
    show i ∈ ((View.whole main_v1_0).slice (win0_4.rect ⟨_, hN i⟩)).set
    rw [View.set_slice_whole, Rect.mem_set_unit]
    exact block_cover (f := win0_4.index ⟨_, hN i⟩) hi.1 (hi.2.trans (by omega)) (by omega) (by omega)

/-- Its copy in the narrow format. -/
theorem arr_zb : (dats m 0 c).arrAt 5 cfg0.N = arr2 (α := EReal) (dZ m c) := by
  refine (dats m 0 c).arrAt_eq_of_cover 5 (arr2 (α := EReal) (dZ m c)) (fun t _ => ?_) fun i => ?_
  · rw [Value.flushed5, (outs_rows m c t).2]
    funext j
    rw [View.read_apply]
    show arr2 (a := 1024) (b := 1024) (sh (t.val * 1024) (0 * 1024) (dZ m c)) ((cfg0.win 5).xinj (grid0.coords t) j) =
      arr2 (a := 2048) (b := 1024) (dZ m c) (((cfg0.win 5).blk t).view.emb j)
    refine block_write (j := j) _ (rows t).2.2.2.2.1 (rows t).2.2.2.2.2 ?_ ?_ fun _ => ?_ <;> rfl
  · have l1 : (i 1).val < 1024 := (i 1).isLt
    have hi := (rows ⟨_, hN i⟩).2.2.2.2
    refine ⟨⟨_, hN i⟩, flush0_5 _, ?_⟩
    show i ∈ ((View.whole main_v1_1).slice (win0_5.rect ⟨_, hN i⟩)).set
    rw [View.set_slice_whole, Rect.mem_set_unit]
    exact block_cover (f := win0_5.index ⟨_, hN i⟩) hi.1 (hi.2.trans (by omega)) (by omega) (by omega)

theorem last : 1 < cfg0.N := lt_of_lt_of_eq (by decide) N_0.symm

/-- The gradient of the gain the kernel leaves. -/
theorem arr_g : (dats m 0 c).arrAt 6 cfg0.N = arr2 (α := EReal) fun _ => dG m c := by
  refine (dats m 0 c).arrAt_eq_of_cover 6 (arr2 (α := EReal) fun _ => dG m c) (fun t ht => ?_) fun i => ?_
  · have h1 := (flush0_6 t).1 ht
    rw [Value.flushed6, outs_second m c t (by omega)]
    funext j
    rw [View.read_apply]
    show arr2 (a := 1) (b := 1024) (fun _ => dG m c) ((cfg0.win 6).xinj (grid0.coords t) j) =
      arr2 (a := 1) (b := 1024) (fun _ => dG m c) (((cfg0.win 6).blk t).view.emb j)
    refine (congrFun (congrArg (arr2 (α := EReal)) (sh_zero _).symm) _).trans (block_write (j := j) _ (still t).2.1.1 (still t).2.1.2 ?_ ?_ fun _ => ?_) <;> rfl
  · have l0 : (i 0).val < 1 := (i 0).isLt
    have l1 : (i 1).val < 1024 := (i 1).isLt
    have hi := (still ⟨1, last⟩).2.1
    refine ⟨⟨1, last⟩, (flush0_6 _).2 (by dsimp only), ?_⟩
    show i ∈ ((View.whole main_v1_2).slice (win0_6.rect ⟨1, last⟩)).set
    rw [View.set_slice_whole, Rect.mem_set_unit]
    exact block_cover (f := win0_6.index ⟨1, last⟩) (hi.1.trans (by omega)) (hi.2.trans (by omega)) (by omega) (by omega)

/-- The gradient of the offset the kernel leaves. -/
theorem arr_b : (dats m 0 c).arrAt 7 cfg0.N = arr2 (α := EReal) fun _ => dB m c := by
  refine (dats m 0 c).arrAt_eq_of_cover 7 (arr2 (α := EReal) fun _ => dB m c) (fun t ht => ?_) fun i => ?_
  · have h1 := (flush0_7 t).1 ht
    rw [Value.flushed7, outs_second m c t (by omega)]
    funext j
    rw [View.read_apply]
    show arr2 (a := 1) (b := 1024) (fun _ => dB m c) ((cfg0.win 7).xinj (grid0.coords t) j) =
      arr2 (a := 1) (b := 1024) (fun _ => dB m c) (((cfg0.win 7).blk t).view.emb j)
    refine (congrFun (congrArg (arr2 (α := EReal)) (sh_zero _).symm) _).trans (block_write (j := j) _ (still t).2.2.1 (still t).2.2.2 ?_ ?_ fun _ => ?_) <;> rfl
  · have l0 : (i 0).val < 1 := (i 0).isLt
    have l1 : (i 1).val < 1024 := (i 1).isLt
    have hi := (still ⟨1, last⟩).2.2
    refine ⟨⟨1, last⟩, (flush0_7 _).2 (by dsimp only), ?_⟩
    show i ∈ ((View.whole main_v1_3).slice (win0_7.rect ⟨1, last⟩)).set
    rw [View.set_slice_whole, Rect.mem_set_unit]
    exact block_cover (f := win0_7.index ⟨1, last⟩) (hi.1.trans (by omega)) (hi.2.trans (by omega)) (by omega) (by omega)

/-- The precondition, read: the cotangent and the gain are real numbers. -/
theorem finite (h : Pre_Kernel19Ideal_finite_norm_res (hPre_finite_norm_res := Pre_finite_norm_res.Gen.facts) m) :
    IsR2 (D m c) ∧ IsR2 (R m c) ∧ ∀ k, k < 1024 → IsR (G m c 0 k) := by
  have e := congrFun (h c) (fun a => a.elim0)
  unfold Pre_finite_norm_res.fn at e
  dsimp only at e
  obtain ⟨e, h2⟩ := IntOp.andi_eq_one.1 e
  obtain ⟨h0, h1⟩ := IntOp.andi_eq_one.1 e
  haveI : Subsingleton Pre_finite_norm_res.S_.Idx := ⟨fun a b => funext fun i => i.elim0⟩
  exact ⟨isR2_get2 (isR_of_all _ _ _ _ _ _ (fun _ => ofBits_inf_f32) h0), isR2_get2 (isR_of_all _ _ _ _ _ _ (fun _ => ofBits_inf_f32) h2),
    first_row (m ((c : Thread nD τ).loc main_arg3)) _ (isR_of_all _ _ _ _ _ _ (fun _ => ofBits_inf_f32) h1)⟩

end Kernel

theorem algebraic : algebraic_Kernel19Ideal_Reference19Ideal_pre_finite_norm_res (hKernel19Ideal := Kernel19Ideal.Gen.facts)
    (hReference19Ideal := Reference19Ideal.Gen.facts) (hPre_finite_norm_res := Pre_finite_norm_res.Gen.facts) := by
  intro m g m' g' hp hargs
  refine ⟨fun c => arr2 (α := EReal) (dZ m c), fun c => arr2 (α := EReal) (dZ m c), fun c => arr2 (α := EReal) fun _ => dG m c,
    fun c => arr2 (α := EReal) fun _ => dB m c, ?_, ?_⟩
  · refine (θ_run _ _ _).mono (fun r h c => ?_) (Kernel19Ideal.Value.run_blocks m g)
    exact ⟨(h c).1.trans (arr_z m c), (h c).2.1.trans (arr_zb m c), (h c).2.2.1.trans (arr_g m c), (h c).2.2.2.1.trans (arr_b m c), (h c).2.2.2.2⟩
  · refine run_stages m' g' (fun c => D m c) (fun c => R m c) (fun c => Z m c) (fun c => G m c) (fun c => ?_) fun c => finite m c hp
    obtain ⟨b0, b1, b2, b3⟩ := hargs c
    exact ⟨b0.trans (arr2_get2 _).symm, b1.trans (arr2_get2 _).symm, b2.trans (arr2_get2 _).symm, b3.trans (arr2_get2 _).symm⟩

end Cert.Norms.LnRes
-- ==== Proof.RmsMath.lean ====
/-
  The gradients of an odd layer's two root-mean-square norms and of its key's rotation: the kernel's payloads, and the reference's.
-/
module

public import proofs.«01_k».proof.Proof.LnGradMath
public import proofs.«01_k».proof.Proof.HostOps
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Norms.Rms

open Idealize.ShloMosaic Finset Cert.Mat Cert.NormGrad
open Cert.Mlp.Fwd (rsqrt_arr2 broadcastTo_row sum_from_zero)
open Cert.Attn (ropeT)
open Cert.Norms (dg colSum_arr2 shapeCast_row row_index half_eq)

/-- The constants of the norms: the two widths, and what is added to a mean square. -/
def lenQ : EReal := Ideal.ofBits .f32 0x43C00000#32
def lenK : EReal := Ideal.ofBits .f32 0x43800000#32
def eps : EReal := Ideal.ofBits .f32 0x358637BD#32

theorem lenQ_pos : IsPos lenQ := by
  refine ⟨384, by norm_num, ?_⟩
  unfold lenQ
  simp [Ideal.ofBits, Ideal.ieee, -EReal.coe_mul]
  norm_num
theorem lenK_pos : IsPos lenK := by
  refine ⟨256, by norm_num, ?_⟩
  unfold lenK
  simp [Ideal.ofBits, Ideal.ieee, -EReal.coe_mul]
  norm_num
theorem eps_pos : IsPos eps := by
  refine ⟨8796093 * (2 ^ 43)⁻¹, by norm_num, ?_⟩
  unfold eps
  simp [Ideal.ofBits, Ideal.ieee, -EReal.coe_mul]

/-- The factor of a row of `n` entries (`l` is `n` as a number), the normed rows, and the gradient of the rows. -/
def inv (n : ℕ) (l : EReal) (Z : ℕ → ℕ → EReal) (i : ℕ) : EReal := Ideal.rsqrt (root n l eps (Z i))
def normed (n : ℕ) (l : EReal) (Z : ℕ → ℕ → EReal) : ℕ → ℕ → EReal := fun i j => Z i j * inv n l Z i
def dn (n : ℕ) (l : EReal) (D Z : ℕ → ℕ → EReal) (g : ℕ → EReal) : ℕ → ℕ → EReal :=
  fun i j => rmsGrad n l eps (Z i) (fun k => D i k * g k) j

/-- The gradient of the projection: 384 columns through one norm, 256 through the other, 64 through the rotation. -/
def dd (Z D E P C S : ℕ → ℕ → EReal) (g h : ℕ → EReal) : ℕ → ℕ → EReal :=
  hcat 384 (dn 384 lenQ D (sh 0 0 Z) g) (hcat 256 (dn 256 lenK E (sh 0 384 Z) h) (ropeT C S P))

section Kernel
open Cert.Kernel20Ideal Cert.Kernel20Ideal.Gen

variable (D Z X P C S : ℕ → ℕ → EReal) (g s : ℕ → EReal)

theorem pay4 : k0_pay4 (F := Ideal) (arr2 (α := EReal) Z) = arr2 (α := EReal) fun i _ => inv 384 lenQ Z i := by
  unfold k0_pay4
  dsimp only
  have e := fun Z => rowSum_arr2 (m := 1024) (n := 384) Z reduces_S1024x384_S1024 (.inl rfl) rfl
  rw [mulf_arr2]
  erw [e]
  rw [shapeCast_arr1, broadcast_arr2, divf_arr2, broadcast_arr2, addf_arr2, rsqrt_arr2]
  rfl

theorem pay5 : k0_pay5 (F := Ideal) (arr2 (α := EReal) Z) = arr2 (α := EReal) (normed 384 lenQ Z) := by
  unfold k0_pay5
  dsimp only
  rw [pay4, broadcastTo_arr2, mulf_arr2]
  rfl

theorem pay6 : k0_pay6 (F := Ideal) (arr2 (α := EReal) Z) (arr2 (α := EReal) D) (arr3 (α := EReal) fun _ _ => g)
    = arr2 (α := EReal) (dn 384 lenQ D Z g) := by
  unfold k0_pay6
  dsimp only
  have e := fun Z => rowSum_arr2 (m := 1024) (n := 384) Z reduces_S1024x384_S1024 (.inl rfl) rfl
  rw [pay4, pay5, shapeCast_arr3, broadcastTo_row _ (by decide), mulf_arr2, mulf_arr2]
  erw [e]
  rw [shapeCast_arr1, broadcast_arr2, divf_arr2, broadcastTo_arr2, broadcastTo_arr2, mulf_arr2, subf_arr2, mulf_arr2]
  rfl

theorem pay9 : k0_pay9 (F := Ideal) (arr2 (α := EReal) Z) = arr2 (α := EReal) fun i _ => inv 256 lenK Z i := by
  unfold k0_pay9
  dsimp only
  have e := fun Z => rowSum_arr2 (m := 1024) (n := 256) Z reduces_S1024x256_S1024 (.inl rfl) rfl
  rw [mulf_arr2]
  erw [e]
  rw [shapeCast_arr1, broadcast_arr2, divf_arr2, broadcast_arr2, addf_arr2, rsqrt_arr2]
  rfl

theorem pay10 : k0_pay10 (F := Ideal) (arr2 (α := EReal) Z) = arr2 (α := EReal) (normed 256 lenK Z) := by
  unfold k0_pay10
  dsimp only
  rw [pay9, broadcastTo_arr2, mulf_arr2]
  rfl

theorem pay14 : k0_pay14 (F := Ideal) (arr2 (α := EReal) Z) (arr2 (α := EReal) D) (arr2 (α := EReal) fun _ => g)
    = arr2 (α := EReal) (dn 256 lenK D Z g) := by
  unfold k0_pay14
  dsimp only
  have e := fun Z => rowSum_arr2 (m := 1024) (n := 256) Z reduces_S1024x256_S1024 (.inl rfl) rfl
  rw [pay9, pay10, broadcastTo_row _ (by decide), mulf_arr2, mulf_arr2]
  erw [e]
  rw [shapeCast_arr1, broadcast_arr2, divf_arr2, broadcastTo_arr2, broadcastTo_arr2, mulf_arr2, subf_arr2, mulf_arr2]
  rfl

theorem pay7 : k0_pay7 (F := Ideal) (arr2 (α := EReal) Z) (arr2 (α := EReal) D) = arr2 (α := EReal) fun _ => dg 1024 D (normed 384 lenQ Z) := by
  unfold k0_pay7
  dsimp only
  have e := fun Z => colSum_arr2 (m := 1024) (n := 384) Z reduces_S1024x384_S384 (.inl rfl) rfl
  rw [pay5, mulf_arr2]
  erw [e]
  rw [shapeCast_row]
  rfl

theorem pay8 : k0_pay8 (F := Ideal) (arr3 (α := EReal) fun _ _ => g) = arr2 (α := EReal) fun _ => g := by
  unfold k0_pay8
  dsimp only
  rw [shapeCast_arr3]

theorem pay11 : k0_pay11 (F := Ideal) (arr2 (α := EReal) fun _ => g) (arr2 (α := EReal) fun _ => s) = arr2 (α := EReal) fun _ j => s j + g j := by
  unfold k0_pay11
  dsimp only
  rw [shapeCast_arr2, addf_arr2]

theorem pay12 : k0_pay12 (F := Ideal) (arr2 (α := EReal) Z) (arr2 (α := EReal) D) (arr2 (α := EReal) fun _ => s)
    = arr2 (α := EReal) fun _ j => s j + dg 1024 D (normed 256 lenK Z) j := by
  unfold k0_pay12
  dsimp only
  have e := fun Z => colSum_arr2 (m := 1024) (n := 256) Z reduces_S1024x256_S256 (.inl rfl) rfl
  rw [pay10, mulf_arr2]
  erw [e]
  rw [shapeCast_row, shapeCast_arr2, addf_arr2]
  rfl

theorem pay1 : k0_pay1 (F := Ideal) (arr2 (α := EReal) P) (arr2 (α := EReal) C) (arr2 (α := EReal) S) = arr2 (α := EReal) (ropeT C S P) := by
  unfold k0_pay1
  dsimp only
  rw [concatenate_eq_cat2]
  simp only [slice_arr2, sh_zero, mulf_arr2, subf_arr2, addf_arr2, cat2_arr2, truncf_arr2]
  simp only [ropeT, sh, Nat.zero_add]

theorem pay2 : k0_pay2 (F := Ideal) = arr2 (α := EReal) fun _ _ => 0 := by
  unfold k0_pay2
  dsimp only
  rw [broadcast_arr2, show Scalar.ofBits (F := Ideal) .f32 0x00000000#32 = (0 : EReal) from Ideal.ofBits_zero_f32]

theorem pay3 : k0_pay3 (F := Ideal) = arr2 (α := EReal) fun _ _ => 0 := by
  unfold k0_pay3
  dsimp only
  rw [broadcast_arr2, show Scalar.ofBits (F := Ideal) .f32 0x00000000#32 = (0 : EReal) from Ideal.ofBits_zero_f32]

end Kernel

/-- An array set between columns of zeros. -/
theorem pad_cols {m q k l r : ℕ} (A : ℕ → ℕ → EReal) {u : Shape} (z : u.Idx → EReal) (hz : ∀ i, z i = 0) (h hu)
    (j : (⟨2, ![m, k]⟩ : Shape).Idx) :
    pad (⟨2, ![m, k]⟩ : Shape) ![0, l] ![0, r] ![0, 0] (arr2 (a := m) (b := q) A) z h hu j
      = if l ≤ (j 1).val ∧ (j 1).val < l + q then A (j 0).val ((j 1).val - l) else 0 := by
  split
  · rename_i hj
    rw [pad_apply_of_inside _ _ _ _ _ h hu j (ValueIdx.ix2 (j 0) ⟨(j 1).val - l, by omega⟩) (fun a => by
      match a with
      | ⟨0, _⟩ => show (j 0).val = 0 + (j 0).val * (0 + 1); omega
      | ⟨1, _⟩ => show (j 1).val = l + ((j 1).val - l) * (0 + 1); omega)]
    rfl
  · rename_i hj
    rw [pad_apply_of_not_inside _ _ _ _ _ h hu j 1 (fun hc => by
      have h0 : l ≤ (j 1).val := hc.1
      have h2 : ((j 1).val - l) / (0 + 1) < q := hc.2.2
      rw [Nat.zero_add, Nat.div_one] at h2
      omega), hz]

section Reference
open Cert.Reference20Ideal Cert.Reference20Ideal.Read

variable (Z D E P C S G H : ℕ → ℕ → EReal)

abbrev A0 : FVec Ideal S2048x704 .f32 := arr2 (α := EReal) Z
abbrev A1 : FVec Ideal S2048x384 .f32 := arr2 (α := EReal) D
abbrev A2 : FVec Ideal S2048x256 .f32 := arr2 (α := EReal) E
abbrev A3 : FVec Ideal S2048x64 .f32 := arr2 (α := EReal) P
abbrev A4 : FVec Ideal S2048x32 .f32 := arr2 (α := EReal) C
abbrev A5 : FVec Ideal S2048x32 .f32 := arr2 (α := EReal) S
abbrev A6 : FVec Ideal S2x384 .f32 := arr2 (α := EReal) G
abbrev A7 : FVec Ideal S2x256 .f32 := arr2 (α := EReal) H

/-! ### The first norm -/

theorem v4_arr : val_main_v4 (F := Ideal) (A0 Z) = arr2 (α := EReal) (sh 0 0 Z) := rfl

theorem v13_arr (i) : val_main_v13 (F := Ideal) (A0 Z) i = root 384 lenQ eps ((sh 0 0 Z) (i 0).val) := by
  rw [val_main_v13_apply, val_main_v12_apply, val_main_cst_2_apply, val_main_v11_apply, val_main_v10_apply, val_main_cst_1_apply, val_main_v9_apply,
    val_main_v8_apply, val_main_cst_0_apply]
  have e : val_main_v5 (F := Ideal) (A0 Z) = arr2 (α := EReal) fun i j => (sh 0 0 Z) i j * (sh 0 0 Z) i j := rfl
  rw [e]
  exact congrArg (fun x : EReal => Ideal.div x lenQ + eps) (sum_from_zero (fun k => (sh 0 0 Z) (i 0).val k * (sh 0 0 Z) (i 0).val k) 384)

theorem v14_arr (i) : val_main_v14 (F := Ideal) (A0 Z) i = inv 384 lenQ (sh 0 0 Z) (i 0).val := by
  rw [val_main_v14_apply, v13_arr]
  rfl

theorem v19_arr : val_main_v19 (F := Ideal) (A0 Z) = arr2 (α := EReal) (normed 384 lenQ (sh 0 0 Z)) := by
  funext i
  rw [val_main_v19_apply, v4_arr, val_main_v18_apply, v14_arr]
  rfl

theorem v89_arr : val_main_v89 (F := Ideal) (A1 D) (A6 G) = arr2 (α := EReal) fun i j => D i j * G 0 j := by
  funext i
  rw [val_main_v89_apply, val_main_v88_apply, val_main_v20_apply, val_main_v1_apply, val_main_v0_apply]
  show D _ _ * G 0 ((i 1).val % 384) = _
  rw [Nat.mod_eq_of_lt (show (i 1).val < 384 from (i 1).isLt)]
  rfl

theorem v93_arr (i) : val_main_v93 (F := Ideal) (A0 Z) (A1 D) (A6 G) i
    = ∑ k ∈ range 384, (sh 0 0 Z) (i 0).val k * (D (i 0).val k * G 0 k) := by
  rw [val_main_v93_apply, val_main_v92_apply, val_main_cst_20_apply]
  have e : val_main_v91 (F := Ideal) (A0 Z) (A1 D) (A6 G) = arr2 (α := EReal) fun i j => (sh 0 0 Z) i j * (D i j * G 0 j) := by
    unfold val_main_v91
    rw [v4_arr, v89_arr]
    rfl
  rw [e]
  refine (sum_from_zero (fun k => (sh 0 0 Z) ((i 0).val * 1 + (i 1).val) k * (D ((i 0).val * 1 + (i 1).val) k * G 0 k)) 384).trans ?_
  rw [row_index]

theorem v100_arr (i) : val_main_v100 (F := Ideal) (A0 Z) (A1 D) (A6 G) i
    = spread 384 lenQ eps (Ideal.ofBits .f32 0xBF000000#32) ((sh 0 0 Z) (i 0).val) (fun k => D (i 0).val k * G 0 k) := by
  rw [val_main_v100_apply, val_main_v99_apply, val_main_cst_22_apply, Fin.sum_univ_one, val_main_v98_apply, val_main_v97_apply, val_main_cst_21_apply,
    val_main_v96_apply, val_main_v17_apply, val_main_v16_apply, val_main_cst_3_apply, val_main_v15_apply, v14_arr, v13_arr, v93_arr]
  exact (congrArg (· + _) Ideal.ofBits_zero_f32).trans (zero_add _)

/-- The reference's gradient of the rows is the kernel's. -/
theorem v102_arr : val_main_v102 (F := Ideal) (A0 Z) (A1 D) (A6 G) = arr2 (α := EReal) (dn 384 lenQ D (sh 0 0 Z) (G 0)) := by
  funext i
  rw [val_main_v102_apply, val_main_v95_apply, v89_arr, val_main_v94_apply, v14_arr, val_main_v101_apply, v100_arr, val_main_v7_apply,
    v4_arr, val_main_v6_apply, val_main_cst_apply, Mlp.Bwd.ofBits_two]
  exact rms_eq 384 lenQ_pos eps_pos half_eq ((sh 0 0 Z) (i 0).val) (fun k => D (i 0).val k * G 0 k) (i 1).val

/-- The gradient of the gain. -/
theorem v106_arr : val_main_v106 (F := Ideal) (A0 Z) (A1 D) = arr2 (α := EReal) fun _ => dg 2048 D (normed 384 lenQ (sh 0 0 Z)) := by
  funext i
  rw [val_main_v106_apply, val_main_v90_apply, val_main_cst_19_apply, Fin.sum_univ_one, val_main_v87_apply, val_main_v86_apply, val_main_cst_18_apply]
  have e : val_main_v85 (F := Ideal) (A0 Z) (A1 D) = arr2 (α := EReal) fun i j => D i j * normed 384 lenQ (sh 0 0 Z) i j := by
    unfold val_main_v85
    rw [v19_arr]
    funext i
    exact mul_comm _ _
  rw [e]
  refine ((congrArg (· + _) Ideal.ofBits_zero_f32).trans (zero_add _)).trans ?_
  refine (sum_from_zero (fun k => D k (0 * 384 + (i 1).val) * normed 384 lenQ (sh 0 0 Z) k (0 * 384 + (i 1).val)) 2048).trans ?_
  rw [Nat.zero_mul, Nat.zero_add]
  rfl

/-! ### The second -/

theorem v23_arr : val_main_v23 (F := Ideal) (A0 Z) = arr2 (α := EReal) (sh 0 384 Z) := rfl

theorem v32_arr (i) : val_main_v32 (F := Ideal) (A0 Z) i = root 256 lenK eps ((sh 0 384 Z) (i 0).val) := by
  rw [val_main_v32_apply, val_main_v31_apply, val_main_cst_7_apply, val_main_v30_apply, val_main_v29_apply, val_main_cst_6_apply, val_main_v28_apply,
    val_main_v27_apply, val_main_cst_5_apply]
  have e : val_main_v24 (F := Ideal) (A0 Z) = arr2 (α := EReal) fun i j => (sh 0 384 Z) i j * (sh 0 384 Z) i j := rfl
  rw [e]
  exact congrArg (fun x : EReal => Ideal.div x lenK + eps) (sum_from_zero (fun k => (sh 0 384 Z) (i 0).val k * (sh 0 384 Z) (i 0).val k) 256)

theorem v33_arr (i) : val_main_v33 (F := Ideal) (A0 Z) i = inv 256 lenK (sh 0 384 Z) (i 0).val := by
  rw [val_main_v33_apply, v32_arr]
  rfl

theorem v38_arr : val_main_v38 (F := Ideal) (A0 Z) = arr2 (α := EReal) (normed 256 lenK (sh 0 384 Z)) := by
  funext i
  rw [val_main_v38_apply, v23_arr, val_main_v37_apply, v33_arr]
  rfl

theorem v69_arr : val_main_v69 (F := Ideal) (A2 E) (A7 H) = arr2 (α := EReal) fun i j => E i j * H 0 j := by
  funext i
  rw [val_main_v69_apply, val_main_v68_apply, val_main_v39_apply, val_main_v3_apply, val_main_v2_apply]
  show E _ _ * H 0 ((i 1).val % 256) = _
  rw [Nat.mod_eq_of_lt (show (i 1).val < 256 from (i 1).isLt)]
  rfl

theorem v73_arr (i) : val_main_v73 (F := Ideal) (A0 Z) (A2 E) (A7 H) i
    = ∑ k ∈ range 256, (sh 0 384 Z) (i 0).val k * (E (i 0).val k * H 0 k) := by
  rw [val_main_v73_apply, val_main_v72_apply, val_main_cst_14_apply]
  have e : val_main_v71 (F := Ideal) (A0 Z) (A2 E) (A7 H) = arr2 (α := EReal) fun i j => (sh 0 384 Z) i j * (E i j * H 0 j) := by
    unfold val_main_v71
    rw [v23_arr, v69_arr]
    rfl
  rw [e]
  refine (sum_from_zero (fun k => (sh 0 384 Z) ((i 0).val * 1 + (i 1).val) k * (E ((i 0).val * 1 + (i 1).val) k * H 0 k)) 256).trans ?_
  rw [row_index]

theorem v80_arr (i) : val_main_v80 (F := Ideal) (A0 Z) (A2 E) (A7 H) i
    = spread 256 lenK eps (Ideal.ofBits .f32 0xBF000000#32) ((sh 0 384 Z) (i 0).val) (fun k => E (i 0).val k * H 0 k) := by
  rw [val_main_v80_apply, val_main_v79_apply, val_main_cst_16_apply, Fin.sum_univ_one, val_main_v78_apply, val_main_v77_apply, val_main_cst_15_apply,
    val_main_v76_apply, val_main_v36_apply, val_main_v35_apply, val_main_cst_8_apply, val_main_v34_apply, v33_arr, v32_arr, v73_arr]
  exact (congrArg (· + _) Ideal.ofBits_zero_f32).trans (zero_add _)

/-- The reference's gradient of the rows is the kernel's. -/
theorem v82_arr : val_main_v82 (F := Ideal) (A0 Z) (A2 E) (A7 H) = arr2 (α := EReal) (dn 256 lenK E (sh 0 384 Z) (H 0)) := by
  funext i
  rw [val_main_v82_apply, val_main_v75_apply, v69_arr, val_main_v74_apply, v33_arr, val_main_v81_apply, v80_arr, val_main_v26_apply,
    v23_arr, val_main_v25_apply, val_main_cst_4_apply, Mlp.Bwd.ofBits_two]
  exact rms_eq 256 lenK_pos eps_pos half_eq ((sh 0 384 Z) (i 0).val) (fun k => E (i 0).val k * H 0 k) (i 1).val

/-- The gradient of the gain. -/
theorem v107_arr : val_main_v107 (F := Ideal) (A0 Z) (A2 E) = arr2 (α := EReal) fun _ => dg 2048 E (normed 256 lenK (sh 0 384 Z)) := by
  funext i
  rw [val_main_v107_apply, val_main_v70_apply, val_main_cst_13_apply, Fin.sum_univ_one, val_main_v67_apply, val_main_v66_apply, val_main_cst_12_apply]
  have e : val_main_v65 (F := Ideal) (A0 Z) (A2 E) = arr2 (α := EReal) fun i j => E i j * normed 256 lenK (sh 0 384 Z) i j := by
    unfold val_main_v65
    rw [v38_arr]
    funext i
    exact mul_comm _ _
  rw [e]
  refine ((congrArg (· + _) Ideal.ofBits_zero_f32).trans (zero_add _)).trans ?_
  refine (sum_from_zero (fun k => E k (0 * 256 + (i 1).val) * normed 256 lenK (sh 0 384 Z) k (0 * 256 + (i 1).val)) 2048).trans ?_
  rw [Nat.zero_mul, Nat.zero_add]
  rfl

/-! ### The rotation, and the three side by side -/

theorem v52_arr : val_main_v52 (F := Ideal) (A3 P) = arr2 (α := EReal) (sh 0 0 P) := rfl
theorem v53_arr : val_main_v53 (F := Ideal) (A3 P) = arr2 (α := EReal) (sh 0 32 P) := rfl

theorem v58_arr : val_main_v58 (F := Ideal) (A3 P) (A4 C) (A5 S) = arr2 (α := EReal) fun i j => P i (32 + j) * C i j - P i j * S i j := by
  unfold val_main_v58 val_main_v54 val_main_v57 val_main_v56
  rw [v52_arr, v53_arr, sh_zero]
  funext i
  show sh 0 32 P (i 0).val (i 1).val * C (i 0).val (i 1).val + -P (i 0).val (i 1).val * S (i 0).val (i 1).val = _
  rw [EReal.neg_mul, ← sub_eq_add_neg, sh, Nat.zero_add]
  rfl

theorem v60_arr : val_main_v60 (F := Ideal) (A3 P) (A4 C) (A5 S) = arr2 (α := EReal) fun i j => P i j * C i j + P i (32 + j) * S i j := by
  unfold val_main_v60 val_main_v55 val_main_v59
  rw [v52_arr, v53_arr, sh_zero]
  funext i
  show sh 0 32 P (i 0).val (i 1).val * S (i 0).val (i 1).val + P (i 0).val (i 1).val * C (i 0).val (i 1).val = _
  rw [add_comm, sh, Nat.zero_add]
  rfl

theorem v63_arr : val_main_v63 (F := Ideal) (A3 P) (A4 C) (A5 S) = arr2 (α := EReal) (ropeT C S P) := by
  unfold val_main_v63 val_main_v61 val_main_v62
  rw [v58_arr, v60_arr]
  funext i
  have l1 : (i 1).val < 64 := (i 1).isLt
  refine (congrArg₂ (fun x y : EReal => x + y) (pad_cols _ _ (fun _ => Ideal.ofBits_zero_f32) _ _ i)
    (pad_cols _ _ (fun _ => Ideal.ofBits_zero_f32) _ _ i)).trans ?_
  show _ = ropeT C S P (i 0).val (i 1).val
  unfold ropeT hcat
  by_cases hj : (i 1).val < 32
  · rw [if_neg (by omega), if_pos (by omega), if_pos hj, zero_add, Nat.sub_zero]
  · rw [if_pos (by omega), if_neg (by omega), if_neg hj, add_zero]

theorem v104_arr : val_main_v104 (F := Ideal) (A0 Z) (A1 D) (A2 E) (A3 P) (A4 C) (A5 S) (A6 G) (A7 H)
    = arr2 (α := EReal) (dd Z D E P C S (G 0) (H 0)) := by
  unfold val_main_v104 val_main_v84 val_main_v64 val_main_v83 val_main_v103
  rw [v63_arr, v82_arr, v102_arr]
  funext i
  have l1 : (i 1).val < 704 := (i 1).isLt
  refine (congrArg₂ (fun x y : EReal => x + y) (congrArg₂ (fun x y : EReal => x + y) (pad_cols _ _ (fun _ => Ideal.ofBits_zero_f32) _ _ i)
    (pad_cols _ _ (fun _ => Ideal.ofBits_zero_f32) _ _ i)) (pad_cols _ _ (fun _ => Ideal.ofBits_zero_f32) _ _ i)).trans ?_
  show _ = dd Z D E P C S (G 0) (H 0) (i 0).val (i 1).val
  unfold dd hcat
  by_cases hj : (i 1).val < 384
  · rw [if_neg (by omega), if_neg (by omega), if_pos (by omega), if_pos hj, add_zero, zero_add, Nat.sub_zero]
  · by_cases hk : (i 1).val - 384 < 256
    · rw [if_neg (by omega), if_pos (by omega), if_neg (by omega), if_neg hj, if_pos hk, zero_add, add_zero]
    · rw [if_pos (by omega), if_neg (by omega), if_neg (by omega), if_neg hj, if_neg hk, add_zero, add_zero, Nat.sub_sub]

end Reference

end Cert.Norms.Rms
-- ==== Proof.RmsOuts.lean ====
/-
  What one grid point of the gradient of the root-mean-square norms leaves in its blocks, on arrays given by functions.
-/
module

public import proofs.«01_k».proof.Proof.RmsMath
public import proofs.«01_k».proof.Proof.LnGradOuts

@[expose] public section

set_option maxRecDepth 16384

noncomputable section

namespace Cert.Norms.Rms

open Idealize.ShloMosaic Finset Cert.Mat Cert.Kernel20Ideal Cert.Kernel20Ideal.Gen
open Cert.Attn (ropeT)
open Cert.Norms (dg)

variable (Z D E P C S : ℕ → ℕ → EReal) (g h s t : ℕ → EReal)
variable (c : Dev nD) (i : grid0.Coords) (arg1 : Memref sig .tc .vmem S1024x704 .f32) (harg1 : arg1.IsWhole)
  (arg2 : Memref sig .tc .vmem S1024x384 .f32) (harg2 : arg2.IsWhole) (arg3 : Memref sig .tc .vmem S1024x256 .f32) (harg3 : arg3.IsWhole)
  (arg4 : Memref sig .tc .vmem S1024x64 .f32) (harg4 : arg4.IsWhole) (arg5 : Memref sig .tc .vmem S1024x32 .f32) (harg5 : arg5.IsWhole)
  (arg6 : Memref sig .tc .vmem S1024x32 .f32) (harg6 : arg6.IsWhole) (arg7 : Memref sig .tc .vmem S1x1x384 .f32) (harg7 : arg7.IsWhole)
  (arg8 : Memref sig .tc .vmem S1x1x256 .f32) (harg8 : arg8.IsWhole) (arg9 : Memref sig .tc .vmem S1024x704 .bf16) (harg9 : arg9.IsWhole)
  (arg10 : Memref sig .tc .vmem S1x384 .f32) (harg10 : arg10.IsWhole) (arg11 : Memref sig .tc .vmem S1x256 .f32) (harg11 : arg11.IsWhole)

theorem plane_of {n : ℕ} (g : ℕ → EReal) : (arr3 (α := EReal) (a := 1) (b := 1) (c := n) fun x => sh 0 0 fun _ => g)
    = arr3 (α := EReal) fun _ _ => g := by
  simp only [sh_zero]

/-- What a point computes from its blocks: the first norm's gradient, the gain's, the second's operands, and the rotation's. -/
theorem q_val : k0_pay13 (F := Ideal) (kernelRun0_A.sl.r (F := Ideal) c arg1 harg1 arg2 harg2 arg7 harg7 (arr2 (α := EReal) Z) (arr2 (α := EReal) D)
    (arr3 (α := EReal) fun _ _ => g)) = arr2 (α := EReal) (dn 384 lenQ D (sh 0 0 Z) g) := by
  unfold kernelRun0_A.sl.r
  erw [readAt_arr2, readAt_arr2, readAt_arr3]
  rw [sh_zero D, plane_of, pay6]
  rfl

theorem gain_val : kernelRun0_A.sl.r_1 (F := Ideal) c arg1 harg1 arg2 harg2 (arr2 (α := EReal) Z) (arr2 (α := EReal) D)
    = arr2 (α := EReal) fun _ => dg 1024 D (normed 384 lenQ (sh 0 0 Z)) := by
  unfold kernelRun0_A.sl.r_1
  erw [readAt_arr2, readAt_arr2]
  rw [sh_zero D, pay7]

theorem k_val : kernelRun0_A.sl.r_2 (F := Ideal) c arg1 harg1 (arr2 (α := EReal) Z) = arr2 (α := EReal) (sh 0 384 Z) := by
  unfold kernelRun0_A.sl.r_2
  erw [readAt_arr2]

theorem dk_val : kernelRun0_A.sl.r_3 (F := Ideal) c arg3 harg3 (arr2 (α := EReal) E) = arr2 (α := EReal) E := by
  unfold kernelRun0_A.sl.r_3
  erw [readAt_arr2]
  rw [sh_zero]

theorem h_val : kernelRun0_A.sl.r_4 (F := Ideal) c arg8 harg8 (arr3 (α := EReal) fun _ _ => h) = arr2 (α := EReal) fun _ => h := by
  unfold kernelRun0_A.sl.r_4
  erw [readAt_arr3]
  rw [plane_of, pay8]

theorem rope_val : k0_pay1 (F := Ideal)
    (View.readAt (Elt Ideal) arg4.view (Rect.unit (s := S1024x64) ![0, 0] S1024x64.size inb_S1024x64_S1024x64_0_0).toLoadRect (harg4.unread (arr2 (α := EReal) P)))
    (View.readAt (Elt Ideal) arg5.view (Rect.unit (s := S1024x32) ![0, 0] S1024x32.size inb_S1024x32_S1024x32_0_0).toLoadRect (harg5.unread (arr2 (α := EReal) C)))
    (View.readAt (Elt Ideal) arg6.view (Rect.unit (s := S1024x32) ![0, 0] S1024x32.size inb_S1024x32_S1024x32_0_0).toLoadRect (harg6.unread (arr2 (α := EReal) S)))
    = arr2 (α := EReal) (ropeT C S P) := by
  erw [readAt_arr2, readAt_arr2, readAt_arr2]
  rw [sh_zero, sh_zero, sh_zero, pay1]

theorem r_B : @kernelRun0_B.sl.r = @kernelRun0_A.sl.r := rfl
theorem r_1_B : @kernelRun0_B.sl.r_1 = @kernelRun0_A.sl.r_1 := rfl
theorem r_2_B : @kernelRun0_B.sl.r_2 = @kernelRun0_A.sl.r_2 := rfl
theorem r_3_B : @kernelRun0_B.sl.r_3 = @kernelRun0_A.sl.r_3 := rfl
theorem r_4_B : @kernelRun0_B.sl.r_4 = @kernelRun0_A.sl.r_4 := rfl

/-- Three stores side by side leave the three arrays side by side. -/
theorem three_stores (A B X : ℕ → ℕ → EReal) (ia ib ix) :
    View.canon ((⟨Rect.unit ![0, 640] ![1024, 64] ix, arr2 (a := 1024) (b := 64) X⟩ : View.Piece (Elt Ideal) ⟨2, ![1024, 704]⟩ .bf16) ::
      (⟨Rect.unit ![0, 384] ![1024, 256] ib, arr2 (a := 1024) (b := 256) B⟩ : View.Piece (Elt Ideal) ⟨2, ![1024, 704]⟩ .bf16) ::
      (⟨Rect.unit ![0, 0] ![1024, 384] ia, arr2 (a := 1024) (b := 384) A⟩ : View.Piece (Elt Ideal) ⟨2, ![1024, 704]⟩ .bf16) :: [])
      = arr2 (a := 1024) (b := 704) (hcat 384 A (hcat 256 B X)) := by
  funext y
  have l0 : (y 0).val < 1024 := (y 0).isLt
  have l1 : (y 1).val < 704 := (y 1).isLt
  erw [canon_cons_arr2, canon_cons_arr2, canon_cons_arr2]
  show _ = hcat 384 A (hcat 256 B X) (y 0).val (y 1).val
  unfold hcat
  by_cases hj : (y 1).val < 384
  · rw [if_neg (by omega), if_neg (by omega), if_pos (by omega), if_pos hj, Nat.sub_zero, Nat.sub_zero]
  · by_cases hk : (y 1).val - 384 < 256
    · rw [if_neg (by omega), if_pos (by omega), if_neg hj, if_pos hk, Nat.sub_zero]
    · rw [if_pos (by omega), if_neg hj, if_neg hk, Nat.sub_zero, Nat.sub_sub]

section A
variable (hc0 : cond0_0 i)

theorem v61_A : kernelRun0_A.sl.v61 (F := Ideal) c arg10 = arr2 (α := EReal) fun _ _ => 0 := by
  unfold kernelRun0_A.sl.v61 kernelRun0_A.sl.H9_1
  rw [pay2]
  exact (Holds.whole _ _).read _ _

theorem v65_A : kernelRun0_A.sl.v65 (F := Ideal) c arg11 = arr2 (α := EReal) fun _ _ => 0 := by
  unfold kernelRun0_A.sl.v65 kernelRun0_A.sl.H10_1
  rw [pay3]
  exact (Holds.whole _ _).read _ _

theorem out8_A : out0_A_8 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h) = arr2 (α := EReal) (dd Z D E P C S g h) := by
  rw [out0_A_8, View.read_writes_eq_canon _ _ _ (fun y => cover0_A_8 (y := y) ..)]
  unfold kernelRun0_A
  dsimp only
  rw [q_val, k_val, dk_val, h_val, pay14, rope_val]
  exact three_stores _ _ _ _ _ _

theorem out9_A : out0_A_9 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h) = arr2 (α := EReal) fun _ j => 0 + dg 1024 D (normed 384 lenQ (sh 0 0 Z)) j := by
  rw [out0_A_9, View.read_writes_eq_canon _ _ _ (fun y => cover0_A_9 (y := y) ..)]
  unfold kernelRun0_A
  dsimp only
  rw [gain_val, v61_A]
  erw [pay11 (dg 1024 D (normed 384 lenQ (sh 0 0 Z))) fun _ => 0]
  exact View.canon_cons_unit_zero (by decide) _ _ _

theorem out10_A : out0_A_10 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h) = arr2 (α := EReal) fun _ j => 0 + dg 1024 E (normed 256 lenK (sh 0 384 Z)) j := by
  rw [out0_A_10, View.read_writes_eq_canon _ _ _ (fun y => cover0_A_10 (y := y) ..)]
  unfold kernelRun0_A
  dsimp only
  rw [k_val, dk_val, v65_A]
  erw [pay12 E (sh 0 384 Z) fun _ => 0]
  exact View.canon_cons_unit_zero (by decide) _ _ _

end A

section B
variable (hc0 : ¬cond0_0 i)

theorem out8_B : out0_B_8 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h)
    (arr2 (α := EReal) fun _ => s) (arr2 (α := EReal) fun _ => t) = arr2 (α := EReal) (dd Z D E P C S g h) := by
  rw [out0_B_8, View.read_writes_eq_canon _ _ _ (fun y => cover0_B_8 (y := y) ..)]
  unfold kernelRun0_B
  dsimp only
  rw [r_B, r_2_B, r_3_B, r_4_B, q_val, k_val, dk_val, h_val, pay14, rope_val]
  exact three_stores _ _ _ _ _ _

theorem out9_B : out0_B_9 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h)
    (arr2 (α := EReal) fun _ => s) (arr2 (α := EReal) fun _ => t) = arr2 (α := EReal) fun _ j => s j + dg 1024 D (normed 384 lenQ (sh 0 0 Z)) j := by
  rw [out0_B_9, View.read_writes_eq_canon _ _ _ (fun y => cover0_B_9 (y := y) ..)]
  unfold kernelRun0_B
  dsimp only
  rw [r_1_B, gain_val]
  erw [readAt_arr2]
  rw [sh_zero fun _ => s, pay11]
  exact View.canon_cons_unit_zero (by decide) _ _ _

theorem out10_B : out0_B_10 (F := Ideal) c i arg1 harg1 arg2 harg2 arg3 harg3 arg4 harg4 arg5 harg5 arg6 harg6 arg7 harg7 arg8 harg8 arg9 harg9 arg10 harg10 arg11 harg11 hc0
    (arr2 (α := EReal) Z) (arr2 (α := EReal) D) (arr2 (α := EReal) E) (arr2 (α := EReal) P) (arr2 (α := EReal) C) (arr2 (α := EReal) S)
    (arr3 (α := EReal) fun _ _ => g) (arr3 (α := EReal) fun _ _ => h)
    (arr2 (α := EReal) fun _ => s) (arr2 (α := EReal) fun _ => t) = arr2 (α := EReal) fun _ j => t j + dg 1024 E (normed 256 lenK (sh 0 384 Z)) j := by
  rw [out0_B_10, View.read_writes_eq_canon _ _ _ (fun y => cover0_B_10 (y := y) ..)]
  unfold kernelRun0_B
  dsimp only
  rw [r_2_B, r_3_B, k_val, dk_val]
  erw [readAt_arr2]
  rw [sh_zero fun _ => t, pay12]
  exact View.canon_cons_unit_zero (by decide) _ _ _

end B

end Cert.Norms.Rms
-- ==== Proof.RmsGrad.lean ====
/-
  The gradients of an odd layer's two root-mean-square norms and of its key's rotation: the kernel's results are the reference's.
-/
module

public import proofs.«01_k».proof.Defs
public import proofs.«01_k».proof.Proof.DownNorm
public import proofs.«01_k».proof.Proof.RmsOuts
public import Idealize.ShloMosaic.Lib.Claim

@[expose] public section

set_option maxRecDepth 16384

noncomputable section

namespace Cert.Norms.Rms

open Idealize.ShloMosaic Idealize.ShloMosaic.TcCoe Idealize.SL.Sem Finset Cert.Mat Cert.Mlp
open Cert.Attn (ropeT)
open Cert.Norms (dg dg_blocks)
open Cert.Odd.Down (cast_rows)

section Reference
open Cert.Reference20Ideal Cert.Reference20Ideal.Read

variable (m : (ℓ : Loc nD τ sig) → Buf (Elt Ideal) ℓ)

/-- The reference's run, its results as functions of its arguments. -/
theorem run_stages (ρ : Dev nD → PrngReg) (Z D E P C S G H : Dev nD → ℕ → ℕ → EReal)
    (ha : ∀ c : Dev nD, m ((c : Thread nD τ).loc main_arg0) = A0 (Z c) ∧ m ((c : Thread nD τ).loc main_arg1) = A1 (D c)
      ∧ m ((c : Thread nD τ).loc main_arg2) = A2 (E c) ∧ m ((c : Thread nD τ).loc main_arg3) = A3 (P c)
      ∧ m ((c : Thread nD τ).loc main_arg4) = A4 (C c) ∧ m ((c : Thread nD τ).loc main_arg5) = A5 (S c)
      ∧ m ((c : Thread nD τ).loc main_arg6) = A6 (G c) ∧ m ((c : Thread nD τ).loc main_arg7) = A7 (H c)) :
    θ_run defs (onTc (τ := τ) (main (F := Ideal))) ⟨m, fun _ => 0, ρ⟩ fun r => ∀ c : Dev nD,
      r.2.mem ((c : Thread nD τ).loc main_v105) = arr2 (α := EReal) (dd (Z c) (D c) (E c) (P c) (C c) (S c) (G c 0) (H c 0))
      ∧ r.2.mem ((c : Thread nD τ).loc main_v106) = arr2 (α := EReal) (fun _ => dg 2048 (D c) (normed 384 lenQ (sh 0 0 (Z c))))
      ∧ r.2.mem ((c : Thread nD τ).loc main_v107) = arr2 (α := EReal) (fun _ => dg 2048 (E c) (normed 256 lenK (sh 0 384 (Z c))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Reference20Ideal.Value.run (F := Ideal) m ρ)
  obtain ⟨h0, h1, h2, hk⟩ := h c
  obtain ⟨a0, a1, a2, a3, a4, a5, a6, a7⟩ := ha c
  refine ⟨(h0.trans (val_main_v105_eq _ _)).trans ?_, (h1.trans (val_main_v106_eq _ _)).trans ?_,
    (h2.trans (val_main_v107_eq _ _)).trans ?_, hk⟩
  · rw [a0, a1, a2, a3, a4, a5, a6, a7]
    exact Eq.trans rfl (v104_arr (Z c) (D c) (E c) (P c) (C c) (S c) (G c) (H c))
  · rw [a0, a1]
    exact v106_arr (Z c) (D c)
  · rw [a0, a2]
    exact v107_arr (Z c) (E c)

theorem frame : Cert.quiescent_Reference20Ideal (hReference20Ideal := Cert.Reference20Ideal.Gen.facts) := fun m ρ _ =>
  (θ_run Reference20Ideal.defs _ _).mono (fun r h => ⟨fun c => (h c).2.2.2, sem_eq_zero_of_no_sems (by decide) r.2⟩)
    (Cert.Reference20Ideal.Value.run m ρ)

end Reference

/-! ## Blocks of rows -/

theorem normed_sh (p q n : ℕ) (l : EReal) (Z : ℕ → ℕ → EReal) : normed n l (sh 0 q (sh p 0 Z)) = sh p 0 (normed n l (sh 0 q Z)) := by
  funext i j
  simp only [normed, inv, NormGrad.root, sh, Nat.zero_add]

theorem dd_sh (p : ℕ) (Z D E P C S : ℕ → ℕ → EReal) (g h : ℕ → EReal) :
    dd (sh p 0 Z) (sh p 0 D) (sh p 0 E) (sh p 0 P) (sh p 0 C) (sh p 0 S) g h = sh p (0 * 704) (dd Z D E P C S g h) := by
  funext i j
  simp only [dd, hcat, dn, ropeT, NormGrad.rmsGrad, NormGrad.root, sh, Nat.zero_add, Nat.zero_mul]

section Kernel
open Cert.Kernel20Ideal Cert.Kernel20Ideal.Gen

variable (m : (ℓ : Loc nD τ sig) → Buf (Elt Ideal) ℓ) (c : Dev nD)

def Z : ℕ → ℕ → EReal := get2 (m ((c : Thread nD τ).loc main_arg0))
def D : ℕ → ℕ → EReal := get2 (m ((c : Thread nD τ).loc main_arg1))
def E : ℕ → ℕ → EReal := get2 (m ((c : Thread nD τ).loc main_arg2))
def P : ℕ → ℕ → EReal := get2 (m ((c : Thread nD τ).loc main_arg3))
def C : ℕ → ℕ → EReal := get2 (m ((c : Thread nD τ).loc main_arg4))
def S : ℕ → ℕ → EReal := get2 (m ((c : Thread nD τ).loc main_arg5))
def G : ℕ → ℕ → EReal := get2 (m ((c : Thread nD τ).loc main_arg6))
def H : ℕ → ℕ → EReal := get2 (m ((c : Thread nD τ).loc main_arg7))

theorem g_read : V m c main_v0 = arr3 (α := EReal) fun p _ j => G m c p j := by
  rw [← cast_rows _ (by decide)]
  unfold G
  rw [arr2_get2]
  unfold V
  simp only [hostOps0, List.flatten_cons, List.flatten_nil, List.cons_append, List.nil_append, List.append_nil]
  after_reads_simp
  rfl

theorem h_read : V m c main_v1 = arr3 (α := EReal) fun p _ j => H m c p j := by
  rw [← cast_rows _ (by decide)]
  unfold H
  rw [arr2_get2]
  unfold V
  simp only [hostOps0, List.flatten_cons, List.flatten_nil, List.cons_append, List.nil_append, List.append_nil]
  after_reads_simp
  rfl

/-- Windows on rows move with the grid point; the others stay. -/
theorem rows : ∀ t : Fin grid0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_5.index t 0 = t.val ∧ win0_5.index t 1 = 0) ∧ (win0_8.index t 0 = t.val ∧ win0_8.index t 1 = 0) := by
  decide +kernel

theorem still : ∀ t : Fin grid0.N, (win0_6.index t 0 = 0 ∧ win0_6.index t 1 = 0 ∧ win0_6.index t 2 = 0)
    ∧ (win0_7.index t 0 = 0 ∧ win0_7.index t 1 = 0 ∧ win0_7.index t 2 = 0)
    ∧ (win0_9.index t 0 = 0 ∧ win0_9.index t 1 = 0) ∧ (win0_10.index t 0 = 0 ∧ win0_10.index t 1 = 0) := by decide +kernel

theorem iblk0 (t : Fin cfg0.N) : iblk m c 0 t = arr2 (α := EReal) (sh (t.val * 1024) 0 (Z m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (D m c)) := by
  funext j
  unfold iblk
  rw [View.read_apply]
  show V m c main_arg1 _ = _
  rw [V_main_arg1]
  refine (block_read (rows t).2.1.1 (rows t).2.1.2 rfl rfl).trans ?_
  rw [Nat.zero_mul]
  rfl

theorem iblk2 (t : Fin cfg0.N) : iblk m c 2 t = arr2 (α := EReal) (sh (t.val * 1024) 0 (E m c)) := by
  funext j
  unfold iblk
  rw [View.read_apply]
  show V m c main_arg2 _ = _
  rw [V_main_arg2]
  refine (block_read (rows t).2.2.1.1 (rows t).2.2.1.2 rfl rfl).trans ?_
  rw [Nat.zero_mul]
  rfl

theorem iblk3 (t : Fin cfg0.N) : iblk m c 3 t = arr2 (α := EReal) (sh (t.val * 1024) 0 (P m c)) := by
  funext j
  unfold iblk
  rw [View.read_apply]
  show V m c main_arg3 _ = _
  rw [V_main_arg3]
  refine (block_read (rows t).2.2.2.1.1 (rows t).2.2.2.1.2 rfl rfl).trans ?_
  rw [Nat.zero_mul]
  rfl

theorem iblk4 (t : Fin cfg0.N) : iblk m c 4 t = arr2 (α := EReal) (sh (t.val * 1024) 0 (C m c)) := by
  funext j
  unfold iblk
  rw [View.read_apply]
  show V m c main_arg4 _ = _
  rw [V_main_arg4]
  refine (block_read (rows t).2.2.2.2.1.1 (rows t).2.2.2.2.1.2 rfl rfl).trans ?_
  rw [Nat.zero_mul]
  rfl

theorem iblk5 (t : Fin cfg0.N) : iblk m c 5 t = arr2 (α := EReal) (sh (t.val * 1024) 0 (S m c)) := by
  funext j
  unfold iblk
  rw [View.read_apply]
  show V m c main_arg5 _ = _
  rw [V_main_arg5]
  refine (block_read (rows t).2.2.2.2.2.1.1 (rows t).2.2.2.2.2.1.2 rfl rfl).trans ?_
  rw [Nat.zero_mul]
  rfl

theorem iblk6 (t : Fin cfg0.N) : iblk m c 6 t = arr3 (α := EReal) fun _ _ => G m c 0 := by
  funext j
  unfold iblk
  rw [View.read_apply]
  show V m c main_v0 _ = _
  rw [g_read]
  exact (plane_write (j := j) (j' := j) (fun p _ j => G m c p j) (still t).1.1 (still t).1.2.1 (still t).1.2.2 rfl rfl rfl fun _ => rfl).symm

theorem iblk7 (t : Fin cfg0.N) : iblk m c 7 t = arr3 (α := EReal) fun _ _ => H m c 0 := by
  funext j
  unfold iblk
  rw [View.read_apply]
  show V m c main_v1 _ = _
  rw [h_read]
  exact (plane_write (j := j) (j' := j) (fun p _ j => H m c p j) (still t).2.1.1 (still t).2.1.2.1 (still t).2.1.2.2 rfl rfl rfl fun _ => rfl).symm

/-- The gradients: of the projection, and of the two gains. -/
abbrev dZ : ℕ → ℕ → EReal := dd (Z m c) (D m c) (E m c) (P m c) (C m c) (S m c) (G m c 0) (H m c 0)
abbrev X : ℕ → ℕ → EReal := normed 384 lenQ (sh 0 0 (Z m c))
abbrev Y : ℕ → ℕ → EReal := normed 256 lenK (sh 0 384 (Z m c))
abbrev dG : ℕ → EReal := dg 2048 (D m c) (X m c)
abbrev dH : ℕ → EReal := dg 2048 (E m c) (Y m c)

/-- What the first point leaves. -/
theorem outs_first (t : Fin cfg0.N) (h : t.val % 2 = 0) : outsAt0 m c t.val t.isLt
    = (arr2 (α := EReal) (sh (t.val * 1024) (0 * 704) (dZ m c)),
      arr2 (α := EReal) (fun _ j => 0 + dg 1024 (sh (t.val * 1024) 0 (D m c)) (sh (t.val * 1024) 0 (X m c)) j),
      arr2 (α := EReal) (fun _ j => 0 + dg 1024 (sh (t.val * 1024) 0 (E m c)) (sh (t.val * 1024) 0 (Y m c)) j)) := by
  rw [outsAt0_A m c t h, iblk0, iblk1, iblk2, iblk3, iblk4, iblk5, iblk6, iblk7, out8_A, out9_A, out10_A, dd_sh, normed_sh, normed_sh]

theorem point_one (t : Fin cfg0.N) (h : ¬t.val % 2 = 0) : t.val = 1 := by
  have := lt_of_lt_of_eq t.isLt N_0
  omega

/-- What the second leaves. -/
theorem outs_second (t : Fin cfg0.N) (h : ¬t.val % 2 = 0) : outsAt0 m c t.val t.isLt
    = (arr2 (α := EReal) (sh (t.val * 1024) (0 * 704) (dZ m c)), arr2 (α := EReal) (fun _ => dG m c), arr2 (α := EReal) (fun _ => dH m c)) := by
  have h1 := point_one t h
  have first := outs_first m c ⟨t.val - 1, Nat.lt_of_le_of_lt (Nat.sub_le _ _) t.isLt⟩ (by dsimp only; omega)
  have e0 : t.val - 1 = 0 := by omega
  dsimp only at first
  rw [outsAt0_B m c t h, first, iblk0, iblk1, iblk2, iblk3, iblk4, iblk5, iblk6, iblk7]
  dsimp only
  rw [out8_B, out9_B, out10_B, dd_sh, normed_sh, normed_sh]
  have e : ∀ A B : ℕ → ℕ → EReal, (fun _ j => 0 + dg 1024 (sh ((t.val - 1) * 1024) 0 A) (sh ((t.val - 1) * 1024) 0 B) j
      + dg 1024 (sh (t.val * 1024) 0 A) (sh (t.val * 1024) 0 B) j : ℕ → ℕ → EReal) = fun _ => dg 2048 A B := fun A B => by
    rw [e0, h1, Nat.zero_mul, Nat.one_mul]
    funext _ j
    exact dg_blocks _ _ _
  rw [e, e]

theorem outs_rows (t : Fin cfg0.N) : (outsAt0 m c t.val t.isLt).1 = arr2 (α := EReal) (sh (t.val * 1024) (0 * 704) (dZ m c)) := by
  by_cases h : t.val % 2 = 0
  · rw [outs_first m c t h]
  · rw [outs_second m c t h]

theorem hN (i : (⟨2, ![2048, 704]⟩ : Shape).Idx) : (i 0).val / 1024 < cfg0.N := by
  have l0 : (i 0).val < 2048 := (i 0).isLt
  exact lt_of_lt_of_eq (by omega) N_0.symm

/-- The gradient of the projection the kernel leaves. -/
theorem arr_z : (dats m 0 c).arrAt 8 cfg0.N = arr2 (α := EReal) (dZ m c) := by
  refine (dats m 0 c).arrAt_eq_of_cover 8 (arr2 (α := EReal) (dZ m c)) (fun t _ => ?_) fun i => ?_
  · rw [Value.flushed8, outs_rows m c t]
    funext j
    rw [View.read_apply]
    show arr2 (a := 1024) (b := 704) (sh (t.val * 1024) (0 * 704) (dZ m c)) ((cfg0.win 8).xinj (grid0.coords t) j) =
      arr2 (a := 2048) (b := 704) (dZ m c) (((cfg0.win 8).blk t).view.emb j)
    refine block_write (j := j) _ (rows t).2.2.2.2.2.2.1 (rows t).2.2.2.2.2.2.2 ?_ ?_ fun _ => ?_ <;> rfl
  · have l1 : (i 1).val < 704 := (i 1).isLt
    have hi := (rows ⟨_, hN i⟩).2.2.2.2.2.2
    refine ⟨⟨_, hN i⟩, flush0_8 _, ?_⟩
    show i ∈ ((View.whole main_v2_0).slice (win0_8.rect ⟨_, hN i⟩)).set
    rw [View.set_slice_whole, Rect.mem_set_unit]
    exact block_cover (f := win0_8.index ⟨_, hN i⟩) hi.1 (hi.2.trans (by omega)) (by omega) (by omega)

theorem last : 1 < cfg0.N := lt_of_lt_of_eq (by decide) N_0.symm

/-- The gradient of the first gain the kernel leaves. -/
theorem arr_g : (dats m 0 c).arrAt 9 cfg0.N = arr2 (α := EReal) fun _ => dG m c := by
  refine (dats m 0 c).arrAt_eq_of_cover 9 (arr2 (α := EReal) fun _ => dG m c) (fun t ht => ?_) fun i => ?_
  · have h1 := (flush0_9 t).1 ht
    rw [Value.flushed9, outs_second m c t (by omega)]
    funext j
    rw [View.read_apply]
    show arr2 (a := 1) (b := 384) (fun _ => dG m c) ((cfg0.win 9).xinj (grid0.coords t) j) =
      arr2 (a := 1) (b := 384) (fun _ => dG m c) (((cfg0.win 9).blk t).view.emb j)
    refine (congrFun (congrArg (arr2 (α := EReal)) (sh_zero _).symm) _).trans (block_write (j := j) _ (still t).2.2.1.1 (still t).2.2.1.2 ?_ ?_ fun _ => ?_) <;> rfl
  · have l0 : (i 0).val < 1 := (i 0).isLt
    have l1 : (i 1).val < 384 := (i 1).isLt
    have hi := (still ⟨1, last⟩).2.2.1
    refine ⟨⟨1, last⟩, (flush0_9 _).2 (by dsimp only), ?_⟩
    show i ∈ ((View.whole main_v2_1).slice (win0_9.rect ⟨1, last⟩)).set
    rw [View.set_slice_whole, Rect.mem_set_unit]
    exact block_cover (f := win0_9.index ⟨1, last⟩) (hi.1.trans (by omega)) (hi.2.trans (by omega)) (by omega) (by omega)

/-- The gradient of the second gain the kernel leaves. -/
theorem arr_h : (dats m 0 c).arrAt 10 cfg0.N = arr2 (α := EReal) fun _ => dH m c := by
  refine (dats m 0 c).arrAt_eq_of_cover 10 (arr2 (α := EReal) fun _ => dH m c) (fun t ht => ?_) fun i => ?_
  · have h1 := (flush0_10 t).1 ht
    rw [Value.flushed10, outs_second m c t (by omega)]
    funext j
    rw [View.read_apply]
    show arr2 (a := 1) (b := 256) (fun _ => dH m c) ((cfg0.win 10).xinj (grid0.coords t) j) =
      arr2 (a := 1) (b := 256) (fun _ => dH m c) (((cfg0.win 10).blk t).view.emb j)
    refine (congrFun (congrArg (arr2 (α := EReal)) (sh_zero _).symm) _).trans (block_write (j := j) _ (still t).2.2.2.1 (still t).2.2.2.2 ?_ ?_ fun _ => ?_) <;> rfl
  · have l0 : (i 0).val < 1 := (i 0).isLt
    have l1 : (i 1).val < 256 := (i 1).isLt
    have hi := (still ⟨1, last⟩).2.2.2
    refine ⟨⟨1, last⟩, (flush0_10 _).2 (by dsimp only), ?_⟩
    show i ∈ ((View.whole main_v2_2).slice (win0_10.rect ⟨1, last⟩)).set
    rw [View.set_slice_whole, Rect.mem_set_unit]
    exact block_cover (f := win0_10.index ⟨1, last⟩) (hi.1.trans (by omega)) (hi.2.trans (by omega)) (by omega) (by omega)

end Kernel

theorem algebraic : algebraic_Kernel20Ideal_Reference20Ideal (hKernel20Ideal := Kernel20Ideal.Gen.facts)
    (hReference20Ideal := Reference20Ideal.Gen.facts) := by
  intro m g m' g' _ hargs
  refine ⟨fun c => arr2 (α := EReal) (dZ m c), fun c => arr2 (α := EReal) fun _ => dG m c, fun c => arr2 (α := EReal) fun _ => dH m c, ?_, ?_⟩
  · refine (θ_run _ _ _).mono (fun r h c => ?_) (Kernel20Ideal.Value.run_blocks m g)
    exact ⟨(h c).1.trans (arr_z m c), (h c).2.1.trans (arr_g m c), (h c).2.2.1.trans (arr_h m c), (h c).2.2.2⟩
  · refine run_stages m' g' (fun c => Z m c) (fun c => D m c) (fun c => E m c) (fun c => P m c) (fun c => C m c) (fun c => S m c)
      (fun c => G m c) (fun c => H m c) fun c => ?_
    obtain ⟨b0, b1, b2, b3, b4, b5, b6, b7⟩ := hargs c
    exact ⟨b0.trans (arr2_get2 _).symm, b1.trans (arr2_get2 _).symm, b2.trans (arr2_get2 _).symm, b3.trans (arr2_get2 _).symm,
      b4.trans (arr2_get2 _).symm, b5.trans (arr2_get2 _).symm, b6.trans (arr2_get2 _).symm, b7.trans (arr2_get2 _).symm⟩

end Cert.Norms.Rms
-- ==== Proof.LossMath.lean ====
/-
  The loss and its gradient: what the kernel's stores compute, and what the reference's operations compute.
-/
module

public import proofs.«01_k».proof.Proof.LnGradMath
public import Idealize.ShloMosaic.Lib.Pointwise.Index
public import proofs.«01_k».proof.Proof.Gen.Kernel21Ideal.Value
public import proofs.«01_k».proof.Proof.Gen.Reference21Ideal.Run
public import proofs.«01_k».proof.Proof.Gen.Reference21Ideal.Read

@[expose] public section

set_option maxRecDepth 16384

noncomputable section

namespace Cert.Loss

open Idealize.ShloMosaic Finset Cert.Mat
open Cert.Mlp.Fwd (sum_from_zero)
open Cert.Norms (db colSum_arr2 shapeCast_row)

/-- The squares of the differences. -/
def sq (Y T : ℕ → ℕ → EReal) : ℕ → ℕ → EReal := fun i j => (Y i j - T i j) * (Y i j - T i j)
/-- The gradient of the rows: the difference over the length of a row. -/
def dy (Y T : ℕ → ℕ → EReal) : ℕ → ℕ → EReal := fun i j => (Y i j - T i j) * ((1 / 1024 : ℝ) : EReal)
/-- The loss, from the sum of every column. -/
def total (s : ℕ → EReal) : EReal := ((1 / 2048 : ℝ) : EReal) * ∑ j ∈ range 1024, s j

theorem inv_len : Ideal.ofBits .f32 0x3A800000#32 = ((1 / 1024 : ℝ) : EReal) := by
  simp [Ideal.ofBits, Ideal.ieee, -EReal.coe_mul]
  norm_num
theorem inv_twice : Ideal.ofBits .f32 0x3A000000#32 = ((1 / 2048 : ℝ) : EReal) := by
  simp [Ideal.ofBits, Ideal.ieee, -EReal.coe_mul]
  norm_num
theorem half : Ideal.ofBits .f32 0x3F000000#32 = ((1 / 2 : ℝ) : EReal) := by
  simp [Ideal.ofBits, Ideal.ieee, -EReal.coe_mul]
  norm_num
theorem one : Ideal.ofBits .f32 0x3F800000#32 = ((1 : ℝ) : EReal) := by
  simp [Ideal.ofBits, Ideal.ieee, -EReal.coe_mul]
  norm_num
theorem two : Ideal.ofBits .f32 0x40000000#32 = ((2 : ℝ) : EReal) := by
  simp [Ideal.ofBits, Ideal.ieee, -EReal.coe_mul]
  norm_num
theorem row_len : Ideal.ofBits .f32 0x44800000#32 = ((1024 : ℝ) : EReal) := by
  simp [Ideal.ofBits, Ideal.ieee, -EReal.coe_mul]
  norm_num

/-- A real factor that is not negative goes into a sum, whatever the terms are. -/
theorem mul_sum_real {r : ℝ} (h : 0 ≤ r) (n : ℕ) (f : ℕ → EReal) : (r : EReal) * ∑ i ∈ range n, f i = ∑ i ∈ range n, (r : EReal) * f i := by
  induction n with
  | zero => simp
  | succ n ih => rw [sum_range_succ, sum_range_succ, EReal.left_distrib_of_nonneg_of_ne_top (EReal.coe_nonneg.2 h) (EReal.coe_ne_top r), ih]

/-- Half the sum of the rows' means is the sum of the columns' sums over twice the length. -/
theorem total_eq (q : ℕ → ℕ → EReal) :
    ((1 / 2 : ℝ) : EReal) * ∑ i ∈ range 2048, Ideal.div (∑ j ∈ range 1024, q i j) ((1024 : ℝ) : EReal) = total (db 2048 q) := by
  simp only [total, db, Ideal.div_coe (show (1024 : ℝ) ≠ 0 by norm_num)]
  rw [sum_comm, mul_sum_real (by norm_num), mul_sum_real (by norm_num)]
  refine sum_congr rfl fun i _ => ?_
  rw [mul_comm _ ((1 / 1024 : ℝ) : EReal), ← mul_assoc, ← EReal.coe_mul]
  norm_num

theorem dy_eq (x : EReal) : Ideal.div (((1 / 2 : ℝ) : EReal) * ((1 : ℝ) : EReal)) ((1024 : ℝ) : EReal) * (((2 : ℝ) : EReal) * x)
    = x * ((1 / 1024 : ℝ) : EReal) := by
  rw [Ideal.div_coe (by norm_num), ← mul_assoc, ← EReal.coe_mul, ← EReal.coe_mul, ← EReal.coe_mul, mul_comm]
  norm_num

section Kernel
open Cert.Kernel21Ideal Cert.Kernel21Ideal.Gen

variable (Y T : ℕ → ℕ → EReal) (s : ℕ → EReal)

theorem pay1 : k0_pay1 (F := Ideal) (arr2 (α := EReal) Y) (arr2 (α := EReal) T) = arr2 (α := EReal) fun i j => Y i j - T i j := rfl

theorem pay2 : k0_pay2 (F := Ideal) (arr2 (α := EReal) Y) (arr2 (α := EReal) T) = arr2 (α := EReal) (dy Y T) := by
  unfold k0_pay2
  dsimp only
  rw [pay1, broadcast_arr2, mulf_arr2]
  show (arr2 (α := EReal) fun i j => (Y i j - T i j) * Ideal.ofBits .f32 0x3A800000#32) = _
  rw [inv_len]
  rfl

theorem pay3 : k0_pay3 (F := Ideal) = arr2 (α := EReal) fun _ _ => 0 := by
  unfold k0_pay3
  dsimp only
  rw [broadcast_arr2, shapeCast_arr2]
  show (arr2 (α := EReal) fun _ _ => Ideal.ofBits .f32 0x00000000#32) = _
  rw [Ideal.ofBits_zero_f32]

theorem pay4 : k0_pay4 (F := Ideal) (arr2 (α := EReal) Y) (arr2 (α := EReal) T) (arr2 (α := EReal) fun _ => s)
    = arr2 (α := EReal) fun _ j => s j + db 1024 (sq Y T) j := by
  unfold k0_pay4
  dsimp only
  have e := fun Z => colSum_arr2 (m := 1024) (n := 1024) Z reduces_S1024x1024_S1024 (.inl rfl) rfl
  rw [pay1, mulf_arr2]
  erw [e]
  rw [shapeCast_row, addf_arr2, shapeCast_arr2]
  rfl

/-- The sum of a row, taken over both axes of an array of one row. -/
theorem row_total : multiReduction (F := Ideal) (φ := .f32) .add [1, 2] S1 (arr3 (α := EReal) (a := 1) (b := 1) (c := 1024) fun _ _ => s) 0x00000000#32
    reduces_S1x1x1024_S1 (.inl rfl) rfl = arr1 fun _ => ∑ j ∈ range 1024, s j := by
  funext j
  refine (Ideal.multiReduction_add_total _ _ _ (by decide) _ _ j).trans ?_
  erw [Idealize.ShloMosaic.sum_idx3]
  rw [Fin.sum_univ_one, Fin.sum_univ_one]
  exact Fin.sum_univ_eq_sum_range s 1024

theorem pay5 : k0_pay5 (F := Ideal) (arr2 (α := EReal) fun _ => s) = arr2 (α := EReal) fun _ _ => total s := by
  unfold k0_pay5
  dsimp only
  rw [shapeCast_arr2_arr3]
  erw [row_total s]
  show (arr2 (α := EReal) fun _ _ => Ideal.ofBits .f32 0x3A000000#32 * ∑ j ∈ range 1024, s j) = _
  rw [inv_twice]
  rfl

end Kernel

section Reference
open Cert.Reference21Ideal Cert.Reference21Ideal.Read

variable (Y T : ℕ → ℕ → EReal)

abbrev A0 (Y : ℕ → ℕ → EReal) : (⟨S2048x1024, .f32⟩ : BufTy).Contents (Elt Ideal) := arr2 (α := EReal) Y

theorem v14_arr : val_main_v14 (F := Ideal) (A0 Y) (A0 T) = arr2 (α := EReal) (dy Y T) := by
  funext i
  rw [val_main_v14_apply, val_main_v13_apply, val_main_v12_apply, val_main_v10_apply, val_main_v9_apply, val_main_cst_4_apply,
    val_main_cst_5_apply, val_main_v11_apply, val_main_cst_6_apply, val_main_v3_apply, val_main_v2_apply, val_main_cst_apply, val_main_v0_apply]
  show Ideal.div (Ideal.ofBits .f32 0x3F000000#32 * Ideal.ofBits .f32 0x3F800000#32) (Ideal.ofBits .f32 0x44800000#32)
    * (Ideal.ofBits .f32 0x40000000#32 * (Y (i 0).val (i 1).val - T (i 0).val (i 1).val)) = _
  rw [half, one, row_len, two]
  exact dy_eq _

theorem v4_arr : val_main_v4 (F := Ideal) (A0 Y) (A0 T) = arr1 (α := EReal) fun i => ∑ j ∈ range 1024, sq Y T i j := by
  funext i
  rw [val_main_v4_apply, val_main_cst_0_apply]
  exact sum_from_zero (fun k => sq Y T (i 0).val k) 1024

theorem v7_eq (i : S_.Idx) : val_main_v7 (F := Ideal) (A0 Y) (A0 T) i
    = ∑ i ∈ range 2048, Ideal.div (∑ j ∈ range 1024, sq Y T i j) ((1024 : ℝ) : EReal) := by
  rw [val_main_v7_apply, val_main_cst_2_apply]
  erw [Idealize.ShloMosaic.sum_idx1]
  have e (k : Fin 2048) : val_main_v6 (F := Ideal) (A0 Y) (A0 T) (Idealize.ShloMosaic.ix1 k)
      = Ideal.div (∑ j ∈ range 1024, sq Y T k.val j) ((1024 : ℝ) : EReal) := by
    rw [val_main_v6_apply, v4_arr, val_main_v5_apply, val_main_cst_1_apply, ← row_len]
    rfl
  refine (congrArg (fun x : EReal => Ideal.ofBits .f32 0x00000000#32 + x) (sum_congr rfl fun k _ => e k)).trans ?_
  exact sum_from_zero (fun k => Ideal.div (∑ j ∈ range 1024, sq Y T k j) ((1024 : ℝ) : EReal)) 2048

theorem v15_arr : val_main_v15 (F := Ideal) (A0 Y) (A0 T) = arr2 (α := EReal) fun _ _ => total (db 2048 (sq Y T)) := by
  funext i
  rw [val_main_v15_apply, val_main_v8_apply, val_main_cst_3_apply, v7_eq]
  show Ideal.ofBits .f32 0x3F000000#32 * _ = _
  rw [half]
  exact total_eq _

end Reference

end Cert.Loss
-- ==== Proof.LossGrad.lean ====
/-
  The loss and its gradient: the kernel's results are the reference's.
-/
module

public import proofs.«01_k».proof.Defs
public import proofs.«01_k».proof.Proof.LossMath
public import Idealize.ShloMosaic.Lib.Claim

@[expose] public section

set_option maxRecDepth 16384

noncomputable section

namespace Cert.Loss

open Idealize.ShloMosaic Idealize.ShloMosaic.TcCoe Idealize.SL.Sem Finset Cert.Mat Cert.Mlp
open Cert.Norms (db db_blocks)

/-! ## What one grid point leaves in its blocks -/

section Outs
open Cert.Kernel21Ideal Cert.Kernel21Ideal.Gen

variable (Y T : ℕ → ℕ → EReal) (s : ℕ → EReal)
variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1024x1024 .f32) (harg3 : arg3.IsWhole)
  (arg4 : Memref sig .tc .vmem S1x128 .f32) (harg4 : arg4.IsWhole) (arg5 : Memref sig .tc .vmem S1x1024 .f32) (harg5 : arg5.IsWhole)

section A
variable (hc0 : cond0_0 i) (hc1 : ¬cond0_1 i)

theorem v9_A : kernelRun0_A.sl.v9 (F := Ideal) c arg5 = arr2 (α := EReal) fun _ _ => 0 := by
  unfold kernelRun0_A.sl.v9 kernelRun0_A.sl.HS0_1
  rw [pay3]
  exact (Holds.whole _ _).read _ _

theorem out2_A : out0_A_2 (F := Ideal) c i arg1 harg1 arg2 harg2 arg3 harg3 arg4 harg4 arg5 harg5 hc0 hc1 (arr2 (α := EReal) Y) (arr2 (α := EReal) T)
    = arr2 (α := EReal) (dy Y T) := by
  rw [out0_A_2, View.read_writes_eq_canon _ _ _ (fun y => cover0_A_2 (y := y) ..)]
  unfold kernelRun0_A
  dsimp only
  erw [readAt_arr2, readAt_arr2]
  rw [sh_zero, sh_zero, pay2]
  exact View.canon_cons_unit_zero (by decide) _ _ _

theorem sum_A : sout0_A_0 (F := Ideal) c i arg1 harg1 arg2 harg2 arg3 harg3 arg4 harg4 arg5 harg5 hc0 hc1 (arr2 (α := EReal) Y) (arr2 (α := EReal) T)
    = arr2 (α := EReal) fun _ j => 0 + db 1024 (sq Y T) j := by
  rw [sout0_A_0, View.read_writes_eq_canon _ _ _ (fun y => scover0_A_0 (y := y) ..)]
  unfold kernelRun0_A
  dsimp only
  rw [v9_A]
  erw [readAt_arr2, readAt_arr2]
  rw [sh_zero, sh_zero]
  erw [pay4 Y T fun _ => 0]
  exact View.canon_cons_unit_zero (by decide) _ _ _

end A

section B
variable (hc0 : ¬cond0_0 i) (hc1 : cond0_1 i)

theorem out2_B : out0_B_2 (F := Ideal) c i arg1 harg1 arg2 harg2 arg3 harg3 arg4 harg4 arg5 harg5 hc0 hc1 (arr2 (α := EReal) Y) (arr2 (α := EReal) T)
    (arr2 (α := EReal) fun _ => s) = arr2 (α := EReal) (dy Y T) := by
  rw [out0_B_2, View.read_writes_eq_canon _ _ _ (fun y => cover0_B_2 (y := y) ..)]
  unfold kernelRun0_B
  dsimp only
  erw [readAt_arr2, readAt_arr2]
  rw [sh_zero, sh_zero, pay2]
  exact View.canon_cons_unit_zero (by decide) _ _ _

theorem v20_B : kernelRun0_B.sl.v20 (F := Ideal) c arg1 harg1 arg2 harg2 arg5 harg5 (arr2 (α := EReal) Y) (arr2 (α := EReal) T) (arr2 (α := EReal) fun _ => s)
    = arr2 (α := EReal) fun _ j => s j + db 1024 (sq Y T) j := by
  unfold kernelRun0_B.sl.v20 kernelRun0_B.sl.HS0_1
  erw [readAt_arr2, readAt_arr2, readAt_arr2]
  rw [sh_zero Y, sh_zero T, sh_zero fun _ => s, pay4]
  exact ((Holds.whole _ _).read _ _).trans (congrArg (arr2 (α := EReal)) (sh_zero _))

theorem out3_B : out0_B_3 (F := Ideal) c i arg1 harg1 arg2 harg2 arg3 harg3 arg4 harg4 arg5 harg5 hc0 hc1 (arr2 (α := EReal) Y) (arr2 (α := EReal) T)
    (arr2 (α := EReal) fun _ => s) = arr2 (α := EReal) fun _ _ => total fun j => s j + db 1024 (sq Y T) j := by
  rw [out0_B_3, View.read_writes_eq_canon _ _ _ (fun y => cover0_B_3 (y := y) ..)]
  unfold kernelRun0_B
  dsimp only
  rw [v20_B, pay5]
  exact View.canon_cons_unit_zero (by decide) _ _ _

end B

end Outs

section Reference
open Cert.Reference21Ideal Cert.Reference21Ideal.Read

variable (m : (ℓ : Loc nD τ sig) → Buf (Elt Ideal) ℓ)

/-- The reference's run, its results as functions of its arguments. -/
theorem run_stages (ρ : Dev nD → PrngReg) (Y T : Dev nD → ℕ → ℕ → EReal)
    (ha : ∀ c : Dev nD, m ((c : Thread nD τ).loc main_arg0) = A0 (Y c) ∧ m ((c : Thread nD τ).loc main_arg1) = A0 (T c)) :
    θ_run defs (onTc (τ := τ) (main (F := Ideal))) ⟨m, fun _ => 0, ρ⟩ fun r => ∀ c : Dev nD,
      r.2.mem ((c : Thread nD τ).loc main_v14) = arr2 (α := EReal) (dy (Y c) (T c))
      ∧ r.2.mem ((c : Thread nD τ).loc main_v15) = arr2 (α := EReal) (fun _ _ => total (db 2048 (sq (Y c) (T c))))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Reference21Ideal.Value.run (F := Ideal) m ρ)
  obtain ⟨h0, h1, hk⟩ := h c
  obtain ⟨a0, a1⟩ := ha c
  refine ⟨(h0.trans (val_main_v14_eq _ _)).trans ?_, (h1.trans (val_main_v15_eq _ _)).trans ?_, hk⟩
  · rw [a0, a1]
    exact v14_arr (Y c) (T c)
  · rw [a0, a1]
    exact v15_arr (Y c) (T c)

theorem frame : Cert.quiescent_Reference21Ideal (hReference21Ideal := Cert.Reference21Ideal.Gen.facts) := fun m ρ _ =>
  (θ_run Reference21Ideal.defs _ _).mono (fun r h => ⟨fun c => (h c).2.2, sem_eq_zero_of_no_sems (by decide) r.2⟩)
    (Cert.Reference21Ideal.Value.run m ρ)

end Reference

section Kernel
open Cert.Kernel21Ideal Cert.Kernel21Ideal.Gen

variable (m : (ℓ : Loc nD τ sig) → Buf (Elt Ideal) ℓ) (c : Dev nD)

def Y : ℕ → ℕ → EReal := get2 (m ((c : Thread nD τ).loc main_arg0))
def T : ℕ → ℕ → EReal := get2 (m ((c : Thread nD τ).loc main_arg1))

/-- Windows on rows move with the grid point; the loss stays. -/
theorem rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) := by
  decide +kernel

theorem iblk0 (t : Fin cfg0.N) : iblk m c 0 t = arr2 (α := EReal) (sh (t.val * 1024) 0 (Y m c)) := by
  funext j
  unfold iblk
  rw [View.read_apply]
  show V m c main_arg0 _ = _
  rw [V_main_arg0]
  refine (block_read (rows t).1.1 (rows t).1.2 rfl rfl).trans ?_
  rw [Nat.zero_mul]
  rfl

theorem iblk1 (t : Fin cfg0.N) : iblk m c 1 t = arr2 (α := EReal) (sh (t.val * 1024) 0 (T m c)) := by
  funext j
  unfold iblk
  rw [View.read_apply]
  show V m c main_arg1 _ = _
  rw [V_main_arg1]
  refine (block_read (rows t).2.1.1 (rows t).2.1.2 rfl rfl).trans ?_
  rw [Nat.zero_mul]
  rfl

/-- The gradient of the rows, and the loss. -/
abbrev dY : ℕ → ℕ → EReal := dy (Y m c) (T m c)
abbrev loss : EReal := total (db 2048 (sq (Y m c) (T m c)))

theorem dy_sh (p : ℕ) (Y T : ℕ → ℕ → EReal) : dy (sh p 0 Y) (sh p 0 T) = sh p (0 * 1024) (dy Y T) := by
  funext i j
  simp only [dy, sh, Nat.zero_add, Nat.zero_mul]

/-- What a point leaves in its rows. -/
theorem outs_rows (t : Fin cfg0.N) : (outsAt0 m c t.val t.isLt).1 = arr2 (α := EReal) (sh (t.val * 1024) (0 * 1024) (dY m c)) := by
  by_cases h : t.val % 2 = 0
  · rw [outsAt0_A m c t h (by omega), iblk0, iblk1]
    dsimp only
    rw [out2_A, dy_sh]
  · have h1 : t.val % 2 = 1 := by omega
    have first := outsAt0_A m c ⟨t.val - 1, Nat.lt_of_le_of_lt (Nat.sub_le _ _) t.isLt⟩ (by dsimp only; omega) (by dsimp only; omega)
    dsimp only at first
    rw [outsAt0_B m c t h h1, first, iblk0, iblk1, iblk0, iblk1]
    dsimp only
    rw [sum_A]
    erw [out2_B _ _ fun j => 0 + db 1024 (sq _ _) j]
    rw [dy_sh]

/-- The loss the second point leaves. -/
theorem outs_loss (t : Fin cfg0.N) (h1 : t.val % 2 = 1) : (outsAt0 m c t.val t.isLt).2.1 = arr2 (α := EReal) fun _ _ => loss m c := by
  have hN := lt_of_lt_of_eq t.isLt N_0
  have ht : t.val = 1 := by omega
  have e0 : t.val - 1 = 0 := by omega
  have first := outsAt0_A m c ⟨t.val - 1, Nat.lt_of_le_of_lt (Nat.sub_le _ _) t.isLt⟩ (by dsimp only; omega) (by dsimp only; omega)
  dsimp only at first
  rw [outsAt0_B m c t (by omega) h1, first, iblk0, iblk1, iblk0, iblk1]
  dsimp only
  rw [sum_A]
  erw [out3_B _ _ fun j => 0 + db 1024 (sq _ _) j]
  rw [e0, ht, Nat.zero_mul, Nat.one_mul]
  exact congrArg (fun s => arr2 (α := EReal) fun _ _ => total s) (funext fun j => db_blocks (sq (Y m c) (T m c)) j)

theorem hN (i : (⟨2, ![2048, 1024]⟩ : Shape).Idx) : (i 0).val / 1024 < cfg0.N := by
  have l0 : (i 0).val < 2048 := (i 0).isLt
  exact lt_of_lt_of_eq (by omega) N_0.symm

/-- The gradient of the rows the kernel leaves. -/
theorem arr_y : (dats m 0 c).arrAt 2 cfg0.N = arr2 (α := EReal) (dY m c) := by
  refine (dats m 0 c).arrAt_eq_of_cover 2 (arr2 (α := EReal) (dY m c)) (fun t _ => ?_) fun i => ?_
  · rw [Value.flushed2, outs_rows m c t]
    funext j
    rw [View.read_apply]
    show arr2 (a := 1024) (b := 1024) (sh (t.val * 1024) (0 * 1024) (dY m c)) ((cfg0.win 2).xinj (grid0.coords t) j) =
      arr2 (a := 2048) (b := 1024) (dY m c) (((cfg0.win 2).blk t).view.emb j)
    refine block_write (j := j) _ (rows t).2.2.1.1 (rows t).2.2.1.2 ?_ ?_ fun _ => ?_ <;> rfl
  · have l1 : (i 1).val < 1024 := (i 1).isLt
    have hi := (rows ⟨_, hN i⟩).2.2.1
    refine ⟨⟨_, hN i⟩, flush0_2 _, ?_⟩
    show i ∈ ((View.whole main_v0_0).slice (win0_2.rect ⟨_, hN i⟩)).set
    rw [View.set_slice_whole, Rect.mem_set_unit]
    exact block_cover (f := win0_2.index ⟨_, hN i⟩) hi.1 (hi.2.trans (by omega)) (by omega) (by omega)

theorem last : 1 < cfg0.N := lt_of_lt_of_eq (by decide) N_0.symm

/-- The loss the kernel leaves. -/
theorem arr_loss : (dats m 0 c).arrAt 3 cfg0.N = arr2 (α := EReal) fun _ _ => loss m c := by
  refine (dats m 0 c).arrAt_eq_of_cover 3 (arr2 (α := EReal) fun _ _ => loss m c) (fun t ht => ?_) fun i => ?_
  · rw [Value.flushed3, outs_loss m c t ((flush0_3 t).1 ht)]
    funext j
    rw [View.read_apply]
    rfl
  · have l0 : (i 0).val < 1 := (i 0).isLt
    have l1 : (i 1).val < 128 := (i 1).isLt
    have hi := (rows ⟨1, last⟩).2.2.2
    refine ⟨⟨1, last⟩, (flush0_3 _).2 (by dsimp only), ?_⟩
    show i ∈ ((View.whole main_v0_1).slice (win0_3.rect ⟨1, last⟩)).set
    rw [View.set_slice_whole, Rect.mem_set_unit]
    exact block_cover (f := win0_3.index ⟨1, last⟩) (hi.1.trans (by omega)) (hi.2.trans (by omega)) (by omega) (by omega)

end Kernel

theorem algebraic : algebraic_Kernel21Ideal_Reference21Ideal (hKernel21Ideal := Kernel21Ideal.Gen.facts)
    (hReference21Ideal := Reference21Ideal.Gen.facts) := by
  intro m g m' g' _ hargs
  refine ⟨fun c => arr2 (α := EReal) (dY m c), fun c => arr2 (α := EReal) fun _ _ => loss m c, ?_, ?_⟩
  · refine (θ_run _ _ _).mono (fun r h c => ?_) (Kernel21Ideal.Value.run_blocks m g)
    exact ⟨(h c).1.trans (arr_y m c), (h c).2.1.trans (arr_loss m c), (h c).2.2⟩
  · refine run_stages m' g' (fun c => Y m c) (fun c => T m c) fun c => ?_
    obtain ⟨b0, b1⟩ := hargs c
    exact ⟨b0.trans (arr2_get2 _).symm, b1.trans (arr2_get2 _).symm⟩

end Cert.Loss
-- ==== Proof.PoolMath.lean ====
/-
  Sums over a sliding window of rows: by doubling, as the kernel takes them, and as differences of running sums, as the
  reference does.
-/
module

public import proofs.«01_k».proof.Proof.MlpFwdOuts
public import proofs.«01_k».proof.Proof.Finite
public import Idealize.ShloMosaic.Lib.KernelVsHost
public import Idealize.ShloMosaic.Lib.IdealHost
public import Idealize.ShloMosaic.Lib.WordArith
public import Idealize.ShloMosaic.Lib.Routing.OpsOne

@[expose] public section

set_option maxRecDepth 16384

noncomputable section

namespace Cert.Pooling

open Idealize.ShloMosaic Idealize.ShloMosaic.ValueIdx Finset Cert.Mat Cert.Attn

/-! ## The sums -/

/-- The rows moved down by `k`, zeros above. -/
def down (k : ℕ) (A : ℕ → ℕ → EReal) : ℕ → ℕ → EReal := fun i j => if k ≤ i then A (i - k) j else 0
/-- The sum of a row and the `w - 1` rows above it. -/
def win (w : ℕ) (U : ℕ → ℕ → EReal) : ℕ → ℕ → EReal := fun i j => ∑ k ∈ range w, down k U i j
/-- The sum of a row and all rows above it. -/
def cum (U : ℕ → ℕ → EReal) : ℕ → ℕ → EReal := fun i j => ∑ k ∈ range (i + 1), U k j
/-- One over the number of rows in the window. -/
def inv (w i : ℕ) : EReal := ((1 / ((min (i + 1) w : ℕ) : ℝ) : ℝ) : EReal)
/-- The mean over the window less the row itself. -/
def diff (w : ℕ) (U : ℕ → ℕ → EReal) : ℕ → ℕ → EReal := fun i j => win w U i j * inv w i - U i j
/-- A group of columns of the result. -/
def pool (w : ℕ) (U W : ℕ → ℕ → EReal) (s : ℕ → EReal) : ℕ → ℕ → EReal := fun i j => mm 128 (diff w U) W i j * s j

theorem down_down (k l : ℕ) (A : ℕ → ℕ → EReal) : down k (down l A) = down (k + l) A := by
  funext i j
  unfold down
  by_cases h : k + l ≤ i
  · rw [if_pos h, if_pos (by omega), if_pos (by omega), Nat.sub_sub]
  · rw [if_neg h]
    split_ifs <;> first | rfl | omega

theorem win_one (U : ℕ → ℕ → EReal) : win 1 U = U := by
  funext i j
  unfold win down
  rw [sum_range_one, if_pos (Nat.zero_le i), Nat.sub_zero]

/-- A window of twice the height is the window and the window above it. -/
theorem win_double (k : ℕ) (U : ℕ → ℕ → EReal) : (fun i j => win k U i j + down k (win k U) i j) = win (k + k) U := by
  funext i j
  have e : down k (win k U) i j = ∑ l ∈ range k, down (k + l) U i j := by
    simp only [← down_down]
    unfold down win
    split_ifs
    · rfl
    · rw [sum_const_zero]
  unfold win
  rw [sum_range_add]
  exact congrArg _ e

/-- A running sum is the running sum `w` rows above and the window. -/
theorem cum_split (w : ℕ) (U : ℕ → ℕ → EReal) (i j : ℕ) : cum U i j = down w (cum U) i j + win w U i j := by
  induction w with
  | zero => simp [down, win]
  | succ w ih =>
    rw [ih]
    unfold win
    rw [sum_range_succ, ← add_assoc, add_right_comm _ (∑ k ∈ range w, down k U i j)]
    refine congrArg (· + _) ?_
    unfold down cum
    split_ifs with h1 h2
    · rw [sum_range_succ, show i - w = i - (w + 1) + 1 from by omega]
    · rw [show i - w = 0 from by omega, sum_range_one, zero_add]
    · omega
    · rw [add_zero]

/-- For a column of real numbers a window is a difference of two running sums. -/
theorem cum_sub {U : ℕ → ℕ → EReal} {j : ℕ} (h : ∀ i, IsR (U i j)) (w i : ℕ) : cum U i j - down w (cum U) i j = win w U i j := by
  have hr : IsR (down w (cum U) i j) := by
    unfold down cum
    split_ifs
    · exact IsR.sum _ fun _ _ => h _
    · exact ⟨0, rfl⟩
  rw [cum_split w U i j, add_comm]
  obtain ⟨r, hr⟩ := hr
  rw [hr]
  exact EReal.add_sub_cancel_right

/-! ## The kernel's operations -/

section Ops
variable {n : ℕ}

theorem sle_nat {a b : ℕ} (ha : a < 2 ^ 31) (hb : b < 2 ^ 31) :
    (BitVec.ofNat 32 a).sle (BitVec.ofNat 32 b) = decide (a ≤ b) := by
  unfold BitVec.sle
  rw [WordArith.toInt_ofNat_small a ha, WordArith.toInt_ofNat_small b hb]
  exact decide_eq_decide.2 (by omega)

theorem slt_nat {a b : ℕ} (ha : a < 2 ^ 31) (hb : b < 2 ^ 31) :
    (BitVec.ofNat 32 a).slt (BitVec.ofNat 32 b) = decide (a < b) := by
  unfold BitVec.slt
  rw [WordArith.toInt_ofNat_small a ha, WordArith.toInt_ofNat_small b hb]
  exact decide_eq_decide.2 (by omega)

/-- Rows turned by `k`, and the ones that came round masked. -/
theorem turn (k : ℕ) (hk : k < 2048) (A : ℕ → ℕ → EReal) (h0 h1) :
    select (cmpi .sge (iota .tc (⟨2, ![2048, n]⟩ : Shape) 32 [0] h0) (broadcast (⟨2, ![2048, n]⟩ : Shape) (BitVec.ofNat 32 k)))
      (dynamicRotate 0 (BitVec.ofNat 32 k) none (arr2 (α := EReal) (a := 2048) (b := n) A) h1)
      (broadcast (⟨2, ![2048, n]⟩ : Shape) (Scalar.ofBits (F := Ideal) .f32 0x00000000#32)) = arr2 (α := EReal) (down k A) := by
  funext y
  have l0 := idx2_lt0 y
  show Scalar.select (IntOp.cmpi .sge (iota .tc (⟨2, ![2048, n]⟩ : Shape) 32 [0] h0 y) (BitVec.ofNat 32 k)) _
    (FloatOps.ofBits .f32 0x00000000#32 : Ideal .f32) = down k A (y 0).val (y 1).val
  rw [iota_single_apply]
  show Scalar.select (BitVec.ofBool ((BitVec.ofNat 32 k).sle (BitVec.ofNat 32 (y 0).val))) _ (Ideal.ofBits .f32 0x00000000#32) = _
  rw [sle_nat (by omega) (by omega), Ideal.ofBits_zero_f32]
  unfold down
  by_cases h : k ≤ (y 0).val
  · rw [if_pos h, decide_eq_true h]
    refine (if_pos rfl).trans ((dynamicRotate_apply 0 _ _ h1 y (ix2 ⟨(y 0).val - k, by omega⟩ (y 1)) fun b => ?_).trans rfl)
    match b with
    | ⟨0, _⟩ =>
      refine Eq.trans ?_ (if_pos rfl).symm
      show (y 0).val - k = ((y 0).val + 2048 - (BitVec.ofNat 32 k).toNat % 2048) % 2048
      rw [BitVec.toNat_ofNat, Nat.mod_eq_of_lt (show k < 2 ^ 32 by omega), Nat.mod_eq_of_lt hk]
      omega
    | ⟨1, _⟩ => exact (if_neg (by simp)).symm
  · rw [if_neg h, decide_eq_false h]
    exact if_neg (by decide)

/-- Eight rows of zeros above the rows but the last eight. -/
theorem drop8 (A : ℕ → ℕ → EReal) (h0 h1) :
    concatenate (⟨2, ![2048, n]⟩ : Shape) 0 [⟨⟨2, ![8, n]⟩, broadcast (⟨2, ![8, n]⟩ : Shape) (Scalar.ofBits (F := Ideal) .f32 0x00000000#32)⟩,
      ⟨⟨2, ![2040, n]⟩, extractStridedSlice (⟨2, ![2040, n]⟩ : Shape) ![0, 0] (arr2 (α := EReal) (a := 2048) (b := n) A) h0⟩] h1
      = arr2 (α := EReal) (down 8 A) := by
  funext j
  have l0 := idx2_lt0 j
  show _ = down 8 A (j 0).val (j 1).val
  unfold down
  by_cases hj : (j 0).val < 8
  · refine (concatenate_pair_apply_left 0 _ _ h1 j rfl (ix2 ⟨(j 0).val, hj⟩ (j 1)) ?_).trans ?_
    · intro b; match b with | ⟨0, _⟩ => rfl | ⟨1, _⟩ => rfl
    · rw [if_neg (by omega)]
      exact Ideal.ofBits_zero_f32
  · refine (concatenate_pair_apply_right 0 _ _ h1 j rfl rfl (ix2 ⟨(j 0).val - 8, by omega⟩ (j 1)) ?_ ?_).trans ?_
    · intro b hb
      match b with
      | ⟨0, _⟩ => exact absurd rfl hb
      | ⟨1, _⟩ => rfl
    · show (j 0).val - 8 + 8 = (j 0).val
      omega
    · rw [if_pos (by omega), slice_arr2, sh_zero]
      rfl

/-- The number of rows in the window, as a word and as a number. -/
theorem count_word (w i : ℕ) (hw : w < 2048) (hi : i < 2048) :
    FloatOps.sitofp (F := Ideal) .f32 (IntOp.minsi (IntOp.addi (BitVec.ofNat 32 i) 1#32) (BitVec.ofNat 32 w))
      = (((min (i + 1) w : ℕ) : ℝ) : EReal) := by
  have e : IntOp.minsi (IntOp.addi (BitVec.ofNat 32 i) 1#32) (BitVec.ofNat 32 w) = BitVec.ofNat 32 (min (i + 1) w) := by
    rw [show IntOp.addi (BitVec.ofNat 32 i) 1#32 = BitVec.ofNat 32 (i + 1) from (BitVec.ofNat_add i 1).symm]
    unfold IntOp.minsi
    rw [slt_nat (by omega) (by omega)]
    by_cases h : i + 1 < w
    · rw [decide_eq_true h, if_pos rfl, Nat.min_eq_left h.le]
    · rw [decide_eq_false h, if_neg (by decide), Nat.min_eq_right (by omega)]
  rw [e]
  show (((BitVec.ofNat 32 (min (i + 1) w)).toInt : ℝ) : EReal) = _
  rw [WordArith.toInt_ofNat_small _ (by omega), Int.cast_natCast]

theorem count_ne (w i : ℕ) (hw : 0 < w) : ((min (i + 1) w : ℕ) : ℝ) ≠ 0 := Nat.cast_ne_zero.2 (by omega)

/-- One over that number, as the kernel computes it. -/
theorem count_inv (w : ℕ) (h : 0 < w) (hw : w < 2048) (h0) :
    divf (F := Ideal) (φ := .f32) (broadcast (⟨2, ![2048, n]⟩ : Shape) (Scalar.ofBits (F := Ideal) .f32 0x3F800000#32))
      (sitofp (F := Ideal) .f32 (minsi (addi (iota .tc (⟨2, ![2048, n]⟩ : Shape) 32 [0] h0) (broadcast (⟨2, ![2048, n]⟩ : Shape) 1#32))
        (broadcast (⟨2, ![2048, n]⟩ : Shape) (BitVec.ofNat 32 w)))) = arr2 (α := EReal) fun i _ => inv w i := by
  funext y
  have l0 := idx2_lt0 y
  show Ideal.div (Ideal.ofBits .f32 0x3F800000#32) (FloatOps.sitofp (F := Ideal) .f32 (IntOp.minsi (IntOp.addi
    (iota .tc (⟨2, ![2048, n]⟩ : Shape) 32 [0] h0 y) 1#32) (BitVec.ofNat 32 w))) = inv w (y 0).val
  rw [iota_single_apply, count_word w _ hw l0, Ideal.div_coe (count_ne w _ h), Ideal.ofBits_one_f32, one_mul]
  rfl

end Ops

/-! ## The reference's operations -/

section Host
variable {n : ℕ}

theorem sum_late (f : ℕ → EReal) (R j : ℕ) (hj : j ≤ R) :
    (∑ k ∈ range (R + 1), if R ≤ j + k then f (j + k - R) else 0) = ∑ k ∈ range (j + 1), f k := by
  obtain ⟨d, rfl⟩ := Nat.exists_eq_add_of_le hj
  rw [show j + d + 1 = d + (j + 1) from by omega, sum_range_add, sum_eq_zero, zero_add]
  · refine sum_congr rfl fun k _ => ?_
    rw [if_pos (by omega), show j + (d + k) - (j + d) = k from by omega]
  · intro k hk
    rw [if_neg (by have := mem_range.1 hk; omega)]

theorem foldl_sum {α : Type} (l : List α) (g : α → EReal) (v : EReal) : l.foldl (fun r k => r + g k) v = v + (l.map g).sum := by
  induction l generalizing v with
  | nil => simp
  | cons a l ih => rw [List.foldl_cons, ih, List.map_cons, List.sum_cons, add_assoc]

/-- The running sum over rows. -/
theorem running (A : ℕ → ℕ → EReal) (z : (⟨0, ![]⟩ : Shape).Idx → EReal) (h hu) (hz : ∀ i, z i = 0) :
    Host.reduceWindowAdd (F := Ideal) (φ := .f32) (s := ⟨2, ![2048, n]⟩) (t := ⟨2, ![2048, n]⟩) (u := ⟨0, ![]⟩)
      ![2048, 1] ![1, 1] ![2047, 0] ![0, 0] (arr2 (α := EReal) A) z h hu = arr2 (α := EReal) (cum A) := by
  funext y
  have l0 := idx2_lt0 y
  have l1 := idx2_lt1 y
  have hN : (⟨2, ![2048, 1]⟩ : Shape).numel = 2048 := Routing.numel_col 2048
  unfold Host.reduceWindowAdd
  change Ideal.hostReduceWindowAdd _ _ _ _ h (arr2 (α := EReal) A) (z (Shape.Idx.first hu)) y = _
  unfold Ideal.hostReduceWindowAdd Host.reduceWindow
  dsimp only
  rw [foldl_sum, hz, zero_add, ← Fin.sum_univ_def]
  have e := (Fin.sum_univ_eq_sum_range (fun k => if 2047 ≤ (y 0).val + k then A ((y 0).val + k - 2047) (y 1).val else 0)
    (⟨2, ![2048, 1]⟩ : Shape).numel)
  conv_rhs at e => rw [hN]
  refine (sum_congr rfl fun k _ => ?_).trans (e.trans (sum_late (fun k => A k (y 1).val) 2047 (y 0).val (Nat.le_of_lt_succ l0)))
  have w0 : ((⟨2, ![2048, 1]⟩ : Shape).rowMajor.symm k 0).val = k.val := by rw [Routing.symm_col]; rfl
  have w1 : ((⟨2, ![2048, 1]⟩ : Shape).rowMajor.symm k 1).val = 0 := by rw [Routing.symm_col]; rfl
  have hk : k.val < 2048 := lt_of_lt_of_eq k.isLt hN
  by_cases hin : 2047 ≤ (y 0).val + k.val
  · rw [if_pos hin, dif_pos (fun a => ?_)]
    · show A ((y 0).val * 1 + ((⟨2, ![2048, 1]⟩ : Shape).rowMajor.symm k 0).val - 2047)
        ((y 1).val * 1 + ((⟨2, ![2048, 1]⟩ : Shape).rowMajor.symm k 1).val - 0) = _
      rw [w0, w1, Nat.mul_one, Nat.mul_one, Nat.add_zero, Nat.sub_zero]
    · match a with
      | ⟨0, _⟩ =>
        show 2047 ≤ (y 0).val * 1 + ((⟨2, ![2048, 1]⟩ : Shape).rowMajor.symm k 0).val
          ∧ (y 0).val * 1 + ((⟨2, ![2048, 1]⟩ : Shape).rowMajor.symm k 0).val - 2047 < 2048
        rw [w0]
        omega
      | ⟨1, _⟩ =>
        show 0 ≤ (y 1).val * 1 + ((⟨2, ![2048, 1]⟩ : Shape).rowMajor.symm k 1).val
          ∧ (y 1).val * 1 + ((⟨2, ![2048, 1]⟩ : Shape).rowMajor.symm k 1).val - 0 < n
        rw [w1]
        omega
  · rw [if_neg hin, dif_neg (fun ha => ?_)]
    have a0 : 2047 ≤ (y 0).val * 1 + ((⟨2, ![2048, 1]⟩ : Shape).rowMajor.symm k 0).val := (ha 0).1
    rw [w0] at a0
    omega

/-- Rows of zeros put above, and as many rows cut off below. -/
theorem lag (w p : ℕ) (A : ℕ → ℕ → EReal) (z : (⟨0, ![]⟩ : Shape).Idx → EReal) (h hu h') (hz : ∀ i, z i = 0) :
    extractStridedSlice (⟨2, ![2048, n]⟩ : Shape) ![0, 0] (pad (⟨2, ![p, n]⟩ : Shape) ![w, 0] ![0, 0] ![0, 0]
      (arr2 (α := EReal) (a := 2048) (b := n) A) z h hu) h' = arr2 (α := EReal) (down w A) := by
  funext y
  have l0 := idx2_lt0 y
  have l1 := idx2_lt1 y
  have hp : 0 + 2048 ≤ p := h'.2 0
  let q : (⟨2, ![p, n]⟩ : Shape).Idx := ix2 ⟨(y 0).val, by omega⟩ (y 1)
  refine (extractStridedSlice_apply ![0, 0] _ h' y q fun a => ?_).trans ?_
  · match a with
    | ⟨0, _⟩ => exact (Nat.zero_add _).symm
    | ⟨1, _⟩ => exact (Nat.zero_add _).symm
  show _ = down w A (y 0).val (y 1).val
  unfold down
  by_cases hw : w ≤ (y 0).val
  · rw [if_pos hw]
    refine (pad_apply_of_inside _ _ _ _ z h hu q (ix2 ⟨(y 0).val - w, by omega⟩ (y 1)) fun a => ?_).trans rfl
    match a with
    | ⟨0, _⟩ =>
      show (y 0).val = w + ((y 0).val - w) * (0 + 1)
      omega
    | ⟨1, _⟩ =>
      show (y 1).val = 0 + (y 1).val * (0 + 1)
      omega
  · rw [if_neg hw]
    refine (pad_apply_of_not_inside _ _ _ _ z h hu q 0 fun hn => hw (show w ≤ (y 0).val from hn.1)).trans (hz _)

end Host

end Cert.Pooling

end
-- ==== Proof.PoolOps.lean ====
/-
  The pooling's operations that cut and join columns, and a group of columns as the reference computes it.
-/
module

public import proofs.«01_k».proof.Proof.PoolMath

@[expose] public section

set_option maxRecDepth 16384

noncomputable section

namespace Cert.Pooling

open Idealize.ShloMosaic Idealize.ShloMosaic.ValueIdx Finset Cert.Mat Cert.Attn
open Cert.Mlp.Fwd (broadcastTo_row)

/-- The array of four axes with entry `A i j k l` at `(i, j, k, l)`. -/
def arr4 {a b c d : ℕ} (A : ℕ → ℕ → ℕ → ℕ → EReal) : (⟨4, ![a, b, c, d]⟩ : Shape).Idx → EReal :=
  fun i => A (i 0).val (i 1).val (i 2).val (i 3).val
/-- The entries of a four-axis array as a function of four numbers, zero outside the array. -/
def get4 {a b c d : ℕ} (x : (⟨4, ![a, b, c, d]⟩ : Shape).Idx → EReal) : ℕ → ℕ → ℕ → ℕ → EReal :=
  fun i j k l => if h : i < a ∧ j < b ∧ k < c ∧ l < d then x (ix4 ⟨i, h.1⟩ ⟨j, h.2.1⟩ ⟨k, h.2.2.1⟩ ⟨l, h.2.2.2⟩) else 0

theorem arr4_get4 {a b c d : ℕ} (x : (⟨4, ![a, b, c, d]⟩ : Shape).Idx → EReal) : arr4 (get4 x) = x := by
  funext i
  unfold arr4 get4
  rw [dif_pos ⟨(i 0).isLt, (i 1).isLt, (i 2).isLt, (i 3).isLt⟩]
  exact congrArg x (eq_ix4 i).symm

/-- One matrix cut out of the four of a plane. -/
theorem matrix {a b : ℕ} (g : ℕ) (A : ℕ → ℕ → ℕ → ℕ → EReal) (h h') :
    shapeCast (⟨2, ![128, 128]⟩ : Shape) (extractStridedSlice (⟨4, ![1, 1, 128, 128]⟩ : Shape) ![0, g, 0, 0]
      (arr4 (a := a) (b := b) (c := 128) (d := 128) A) h) h' = arr2 (α := EReal) (A 0 g) := by
  funext i
  have l0 := idx2_lt0 i
  have l1 := idx2_lt1 i
  refine (shapeCast_apply _ h' i (ix4 ⟨0, Nat.one_pos⟩ ⟨0, Nat.one_pos⟩ (i 0) (i 1)) ?_).trans ?_
  · rewrite [Shape.rowMajor_val_four, Shape.rowMajor_val_two]
    show ((0 * 1 + 0) * 128 + (i 0).val) * 128 + (i 1).val = (i 0).val * 128 + (i 1).val
    omega
  · show A (0 + 0) (g + 0) (0 + (i 0).val) (0 + (i 1).val) = A 0 g (i 0).val (i 1).val
    rw [Nat.zero_add, Nat.zero_add, Nat.add_zero, Nat.zero_add]

/-- A part of a row cut out. -/
theorem part (c : ℕ) (S : ℕ → ℕ → ℕ → EReal) (h h') :
    shapeCast (⟨2, ![1, 128]⟩ : Shape) (extractStridedSlice (⟨3, ![1, 1, 128]⟩ : Shape) ![0, 0, c]
      (arr3 (α := EReal) (a := 1) (b := 1) (c := 512) S) h) h' = arr2 (α := EReal) fun i j => S 0 i (c + j) := by
  rw [show extractStridedSlice (⟨3, ![1, 1, 128]⟩ : Shape) ![0, 0, c] (arr3 (α := EReal) (a := 1) (b := 1) (c := 512) S) h
    = arr3 (α := EReal) fun i j k => S (0 + i) (0 + j) (c + k) from rfl, shapeCast_arr3]
  simp only [Nat.zero_add]

/-- Four groups of columns side by side. -/
def cols (A : ℕ → ℕ → ℕ → EReal) : ℕ → ℕ → EReal := fun i j => A (j / 128) i (j % 128)

theorem cols_at (A : ℕ → ℕ → ℕ → EReal) (g i j : ℕ) (h0 : g * 128 ≤ j) (h1 : j < g * 128 + 128) :
    A g i (j - g * 128) = cols A i j := by
  unfold cols
  rw [show j / 128 = g from by omega, show j % 128 = j - g * 128 from by omega]

theorem beside (A : ℕ → ℕ → ℕ → EReal) (h) :
    concatenate (⟨2, ![2048, 512]⟩ : Shape) 1 [⟨⟨2, ![2048, 128]⟩, arr2 (α := EReal) (A 0)⟩, ⟨⟨2, ![2048, 128]⟩, arr2 (α := EReal) (A 1)⟩,
      ⟨⟨2, ![2048, 128]⟩, arr2 (α := EReal) (A 2)⟩, ⟨⟨2, ![2048, 128]⟩, arr2 (α := EReal) (A 3)⟩] h = arr2 (α := EReal) (cols A) := by
  funext y
  have l1 := idx2_lt1 y
  have key (g : ℕ) (hg : g < 4) (hx) (h0 : g * 128 ≤ (y 1).val) (h1 : (y 1).val < g * 128 + 128) (hp) :=
    (concatenate_apply_piece 1 _ h y g hg (⟨2, ![2048, 128]⟩ : Shape) (arr2 (α := EReal) (A g)) hx rfl (g * 128) hp
      (ix2 (y 0) ⟨(y 1).val - g * 128, by omega⟩) (fun b hb => by
        match b with
        | ⟨0, _⟩ => rfl
        | ⟨1, _⟩ => exact absurd rfl hb) (Nat.add_sub_cancel' h0)).trans
      ((cols_at A g (y 0).val (y 1).val h0 h1).trans (rfl : cols A (y 0).val (y 1).val = arr2 (α := EReal) (cols A) y))
  by_cases a3 : 384 ≤ (y 1).val
  · exact key 3 (by decide) rfl a3 (by omega) rfl
  by_cases a2 : 256 ≤ (y 1).val
  · exact key 2 (by decide) rfl a2 (by omega) rfl
  by_cases a1 : 128 ≤ (y 1).val
  · exact key 1 (by decide) rfl a1 (by omega) rfl
  · exact key 0 (by decide) rfl (by omega) (by omega) rfl

/-- Four stores, each of a group of columns. -/
theorem stores (A : ℕ → ℕ → ℕ → EReal) (i0 i1 i2 i3) :
    View.canon (Val := Elt Ideal) (s := (⟨2, ![2048, 512]⟩ : Shape)) (e := .bf16)
      [⟨Rect.unit ![0, 384] ![2048, 128] i3, arr2 (α := EReal) (A 3)⟩, ⟨Rect.unit ![0, 256] ![2048, 128] i2, arr2 (α := EReal) (A 2)⟩,
        ⟨Rect.unit ![0, 128] ![2048, 128] i1, arr2 (α := EReal) (A 1)⟩, ⟨Rect.unit ![0, 0] ![2048, 128] i0, arr2 (α := EReal) (A 0)⟩]
      = arr2 (α := EReal) (cols A) := by
  funext y
  have l0 := idx2_lt0 y
  have l1 := idx2_lt1 y
  refine (canon_cons_arr2 (e := .bf16) _ _ _ y).trans ?_
  rw [canon_cons_arr2 (e := .bf16), canon_cons_arr2 (e := .bf16), canon_cons_arr2 (e := .bf16)]
  show _ = cols A (y 0).val (y 1).val
  split_ifs with a3 a2 a1 a0
  · exact cols_at A 3 _ _ a3.2.1 (by omega)
  · exact cols_at A 2 _ _ a2.2.1 (by omega)
  · exact cols_at A 1 _ _ a1.2.1 (by omega)
  · exact cols_at A 0 _ _ (by omega) (by omega)
  · omega

/-! ## The reference's operations -/

/-- The number of rows in the window, as a column repeated. -/
theorem count_cols (w : ℕ) (hw : w < 2048) (h0 h1 h2 h3) :
    broadcastInDim (⟨2, ![2048, 128]⟩ : Shape) ![0, 1] h3 (broadcastInDim (⟨2, ![2048, 1]⟩ : Shape) ![0] h2
      (sitofp (F := Ideal) .f32 (minsi (addi (iotaInDim (⟨1, ![2048]⟩ : Shape) 32 0)
        (broadcastInDim (⟨1, ![2048]⟩ : Shape) ![] h0 (constantI (⟨0, ![]⟩ : Shape) 32 1#32)))
        (broadcastInDim (⟨1, ![2048]⟩ : Shape) ![] h1 (constantI (⟨0, ![]⟩ : Shape) 32 (BitVec.ofNat 32 w))))))
      = arr2 (α := EReal) fun i _ => (((min (i + 1) w : ℕ) : ℝ) : EReal) := by
  funext y
  have l0 := idx2_lt0 y
  refine (broadcastInDim_apply _ h3 _ y (ix2 (y 0) ⟨0, Nat.one_pos⟩) fun a => ?_).trans
    ((broadcastInDim_apply _ h2 _ _ (ix1 (y 0)) fun a => ?_).trans (count_word w (y 0).val hw l0))
  · match a with
    | ⟨0, _⟩ => exact (if_neg (show (2048 : ℕ) ≠ 1 by decide)).symm
    | ⟨1, _⟩ => exact (if_pos rfl).symm
  · match a with
    | ⟨0, _⟩ => exact (if_neg (show (2048 : ℕ) ≠ 1 by decide)).symm

/-- A part of the first row, repeated. -/
theorem scale_rows (c : ℕ) (S : ℕ → ℕ → EReal) (h0 h1 h2 h3) :
    broadcastInDim (⟨2, ![2048, 128]⟩ : Shape) ![0, 1] h3 (broadcastInDim (⟨2, ![1, 128]⟩ : Shape) ![1] h2
      (shapeCast (⟨1, ![128]⟩ : Shape) (extractStridedSlice (⟨2, ![1, 128]⟩ : Shape) ![0, c] (arr2 (α := EReal) (a := 2) (b := 512) S) h0) h1))
      = arr2 (α := EReal) fun _ j => S 0 (c + j) := by
  funext y
  refine (broadcastInDim_apply _ h3 _ y (ix2 ⟨0, Nat.one_pos⟩ (y 1)) fun a => ?_).trans
    ((broadcastInDim_apply _ h2 _ _ (ix1 (y 1)) fun a => ?_).trans
      ((shapeCast_apply _ h1 _ (ix2 ⟨0, Nat.one_pos⟩ (y 1)) ?_).trans rfl))
  · match a with
    | ⟨0, _⟩ => exact (if_pos rfl).symm
    | ⟨1, _⟩ => exact (if_neg (show (128 : ℕ) ≠ 1 by decide)).symm
  · match a with
    | ⟨0, _⟩ => exact (if_neg (show (128 : ℕ) ≠ 1 by decide)).symm
  · rewrite [Shape.rowMajor_val_two, Shape.rowMajor_val_one]
    show 0 * 128 + (y 1).val = (y 1).val
    omega

theorem host_dot_lit (A B : ℕ → ℕ → EReal) (wf) :
    Host.dotGeneral (F := Ideal) (φ₁ := .f32) (φ₂ := .f32)
      (⟨[1], [0], [0], [1], [], [], wf⟩ : DotDims ⟨2, ![2048, 128]⟩ ⟨2, ![128, 128]⟩ ⟨2, ![2048, 128]⟩) none (arr2 (α := EReal) A) (arr2 (α := EReal) B)
      = arr2 (α := EReal) (mm 128 A B) := by
  funext j
  simp only [Host.dotGeneral]
  rw [Ideal.dotGeneral_apply, ← Equiv.sum_comp (contrEquiv1 _ 128 rfl rfl).symm]
  exact Fin.sum_univ_eq_sum_range (fun x => A (j 0).val x * B x (j 1).val) 128

/-- The product of two matrices, as the reference takes it. -/
theorem host_dot (d : DotDims ⟨2, ![2048, 128]⟩ ⟨2, ![128, 128]⟩ ⟨2, ![2048, 128]⟩)
    (h : (d.lhsContracting, d.rhsContracting, d.lhsNonContracting, d.rhsNonContracting, d.lhsBatch, d.rhsBatch)
      = ([1], [0], [0], [1], [], [])) (A B : ℕ → ℕ → EReal) :
    Host.dotGeneral (F := Ideal) (φ₁ := .f32) (φ₂ := .f32) d none (arr2 (α := EReal) A) (arr2 (α := EReal) B) = arr2 (α := EReal) (mm 128 A B) := by
  rcases d with ⟨_, _, _, _, _, _, wf⟩
  simp only [Prod.mk.injEq] at h
  obtain ⟨rfl, rfl, rfl, rfl, rfl, rfl⟩ := h
  exact host_dot_lit A B wf

theorem real_diff (w : ℕ) (h : 0 < w) (U : ℕ → ℕ → EReal) (hU : ∀ i j, j < 128 → IsR (U i j)) :
    subf (F := Ideal) (φ := .f32) (Host.divf (F := Ideal) (φ := .f32) (subf (F := Ideal) (φ := .f32) (arr2 (α := EReal) (a := 2048) (b := 128) (cum U))
      (arr2 (α := EReal) (down w (cum U)))) (arr2 (α := EReal) fun i _ => (((min (i + 1) w : ℕ) : ℝ) : EReal))) (arr2 (α := EReal) U)
      = arr2 (α := EReal) (diff w U) := by
  refine arr2_congr (A := fun i j => Ideal.div (cum U i j - down w (cum U) i j) (((min (i + 1) w : ℕ) : ℝ) : EReal) - U i j) fun i j _ hj => ?_
  rw [cum_sub (hU · j hj), Ideal.div_coe (count_ne w i h)]
  rfl

/-- A group of columns as the reference computes it. -/
theorem group (w p c g : ℕ) (h : 0 < w) (hw : w < 2048) (P S : ℕ → ℕ → EReal) (W : ℕ → ℕ → ℕ → ℕ → EReal) (hP : ∀ i j, j < 128 → IsR (P i (c + j)))
    (d : DotDims ⟨2, ![2048, 128]⟩ ⟨2, ![128, 128]⟩ ⟨2, ![2048, 128]⟩)
    (hd : (d.lhsContracting, d.rhsContracting, d.lhsNonContracting, d.rhsNonContracting, d.lhsBatch, d.rhsBatch) = ([1], [0], [0], [1], [], []))
    (z z' : (⟨0, ![]⟩ : Shape).Idx → EReal) (hz : ∀ i, z i = 0) (hz' : ∀ i, z' i = 0)
    (u : FVec Ideal (⟨2, ![2048, 128]⟩ : Shape) .f32) (h0)
    (hu : u = extractStridedSlice (⟨2, ![2048, 128]⟩ : Shape) ![0, c] (arr2 (α := EReal) (a := 2048) (b := 2560) P) h0)
    (h1 h2 h3 h4 h5 h6 h7 h8 h9 h10 h11 h12 h13 h14 h15) :
    mulf (F := Ideal) (φ := .f32) (Host.dotGeneral (F := Ideal) (φ₁ := .f32) (φ₂ := .f32) d none
      (subf (Host.divf (subf (Host.reduceWindowAdd ![2048, 1] ![1, 1] ![2047, 0] ![0, 0] u z h1 h2)
        (extractStridedSlice (⟨2, ![2048, 128]⟩ : Shape) ![0, 0] (pad (⟨2, ![p, 128]⟩ : Shape) ![w, 0] ![0, 0] ![0, 0]
          (Host.reduceWindowAdd ![2048, 1] ![1, 1] ![2047, 0] ![0, 0] u z h1 h2) z' h3 h4) h5))
        (broadcastInDim (⟨2, ![2048, 128]⟩ : Shape) ![0, 1] h9 (broadcastInDim (⟨2, ![2048, 1]⟩ : Shape) ![0] h8
          (sitofp (F := Ideal) .f32 (minsi (addi (iotaInDim (⟨1, ![2048]⟩ : Shape) 32 0)
            (broadcastInDim (⟨1, ![2048]⟩ : Shape) ![] h6 (constantI (⟨0, ![]⟩ : Shape) 32 1#32)))
            (broadcastInDim (⟨1, ![2048]⟩ : Shape) ![] h7 (constantI (⟨0, ![]⟩ : Shape) 32 (BitVec.ofNat 32 w)))))))) u)
      (shapeCast (⟨2, ![128, 128]⟩ : Shape) (extractStridedSlice (⟨4, ![1, 1, 128, 128]⟩ : Shape) ![0, g, 0, 0]
        (arr4 (a := 2) (b := 4) (c := 128) (d := 128) W) h10) h11))
      (broadcastInDim (⟨2, ![2048, 128]⟩ : Shape) ![0, 1] h15 (broadcastInDim (⟨2, ![1, 128]⟩ : Shape) ![1] h14
        (shapeCast (⟨1, ![128]⟩ : Shape) (extractStridedSlice (⟨2, ![1, 128]⟩ : Shape) ![0, c] (arr2 (α := EReal) (a := 2) (b := 512) S) h12) h13)))
      = arr2 (α := EReal) (pool w (sh 0 c P) (W 0 g) fun j => S 0 (c + j)) := by
  have e : ∀ i j, j < 128 → IsR (sh 0 c P i j) := fun i j hj => by
    unfold sh
    exact hP _ j hj
  rw [hu, slice_arr2, running _ z _ _ hz, lag w p _ z' _ _ _ hz', count_cols w hw, scale_rows, matrix, real_diff w h _ e, host_dot d hd]
  rfl

end Cert.Pooling

end
-- ==== Proof.Pool.lean ====
/-
  The pooling of the even layers: the kernel's result is the reference's, where the pooled columns are real numbers.
-/
module

public import proofs.«01_k».proof.Defs
public import proofs.«01_k».proof.Proof.PoolOps
public import proofs.«01_k».proof.Proof.MlpMath
public import proofs.«01_k».proof.Proof.PreRead
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Pre_finite_pool
public import Idealize.ShloMosaic.Lib.Claim
public import Idealize.ShloMosaic.Lib.StableHlo.RunRead

@[expose] public section

set_option maxRecDepth 16384

noncomputable section

namespace Cert.Pooling

open Idealize.ShloMosaic Idealize.ShloMosaic.TcCoe Idealize.SL.Sem Cert.Mat Cert.Attn Cert.Mlp
open Cert.Mlp.Fwd (broadcastTo_row)

/-- Group `g` of the result, from the columns, the matrices and the scale: its window has `2 ^ (g + 1)` rows. -/
def grp (P : ℕ → ℕ → EReal) (W : ℕ → ℕ → ℕ → ℕ → EReal) (S : ℕ → ℕ → EReal) (g : ℕ) : ℕ → ℕ → EReal :=
  pool (2 ^ (g + 1)) (sh 0 (g * 128) P) (W 0 g) fun j => S 0 (g * 128 + j)

section Reference
open Cert.Reference22Ideal Cert.Reference22Ideal.Read

theorem zero_word (i : (⟨0, ![]⟩ : Shape).Idx) : sitofp (F := Ideal) .f32 (constantI (⟨0, ![]⟩ : Shape) 32 0#32) i = (0 : EReal) := by
  show (((0#32 : BitVec 32).toInt : ℝ) : EReal) = 0
  simp

theorem zero_float (i : (⟨0, ![]⟩ : Shape).Idx) (h) :
    broadcastInDim (⟨0, ![]⟩ : Shape) ![] h (constant (F := Ideal) (⟨0, ![]⟩ : Shape) .f32 0x00000000#32) i = (0 : EReal) := Ideal.ofBits_zero_f32

variable (P S : ℕ → ℕ → EReal) (W : ℕ → ℕ → ℕ → ℕ → EReal) (hP : ∀ i j, j < 512 → IsR (P i j))
include hP

theorem g0 : val_main_v22 (F := Ideal) (arr2 (α := EReal) P) (arr4 W) (arr2 (α := EReal) S) = arr2 (α := EReal) (grp P W S 0) :=
  group 2 2050 0 0 (by decide) (by decide) P S W (fun i j hj => hP i _ (by omega)) _ rfl _ _ (fun i => zero_float i _) zero_word _ _ rfl _ _ _ _ _ _ _ _ _ _ _ _ _ _ _
theorem g1 : val_main_v45 (F := Ideal) (arr2 (α := EReal) P) (arr4 W) (arr2 (α := EReal) S) = arr2 (α := EReal) (grp P W S 1) :=
  group 4 2052 128 1 (by decide) (by decide) P S W (fun i j hj => hP i _ (by omega)) _ rfl _ _ (fun i => zero_float i _) zero_word _ _ rfl _ _ _ _ _ _ _ _ _ _ _ _ _ _ _
theorem g2 : val_main_v68 (F := Ideal) (arr2 (α := EReal) P) (arr4 W) (arr2 (α := EReal) S) = arr2 (α := EReal) (grp P W S 2) :=
  group 8 2056 256 2 (by decide) (by decide) P S W (fun i j hj => hP i _ (by omega)) _ rfl _ _ (fun i => zero_float i _) zero_word _ _ rfl _ _ _ _ _ _ _ _ _ _ _ _ _ _ _
theorem g3 : val_main_v91 (F := Ideal) (arr2 (α := EReal) P) (arr4 W) (arr2 (α := EReal) S) = arr2 (α := EReal) (grp P W S 3) :=
  group 16 2064 384 3 (by decide) (by decide) P S W (fun i j hj => hP i _ (by omega)) _ rfl _ _ (fun i => zero_float i _) zero_word _ _ rfl _ _ _ _ _ _ _ _ _ _ _ _ _ _ _

theorem ref_eq : val_main_v93 (F := Ideal) (arr2 (α := EReal) P) (arr4 W) (arr2 (α := EReal) S) = arr2 (α := EReal) (cols (grp P W S)) := by
  unfold val_main_v93 val_main_v92
  rw [g0 P S W hP, g1 P S W hP, g2 P S W hP, g3 P S W hP]
  exact beside (grp P W S) Cert.Reference22Ideal.Gen.concatenates_S2048x128_S2048x128_S2048x128_S2048x128_S2048x512_d1

omit hP in
theorem frame : Cert.quiescent_Reference22Ideal (hReference22Ideal := Cert.Reference22Ideal.Gen.facts) := fun m ρ _ =>
  (θ_run Reference22Ideal.defs _ _).mono (fun r h => ⟨fun c => (h c).2, sem_eq_zero_of_no_sems (by decide) r.2⟩)
    (Cert.Reference22Ideal.Value.run m ρ)

end Reference

section Kernel
open Cert.Kernel22Ideal Cert.Kernel22Ideal.Gen

section Payloads
variable (U W : ℕ → ℕ → EReal) (s : ℕ → EReal)

theorem first_step : addf (F := Ideal) (φ := .f32) (arr2 (α := EReal) (a := 2048) (b := 128) U) (arr2 (α := EReal) (down 1 U))
    = arr2 (α := EReal) (win 2 U) := by
  have e := win_double 1 U
  rw [win_one] at e
  exact congrArg (arr2 (α := EReal)) e

theorem next_step (k l : ℕ) (h : k + k = l) : addf (F := Ideal) (φ := .f32) (arr2 (α := EReal) (a := 2048) (b := 128) (win k U))
    (arr2 (α := EReal) (down k (win k U))) = arr2 (α := EReal) (win l U) :=
  congrArg (arr2 (α := EReal)) ((win_double k U).trans (by rw [h]))

variable {wt : Vec Ideal S1x1x128x128 .f32} {st : Vec Ideal S1x1x128 .f32}
  (hW : shapeCast S128x128 wt shapeCasts_S1x1x128x128_S128x128 = arr2 (α := EReal) W)
  (hs : shapeCast S1x128 st shapeCasts_S1x1x128_S1x128 = arr2 (α := EReal) fun _ => s)
include hW hs

/-- From the window sums to a group of columns. -/
theorem tail (w : ℕ) : truncf (F := Ideal) .bf16 (mulf (matmul dot_S2048x128_S128x128_S2048x128_1_0_0_1_n_n none
      (truncf (F := Ideal) .bf16 (subf (mulf (F := Ideal) (φ := .f32) (arr2 (α := EReal) (a := 2048) (b := 128) (win w U)) (arr2 (α := EReal) fun i _ => inv w i))
        (arr2 (α := EReal) U)) bitsLt_bf16_f32)
      (truncf (F := Ideal) .bf16 (φ := .f32) (shapeCast S128x128 wt shapeCasts_S1x1x128x128_S128x128) bitsLt_bf16_f32)
      (constant S2048x128 .f32 0x00000000#32))
      (broadcastTo S2048x128 (shapeCast S1x128 st shapeCasts_S1x1x128_S1x128) broadcasts_S1x128_S2048x128)) bitsLt_bf16_f32
      = arr2 (α := EReal) (pool w U W s) := by
  unfold matmul
  rw [hW, hs, broadcastTo_row _ (by decide), mulf_arr2, subf_arr2, truncf_arr2, truncf_arr2,
    matmul_nn dot_S2048x128_S128x128_S2048x128_1_0_0_1_n_n rfl, mulf_arr2, truncf_arr2]
  rfl

theorem pay2 : k0_pay2 (F := Ideal) (arr2 (α := EReal) U) wt st = arr2 (α := EReal) (pool 2 U W s) := by
  unfold k0_pay2
  dsimp only
  rw [count_inv 2 (by decide) (by decide), turn 1 (by decide), first_step]
  exact tail U W s hW hs 2

theorem pay5 : k0_pay5 (F := Ideal) (iota .tc S2048x128 32 [0] iota_S2048x128_d0_w32) (arr2 (α := EReal) U) k0_pay3 k0_pay4 wt st
    = arr2 (α := EReal) (pool 4 U W s) := by
  unfold k0_pay5 k0_pay3 k0_pay4
  dsimp only
  rw [count_inv 4 (by decide) (by decide), turn 1 (by decide), first_step, turn 2 (by decide), next_step U 2 4 rfl]
  exact tail U W s hW hs 4

theorem pay8 : k0_pay8 (F := Ideal) (iota .tc S2048x128 32 [0] iota_S2048x128_d0_w32) (arr2 (α := EReal) U)
    (k0_pay6 (iota .tc S2048x128 32 [0] iota_S2048x128_d0_w32)) (k0_pay7 (iota .tc S2048x128 32 [0] iota_S2048x128_d0_w32)) 1#32 wt st
    = arr2 (α := EReal) (pool 8 U W s) := by
  unfold k0_pay8 k0_pay6 k0_pay7
  dsimp only
  rw [count_inv 8 (by decide) (by decide), turn 1 (by decide), first_step, turn 2 (by decide), next_step U 2 4 rfl,
    turn 4 (by decide), next_step U 4 8 rfl]
  exact tail U W s hW hs 8

theorem pay1 : k0_pay1 (F := Ideal) (iota .tc S2048x128 32 [0] iota_S2048x128_d0_w32) (arr2 (α := EReal) U)
    (k0_pay9 (iota .tc S2048x128 32 [0] iota_S2048x128_d0_w32)) wt st = arr2 (α := EReal) (pool 16 U W s) := by
  unfold k0_pay1 k0_pay9
  dsimp only
  rw [count_inv 16 (by decide) (by decide), turn 1 (by decide), first_step, turn 2 (by decide), next_step U 2 4 rfl,
    turn 4 (by decide), next_step U 4 8 rfl, drop8, next_step U 8 16 rfl]
  exact tail U W s hW hs 16

end Payloads

section Block
variable (P S : ℕ → ℕ → EReal) (W : ℕ → ℕ → ℕ → ℕ → EReal)

/-- A group's columns, loaded. -/
theorem ldP (c : ℕ) (inb) : View.ld (Val := Elt Ideal) (e' := .f32) (S := S2048x512) (arr2 (α := EReal) P) (Rect.unit ![0, c] ![2048, 128] inb)
    = arr2 (α := EReal) (sh 0 c P) := by
  rw [View.ld_unit]
  exact slice_arr2 P 0 c _

/-- A group's matrix, loaded. -/
theorem ldW (g : ℕ) (inb) (h) : shapeCast S128x128 (View.ld (Val := Elt Ideal) (e' := .f32) (S := S1x4x128x128) (arr4 W)
    (Rect.unit ![0, g, 0, 0] ![1, 1, 128, 128] inb)) h = arr2 (α := EReal) (W 0 g) := by
  rw [View.ld_unit]
  exact matrix g W _ _

/-- A group's scale, loaded. -/
theorem ldS (c : ℕ) (inb) (h) : shapeCast S1x128 (View.ld (Val := Elt Ideal) (e' := .f32) (S := S1x1x512) (arr3 (α := EReal) fun a _ k => S a k)
    (Rect.unit ![0, 0, c] ![1, 1, 128] inb)) h = arr2 (α := EReal) fun _ j => S 0 (c + j) := by
  rw [View.ld_unit]
  exact part c (fun a _ k => S a k) _ _

/-- What the kernel's body leaves, from its blocks. -/
theorem out_eq : out0_3 (F := Ideal) (arr2 (α := EReal) P) (arr4 W) (arr3 (α := EReal) fun a _ k => S a k) = arr2 (α := EReal) (cols (grp P W S)) := by
  unfold out0_3 k0_pay10
  rw [ldP P 0, ldP P 128, ldP P 256, ldP P 384, pay2 _ _ _ (ldW W 0 _ _) (ldS S 0 _ _), pay5 _ _ _ (ldW W 1 _ _) (ldS S 128 _ _),
    pay8 _ _ _ (ldW W 2 _ _) (ldS S 256 _ _), pay1 _ _ _ (ldW W 3 _ _) (ldS S 384 _ _)]
  exact stores (grp P W S) _ _ _ _

end Block

variable (m : (ℓ : Loc nD τ sig) → Buf (Elt Ideal) ℓ) (c : Dev nD)

abbrev P : ℕ → ℕ → EReal := get2 (a := 2048) (b := 2560) (m ((c : Thread nD τ).loc main_arg0))
abbrev W : ℕ → ℕ → ℕ → ℕ → EReal := get4 (a := 2) (b := 4) (c := 128) (d := 128) (m ((c : Thread nD τ).loc main_arg1))
abbrev S : ℕ → ℕ → EReal := get2 (a := 2) (b := 512) (m ((c : Thread nD τ).loc main_arg2))

/-- The scale, a plane for each row. -/
theorem planes (x : (⟨2, ![2, 512]⟩ : Shape).Idx → EReal) (h) :
    shapeCast (⟨3, ![2, 1, 512]⟩ : Shape) x h = arr3 (α := EReal) fun a _ k => get2 x a k := by
  funext i
  have l1 : (i 1).val < 1 := (i 1).isLt
  refine (shapeCast_apply _ h i (ValueIdx.ix2 (i 0) (i 2)) ?_).trans ?_
  · rewrite [Shape.rowMajor_val_two, Shape.rowMajor_val_three]
    show (i 0).val * 512 + (i 2).val = ((i 0).val * 1 + (i 1).val) * 512 + (i 2).val
    omega
  · exact (congrFun (arr2_get2 x) _).symm

theorem s_read : V m c main_v0 = arr3 (α := EReal) fun a _ k => S m c a k := by
  rw [← planes _ (by decide)]
  unfold V
  simp only [hostOps0, List.flatten_cons, List.flatten_nil, List.cons_append, List.nil_append, List.append_nil]
  after_reads_simp
  rfl

/-- The one grid point's blocks begin at the arrays' beginnings. -/
theorem zero : ∀ t : Fin grid0.N, (win0_0.index t 0 = 0 ∧ win0_0.index t 1 = 0)
    ∧ (win0_1.index t 0 = 0 ∧ win0_1.index t 1 = 0 ∧ win0_1.index t 2 = 0 ∧ win0_1.index t 3 = 0)
    ∧ (win0_2.index t 0 = 0 ∧ win0_2.index t 1 = 0 ∧ win0_2.index t 2 = 0) ∧ (win0_3.index t 0 = 0 ∧ win0_3.index t 1 = 0) := by decide +kernel

theorem iblk0 (t : Fin cfg0.N) : iblk m c 0 t = arr2 (α := EReal) (P m c) := by
  funext j
  unfold iblk
  rw [View.read_apply]
  show V m c main_arg0 _ = _
  rw [V_main_arg0]
  refine (block_read (zero t).1.1 (zero t).1.2 rfl rfl).trans ?_
  exact congrFun (congrArg (arr2 (α := EReal)) (sh_zero _)) j

/-- A coordinate in a block that begins at zero. -/
theorem at_zero {p a x y : ℕ} (hp : p = 0) (h : x = p * a + 1 * y) : x = y := by
  subst hp
  rw [h, Nat.zero_mul, Nat.one_mul, Nat.zero_add]

theorem iblk1 (t : Fin cfg0.N) : iblk m c 1 t = arr4 (W m c) := by
  funext j
  unfold iblk
  rw [View.read_apply]
  show V m c main_arg1 _ = _
  rw [V_main_arg1]
  refine (congrFun (arr4_get4 _).symm _).trans ?_
  obtain ⟨z0, z1, z2, z3⟩ := (zero t).2.1
  show W m c _ _ _ _ = W m c _ _ _ _
  exact congr (congr (congrArg₂ (W m c) (at_zero z0 rfl) (at_zero z1 rfl)) (at_zero z2 rfl)) (at_zero z3 rfl)

theorem iblk2 (t : Fin cfg0.N) : iblk m c 2 t = arr3 (α := EReal) fun a _ k => S m c a k := by
  funext j
  unfold iblk
  rw [View.read_apply]
  show V m c main_v0 _ = _
  rw [s_read]
  obtain ⟨z0, _, z2⟩ := (zero t).2.2.1
  exact congrArg₂ (S m c) (at_zero z0 rfl) (at_zero z2 rfl)

theorem hN : 0 < cfg0.N := lt_of_lt_of_eq Nat.one_pos N_0.symm

/-- The array the kernel leaves. -/
theorem arr : (dats m 0 c).arrAt 3 cfg0.N = arr2 (α := EReal) (cols (grp (P m c) (W m c) (S m c))) := by
  refine (dats m 0 c).arrAt_eq_of_cover 3 (arr2 (α := EReal) (cols (grp (P m c) (W m c) (S m c)))) (fun t _ => ?_) fun i => ?_
  · rw [Value.flushed3, iblk0, iblk1, iblk2, out_eq]
    funext j
    rw [View.read_apply]
    exact (congrArg₂ (cols (grp (P m c) (W m c) (S m c))) (at_zero (zero t).2.2.2.1 rfl) (at_zero (zero t).2.2.2.2 rfl)).symm
  · have l0 : (i 0).val < 2048 := (i 0).isLt
    have l1 : (i 1).val < 512 := (i 1).isLt
    have hi := (zero ⟨0, hN⟩).2.2.2
    refine ⟨⟨0, hN⟩, flush0_3 _, ?_⟩
    show i ∈ ((View.whole main_v1).slice (win0_3.rect ⟨0, hN⟩)).set
    rw [View.set_slice_whole, Rect.mem_set_unit]
    exact block_cover (f := win0_3.index ⟨0, hN⟩) (hi.1.trans (by omega)) (hi.2.trans (by omega)) (by omega) (by omega)

/-- The first columns of an array, cut out and found finite, are real numbers. -/
theorem first_cols (x : FVec Ideal (⟨2, ![2048, 2560]⟩ : Shape) .f32) (h)
    (hx : ∀ i, IsR (extractStridedSlice (⟨2, ![2048, 512]⟩ : Shape) ![0, 0] x h i)) (i j : ℕ) (hj : j < 512) : IsR (get2 x i j) := by
  by_cases hi : i < 2048
  · rw [← arr2_get2 x, slice_arr2, sh_zero] at hx
    exact hx (ValueIdx.ix2 ⟨i, hi⟩ ⟨j, hj⟩)
  · exact ⟨0, dif_neg fun hn => hi hn.1⟩

/-- The precondition, read: the pooled columns are real numbers. -/
theorem finite (h : Pre_Kernel22Ideal_finite_pool (hPre_finite_pool := Pre_finite_pool.Gen.facts) m) (i j : ℕ) (hj : j < 512) :
    IsR (P m c i j) := by
  have e := congrFun (h c) (fun a => a.elim0)
  unfold Pre_finite_pool.fn at e
  dsimp only at e
  haveI : Subsingleton Pre_finite_pool.S_.Idx := ⟨fun a b => funext fun i => i.elim0⟩
  exact first_cols (m ((c : Thread nD τ).loc main_arg0)) _ (isR_of_all _ _ _ _ _ _ (fun _ => ofBits_inf_f32) e) i j hj

end Kernel

theorem algebraic : algebraic_Kernel22Ideal_Reference22Ideal_pre_finite_pool (hKernel22Ideal := Kernel22Ideal.Gen.facts)
    (hReference22Ideal := Reference22Ideal.Gen.facts) (hPre_finite_pool := Pre_finite_pool.Gen.facts) := by
  intro m g m' g' hp hargs
  refine ⟨fun c => arr2 (α := EReal) (cols (grp (P m c) (W m c) (S m c))), ?_, ?_⟩
  · refine (θ_run _ _ _).mono (fun r h c => ?_) (Kernel22Ideal.Value.run_blocks m g)
    exact ⟨(h c).1.trans (arr m c), (h c).2⟩
  · refine (θ_run _ _ _).mono (fun r h c => ?_) (Reference22Ideal.Value.run (F := Ideal) m' g')
    obtain ⟨h0, hk⟩ := h c
    obtain ⟨b0, b1, b2⟩ := hargs c
    refine ⟨(h0.trans (Reference22Ideal.Read.val_main_v93_eq _ _)).trans ?_, hk⟩
    rw [b0, b1, b2]
    refine Eq.trans ?_ (ref_eq (P m c) (S m c) (W m c) (finite m c hp))
    rw [arr2_get2, arr4_get4, arr2_get2]

end Cert.Pooling

end
-- ==== Proof.lean ====
/-
  The proof of the claim: the frames of every call, kernel and reference, and the equality of their results over
  the ideal numbers.
-/
module

public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Pre_finite_scores
public import proofs.«01_k».proof.Proof.Gen.Pre_finite_norm
public import proofs.«01_k».proof.Proof.Gen.Pre_finite_norm_res
public import proofs.«01_k».proof.Proof.Gen.Pre_finite_pool
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_operands
public import proofs.«01_k».proof.Proof.AttnClaim
public import proofs.«01_k».proof.Proof.Dh
public import proofs.«01_k».proof.Proof.Dw2
public import proofs.«01_k».proof.Proof.Dw1
public import proofs.«01_k».proof.Proof.Fwd
public import proofs.«01_k».proof.Proof.EvenDwin
public import proofs.«01_k».proof.Proof.EvenDwout
public import proofs.«01_k».proof.Proof.EvenDycat
public import proofs.«01_k».proof.Proof.EvenDx
public import proofs.«01_k».proof.Proof.OddDwdown
public import proofs.«01_k».proof.Proof.OddDx
public import proofs.«01_k».proof.Proof.EvenProj
public import proofs.«01_k».proof.Proof.EvenOut
public import proofs.«01_k».proof.Proof.AttnFwd
public import proofs.«01_k».proof.Proof.DownNorm
public import proofs.«01_k».proof.Proof.ResidNorm
public import proofs.«01_k».proof.Proof.RopeTables
public import proofs.«01_k».proof.Proof.LnGrad
public import proofs.«01_k».proof.Proof.LnGradRes
public import proofs.«01_k».proof.Proof.RmsGrad
public import proofs.«01_k».proof.Proof.LossGrad
public import proofs.«01_k».proof.Proof.Pool

@[expose] public section

noncomputable section

namespace Cert.Proof

open Idealize.ShloMosaic Idealize.SL.Sem

/-- The reference's frame: its run keeps the arguments, and it declares no semaphore. -/
theorem reference_frame : Cert.quiescent_ReferenceIdeal (hReferenceIdeal := Cert.ReferenceIdeal.Gen.facts) := fun m ρ _ =>
  (θ_run ReferenceIdeal.defs _ _).mono (fun r h => ⟨fun c => (h c).2.2.2.2.2.2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite_operands.Gen.facts,
    Cert.Pre_finite_scores.Gen.facts,
    Cert.Pre_finite_norm.Gen.facts, Cert.Pre_finite_norm_res.Gen.facts,
    Cert.Pre_finite_pool.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    Cert.Mlp.Dh.frame,
    fun m ρ _ => Cert.Kernel3.Gen.frame m ρ,
    fun m ρ _ => Cert.Kernel3Ideal.Gen.frame m ρ,
    Cert.Mlp.Dw2.frame,
    fun m ρ _ => Cert.Kernel4.Gen.frame m ρ,
    fun m ρ _ => Cert.Kernel4Ideal.Gen.frame m ρ,
    Cert.Mlp.Dw1.frame,
    fun m ρ _ => Cert.Kernel5.Gen.frame m ρ,
    fun m ρ _ => Cert.Kernel5Ideal.Gen.frame m ρ,
    Cert.Mlp.Fwd.frame,
    fun m ρ _ => Cert.Kernel6.Gen.frame m ρ,
    fun m ρ _ => Cert.Kernel6Ideal.Gen.frame m ρ,
    Cert.Even.Dwin.frame,
    fun m ρ _ => Cert.Kernel7.Gen.frame m ρ,
    fun m ρ _ => Cert.Kernel7Ideal.Gen.frame m ρ,
    Cert.Even.Dwout.frame,
    fun m ρ _ => Cert.Kernel8.Gen.frame m ρ,
    fun m ρ _ => Cert.Kernel8Ideal.Gen.frame m ρ,
    Cert.Even.Dycat.frame,
    fun m ρ _ => Cert.Kernel9.Gen.frame m ρ,
    fun m ρ _ => Cert.Kernel9Ideal.Gen.frame m ρ,
    Cert.Even.Dx.frame,
    fun m ρ _ => Cert.Kernel10.Gen.frame m ρ,
    fun m ρ _ => Cert.Kernel10Ideal.Gen.frame m ρ,
    Cert.Odd.Dwdown.frame,
    fun m ρ _ => Cert.Kernel11.Gen.frame m ρ,
    fun m ρ _ => Cert.Kernel11Ideal.Gen.frame m ρ,
    Cert.Odd.Dx.frame,
    fun m ρ _ => Cert.Kernel12.Gen.frame m ρ,
    fun m ρ _ => Cert.Kernel12Ideal.Gen.frame m ρ,
    Cert.Even.Proj.frame,
    fun m ρ _ => Cert.Kernel13.Gen.frame m ρ,
    fun m ρ _ => Cert.Kernel13Ideal.Gen.frame m ρ,
    Cert.Even.Out.frame,
    fun m ρ _ => Cert.Kernel14.Gen.frame m ρ,
    fun m ρ _ => Cert.Kernel14Ideal.Gen.frame m ρ,
    fun m ρ _ => Cert.Kernel14Ideal.Gen.frame m ρ,
    Cert.Attn.Fwd.frame,
    fun m ρ _ => Cert.Attn.Fwd.frame m ρ trivial,
    fun m ρ _ => Cert.Kernel15.Gen.frame m ρ,
    fun m ρ _ => Cert.Kernel15Ideal.Gen.frame m ρ,
    Cert.Odd.Down.frame,
    fun m ρ _ => Cert.Kernel16.Gen.frame m ρ,
    fun m ρ _ => Cert.Kernel16Ideal.Gen.frame m ρ,
    Cert.Odd.Resid.frame,
    fun m ρ _ => Cert.Kernel17.Gen.frame m ρ,
    fun m ρ _ => Cert.Kernel17Ideal.Gen.frame m ρ,
    Cert.Odd.Tables.frame,
    fun m ρ _ => Cert.Kernel18.Gen.frame m ρ,
    fun m ρ _ => Cert.Kernel18Ideal.Gen.frame m ρ,
    fun m ρ _ => Cert.Kernel18Ideal.Gen.frame m ρ,
    Cert.Norms.Ln.frame,
    fun m ρ _ => Cert.Norms.Ln.frame m ρ trivial,
    fun m ρ _ => Cert.Kernel19.Gen.frame m ρ,
    fun m ρ _ => Cert.Kernel19Ideal.Gen.frame m ρ,
    fun m ρ _ => Cert.Kernel19Ideal.Gen.frame m ρ,
    Cert.Norms.LnRes.frame,
    fun m ρ _ => Cert.Norms.LnRes.frame m ρ trivial,
    fun m ρ _ => Cert.Kernel20.Gen.frame m ρ,
    fun m ρ _ => Cert.Kernel20Ideal.Gen.frame m ρ,
    Cert.Norms.Rms.frame,
    fun m ρ _ => Cert.Kernel21.Gen.frame m ρ,
    fun m ρ _ => Cert.Kernel21Ideal.Gen.frame m ρ,
    Cert.Loss.frame,
    fun m ρ _ => Cert.Kernel22.Gen.frame m ρ,
    fun m ρ _ => Cert.Kernel22Ideal.Gen.frame m ρ,
    fun m ρ _ => Cert.Kernel22Ideal.Gen.frame m ρ,
    Cert.Pooling.frame,
    fun m ρ _ => Cert.Pooling.frame m ρ trivial,
    trivial,
    Cert.Attn.attn_algebraic,
    trivial,
    Cert.Mlp.Dh.algebraic,
    trivial,
    Cert.Mlp.Dw2.algebraic,
    trivial,
    Cert.Mlp.Dw1.algebraic,
    trivial,
    Cert.Mlp.Fwd.algebraic,
    trivial,
    Cert.Even.Dwin.algebraic,
    trivial,
    Cert.Even.Dwout.algebraic,
    trivial,
    Cert.Even.Dycat.algebraic,
    trivial,
    Cert.Even.Dx.algebraic,
    trivial,
    Cert.Odd.Dwdown.algebraic,
    trivial,
    Cert.Odd.Dx.algebraic,
    trivial,
    Cert.Even.Proj.algebraic,
    trivial,
    Cert.Even.Out.algebraic,
    trivial,
    Cert.Attn.Fwd.algebraic,
    trivial,
    Cert.Odd.Down.algebraic,
    trivial,
    Cert.Odd.Resid.algebraic,
    trivial,
    Cert.Odd.Tables.algebraic,
    trivial,
    Cert.Norms.Ln.algebraic,
    trivial,
    Cert.Norms.LnRes.algebraic,
    trivial,
    Cert.Norms.Rms.algebraic,
    trivial,
    Cert.Loss.algebraic,
    trivial,
    Cert.Pooling.algebraic⟩

end Cert.Proof

end
